-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_band_finite [hPre_band_finite : Cert.Pre_band_finite.Facts] (m : (ℓ : Loc Cert.KernelIdeal.nD Cert.KernelIdeal.τ Cert.KernelIdeal.sig) → Buf (Elt Ideal) ℓ) : Prop :=
  ∀ c : Dev Cert.KernelIdeal.nD,
    (Cert.Pre_band_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_band_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_band_finite [hPre_band_finite : Cert.Pre_band_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_band_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_band_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_AttProj (m : (ℓ : Loc Cert.AttProj.nD Cert.AttProj.τ Cert.AttProj.sig) → Buf (Elt Bits) ℓ) : Prop :=
  True

def Pre_AttProjIdeal (m : (ℓ : Loc Cert.AttProjIdeal.nD Cert.AttProjIdeal.τ Cert.AttProjIdeal.sig) → Buf (Elt Ideal) ℓ) : Prop :=
  True

def Pre_AttProjRefIdeal (m : (ℓ : Loc Cert.AttProjRefIdeal.nD Cert.AttProjRefIdeal.τ Cert.AttProjRefIdeal.sig) → Buf (Elt Ideal) ℓ) : Prop :=
  True

def Pre_GateProj (m : (ℓ : Loc Cert.GateProj.nD Cert.GateProj.τ Cert.GateProj.sig) → Buf (Elt Bits) ℓ) : Prop :=
  True

def Pre_GateProjIdeal (m : (ℓ : Loc Cert.GateProjIdeal.nD Cert.GateProjIdeal.τ Cert.GateProjIdeal.sig) → Buf (Elt Ideal) ℓ) : Prop :=
  True

def Pre_GateProjRefIdeal (m : (ℓ : Loc Cert.GateProjRefIdeal.nD Cert.GateProjRefIdeal.τ Cert.GateProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_KvTail (m : (ℓ : Loc Cert.KvTail.nD Cert.KvTail.τ Cert.KvTail.sig) → Buf (Elt Bits) ℓ) : Prop :=
  True

def Pre_KvTailIdeal (m : (ℓ : Loc Cert.KvTailIdeal.nD Cert.KvTailIdeal.τ Cert.KvTailIdeal.sig) → Buf (Elt Ideal) ℓ) : Prop :=
  True

def Pre_KvTailRefIdeal (m : (ℓ : Loc Cert.KvTailRefIdeal.nD Cert.KvTailRefIdeal.τ Cert.KvTailRefIdeal.sig) → Buf (Elt Ideal) ℓ) : Prop :=
  True

def Pre_KvNew (m : (ℓ : Loc Cert.KvNew.nD Cert.KvNew.τ Cert.KvNew.sig) → Buf (Elt Bits) ℓ) : Prop :=
  True

def Pre_KvNewIdeal (m : (ℓ : Loc Cert.KvNewIdeal.nD Cert.KvNewIdeal.τ Cert.KvNewIdeal.sig) → Buf (Elt Ideal) ℓ) : Prop :=
  True

def Pre_KvNewRefIdeal (m : (ℓ : Loc Cert.KvNewRefIdeal.nD Cert.KvNewRefIdeal.τ Cert.KvNewRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSRefIdeal (m : (ℓ : Loc Cert.InProjSRefIdeal.nD Cert.InProjSRefIdeal.τ Cert.InProjSRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_mem_finite [hPre_mem_finite : Cert.Pre_mem_finite.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_mem_finite.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1))).1 = (fun _ => 1#1)
    ∧ (Cert.Pre_mem_finite.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1))).2 = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_mem_finite [hPre_mem_finite : Cert.Pre_mem_finite.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_mem_finite.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1))).1 = (fun _ => 1#1)
    ∧ (Cert.Pre_mem_finite.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1))).2 = (fun _ => 1#1)

def Pre_CachedAttn (m : (ℓ : Loc Cert.CachedAttn.nD Cert.CachedAttn.τ Cert.CachedAttn.sig) → Buf (Elt Bits) ℓ) : Prop :=
  True

def Pre_CachedAttnIdeal (m : (ℓ : Loc Cert.CachedAttnIdeal.nD Cert.CachedAttnIdeal.τ Cert.CachedAttnIdeal.sig) → Buf (Elt Ideal) ℓ) : Prop :=
  True

def Pre_CachedAttnRefIdeal (m : (ℓ : Loc Cert.CachedAttnRefIdeal.nD Cert.CachedAttnRefIdeal.τ Cert.CachedAttnRefIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnRefIdeal (m : (ℓ : Loc Cert.OutLnRefIdeal.nD Cert.OutLnRefIdeal.τ Cert.OutLnRefIdeal.sig) → Buf (Elt Ideal) ℓ) : Prop :=
  True

def Pre_FfnUp [hPre_up_in_range : Cert.Pre_up_in_range.Facts] (m : (ℓ : Loc Cert.FfnUp.nD Cert.FfnUp.τ Cert.FfnUp.sig) → Buf (Elt Bits) ℓ) : Prop :=
  ∀ c : Dev Cert.FfnUp.nD,
    (Cert.Pre_up_in_range.fn (F := Bits) (m ((c.tc : Thread Cert.FfnUp.nD Cert.FfnUp.τ).loc Cert.FfnUp.main_arg0)) (m ((c.tc : Thread Cert.FfnUp.nD Cert.FfnUp.τ).loc Cert.FfnUp.main_arg1)) (m ((c.tc : Thread Cert.FfnUp.nD Cert.FfnUp.τ).loc Cert.FfnUp.main_arg2)) (m ((c.tc : Thread Cert.FfnUp.nD Cert.FfnUp.τ).loc Cert.FfnUp.main_arg3)) (m ((c.tc : Thread Cert.FfnUp.nD Cert.FfnUp.τ).loc Cert.FfnUp.main_arg4)) (m ((c.tc : Thread Cert.FfnUp.nD Cert.FfnUp.τ).loc Cert.FfnUp.main_arg5)) (m ((c.tc : Thread Cert.FfnUp.nD Cert.FfnUp.τ).loc Cert.FfnUp.main_arg6)) (m ((c.tc : Thread Cert.FfnUp.nD Cert.FfnUp.τ).loc Cert.FfnUp.main_arg7)) (m ((c.tc : Thread Cert.FfnUp.nD Cert.FfnUp.τ).loc Cert.FfnUp.main_arg8))).1 = (fun _ => 1#1)
    ∧ (Cert.Pre_up_in_range.fn (F := Bits) (m ((c.tc : Thread Cert.FfnUp.nD Cert.FfnUp.τ).loc Cert.FfnUp.main_arg0)) (m ((c.tc : Thread Cert.FfnUp.nD Cert.FfnUp.τ).loc Cert.FfnUp.main_arg1)) (m ((c.tc : Thread Cert.FfnUp.nD Cert.FfnUp.τ).loc Cert.FfnUp.main_arg2)) (m ((c.tc : Thread Cert.FfnUp.nD Cert.FfnUp.τ).loc Cert.FfnUp.main_arg3)) (m ((c.tc : Thread Cert.FfnUp.nD Cert.FfnUp.τ).loc Cert.FfnUp.main_arg4)) (m ((c.tc : Thread Cert.FfnUp.nD Cert.FfnUp.τ).loc Cert.FfnUp.main_arg5)) (m ((c.tc : Thread Cert.FfnUp.nD Cert.FfnUp.τ).loc Cert.FfnUp.main_arg6)) (m ((c.tc : Thread Cert.FfnUp.nD Cert.FfnUp.τ).loc Cert.FfnUp.main_arg7)) (m ((c.tc : Thread Cert.FfnUp.nD Cert.FfnUp.τ).loc Cert.FfnUp.main_arg8))).2.1 = (fun _ => 1#1)
    ∧ (Cert.Pre_up_in_range.fn (F := Bits) (m ((c.tc : Thread Cert.FfnUp.nD Cert.FfnUp.τ).loc Cert.FfnUp.main_arg0)) (m ((c.tc : Thread Cert.FfnUp.nD Cert.FfnUp.τ).loc Cert.FfnUp.main_arg1)) (m ((c.tc : Thread Cert.FfnUp.nD Cert.FfnUp.τ).loc Cert.FfnUp.main_arg2)) (m ((c.tc : Thread Cert.FfnUp.nD Cert.FfnUp.τ).loc Cert.FfnUp.main_arg3)) (m ((c.tc : Thread Cert.FfnUp.nD Cert.FfnUp.τ).loc Cert.FfnUp.main_arg4)) (m ((c.tc : Thread Cert.FfnUp.nD Cert.FfnUp.τ).loc Cert.FfnUp.main_arg5)) (m ((c.tc : Thread Cert.FfnUp.nD Cert.FfnUp.τ).loc Cert.FfnUp.main_arg6)) (m ((c.tc : Thread Cert.FfnUp.nD Cert.FfnUp.τ).loc Cert.FfnUp.main_arg7)) (m ((c.tc : Thread Cert.FfnUp.nD Cert.FfnUp.τ).loc Cert.FfnUp.main_arg8))).2.2 = (fun _ => 1#1)

def Pre_FfnUpIdeal [hPre_up_in_range : Cert.Pre_up_in_range.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_up_in_range.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5)) (m ((c.tc : Thread Cert.FfnUpIdeal.nD Cert.FfnUpIdeal.τ).loc Cert.FfnUpIdeal.main_arg6)) (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8))).1 = (fun _ => 1#1)
    ∧ (Cert.Pre_up_in_range.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5)) (m ((c.tc : Thread Cert.FfnUpIdeal.nD Cert.FfnUpIdeal.τ).loc Cert.FfnUpIdeal.main_arg6)) (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8))).2.1 = (fun _ => 1#1)
    ∧ (Cert.Pre_up_in_range.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5)) (m ((c.tc : Thread Cert.FfnUpIdeal.nD Cert.FfnUpIdeal.τ).loc Cert.FfnUpIdeal.main_arg6)) (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8))).2.2 = (fun _ => 1#1)

def Pre_FfnUpIdeal_up_routed [hPre_up_routed : Cert.Pre_up_routed.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_up_routed.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5)) (m ((c.tc : Thread Cert.FfnUpIdeal.nD Cert.FfnUpIdeal.τ).loc Cert.FfnUpIdeal.main_arg6)) (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8))).1 = (fun _ => 1#1)
    ∧ (Cert.Pre_up_routed.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5)) (m ((c.tc : Thread Cert.FfnUpIdeal.nD Cert.FfnUpIdeal.τ).loc Cert.FfnUpIdeal.main_arg6)) (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8))).2.1 = (fun _ => 1#1)
    ∧ (Cert.Pre_up_routed.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5)) (m ((c.tc : Thread Cert.FfnUpIdeal.nD Cert.FfnUpIdeal.τ).loc Cert.FfnUpIdeal.main_arg6)) (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8))).2.2.1 = (fun _ => 1#1)
    ∧ (Cert.Pre_up_routed.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5)) (m ((c.tc : Thread Cert.FfnUpIdeal.nD Cert.FfnUpIdeal.τ).loc Cert.FfnUpIdeal.main_arg6)) (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8))).2.2.2 = (fun _ => 1#1)

def Pre_FfnUpRefIdeal (m : (ℓ : Loc Cert.FfnUpRefIdeal.nD Cert.FfnUpRefIdeal.τ Cert.FfnUpRefIdeal.sig) → Buf (Elt Ideal) ℓ) : Prop :=
  True

def Pre_FfnUpRefIdeal_up_routed [hPre_up_routed : Cert.Pre_up_routed.Facts] (m : (ℓ : Loc Cert.FfnUpRefIdeal.nD Cert.FfnUpRefIdeal.τ Cert.FfnUpRefIdeal.sig) → Buf (Elt Ideal) ℓ) : Prop :=
  ∀ c : Dev Cert.FfnUpRefIdeal.nD,
    (Cert.Pre_up_routed.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5)) (m ((c.tc : Thread Cert.FfnUpRefIdeal.nD Cert.FfnUpRefIdeal.τ).loc Cert.FfnUpRefIdeal.main_arg6)) (m ((c.tc : Thread Cert.FfnUpRefIdeal.nD Cert.FfnUpRefIdeal.τ).loc Cert.FfnUpRefIdeal.main_arg7)) (m ((c.tc : Thread Cert.FfnUpRefIdeal.nD Cert.FfnUpRefIdeal.τ).loc Cert.FfnUpRefIdeal.main_arg8))).1 = (fun _ => 1#1)
    ∧ (Cert.Pre_up_routed.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5)) (m ((c.tc : Thread Cert.FfnUpRefIdeal.nD Cert.FfnUpRefIdeal.τ).loc Cert.FfnUpRefIdeal.main_arg6)) (m ((c.tc : Thread Cert.FfnUpRefIdeal.nD Cert.FfnUpRefIdeal.τ).loc Cert.FfnUpRefIdeal.main_arg7)) (m ((c.tc : Thread Cert.FfnUpRefIdeal.nD Cert.FfnUpRefIdeal.τ).loc Cert.FfnUpRefIdeal.main_arg8))).2.1 = (fun _ => 1#1)
    ∧ (Cert.Pre_up_routed.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5)) (m ((c.tc : Thread Cert.FfnUpRefIdeal.nD Cert.FfnUpRefIdeal.τ).loc Cert.FfnUpRefIdeal.main_arg6)) (m ((c.tc : Thread Cert.FfnUpRefIdeal.nD Cert.FfnUpRefIdeal.τ).loc Cert.FfnUpRefIdeal.main_arg7)) (m ((c.tc : Thread Cert.FfnUpRefIdeal.nD Cert.FfnUpRefIdeal.τ).loc Cert.FfnUpRefIdeal.main_arg8))).2.2.1 = (fun _ => 1#1)
    ∧ (Cert.Pre_up_routed.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5)) (m ((c.tc : Thread Cert.FfnUpRefIdeal.nD Cert.FfnUpRefIdeal.τ).loc Cert.FfnUpRefIdeal.main_arg6)) (m ((c.tc : Thread Cert.FfnUpRefIdeal.nD Cert.FfnUpRefIdeal.τ).loc Cert.FfnUpRefIdeal.main_arg7)) (m ((c.tc : Thread Cert.FfnUpRefIdeal.nD Cert.FfnUpRefIdeal.τ).loc Cert.FfnUpRefIdeal.main_arg8))).2.2.2 = (fun _ => 1#1)

def Pre_FfnDown [hPre_down_in_range : Cert.Pre_down_in_range.Facts] (m : (ℓ : Loc Cert.FfnDown.nD Cert.FfnDown.τ Cert.FfnDown.sig) → Buf (Elt Bits) ℓ) : Prop :=
  ∀ c : Dev Cert.FfnDown.nD,
    (Cert.Pre_down_in_range.fn (F := Bits) (m ((c.tc : Thread Cert.FfnDown.nD Cert.FfnDown.τ).loc Cert.FfnDown.main_arg0)) (m ((c.tc : Thread Cert.FfnDown.nD Cert.FfnDown.τ).loc Cert.FfnDown.main_arg1)) (m ((c.tc : Thread Cert.FfnDown.nD Cert.FfnDown.τ).loc Cert.FfnDown.main_arg2)) (m ((c.tc : Thread Cert.FfnDown.nD Cert.FfnDown.τ).loc Cert.FfnDown.main_arg3)) (m ((c.tc : Thread Cert.FfnDown.nD Cert.FfnDown.τ).loc Cert.FfnDown.main_arg4)) (m ((c.tc : Thread Cert.FfnDown.nD Cert.FfnDown.τ).loc Cert.FfnDown.main_arg5)) (m ((c.tc : Thread Cert.FfnDown.nD Cert.FfnDown.τ).loc Cert.FfnDown.main_arg6))).1 = (fun _ => 1#1)
    ∧ (Cert.Pre_down_in_range.fn (F := Bits) (m ((c.tc : Thread Cert.FfnDown.nD Cert.FfnDown.τ).loc Cert.FfnDown.main_arg0)) (m ((c.tc : Thread Cert.FfnDown.nD Cert.FfnDown.τ).loc Cert.FfnDown.main_arg1)) (m ((c.tc : Thread Cert.FfnDown.nD Cert.FfnDown.τ).loc Cert.FfnDown.main_arg2)) (m ((c.tc : Thread Cert.FfnDown.nD Cert.FfnDown.τ).loc Cert.FfnDown.main_arg3)) (m ((c.tc : Thread Cert.FfnDown.nD Cert.FfnDown.τ).loc Cert.FfnDown.main_arg4)) (m ((c.tc : Thread Cert.FfnDown.nD Cert.FfnDown.τ).loc Cert.FfnDown.main_arg5)) (m ((c.tc : Thread Cert.FfnDown.nD Cert.FfnDown.τ).loc Cert.FfnDown.main_arg6))).2.1 = (fun _ => 1#1)
    ∧ (Cert.Pre_down_in_range.fn (F := Bits) (m ((c.tc : Thread Cert.FfnDown.nD Cert.FfnDown.τ).loc Cert.FfnDown.main_arg0)) (m ((c.tc : Thread Cert.FfnDown.nD Cert.FfnDown.τ).loc Cert.FfnDown.main_arg1)) (m ((c.tc : Thread Cert.FfnDown.nD Cert.FfnDown.τ).loc Cert.FfnDown.main_arg2)) (m ((c.tc : Thread Cert.FfnDown.nD Cert.FfnDown.τ).loc Cert.FfnDown.main_arg3)) (m ((c.tc : Thread Cert.FfnDown.nD Cert.FfnDown.τ).loc Cert.FfnDown.main_arg4)) (m ((c.tc : Thread Cert.FfnDown.nD Cert.FfnDown.τ).loc Cert.FfnDown.main_arg5)) (m ((c.tc : Thread Cert.FfnDown.nD Cert.FfnDown.τ).loc Cert.FfnDown.main_arg6))).2.2 = (fun _ => 1#1)

def Pre_FfnDownIdeal [hPre_down_in_range : Cert.Pre_down_in_range.Facts] (m : (ℓ : Loc Cert.FfnDownIdeal.nD Cert.FfnDownIdeal.τ Cert.FfnDownIdeal.sig) → Buf (Elt Ideal) ℓ) : Prop :=
  ∀ c : Dev Cert.FfnDownIdeal.nD,
    (Cert.Pre_down_in_range.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)) (m ((c.tc : Thread Cert.FfnDownIdeal.nD Cert.FfnDownIdeal.τ).loc Cert.FfnDownIdeal.main_arg5)) (m ((c.tc : Thread Cert.FfnDownIdeal.nD Cert.FfnDownIdeal.τ).loc Cert.FfnDownIdeal.main_arg6))).1 = (fun _ => 1#1)
    ∧ (Cert.Pre_down_in_range.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)) (m ((c.tc : Thread Cert.FfnDownIdeal.nD Cert.FfnDownIdeal.τ).loc Cert.FfnDownIdeal.main_arg5)) (m ((c.tc : Thread Cert.FfnDownIdeal.nD Cert.FfnDownIdeal.τ).loc Cert.FfnDownIdeal.main_arg6))).2.1 = (fun _ => 1#1)
    ∧ (Cert.Pre_down_in_range.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)) (m ((c.tc : Thread Cert.FfnDownIdeal.nD Cert.FfnDownIdeal.τ).loc Cert.FfnDownIdeal.main_arg5)) (m ((c.tc : Thread Cert.FfnDownIdeal.nD Cert.FfnDownIdeal.τ).loc Cert.FfnDownIdeal.main_arg6))).2.2 = (fun _ => 1#1)

def Pre_FfnDownIdeal_down_routed [hPre_down_routed : Cert.Pre_down_routed.Facts] (m : (ℓ : Loc Cert.FfnDownIdeal.nD Cert.FfnDownIdeal.τ Cert.FfnDownIdeal.sig) → Buf (Elt Ideal) ℓ) : Prop :=
  ∀ c : Dev Cert.FfnDownIdeal.nD,
    (Cert.Pre_down_routed.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)) (m ((c.tc : Thread Cert.FfnDownIdeal.nD Cert.FfnDownIdeal.τ).loc Cert.FfnDownIdeal.main_arg5)) (m ((c.tc : Thread Cert.FfnDownIdeal.nD Cert.FfnDownIdeal.τ).loc Cert.FfnDownIdeal.main_arg6))).1 = (fun _ => 1#1)
    ∧ (Cert.Pre_down_routed.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)) (m ((c.tc : Thread Cert.FfnDownIdeal.nD Cert.FfnDownIdeal.τ).loc Cert.FfnDownIdeal.main_arg5)) (m ((c.tc : Thread Cert.FfnDownIdeal.nD Cert.FfnDownIdeal.τ).loc Cert.FfnDownIdeal.main_arg6))).2.1 = (fun _ => 1#1)
    ∧ (Cert.Pre_down_routed.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)) (m ((c.tc : Thread Cert.FfnDownIdeal.nD Cert.FfnDownIdeal.τ).loc Cert.FfnDownIdeal.main_arg5)) (m ((c.tc : Thread Cert.FfnDownIdeal.nD Cert.FfnDownIdeal.τ).loc Cert.FfnDownIdeal.main_arg6))).2.2.1 = (fun _ => 1#1)
    ∧ (Cert.Pre_down_routed.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)) (m ((c.tc : Thread Cert.FfnDownIdeal.nD Cert.FfnDownIdeal.τ).loc Cert.FfnDownIdeal.main_arg5)) (m ((c.tc : Thread Cert.FfnDownIdeal.nD Cert.FfnDownIdeal.τ).loc Cert.FfnDownIdeal.main_arg6))).2.2.2 = (fun _ => 1#1)

def Pre_FfnDownRefIdeal (m : (ℓ : Loc Cert.FfnDownRefIdeal.nD Cert.FfnDownRefIdeal.τ Cert.FfnDownRefIdeal.sig) → Buf (Elt Ideal) ℓ) : Prop :=
  True

def Pre_FfnDownRefIdeal_down_routed [hPre_down_routed : Cert.Pre_down_routed.Facts] (m : (ℓ : Loc Cert.FfnDownRefIdeal.nD Cert.FfnDownRefIdeal.τ Cert.FfnDownRefIdeal.sig) → Buf (Elt Ideal) ℓ) : Prop :=
  ∀ c : Dev Cert.FfnDownRefIdeal.nD,
    (Cert.Pre_down_routed.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4)) (m ((c.tc : Thread Cert.FfnDownRefIdeal.nD Cert.FfnDownRefIdeal.τ).loc Cert.FfnDownRefIdeal.main_arg5)) (m ((c.tc : Thread Cert.FfnDownRefIdeal.nD Cert.FfnDownRefIdeal.τ).loc Cert.FfnDownRefIdeal.main_arg6))).1 = (fun _ => 1#1)
    ∧ (Cert.Pre_down_routed.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4)) (m ((c.tc : Thread Cert.FfnDownRefIdeal.nD Cert.FfnDownRefIdeal.τ).loc Cert.FfnDownRefIdeal.main_arg5)) (m ((c.tc : Thread Cert.FfnDownRefIdeal.nD Cert.FfnDownRefIdeal.τ).loc Cert.FfnDownRefIdeal.main_arg6))).2.1 = (fun _ => 1#1)
    ∧ (Cert.Pre_down_routed.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4)) (m ((c.tc : Thread Cert.FfnDownRefIdeal.nD Cert.FfnDownRefIdeal.τ).loc Cert.FfnDownRefIdeal.main_arg5)) (m ((c.tc : Thread Cert.FfnDownRefIdeal.nD Cert.FfnDownRefIdeal.τ).loc Cert.FfnDownRefIdeal.main_arg6))).2.2.1 = (fun _ => 1#1)
    ∧ (Cert.Pre_down_routed.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4)) (m ((c.tc : Thread Cert.FfnDownRefIdeal.nD Cert.FfnDownRefIdeal.τ).loc Cert.FfnDownRefIdeal.main_arg5)) (m ((c.tc : Thread Cert.FfnDownRefIdeal.nD Cert.FfnDownRefIdeal.τ).loc Cert.FfnDownRefIdeal.main_arg6))).2.2.2 = (fun _ => 1#1)

def Pre_RglruS (m : (ℓ : Loc Cert.RglruS.nD Cert.RglruS.τ Cert.RglruS.sig) → Buf (Elt Bits) ℓ) : Prop :=
  True

def Pre_RglruSIdeal (m : (ℓ : Loc Cert.RglruSIdeal.nD Cert.RglruSIdeal.τ Cert.RglruSIdeal.sig) → Buf (Elt Ideal) ℓ) : Prop :=
  True

def Pre_RglruSRefIdeal (m : (ℓ : Loc Cert.RglruSRefIdeal.nD Cert.RglruSRefIdeal.τ Cert.RglruSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_band_finite [hKernelIdeal : Cert.KernelIdeal.Facts] [hPre_band_finite : Cert.Pre_band_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_band_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_band_finite [hReferenceIdeal : Cert.ReferenceIdeal.Facts] [hPre_band_finite : Cert.Pre_band_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_band_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_AttProj [hAttProj : Cert.AttProj.Facts] : Prop :=
  ∀ (m : (ℓ : Loc Cert.AttProj.nD Cert.AttProj.τ Cert.AttProj.sig) → Buf (Elt Bits) ℓ) (g : Dev Cert.AttProj.nD → PrngReg), Pre_AttProj m →
    θ_run (Cert.AttProj.defs (F := Bits)) (onTc (τ := Cert.AttProj.τ) (Cert.AttProj.main (F := Bits))) ⟨m, fun _ => 0, g⟩ (fun r => (∀ c : Dev Cert.AttProj.nD,
      r.2.mem ((c.tc : Thread Cert.AttProj.nD Cert.AttProj.τ).loc Cert.AttProj.main_arg0) = m ((c.tc : Thread Cert.AttProj.nD Cert.AttProj.τ).loc Cert.AttProj.main_arg0)
      ∧ r.2.mem ((c.tc : Thread Cert.AttProj.nD Cert.AttProj.τ).loc Cert.AttProj.main_arg1) = m ((c.tc : Thread Cert.AttProj.nD Cert.AttProj.τ).loc Cert.AttProj.main_arg1))
      ∧ r.2.sem = fun _ => 0)

def quiescent_AttProjIdeal [hAttProjIdeal : Cert.AttProjIdeal.Facts] : Prop :=
  ∀ (m : (ℓ : Loc Cert.AttProjIdeal.nD Cert.AttProjIdeal.τ Cert.AttProjIdeal.sig) → Buf (Elt Ideal) ℓ) (g : Dev Cert.AttProjIdeal.nD → PrngReg), Pre_AttProjIdeal m →
    θ_run (Cert.AttProjIdeal.defs (F := Ideal)) (onTc (τ := Cert.AttProjIdeal.τ) (Cert.AttProjIdeal.main (F := Ideal))) ⟨m, fun _ => 0, g⟩ (fun r => (∀ c : Dev Cert.AttProjIdeal.nD,
      r.2.mem ((c.tc : Thread Cert.AttProjIdeal.nD Cert.AttProjIdeal.τ).loc Cert.AttProjIdeal.main_arg0) = m ((c.tc : Thread Cert.AttProjIdeal.nD Cert.AttProjIdeal.τ).loc Cert.AttProjIdeal.main_arg0)
      ∧ r.2.mem ((c.tc : Thread Cert.AttProjIdeal.nD Cert.AttProjIdeal.τ).loc Cert.AttProjIdeal.main_arg1) = m ((c.tc : Thread Cert.AttProjIdeal.nD Cert.AttProjIdeal.τ).loc Cert.AttProjIdeal.main_arg1))
      ∧ r.2.sem = fun _ => 0)

def quiescent_AttProjRefIdeal [hAttProjRefIdeal : Cert.AttProjRefIdeal.Facts] : Prop :=
  ∀ (m : (ℓ : Loc Cert.AttProjRefIdeal.nD Cert.AttProjRefIdeal.τ Cert.AttProjRefIdeal.sig) → Buf (Elt Ideal) ℓ) (g : Dev Cert.AttProjRefIdeal.nD → PrngReg), Pre_AttProjRefIdeal m →
    θ_run (Cert.AttProjRefIdeal.defs (F := Ideal)) (onTc (τ := Cert.AttProjRefIdeal.τ) (Cert.AttProjRefIdeal.main (F := Ideal))) ⟨m, fun _ => 0, g⟩ (fun r => (∀ c : Dev Cert.AttProjRefIdeal.nD,
      r.2.mem ((c.tc : Thread Cert.AttProjRefIdeal.nD Cert.AttProjRefIdeal.τ).loc Cert.AttProjRefIdeal.main_arg0) = m ((c.tc : Thread Cert.AttProjRefIdeal.nD Cert.AttProjRefIdeal.τ).loc Cert.AttProjRefIdeal.main_arg0)
      ∧ r.2.mem ((c.tc : Thread Cert.AttProjRefIdeal.nD Cert.AttProjRefIdeal.τ).loc Cert.AttProjRefIdeal.main_arg1) = m ((c.tc : Thread Cert.AttProjRefIdeal.nD Cert.AttProjRefIdeal.τ).loc Cert.AttProjRefIdeal.main_arg1))
      ∧ r.2.sem = fun _ => 0)

def quiescent_GateProj [hGateProj : Cert.GateProj.Facts] : Prop :=
  ∀ (m : (ℓ : Loc Cert.GateProj.nD Cert.GateProj.τ Cert.GateProj.sig) → Buf (Elt Bits) ℓ) (g : Dev Cert.GateProj.nD → PrngReg), Pre_GateProj m →
    θ_run (Cert.GateProj.defs (F := Bits)) (onTc (τ := Cert.GateProj.τ) (Cert.GateProj.main (F := Bits))) ⟨m, fun _ => 0, g⟩ (fun r => (∀ c : Dev Cert.GateProj.nD,
      r.2.mem ((c.tc : Thread Cert.GateProj.nD Cert.GateProj.τ).loc Cert.GateProj.main_arg0) = m ((c.tc : Thread Cert.GateProj.nD Cert.GateProj.τ).loc Cert.GateProj.main_arg0)
      ∧ r.2.mem ((c.tc : Thread Cert.GateProj.nD Cert.GateProj.τ).loc Cert.GateProj.main_arg1) = m ((c.tc : Thread Cert.GateProj.nD Cert.GateProj.τ).loc Cert.GateProj.main_arg1)
      ∧ r.2.mem ((c.tc : Thread Cert.GateProj.nD Cert.GateProj.τ).loc Cert.GateProj.main_arg2) = m ((c.tc : Thread Cert.GateProj.nD Cert.GateProj.τ).loc Cert.GateProj.main_arg2))
      ∧ r.2.sem = fun _ => 0)

def quiescent_GateProjIdeal [hGateProjIdeal : Cert.GateProjIdeal.Facts] : Prop :=
  ∀ (m : (ℓ : Loc Cert.GateProjIdeal.nD Cert.GateProjIdeal.τ Cert.GateProjIdeal.sig) → Buf (Elt Ideal) ℓ) (g : Dev Cert.GateProjIdeal.nD → PrngReg), Pre_GateProjIdeal m →
    θ_run (Cert.GateProjIdeal.defs (F := Ideal)) (onTc (τ := Cert.GateProjIdeal.τ) (Cert.GateProjIdeal.main (F := Ideal))) ⟨m, fun _ => 0, g⟩ (fun r => (∀ c : Dev Cert.GateProjIdeal.nD,
      r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
      ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1)
      ∧ r.2.mem ((c.tc : Thread Cert.GateProjIdeal.nD Cert.GateProjIdeal.τ).loc Cert.GateProjIdeal.main_arg2) = m ((c.tc : Thread Cert.GateProjIdeal.nD Cert.GateProjIdeal.τ).loc Cert.GateProjIdeal.main_arg2))
      ∧ r.2.sem = fun _ => 0)

def quiescent_GateProjRefIdeal [hGateProjRefIdeal : Cert.GateProjRefIdeal.Facts] : Prop :=
  ∀ (m : (ℓ : Loc Cert.GateProjRefIdeal.nD Cert.GateProjRefIdeal.τ Cert.GateProjRefIdeal.sig) → Buf (Elt Ideal) ℓ) (g : Dev Cert.GateProjRefIdeal.nD → PrngReg), Pre_GateProjRefIdeal m →
    θ_run (Cert.GateProjRefIdeal.defs (F := Ideal)) (onTc (τ := Cert.GateProjRefIdeal.τ) (Cert.GateProjRefIdeal.main (F := Ideal))) ⟨m, fun _ => 0, g⟩ (fun r => (∀ c : Dev Cert.GateProjRefIdeal.nD,
      r.2.mem ((c.tc : Thread Cert.GateProjRefIdeal.nD Cert.GateProjRefIdeal.τ).loc Cert.GateProjRefIdeal.main_arg0) = m ((c.tc : Thread Cert.GateProjRefIdeal.nD Cert.GateProjRefIdeal.τ).loc Cert.GateProjRefIdeal.main_arg0)
      ∧ r.2.mem ((c.tc : Thread Cert.GateProjRefIdeal.nD Cert.GateProjRefIdeal.τ).loc Cert.GateProjRefIdeal.main_arg1) = m ((c.tc : Thread Cert.GateProjRefIdeal.nD Cert.GateProjRefIdeal.τ).loc Cert.GateProjRefIdeal.main_arg1)
      ∧ r.2.mem ((c.tc : Thread Cert.GateProjRefIdeal.nD Cert.GateProjRefIdeal.τ).loc Cert.GateProjRefIdeal.main_arg2) = m ((c.tc : Thread Cert.GateProjRefIdeal.nD Cert.GateProjRefIdeal.τ).loc Cert.GateProjRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_KvTail [hKvTail : Cert.KvTail.Facts] : Prop :=
  ∀ (m : (ℓ : Loc Cert.KvTail.nD Cert.KvTail.τ Cert.KvTail.sig) → Buf (Elt Bits) ℓ) (g : Dev Cert.KvTail.nD → PrngReg), Pre_KvTail m →
    θ_run (Cert.KvTail.defs (F := Bits)) (onTc (τ := Cert.KvTail.τ) (Cert.KvTail.main (F := Bits))) ⟨m, fun _ => 0, g⟩ (fun r => (∀ c : Dev Cert.KvTail.nD,
      r.2.mem ((c.tc : Thread Cert.KvTail.nD Cert.KvTail.τ).loc Cert.KvTail.main_arg0) = m ((c.tc : Thread Cert.KvTail.nD Cert.KvTail.τ).loc Cert.KvTail.main_arg0)
      ∧ r.2.mem ((c.tc : Thread Cert.KvTail.nD Cert.KvTail.τ).loc Cert.KvTail.main_arg1) = m ((c.tc : Thread Cert.KvTail.nD Cert.KvTail.τ).loc Cert.KvTail.main_arg1))
      ∧ r.2.sem = fun _ => 0)

def quiescent_KvTailIdeal [hKvTailIdeal : Cert.KvTailIdeal.Facts] : Prop :=
  ∀ (m : (ℓ : Loc Cert.KvTailIdeal.nD Cert.KvTailIdeal.τ Cert.KvTailIdeal.sig) → Buf (Elt Ideal) ℓ) (g : Dev Cert.KvTailIdeal.nD → PrngReg), Pre_KvTailIdeal m →
    θ_run (Cert.KvTailIdeal.defs (F := Ideal)) (onTc (τ := Cert.KvTailIdeal.τ) (Cert.KvTailIdeal.main (F := Ideal))) ⟨m, fun _ => 0, g⟩ (fun r => (∀ c : Dev Cert.KvTailIdeal.nD,
      r.2.mem ((c.tc : Thread Cert.KvTailIdeal.nD Cert.KvTailIdeal.τ).loc Cert.KvTailIdeal.main_arg0) = m ((c.tc : Thread Cert.KvTailIdeal.nD Cert.KvTailIdeal.τ).loc Cert.KvTailIdeal.main_arg0)
      ∧ r.2.mem ((c.tc : Thread Cert.KvTailIdeal.nD Cert.KvTailIdeal.τ).loc Cert.KvTailIdeal.main_arg1) = m ((c.tc : Thread Cert.KvTailIdeal.nD Cert.KvTailIdeal.τ).loc Cert.KvTailIdeal.main_arg1))
      ∧ r.2.sem = fun _ => 0)

def quiescent_KvTailRefIdeal [hKvTailRefIdeal : Cert.KvTailRefIdeal.Facts] : Prop :=
  ∀ (m : (ℓ : Loc Cert.KvTailRefIdeal.nD Cert.KvTailRefIdeal.τ Cert.KvTailRefIdeal.sig) → Buf (Elt Ideal) ℓ) (g : Dev Cert.KvTailRefIdeal.nD → PrngReg), Pre_KvTailRefIdeal m →
    θ_run (Cert.KvTailRefIdeal.defs (F := Ideal)) (onTc (τ := Cert.KvTailRefIdeal.τ) (Cert.KvTailRefIdeal.main (F := Ideal))) ⟨m, fun _ => 0, g⟩ (fun r => (∀ c : Dev Cert.KvTailRefIdeal.nD,
      r.2.mem ((c.tc : Thread Cert.KvTailRefIdeal.nD Cert.KvTailRefIdeal.τ).loc Cert.KvTailRefIdeal.main_arg0) = m ((c.tc : Thread Cert.KvTailRefIdeal.nD Cert.KvTailRefIdeal.τ).loc Cert.KvTailRefIdeal.main_arg0)
      ∧ r.2.mem ((c.tc : Thread Cert.KvTailRefIdeal.nD Cert.KvTailRefIdeal.τ).loc Cert.KvTailRefIdeal.main_arg1) = m ((c.tc : Thread Cert.KvTailRefIdeal.nD Cert.KvTailRefIdeal.τ).loc Cert.KvTailRefIdeal.main_arg1))
      ∧ r.2.sem = fun _ => 0)

def quiescent_KvNew [hKvNew : Cert.KvNew.Facts] : Prop :=
  ∀ (m : (ℓ : Loc Cert.KvNew.nD Cert.KvNew.τ Cert.KvNew.sig) → Buf (Elt Bits) ℓ) (g : Dev Cert.KvNew.nD → PrngReg), Pre_KvNew m →
    θ_run (Cert.KvNew.defs (F := Bits)) (onTc (τ := Cert.KvNew.τ) (Cert.KvNew.main (F := Bits))) ⟨m, fun _ => 0, g⟩ (fun r => (∀ c : Dev Cert.KvNew.nD,
      r.2.mem ((c.tc : Thread Cert.KvNew.nD Cert.KvNew.τ).loc Cert.KvNew.main_arg0) = m ((c.tc : Thread Cert.KvNew.nD Cert.KvNew.τ).loc Cert.KvNew.main_arg0)
      ∧ r.2.mem ((c.tc : Thread Cert.KvNew.nD Cert.KvNew.τ).loc Cert.KvNew.main_arg1) = m ((c.tc : Thread Cert.KvNew.nD Cert.KvNew.τ).loc Cert.KvNew.main_arg1))
      ∧ r.2.sem = fun _ => 0)

def quiescent_KvNewIdeal [hKvNewIdeal : Cert.KvNewIdeal.Facts] : Prop :=
  ∀ (m : (ℓ : Loc Cert.KvNewIdeal.nD Cert.KvNewIdeal.τ Cert.KvNewIdeal.sig) → Buf (Elt Ideal) ℓ) (g : Dev Cert.KvNewIdeal.nD → PrngReg), Pre_KvNewIdeal m →
    θ_run (Cert.KvNewIdeal.defs (F := Ideal)) (onTc (τ := Cert.KvNewIdeal.τ) (Cert.KvNewIdeal.main (F := Ideal))) ⟨m, fun _ => 0, g⟩ (fun r => (∀ c : Dev Cert.KvNewIdeal.nD,
      r.2.mem ((c.tc : Thread Cert.KvNewIdeal.nD Cert.KvNewIdeal.τ).loc Cert.KvNewIdeal.main_arg0) = m ((c.tc : Thread Cert.KvNewIdeal.nD Cert.KvNewIdeal.τ).loc Cert.KvNewIdeal.main_arg0)
      ∧ r.2.mem ((c.tc : Thread Cert.KvNewIdeal.nD Cert.KvNewIdeal.τ).loc Cert.KvNewIdeal.main_arg1) = m ((c.tc : Thread Cert.KvNewIdeal.nD Cert.KvNewIdeal.τ).loc Cert.KvNewIdeal.main_arg1))
      ∧ r.2.sem = fun _ => 0)

def quiescent_KvNewRefIdeal [hKvNewRefIdeal : Cert.KvNewRefIdeal.Facts] : Prop :=
  ∀ (m : (ℓ : Loc Cert.KvNewRefIdeal.nD Cert.KvNewRefIdeal.τ Cert.KvNewRefIdeal.sig) → Buf (Elt Ideal) ℓ) (g : Dev Cert.KvNewRefIdeal.nD → PrngReg), Pre_KvNewRefIdeal m →
    θ_run (Cert.KvNewRefIdeal.defs (F := Ideal)) (onTc (τ := Cert.KvNewRefIdeal.τ) (Cert.KvNewRefIdeal.main (F := Ideal))) ⟨m, fun _ => 0, g⟩ (fun r => (∀ c : Dev Cert.KvNewRefIdeal.nD,
      r.2.mem ((c.tc : Thread Cert.KvNewRefIdeal.nD Cert.KvNewRefIdeal.τ).loc Cert.KvNewRefIdeal.main_arg0) = m ((c.tc : Thread Cert.KvNewRefIdeal.nD Cert.KvNewRefIdeal.τ).loc Cert.KvNewRefIdeal.main_arg0)
      ∧ r.2.mem ((c.tc : Thread Cert.KvNewRefIdeal.nD Cert.KvNewRefIdeal.τ).loc Cert.KvNewRefIdeal.main_arg1) = m ((c.tc : Thread Cert.KvNewRefIdeal.nD Cert.KvNewRefIdeal.τ).loc Cert.KvNewRefIdeal.main_arg1))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1))
      ∧ r.2.sem = fun _ => 0)

def quiescent_InProjSRefIdeal [hInProjSRefIdeal : Cert.InProjSRefIdeal.Facts] : Prop :=
  ∀ (m : (ℓ : Loc Cert.InProjSRefIdeal.nD Cert.InProjSRefIdeal.τ Cert.InProjSRefIdeal.sig) → Buf (Elt Ideal) ℓ) (g : Dev Cert.InProjSRefIdeal.nD → PrngReg), Pre_InProjSRefIdeal m →
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
      r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
      ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemAttnIdeal_pre_mem_finite [hMemAttnIdeal : Cert.MemAttnIdeal.Facts] [hPre_mem_finite : Cert.Pre_mem_finite.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_mem_finite m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1))
      ∧ r.2.sem = fun _ => 0)

def quiescent_MemAttnRefIdeal_pre_mem_finite [hMemAttnRefIdeal : Cert.MemAttnRefIdeal.Facts] [hPre_mem_finite : Cert.Pre_mem_finite.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_mem_finite m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1))
      ∧ r.2.sem = fun _ => 0)

def quiescent_CachedAttn [hCachedAttn : Cert.CachedAttn.Facts] : Prop :=
  ∀ (m : (ℓ : Loc Cert.CachedAttn.nD Cert.CachedAttn.τ Cert.CachedAttn.sig) → Buf (Elt Bits) ℓ) (g : Dev Cert.CachedAttn.nD → PrngReg), Pre_CachedAttn m →
    θ_run (Cert.CachedAttn.defs (F := Bits)) (onTc (τ := Cert.CachedAttn.τ) (Cert.CachedAttn.main (F := Bits))) ⟨m, fun _ => 0, g⟩ (fun r => (∀ c : Dev Cert.CachedAttn.nD,
      r.2.mem ((c.tc : Thread Cert.CachedAttn.nD Cert.CachedAttn.τ).loc Cert.CachedAttn.main_arg0) = m ((c.tc : Thread Cert.CachedAttn.nD Cert.CachedAttn.τ).loc Cert.CachedAttn.main_arg0)
      ∧ r.2.mem ((c.tc : Thread Cert.CachedAttn.nD Cert.CachedAttn.τ).loc Cert.CachedAttn.main_arg1) = m ((c.tc : Thread Cert.CachedAttn.nD Cert.CachedAttn.τ).loc Cert.CachedAttn.main_arg1)
      ∧ r.2.mem ((c.tc : Thread Cert.CachedAttn.nD Cert.CachedAttn.τ).loc Cert.CachedAttn.main_arg2) = m ((c.tc : Thread Cert.CachedAttn.nD Cert.CachedAttn.τ).loc Cert.CachedAttn.main_arg2)
      ∧ r.2.mem ((c.tc : Thread Cert.CachedAttn.nD Cert.CachedAttn.τ).loc Cert.CachedAttn.main_arg3) = m ((c.tc : Thread Cert.CachedAttn.nD Cert.CachedAttn.τ).loc Cert.CachedAttn.main_arg3))
      ∧ r.2.sem = fun _ => 0)

def quiescent_CachedAttnIdeal [hCachedAttnIdeal : Cert.CachedAttnIdeal.Facts] : Prop :=
  ∀ (m : (ℓ : Loc Cert.CachedAttnIdeal.nD Cert.CachedAttnIdeal.τ Cert.CachedAttnIdeal.sig) → Buf (Elt Ideal) ℓ) (g : Dev Cert.CachedAttnIdeal.nD → PrngReg), Pre_CachedAttnIdeal m →
    θ_run (Cert.CachedAttnIdeal.defs (F := Ideal)) (onTc (τ := Cert.CachedAttnIdeal.τ) (Cert.CachedAttnIdeal.main (F := Ideal))) ⟨m, fun _ => 0, g⟩ (fun r => (∀ c : Dev Cert.CachedAttnIdeal.nD,
      r.2.mem ((c.tc : Thread Cert.CachedAttnIdeal.nD Cert.CachedAttnIdeal.τ).loc Cert.CachedAttnIdeal.main_arg0) = m ((c.tc : Thread Cert.CachedAttnIdeal.nD Cert.CachedAttnIdeal.τ).loc Cert.CachedAttnIdeal.main_arg0)
      ∧ r.2.mem ((c.tc : Thread Cert.CachedAttnIdeal.nD Cert.CachedAttnIdeal.τ).loc Cert.CachedAttnIdeal.main_arg1) = m ((c.tc : Thread Cert.CachedAttnIdeal.nD Cert.CachedAttnIdeal.τ).loc Cert.CachedAttnIdeal.main_arg1)
      ∧ r.2.mem ((c.tc : Thread Cert.CachedAttnIdeal.nD Cert.CachedAttnIdeal.τ).loc Cert.CachedAttnIdeal.main_arg2) = m ((c.tc : Thread Cert.CachedAttnIdeal.nD Cert.CachedAttnIdeal.τ).loc Cert.CachedAttnIdeal.main_arg2)
      ∧ r.2.mem ((c.tc : Thread Cert.CachedAttnIdeal.nD Cert.CachedAttnIdeal.τ).loc Cert.CachedAttnIdeal.main_arg3) = m ((c.tc : Thread Cert.CachedAttnIdeal.nD Cert.CachedAttnIdeal.τ).loc Cert.CachedAttnIdeal.main_arg3))
      ∧ r.2.sem = fun _ => 0)

def quiescent_CachedAttnRefIdeal [hCachedAttnRefIdeal : Cert.CachedAttnRefIdeal.Facts] : Prop :=
  ∀ (m : (ℓ : Loc Cert.CachedAttnRefIdeal.nD Cert.CachedAttnRefIdeal.τ Cert.CachedAttnRefIdeal.sig) → Buf (Elt Ideal) ℓ) (g : Dev Cert.CachedAttnRefIdeal.nD → PrngReg), Pre_CachedAttnRefIdeal m →
    θ_run (Cert.CachedAttnRefIdeal.defs (F := Ideal)) (onTc (τ := Cert.CachedAttnRefIdeal.τ) (Cert.CachedAttnRefIdeal.main (F := Ideal))) ⟨m, fun _ => 0, g⟩ (fun r => (∀ c : Dev Cert.CachedAttnRefIdeal.nD,
      r.2.mem ((c.tc : Thread Cert.CachedAttnRefIdeal.nD Cert.CachedAttnRefIdeal.τ).loc Cert.CachedAttnRefIdeal.main_arg0) = m ((c.tc : Thread Cert.CachedAttnRefIdeal.nD Cert.CachedAttnRefIdeal.τ).loc Cert.CachedAttnRefIdeal.main_arg0)
      ∧ r.2.mem ((c.tc : Thread Cert.CachedAttnRefIdeal.nD Cert.CachedAttnRefIdeal.τ).loc Cert.CachedAttnRefIdeal.main_arg1) = m ((c.tc : Thread Cert.CachedAttnRefIdeal.nD Cert.CachedAttnRefIdeal.τ).loc Cert.CachedAttnRefIdeal.main_arg1)
      ∧ r.2.mem ((c.tc : Thread Cert.CachedAttnRefIdeal.nD Cert.CachedAttnRefIdeal.τ).loc Cert.CachedAttnRefIdeal.main_arg2) = m ((c.tc : Thread Cert.CachedAttnRefIdeal.nD Cert.CachedAttnRefIdeal.τ).loc Cert.CachedAttnRefIdeal.main_arg2)
      ∧ r.2.mem ((c.tc : Thread Cert.CachedAttnRefIdeal.nD Cert.CachedAttnRefIdeal.τ).loc Cert.CachedAttnRefIdeal.main_arg3) = m ((c.tc : Thread Cert.CachedAttnRefIdeal.nD Cert.CachedAttnRefIdeal.τ).loc Cert.CachedAttnRefIdeal.main_arg3))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4)
      ∧ r.2.mem ((c.tc : Thread Cert.OutLn.nD Cert.OutLn.τ).loc Cert.OutLn.main_arg5) = m ((c.tc : Thread Cert.OutLn.nD Cert.OutLn.τ).loc Cert.OutLn.main_arg5)
      ∧ r.2.mem ((c.tc : Thread Cert.OutLn.nD Cert.OutLn.τ).loc Cert.OutLn.main_arg6) = m ((c.tc : Thread Cert.OutLn.nD Cert.OutLn.τ).loc Cert.OutLn.main_arg6))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
      ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5)
      ∧ r.2.mem ((c.tc : Thread Cert.OutLnIdeal.nD Cert.OutLnIdeal.τ).loc Cert.OutLnIdeal.main_arg6) = m ((c.tc : Thread Cert.OutLnIdeal.nD Cert.OutLnIdeal.τ).loc Cert.OutLnIdeal.main_arg6))
      ∧ r.2.sem = fun _ => 0)

def quiescent_OutLnRefIdeal [hOutLnRefIdeal : Cert.OutLnRefIdeal.Facts] : Prop :=
  ∀ (m : (ℓ : Loc Cert.OutLnRefIdeal.nD Cert.OutLnRefIdeal.τ Cert.OutLnRefIdeal.sig) → Buf (Elt Ideal) ℓ) (g : Dev Cert.OutLnRefIdeal.nD → PrngReg), Pre_OutLnRefIdeal m →
    θ_run (Cert.OutLnRefIdeal.defs (F := Ideal)) (onTc (τ := Cert.OutLnRefIdeal.τ) (Cert.OutLnRefIdeal.main (F := Ideal))) ⟨m, fun _ => 0, g⟩ (fun r => (∀ c : Dev Cert.OutLnRefIdeal.nD,
      r.2.mem ((c.tc : Thread Cert.OutLnRefIdeal.nD Cert.OutLnRefIdeal.τ).loc Cert.OutLnRefIdeal.main_arg0) = m ((c.tc : Thread Cert.OutLnRefIdeal.nD Cert.OutLnRefIdeal.τ).loc Cert.OutLnRefIdeal.main_arg0)
      ∧ r.2.mem ((c.tc : Thread Cert.OutLnRefIdeal.nD Cert.OutLnRefIdeal.τ).loc Cert.OutLnRefIdeal.main_arg1) = m ((c.tc : Thread Cert.OutLnRefIdeal.nD Cert.OutLnRefIdeal.τ).loc Cert.OutLnRefIdeal.main_arg1)
      ∧ r.2.mem ((c.tc : Thread Cert.OutLnRefIdeal.nD Cert.OutLnRefIdeal.τ).loc Cert.OutLnRefIdeal.main_arg2) = m ((c.tc : Thread Cert.OutLnRefIdeal.nD Cert.OutLnRefIdeal.τ).loc Cert.OutLnRefIdeal.main_arg2)
      ∧ r.2.mem ((c.tc : Thread Cert.OutLnRefIdeal.nD Cert.OutLnRefIdeal.τ).loc Cert.OutLnRefIdeal.main_arg3) = m ((c.tc : Thread Cert.OutLnRefIdeal.nD Cert.OutLnRefIdeal.τ).loc Cert.OutLnRefIdeal.main_arg3)
      ∧ r.2.mem ((c.tc : Thread Cert.OutLnRefIdeal.nD Cert.OutLnRefIdeal.τ).loc Cert.OutLnRefIdeal.main_arg4) = m ((c.tc : Thread Cert.OutLnRefIdeal.nD Cert.OutLnRefIdeal.τ).loc Cert.OutLnRefIdeal.main_arg4)
      ∧ r.2.mem ((c.tc : Thread Cert.OutLnRefIdeal.nD Cert.OutLnRefIdeal.τ).loc Cert.OutLnRefIdeal.main_arg5) = m ((c.tc : Thread Cert.OutLnRefIdeal.nD Cert.OutLnRefIdeal.τ).loc Cert.OutLnRefIdeal.main_arg5)
      ∧ r.2.mem ((c.tc : Thread Cert.OutLnRefIdeal.nD Cert.OutLnRefIdeal.τ).loc Cert.OutLnRefIdeal.main_arg6) = m ((c.tc : Thread Cert.OutLnRefIdeal.nD Cert.OutLnRefIdeal.τ).loc Cert.OutLnRefIdeal.main_arg6))
      ∧ r.2.sem = fun _ => 0)

def quiescent_FfnUp [hFfnUp : Cert.FfnUp.Facts] [hPre_up_in_range : Cert.Pre_up_in_range.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4)
      ∧ r.2.mem ((c.tc : Thread Cert.FfnUp.nD Cert.FfnUp.τ).loc Cert.FfnUp.main_arg5) = m ((c.tc : Thread Cert.FfnUp.nD Cert.FfnUp.τ).loc Cert.FfnUp.main_arg5)
      ∧ r.2.mem ((c.tc : Thread Cert.FfnUp.nD Cert.FfnUp.τ).loc Cert.FfnUp.main_arg6) = m ((c.tc : Thread Cert.FfnUp.nD Cert.FfnUp.τ).loc Cert.FfnUp.main_arg6)
      ∧ r.2.mem ((c.tc : Thread Cert.FfnUp.nD Cert.FfnUp.τ).loc Cert.FfnUp.main_arg7) = m ((c.tc : Thread Cert.FfnUp.nD Cert.FfnUp.τ).loc Cert.FfnUp.main_arg7)
      ∧ r.2.mem ((c.tc : Thread Cert.FfnUp.nD Cert.FfnUp.τ).loc Cert.FfnUp.main_arg8) = m ((c.tc : Thread Cert.FfnUp.nD Cert.FfnUp.τ).loc Cert.FfnUp.main_arg8))
      ∧ r.2.sem = fun _ => 0)

def quiescent_FfnUpIdeal [hFfnUpIdeal : Cert.FfnUpIdeal.Facts] [hPre_up_in_range : Cert.Pre_up_in_range.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
      ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5)
      ∧ r.2.mem ((c.tc : Thread Cert.FfnUpIdeal.nD Cert.FfnUpIdeal.τ).loc Cert.FfnUpIdeal.main_arg6) = m ((c.tc : Thread Cert.FfnUpIdeal.nD Cert.FfnUpIdeal.τ).loc Cert.FfnUpIdeal.main_arg6)
      ∧ r.2.mem ((c.tc : Thread Cert.FfnUpIdeal.nD Cert.FfnUpIdeal.τ).loc Cert.FfnUpIdeal.main_arg7) = m ((c.tc : Thread Cert.FfnUpIdeal.nD Cert.FfnUpIdeal.τ).loc Cert.FfnUpIdeal.main_arg7)
      ∧ r.2.mem ((c.tc : Thread Cert.FfnUpIdeal.nD Cert.FfnUpIdeal.τ).loc Cert.FfnUpIdeal.main_arg8) = m ((c.tc : Thread Cert.FfnUpIdeal.nD Cert.FfnUpIdeal.τ).loc Cert.FfnUpIdeal.main_arg8))
      ∧ r.2.sem = fun _ => 0)

def quiescent_FfnUpIdeal_pre_up_routed [hFfnUpIdeal : Cert.FfnUpIdeal.Facts] [hPre_up_routed : Cert.Pre_up_routed.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal_up_routed m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
      ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5)
      ∧ r.2.mem ((c.tc : Thread Cert.FfnUpIdeal.nD Cert.FfnUpIdeal.τ).loc Cert.FfnUpIdeal.main_arg6) = m ((c.tc : Thread Cert.FfnUpIdeal.nD Cert.FfnUpIdeal.τ).loc Cert.FfnUpIdeal.main_arg6)
      ∧ r.2.mem ((c.tc : Thread Cert.FfnUpIdeal.nD Cert.FfnUpIdeal.τ).loc Cert.FfnUpIdeal.main_arg7) = m ((c.tc : Thread Cert.FfnUpIdeal.nD Cert.FfnUpIdeal.τ).loc Cert.FfnUpIdeal.main_arg7)
      ∧ r.2.mem ((c.tc : Thread Cert.FfnUpIdeal.nD Cert.FfnUpIdeal.τ).loc Cert.FfnUpIdeal.main_arg8) = m ((c.tc : Thread Cert.FfnUpIdeal.nD Cert.FfnUpIdeal.τ).loc Cert.FfnUpIdeal.main_arg8))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4)
      ∧ r.2.mem ((c.tc : Thread Cert.FfnUpRefIdeal.nD Cert.FfnUpRefIdeal.τ).loc Cert.FfnUpRefIdeal.main_arg5) = m ((c.tc : Thread Cert.FfnUpRefIdeal.nD Cert.FfnUpRefIdeal.τ).loc Cert.FfnUpRefIdeal.main_arg5)
      ∧ r.2.mem ((c.tc : Thread Cert.FfnUpRefIdeal.nD Cert.FfnUpRefIdeal.τ).loc Cert.FfnUpRefIdeal.main_arg6) = m ((c.tc : Thread Cert.FfnUpRefIdeal.nD Cert.FfnUpRefIdeal.τ).loc Cert.FfnUpRefIdeal.main_arg6)
      ∧ r.2.mem ((c.tc : Thread Cert.FfnUpRefIdeal.nD Cert.FfnUpRefIdeal.τ).loc Cert.FfnUpRefIdeal.main_arg7) = m ((c.tc : Thread Cert.FfnUpRefIdeal.nD Cert.FfnUpRefIdeal.τ).loc Cert.FfnUpRefIdeal.main_arg7)
      ∧ r.2.mem ((c.tc : Thread Cert.FfnUpRefIdeal.nD Cert.FfnUpRefIdeal.τ).loc Cert.FfnUpRefIdeal.main_arg8) = m ((c.tc : Thread Cert.FfnUpRefIdeal.nD Cert.FfnUpRefIdeal.τ).loc Cert.FfnUpRefIdeal.main_arg8))
      ∧ r.2.sem = fun _ => 0)

def quiescent_FfnUpRefIdeal_pre_up_routed [hFfnUpRefIdeal : Cert.FfnUpRefIdeal.Facts] [hPre_up_routed : Cert.Pre_up_routed.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal_up_routed m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4)
      ∧ r.2.mem ((c.tc : Thread Cert.FfnUpRefIdeal.nD Cert.FfnUpRefIdeal.τ).loc Cert.FfnUpRefIdeal.main_arg5) = m ((c.tc : Thread Cert.FfnUpRefIdeal.nD Cert.FfnUpRefIdeal.τ).loc Cert.FfnUpRefIdeal.main_arg5)
      ∧ r.2.mem ((c.tc : Thread Cert.FfnUpRefIdeal.nD Cert.FfnUpRefIdeal.τ).loc Cert.FfnUpRefIdeal.main_arg6) = m ((c.tc : Thread Cert.FfnUpRefIdeal.nD Cert.FfnUpRefIdeal.τ).loc Cert.FfnUpRefIdeal.main_arg6)
      ∧ r.2.mem ((c.tc : Thread Cert.FfnUpRefIdeal.nD Cert.FfnUpRefIdeal.τ).loc Cert.FfnUpRefIdeal.main_arg7) = m ((c.tc : Thread Cert.FfnUpRefIdeal.nD Cert.FfnUpRefIdeal.τ).loc Cert.FfnUpRefIdeal.main_arg7)
      ∧ r.2.mem ((c.tc : Thread Cert.FfnUpRefIdeal.nD Cert.FfnUpRefIdeal.τ).loc Cert.FfnUpRefIdeal.main_arg8) = m ((c.tc : Thread Cert.FfnUpRefIdeal.nD Cert.FfnUpRefIdeal.τ).loc Cert.FfnUpRefIdeal.main_arg8))
      ∧ r.2.sem = fun _ => 0)

def quiescent_FfnDown [hFfnDown : Cert.FfnDown.Facts] [hPre_down_in_range : Cert.Pre_down_in_range.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4)
      ∧ r.2.mem ((c.tc : Thread Cert.FfnDown.nD Cert.FfnDown.τ).loc Cert.FfnDown.main_arg5) = m ((c.tc : Thread Cert.FfnDown.nD Cert.FfnDown.τ).loc Cert.FfnDown.main_arg5)
      ∧ r.2.mem ((c.tc : Thread Cert.FfnDown.nD Cert.FfnDown.τ).loc Cert.FfnDown.main_arg6) = m ((c.tc : Thread Cert.FfnDown.nD Cert.FfnDown.τ).loc Cert.FfnDown.main_arg6))
      ∧ r.2.sem = fun _ => 0)

def quiescent_FfnDownIdeal [hFfnDownIdeal : Cert.FfnDownIdeal.Facts] [hPre_down_in_range : Cert.Pre_down_in_range.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
      ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5)
      ∧ r.2.mem ((c.tc : Thread Cert.FfnDownIdeal.nD Cert.FfnDownIdeal.τ).loc Cert.FfnDownIdeal.main_arg6) = m ((c.tc : Thread Cert.FfnDownIdeal.nD Cert.FfnDownIdeal.τ).loc Cert.FfnDownIdeal.main_arg6))
      ∧ r.2.sem = fun _ => 0)

def quiescent_FfnDownIdeal_pre_down_routed [hFfnDownIdeal : Cert.FfnDownIdeal.Facts] [hPre_down_routed : Cert.Pre_down_routed.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal_down_routed m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
      ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5)
      ∧ r.2.mem ((c.tc : Thread Cert.FfnDownIdeal.nD Cert.FfnDownIdeal.τ).loc Cert.FfnDownIdeal.main_arg6) = m ((c.tc : Thread Cert.FfnDownIdeal.nD Cert.FfnDownIdeal.τ).loc Cert.FfnDownIdeal.main_arg6))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4)
      ∧ r.2.mem ((c.tc : Thread Cert.FfnDownRefIdeal.nD Cert.FfnDownRefIdeal.τ).loc Cert.FfnDownRefIdeal.main_arg5) = m ((c.tc : Thread Cert.FfnDownRefIdeal.nD Cert.FfnDownRefIdeal.τ).loc Cert.FfnDownRefIdeal.main_arg5)
      ∧ r.2.mem ((c.tc : Thread Cert.FfnDownRefIdeal.nD Cert.FfnDownRefIdeal.τ).loc Cert.FfnDownRefIdeal.main_arg6) = m ((c.tc : Thread Cert.FfnDownRefIdeal.nD Cert.FfnDownRefIdeal.τ).loc Cert.FfnDownRefIdeal.main_arg6))
      ∧ r.2.sem = fun _ => 0)

def quiescent_FfnDownRefIdeal_pre_down_routed [hFfnDownRefIdeal : Cert.FfnDownRefIdeal.Facts] [hPre_down_routed : Cert.Pre_down_routed.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal_down_routed m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4)
      ∧ r.2.mem ((c.tc : Thread Cert.FfnDownRefIdeal.nD Cert.FfnDownRefIdeal.τ).loc Cert.FfnDownRefIdeal.main_arg5) = m ((c.tc : Thread Cert.FfnDownRefIdeal.nD Cert.FfnDownRefIdeal.τ).loc Cert.FfnDownRefIdeal.main_arg5)
      ∧ r.2.mem ((c.tc : Thread Cert.FfnDownRefIdeal.nD Cert.FfnDownRefIdeal.τ).loc Cert.FfnDownRefIdeal.main_arg6) = m ((c.tc : Thread Cert.FfnDownRefIdeal.nD Cert.FfnDownRefIdeal.τ).loc Cert.FfnDownRefIdeal.main_arg6))
      ∧ r.2.sem = fun _ => 0)

def quiescent_RglruS [hRglruS : Cert.RglruS.Facts] : Prop :=
  ∀ (m : (ℓ : Loc Cert.RglruS.nD Cert.RglruS.τ Cert.RglruS.sig) → Buf (Elt Bits) ℓ) (g : Dev Cert.RglruS.nD → PrngReg), Pre_RglruS m →
    θ_run (Cert.RglruS.defs (F := Bits)) (onTc (τ := Cert.RglruS.τ) (Cert.RglruS.main (F := Bits))) ⟨m, fun _ => 0, g⟩ (fun r => (∀ c : Dev Cert.RglruS.nD,
      r.2.mem ((c.tc : Thread Cert.RglruS.nD Cert.RglruS.τ).loc Cert.RglruS.main_arg0) = m ((c.tc : Thread Cert.RglruS.nD Cert.RglruS.τ).loc Cert.RglruS.main_arg0)
      ∧ r.2.mem ((c.tc : Thread Cert.RglruS.nD Cert.RglruS.τ).loc Cert.RglruS.main_arg1) = m ((c.tc : Thread Cert.RglruS.nD Cert.RglruS.τ).loc Cert.RglruS.main_arg1)
      ∧ r.2.mem ((c.tc : Thread Cert.RglruS.nD Cert.RglruS.τ).loc Cert.RglruS.main_arg2) = m ((c.tc : Thread Cert.RglruS.nD Cert.RglruS.τ).loc Cert.RglruS.main_arg2)
      ∧ r.2.mem ((c.tc : Thread Cert.RglruS.nD Cert.RglruS.τ).loc Cert.RglruS.main_arg3) = m ((c.tc : Thread Cert.RglruS.nD Cert.RglruS.τ).loc Cert.RglruS.main_arg3)
      ∧ r.2.mem ((c.tc : Thread Cert.RglruS.nD Cert.RglruS.τ).loc Cert.RglruS.main_arg4) = m ((c.tc : Thread Cert.RglruS.nD Cert.RglruS.τ).loc Cert.RglruS.main_arg4)
      ∧ r.2.mem ((c.tc : Thread Cert.RglruS.nD Cert.RglruS.τ).loc Cert.RglruS.main_arg5) = m ((c.tc : Thread Cert.RglruS.nD Cert.RglruS.τ).loc Cert.RglruS.main_arg5)
      ∧ r.2.mem ((c.tc : Thread Cert.RglruS.nD Cert.RglruS.τ).loc Cert.RglruS.main_arg6) = m ((c.tc : Thread Cert.RglruS.nD Cert.RglruS.τ).loc Cert.RglruS.main_arg6)
      ∧ r.2.mem ((c.tc : Thread Cert.RglruS.nD Cert.RglruS.τ).loc Cert.RglruS.main_arg7) = m ((c.tc : Thread Cert.RglruS.nD Cert.RglruS.τ).loc Cert.RglruS.main_arg7)
      ∧ r.2.mem ((c.tc : Thread Cert.RglruS.nD Cert.RglruS.τ).loc Cert.RglruS.main_arg8) = m ((c.tc : Thread Cert.RglruS.nD Cert.RglruS.τ).loc Cert.RglruS.main_arg8)
      ∧ r.2.mem ((c.tc : Thread Cert.RglruS.nD Cert.RglruS.τ).loc Cert.RglruS.main_arg9) = m ((c.tc : Thread Cert.RglruS.nD Cert.RglruS.τ).loc Cert.RglruS.main_arg9))
      ∧ r.2.sem = fun _ => 0)

def quiescent_RglruSIdeal [hRglruSIdeal : Cert.RglruSIdeal.Facts] : Prop :=
  ∀ (m : (ℓ : Loc Cert.RglruSIdeal.nD Cert.RglruSIdeal.τ Cert.RglruSIdeal.sig) → Buf (Elt Ideal) ℓ) (g : Dev Cert.RglruSIdeal.nD → PrngReg), Pre_RglruSIdeal m →
    θ_run (Cert.RglruSIdeal.defs (F := Ideal)) (onTc (τ := Cert.RglruSIdeal.τ) (Cert.RglruSIdeal.main (F := Ideal))) ⟨m, fun _ => 0, g⟩ (fun r => (∀ c : Dev Cert.RglruSIdeal.nD,
      r.2.mem ((c.tc : Thread Cert.RglruSIdeal.nD Cert.RglruSIdeal.τ).loc Cert.RglruSIdeal.main_arg0) = m ((c.tc : Thread Cert.RglruSIdeal.nD Cert.RglruSIdeal.τ).loc Cert.RglruSIdeal.main_arg0)
      ∧ r.2.mem ((c.tc : Thread Cert.RglruSIdeal.nD Cert.RglruSIdeal.τ).loc Cert.RglruSIdeal.main_arg1) = m ((c.tc : Thread Cert.RglruSIdeal.nD Cert.RglruSIdeal.τ).loc Cert.RglruSIdeal.main_arg1)
      ∧ r.2.mem ((c.tc : Thread Cert.RglruSIdeal.nD Cert.RglruSIdeal.τ).loc Cert.RglruSIdeal.main_arg2) = m ((c.tc : Thread Cert.RglruSIdeal.nD Cert.RglruSIdeal.τ).loc Cert.RglruSIdeal.main_arg2)
      ∧ r.2.mem ((c.tc : Thread Cert.RglruSIdeal.nD Cert.RglruSIdeal.τ).loc Cert.RglruSIdeal.main_arg3) = m ((c.tc : Thread Cert.RglruSIdeal.nD Cert.RglruSIdeal.τ).loc Cert.RglruSIdeal.main_arg3)
      ∧ r.2.mem ((c.tc : Thread Cert.RglruSIdeal.nD Cert.RglruSIdeal.τ).loc Cert.RglruSIdeal.main_arg4) = m ((c.tc : Thread Cert.RglruSIdeal.nD Cert.RglruSIdeal.τ).loc Cert.RglruSIdeal.main_arg4)
      ∧ r.2.mem ((c.tc : Thread Cert.RglruSIdeal.nD Cert.RglruSIdeal.τ).loc Cert.RglruSIdeal.main_arg5) = m ((c.tc : Thread Cert.RglruSIdeal.nD Cert.RglruSIdeal.τ).loc Cert.RglruSIdeal.main_arg5)
      ∧ r.2.mem ((c.tc : Thread Cert.RglruSIdeal.nD Cert.RglruSIdeal.τ).loc Cert.RglruSIdeal.main_arg6) = m ((c.tc : Thread Cert.RglruSIdeal.nD Cert.RglruSIdeal.τ).loc Cert.RglruSIdeal.main_arg6)
      ∧ r.2.mem ((c.tc : Thread Cert.RglruSIdeal.nD Cert.RglruSIdeal.τ).loc Cert.RglruSIdeal.main_arg7) = m ((c.tc : Thread Cert.RglruSIdeal.nD Cert.RglruSIdeal.τ).loc Cert.RglruSIdeal.main_arg7)
      ∧ r.2.mem ((c.tc : Thread Cert.RglruSIdeal.nD Cert.RglruSIdeal.τ).loc Cert.RglruSIdeal.main_arg8) = m ((c.tc : Thread Cert.RglruSIdeal.nD Cert.RglruSIdeal.τ).loc Cert.RglruSIdeal.main_arg8)
      ∧ r.2.mem ((c.tc : Thread Cert.RglruSIdeal.nD Cert.RglruSIdeal.τ).loc Cert.RglruSIdeal.main_arg9) = m ((c.tc : Thread Cert.RglruSIdeal.nD Cert.RglruSIdeal.τ).loc Cert.RglruSIdeal.main_arg9))
      ∧ r.2.sem = fun _ => 0)

def quiescent_RglruSRefIdeal [hRglruSRefIdeal : Cert.RglruSRefIdeal.Facts] : Prop :=
  ∀ (m : (ℓ : Loc Cert.RglruSRefIdeal.nD Cert.RglruSRefIdeal.τ Cert.RglruSRefIdeal.sig) → Buf (Elt Ideal) ℓ) (g : Dev Cert.RglruSRefIdeal.nD → PrngReg), Pre_RglruSRefIdeal m →
    θ_run (Cert.RglruSRefIdeal.defs (F := Ideal)) (onTc (τ := Cert.RglruSRefIdeal.τ) (Cert.RglruSRefIdeal.main (F := Ideal))) ⟨m, fun _ => 0, g⟩ (fun r => (∀ c : Dev Cert.RglruSRefIdeal.nD,
      r.2.mem ((c.tc : Thread Cert.RglruSRefIdeal.nD Cert.RglruSRefIdeal.τ).loc Cert.RglruSRefIdeal.main_arg0) = m ((c.tc : Thread Cert.RglruSRefIdeal.nD Cert.RglruSRefIdeal.τ).loc Cert.RglruSRefIdeal.main_arg0)
      ∧ r.2.mem ((c.tc : Thread Cert.RglruSRefIdeal.nD Cert.RglruSRefIdeal.τ).loc Cert.RglruSRefIdeal.main_arg1) = m ((c.tc : Thread Cert.RglruSRefIdeal.nD Cert.RglruSRefIdeal.τ).loc Cert.RglruSRefIdeal.main_arg1)
      ∧ r.2.mem ((c.tc : Thread Cert.RglruSRefIdeal.nD Cert.RglruSRefIdeal.τ).loc Cert.RglruSRefIdeal.main_arg2) = m ((c.tc : Thread Cert.RglruSRefIdeal.nD Cert.RglruSRefIdeal.τ).loc Cert.RglruSRefIdeal.main_arg2)
      ∧ r.2.mem ((c.tc : Thread Cert.RglruSRefIdeal.nD Cert.RglruSRefIdeal.τ).loc Cert.RglruSRefIdeal.main_arg3) = m ((c.tc : Thread Cert.RglruSRefIdeal.nD Cert.RglruSRefIdeal.τ).loc Cert.RglruSRefIdeal.main_arg3)
      ∧ r.2.mem ((c.tc : Thread Cert.RglruSRefIdeal.nD Cert.RglruSRefIdeal.τ).loc Cert.RglruSRefIdeal.main_arg4) = m ((c.tc : Thread Cert.RglruSRefIdeal.nD Cert.RglruSRefIdeal.τ).loc Cert.RglruSRefIdeal.main_arg4)
      ∧ r.2.mem ((c.tc : Thread Cert.RglruSRefIdeal.nD Cert.RglruSRefIdeal.τ).loc Cert.RglruSRefIdeal.main_arg5) = m ((c.tc : Thread Cert.RglruSRefIdeal.nD Cert.RglruSRefIdeal.τ).loc Cert.RglruSRefIdeal.main_arg5)
      ∧ r.2.mem ((c.tc : Thread Cert.RglruSRefIdeal.nD Cert.RglruSRefIdeal.τ).loc Cert.RglruSRefIdeal.main_arg6) = m ((c.tc : Thread Cert.RglruSRefIdeal.nD Cert.RglruSRefIdeal.τ).loc Cert.RglruSRefIdeal.main_arg6)
      ∧ r.2.mem ((c.tc : Thread Cert.RglruSRefIdeal.nD Cert.RglruSRefIdeal.τ).loc Cert.RglruSRefIdeal.main_arg7) = m ((c.tc : Thread Cert.RglruSRefIdeal.nD Cert.RglruSRefIdeal.τ).loc Cert.RglruSRefIdeal.main_arg7)
      ∧ r.2.mem ((c.tc : Thread Cert.RglruSRefIdeal.nD Cert.RglruSRefIdeal.τ).loc Cert.RglruSRefIdeal.main_arg8) = m ((c.tc : Thread Cert.RglruSRefIdeal.nD Cert.RglruSRefIdeal.τ).loc Cert.RglruSRefIdeal.main_arg8)
      ∧ r.2.mem ((c.tc : Thread Cert.RglruSRefIdeal.nD Cert.RglruSRefIdeal.τ).loc Cert.RglruSRefIdeal.main_arg9) = m ((c.tc : Thread Cert.RglruSRefIdeal.nD Cert.RglruSRefIdeal.τ).loc Cert.RglruSRefIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_band_finite [hKernelIdeal : Cert.KernelIdeal.Facts] [hReferenceIdeal : Cert.ReferenceIdeal.Facts] [hPre_band_finite : Cert.Pre_band_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_band_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_AttProj_AttProjIdeal : Prop :=
  True

def algebraic_AttProjIdeal_AttProjRefIdeal [hAttProjIdeal : Cert.AttProjIdeal.Facts] [hAttProjRefIdeal : Cert.AttProjRefIdeal.Facts] : Prop :=
  ∀ (m : (ℓ : Loc Cert.AttProjIdeal.nD Cert.AttProjIdeal.τ Cert.AttProjIdeal.sig) → Buf (Elt Ideal) ℓ) (g : Dev Cert.AttProjIdeal.nD → PrngReg)
    (m' : (ℓ : Loc Cert.AttProjRefIdeal.nD Cert.AttProjRefIdeal.τ Cert.AttProjRefIdeal.sig) → Buf (Elt Ideal) ℓ) (g' : Dev Cert.AttProjRefIdeal.nD → PrngReg), Pre_AttProjIdeal m →
    (∀ c : Dev Cert.AttProjIdeal.nD,
      m' ((c.tc : Thread Cert.AttProjRefIdeal.nD Cert.AttProjRefIdeal.τ).loc Cert.AttProjRefIdeal.main_arg0) = m ((c.tc : Thread Cert.AttProjIdeal.nD Cert.AttProjIdeal.τ).loc Cert.AttProjIdeal.main_arg0)
      ∧ m' ((c.tc : Thread Cert.AttProjRefIdeal.nD Cert.AttProjRefIdeal.τ).loc Cert.AttProjRefIdeal.main_arg1) = m ((c.tc : Thread Cert.AttProjIdeal.nD Cert.AttProjIdeal.τ).loc Cert.AttProjIdeal.main_arg1)) →
    ∃ (v0 : (c : Dev Cert.AttProjIdeal.nD) → Buf (Elt Ideal) ((c.tc : Thread Cert.AttProjIdeal.nD Cert.AttProjIdeal.τ).loc Cert.AttProjIdeal.main_v4)),
      θ_run (Cert.AttProjIdeal.defs (F := Ideal)) (onTc (τ := Cert.AttProjIdeal.τ) (Cert.AttProjIdeal.main (F := Ideal))) ⟨m, fun _ => 0, g⟩ (fun r => ∀ c : Dev Cert.AttProjIdeal.nD,
          r.2.mem ((c.tc : Thread Cert.AttProjIdeal.nD Cert.AttProjIdeal.τ).loc Cert.AttProjIdeal.main_v4) = v0 c
          ∧ r.2.mem ((c.tc : Thread Cert.AttProjIdeal.nD Cert.AttProjIdeal.τ).loc Cert.AttProjIdeal.main_arg0) = m ((c.tc : Thread Cert.AttProjIdeal.nD Cert.AttProjIdeal.τ).loc Cert.AttProjIdeal.main_arg0)
          ∧ r.2.mem ((c.tc : Thread Cert.AttProjIdeal.nD Cert.AttProjIdeal.τ).loc Cert.AttProjIdeal.main_arg1) = m ((c.tc : Thread Cert.AttProjIdeal.nD Cert.AttProjIdeal.τ).loc Cert.AttProjIdeal.main_arg1))
      ∧ θ_run (Cert.AttProjRefIdeal.defs (F := Ideal)) (onTc (τ := Cert.AttProjRefIdeal.τ) (Cert.AttProjRefIdeal.main (F := Ideal))) ⟨m', fun _ => 0, g'⟩ (fun r => ∀ c : Dev Cert.AttProjRefIdeal.nD,
          r.2.mem ((c.tc : Thread Cert.AttProjRefIdeal.nD Cert.AttProjRefIdeal.τ).loc Cert.AttProjRefIdeal.main_v4) = v0 c
          ∧ r.2.mem ((c.tc : Thread Cert.AttProjRefIdeal.nD Cert.AttProjRefIdeal.τ).loc Cert.AttProjRefIdeal.main_arg0) = m' ((c.tc : Thread Cert.AttProjRefIdeal.nD Cert.AttProjRefIdeal.τ).loc Cert.AttProjRefIdeal.main_arg0)
          ∧ r.2.mem ((c.tc : Thread Cert.AttProjRefIdeal.nD Cert.AttProjRefIdeal.τ).loc Cert.AttProjRefIdeal.main_arg1) = m' ((c.tc : Thread Cert.AttProjRefIdeal.nD Cert.AttProjRefIdeal.τ).loc Cert.AttProjRefIdeal.main_arg1))

def preserves_GateProj_GateProjIdeal : Prop :=
  True

def algebraic_GateProjIdeal_GateProjRefIdeal [hGateProjIdeal : Cert.GateProjIdeal.Facts] [hGateProjRefIdeal : Cert.GateProjRefIdeal.Facts] : Prop :=
  ∀ (m : (ℓ : Loc Cert.GateProjIdeal.nD Cert.GateProjIdeal.τ Cert.GateProjIdeal.sig) → Buf (Elt Ideal) ℓ) (g : Dev Cert.GateProjIdeal.nD → PrngReg)
    (m' : (ℓ : Loc Cert.GateProjRefIdeal.nD Cert.GateProjRefIdeal.τ Cert.GateProjRefIdeal.sig) → Buf (Elt Ideal) ℓ) (g' : Dev Cert.GateProjRefIdeal.nD → PrngReg), Pre_GateProjIdeal m →
    (∀ c : Dev Cert.GateProjIdeal.nD,
      m' ((c.tc : Thread Cert.GateProjRefIdeal.nD Cert.GateProjRefIdeal.τ).loc Cert.GateProjRefIdeal.main_arg0) = m ((c.tc : Thread Cert.GateProjIdeal.nD Cert.GateProjIdeal.τ).loc Cert.GateProjIdeal.main_arg0)
      ∧ m' ((c.tc : Thread Cert.GateProjRefIdeal.nD Cert.GateProjRefIdeal.τ).loc Cert.GateProjRefIdeal.main_arg1) = m ((c.tc : Thread Cert.GateProjIdeal.nD Cert.GateProjIdeal.τ).loc Cert.GateProjIdeal.main_arg1)
      ∧ m' ((c.tc : Thread Cert.GateProjRefIdeal.nD Cert.GateProjRefIdeal.τ).loc Cert.GateProjRefIdeal.main_arg2) = m ((c.tc : Thread Cert.GateProjIdeal.nD Cert.GateProjIdeal.τ).loc Cert.GateProjIdeal.main_arg2)) →
    ∃ (v0 : (c : Dev Cert.GateProjIdeal.nD) → Buf (Elt Ideal) ((c.tc : Thread Cert.GateProjIdeal.nD Cert.GateProjIdeal.τ).loc Cert.GateProjIdeal.main_v5)),
      θ_run (Cert.GateProjIdeal.defs (F := Ideal)) (onTc (τ := Cert.GateProjIdeal.τ) (Cert.GateProjIdeal.main (F := Ideal))) ⟨m, fun _ => 0, g⟩ (fun r => ∀ c : Dev Cert.GateProjIdeal.nD,
          r.2.mem ((c.tc : Thread Cert.GateProjIdeal.nD Cert.GateProjIdeal.τ).loc Cert.GateProjIdeal.main_v5) = v0 c
          ∧ r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
          ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1)
          ∧ r.2.mem ((c.tc : Thread Cert.GateProjIdeal.nD Cert.GateProjIdeal.τ).loc Cert.GateProjIdeal.main_arg2) = m ((c.tc : Thread Cert.GateProjIdeal.nD Cert.GateProjIdeal.τ).loc Cert.GateProjIdeal.main_arg2))
      ∧ θ_run (Cert.GateProjRefIdeal.defs (F := Ideal)) (onTc (τ := Cert.GateProjRefIdeal.τ) (Cert.GateProjRefIdeal.main (F := Ideal))) ⟨m', fun _ => 0, g'⟩ (fun r => ∀ c : Dev Cert.GateProjRefIdeal.nD,
          r.2.mem ((c.tc : Thread Cert.GateProjRefIdeal.nD Cert.GateProjRefIdeal.τ).loc Cert.GateProjRefIdeal.main_v13) = v0 c
          ∧ r.2.mem ((c.tc : Thread Cert.GateProjRefIdeal.nD Cert.GateProjRefIdeal.τ).loc Cert.GateProjRefIdeal.main_arg0) = m' ((c.tc : Thread Cert.GateProjRefIdeal.nD Cert.GateProjRefIdeal.τ).loc Cert.GateProjRefIdeal.main_arg0)
          ∧ r.2.mem ((c.tc : Thread Cert.GateProjRefIdeal.nD Cert.GateProjRefIdeal.τ).loc Cert.GateProjRefIdeal.main_arg1) = m' ((c.tc : Thread Cert.GateProjRefIdeal.nD Cert.GateProjRefIdeal.τ).loc Cert.GateProjRefIdeal.main_arg1)
          ∧ r.2.mem ((c.tc : Thread Cert.GateProjRefIdeal.nD Cert.GateProjRefIdeal.τ).loc Cert.GateProjRefIdeal.main_arg2) = m' ((c.tc : Thread Cert.GateProjRefIdeal.nD Cert.GateProjRefIdeal.τ).loc Cert.GateProjRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v2) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_KvTail_KvTailIdeal : Prop :=
  True

def algebraic_KvTailIdeal_KvTailRefIdeal [hKvTailIdeal : Cert.KvTailIdeal.Facts] [hKvTailRefIdeal : Cert.KvTailRefIdeal.Facts] : Prop :=
  ∀ (m : (ℓ : Loc Cert.KvTailIdeal.nD Cert.KvTailIdeal.τ Cert.KvTailIdeal.sig) → Buf (Elt Ideal) ℓ) (g : Dev Cert.KvTailIdeal.nD → PrngReg)
    (m' : (ℓ : Loc Cert.KvTailRefIdeal.nD Cert.KvTailRefIdeal.τ Cert.KvTailRefIdeal.sig) → Buf (Elt Ideal) ℓ) (g' : Dev Cert.KvTailRefIdeal.nD → PrngReg), Pre_KvTailIdeal m →
    (∀ c : Dev Cert.KvTailIdeal.nD,
      m' ((c.tc : Thread Cert.KvTailRefIdeal.nD Cert.KvTailRefIdeal.τ).loc Cert.KvTailRefIdeal.main_arg0) = m ((c.tc : Thread Cert.KvTailIdeal.nD Cert.KvTailIdeal.τ).loc Cert.KvTailIdeal.main_arg0)
      ∧ m' ((c.tc : Thread Cert.KvTailRefIdeal.nD Cert.KvTailRefIdeal.τ).loc Cert.KvTailRefIdeal.main_arg1) = m ((c.tc : Thread Cert.KvTailIdeal.nD Cert.KvTailIdeal.τ).loc Cert.KvTailIdeal.main_arg1)) →
    ∃ (v0 : (c : Dev Cert.KvTailIdeal.nD) → Buf (Elt Ideal) ((c.tc : Thread Cert.KvTailIdeal.nD Cert.KvTailIdeal.τ).loc Cert.KvTailIdeal.main_v5)),
      θ_run (Cert.KvTailIdeal.defs (F := Ideal)) (onTc (τ := Cert.KvTailIdeal.τ) (Cert.KvTailIdeal.main (F := Ideal))) ⟨m, fun _ => 0, g⟩ (fun r => ∀ c : Dev Cert.KvTailIdeal.nD,
          r.2.mem ((c.tc : Thread Cert.KvTailIdeal.nD Cert.KvTailIdeal.τ).loc Cert.KvTailIdeal.main_v5) = v0 c
          ∧ r.2.mem ((c.tc : Thread Cert.KvTailIdeal.nD Cert.KvTailIdeal.τ).loc Cert.KvTailIdeal.main_arg0) = m ((c.tc : Thread Cert.KvTailIdeal.nD Cert.KvTailIdeal.τ).loc Cert.KvTailIdeal.main_arg0)
          ∧ r.2.mem ((c.tc : Thread Cert.KvTailIdeal.nD Cert.KvTailIdeal.τ).loc Cert.KvTailIdeal.main_arg1) = m ((c.tc : Thread Cert.KvTailIdeal.nD Cert.KvTailIdeal.τ).loc Cert.KvTailIdeal.main_arg1))
      ∧ θ_run (Cert.KvTailRefIdeal.defs (F := Ideal)) (onTc (τ := Cert.KvTailRefIdeal.τ) (Cert.KvTailRefIdeal.main (F := Ideal))) ⟨m', fun _ => 0, g'⟩ (fun r => ∀ c : Dev Cert.KvTailRefIdeal.nD,
          r.2.mem ((c.tc : Thread Cert.KvTailRefIdeal.nD Cert.KvTailRefIdeal.τ).loc Cert.KvTailRefIdeal.main_v3) = v0 c
          ∧ r.2.mem ((c.tc : Thread Cert.KvTailRefIdeal.nD Cert.KvTailRefIdeal.τ).loc Cert.KvTailRefIdeal.main_arg0) = m' ((c.tc : Thread Cert.KvTailRefIdeal.nD Cert.KvTailRefIdeal.τ).loc Cert.KvTailRefIdeal.main_arg0)
          ∧ r.2.mem ((c.tc : Thread Cert.KvTailRefIdeal.nD Cert.KvTailRefIdeal.τ).loc Cert.KvTailRefIdeal.main_arg1) = m' ((c.tc : Thread Cert.KvTailRefIdeal.nD Cert.KvTailRefIdeal.τ).loc Cert.KvTailRefIdeal.main_arg1))

def preserves_KvNew_KvNewIdeal : Prop :=
  True

def algebraic_KvNewIdeal_KvNewRefIdeal [hKvNewIdeal : Cert.KvNewIdeal.Facts] [hKvNewRefIdeal : Cert.KvNewRefIdeal.Facts] : Prop :=
  ∀ (m : (ℓ : Loc Cert.KvNewIdeal.nD Cert.KvNewIdeal.τ Cert.KvNewIdeal.sig) → Buf (Elt Ideal) ℓ) (g : Dev Cert.KvNewIdeal.nD → PrngReg)
    (m' : (ℓ : Loc Cert.KvNewRefIdeal.nD Cert.KvNewRefIdeal.τ Cert.KvNewRefIdeal.sig) → Buf (Elt Ideal) ℓ) (g' : Dev Cert.KvNewRefIdeal.nD → PrngReg), Pre_KvNewIdeal m →
    (∀ c : Dev Cert.KvNewIdeal.nD,
      m' ((c.tc : Thread Cert.KvNewRefIdeal.nD Cert.KvNewRefIdeal.τ).loc Cert.KvNewRefIdeal.main_arg0) = m ((c.tc : Thread Cert.KvNewIdeal.nD Cert.KvNewIdeal.τ).loc Cert.KvNewIdeal.main_arg0)
      ∧ m' ((c.tc : Thread Cert.KvNewRefIdeal.nD Cert.KvNewRefIdeal.τ).loc Cert.KvNewRefIdeal.main_arg1) = m ((c.tc : Thread Cert.KvNewIdeal.nD Cert.KvNewIdeal.τ).loc Cert.KvNewIdeal.main_arg1)) →
    ∃ (v0 : (c : Dev Cert.KvNewIdeal.nD) → Buf (Elt Ideal) ((c.tc : Thread Cert.KvNewIdeal.nD Cert.KvNewIdeal.τ).loc Cert.KvNewIdeal.main_v4)),
      θ_run (Cert.KvNewIdeal.defs (F := Ideal)) (onTc (τ := Cert.KvNewIdeal.τ) (Cert.KvNewIdeal.main (F := Ideal))) ⟨m, fun _ => 0, g⟩ (fun r => ∀ c : Dev Cert.KvNewIdeal.nD,
          r.2.mem ((c.tc : Thread Cert.KvNewIdeal.nD Cert.KvNewIdeal.τ).loc Cert.KvNewIdeal.main_v4) = v0 c
          ∧ r.2.mem ((c.tc : Thread Cert.KvNewIdeal.nD Cert.KvNewIdeal.τ).loc Cert.KvNewIdeal.main_arg0) = m ((c.tc : Thread Cert.KvNewIdeal.nD Cert.KvNewIdeal.τ).loc Cert.KvNewIdeal.main_arg0)
          ∧ r.2.mem ((c.tc : Thread Cert.KvNewIdeal.nD Cert.KvNewIdeal.τ).loc Cert.KvNewIdeal.main_arg1) = m ((c.tc : Thread Cert.KvNewIdeal.nD Cert.KvNewIdeal.τ).loc Cert.KvNewIdeal.main_arg1))
      ∧ θ_run (Cert.KvNewRefIdeal.defs (F := Ideal)) (onTc (τ := Cert.KvNewRefIdeal.τ) (Cert.KvNewRefIdeal.main (F := Ideal))) ⟨m', fun _ => 0, g'⟩ (fun r => ∀ c : Dev Cert.KvNewRefIdeal.nD,
          r.2.mem ((c.tc : Thread Cert.KvNewRefIdeal.nD Cert.KvNewRefIdeal.τ).loc Cert.KvNewRefIdeal.main_v3) = v0 c
          ∧ r.2.mem ((c.tc : Thread Cert.KvNewRefIdeal.nD Cert.KvNewRefIdeal.τ).loc Cert.KvNewRefIdeal.main_arg0) = m' ((c.tc : Thread Cert.KvNewRefIdeal.nD Cert.KvNewRefIdeal.τ).loc Cert.KvNewRefIdeal.main_arg0)
          ∧ r.2.mem ((c.tc : Thread Cert.KvNewRefIdeal.nD Cert.KvNewRefIdeal.τ).loc Cert.KvNewRefIdeal.main_arg1) = m' ((c.tc : Thread Cert.KvNewRefIdeal.nD Cert.KvNewRefIdeal.τ).loc Cert.KvNewRefIdeal.main_arg1))

def preserves_InProjS_InProjSIdeal : Prop :=
  True

def algebraic_InProjSIdeal_InProjSRefIdeal [hInProjSIdeal : Cert.InProjSIdeal.Facts] [hInProjSRefIdeal : Cert.InProjSRefIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InProjSRefIdeal.nD Cert.InProjSRefIdeal.τ Cert.InProjSRefIdeal.sig) → Buf (Elt Ideal) ℓ) (g' : Dev Cert.InProjSRefIdeal.nD → PrngReg), Pre_InProjSIdeal m →
    (∀ c : Dev Cert.InProjSIdeal.nD,
      m' ((c.tc : Thread Cert.InProjSRefIdeal.nD Cert.InProjSRefIdeal.τ).loc Cert.InProjSRefIdeal.main_arg0) = m ((c.tc : Thread Cert.InProjSIdeal.nD Cert.InProjSIdeal.τ).loc Cert.InProjSIdeal.main_arg0)
      ∧ m' ((c.tc : Thread Cert.InProjSRefIdeal.nD Cert.InProjSRefIdeal.τ).loc Cert.InProjSRefIdeal.main_arg1) = m ((c.tc : Thread Cert.InProjSIdeal.nD Cert.InProjSIdeal.τ).loc Cert.InProjSIdeal.main_arg1)) →
    ∃ (v0 : (c : Dev Cert.InProjSIdeal.nD) → Buf (Elt Ideal) ((c.tc : Thread Cert.InProjSIdeal.nD Cert.InProjSIdeal.τ).loc Cert.InProjSIdeal.main_v4)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v4) = v0 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1))
      ∧ θ_run (Cert.InProjSRefIdeal.defs (F := Ideal)) (onTc (τ := Cert.InProjSRefIdeal.τ) (Cert.InProjSRefIdeal.main (F := Ideal))) ⟨m', fun _ => 0, g'⟩ (fun r => ∀ c : Dev Cert.InProjSRefIdeal.nD,
          r.2.mem ((c.tc : Thread Cert.InProjSRefIdeal.nD Cert.InProjSRefIdeal.τ).loc Cert.InProjSRefIdeal.main_v3) = v0 c
          ∧ r.2.mem ((c.tc : Thread Cert.InProjSRefIdeal.nD Cert.InProjSRefIdeal.τ).loc Cert.InProjSRefIdeal.main_arg0) = m' ((c.tc : Thread Cert.InProjSRefIdeal.nD Cert.InProjSRefIdeal.τ).loc Cert.InProjSRefIdeal.main_arg0)
          ∧ r.2.mem ((c.tc : Thread Cert.InProjSRefIdeal.nD Cert.InProjSRefIdeal.τ).loc Cert.InProjSRefIdeal.main_arg1) = m' ((c.tc : Thread Cert.InProjSRefIdeal.nD Cert.InProjSRefIdeal.τ).loc Cert.InProjSRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v22) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_MemAttn_MemAttnIdeal : Prop :=
  True

def algebraic_MemAttnIdeal_MemAttnRefIdeal_pre_mem_finite [hMemAttnIdeal : Cert.MemAttnIdeal.Facts] [hMemAttnRefIdeal : Cert.MemAttnRefIdeal.Facts] [hPre_mem_finite : Cert.Pre_mem_finite.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_mem_finite m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)) →
    ∃ (v0 : (c : Dev Cert.MemAttnIdeal.nD) → Buf (Elt Ideal) ((c.tc : Thread Cert.MemAttnIdeal.nD Cert.MemAttnIdeal.τ).loc Cert.MemAttnIdeal.main_v0)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v0) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v24) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1))

def preserves_CachedAttn_CachedAttnIdeal : Prop :=
  True

def preserves_OutLn_OutLnIdeal : Prop :=
  True

def preserves_FfnUp_FfnUpIdeal : Prop :=
  True

def algebraic_FfnUpIdeal_FfnUpRefIdeal_on_used_rows_FfnUpIdeal_pre_up_routed [hFfnUpIdeal : Cert.FfnUpIdeal.Facts] [hFfnUpRefIdeal : Cert.FfnUpRefIdeal.Facts] [hPre_up_routed : Cert.Pre_up_routed.Facts] [hOn_used_rows_FfnUpIdeal : Cert.On_used_rows_FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal_up_routed m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)
      ∧ m' ((c.tc : Thread Cert.FfnUpRefIdeal.nD Cert.FfnUpRefIdeal.τ).loc Cert.FfnUpRefIdeal.main_arg5) = m ((c.tc : Thread Cert.FfnUpIdeal.nD Cert.FfnUpIdeal.τ).loc Cert.FfnUpIdeal.main_arg5)
      ∧ m' ((c.tc : Thread Cert.FfnUpRefIdeal.nD Cert.FfnUpRefIdeal.τ).loc Cert.FfnUpRefIdeal.main_arg6) = m ((c.tc : Thread Cert.FfnUpIdeal.nD Cert.FfnUpIdeal.τ).loc Cert.FfnUpIdeal.main_arg6)
      ∧ m' ((c.tc : Thread Cert.FfnUpRefIdeal.nD Cert.FfnUpRefIdeal.τ).loc Cert.FfnUpRefIdeal.main_arg7) = m ((c.tc : Thread Cert.FfnUpIdeal.nD Cert.FfnUpIdeal.τ).loc Cert.FfnUpIdeal.main_arg7)
      ∧ m' ((c.tc : Thread Cert.FfnUpRefIdeal.nD Cert.FfnUpRefIdeal.τ).loc Cert.FfnUpRefIdeal.main_arg8) = m ((c.tc : Thread Cert.FfnUpIdeal.nD Cert.FfnUpIdeal.τ).loc Cert.FfnUpIdeal.main_arg8)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          (∀ i : (⟨2, ![148480, 2048]⟩ : Shape).Idx, (Cert.On_used_rows_FfnUpIdeal.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5)) (m ((c.tc : Thread Cert.FfnUpIdeal.nD Cert.FfnUpIdeal.τ).loc Cert.FfnUpIdeal.main_arg6)) (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8))) i = 1#1 → r.2.mem ((c.tc : Thread Cert.FfnUpIdeal.nD Cert.FfnUpIdeal.τ).loc Cert.FfnUpIdeal.main_v0) i = v0 c i)
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
          ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5)
          ∧ r.2.mem ((c.tc : Thread Cert.FfnUpIdeal.nD Cert.FfnUpIdeal.τ).loc Cert.FfnUpIdeal.main_arg6) = m ((c.tc : Thread Cert.FfnUpIdeal.nD Cert.FfnUpIdeal.τ).loc Cert.FfnUpIdeal.main_arg6)
          ∧ r.2.mem ((c.tc : Thread Cert.FfnUpIdeal.nD Cert.FfnUpIdeal.τ).loc Cert.FfnUpIdeal.main_arg7) = m ((c.tc : Thread Cert.FfnUpIdeal.nD Cert.FfnUpIdeal.τ).loc Cert.FfnUpIdeal.main_arg7)
          ∧ r.2.mem ((c.tc : Thread Cert.FfnUpIdeal.nD Cert.FfnUpIdeal.τ).loc Cert.FfnUpIdeal.main_arg8) = m ((c.tc : Thread Cert.FfnUpIdeal.nD Cert.FfnUpIdeal.τ).loc Cert.FfnUpIdeal.main_arg8))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          (∀ i : (⟨2, ![148480, 2048]⟩ : Shape).Idx, (Cert.On_used_rows_FfnUpIdeal.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5)) (m ((c.tc : Thread Cert.FfnUpIdeal.nD Cert.FfnUpIdeal.τ).loc Cert.FfnUpIdeal.main_arg6)) (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8))) i = 1#1 → r.2.mem ((c.tc : Thread Cert.FfnUpRefIdeal.nD Cert.FfnUpRefIdeal.τ).loc Cert.FfnUpRefIdeal.main_v30) i = v0 c i)
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4)
          ∧ r.2.mem ((c.tc : Thread Cert.FfnUpRefIdeal.nD Cert.FfnUpRefIdeal.τ).loc Cert.FfnUpRefIdeal.main_arg5) = m' ((c.tc : Thread Cert.FfnUpRefIdeal.nD Cert.FfnUpRefIdeal.τ).loc Cert.FfnUpRefIdeal.main_arg5)
          ∧ r.2.mem ((c.tc : Thread Cert.FfnUpRefIdeal.nD Cert.FfnUpRefIdeal.τ).loc Cert.FfnUpRefIdeal.main_arg6) = m' ((c.tc : Thread Cert.FfnUpRefIdeal.nD Cert.FfnUpRefIdeal.τ).loc Cert.FfnUpRefIdeal.main_arg6)
          ∧ r.2.mem ((c.tc : Thread Cert.FfnUpRefIdeal.nD Cert.FfnUpRefIdeal.τ).loc Cert.FfnUpRefIdeal.main_arg7) = m' ((c.tc : Thread Cert.FfnUpRefIdeal.nD Cert.FfnUpRefIdeal.τ).loc Cert.FfnUpRefIdeal.main_arg7)
          ∧ r.2.mem ((c.tc : Thread Cert.FfnUpRefIdeal.nD Cert.FfnUpRefIdeal.τ).loc Cert.FfnUpRefIdeal.main_arg8) = m' ((c.tc : Thread Cert.FfnUpRefIdeal.nD Cert.FfnUpRefIdeal.τ).loc Cert.FfnUpRefIdeal.main_arg8))

def preserves_FfnDown_FfnDownIdeal : Prop :=
  True

def algebraic_FfnDownIdeal_FfnDownRefIdeal_on_used_rows_FfnDownIdeal_pre_down_routed [hFfnDownIdeal : Cert.FfnDownIdeal.Facts] [hFfnDownRefIdeal : Cert.FfnDownRefIdeal.Facts] [hPre_down_routed : Cert.Pre_down_routed.Facts] [hOn_used_rows_FfnDownIdeal : Cert.On_used_rows_FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal_down_routed m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)
      ∧ m' ((c.tc : Thread Cert.FfnDownRefIdeal.nD Cert.FfnDownRefIdeal.τ).loc Cert.FfnDownRefIdeal.main_arg5) = m ((c.tc : Thread Cert.FfnDownIdeal.nD Cert.FfnDownIdeal.τ).loc Cert.FfnDownIdeal.main_arg5)
      ∧ m' ((c.tc : Thread Cert.FfnDownRefIdeal.nD Cert.FfnDownRefIdeal.τ).loc Cert.FfnDownRefIdeal.main_arg6) = m ((c.tc : Thread Cert.FfnDownIdeal.nD Cert.FfnDownIdeal.τ).loc Cert.FfnDownIdeal.main_arg6)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          (∀ i : (⟨2, ![148480, 2048]⟩ : Shape).Idx, (Cert.On_used_rows_FfnDownIdeal.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)) (m ((c.tc : Thread Cert.FfnDownIdeal.nD Cert.FfnDownIdeal.τ).loc Cert.FfnDownIdeal.main_arg5)) (m ((c.tc : Thread Cert.FfnDownIdeal.nD Cert.FfnDownIdeal.τ).loc Cert.FfnDownIdeal.main_arg6))) i = 1#1 → r.2.mem ((c.tc : Thread Cert.FfnDownIdeal.nD Cert.FfnDownIdeal.τ).loc Cert.FfnDownIdeal.main_v0) i = v0 c i)
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
          ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5)
          ∧ r.2.mem ((c.tc : Thread Cert.FfnDownIdeal.nD Cert.FfnDownIdeal.τ).loc Cert.FfnDownIdeal.main_arg6) = m ((c.tc : Thread Cert.FfnDownIdeal.nD Cert.FfnDownIdeal.τ).loc Cert.FfnDownIdeal.main_arg6))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          (∀ i : (⟨2, ![148480, 2048]⟩ : Shape).Idx, (Cert.On_used_rows_FfnDownIdeal.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)) (m ((c.tc : Thread Cert.FfnDownIdeal.nD Cert.FfnDownIdeal.τ).loc Cert.FfnDownIdeal.main_arg5)) (m ((c.tc : Thread Cert.FfnDownIdeal.nD Cert.FfnDownIdeal.τ).loc Cert.FfnDownIdeal.main_arg6))) i = 1#1 → r.2.mem ((c.tc : Thread Cert.FfnDownRefIdeal.nD Cert.FfnDownRefIdeal.τ).loc Cert.FfnDownRefIdeal.main_v10) i = v0 c i)
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4)
          ∧ r.2.mem ((c.tc : Thread Cert.FfnDownRefIdeal.nD Cert.FfnDownRefIdeal.τ).loc Cert.FfnDownRefIdeal.main_arg5) = m' ((c.tc : Thread Cert.FfnDownRefIdeal.nD Cert.FfnDownRefIdeal.τ).loc Cert.FfnDownRefIdeal.main_arg5)
          ∧ r.2.mem ((c.tc : Thread Cert.FfnDownRefIdeal.nD Cert.FfnDownRefIdeal.τ).loc Cert.FfnDownRefIdeal.main_arg6) = m' ((c.tc : Thread Cert.FfnDownRefIdeal.nD Cert.FfnDownRefIdeal.τ).loc Cert.FfnDownRefIdeal.main_arg6))

def preserves_RglruS_RglruSIdeal : Prop :=
  True

def algebraic_RglruSIdeal_RglruSRefIdeal [hRglruSIdeal : Cert.RglruSIdeal.Facts] [hRglruSRefIdeal : Cert.RglruSRefIdeal.Facts] : Prop :=
  ∀ (m : (ℓ : Loc Cert.RglruSIdeal.nD Cert.RglruSIdeal.τ Cert.RglruSIdeal.sig) → Buf (Elt Ideal) ℓ) (g : Dev Cert.RglruSIdeal.nD → PrngReg)
    (m' : (ℓ : Loc Cert.RglruSRefIdeal.nD Cert.RglruSRefIdeal.τ Cert.RglruSRefIdeal.sig) → Buf (Elt Ideal) ℓ) (g' : Dev Cert.RglruSRefIdeal.nD → PrngReg), Pre_RglruSIdeal m →
    (∀ c : Dev Cert.RglruSIdeal.nD,
      m' ((c.tc : Thread Cert.RglruSRefIdeal.nD Cert.RglruSRefIdeal.τ).loc Cert.RglruSRefIdeal.main_arg0) = m ((c.tc : Thread Cert.RglruSIdeal.nD Cert.RglruSIdeal.τ).loc Cert.RglruSIdeal.main_arg0)
      ∧ m' ((c.tc : Thread Cert.RglruSRefIdeal.nD Cert.RglruSRefIdeal.τ).loc Cert.RglruSRefIdeal.main_arg1) = m ((c.tc : Thread Cert.RglruSIdeal.nD Cert.RglruSIdeal.τ).loc Cert.RglruSIdeal.main_arg1)
      ∧ m' ((c.tc : Thread Cert.RglruSRefIdeal.nD Cert.RglruSRefIdeal.τ).loc Cert.RglruSRefIdeal.main_arg2) = m ((c.tc : Thread Cert.RglruSIdeal.nD Cert.RglruSIdeal.τ).loc Cert.RglruSIdeal.main_arg2)
      ∧ m' ((c.tc : Thread Cert.RglruSRefIdeal.nD Cert.RglruSRefIdeal.τ).loc Cert.RglruSRefIdeal.main_arg3) = m ((c.tc : Thread Cert.RglruSIdeal.nD Cert.RglruSIdeal.τ).loc Cert.RglruSIdeal.main_arg3)
      ∧ m' ((c.tc : Thread Cert.RglruSRefIdeal.nD Cert.RglruSRefIdeal.τ).loc Cert.RglruSRefIdeal.main_arg4) = m ((c.tc : Thread Cert.RglruSIdeal.nD Cert.RglruSIdeal.τ).loc Cert.RglruSIdeal.main_arg4)
      ∧ m' ((c.tc : Thread Cert.RglruSRefIdeal.nD Cert.RglruSRefIdeal.τ).loc Cert.RglruSRefIdeal.main_arg5) = m ((c.tc : Thread Cert.RglruSIdeal.nD Cert.RglruSIdeal.τ).loc Cert.RglruSIdeal.main_arg5)
      ∧ m' ((c.tc : Thread Cert.RglruSRefIdeal.nD Cert.RglruSRefIdeal.τ).loc Cert.RglruSRefIdeal.main_arg6) = m ((c.tc : Thread Cert.RglruSIdeal.nD Cert.RglruSIdeal.τ).loc Cert.RglruSIdeal.main_arg6)
      ∧ m' ((c.tc : Thread Cert.RglruSRefIdeal.nD Cert.RglruSRefIdeal.τ).loc Cert.RglruSRefIdeal.main_arg7) = m ((c.tc : Thread Cert.RglruSIdeal.nD Cert.RglruSIdeal.τ).loc Cert.RglruSIdeal.main_arg7)
      ∧ m' ((c.tc : Thread Cert.RglruSRefIdeal.nD Cert.RglruSRefIdeal.τ).loc Cert.RglruSRefIdeal.main_arg8) = m ((c.tc : Thread Cert.RglruSIdeal.nD Cert.RglruSIdeal.τ).loc Cert.RglruSIdeal.main_arg8)
      ∧ m' ((c.tc : Thread Cert.RglruSRefIdeal.nD Cert.RglruSRefIdeal.τ).loc Cert.RglruSRefIdeal.main_arg9) = m ((c.tc : Thread Cert.RglruSIdeal.nD Cert.RglruSIdeal.τ).loc Cert.RglruSIdeal.main_arg9)) →
    ∃ (v0 : (c : Dev Cert.RglruSIdeal.nD) → Buf (Elt Ideal) ((c.tc : Thread Cert.RglruSIdeal.nD Cert.RglruSIdeal.τ).loc Cert.RglruSIdeal.main_v16_0)) (v1 : (c : Dev Cert.RglruSIdeal.nD) → Buf (Elt Ideal) ((c.tc : Thread Cert.RglruSIdeal.nD Cert.RglruSIdeal.τ).loc Cert.RglruSIdeal.main_v16_1)),
      θ_run (Cert.RglruSIdeal.defs (F := Ideal)) (onTc (τ := Cert.RglruSIdeal.τ) (Cert.RglruSIdeal.main (F := Ideal))) ⟨m, fun _ => 0, g⟩ (fun r => ∀ c : Dev Cert.RglruSIdeal.nD,
          r.2.mem ((c.tc : Thread Cert.RglruSIdeal.nD Cert.RglruSIdeal.τ).loc Cert.RglruSIdeal.main_v16_0) = v0 c
          ∧ r.2.mem ((c.tc : Thread Cert.RglruSIdeal.nD Cert.RglruSIdeal.τ).loc Cert.RglruSIdeal.main_v16_1) = v1 c
          ∧ r.2.mem ((c.tc : Thread Cert.RglruSIdeal.nD Cert.RglruSIdeal.τ).loc Cert.RglruSIdeal.main_arg0) = m ((c.tc : Thread Cert.RglruSIdeal.nD Cert.RglruSIdeal.τ).loc Cert.RglruSIdeal.main_arg0)
          ∧ r.2.mem ((c.tc : Thread Cert.RglruSIdeal.nD Cert.RglruSIdeal.τ).loc Cert.RglruSIdeal.main_arg1) = m ((c.tc : Thread Cert.RglruSIdeal.nD Cert.RglruSIdeal.τ).loc Cert.RglruSIdeal.main_arg1)
          ∧ r.2.mem ((c.tc : Thread Cert.RglruSIdeal.nD Cert.RglruSIdeal.τ).loc Cert.RglruSIdeal.main_arg2) = m ((c.tc : Thread Cert.RglruSIdeal.nD Cert.RglruSIdeal.τ).loc Cert.RglruSIdeal.main_arg2)
          ∧ r.2.mem ((c.tc : Thread Cert.RglruSIdeal.nD Cert.RglruSIdeal.τ).loc Cert.RglruSIdeal.main_arg3) = m ((c.tc : Thread Cert.RglruSIdeal.nD Cert.RglruSIdeal.τ).loc Cert.RglruSIdeal.main_arg3)
          ∧ r.2.mem ((c.tc : Thread Cert.RglruSIdeal.nD Cert.RglruSIdeal.τ).loc Cert.RglruSIdeal.main_arg4) = m ((c.tc : Thread Cert.RglruSIdeal.nD Cert.RglruSIdeal.τ).loc Cert.RglruSIdeal.main_arg4)
          ∧ r.2.mem ((c.tc : Thread Cert.RglruSIdeal.nD Cert.RglruSIdeal.τ).loc Cert.RglruSIdeal.main_arg5) = m ((c.tc : Thread Cert.RglruSIdeal.nD Cert.RglruSIdeal.τ).loc Cert.RglruSIdeal.main_arg5)
          ∧ r.2.mem ((c.tc : Thread Cert.RglruSIdeal.nD Cert.RglruSIdeal.τ).loc Cert.RglruSIdeal.main_arg6) = m ((c.tc : Thread Cert.RglruSIdeal.nD Cert.RglruSIdeal.τ).loc Cert.RglruSIdeal.main_arg6)
          ∧ r.2.mem ((c.tc : Thread Cert.RglruSIdeal.nD Cert.RglruSIdeal.τ).loc Cert.RglruSIdeal.main_arg7) = m ((c.tc : Thread Cert.RglruSIdeal.nD Cert.RglruSIdeal.τ).loc Cert.RglruSIdeal.main_arg7)
          ∧ r.2.mem ((c.tc : Thread Cert.RglruSIdeal.nD Cert.RglruSIdeal.τ).loc Cert.RglruSIdeal.main_arg8) = m ((c.tc : Thread Cert.RglruSIdeal.nD Cert.RglruSIdeal.τ).loc Cert.RglruSIdeal.main_arg8)
          ∧ r.2.mem ((c.tc : Thread Cert.RglruSIdeal.nD Cert.RglruSIdeal.τ).loc Cert.RglruSIdeal.main_arg9) = m ((c.tc : Thread Cert.RglruSIdeal.nD Cert.RglruSIdeal.τ).loc Cert.RglruSIdeal.main_arg9))
      ∧ θ_run (Cert.RglruSRefIdeal.defs (F := Ideal)) (onTc (τ := Cert.RglruSRefIdeal.τ) (Cert.RglruSRefIdeal.main (F := Ideal))) ⟨m', fun _ => 0, g'⟩ (fun r => ∀ c : Dev Cert.RglruSRefIdeal.nD,
          r.2.mem ((c.tc : Thread Cert.RglruSRefIdeal.nD Cert.RglruSRefIdeal.τ).loc Cert.RglruSRefIdeal.main_v211) = v0 c
          ∧ r.2.mem ((c.tc : Thread Cert.RglruSRefIdeal.nD Cert.RglruSRefIdeal.τ).loc Cert.RglruSRefIdeal.main_v212) = v1 c
          ∧ r.2.mem ((c.tc : Thread Cert.RglruSRefIdeal.nD Cert.RglruSRefIdeal.τ).loc Cert.RglruSRefIdeal.main_arg0) = m' ((c.tc : Thread Cert.RglruSRefIdeal.nD Cert.RglruSRefIdeal.τ).loc Cert.RglruSRefIdeal.main_arg0)
          ∧ r.2.mem ((c.tc : Thread Cert.RglruSRefIdeal.nD Cert.RglruSRefIdeal.τ).loc Cert.RglruSRefIdeal.main_arg1) = m' ((c.tc : Thread Cert.RglruSRefIdeal.nD Cert.RglruSRefIdeal.τ).loc Cert.RglruSRefIdeal.main_arg1)
          ∧ r.2.mem ((c.tc : Thread Cert.RglruSRefIdeal.nD Cert.RglruSRefIdeal.τ).loc Cert.RglruSRefIdeal.main_arg2) = m' ((c.tc : Thread Cert.RglruSRefIdeal.nD Cert.RglruSRefIdeal.τ).loc Cert.RglruSRefIdeal.main_arg2)
          ∧ r.2.mem ((c.tc : Thread Cert.RglruSRefIdeal.nD Cert.RglruSRefIdeal.τ).loc Cert.RglruSRefIdeal.main_arg3) = m' ((c.tc : Thread Cert.RglruSRefIdeal.nD Cert.RglruSRefIdeal.τ).loc Cert.RglruSRefIdeal.main_arg3)
          ∧ r.2.mem ((c.tc : Thread Cert.RglruSRefIdeal.nD Cert.RglruSRefIdeal.τ).loc Cert.RglruSRefIdeal.main_arg4) = m' ((c.tc : Thread Cert.RglruSRefIdeal.nD Cert.RglruSRefIdeal.τ).loc Cert.RglruSRefIdeal.main_arg4)
          ∧ r.2.mem ((c.tc : Thread Cert.RglruSRefIdeal.nD Cert.RglruSRefIdeal.τ).loc Cert.RglruSRefIdeal.main_arg5) = m' ((c.tc : Thread Cert.RglruSRefIdeal.nD Cert.RglruSRefIdeal.τ).loc Cert.RglruSRefIdeal.main_arg5)
          ∧ r.2.mem ((c.tc : Thread Cert.RglruSRefIdeal.nD Cert.RglruSRefIdeal.τ).loc Cert.RglruSRefIdeal.main_arg6) = m' ((c.tc : Thread Cert.RglruSRefIdeal.nD Cert.RglruSRefIdeal.τ).loc Cert.RglruSRefIdeal.main_arg6)
          ∧ r.2.mem ((c.tc : Thread Cert.RglruSRefIdeal.nD Cert.RglruSRefIdeal.τ).loc Cert.RglruSRefIdeal.main_arg7) = m' ((c.tc : Thread Cert.RglruSRefIdeal.nD Cert.RglruSRefIdeal.τ).loc Cert.RglruSRefIdeal.main_arg7)
          ∧ r.2.mem ((c.tc : Thread Cert.RglruSRefIdeal.nD Cert.RglruSRefIdeal.τ).loc Cert.RglruSRefIdeal.main_arg8) = m' ((c.tc : Thread Cert.RglruSRefIdeal.nD Cert.RglruSRefIdeal.τ).loc Cert.RglruSRefIdeal.main_arg8)
          ∧ r.2.mem ((c.tc : Thread Cert.RglruSRefIdeal.nD Cert.RglruSRefIdeal.τ).loc Cert.RglruSRefIdeal.main_arg9) = m' ((c.tc : Thread Cert.RglruSRefIdeal.nD Cert.RglruSRefIdeal.τ).loc Cert.RglruSRefIdeal.main_arg9))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hAttProj : Cert.AttProj.Facts) (hAttProjIdeal : Cert.AttProjIdeal.Facts) (hAttProjRefIdeal : Cert.AttProjRefIdeal.Facts) (hGateProj : Cert.GateProj.Facts) (hGateProjIdeal : Cert.GateProjIdeal.Facts) (hGateProjRefIdeal : Cert.GateProjRefIdeal.Facts) (hMemKv : Cert.MemKv.Facts) (hMemKvIdeal : Cert.MemKvIdeal.Facts) (hMemKvRefIdeal : Cert.MemKvRefIdeal.Facts) (hKvTail : Cert.KvTail.Facts) (hKvTailIdeal : Cert.KvTailIdeal.Facts) (hKvTailRefIdeal : Cert.KvTailRefIdeal.Facts) (hKvNew : Cert.KvNew.Facts) (hKvNewIdeal : Cert.KvNewIdeal.Facts) (hKvNewRefIdeal : Cert.KvNewRefIdeal.Facts) (hInProjS : Cert.InProjS.Facts) (hInProjSIdeal : Cert.InProjSIdeal.Facts) (hInProjSRefIdeal : Cert.InProjSRefIdeal.Facts) (hMerge : Cert.Merge.Facts) (hMergeIdeal : Cert.MergeIdeal.Facts) (hMergeRefIdeal : Cert.MergeRefIdeal.Facts) (hMemAttn : Cert.MemAttn.Facts) (hMemAttnIdeal : Cert.MemAttnIdeal.Facts) (hMemAttnRefIdeal : Cert.MemAttnRefIdeal.Facts) (hCachedAttn : Cert.CachedAttn.Facts) (hCachedAttnIdeal : Cert.CachedAttnIdeal.Facts) (hCachedAttnRefIdeal : Cert.CachedAttnRefIdeal.Facts) (hOutLn : Cert.OutLn.Facts) (hOutLnIdeal : Cert.OutLnIdeal.Facts) (hOutLnRefIdeal : Cert.OutLnRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hRglruS : Cert.RglruS.Facts) (hRglruSIdeal : Cert.RglruSIdeal.Facts) (hRglruSRefIdeal : Cert.RglruSRefIdeal.Facts) (hPre_band_finite : Cert.Pre_band_finite.Facts) (hPre_mem_finite : Cert.Pre_mem_finite.Facts) (hPre_up_in_range : Cert.Pre_up_in_range.Facts) (hPre_up_routed : Cert.Pre_up_routed.Facts) (hPre_down_in_range : Cert.Pre_down_in_range.Facts) (hPre_down_routed : Cert.Pre_down_routed.Facts) (hOn_used_rows_FfnUpIdeal : Cert.On_used_rows_FfnUpIdeal.Facts) (hOn_used_rows_FfnDownIdeal : Cert.On_used_rows_FfnDownIdeal.Facts),
    quiescent_Kernel (hKernel := hKernel)
    ∧ quiescent_KernelIdeal (hKernelIdeal := hKernelIdeal)
    ∧ quiescent_KernelIdeal_pre_band_finite (hKernelIdeal := hKernelIdeal) (hPre_band_finite := hPre_band_finite)
    ∧ quiescent_ReferenceIdeal (hReferenceIdeal := hReferenceIdeal)
    ∧ quiescent_ReferenceIdeal_pre_band_finite (hReferenceIdeal := hReferenceIdeal) (hPre_band_finite := hPre_band_finite)
    ∧ quiescent_InProj (hInProj := hInProj)
    ∧ quiescent_InProjIdeal (hInProjIdeal := hInProjIdeal)
    ∧ quiescent_InProjRefIdeal (hInProjRefIdeal := hInProjRefIdeal)
    ∧ quiescent_AttProj (hAttProj := hAttProj)
    ∧ quiescent_AttProjIdeal (hAttProjIdeal := hAttProjIdeal)
    ∧ quiescent_AttProjRefIdeal (hAttProjRefIdeal := hAttProjRefIdeal)
    ∧ quiescent_GateProj (hGateProj := hGateProj)
    ∧ quiescent_GateProjIdeal (hGateProjIdeal := hGateProjIdeal)
    ∧ quiescent_GateProjRefIdeal (hGateProjRefIdeal := hGateProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_KvTail (hKvTail := hKvTail)
    ∧ quiescent_KvTailIdeal (hKvTailIdeal := hKvTailIdeal)
    ∧ quiescent_KvTailRefIdeal (hKvTailRefIdeal := hKvTailRefIdeal)
    ∧ quiescent_KvNew (hKvNew := hKvNew)
    ∧ quiescent_KvNewIdeal (hKvNewIdeal := hKvNewIdeal)
    ∧ quiescent_KvNewRefIdeal (hKvNewRefIdeal := hKvNewRefIdeal)
    ∧ quiescent_InProjS (hInProjS := hInProjS)
    ∧ quiescent_InProjSIdeal (hInProjSIdeal := hInProjSIdeal)
    ∧ quiescent_InProjSRefIdeal (hInProjSRefIdeal := hInProjSRefIdeal)
    ∧ quiescent_Merge (hMerge := hMerge)
    ∧ quiescent_MergeIdeal (hMergeIdeal := hMergeIdeal)
    ∧ quiescent_MergeRefIdeal (hMergeRefIdeal := hMergeRefIdeal)
    ∧ quiescent_MemAttn (hMemAttn := hMemAttn)
    ∧ quiescent_MemAttnIdeal (hMemAttnIdeal := hMemAttnIdeal)
    ∧ quiescent_MemAttnIdeal_pre_mem_finite (hMemAttnIdeal := hMemAttnIdeal) (hPre_mem_finite := hPre_mem_finite)
    ∧ quiescent_MemAttnRefIdeal (hMemAttnRefIdeal := hMemAttnRefIdeal)
    ∧ quiescent_MemAttnRefIdeal_pre_mem_finite (hMemAttnRefIdeal := hMemAttnRefIdeal) (hPre_mem_finite := hPre_mem_finite)
    ∧ quiescent_CachedAttn (hCachedAttn := hCachedAttn)
    ∧ quiescent_CachedAttnIdeal (hCachedAttnIdeal := hCachedAttnIdeal)
    ∧ quiescent_CachedAttnRefIdeal (hCachedAttnRefIdeal := hCachedAttnRefIdeal)
    ∧ quiescent_OutLn (hOutLn := hOutLn)
    ∧ quiescent_OutLnIdeal (hOutLnIdeal := hOutLnIdeal)
    ∧ quiescent_OutLnRefIdeal (hOutLnRefIdeal := hOutLnRefIdeal)
    ∧ quiescent_FfnUp (hFfnUp := hFfnUp) (hPre_up_in_range := hPre_up_in_range)
    ∧ quiescent_FfnUpIdeal (hFfnUpIdeal := hFfnUpIdeal) (hPre_up_in_range := hPre_up_in_range)
    ∧ quiescent_FfnUpIdeal_pre_up_routed (hFfnUpIdeal := hFfnUpIdeal) (hPre_up_routed := hPre_up_routed)
    ∧ quiescent_FfnUpRefIdeal (hFfnUpRefIdeal := hFfnUpRefIdeal)
    ∧ quiescent_FfnUpRefIdeal_pre_up_routed (hFfnUpRefIdeal := hFfnUpRefIdeal) (hPre_up_routed := hPre_up_routed)
    ∧ quiescent_FfnDown (hFfnDown := hFfnDown) (hPre_down_in_range := hPre_down_in_range)
    ∧ quiescent_FfnDownIdeal (hFfnDownIdeal := hFfnDownIdeal) (hPre_down_in_range := hPre_down_in_range)
    ∧ quiescent_FfnDownIdeal_pre_down_routed (hFfnDownIdeal := hFfnDownIdeal) (hPre_down_routed := hPre_down_routed)
    ∧ quiescent_FfnDownRefIdeal (hFfnDownRefIdeal := hFfnDownRefIdeal)
    ∧ quiescent_FfnDownRefIdeal_pre_down_routed (hFfnDownRefIdeal := hFfnDownRefIdeal) (hPre_down_routed := hPre_down_routed)
    ∧ quiescent_RglruS (hRglruS := hRglruS)
    ∧ quiescent_RglruSIdeal (hRglruSIdeal := hRglruSIdeal)
    ∧ quiescent_RglruSRefIdeal (hRglruSRefIdeal := hRglruSRefIdeal)
    ∧ preserves_Kernel_KernelIdeal
    ∧ algebraic_KernelIdeal_ReferenceIdeal_pre_band_finite (hKernelIdeal := hKernelIdeal) (hReferenceIdeal := hReferenceIdeal) (hPre_band_finite := hPre_band_finite)
    ∧ preserves_InProj_InProjIdeal
    ∧ algebraic_InProjIdeal_InProjRefIdeal (hInProjIdeal := hInProjIdeal) (hInProjRefIdeal := hInProjRefIdeal)
    ∧ preserves_AttProj_AttProjIdeal
    ∧ algebraic_AttProjIdeal_AttProjRefIdeal (hAttProjIdeal := hAttProjIdeal) (hAttProjRefIdeal := hAttProjRefIdeal)
    ∧ preserves_GateProj_GateProjIdeal
    ∧ algebraic_GateProjIdeal_GateProjRefIdeal (hGateProjIdeal := hGateProjIdeal) (hGateProjRefIdeal := hGateProjRefIdeal)
    ∧ preserves_MemKv_MemKvIdeal
    ∧ algebraic_MemKvIdeal_MemKvRefIdeal (hMemKvIdeal := hMemKvIdeal) (hMemKvRefIdeal := hMemKvRefIdeal)
    ∧ preserves_KvTail_KvTailIdeal
    ∧ algebraic_KvTailIdeal_KvTailRefIdeal (hKvTailIdeal := hKvTailIdeal) (hKvTailRefIdeal := hKvTailRefIdeal)
    ∧ preserves_KvNew_KvNewIdeal
    ∧ algebraic_KvNewIdeal_KvNewRefIdeal (hKvNewIdeal := hKvNewIdeal) (hKvNewRefIdeal := hKvNewRefIdeal)
    ∧ preserves_InProjS_InProjSIdeal
    ∧ algebraic_InProjSIdeal_InProjSRefIdeal (hInProjSIdeal := hInProjSIdeal) (hInProjSRefIdeal := hInProjSRefIdeal)
    ∧ preserves_Merge_MergeIdeal
    ∧ algebraic_MergeIdeal_MergeRefIdeal (hMergeIdeal := hMergeIdeal) (hMergeRefIdeal := hMergeRefIdeal)
    ∧ preserves_MemAttn_MemAttnIdeal
    ∧ algebraic_MemAttnIdeal_MemAttnRefIdeal_pre_mem_finite (hMemAttnIdeal := hMemAttnIdeal) (hMemAttnRefIdeal := hMemAttnRefIdeal) (hPre_mem_finite := hPre_mem_finite)
    ∧ preserves_CachedAttn_CachedAttnIdeal
    ∧ preserves_OutLn_OutLnIdeal
    ∧ preserves_FfnUp_FfnUpIdeal
    ∧ algebraic_FfnUpIdeal_FfnUpRefIdeal_on_used_rows_FfnUpIdeal_pre_up_routed (hFfnUpIdeal := hFfnUpIdeal) (hFfnUpRefIdeal := hFfnUpRefIdeal) (hPre_up_routed := hPre_up_routed) (hOn_used_rows_FfnUpIdeal := hOn_used_rows_FfnUpIdeal)
    ∧ preserves_FfnDown_FfnDownIdeal
    ∧ algebraic_FfnDownIdeal_FfnDownRefIdeal_on_used_rows_FfnDownIdeal_pre_down_routed (hFfnDownIdeal := hFfnDownIdeal) (hFfnDownRefIdeal := hFfnDownRefIdeal) (hPre_down_routed := hPre_down_routed) (hOn_used_rows_FfnDownIdeal := hOn_used_rows_FfnDownIdeal)
    ∧ preserves_RglruS_RglruSIdeal
    ∧ algebraic_RglruSIdeal_RglruSRefIdeal (hRglruSIdeal := hRglruSIdeal) (hRglruSRefIdeal := hRglruSRefIdeal)
-- ==== On_used_rows_FfnDownIdeal.lean ====
abbrev S289 : Shape := ⟨1, ![289]⟩
abbrev S148480x2048 : Shape := ⟨2, ![148480, 2048]⟩
abbrev S32x2048x2048 : Shape := ⟨3, ![32, 2048, 2048]⟩
abbrev S32x1x2048 : Shape := ⟨3, ![32, 1, 2048]⟩
abbrev S_ : Shape := ⟨0, ![]⟩
abbrev S289x1x1 : Shape := ⟨3, ![289, 1, 1]⟩
abbrev S289x512x2048 : Shape := ⟨3, ![289, 512, 2048]⟩
abbrev S147968x2048 : Shape := ⟨2, ![147968, 2048]⟩

class Facts : Prop where
  bcast_S_S289 : S_.BroadcastsInDim S289 (![] : Fin 0 → Fin S289.rank)
  bcast_S289_S289x1x1_0 : S289.BroadcastsInDim S289x1x1 (![0] : Fin 1 → Fin S289x1x1.rank)
  bcast_S289x1x1_S289x512x2048_0_1_2 : S289x1x1.BroadcastsInDim S289x512x2048 (![0, 1, 2] : Fin 3 → Fin S289x512x2048.rank)
  shapeCasts_S289x512x2048_S147968x2048 : S289x512x2048.ShapeCasts S147968x2048
  bcast_S_S_ : S_.BroadcastsInDim S_ (![] : Fin 0 → Fin S_.rank)
  pads_S147968x2048_S148480x2048_05120_000 : S147968x2048.Pads (![0, 0] : Fin 2 → Nat) ![512, 0] ![0, 0] S148480x2048
  h_S_ : 0 < S_.numel

variable [Facts]

def fn_pad {F : FTy → Type} [FloatOps F] (arg0 : IVec S147968x2048 1) (arg1 : IVec S_ 32) : IVec S148480x2048 1 :=
  let c : IVec S_ 32 := constantI S_ 32 0#32
  let v0 : IVec S_ 32 := broadcastInDim S_ ![] bcast_S_S_ c
  let v1 : IVec S_ 1 := cmpi .ne arg1 v0
  let v2 : IVec S_ 1 := id v1
  let v3 : IVec S148480x2048 1 := (fun x v => pad S148480x2048 ![0, 0] ![512, 0] ![0, 0] x v pads_S147968x2048_S148480x2048_05120_000 h_S_) arg0 v2
  v3

def fn {F : FTy → Type} [FloatOps F] (main_arg0 : IVec S289 32) (main_arg1 : IVec S289 32) (main_arg2 : IVec S289 32) (main_arg3 : IVec S289 32) (main_arg4 : FVec F S148480x2048 .bf16) (main_arg5 : FVec F S32x2048x2048 .bf16) (main_arg6 : FVec F S32x1x2048 .f32) : IVec S148480x2048 1 :=
  let main_c : IVec S_ 32 := constantI S_ 32 1#32
  let main_v0 : IVec S289 32 := broadcastInDim S289 ![] bcast_S_S289 main_c
  let main_v1 : IVec S289 1 := cmpi .eq main_arg3 main_v0
  let main_v2 : IVec S289x1x1 1 := broadcastInDim S289x1x1 ![0] bcast_S289_S289x1x1_0 main_v1
  let main_v3 : IVec S289x512x2048 1 := broadcastInDim S289x512x2048 ![0, 1, 2] bcast_S289x1x1_S289x512x2048_0_1_2 main_v2
  let main_v4 : IVec S147968x2048 1 := shapeCast S147968x2048 main_v3 shapeCasts_S289x512x2048_S147968x2048
  let main_c_0 : IVec S_ 32 := constantI S_ 32 0#32
  let main_v5 : IVec S148480x2048 1 := fn_pad (F := F) main_v4 main_c_0
  main_v5
-- ==== On_used_rows_FfnUpIdeal.lean ====
abbrev S289 : Shape := ⟨1, ![289]⟩
abbrev S147968x2048 : Shape := ⟨2, ![147968, 2048]⟩
abbrev S32x2048x2048 : Shape := ⟨3, ![32, 2048, 2048]⟩
abbrev S32x1x2048 : Shape := ⟨3, ![32, 1, 2048]⟩
abbrev S_ : Shape := ⟨0, ![]⟩
abbrev S289x1x1 : Shape := ⟨3, ![289, 1, 1]⟩
abbrev S289x512x2048 : Shape := ⟨3, ![289, 512, 2048]⟩
abbrev S148480x2048 : Shape := ⟨2, ![148480, 2048]⟩

class Facts : Prop where
  bcast_S_S289 : S_.BroadcastsInDim S289 (![] : Fin 0 → Fin S289.rank)
  bcast_S289_S289x1x1_0 : S289.BroadcastsInDim S289x1x1 (![0] : Fin 1 → Fin S289x1x1.rank)
  bcast_S289x1x1_S289x512x2048_0_1_2 : S289x1x1.BroadcastsInDim S289x512x2048 (![0, 1, 2] : Fin 3 → Fin S289x512x2048.rank)
  shapeCasts_S289x512x2048_S147968x2048 : S289x512x2048.ShapeCasts S147968x2048
  bcast_S_S_ : S_.BroadcastsInDim S_ (![] : Fin 0 → Fin S_.rank)
  pads_S147968x2048_S148480x2048_05120_000 : S147968x2048.Pads (![0, 0] : Fin 2 → Nat) ![512, 0] ![0, 0] S148480x2048
  h_S_ : 0 < S_.numel

variable [Facts]

def fn_pad {F : FTy → Type} [FloatOps F] (arg0 : IVec S147968x2048 1) (arg1 : IVec S_ 32) : IVec S148480x2048 1 :=
  let c : IVec S_ 32 := constantI S_ 32 0#32
  let v0 : IVec S_ 32 := broadcastInDim S_ ![] bcast_S_S_ c
  let v1 : IVec S_ 1 := cmpi .ne arg1 v0
  let v2 : IVec S_ 1 := id v1
  let v3 : IVec S148480x2048 1 := (fun x v => pad S148480x2048 ![0, 0] ![512, 0] ![0, 0] x v pads_S147968x2048_S148480x2048_05120_000 h_S_) arg0 v2
  v3

def fn {F : FTy → Type} [FloatOps F] (main_arg0 : IVec S289 32) (main_arg1 : IVec S289 32) (main_arg2 : IVec S289 32) (main_arg3 : IVec S289 32) (main_arg4 : FVec F S147968x2048 .f32) (main_arg5 : FVec F S32x2048x2048 .bf16) (main_arg6 : FVec F S32x1x2048 .f32) (main_arg7 : FVec F S32x2048x2048 .bf16) (main_arg8 : FVec F S32x1x2048 .f32) : IVec S148480x2048 1 :=
  let main_c : IVec S_ 32 := constantI S_ 32 1#32
  let main_v0 : IVec S289 32 := broadcastInDim S289 ![] bcast_S_S289 main_c
  let main_v1 : IVec S289 1 := cmpi .eq main_arg3 main_v0
  let main_v2 : IVec S289x1x1 1 := broadcastInDim S289x1x1 ![0] bcast_S289_S289x1x1_0 main_v1
  let main_v3 : IVec S289x512x2048 1 := broadcastInDim S289x512x2048 ![0, 1, 2] bcast_S289x1x1_S289x512x2048_0_1_2 main_v2
  let main_v4 : IVec S147968x2048 1 := shapeCast S147968x2048 main_v3 shapeCasts_S289x512x2048_S147968x2048
  let main_c_0 : IVec S_ 32 := constantI S_ 32 0#32
  let main_v5 : IVec S148480x2048 1 := fn_pad (F := F) main_v4 main_c_0
  main_v5
-- ==== Pre_band_finite.lean ====
abbrev S32768x5632 : Shape := ⟨2, ![32768, 5632]⟩
abbrev S12x257 : Shape := ⟨2, ![12, 257]⟩
abbrev S32768x3072 : Shape := ⟨2, ![32768, 3072]⟩
abbrev S_ : Shape := ⟨0, ![]⟩

class Facts : Prop where
  slices_S32768x5632_S32768x3072_0_0 : S32768x5632.Slices ![0, 0] S32768x3072
  bitsLt_bf16_f32 : FTy.bits .bf16 < FTy.bits .f32
  bcast_S_S32768x3072 : S_.BroadcastsInDim S32768x3072 (![] : Fin 0 → Fin S32768x3072.rank)
  bcast_S_S12x257 : S_.BroadcastsInDim S12x257 (![] : Fin 0 → Fin S12x257.rank)

variable [Facts]

def fn {F : FTy → Type} [FloatOps F] (main_arg0 : FVec F S32768x5632 .bf16) (main_arg1 : FVec F S12x257 .f32) : IVec S32768x3072 1 × IVec S12x257 1 :=
  let main_v0 : FVec F S32768x3072 .bf16 := (extractStridedSlice S32768x3072 ![0, 0] · slices_S32768x5632_S32768x3072_0_0) main_arg0
  let main_v1 : FVec F S32768x3072 .f32 := (extf .f32 · bitsLt_bf16_f32) main_v0
  let main_v2 : FVec F S32768x3072 .f32 := Host.absf main_v1
  let main_cst : FVec F S_ .f32 := constant S_ .f32 0x7F800000#32
  let main_v3 : FVec F S32768x3072 .f32 := broadcastInDim S32768x3072 ![] bcast_S_S32768x3072 main_cst
  let main_v4 : IVec S32768x3072 1 := cmpf .olt main_v2 main_v3
  let main_v5 : FVec F S12x257 .f32 := Host.absf main_arg1
  let main_cst_0 : FVec F S_ .f32 := constant S_ .f32 0x7F800000#32
  let main_v6 : FVec F S12x257 .f32 := broadcastInDim S12x257 ![] bcast_S_S12x257 main_cst_0
  let main_v7 : IVec S12x257 1 := cmpf .olt main_v5 main_v6
  (main_v4, main_v7)
-- ==== Pre_down_in_range.lean ====
abbrev S289 : Shape := ⟨1, ![289]⟩
abbrev S148480x2048 : Shape := ⟨2, ![148480, 2048]⟩
abbrev S32x2048x2048 : Shape := ⟨3, ![32, 2048, 2048]⟩
abbrev S32x1x2048 : Shape := ⟨3, ![32, 1, 2048]⟩
abbrev S_ : Shape := ⟨0, ![]⟩

class Facts : Prop where
  bcast_S_S289 : S_.BroadcastsInDim S289 (![] : Fin 0 → Fin S289.rank)

variable [Facts]

def fn {F : FTy → Type} [FloatOps F] (main_arg0 : IVec S289 32) (main_arg1 : IVec S289 32) (main_arg2 : IVec S289 32) (main_arg3 : IVec S289 32) (main_arg4 : FVec F S148480x2048 .bf16) (main_arg5 : FVec F S32x2048x2048 .bf16) (main_arg6 : FVec F S32x1x2048 .f32) : IVec S289 1 × IVec S289 1 × IVec S289 1 :=
  let main_c : IVec S_ 32 := constantI S_ 32 0#32
  let main_v0 : IVec S289 32 := broadcastInDim S289 ![] bcast_S_S289 main_c
  let main_v1 : IVec S289 1 := cmpi .sge main_arg0 main_v0
  let main_c_0 : IVec S_ 32 := constantI S_ 32 32#32
  let main_v2 : IVec S289 32 := broadcastInDim S289 ![] bcast_S_S289 main_c_0
  let main_v3 : IVec S289 1 := cmpi .slt main_arg0 main_v2
  let main_v4 : IVec S289 1 := andi main_v1 main_v3
  let main_c_1 : IVec S_ 32 := constantI S_ 32 0#32
  let main_v5 : IVec S289 32 := broadcastInDim S289 ![] bcast_S_S289 main_c_1
  let main_v6 : IVec S289 1 := cmpi .sge main_arg1 main_v5
  let main_c_2 : IVec S_ 32 := constantI S_ 32 289#32
  let main_v7 : IVec S289 32 := broadcastInDim S289 ![] bcast_S_S289 main_c_2
  let main_v8 : IVec S289 1 := cmpi .slt main_arg1 main_v7
  let main_v9 : IVec S289 1 := andi main_v6 main_v8
  let main_c_3 : IVec S_ 32 := constantI S_ 32 0#32
  let main_v10 : IVec S289 32 := broadcastInDim S289 ![] bcast_S_S289 main_c_3
  let main_v11 : IVec S289 1 := cmpi .sge main_arg2 main_v10
  let main_c_4 : IVec S_ 32 := constantI S_ 32 290#32
  let main_v12 : IVec S289 32 := broadcastInDim S289 ![] bcast_S_S289 main_c_4
  let main_v13 : IVec S289 1 := cmpi .slt main_arg2 main_v12
  let main_v14 : IVec S289 1 := andi main_v11 main_v13
  (main_v4, main_v9, main_v14)
-- ==== Pre_down_routed.lean ====
abbrev S289 : Shape := ⟨1, ![289]⟩
abbrev S148480x2048 : Shape := ⟨2, ![148480, 2048]⟩
abbrev S32x2048x2048 : Shape := ⟨3, ![32, 2048, 2048]⟩
abbrev S32x1x2048 : Shape := ⟨3, ![32, 1, 2048]⟩
abbrev S_ : Shape := ⟨0, ![]⟩

class Facts : Prop where
  bcast_S_S289 : S_.BroadcastsInDim S289 (![] : Fin 0 → Fin S289.rank)

variable [Facts]

def fn_where {F : FTy → Type} [FloatOps F] (arg0 : IVec S289 1) (arg1 : IVec S289 1) (arg2 : IVec S289 1) : IVec S289 1 :=
  let v0 : IVec S289 1 := select arg0 arg1 arg2
  v0

def fn_part1 {F : FTy → Type} [FloatOps F] (main_arg1 : IVec S289 32) (main_arg2 : IVec S289 32) (main_arg3 : IVec S289 32) (main_v0 : IVec S289 32) (main_v5 : IVec S289 1) (main_v10 : IVec S289 1) (main_v15 : IVec S289 1) (main_v16 : IVec S289 32) : IVec S289 1 × IVec S289 1 × IVec S289 1 × IVec S289 1 :=
  let main_v17 : IVec S289 1 := cmpi .eq main_arg3 main_v16
  let main_v18 : IVec S289 1 := cmpi .eq main_arg1 main_v0
  let main_v19 : IVec S289 1 := cmpi .eq main_arg2 main_v0
  let main_v20 : IVec S289 1 := andi main_v18 main_v19
  let main_c_6 : IVec S_ 32 := constantI S_ 32 289#32
  let main_v21 : IVec S289 32 := broadcastInDim S289 ![] bcast_S_S289 main_c_6
  let main_v22 : IVec S289 1 := cmpi .eq main_arg2 main_v21
  let main_v23 : IVec S289 1 := fn_where (F := F) main_v17 main_v20 main_v22
  (main_v5, main_v10, main_v15, main_v23)

def fn {F : FTy → Type} [FloatOps F] (main_arg0 : IVec S289 32) (main_arg1 : IVec S289 32) (main_arg2 : IVec S289 32) (main_arg3 : IVec S289 32) (main_arg4 : FVec F S148480x2048 .bf16) (main_arg5 : FVec F S32x2048x2048 .bf16) (main_arg6 : FVec F S32x1x2048 .f32) : IVec S289 1 × IVec S289 1 × IVec S289 1 × IVec S289 1 :=
  let main_v0 : IVec S289 32 := iotaInDim S289 32 0
  let main_c : IVec S_ 32 := constantI S_ 32 0#32
  let main_v1 : IVec S289 32 := broadcastInDim S289 ![] bcast_S_S289 main_c
  let main_v2 : IVec S289 1 := cmpi .sge main_arg0 main_v1
  let main_c_0 : IVec S_ 32 := constantI S_ 32 32#32
  let main_v3 : IVec S289 32 := broadcastInDim S289 ![] bcast_S_S289 main_c_0
  let main_v4 : IVec S289 1 := cmpi .slt main_arg0 main_v3
  let main_v5 : IVec S289 1 := andi main_v2 main_v4
  let main_c_1 : IVec S_ 32 := constantI S_ 32 0#32
  let main_v6 : IVec S289 32 := broadcastInDim S289 ![] bcast_S_S289 main_c_1
  let main_v7 : IVec S289 1 := cmpi .sge main_arg1 main_v6
  let main_c_2 : IVec S_ 32 := constantI S_ 32 289#32
  let main_v8 : IVec S289 32 := broadcastInDim S289 ![] bcast_S_S289 main_c_2
  let main_v9 : IVec S289 1 := cmpi .slt main_arg1 main_v8
  let main_v10 : IVec S289 1 := andi main_v7 main_v9
  let main_c_3 : IVec S_ 32 := constantI S_ 32 0#32
  let main_v11 : IVec S289 32 := broadcastInDim S289 ![] bcast_S_S289 main_c_3
  let main_v12 : IVec S289 1 := cmpi .sge main_arg2 main_v11
  let main_c_4 : IVec S_ 32 := constantI S_ 32 290#32
  let main_v13 : IVec S289 32 := broadcastInDim S289 ![] bcast_S_S289 main_c_4
  let main_v14 : IVec S289 1 := cmpi .slt main_arg2 main_v13
  let main_v15 : IVec S289 1 := andi main_v12 main_v14
  let main_c_5 : IVec S_ 32 := constantI S_ 32 1#32
  let main_v16 : IVec S289 32 := broadcastInDim S289 ![] bcast_S_S289 main_c_5
  fn_part1 (F := F) main_arg1 main_arg2 main_arg3 main_v0 main_v5 main_v10 main_v15 main_v16
-- ==== Pre_mem_finite.lean ====
abbrev S32768x5632 : Shape := ⟨2, ![32768, 5632]⟩
abbrev S1024x2048 : Shape := ⟨2, ![1024, 2048]⟩
abbrev S32768x1024 : Shape := ⟨2, ![32768, 1024]⟩
abbrev S_ : Shape := ⟨0, ![]⟩
abbrev S1024x1024 : Shape := ⟨2, ![1024, 1024]⟩

class Facts : Prop where
  slices_S32768x5632_S32768x1024_0_4608 : S32768x5632.Slices ![0, 4608] S32768x1024
  bitsLt_bf16_f32 : FTy.bits .bf16 < FTy.bits .f32
  bcast_S_S32768x1024 : S_.BroadcastsInDim S32768x1024 (![] : Fin 0 → Fin S32768x1024.rank)
  slices_S1024x2048_S1024x1024_0_0 : S1024x2048.Slices ![0, 0] S1024x1024
  bcast_S_S1024x1024 : S_.BroadcastsInDim S1024x1024 (![] : Fin 0 → Fin S1024x1024.rank)

variable [Facts]

def fn {F : FTy → Type} [FloatOps F] (main_arg0 : FVec F S32768x5632 .bf16) (main_arg1 : FVec F S1024x2048 .f32) : IVec S32768x1024 1 × IVec S1024x1024 1 :=
  let main_v0 : FVec F S32768x1024 .bf16 := (extractStridedSlice S32768x1024 ![0, 4608] · slices_S32768x5632_S32768x1024_0_4608) main_arg0
  let main_v1 : FVec F S32768x1024 .f32 := (extf .f32 · bitsLt_bf16_f32) main_v0
  let main_v2 : FVec F S32768x1024 .f32 := Host.absf main_v1
  let main_cst : FVec F S_ .f32 := constant S_ .f32 0x7F800000#32
  let main_v3 : FVec F S32768x1024 .f32 := broadcastInDim S32768x1024 ![] bcast_S_S32768x1024 main_cst
  let main_v4 : IVec S32768x1024 1 := cmpf .olt main_v2 main_v3
  let main_v5 : FVec F S1024x1024 .f32 := (extractStridedSlice S1024x1024 ![0, 0] · slices_S1024x2048_S1024x1024_0_0) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  (main_v4, main_v8)
-- ==== Pre_up_in_range.lean ====
abbrev S289 : Shape := ⟨1, ![289]⟩
abbrev S147968x2048 : Shape := ⟨2, ![147968, 2048]⟩
abbrev S32x2048x2048 : Shape := ⟨3, ![32, 2048, 2048]⟩
abbrev S32x1x2048 : Shape := ⟨3, ![32, 1, 2048]⟩
abbrev S_ : Shape := ⟨0, ![]⟩

class Facts : Prop where
  bcast_S_S289 : S_.BroadcastsInDim S289 (![] : Fin 0 → Fin S289.rank)

variable [Facts]

def fn {F : FTy → Type} [FloatOps F] (main_arg0 : IVec S289 32) (main_arg1 : IVec S289 32) (main_arg2 : IVec S289 32) (main_arg3 : IVec S289 32) (main_arg4 : FVec F S147968x2048 .f32) (main_arg5 : FVec F S32x2048x2048 .bf16) (main_arg6 : FVec F S32x1x2048 .f32) (main_arg7 : FVec F S32x2048x2048 .bf16) (main_arg8 : FVec F S32x1x2048 .f32) : IVec S289 1 × IVec S289 1 × IVec S289 1 :=
  let main_c : IVec S_ 32 := constantI S_ 32 0#32
  let main_v0 : IVec S289 32 := broadcastInDim S289 ![] bcast_S_S289 main_c
  let main_v1 : IVec S289 1 := cmpi .sge main_arg0 main_v0
  let main_c_0 : IVec S_ 32 := constantI S_ 32 32#32
  let main_v2 : IVec S289 32 := broadcastInDim S289 ![] bcast_S_S289 main_c_0
  let main_v3 : IVec S289 1 := cmpi .slt main_arg0 main_v2
  let main_v4 : IVec S289 1 := andi main_v1 main_v3
  let main_c_1 : IVec S_ 32 := constantI S_ 32 0#32
  let main_v5 : IVec S289 32 := broadcastInDim S289 ![] bcast_S_S289 main_c_1
  let main_v6 : IVec S289 1 := cmpi .sge main_arg1 main_v5
  let main_c_2 : IVec S_ 32 := constantI S_ 32 289#32
  let main_v7 : IVec S289 32 := broadcastInDim S289 ![] bcast_S_S289 main_c_2
  let main_v8 : IVec S289 1 := cmpi .slt main_arg1 main_v7
  let main_v9 : IVec S289 1 := andi main_v6 main_v8
  let main_c_3 : IVec S_ 32 := constantI S_ 32 0#32
  let main_v10 : IVec S289 32 := broadcastInDim S289 ![] bcast_S_S289 main_c_3
  let main_v11 : IVec S289 1 := cmpi .sge main_arg2 main_v10
  let main_c_4 : IVec S_ 32 := constantI S_ 32 290#32
  let main_v12 : IVec S289 32 := broadcastInDim S289 ![] bcast_S_S289 main_c_4
  let main_v13 : IVec S289 1 := cmpi .slt main_arg2 main_v12
  let main_v14 : IVec S289 1 := andi main_v11 main_v13
  (main_v4, main_v9, main_v14)
-- ==== Pre_up_routed.lean ====
abbrev S289 : Shape := ⟨1, ![289]⟩
abbrev S147968x2048 : Shape := ⟨2, ![147968, 2048]⟩
abbrev S32x2048x2048 : Shape := ⟨3, ![32, 2048, 2048]⟩
abbrev S32x1x2048 : Shape := ⟨3, ![32, 1, 2048]⟩
abbrev S_ : Shape := ⟨0, ![]⟩

class Facts : Prop where
  bcast_S_S289 : S_.BroadcastsInDim S289 (![] : Fin 0 → Fin S289.rank)

variable [Facts]

def fn_where {F : FTy → Type} [FloatOps F] (arg0 : IVec S289 1) (arg1 : IVec S289 1) (arg2 : IVec S289 1) : IVec S289 1 :=
  let v0 : IVec S289 1 := select arg0 arg1 arg2
  v0

def fn_part1 {F : FTy → Type} [FloatOps F] (main_arg1 : IVec S289 32) (main_arg2 : IVec S289 32) (main_arg3 : IVec S289 32) (main_v0 : IVec S289 32) (main_v5 : IVec S289 1) (main_v10 : IVec S289 1) (main_v15 : IVec S289 1) (main_v16 : IVec S289 32) : IVec S289 1 × IVec S289 1 × IVec S289 1 × IVec S289 1 :=
  let main_v17 : IVec S289 1 := cmpi .eq main_arg3 main_v16
  let main_v18 : IVec S289 1 := cmpi .eq main_arg1 main_v0
  let main_v19 : IVec S289 1 := cmpi .eq main_arg2 main_v0
  let main_v20 : IVec S289 1 := andi main_v18 main_v19
  let main_c_6 : IVec S_ 32 := constantI S_ 32 289#32
  let main_v21 : IVec S289 32 := broadcastInDim S289 ![] bcast_S_S289 main_c_6
  let main_v22 : IVec S289 1 := cmpi .eq main_arg2 main_v21
  let main_v23 : IVec S289 1 := fn_where (F := F) main_v17 main_v20 main_v22
  (main_v5, main_v10, main_v15, main_v23)

def fn {F : FTy → Type} [FloatOps F] (main_arg0 : IVec S289 32) (main_arg1 : IVec S289 32) (main_arg2 : IVec S289 32) (main_arg3 : IVec S289 32) (main_arg4 : FVec F S147968x2048 .f32) (main_arg5 : FVec F S32x2048x2048 .bf16) (main_arg6 : FVec F S32x1x2048 .f32) (main_arg7 : FVec F S32x2048x2048 .bf16) (main_arg8 : FVec F S32x1x2048 .f32) : IVec S289 1 × IVec S289 1 × IVec S289 1 × IVec S289 1 :=
  let main_v0 : IVec S289 32 := iotaInDim S289 32 0
  let main_c : IVec S_ 32 := constantI S_ 32 0#32
  let main_v1 : IVec S289 32 := broadcastInDim S289 ![] bcast_S_S289 main_c
  let main_v2 : IVec S289 1 := cmpi .sge main_arg0 main_v1
  let main_c_0 : IVec S_ 32 := constantI S_ 32 32#32
  let main_v3 : IVec S289 32 := broadcastInDim S289 ![] bcast_S_S289 main_c_0
  let main_v4 : IVec S289 1 := cmpi .slt main_arg0 main_v3
  let main_v5 : IVec S289 1 := andi main_v2 main_v4
  let main_c_1 : IVec S_ 32 := constantI S_ 32 0#32
  let main_v6 : IVec S289 32 := broadcastInDim S289 ![] bcast_S_S289 main_c_1
  let main_v7 : IVec S289 1 := cmpi .sge main_arg1 main_v6
  let main_c_2 : IVec S_ 32 := constantI S_ 32 289#32
  let main_v8 : IVec S289 32 := broadcastInDim S289 ![] bcast_S_S289 main_c_2
  let main_v9 : IVec S289 1 := cmpi .slt main_arg1 main_v8
  let main_v10 : IVec S289 1 := andi main_v7 main_v9
  let main_c_3 : IVec S_ 32 := constantI S_ 32 0#32
  let main_v11 : IVec S289 32 := broadcastInDim S289 ![] bcast_S_S289 main_c_3
  let main_v12 : IVec S289 1 := cmpi .sge main_arg2 main_v11
  let main_c_4 : IVec S_ 32 := constantI S_ 32 290#32
  let main_v13 : IVec S289 32 := broadcastInDim S289 ![] bcast_S_S289 main_c_4
  let main_v14 : IVec S289 1 := cmpi .slt main_arg2 main_v13
  let main_v15 : IVec S289 1 := andi main_v12 main_v14
  let main_c_5 : IVec S_ 32 := constantI S_ 32 1#32
  let main_v16 : IVec S289 32 := broadcastInDim S289 ![] bcast_S_S289 main_c_5
  fn_part1 (F := F) main_arg1 main_arg2 main_arg3 main_v0 main_v5 main_v10 main_v15 main_v16
-- ==== Kernel.lean ====
abbrev S32768x5632 : Shape := ⟨2, ![32768, 5632]⟩
abbrev S12x257 : Shape := ⟨2, ![12, 257]⟩
abbrev S128 : Shape := ⟨1, ![128]⟩
abbrev S128x1 : Shape := ⟨2, ![128, 1]⟩
abbrev S640 : Shape := ⟨1, ![640]⟩
abbrev S1x640 : Shape := ⟨2, ![1, 640]⟩
abbrev S_ : Shape := ⟨0, ![]⟩
abbrev S128x640 : Shape := ⟨2, ![128, 640]⟩
abbrev S128x640x1 : Shape := ⟨3, ![128, 640, 1]⟩
abbrev S12x128x640 : Shape := ⟨3, ![12, 128, 640]⟩
abbrev S1x128x640 : Shape := ⟨3, ![1, 128, 640]⟩
abbrev S32768x1536 : Shape := ⟨2, ![32768, 1536]⟩
abbrev S8192x128 : Shape := ⟨2, ![8192, 128]⟩
abbrev S128x128 : Shape := ⟨2, ![128, 128]⟩
abbrev S1x128x128 : Shape := ⟨3, ![1, 128, 128]⟩

abbrev nBuf : Space → Nat
  | .hbm => 88
  | .vmem => 10
  | .smem => 0
  | _ => 0

abbrev bufTy : (tb : Table) → Fin (tcTables nBuf tb) → BufTy
  | .hbm, ⟨0, _⟩ => ⟨S32768x5632, .bf16⟩
  | .hbm, ⟨1, _⟩ => ⟨S12x257, .f32⟩
  | .hbm, ⟨2, _⟩ => ⟨S128, .i32⟩
  | .hbm, ⟨3, _⟩ => ⟨S128x1, .i32⟩
  | .hbm, ⟨4, _⟩ => ⟨S640, .i32⟩
  | .hbm, ⟨5, _⟩ => ⟨S1x640, .i32⟩
  | .hbm, ⟨6, _⟩ => ⟨S_, .i32⟩
  | .hbm, ⟨7, _⟩ => ⟨S128x1, .i32⟩
  | .hbm, ⟨8, _⟩ => ⟨S128x1, .i32⟩
  | .hbm, ⟨9, _⟩ => ⟨S128x640, .i32⟩
  | .hbm, ⟨10, _⟩ => ⟨S128x640, .i32⟩
  | .hbm, ⟨11, _⟩ => ⟨S128x640, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S128x640, .i32⟩
  | .hbm, ⟨16, _⟩ => ⟨S128x640, .i32⟩
  | .hbm, ⟨17, _⟩ => ⟨S_, .i32⟩
  | .hbm, ⟨18, _⟩ => ⟨S128x640, .i32⟩
  | .hbm, ⟨19, _⟩ => ⟨S128x640, .i32⟩
  | .hbm, ⟨20, _⟩ => ⟨S_, .i32⟩
  | .hbm, ⟨21, _⟩ => ⟨S128x640, .i32⟩
  | .hbm, ⟨22, _⟩ => ⟨S128x640, .i32⟩
  | .hbm, ⟨23, _⟩ => ⟨S_, .i32⟩
  | .hbm, ⟨24, _⟩ => ⟨S128x640, .i32⟩
  | .hbm, ⟨25, _⟩ => ⟨S128x640, .i1⟩
  | .hbm, ⟨26, _⟩ => ⟨S_, .i32⟩
  | .hbm, ⟨27, _⟩ => ⟨S128x640, .i32⟩
  | .hbm, ⟨28, _⟩ => ⟨S128x640, .i32⟩
  | .hbm, ⟨29, _⟩ => ⟨S128x640, .i32⟩
  | .hbm, ⟨30, _⟩ => ⟨S128x640x1, .i32⟩
  | .hbm, ⟨31, _⟩ => ⟨S12x128x640, .f32⟩
  | .hbm, ⟨32, _⟩ => ⟨S_, .i32⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S128x1, .i32⟩
  | .hbm, ⟨37, _⟩ => ⟨S_, .i32⟩
  | .hbm, ⟨38, _⟩ => ⟨S128x1, .i32⟩
  | .hbm, ⟨39, _⟩ => ⟨S128x1, .i1⟩
  | .hbm, ⟨40, _⟩ => ⟨S128x1, .i32⟩
  | .hbm, ⟨41, _⟩ => ⟨S128x1, .i32⟩
  | .hbm, ⟨42, _⟩ => ⟨S_, .i32⟩
  | .hbm, ⟨43, _⟩ => ⟨S128x1, .i32⟩
  | .hbm, ⟨44, _⟩ => ⟨S128x1, .i1⟩
  | .hbm, ⟨45, _⟩ => ⟨S128x1, .i1⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S128x1, .i32⟩
  | .hbm, ⟨50, _⟩ => ⟨S_, .i32⟩
  | .hbm, ⟨51, _⟩ => ⟨S128x1, .i32⟩
  | .hbm, ⟨52, _⟩ => ⟨S128x1, .i32⟩
  | .hbm, ⟨53, _⟩ => ⟨S_, .i32⟩
  | .hbm, ⟨54, _⟩ => ⟨S_, .i32⟩
  | .hbm, ⟨55, _⟩ => ⟨S1x640, .i32⟩
  | .hbm, ⟨56, _⟩ => ⟨S1x640, .i32⟩
  | .hbm, ⟨57, _⟩ => ⟨S1x640, .i32⟩
  | .hbm, ⟨58, _⟩ => ⟨S_, .i32⟩
  | .hbm, ⟨59, _⟩ => ⟨S1x640, .i32⟩
  | .hbm, ⟨60, _⟩ => ⟨S1x640, .i1⟩
  | .hbm, ⟨61, _⟩ => ⟨S1x640, .i32⟩
  | .hbm, ⟨62, _⟩ => ⟨S1x640, .i32⟩
  | .hbm, ⟨63, _⟩ => ⟨S_, .i32⟩
  | .hbm, ⟨64, _⟩ => ⟨S1x640, .i32⟩
  | .hbm, ⟨65, _⟩ => ⟨S1x640, .i1⟩
  | .hbm, ⟨66, _⟩ => ⟨S1x640, .i1⟩
  | .hbm, ⟨67, _⟩ => ⟨S_, .i32⟩
  | .hbm, ⟨68, _⟩ => ⟨S1x640, .i32⟩
  | .hbm, ⟨69, _⟩ => ⟨S1x640, .i32⟩
  | .hbm, ⟨70, _⟩ => ⟨S1x640, .i32⟩
  | .hbm, ⟨71, _⟩ => ⟨S128x640, .i32⟩
  | .hbm, ⟨72, _⟩ => ⟨S128x640, .i32⟩
  | .hbm, ⟨73, _⟩ => ⟨S128x640, .i32⟩
  | .hbm, ⟨74, _⟩ => ⟨S_, .i32⟩
  | .hbm, ⟨75, _⟩ => ⟨S128x640, .i32⟩
  | .hbm, ⟨76, _⟩ => ⟨S128x640, .i1⟩
  | .hbm, ⟨77, _⟩ => ⟨S_, .i32⟩
  | .hbm, ⟨78, _⟩ => ⟨S128x640, .i32⟩
  | .hbm, ⟨79, _⟩ => ⟨S128x640, .i1⟩
  | .hbm, ⟨80, _⟩ => ⟨S128x640, .i1⟩
  | .hbm, ⟨81, _⟩ => ⟨S1x128x640, .i1⟩
  | .hbm, ⟨82, _⟩ => ⟨S_, .f32⟩
  | .hbm, ⟨83, _⟩ => ⟨S_, .f32⟩
  | .hbm, ⟨84, _⟩ => ⟨S12x128x640, .i1⟩
  | .hbm, ⟨85, _⟩ => ⟨S12x128x640, .f32⟩
  | .hbm, ⟨86, _⟩ => ⟨S12x128x640, .f32⟩
  | .hbm, ⟨87, _⟩ => ⟨S32768x1536, .bf16⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x128x640, .f32⟩
  | .local _ .vmem, ⟨7, _⟩ => ⟨S1x128x640, .f32⟩
  | .local _ .vmem, ⟨8, _⟩ => ⟨S8192x128, .bf16⟩
  | .local _ .vmem, ⟨9, _⟩ => ⟨S8192x128, .bf16⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v19 : Ref sig .tc := ⟨.hbm, 49, rfl⟩
abbrev main_c_6 : Ref sig .tc := ⟨.hbm, 50, rfl⟩
abbrev main_v20 : Ref sig .tc := ⟨.hbm, 51, rfl⟩
abbrev main_v21 : Ref sig .tc := ⟨.hbm, 52, rfl⟩
abbrev main_c_7 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_c : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_0 : Ref sig .tc := ⟨.hbm, 67, rfl⟩
abbrev main_call2_v12 : Ref sig .tc := ⟨.hbm, 68, rfl⟩
abbrev main_call2_v13 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_c_8 : Ref sig .tc := ⟨.hbm, 74, rfl⟩
abbrev main_v26 : Ref sig .tc := ⟨.hbm, 75, rfl⟩
abbrev main_v27 : Ref sig .tc := ⟨.hbm, 76, rfl⟩
abbrev main_c_9 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_cst : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v32 : Ref sig .tc := ⟨.hbm, 86, rfl⟩
abbrev main_v33 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 12], ![false, false]⟩

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  v1
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v3 : Index := Scalar.indexCast v2
  let c0 : Index := 0#32
  ![v3.toNat, 0]
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c4_i32 : BitVec 32 := 4#32
  let v5 : BitVec 32 := Scalar.subi arg7 c4_i32
  let c0_i32_1 : BitVec 32 := 0#32
  let v6 : BitVec 32 := Scalar.addi v5 c0_i32_1
  let c0_i32_2 : BitVec 32 := 0#32
  let v7 : BitVec 32 := Scalar.maxsi v6 c0_i32_2
  let c128_i32_3 : BitVec 32 := 128#32
  let v8 : BitVec 32 := Scalar.muli v7 c128_i32_3
  v8
def k0_off2 (k0_t1 : Fin k0_t1_loop.trips) (c0_i32_1 : BitVec 32) : Fin 2 → Nat :=
  let c0_i32 : BitVec 32 := 0#32
  let c1_i32 : BitVec 32 := 1#32
  let arg7 : BitVec 32 := Scf.iv c0_i32 c1_i32 k0_t1
  let c4_i32 : BitVec 32 := 4#32
  let v5 : BitVec 32 := Scalar.subi arg7 c4_i32
  let v6 : BitVec 32 := Scalar.addi v5 c0_i32_1
  let c0_i32_2 : BitVec 32 := 0#32
  let v7 : BitVec 32 := Scalar.maxsi v6 c0_i32_2
  let c128_i32_3 : BitVec 32 := 128#32
  let v8 : BitVec 32 := Scalar.muli v7 c128_i32_3
  let v9 : BitVec 32 := v8
  let v10 : Index := Scalar.indexCast v9
  let c0_4 : Index := 0#32
  ![v10.toNat, 0]
def k0_mult3 (k0_t1 : Fin k0_t1_loop.trips) : BitVec 32 :=
  let c0_i32 : BitVec 32 := 0#32
  let c1_i32 : BitVec 32 := 1#32
  let arg7 : BitVec 32 := Scf.iv c0_i32 c1_i32 k0_t1
  let c4_i32_12 : BitVec 32 := 4#32
  let v23 : BitVec 32 := Scalar.subi arg7 c4_i32_12
  let c1_i32_13 : BitVec 32 := 1#32
  let v24 : BitVec 32 := Scalar.addi v23 c1_i32_13
  let c0_i32_14 : BitVec 32 := 0#32
  let v25 : BitVec 32 := Scalar.maxsi v24 c0_i32_14
  let c128_i32_15 : BitVec 32 := 128#32
  let v26 : BitVec 32 := Scalar.muli v25 c128_i32_15
  v26
def k0_mult4 (k0_t1 : Fin k0_t1_loop.trips) : BitVec 32 :=
  let c0_i32 : BitVec 32 := 0#32
  let c1_i32 : BitVec 32 := 1#32
  let arg7 : BitVec 32 := Scf.iv c0_i32 c1_i32 k0_t1
  let c4_i32_24 : BitVec 32 := 4#32
  let v41 : BitVec 32 := Scalar.subi arg7 c4_i32_24
  let c2_i32 : BitVec 32 := 2#32
  let v42 : BitVec 32 := Scalar.addi v41 c2_i32
  let c0_i32_25 : BitVec 32 := 0#32
  let v43 : BitVec 32 := Scalar.maxsi v42 c0_i32_25
  let c128_i32_26 : BitVec 32 := 128#32
  let v44 : BitVec 32 := Scalar.muli v43 c128_i32_26
  v44
def k0_mult5 (k0_t1 : Fin k0_t1_loop.trips) : BitVec 32 :=
  let c0_i32 : BitVec 32 := 0#32
  let c1_i32 : BitVec 32 := 1#32
  let arg7 : BitVec 32 := Scf.iv c0_i32 c1_i32 k0_t1
  let c4_i32_35 : BitVec 32 := 4#32
  let v59 : BitVec 32 := Scalar.subi arg7 c4_i32_35
  let c3_i32 : BitVec 32 := 3#32
  let v60 : BitVec 32 := Scalar.addi v59 c3_i32
  let c0_i32_36 : BitVec 32 := 0#32
  let v61 : BitVec 32 := Scalar.maxsi v60 c0_i32_36
  let c128_i32_37 : BitVec 32 := 128#32
  let v62 : BitVec 32 := Scalar.muli v61 c128_i32_37
  v62
def k0_mult6 (k0_t1 : Fin k0_t1_loop.trips) : BitVec 32 :=
  let c0_i32 : BitVec 32 := 0#32
  let c1_i32 : BitVec 32 := 1#32
  let arg7 : BitVec 32 := Scf.iv c0_i32 c1_i32 k0_t1
  let c4_i32_46 : BitVec 32 := 4#32
  let v77 : BitVec 32 := Scalar.subi arg7 c4_i32_46
  let c4_i32_47 : BitVec 32 := 4#32
  let v78 : BitVec 32 := Scalar.addi v77 c4_i32_47
  let c0_i32_48 : BitVec 32 := 0#32
  let v79 : BitVec 32 := Scalar.maxsi v78 c0_i32_48
  let c128_i32_49 : BitVec 32 := 128#32
  let v80 : BitVec 32 := Scalar.muli v79 c128_i32_49
  v80
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32768x5632 : Shape := ⟨2, ![32768, 5632]⟩
abbrev S12x257 : Shape := ⟨2, ![12, 257]⟩
abbrev S32768x1536 : Shape := ⟨2, ![32768, 1536]⟩
abbrev S4x8192x12x128 : Shape := ⟨4, ![4, 8192, 12, 128]⟩
abbrev S8192 : Shape := ⟨1, ![8192]⟩
abbrev S128 : Shape := ⟨1, ![128]⟩
abbrev S128x1 : Shape := ⟨2, ![128, 1]⟩
abbrev S128x64 : Shape := ⟨2, ![128, 64]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S8192x8192x1 : Shape := ⟨3, ![8192, 8192, 1]⟩
abbrev S12x8192x8192 : Shape := ⟨3, ![12, 8192, 8192]⟩
abbrev S4x12x8192x8192 : Shape := ⟨4, ![4, 12, 8192, 8192]⟩
abbrev S1x12x8192x8192 : Shape := ⟨4, ![1, 12, 8192, 8192]⟩
abbrev S4x12x8192 : Shape := ⟨3, ![4, 12, 8192]⟩
abbrev S4x12x8192x1 : Shape := ⟨4, ![4, 12, 8192, 1]⟩
abbrev S4x12x128x8192 : Shape := ⟨4, ![4, 12, 128, 8192]⟩

abbrev nBuf : Space → Nat
  | .hbm => 81
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S12x257, .f32⟩
  | .hbm, ⟨2, _⟩ => ⟨S32768x5632, .f32⟩
  | .hbm, ⟨3, _⟩ => ⟨S32768x1536, .f32⟩
  | .hbm, ⟨4, _⟩ => ⟨S4x8192x12x128, .f32⟩
  | .hbm, ⟨5, _⟩ => ⟨S32768x1536, .f32⟩
  | .hbm, ⟨6, _⟩ => ⟨S4x8192x12x128, .f32⟩
  | .hbm, ⟨7, _⟩ => ⟨S32768x1536, .f32⟩
  | .hbm, ⟨8, _⟩ => ⟨S4x8192x12x128, .f32⟩
  | .hbm, ⟨9, _⟩ => ⟨S8192, .i32⟩
  | .hbm, ⟨10, _⟩ => ⟨S128, .i32⟩
  | .hbm, ⟨11, _⟩ => ⟨S128x1, .i32⟩
  | .hbm, ⟨12, _⟩ => ⟨S128x64, .i32⟩
  | .hbm, ⟨13, _⟩ => ⟨S8192, .i32⟩
  | .hbm, ⟨14, _⟩ => ⟨S8192x1, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i32⟩
  | .hbm, ⟨19, _⟩ => ⟨S_, .i32⟩
  | .hbm, ⟨20, _⟩ => ⟨S8192x8192, .i32⟩
  | .hbm, ⟨21, _⟩ => ⟨S8192x8192, .i1⟩
  | .hbm, ⟨22, _⟩ => ⟨S_, .i32⟩
  | .hbm, ⟨23, _⟩ => ⟨S8192x8192, .i32⟩
  | .hbm, ⟨24, _⟩ => ⟨S8192x8192, .i1⟩
  | .hbm, ⟨25, _⟩ => ⟨S8192x8192, .i1⟩
  | .hbm, ⟨26, _⟩ => ⟨S8192x1, .i32⟩
  | .hbm, ⟨27, _⟩ => ⟨S1x8192, .i32⟩
  | .hbm, ⟨28, _⟩ => ⟨S8192x8192, .i32⟩
  | .hbm, ⟨29, _⟩ => ⟨S8192x8192, .i32⟩
  | .hbm, ⟨30, _⟩ => ⟨S8192x8192, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S8192x8192, .i32⟩
  | .hbm, ⟨35, _⟩ => ⟨S8192x8192, .i32⟩
  | .hbm, ⟨36, _⟩ => ⟨S_, .i32⟩
  | .hbm, ⟨37, _⟩ => ⟨S8192x8192, .i32⟩
  | .hbm, ⟨38, _⟩ => ⟨S8192x8192, .i32⟩
  | .hbm, ⟨39, _⟩ => ⟨S_, .i32⟩
  | .hbm, ⟨40, _⟩ => ⟨S8192x8192, .i32⟩
  | .hbm, ⟨41, _⟩ => ⟨S8192x8192, .i32⟩
  | .hbm, ⟨42, _⟩ => ⟨S_, .i32⟩
  | .hbm, ⟨43, _⟩ => ⟨S8192x8192, .i32⟩
  | .hbm, ⟨44, _⟩ => ⟨S8192x8192, .i1⟩
  | .hbm, ⟨45, _⟩ => ⟨S_, .i32⟩
  | .hbm, ⟨46, _⟩ => ⟨S8192x8192, .i32⟩
  | .hbm, ⟨47, _⟩ => ⟨S8192x8192, .i32⟩
  | .hbm, ⟨48, _⟩ => ⟨S8192x8192, .i32⟩
  | .hbm, ⟨49, _⟩ => ⟨S8192x8192x1, .i32⟩
  | .hbm, ⟨50, _⟩ => ⟨S12x8192x8192, .f32⟩
  | .hbm, ⟨51, _⟩ => ⟨S4x12x8192x8192, .f32⟩
  | .hbm, ⟨52, _⟩ => ⟨S_, .f32⟩
  | .hbm, ⟨53, _⟩ => ⟨S4x12x8192x8192, .f32⟩
  | .hbm, ⟨54, _⟩ => ⟨S4x12x8192x8192, .f32⟩
  | .hbm, ⟨55, _⟩ => ⟨S1x12x8192x8192, .f32⟩
  | .hbm, ⟨56, _⟩ => ⟨S4x12x8192x8192, .f32⟩
  | .hbm, ⟨57, _⟩ => ⟨S4x12x8192x8192, .f32⟩
  | .hbm, ⟨58, _⟩ => ⟨S_, .f32⟩
  | .hbm, ⟨59, _⟩ => ⟨S_, .f32⟩
  | .hbm, ⟨60, _⟩ => ⟨S4x12x8192x8192, .i1⟩
  | .hbm, ⟨61, _⟩ => ⟨S4x12x8192x8192, .f32⟩
  | .hbm, ⟨62, _⟩ => ⟨S4x12x8192x8192, .f32⟩
  | .hbm, ⟨63, _⟩ => ⟨S_, .f32⟩
  | .hbm, ⟨64, _⟩ => ⟨S4x12x8192, .f32⟩
  | .hbm, ⟨65, _⟩ => ⟨S_, .f32⟩
  | .hbm, ⟨66, _⟩ => ⟨S4x12x8192, .f32⟩
  | .hbm, ⟨67, _⟩ => ⟨S4x12x8192, .f32⟩
  | .hbm, ⟨68, _⟩ => ⟨S4x12x8192x1, .f32⟩
  | .hbm, ⟨69, _⟩ => ⟨S4x12x8192x8192, .f32⟩
  | .hbm, ⟨70, _⟩ => ⟨S4x12x8192x8192, .f32⟩
  | .hbm, ⟨71, _⟩ => ⟨S4x12x8192x8192, .f32⟩
  | .hbm, ⟨72, _⟩ => ⟨S_, .f32⟩
  | .hbm, ⟨73, _⟩ => ⟨S4x12x8192, .f32⟩
  | .hbm, ⟨74, _⟩ => ⟨S4x12x8192x1, .f32⟩
  | .hbm, ⟨75, _⟩ => ⟨S4x12x8192x8192, .f32⟩
  | .hbm, ⟨76, _⟩ => ⟨S4x12x8192x8192, .f32⟩
  | .hbm, ⟨77, _⟩ => ⟨S4x12x128x8192, .f32⟩
  | .hbm, ⟨78, _⟩ => ⟨S4x8192x12x128, .f32⟩
  | .hbm, ⟨79, _⟩ => ⟨S32768x1536, .f32⟩
  | .hbm, ⟨80, _⟩ => ⟨S32768x1536, .bf16⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_v17 : Ref sig .tc := ⟨.hbm, 20, rfl⟩
abbrev main_v18 : Ref sig .tc := ⟨.hbm, 21, rfl⟩
abbrev main_c_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_c_1 : Ref sig .tc := ⟨.hbm, 31, rfl⟩
abbrev main_c_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v27 : Ref sig .tc := ⟨.hbm, 38, rfl⟩
abbrev main_c_3 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== InProj.lean ====
abbrev S4x8192x2048 : Shape := ⟨3, ![4, 8192, 2048]⟩
abbrev S1x2048x8704 : Shape := ⟨3, ![1, 2048, 8704]⟩
abbrev S32768x2048 : Shape := ⟨2, ![32768, 2048]⟩
abbrev S2048x8704 : Shape := ⟨2, ![2048, 8704]⟩
abbrev S2048x3072 : Shape := ⟨2, ![2048, 3072]⟩
abbrev S32768x3072 : Shape := ⟨2, ![32768, 3072]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x8192x2048, .f32⟩
  | .hbm, ⟨1, _⟩ => ⟨S1x2048x8704, .f32⟩
  | .hbm, ⟨2, _⟩ => ⟨S32768x2048, .f32⟩
  | .hbm, ⟨3, _⟩ => ⟨S2048x8704, .f32⟩
  | .hbm, ⟨4, _⟩ => ⟨S2048x8704, .bf16⟩
  | .hbm, ⟨5, _⟩ => ⟨S2048x3072, .bf16⟩
  | .hbm, ⟨6, _⟩ => ⟨S32768x3072, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjIdeal.lean ====
abbrev S4x8192x2048 : Shape := ⟨3, ![4, 8192, 2048]⟩
abbrev S1x2048x8704 : Shape := ⟨3, ![1, 2048, 8704]⟩
abbrev S32768x2048 : Shape := ⟨2, ![32768, 2048]⟩
abbrev S2048x8704 : Shape := ⟨2, ![2048, 8704]⟩
abbrev S2048x3072 : Shape := ⟨2, ![2048, 3072]⟩
abbrev S32768x3072 : Shape := ⟨2, ![32768, 3072]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x8192x2048, .f32⟩
  | .hbm, ⟨1, _⟩ => ⟨S1x2048x8704, .f32⟩
  | .hbm, ⟨2, _⟩ => ⟨S32768x2048, .f32⟩
  | .hbm, ⟨3, _⟩ => ⟨S2048x8704, .f32⟩
  | .hbm, ⟨4, _⟩ => ⟨S2048x8704, .bf16⟩
  | .hbm, ⟨5, _⟩ => ⟨S2048x3072, .bf16⟩
  | .hbm, ⟨6, _⟩ => ⟨S32768x3072, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S4x8192x2048 : Shape := ⟨3, ![4, 8192, 2048]⟩
abbrev S1x2048x8704 : Shape := ⟨3, ![1, 2048, 8704]⟩
abbrev S2048x8704 : Shape := ⟨2, ![2048, 8704]⟩
abbrev S4x8192x8704 : Shape := ⟨3, ![4, 8192, 8704]⟩
abbrev S4x8192x3072 : Shape := ⟨3, ![4, 8192, 3072]⟩
abbrev S32768x3072 : Shape := ⟨2, ![32768, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S1x2048x8704, .f32⟩
  | .hbm, ⟨2, _⟩ => ⟨S2048x8704, .f32⟩
  | .hbm, ⟨3, _⟩ => ⟨S4x8192x8704, .f32⟩
  | .hbm, ⟨4, _⟩ => ⟨S4x8192x3072, .f32⟩
  | .hbm, ⟨5, _⟩ => ⟨S32768x3072, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AttProj.lean ====
abbrev S4x8192x2048 : Shape := ⟨3, ![4, 8192, 2048]⟩
abbrev S1x2048x8704 : Shape := ⟨3, ![1, 2048, 8704]⟩
abbrev S32768x2048 : Shape := ⟨2, ![32768, 2048]⟩
abbrev S2048x8704 : Shape := ⟨2, ![2048, 8704]⟩
abbrev S2048x5632 : Shape := ⟨2, ![2048, 5632]⟩
abbrev S32768x5632 : Shape := ⟨2, ![32768, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x8192x2048, .f32⟩
  | .hbm, ⟨1, _⟩ => ⟨S1x2048x8704, .f32⟩
  | .hbm, ⟨2, _⟩ => ⟨S32768x2048, .f32⟩
  | .hbm, ⟨3, _⟩ => ⟨S2048x8704, .f32⟩
  | .hbm, ⟨4, _⟩ => ⟨S2048x8704, .bf16⟩
  | .hbm, ⟨5, _⟩ => ⟨S2048x5632, .bf16⟩
  | .hbm, ⟨6, _⟩ => ⟨S32768x5632, .bf16⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttProjRefIdeal.lean ====
abbrev S4x8192x2048 : Shape := ⟨3, ![4, 8192, 2048]⟩
abbrev S1x2048x8704 : Shape := ⟨3, ![1, 2048, 8704]⟩
abbrev S2048x8704 : Shape := ⟨2, ![2048, 8704]⟩
abbrev S4x8192x8704 : Shape := ⟨3, ![4, 8192, 8704]⟩
abbrev S4x8192x5632 : Shape := ⟨3, ![4, 8192, 5632]⟩
abbrev S32768x5632 : Shape := ⟨2, ![32768, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S1x2048x8704, .f32⟩
  | .hbm, ⟨2, _⟩ => ⟨S2048x8704, .f32⟩
  | .hbm, ⟨3, _⟩ => ⟨S4x8192x8704, .f32⟩
  | .hbm, ⟨4, _⟩ => ⟨S4x8192x5632, .f32⟩
  | .hbm, ⟨5, _⟩ => ⟨S32768x5632, .f32⟩
  | .hbm, ⟨6, _⟩ => ⟨S32768x5632, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GateProj.lean ====
abbrev S4x8192x2048 : Shape := ⟨3, ![4, 8192, 2048]⟩
abbrev S1x2048x6144 : Shape := ⟨3, ![1, 2048, 6144]⟩
abbrev S1x6144 : Shape := ⟨2, ![1, 6144]⟩
abbrev S32768x2048 : Shape := ⟨2, ![32768, 2048]⟩
abbrev S2048x6144 : Shape := ⟨2, ![2048, 6144]⟩
abbrev S6144 : Shape := ⟨1, ![6144]⟩
abbrev S32768x6144 : Shape := ⟨2, ![32768, 6144]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 9
  | .vmem => 9
  | .smem => 0
  | _ => 0

abbrev bufTy : (tb : Table) → Fin (tcTables nBuf tb) → BufTy
  | .hbm, ⟨0, _⟩ => ⟨S4x8192x2048, .f32⟩
  | .hbm, ⟨1, _⟩ => ⟨S1x2048x6144, .f32⟩
  | .hbm, ⟨2, _⟩ => ⟨S1x6144, .f32⟩
  | .hbm, ⟨3, _⟩ => ⟨S32768x2048, .f32⟩
  | .hbm, ⟨4, _⟩ => ⟨S2048x6144, .f32⟩
  | .hbm, ⟨5, _⟩ => ⟨S2048x6144, .bf16⟩
  | .hbm, ⟨6, _⟩ => ⟨S6144, .f32⟩
  | .hbm, ⟨7, _⟩ => ⟨S1x6144, .f32⟩
  | .hbm, ⟨8, _⟩ => ⟨S32768x6144, .bf16⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateProjRefIdeal.lean ====
abbrev S4x8192x2048 : Shape := ⟨3, ![4, 8192, 2048]⟩
abbrev S1x2048x6144 : Shape := ⟨3, ![1, 2048, 6144]⟩
abbrev S1x6144 : Shape := ⟨2, ![1, 6144]⟩
abbrev S2048x6144 : Shape := ⟨2, ![2048, 6144]⟩
abbrev S4x8192x6144 : Shape := ⟨3, ![4, 8192, 6144]⟩
abbrev S6144 : Shape := ⟨1, ![6144]⟩
abbrev S1x1x6144 : Shape := ⟨3, ![1, 1, 6144]⟩
abbrev S_ : Shape := ⟨0, ![]⟩
abbrev S32768x6144 : Shape := ⟨2, ![32768, 6144]⟩

abbrev nBuf : Space → Nat
  | .hbm => 19
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S1x2048x6144, .f32⟩
  | .hbm, ⟨2, _⟩ => ⟨S1x6144, .f32⟩
  | .hbm, ⟨3, _⟩ => ⟨S2048x6144, .f32⟩
  | .hbm, ⟨4, _⟩ => ⟨S4x8192x6144, .f32⟩
  | .hbm, ⟨5, _⟩ => ⟨S6144, .f32⟩
  | .hbm, ⟨6, _⟩ => ⟨S1x1x6144, .f32⟩
  | .hbm, ⟨7, _⟩ => ⟨S4x8192x6144, .f32⟩
  | .hbm, ⟨8, _⟩ => ⟨S4x8192x6144, .f32⟩
  | .hbm, ⟨9, _⟩ => ⟨S4x8192x6144, .f32⟩
  | .hbm, ⟨10, _⟩ => ⟨S4x8192x6144, .f32⟩
  | .hbm, ⟨11, _⟩ => ⟨S_, .f32⟩
  | .hbm, ⟨12, _⟩ => ⟨S4x8192x6144, .f32⟩
  | .hbm, ⟨13, _⟩ => ⟨S4x8192x6144, .f32⟩
  | .hbm, ⟨14, _⟩ => ⟨S_, .f32⟩
  | .hbm, ⟨15, _⟩ => ⟨S4x8192x6144, .f32⟩
  | .hbm, ⟨16, _⟩ => ⟨S4x8192x6144, .f32⟩
  | .hbm, ⟨17, _⟩ => ⟨S32768x6144, .f32⟩
  | .hbm, ⟨18, _⟩ => ⟨S32768x6144, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MemKv.lean ====
abbrev S4x256x2048 : Shape := ⟨3, ![4, 256, 2048]⟩
abbrev S1x2048x2048 : Shape := ⟨3, ![1, 2048, 2048]⟩
abbrev S1024x2048 : Shape := ⟨2, ![1024, 2048]⟩
abbrev S2048x2048 : Shape := ⟨2, ![2048, 2048]⟩
abbrev S2048x512 : Shape := ⟨2, ![2048, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S4x256x2048, .f32⟩
  | .hbm, ⟨1, _⟩ => ⟨S1x2048x2048, .f32⟩
  | .hbm, ⟨2, _⟩ => ⟨S1024x2048, .f32⟩
  | .hbm, ⟨3, _⟩ => ⟨S2048x2048, .f32⟩
  | .hbm, ⟨4, _⟩ => ⟨S2048x2048, .bf16⟩
  | .hbm, ⟨5, _⟩ => ⟨S1024x2048, .f32⟩
  | .local _ .vmem, ⟨0, _⟩ => ⟨S1024x2048, .f32⟩
  | .local _ .vmem, ⟨1, _⟩ => ⟨S2048x512, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | .local _ .vmem, ⟨5, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemKvRefIdeal.lean ====
abbrev S4x256x2048 : Shape := ⟨3, ![4, 256, 2048]⟩
abbrev S1x2048x2048 : Shape := ⟨3, ![1, 2048, 2048]⟩
abbrev S2048x2048 : Shape := ⟨2, ![2048, 2048]⟩
abbrev S1024x2048 : Shape := ⟨2, ![1024, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048x2048, .f32⟩
  | .hbm, ⟨2, _⟩ => ⟨S2048x2048, .f32⟩
  | .hbm, ⟨3, _⟩ => ⟨S4x256x2048, .f32⟩
  | .hbm, ⟨4, _⟩ => ⟨S1024x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KvTail.lean ====
abbrev S4x8192x2048 : Shape := ⟨3, ![4, 8192, 2048]⟩
abbrev S1x2048x8704 : Shape := ⟨3, ![1, 2048, 8704]⟩
abbrev S2048x8704 : Shape := ⟨2, ![2048, 8704]⟩
abbrev S4x512x2048 : Shape := ⟨3, ![4, 512, 2048]⟩
abbrev S2048x2048 : Shape := ⟨2, ![2048, 2048]⟩
abbrev S2048x3072 : Shape := ⟨2, ![2048, 3072]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 8
  | .vmem => 7
  | .smem => 0
  | _ => 0

abbrev bufTy : (tb : Table) → Fin (tcTables nBuf tb) → BufTy
  | .hbm, ⟨0, _⟩ => ⟨S4x8192x2048, .f32⟩
  | .hbm, ⟨1, _⟩ => ⟨S1x2048x8704, .f32⟩
  | .hbm, ⟨2, _⟩ => ⟨S2048x8704, .f32⟩
  | .hbm, ⟨3, _⟩ => ⟨S2048x8704, .bf16⟩
  | .hbm, ⟨4, _⟩ => ⟨S4x512x2048, .f32⟩
  | .hbm, ⟨5, _⟩ => ⟨S2048x2048, .f32⟩
  | .hbm, ⟨6, _⟩ => ⟨S2048x3072, .bf16⟩
  | .hbm, ⟨7, _⟩ => ⟨S2048x3072, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvTailRefIdeal.lean ====
abbrev S4x8192x2048 : Shape := ⟨3, ![4, 8192, 2048]⟩
abbrev S1x2048x8704 : Shape := ⟨3, ![1, 2048, 8704]⟩
abbrev S2048x8704 : Shape := ⟨2, ![2048, 8704]⟩
abbrev S4x8192x8704 : Shape := ⟨3, ![4, 8192, 8704]⟩
abbrev S4x512x3072 : Shape := ⟨3, ![4, 512, 3072]⟩
abbrev S2048x3072 : Shape := ⟨2, ![2048, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S1x2048x8704, .f32⟩
  | .hbm, ⟨2, _⟩ => ⟨S2048x8704, .f32⟩
  | .hbm, ⟨3, _⟩ => ⟨S4x8192x8704, .f32⟩
  | .hbm, ⟨4, _⟩ => ⟨S4x512x3072, .f32⟩
  | .hbm, ⟨5, _⟩ => ⟨S2048x3072, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvNew.lean ====
abbrev S8x16x2048 : Shape := ⟨3, ![8, 16, 2048]⟩
abbrev S1x2048x8704 : Shape := ⟨3, ![1, 2048, 8704]⟩
abbrev S2048x8704 : Shape := ⟨2, ![2048, 8704]⟩
abbrev S128x2048 : Shape := ⟨2, ![128, 2048]⟩
abbrev S2048x3072 : Shape := ⟨2, ![2048, 3072]⟩
abbrev S128x3072 : Shape := ⟨2, ![128, 3072]⟩
abbrev S2048x512 : Shape := ⟨2, ![2048, 512]⟩
abbrev S128x512 : Shape := ⟨2, ![128, 512]⟩

abbrev nBuf : Space → Nat
  | .hbm => 7
  | .vmem => 6
  | .smem => 0
  | _ => 0

abbrev bufTy : (tb : Table) → Fin (tcTables nBuf tb) → BufTy
  | .hbm, ⟨0, _⟩ => ⟨S8x16x2048, .f32⟩
  | .hbm, ⟨1, _⟩ => ⟨S1x2048x8704, .f32⟩
  | .hbm, ⟨2, _⟩ => ⟨S2048x8704, .f32⟩
  | .hbm, ⟨3, _⟩ => ⟨S2048x8704, .bf16⟩
  | .hbm, ⟨4, _⟩ => ⟨S128x2048, .f32⟩
  | .hbm, ⟨5, _⟩ => ⟨S2048x3072, .bf16⟩
  | .hbm, ⟨6, _⟩ => ⟨S128x3072, .f32⟩
  | .local _ .vmem, ⟨0, _⟩ => ⟨S128x2048, .f32⟩
  | .local _ .vmem, ⟨1, _⟩ => ⟨S2048x512, .bf16⟩
  | .local _ .vmem, ⟨2, _⟩ => ⟨S2048x512, .bf16⟩
  | .local _ .vmem, ⟨3, _⟩ => ⟨S128x512, .f32⟩
  | .local _ .vmem, ⟨4, _⟩ => ⟨S128x512, .f32⟩
  | .local _ .vmem, ⟨5, _⟩ => ⟨S128x2048, .bf16⟩
  | _, _ => ⟨S8x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvNewRefIdeal.lean ====
abbrev S8x16x2048 : Shape := ⟨3, ![8, 16, 2048]⟩
abbrev S1x2048x8704 : Shape := ⟨3, ![1, 2048, 8704]⟩
abbrev S2048x8704 : Shape := ⟨2, ![2048, 8704]⟩
abbrev S8x16x8704 : Shape := ⟨3, ![8, 16, 8704]⟩
abbrev S8x16x3072 : Shape := ⟨3, ![8, 16, 3072]⟩
abbrev S128x3072 : Shape := ⟨2, ![128, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8x16x2048, .f32⟩
  | .hbm, ⟨1, _⟩ => ⟨S1x2048x8704, .f32⟩
  | .hbm, ⟨2, _⟩ => ⟨S2048x8704, .f32⟩
  | .hbm, ⟨3, _⟩ => ⟨S8x16x8704, .f32⟩
  | .hbm, ⟨4, _⟩ => ⟨S8x16x3072, .f32⟩
  | .hbm, ⟨5, _⟩ => ⟨S128x3072, .f32⟩
  | _, _ => ⟨S8x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InProjS.lean ====
abbrev S8x16x2048 : Shape := ⟨3, ![8, 16, 2048]⟩
abbrev S1x2048x8704 : Shape := ⟨3, ![1, 2048, 8704]⟩
abbrev S128x2048 : Shape := ⟨2, ![128, 2048]⟩
abbrev S2048x8704 : Shape := ⟨2, ![2048, 8704]⟩
abbrev S2048x3072 : Shape := ⟨2, ![2048, 3072]⟩
abbrev S128x3072 : Shape := ⟨2, ![128, 3072]⟩
abbrev S2048x512 : Shape := ⟨2, ![2048, 512]⟩
abbrev S128x512 : Shape := ⟨2, ![128, 512]⟩

abbrev nBuf : Space → Nat
  | .hbm => 7
  | .vmem => 6
  | .smem => 0
  | _ => 0

abbrev bufTy : (tb : Table) → Fin (tcTables nBuf tb) → BufTy
  | .hbm, ⟨0, _⟩ => ⟨S8x16x2048, .f32⟩
  | .hbm, ⟨1, _⟩ => ⟨S1x2048x8704, .f32⟩
  | .hbm, ⟨2, _⟩ => ⟨S128x2048, .f32⟩
  | .hbm, ⟨3, _⟩ => ⟨S2048x8704, .f32⟩
  | .hbm, ⟨4, _⟩ => ⟨S2048x8704, .bf16⟩
  | .hbm, ⟨5, _⟩ => ⟨S2048x3072, .bf16⟩
  | .hbm, ⟨6, _⟩ => ⟨S128x3072, .f32⟩
  | .local _ .vmem, ⟨0, _⟩ => ⟨S128x2048, .f32⟩
  | .local _ .vmem, ⟨1, _⟩ => ⟨S2048x512, .bf16⟩
  | .local _ .vmem, ⟨2, _⟩ => ⟨S2048x512, .bf16⟩
  | .local _ .vmem, ⟨3, _⟩ => ⟨S128x512, .f32⟩
  | .local _ .vmem, ⟨4, _⟩ => ⟨S128x512, .f32⟩
  | .local _ .vmem, ⟨5, _⟩ => ⟨S128x2048, .bf16⟩
  | _, _ => ⟨S8x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjSRefIdeal.lean ====
abbrev S8x16x2048 : Shape := ⟨3, ![8, 16, 2048]⟩
abbrev S1x2048x8704 : Shape := ⟨3, ![1, 2048, 8704]⟩
abbrev S2048x8704 : Shape := ⟨2, ![2048, 8704]⟩
abbrev S8x16x8704 : Shape := ⟨3, ![8, 16, 8704]⟩
abbrev S8x16x3072 : Shape := ⟨3, ![8, 16, 3072]⟩
abbrev S128x3072 : Shape := ⟨2, ![128, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8x16x2048, .f32⟩
  | .hbm, ⟨1, _⟩ => ⟨S1x2048x8704, .f32⟩
  | .hbm, ⟨2, _⟩ => ⟨S2048x8704, .f32⟩
  | .hbm, ⟨3, _⟩ => ⟨S8x16x8704, .f32⟩
  | .hbm, ⟨4, _⟩ => ⟨S8x16x3072, .f32⟩
  | .hbm, ⟨5, _⟩ => ⟨S128x3072, .f32⟩
  | _, _ => ⟨S8x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Merge.lean ====
abbrev S32768x1536 : Shape := ⟨2, ![32768, 1536]⟩
abbrev S32768x1024 : Shape := ⟨2, ![32768, 1024]⟩
abbrev S1x1536x2048 : Shape := ⟨3, ![1, 1536, 2048]⟩
abbrev S1x1024x2048 : Shape := ⟨3, ![1, 1024, 2048]⟩
abbrev S32768x6144 : Shape := ⟨2, ![32768, 6144]⟩
abbrev S1536x2048 : Shape := ⟨2, ![1536, 2048]⟩
abbrev S1024x2048 : Shape := ⟨2, ![1024, 2048]⟩
abbrev S32768x2048 : Shape := ⟨2, ![32768, 2048]⟩
abbrev S1024x1536 : Shape := ⟨2, ![1024, 1536]⟩
abbrev S1024x1024 : Shape := ⟨2, ![1024, 1024]⟩
abbrev S1536x512 : Shape := ⟨2, ![1536, 512]⟩
abbrev S1024x512 : Shape := ⟨2, ![1024, 512]⟩

abbrev nBuf : Space → Nat
  | .hbm => 14
  | .vmem => 20
  | .smem => 0
  | _ => 0

abbrev bufTy : (tb : Table) → Fin (tcTables nBuf tb) → BufTy
  | .hbm, ⟨0, _⟩ => ⟨S32768x1536, .bf16⟩
  | .hbm, ⟨1, _⟩ => ⟨S32768x1536, .bf16⟩
  | .hbm, ⟨2, _⟩ => ⟨S32768x1024, .bf16⟩
  | .hbm, ⟨3, _⟩ => ⟨S1x1536x2048, .f32⟩
  | .hbm, ⟨4, _⟩ => ⟨S1x1536x2048, .f32⟩
  | .hbm, ⟨5, _⟩ => ⟨S1x1024x2048, .f32⟩
  | .hbm, ⟨6, _⟩ => ⟨S32768x6144, .bf16⟩
  | .hbm, ⟨7, _⟩ => ⟨S1536x2048, .f32⟩
  | .hbm, ⟨8, _⟩ => ⟨S1536x2048, .bf16⟩
  | .hbm, ⟨9, _⟩ => ⟨S1536x2048, .f32⟩
  | .hbm, ⟨10, _⟩ => ⟨S1536x2048, .bf16⟩
  | .hbm, ⟨11, _⟩ => ⟨S1024x2048, .f32⟩
  | .hbm, ⟨12, _⟩ => ⟨S1024x2048, .bf16⟩
  | .hbm, ⟨13, _⟩ => ⟨S32768x2048, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1536x512, .bf16⟩
  | .local _ .vmem, ⟨7, _⟩ => ⟨S1536x512, .bf16⟩
  | .local _ .vmem, ⟨8, _⟩ => ⟨S1536x512, .bf16⟩
  | .local _ .vmem, ⟨9, _⟩ => ⟨S1536x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1536x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S32768x1536 : Shape := ⟨2, ![32768, 1536]⟩
abbrev S32768x1024 : Shape := ⟨2, ![32768, 1024]⟩
abbrev S1x1536x2048 : Shape := ⟨3, ![1, 1536, 2048]⟩
abbrev S1x1024x2048 : Shape := ⟨3, ![1, 1024, 2048]⟩
abbrev S32768x6144 : Shape := ⟨2, ![32768, 6144]⟩
abbrev S32768x3x2048 : Shape := ⟨3, ![32768, 3, 2048]⟩
abbrev S1536x2048 : Shape := ⟨2, ![1536, 2048]⟩
abbrev S32768x2048 : Shape := ⟨2, ![32768, 2048]⟩
abbrev S1024x2048 : Shape := ⟨2, ![1024, 2048]⟩
abbrev S32768x1x2048 : Shape := ⟨3, ![32768, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S32768x1536, .bf16⟩
  | .hbm, ⟨2, _⟩ => ⟨S32768x1024, .bf16⟩
  | .hbm, ⟨3, _⟩ => ⟨S1x1536x2048, .f32⟩
  | .hbm, ⟨4, _⟩ => ⟨S1x1536x2048, .f32⟩
  | .hbm, ⟨5, _⟩ => ⟨S1x1024x2048, .f32⟩
  | .hbm, ⟨6, _⟩ => ⟨S32768x6144, .bf16⟩
  | .hbm, ⟨7, _⟩ => ⟨S32768x6144, .f32⟩
  | .hbm, ⟨8, _⟩ => ⟨S32768x3x2048, .f32⟩
  | .hbm, ⟨9, _⟩ => ⟨S32768x1536, .f32⟩
  | .hbm, ⟨10, _⟩ => ⟨S1536x2048, .f32⟩
  | .hbm, ⟨11, _⟩ => ⟨S32768x2048, .f32⟩
  | .hbm, ⟨12, _⟩ => ⟨S32768x1536, .f32⟩
  | .hbm, ⟨13, _⟩ => ⟨S1536x2048, .f32⟩
  | .hbm, ⟨14, _⟩ => ⟨S32768x2048, .f32⟩
  | .hbm, ⟨15, _⟩ => ⟨S32768x1024, .f32⟩
  | .hbm, ⟨16, _⟩ => ⟨S1024x2048, .f32⟩
  | .hbm, ⟨17, _⟩ => ⟨S32768x2048, .f32⟩
  | .hbm, ⟨18, _⟩ => ⟨S32768x1x2048, .f32⟩
  | .hbm, ⟨19, _⟩ => ⟨S32768x2048, .f32⟩
  | .hbm, ⟨20, _⟩ => ⟨S32768x2048, .f32⟩
  | .hbm, ⟨21, _⟩ => ⟨S32768x1x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x1x2048, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S32768x2048, .bf16⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== MemAttn.lean ====
abbrev S32768x5632 : Shape := ⟨2, ![32768, 5632]⟩
abbrev S1024x2048 : Shape := ⟨2, ![1024, 2048]⟩
abbrev S32768x1024 : Shape := ⟨2, ![32768, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 3
  | .vmem => 8
  | .smem => 0
  | _ => 0

abbrev bufTy : (tb : Table) → Fin (tcTables nBuf tb) → BufTy
  | .hbm, ⟨0, _⟩ => ⟨S32768x5632, .bf16⟩
  | .hbm, ⟨1, _⟩ => ⟨S1024x2048, .f32⟩
  | .hbm, ⟨2, _⟩ => ⟨S32768x1024, .bf16⟩
  | .local _ .vmem, ⟨0, _⟩ => ⟨S1024x256, .bf16⟩
  | .local _ .vmem, ⟨1, _⟩ => ⟨S1024x256, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1024x256, .bf16⟩
  | .local _ .vmem, ⟨7, _⟩ => ⟨S1024x256, .bf16⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c18_i32 : BitVec 32 := 18#32
  let v2 : BitVec 32 := Scalar.addi c18_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MemAttnRefIdeal.lean ====
abbrev S32768x5632 : Shape := ⟨2, ![32768, 5632]⟩
abbrev S1024x2048 : Shape := ⟨2, ![1024, 2048]⟩
abbrev S32768x1024 : Shape := ⟨2, ![32768, 1024]⟩
abbrev S4x8192x4x256 : Shape := ⟨4, ![4, 8192, 4, 256]⟩
abbrev S1024x1024 : Shape := ⟨2, ![1024, 1024]⟩
abbrev S4x256x4x256 : Shape := ⟨4, ![4, 256, 4, 256]⟩
abbrev S4x4x8192x256 : Shape := ⟨4, ![4, 4, 8192, 256]⟩
abbrev S_ : Shape := ⟨0, ![]⟩
abbrev S4x4x8192 : Shape := ⟨3, ![4, 4, 8192]⟩
abbrev S4x4x8192x1 : Shape := ⟨4, ![4, 4, 8192, 1]⟩
abbrev S4x4x256x8192 : Shape := ⟨4, ![4, 4, 256, 8192]⟩

abbrev nBuf : Space → Nat
  | .hbm => 31
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S1024x2048, .f32⟩
  | .hbm, ⟨2, _⟩ => ⟨S32768x5632, .f32⟩
  | .hbm, ⟨3, _⟩ => ⟨S32768x1024, .f32⟩
  | .hbm, ⟨4, _⟩ => ⟨S4x8192x4x256, .f32⟩
  | .hbm, ⟨5, _⟩ => ⟨S1024x1024, .f32⟩
  | .hbm, ⟨6, _⟩ => ⟨S4x256x4x256, .f32⟩
  | .hbm, ⟨7, _⟩ => ⟨S1024x1024, .f32⟩
  | .hbm, ⟨8, _⟩ => ⟨S4x256x4x256, .f32⟩
  | .hbm, ⟨9, _⟩ => ⟨S4x4x8192x256, .f32⟩
  | .hbm, ⟨10, _⟩ => ⟨S_, .f32⟩
  | .hbm, ⟨11, _⟩ => ⟨S4x4x8192x256, .f32⟩
  | .hbm, ⟨12, _⟩ => ⟨S4x4x8192x256, .f32⟩
  | .hbm, ⟨13, _⟩ => ⟨S_, .f32⟩
  | .hbm, ⟨14, _⟩ => ⟨S4x4x8192, .f32⟩
  | .hbm, ⟨15, _⟩ => ⟨S_, .f32⟩
  | .hbm, ⟨16, _⟩ => ⟨S4x4x8192, .f32⟩
  | .hbm, ⟨17, _⟩ => ⟨S4x4x8192, .f32⟩
  | .hbm, ⟨18, _⟩ => ⟨S4x4x8192x1, .f32⟩
  | .hbm, ⟨19, _⟩ => ⟨S4x4x8192x256, .f32⟩
  | .hbm, ⟨20, _⟩ => ⟨S4x4x8192x256, .f32⟩
  | .hbm, ⟨21, _⟩ => ⟨S4x4x8192x256, .f32⟩
  | .hbm, ⟨22, _⟩ => ⟨S_, .f32⟩
  | .hbm, ⟨23, _⟩ => ⟨S4x4x8192, .f32⟩
  | .hbm, ⟨24, _⟩ => ⟨S4x4x8192x1, .f32⟩
  | .hbm, ⟨25, _⟩ => ⟨S4x4x8192x256, .f32⟩
  | .hbm, ⟨26, _⟩ => ⟨S4x4x8192x256, .f32⟩
  | .hbm, ⟨27, _⟩ => ⟨S4x4x256x8192, .f32⟩
  | .hbm, ⟨28, _⟩ => ⟨S4x8192x4x256, .f32⟩
  | .hbm, ⟨29, _⟩ => ⟨S32768x1024, .f32⟩
  | .hbm, ⟨30, _⟩ => ⟨S32768x1024, .bf16⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== CachedAttn.lean ====
abbrev S128x5632 : Shape := ⟨2, ![128, 5632]⟩
abbrev S1x8x512x12x128 : Shape := ⟨5, ![1, 8, 512, 12, 128]⟩
abbrev S1x12x257 : Shape := ⟨3, ![1, 12, 257]⟩
abbrev S8x512x12x128 : Shape := ⟨4, ![8, 512, 12, 128]⟩
abbrev S12x257 : Shape := ⟨2, ![12, 257]⟩
abbrev S16 : Shape := ⟨1, ![16]⟩
abbrev S16x1 : Shape := ⟨2, ![16, 1]⟩
abbrev S_ : Shape := ⟨0, ![]⟩
abbrev S528 : Shape := ⟨1, ![528]⟩
abbrev S1x528 : Shape := ⟨2, ![1, 528]⟩
abbrev S16x528 : Shape := ⟨2, ![16, 528]⟩
abbrev S16x528x1 : Shape := ⟨3, ![16, 528, 1]⟩
abbrev S12x16x528 : Shape := ⟨3, ![12, 16, 528]⟩
abbrev S8x512x1536 : Shape := ⟨3, ![8, 512, 1536]⟩
abbrev S12x16x512 : Shape := ⟨3, ![12, 16, 512]⟩
abbrev S12x16x16 : Shape := ⟨3, ![12, 16, 16]⟩
abbrev S128x1536 : Shape := ⟨2, ![128, 1536]⟩
abbrev S16x128 : Shape := ⟨2, ![16, 128]⟩
abbrev S1x512x128 : Shape := ⟨3, ![1, 512, 128]⟩
abbrev S1x16x512 : Shape := ⟨3, ![1, 16, 512]⟩
abbrev S1x16x16 : Shape := ⟨3, ![1, 16, 16]⟩
abbrev S512x128 : Shape := ⟨2, ![512, 128]⟩
abbrev S16x512 : Shape := ⟨2, ![16, 512]⟩
abbrev S16x16 : Shape := ⟨2, ![16, 16]⟩

abbrev nBuf : Space → Nat
  | .hbm => 42
  | .vmem => 16
  | .smem => 0
  | _ => 0

abbrev bufTy : (tb : Table) → Fin (tcTables nBuf tb) → BufTy
  | .hbm, ⟨0, _⟩ => ⟨S128x5632, .bf16⟩
  | .hbm, ⟨1, _⟩ => ⟨S1x8x512x12x128, .f32⟩
  | .hbm, ⟨2, _⟩ => ⟨S1x8x512x12x128, .f32⟩
  | .hbm, ⟨3, _⟩ => ⟨S1x12x257, .f32⟩
  | .hbm, ⟨4, _⟩ => ⟨S8x512x12x128, .f32⟩
  | .hbm, ⟨5, _⟩ => ⟨S8x512x12x128, .f32⟩
  | .hbm, ⟨6, _⟩ => ⟨S12x257, .f32⟩
  | .hbm, ⟨7, _⟩ => ⟨S16, .i32⟩
  | .hbm, ⟨8, _⟩ => ⟨S16x1, .i32⟩
  | .hbm, ⟨9, _⟩ => ⟨S_, .i32⟩
  | .hbm, ⟨10, _⟩ => ⟨S16x1, .i32⟩
  | .hbm, ⟨11, _⟩ => ⟨S16x1, .i32⟩
  | .hbm, ⟨12, _⟩ => ⟨S528, .i32⟩
  | .hbm, ⟨13, _⟩ => ⟨S1x528, .i32⟩
  | .hbm, ⟨14, _⟩ => ⟨S16x528, .i32⟩
  | .hbm, ⟨15, _⟩ => ⟨S16x528, .i32⟩
  | .hbm, ⟨16, _⟩ => ⟨S16x528, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S16x528, .i32⟩
  | .hbm, ⟨21, _⟩ => ⟨S16x528, .i32⟩
  | .hbm, ⟨22, _⟩ => ⟨S_, .i32⟩
  | .hbm, ⟨23, _⟩ => ⟨S16x528, .i32⟩
  | .hbm, ⟨24, _⟩ => ⟨S16x528, .i32⟩
  | .hbm, ⟨25, _⟩ => ⟨S_, .i32⟩
  | .hbm, ⟨26, _⟩ => ⟨S16x528, .i32⟩
  | .hbm, ⟨27, _⟩ => ⟨S16x528, .i32⟩
  | .hbm, ⟨28, _⟩ => ⟨S_, .i32⟩
  | .hbm, ⟨29, _⟩ => ⟨S16x528, .i32⟩
  | .hbm, ⟨30, _⟩ => ⟨S16x528, .i1⟩
  | .hbm, ⟨31, _⟩ => ⟨S_, .i32⟩
  | .hbm, ⟨32, _⟩ => ⟨S16x528, .i32⟩
  | .hbm, ⟨33, _⟩ => ⟨S16x528, .i32⟩
  | .hbm, ⟨34, _⟩ => ⟨S16x528, .i32⟩
  | .hbm, ⟨35, _⟩ => ⟨S16x528x1, .i32⟩
  | .hbm, ⟨36, _⟩ => ⟨S12x16x528, .f32⟩
  | .hbm, ⟨37, _⟩ => ⟨S8x512x1536, .f32⟩
  | .hbm, ⟨38, _⟩ => ⟨S8x512x1536, .f32⟩
  | .hbm, ⟨39, _⟩ => ⟨S12x16x512, .f32⟩
  | .hbm, ⟨40, _⟩ => ⟨S12x16x16, .f32⟩
  | .hbm, ⟨41, _⟩ => ⟨S128x1536, .bf16⟩
  | .local _ .vmem, ⟨0, _⟩ => ⟨S16x128, .bf16⟩
  | .local _ .vmem, ⟨1, _⟩ => ⟨S16x128, .bf16⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S16x128, .bf16⟩
  | .local _ .vmem, ⟨7, _⟩ => ⟨S16x128, .bf16⟩
  | .local _ .vmem, ⟨8, _⟩ => ⟨S16x128, .bf16⟩
  | .local _ .vmem, ⟨9, _⟩ => ⟨S16x128, .bf16⟩
  | .local _ .vmem, ⟨10, _⟩ => ⟨S1x16x512, .f32⟩
  | .local _ .vmem, ⟨11, _⟩ => ⟨S1x16x512, .f32⟩
  | .local _ .vmem, ⟨12, _⟩ => ⟨S1x16x16, .f32⟩
  | .local _ .vmem, ⟨13, _⟩ => ⟨S1x16x16, .f32⟩
  | .local _ .vmem, ⟨14, _⟩ => ⟨S16x128, .bf16⟩
  | .local _ .vmem, ⟨15, _⟩ => ⟨S16x128, .bf16⟩
  | _, _ => ⟨S128x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x16x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S16x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== CachedAttnRefIdeal.lean ====
abbrev S128x5632 : Shape := ⟨2, ![128, 5632]⟩
abbrev S1x8x512x12x128 : Shape := ⟨5, ![1, 8, 512, 12, 128]⟩
abbrev S1x12x257 : Shape := ⟨3, ![1, 12, 257]⟩
abbrev S128x1536 : Shape := ⟨2, ![128, 1536]⟩
abbrev S8x16x12x128 : Shape := ⟨4, ![8, 16, 12, 128]⟩
abbrev S8x512x12x128 : Shape := ⟨4, ![8, 512, 12, 128]⟩
abbrev S8x528x12x128 : Shape := ⟨4, ![8, 528, 12, 128]⟩
abbrev S16 : Shape := ⟨1, ![16]⟩
abbrev S16x1 : Shape := ⟨2, ![16, 1]⟩
abbrev S_ : Shape := ⟨0, ![]⟩
abbrev S528 : Shape := ⟨1, ![528]⟩
abbrev S1x528 : Shape := ⟨2, ![1, 528]⟩
abbrev S16x528 : Shape := ⟨2, ![16, 528]⟩
abbrev S12x257 : Shape := ⟨2, ![12, 257]⟩
abbrev S16x528x1 : Shape := ⟨3, ![16, 528, 1]⟩
abbrev S12x16x528 : Shape := ⟨3, ![12, 16, 528]⟩
abbrev S8x12x16x528 : Shape := ⟨4, ![8, 12, 16, 528]⟩
abbrev S1x12x16x528 : Shape := ⟨4, ![1, 12, 16, 528]⟩
abbrev S8x12x16 : Shape := ⟨3, ![8, 12, 16]⟩
abbrev S8x12x16x1 : Shape := ⟨4, ![8, 12, 16, 1]⟩
abbrev S8x12x128x16 : Shape := ⟨4, ![8, 12, 128, 16]⟩

abbrev nBuf : Space → Nat
  | .hbm => 71
  | .vmem => 0
  | .smem => 0
  | _ => 0

abbrev bufTy : (tb : Table) → Fin (tcTables nBuf tb) → BufTy
  | .hbm, ⟨0, _⟩ => ⟨S128x5632, .bf16⟩
  | .hbm, ⟨1, _⟩ => ⟨S1x8x512x12x128, .f32⟩
  | .hbm, ⟨2, _⟩ => ⟨S1x8x512x12x128, .f32⟩
  | .hbm, ⟨3, _⟩ => ⟨S1x12x257, .f32⟩
  | .hbm, ⟨4, _⟩ => ⟨S128x5632, .f32⟩
  | .hbm, ⟨5, _⟩ => ⟨S128x1536, .f32⟩
  | .hbm, ⟨6, _⟩ => ⟨S8x16x12x128, .f32⟩
  | .hbm, ⟨7, _⟩ => ⟨S128x1536, .f32⟩
  | .hbm, ⟨8, _⟩ => ⟨S8x16x12x128, .f32⟩
  | .hbm, ⟨9, _⟩ => ⟨S128x1536, .f32⟩
  | .hbm, ⟨10, _⟩ => ⟨S8x16x12x128, .f32⟩
  | .hbm, ⟨11, _⟩ => ⟨S8x512x12x128, .f32⟩
  | .hbm, ⟨12, _⟩ => ⟨S8x528x12x128, .f32⟩
  | .hbm, ⟨13, _⟩ => ⟨S8x512x12x128, .f32⟩
  | .hbm, ⟨14, _⟩ => ⟨S8x528x12x128, .f32⟩
  | .hbm, ⟨15, _⟩ => ⟨S16, .i32⟩
  | .hbm, ⟨16, _⟩ => ⟨S16x1, .i32⟩
  | .hbm, ⟨17, _⟩ => ⟨S_, .i32⟩
  | .hbm, ⟨18, _⟩ => ⟨S16x1, .i32⟩
  | .hbm, ⟨19, _⟩ => ⟨S16x1, .i32⟩
  | .hbm, ⟨20, _⟩ => ⟨S528, .i32⟩
  | .hbm, ⟨21, _⟩ => ⟨S1x528, .i32⟩
  | .hbm, ⟨22, _⟩ => ⟨S16x528, .i32⟩
  | .hbm, ⟨23, _⟩ => ⟨S16x528, .i32⟩
  | .hbm, ⟨24, _⟩ => ⟨S16x528, .i32⟩
  | .hbm, ⟨25, _⟩ => ⟨S12x257, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S16x528, .i32⟩
  | .hbm, ⟨30, _⟩ => ⟨S16x528, .i32⟩
  | .hbm, ⟨31, _⟩ => ⟨S_, .i32⟩
  | .hbm, ⟨32, _⟩ => ⟨S16x528, .i32⟩
  | .hbm, ⟨33, _⟩ => ⟨S16x528, .i32⟩
  | .hbm, ⟨34, _⟩ => ⟨S_, .i32⟩
  | .hbm, ⟨35, _⟩ => ⟨S16x528, .i32⟩
  | .hbm, ⟨36, _⟩ => ⟨S16x528, .i32⟩
  | .hbm, ⟨37, _⟩ => ⟨S_, .i32⟩
  | .hbm, ⟨38, _⟩ => ⟨S16x528, .i32⟩
  | .hbm, ⟨39, _⟩ => ⟨S16x528, .i1⟩
  | .hbm, ⟨40, _⟩ => ⟨S_, .i32⟩
  | .hbm, ⟨41, _⟩ => ⟨S16x528, .i32⟩
  | .hbm, ⟨42, _⟩ => ⟨S16x528, .i32⟩
  | .hbm, ⟨43, _⟩ => ⟨S16x528, .i32⟩
  | .hbm, ⟨44, _⟩ => ⟨S16x528x1, .i32⟩
  | .hbm, ⟨45, _⟩ => ⟨S12x16x528, .f32⟩
  | .hbm, ⟨46, _⟩ => ⟨S8x12x16x528, .f32⟩
  | .hbm, ⟨47, _⟩ => ⟨S_, .f32⟩
  | .hbm, ⟨48, _⟩ => ⟨S8x12x16x528, .f32⟩
  | .hbm, ⟨49, _⟩ => ⟨S8x12x16x528, .f32⟩
  | .hbm, ⟨50, _⟩ => ⟨S1x12x16x528, .f32⟩
  | .hbm, ⟨51, _⟩ => ⟨S8x12x16x528, .f32⟩
  | .hbm, ⟨52, _⟩ => ⟨S8x12x16x528, .f32⟩
  | .hbm, ⟨53, _⟩ => ⟨S_, .f32⟩
  | .hbm, ⟨54, _⟩ => ⟨S8x12x16, .f32⟩
  | .hbm, ⟨55, _⟩ => ⟨S_, .f32⟩
  | .hbm, ⟨56, _⟩ => ⟨S8x12x16, .f32⟩
  | .hbm, ⟨57, _⟩ => ⟨S8x12x16, .f32⟩
  | .hbm, ⟨58, _⟩ => ⟨S8x12x16x1, .f32⟩
  | .hbm, ⟨59, _⟩ => ⟨S8x12x16x528, .f32⟩
  | .hbm, ⟨60, _⟩ => ⟨S8x12x16x528, .f32⟩
  | .hbm, ⟨61, _⟩ => ⟨S8x12x16x528, .f32⟩
  | .hbm, ⟨62, _⟩ => ⟨S_, .f32⟩
  | .hbm, ⟨63, _⟩ => ⟨S8x12x16, .f32⟩
  | .hbm, ⟨64, _⟩ => ⟨S8x12x16x1, .f32⟩
  | .hbm, ⟨65, _⟩ => ⟨S8x12x16x528, .f32⟩
  | .hbm, ⟨66, _⟩ => ⟨S8x12x16x528, .f32⟩
  | .hbm, ⟨67, _⟩ => ⟨S8x12x128x16, .f32⟩
  | .hbm, ⟨68, _⟩ => ⟨S8x16x12x128, .f32⟩
  | .hbm, ⟨69, _⟩ => ⟨S128x1536, .f32⟩
  | .hbm, ⟨70, _⟩ => ⟨S128x1536, .bf16⟩
  | _, _ => ⟨S128x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_c_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== OutLn.lean ====
abbrev S32768x2048 : Shape := ⟨2, ![32768, 2048]⟩
abbrev S1x2048x2048 : Shape := ⟨3, ![1, 2048, 2048]⟩
abbrev S4x8192x2048 : Shape := ⟨3, ![4, 8192, 2048]⟩
abbrev S1x2048 : Shape := ⟨2, ![1, 2048]⟩
abbrev S1x2048x32 : Shape := ⟨3, ![1, 2048, 32]⟩
abbrev S1x32 : Shape := ⟨2, ![1, 32]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S32768x128 : Shape := ⟨2, ![32768, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 29
  | .vmem => 14
  | .smem => 0
  | _ => 0

abbrev bufTy : (tb : Table) → Fin (tcTables nBuf tb) → BufTy
  | .hbm, ⟨0, _⟩ => ⟨S32768x2048, .bf16⟩
  | .hbm, ⟨1, _⟩ => ⟨S1x2048x2048, .f32⟩
  | .hbm, ⟨2, _⟩ => ⟨S4x8192x2048, .f32⟩
  | .hbm, ⟨3, _⟩ => ⟨S1x2048, .f32⟩
  | .hbm, ⟨4, _⟩ => ⟨S1x2048, .f32⟩
  | .hbm, ⟨5, _⟩ => ⟨S1x2048x32, .f32⟩
  | .hbm, ⟨6, _⟩ => ⟨S1x32, .f32⟩
  | .hbm, ⟨7, _⟩ => ⟨S2048x2048, .f32⟩
  | .hbm, ⟨8, _⟩ => ⟨S2048x2048, .bf16⟩
  | .hbm, ⟨9, _⟩ => ⟨S32768x2048, .f32⟩
  | .hbm, ⟨10, _⟩ => ⟨S2048, .f32⟩
  | .hbm, ⟨11, _⟩ => ⟨S2048, .f32⟩
  | .hbm, ⟨12, _⟩ => ⟨S2048x32, .f32⟩
  | .hbm, ⟨13, _⟩ => ⟨S32, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S2048x128, .bf16⟩
  | .hbm, ⟨18, _⟩ => ⟨S2048x128, .f32⟩
  | .hbm, ⟨19, _⟩ => ⟨S2048x128, .f32⟩
  | .hbm, ⟨20, _⟩ => ⟨S2048x128, .bf16⟩
  | .hbm, ⟨21, _⟩ => ⟨S_, .f32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S1x2048, .f32⟩
  | .hbm, ⟨26, _⟩ => ⟨S1x2048, .f32⟩
  | .hbm, ⟨27, _⟩ => ⟨S32768x2048, .f32⟩
  | .hbm, ⟨28, _⟩ => ⟨S32768x128, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S2048x128, .bf16⟩
  | .local _ .vmem, ⟨8, _⟩ => ⟨S2048x128, .bf16⟩
  | .local _ .vmem, ⟨9, _⟩ => ⟨S1x128, .f32⟩
  | .local _ .vmem, ⟨10, _⟩ => ⟨S512x2048, .f32⟩
  | .local _ .vmem, ⟨11, _⟩ => ⟨S512x2048, .f32⟩
  | .local _ .vmem, ⟨12, _⟩ => ⟨S512x128, .f32⟩
  | .local _ .vmem, ⟨13, _⟩ => ⟨S512x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutLnRefIdeal.lean ====
abbrev S32768x2048 : Shape := ⟨2, ![32768, 2048]⟩
abbrev S1x2048x2048 : Shape := ⟨3, ![1, 2048, 2048]⟩
abbrev S4x8192x2048 : Shape := ⟨3, ![4, 8192, 2048]⟩
abbrev S1x2048 : Shape := ⟨2, ![1, 2048]⟩
abbrev S1x2048x32 : Shape := ⟨3, ![1, 2048, 32]⟩
abbrev S1x32 : Shape := ⟨2, ![1, 32]⟩
abbrev S_ : Shape := ⟨0, ![]⟩
abbrev S2048x2048 : Shape := ⟨2, ![2048, 2048]⟩
abbrev S2048 : Shape := ⟨1, ![2048]⟩
abbrev S32768 : Shape := ⟨1, ![32768]⟩
abbrev S32768x1 : Shape := ⟨2, ![32768, 1]⟩
abbrev S2048x32 : Shape := ⟨2, ![2048, 32]⟩
abbrev S32768x32 : Shape := ⟨2, ![32768, 32]⟩
abbrev S32 : Shape := ⟨1, ![32]⟩
abbrev S32768x128 : Shape := ⟨2, ![32768, 128]⟩

abbrev nBuf : Space → Nat
  | .hbm => 55
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x2048, .f32⟩
  | .hbm, ⟨2, _⟩ => ⟨S4x8192x2048, .f32⟩
  | .hbm, ⟨3, _⟩ => ⟨S1x2048, .f32⟩
  | .hbm, ⟨4, _⟩ => ⟨S1x2048, .f32⟩
  | .hbm, ⟨5, _⟩ => ⟨S1x2048x32, .f32⟩
  | .hbm, ⟨6, _⟩ => ⟨S1x32, .f32⟩
  | .hbm, ⟨7, _⟩ => ⟨S32768x2048, .f32⟩
  | .hbm, ⟨8, _⟩ => ⟨S_, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S2048x2048, .f32⟩
  | .hbm, ⟨13, _⟩ => ⟨S32768x2048, .f32⟩
  | .hbm, ⟨14, _⟩ => ⟨S32768x2048, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x2048, .f32⟩
  | .hbm, ⟨33, _⟩ => ⟨S32768x2048, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x2048, .f32⟩
  | .hbm, ⟨39, _⟩ => ⟨S32768x2048, .f32⟩
  | .hbm, ⟨40, _⟩ => ⟨S1x2048, .f32⟩
  | .hbm, ⟨41, _⟩ => ⟨S32768x2048, .f32⟩
  | .hbm, ⟨42, _⟩ => ⟨S32768x2048, .f32⟩
  | .hbm, ⟨43, _⟩ => ⟨S1x2048, .f32⟩
  | .hbm, ⟨44, _⟩ => ⟨S32768x2048, .f32⟩
  | .hbm, ⟨45, _⟩ => ⟨S32768x2048, .f32⟩
  | .hbm, ⟨46, _⟩ => ⟨S2048x32, .f32⟩
  | .hbm, ⟨47, _⟩ => ⟨S32768x32, .f32⟩
  | .hbm, ⟨48, _⟩ => ⟨S32, .f32⟩
  | .hbm, ⟨49, _⟩ => ⟨S1x32, .f32⟩
  | .hbm, ⟨50, _⟩ => ⟨S32768x32, .f32⟩
  | .hbm, ⟨51, _⟩ => ⟨S32768x32, .f32⟩
  | .hbm, ⟨52, _⟩ => ⟨S_, .f32⟩
  | .hbm, ⟨53, _⟩ => ⟨S_, .f32⟩
  | .hbm, ⟨54, _⟩ => ⟨S32768x128, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_call0_v0 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== FfnUp.lean ====
abbrev S289 : Shape := ⟨1, ![289]⟩
abbrev S147968x2048 : Shape := ⟨2, ![147968, 2048]⟩
abbrev S32x2048x2048 : Shape := ⟨3, ![32, 2048, 2048]⟩
abbrev S32x1x2048 : Shape := ⟨3, ![32, 1, 2048]⟩
abbrev S148480x2048 : Shape := ⟨2, ![148480, 2048]⟩
abbrev S512x2048 : Shape := ⟨2, ![512, 2048]⟩
abbrev S1 : Shape := ⟨1, ![1]⟩
abbrev S1x2048x1024 : Shape := ⟨3, ![1, 2048, 1024]⟩
abbrev S1x1x1024 : Shape := ⟨3, ![1, 1, 1024]⟩
abbrev S512x1024 : Shape := ⟨2, ![512, 1024]⟩
abbrev S2048x1024 : Shape := ⟨2, ![2048, 1024]⟩
abbrev S1x1024 : Shape := ⟨2, ![1, 1024]⟩

abbrev nBuf : Space → Nat
  | .hbm => 6
  | .vmem => 12
  | .smem => 4
  | _ => 0

abbrev bufTy : (tb : Table) → Fin (tcTables nBuf tb) → BufTy
  | .hbm, ⟨0, _⟩ => ⟨S147968x2048, .f32⟩
  | .hbm, ⟨1, _⟩ => ⟨S32x2048x2048, .bf16⟩
  | .hbm, ⟨2, _⟩ => ⟨S32x1x2048, .f32⟩
  | .hbm, ⟨3, _⟩ => ⟨S32x2048x2048, .bf16⟩
  | .hbm, ⟨4, _⟩ => ⟨S32x1x2048, .f32⟩
  | .hbm, ⟨5, _⟩ => ⟨S148480x2048, .bf16⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x2048x1024, .bf16⟩
  | .local _ .vmem, ⟨7, _⟩ => ⟨S1x2048x1024, .bf16⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .smem, ⟨0, _⟩ => ⟨S289, .i32⟩
  | .local _ .smem, ⟨1, _⟩ => ⟨S289, .i32⟩
  | .local _ .smem, ⟨2, _⟩ => ⟨S289, .i32⟩
  | .local _ .smem, ⟨3, _⟩ => ⟨S289, .i32⟩
  | _, _ => ⟨S147968x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 289], ![false, false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (k0_off1_inb : ∀ i : grid0.Coords, ∀ a, (k0_off1 i) a + S1.size a ≤ S289.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S289) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S289) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S289) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S289) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S289) ![v0.toNat] S1.size (k0_off1_inb i)) numel1_S1
  let c0_i32 : BitVec 32 := 0#32
  let c0_i32_0 : BitVec 32 := 0#32
  ![v1.toNat, c0_i32.toNat, arg0.toNat]

def cc0_transform_5 (k0_off1_inb : ∀ i : grid0.Coords, ∀ a, (k0_off1 i) a + S1.size a ≤ S289.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S289) ![v0.toNat] S1.size (k0_off1_inb i)) numel1_S1
  let c0_i32 : BitVec 32 := 0#32
  ![v1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S289 : Shape := ⟨1, ![289]⟩
abbrev S147968x2048 : Shape := ⟨2, ![147968, 2048]⟩
abbrev S32x2048x2048 : Shape := ⟨3, ![32, 2048, 2048]⟩
abbrev S32x1x2048 : Shape := ⟨3, ![32, 1, 2048]⟩
abbrev S289x512x2048 : Shape := ⟨3, ![289, 512, 2048]⟩
abbrev S289x1 : Shape := ⟨2, ![289, 1]⟩
abbrev S289x2048x2048 : Shape := ⟨3, ![289, 2048, 2048]⟩
abbrev S289x1x2048 : Shape := ⟨3, ![289, 1, 2048]⟩
abbrev S_ : Shape := ⟨0, ![]⟩
abbrev S148480x2048 : Shape := ⟨2, ![148480, 2048]⟩

abbrev nBuf : Space → Nat
  | .hbm => 58
  | .vmem => 0
  | .smem => 0
  | _ => 0

abbrev bufTy : (tb : Table) → Fin (tcTables nBuf tb) → BufTy
  | .hbm, ⟨0, _⟩ => ⟨S289, .i32⟩
  | .hbm, ⟨1, _⟩ => ⟨S289, .i32⟩
  | .hbm, ⟨2, _⟩ => ⟨S289, .i32⟩
  | .hbm, ⟨3, _⟩ => ⟨S289, .i32⟩
  | .hbm, ⟨4, _⟩ => ⟨S147968x2048, .f32⟩
  | .hbm, ⟨5, _⟩ => ⟨S32x2048x2048, .bf16⟩
  | .hbm, ⟨6, _⟩ => ⟨S32x1x2048, .f32⟩
  | .hbm, ⟨7, _⟩ => ⟨S32x2048x2048, .bf16⟩
  | .hbm, ⟨8, _⟩ => ⟨S32x1x2048, .f32⟩
  | .hbm, ⟨9, _⟩ => ⟨S289x512x2048, .f32⟩
  | .hbm, ⟨10, _⟩ => ⟨S32x2048x2048, .f32⟩
  | .hbm, ⟨11, _⟩ => ⟨S289x1, .i32⟩
  | .hbm, ⟨12, _⟩ => ⟨S289x2048x2048, .f32⟩
  | .hbm, ⟨13, _⟩ => ⟨S289x512x2048, .f32⟩
  | .hbm, ⟨14, _⟩ => ⟨S289x1, .i32⟩
  | .hbm, ⟨15, _⟩ => ⟨S289x1x2048, .f32⟩
  | .hbm, ⟨16, _⟩ => ⟨S289x512x2048, .f32⟩
  | .hbm, ⟨17, _⟩ => ⟨S289x512x2048, .f32⟩
  | .hbm, ⟨18, _⟩ => ⟨S_, .f32⟩
  | .hbm, ⟨19, _⟩ => ⟨S289x512x2048, .f32⟩
  | .hbm, ⟨20, _⟩ => ⟨S289x512x2048, .f32⟩
  | .hbm, ⟨21, _⟩ => ⟨S32x2048x2048, .f32⟩
  | .hbm, ⟨22, _⟩ => ⟨S289x1, .i32⟩
  | .hbm, ⟨23, _⟩ => ⟨S289x2048x2048, .f32⟩
  | .hbm, ⟨24, _⟩ => ⟨S289x512x2048, .f32⟩
  | .hbm, ⟨25, _⟩ => ⟨S289x1, .i32⟩
  | .hbm, ⟨26, _⟩ => ⟨S289x1x2048, .f32⟩
  | .hbm, ⟨27, _⟩ => ⟨S289x512x2048, .f32⟩
  | .hbm, ⟨28, _⟩ => ⟨S289x512x2048, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S289x512x2048, .f32⟩
  | .hbm, ⟨33, _⟩ => ⟨S289x512x2048, .f32⟩
  | .hbm, ⟨34, _⟩ => ⟨S_, .f32⟩
  | .hbm, ⟨35, _⟩ => ⟨S289x512x2048, .f32⟩
  | .hbm, ⟨36, _⟩ => ⟨S289x512x2048, .f32⟩
  | .hbm, ⟨37, _⟩ => ⟨S_, .f32⟩
  | .hbm, ⟨38, _⟩ => ⟨S289x512x2048, .f32⟩
  | .hbm, ⟨39, _⟩ => ⟨S289x512x2048, .f32⟩
  | .hbm, ⟨40, _⟩ => ⟨S_, .f32⟩
  | .hbm, ⟨41, _⟩ => ⟨S289x512x2048, .f32⟩
  | .hbm, ⟨42, _⟩ => ⟨S289x512x2048, .f32⟩
  | .hbm, ⟨43, _⟩ => ⟨S289x512x2048, .f32⟩
  | .hbm, ⟨44, _⟩ => ⟨S289x512x2048, .f32⟩
  | .hbm, ⟨45, _⟩ => ⟨S_, .f32⟩
  | .hbm, ⟨46, _⟩ => ⟨S289x512x2048, .f32⟩
  | .hbm, ⟨47, _⟩ => ⟨S289x512x2048, .f32⟩
  | .hbm, ⟨48, _⟩ => ⟨S_, .f32⟩
  | .hbm, ⟨49, _⟩ => ⟨S289x512x2048, .f32⟩
  | .hbm, ⟨50, _⟩ => ⟨S289x512x2048, .f32⟩
  | .hbm, ⟨51, _⟩ => ⟨S289x512x2048, .f32⟩
  | .hbm, ⟨52, _⟩ => ⟨S289x512x2048, .f32⟩
  | .hbm, ⟨53, _⟩ => ⟨S147968x2048, .f32⟩
  | .hbm, ⟨54, _⟩ => ⟨S_, .i32⟩
  | .hbm, ⟨55, _⟩ => ⟨S_, .f32⟩
  | .hbm, ⟨56, _⟩ => ⟨S148480x2048, .f32⟩
  | .hbm, ⟨57, _⟩ => ⟨S148480x2048, .bf16⟩
  | _, _ => ⟨S289, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call2_v0 : Ref sig .tc := ⟨.hbm, 22, rfl⟩
abbrev main_v10 : Ref sig .tc := ⟨.hbm, 23, rfl⟩
abbrev main_v11 : Ref sig .tc := ⟨.hbm, 24, rfl⟩
abbrev main_call3_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_cst_1 : Ref sig .tc := ⟨.hbm, 30, rfl⟩
abbrev main_call4_v0 : Ref sig .tc := ⟨.hbm, 31, rfl⟩
abbrev main_call4_v1 : Ref sig .tc := ⟨.hbm, 32, rfl⟩
abbrev main_call4_v2 : Ref sig .tc := ⟨.hbm, 33, rfl⟩
abbrev main_call4_v3 : Ref sig .tc := ⟨.hbm, 34, rfl⟩
abbrev main_call4_v4 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_cst_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c : Ref sig .tc := ⟨.hbm, 54, rfl⟩
abbrev main_call5_v0 : Ref sig .tc := ⟨.hbm, 55, rfl⟩
abbrev main_v29 : Ref sig .tc := ⟨.hbm, 56, rfl⟩
abbrev main_v30 : Ref sig .tc := ⟨.hbm, 57, rfl⟩

abbrev nD : Nat := 1
abbrev τ : Topo := Topo.v7x

variable {F : FTy → Type} [FloatOps F]
-- ==== FfnDown.lean ====
abbrev S289 : Shape := ⟨1, ![289]⟩
abbrev S148480x2048 : Shape := ⟨2, ![148480, 2048]⟩
abbrev S32x2048x2048 : Shape := ⟨3, ![32, 2048, 2048]⟩
abbrev S32x1x2048 : Shape := ⟨3, ![32, 1, 2048]⟩
abbrev S512x2048 : Shape := ⟨2, ![512, 2048]⟩
abbrev S1 : Shape := ⟨1, ![1]⟩
abbrev S1x2048x2048 : Shape := ⟨3, ![1, 2048, 2048]⟩
abbrev S1x1x2048 : Shape := ⟨3, ![1, 1, 2048]⟩
abbrev S2048x2048 : Shape := ⟨2, ![2048, 2048]⟩
abbrev S1x2048 : Shape := ⟨2, ![1, 2048]⟩

abbrev nBuf : Space → Nat
  | .hbm => 4
  | .vmem => 8
  | .smem => 4
  | _ => 0

abbrev bufTy : (tb : Table) → Fin (tcTables nBuf tb) → BufTy
  | .hbm, ⟨0, _⟩ => ⟨S148480x2048, .bf16⟩
  | .hbm, ⟨1, _⟩ => ⟨S32x2048x2048, .bf16⟩
  | .hbm, ⟨2, _⟩ => ⟨S32x1x2048, .f32⟩
  | .hbm, ⟨3, _⟩ => ⟨S148480x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x1x2048, .f32⟩
  | .local _ .vmem, ⟨5, _⟩ => ⟨S1x1x2048, .f32⟩
  | .local _ .vmem, ⟨6, _⟩ => ⟨S512x2048, .f32⟩
  | .local _ .vmem, ⟨7, _⟩ => ⟨S512x2048, .f32⟩
  | .local _ .smem, ⟨0, _⟩ => ⟨S289, .i32⟩
  | .local _ .smem, ⟨1, _⟩ => ⟨S289, .i32⟩
  | .local _ .smem, ⟨2, _⟩ => ⟨S289, .i32⟩
  | .local _ .smem, ⟨3, _⟩ => ⟨S289, .i32⟩
  | _, _ => ⟨S148480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![289], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S289.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S289) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S289) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S289) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S289.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S289) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnDownRefIdeal.lean ====
abbrev S289 : Shape := ⟨1, ![289]⟩
abbrev S148480x2048 : Shape := ⟨2, ![148480, 2048]⟩
abbrev S32x2048x2048 : Shape := ⟨3, ![32, 2048, 2048]⟩
abbrev S32x1x2048 : Shape := ⟨3, ![32, 1, 2048]⟩
abbrev S147968x2048 : Shape := ⟨2, ![147968, 2048]⟩
abbrev S289x512x2048 : Shape := ⟨3, ![289, 512, 2048]⟩
abbrev S289x1 : Shape := ⟨2, ![289, 1]⟩
abbrev S289x2048x2048 : Shape := ⟨3, ![289, 2048, 2048]⟩
abbrev S289x1x2048 : Shape := ⟨3, ![289, 1, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S289, .i32⟩
  | .hbm, ⟨1, _⟩ => ⟨S289, .i32⟩
  | .hbm, ⟨2, _⟩ => ⟨S289, .i32⟩
  | .hbm, ⟨3, _⟩ => ⟨S289, .i32⟩
  | .hbm, ⟨4, _⟩ => ⟨S148480x2048, .bf16⟩
  | .hbm, ⟨5, _⟩ => ⟨S32x2048x2048, .bf16⟩
  | .hbm, ⟨6, _⟩ => ⟨S32x1x2048, .f32⟩
  | .hbm, ⟨7, _⟩ => ⟨S148480x2048, .f32⟩
  | .hbm, ⟨8, _⟩ => ⟨S147968x2048, .f32⟩
  | .hbm, ⟨9, _⟩ => ⟨S289x512x2048, .f32⟩
  | .hbm, ⟨10, _⟩ => ⟨S32x2048x2048, .f32⟩
  | .hbm, ⟨11, _⟩ => ⟨S289x1, .i32⟩
  | .hbm, ⟨12, _⟩ => ⟨S289x2048x2048, .f32⟩
  | .hbm, ⟨13, _⟩ => ⟨S289x512x2048, .f32⟩
  | .hbm, ⟨14, _⟩ => ⟨S289x1, .i32⟩
  | .hbm, ⟨15, _⟩ => ⟨S289x1x2048, .f32⟩
  | .hbm, ⟨16, _⟩ => ⟨S289x512x2048, .f32⟩
  | .hbm, ⟨17, _⟩ => ⟨S289x512x2048, .f32⟩
  | .hbm, ⟨18, _⟩ => ⟨S147968x2048, .f32⟩
  | .hbm, ⟨19, _⟩ => ⟨S_, .i32⟩
  | .hbm, ⟨20, _⟩ => ⟨S_, .f32⟩
  | .hbm, ⟨21, _⟩ => ⟨S148480x2048, .f32⟩
  | _, _ => ⟨S289, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call2_v0 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== RglruS.lean ====
abbrev S128x3072 : Shape := ⟨2, ![128, 3072]⟩
abbrev S1x8x3x1536 : Shape := ⟨4, ![1, 8, 3, 1536]⟩
abbrev S1x8x1536 : Shape := ⟨3, ![1, 8, 1536]⟩
abbrev S1x4x1536 : Shape := ⟨3, ![1, 4, 1536]⟩
abbrev S1x1536 : Shape := ⟨2, ![1, 1536]⟩
abbrev S1x12x128x128 : Shape := ⟨4, ![1, 12, 128, 128]⟩
abbrev S8x3x1536 : Shape := ⟨3, ![8, 3, 1536]⟩
abbrev S8x1536 : Shape := ⟨2, ![8, 1536]⟩
abbrev S4x1536 : Shape := ⟨2, ![4, 1536]⟩
abbrev S1536 : Shape := ⟨1, ![1536]⟩
abbrev S12x128x128 : Shape := ⟨3, ![12, 128, 128]⟩
abbrev S8x1x1536 : Shape := ⟨3, ![8, 1, 1536]⟩
abbrev S128x1536 : Shape := ⟨2, ![128, 1536]⟩
abbrev S16x1536 : Shape := ⟨2, ![16, 1536]⟩
abbrev S1x3x1536 : Shape := ⟨3, ![1, 3, 1536]⟩
abbrev S1x1x1536 : Shape := ⟨3, ![1, 1, 1536]⟩
abbrev S24x1536 : Shape := ⟨2, ![24, 1536]⟩
abbrev S3x1536 : Shape := ⟨2, ![3, 1536]⟩
abbrev S16x128 : Shape := ⟨2, ![16, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 28
  | .vmem => 23
  | .smem => 0
  | _ => 0

abbrev bufTy : (tb : Table) → Fin (tcTables nBuf tb) → BufTy
  | .hbm, ⟨0, _⟩ => ⟨S128x3072, .f32⟩
  | .hbm, ⟨1, _⟩ => ⟨S1x8x3x1536, .f32⟩
  | .hbm, ⟨2, _⟩ => ⟨S1x8x1536, .f32⟩
  | .hbm, ⟨3, _⟩ => ⟨S1x4x1536, .f32⟩
  | .hbm, ⟨4, _⟩ => ⟨S1x1536, .f32⟩
  | .hbm, ⟨5, _⟩ => ⟨S1x12x128x128, .f32⟩
  | .hbm, ⟨6, _⟩ => ⟨S1x1536, .f32⟩
  | .hbm, ⟨7, _⟩ => ⟨S1x12x128x128, .f32⟩
  | .hbm, ⟨8, _⟩ => ⟨S1x1536, .f32⟩
  | .hbm, ⟨9, _⟩ => ⟨S1x1536, .f32⟩
  | .hbm, ⟨10, _⟩ => ⟨S8x3x1536, .f32⟩
  | .hbm, ⟨11, _⟩ => ⟨S8x1536, .f32⟩
  | .hbm, ⟨12, _⟩ => ⟨S4x1536, .f32⟩
  | .hbm, ⟨13, _⟩ => ⟨S1536, .f32⟩
  | .hbm, ⟨14, _⟩ => ⟨S12x128x128, .f32⟩
  | .hbm, ⟨15, _⟩ => ⟨S12x128x128, .bf16⟩
  | .hbm, ⟨16, _⟩ => ⟨S1536, .f32⟩
  | .hbm, ⟨17, _⟩ => ⟨S12x128x128, .f32⟩
  | .hbm, ⟨18, _⟩ => ⟨S12x128x128, .bf16⟩
  | .hbm, ⟨19, _⟩ => ⟨S1536, .f32⟩
  | .hbm, ⟨20, _⟩ => ⟨S1536, .f32⟩
  | .hbm, ⟨21, _⟩ => ⟨S1x1536, .f32⟩
  | .hbm, ⟨22, _⟩ => ⟨S1x1536, .f32⟩
  | .hbm, ⟨23, _⟩ => ⟨S1x1536, .f32⟩
  | .hbm, ⟨24, _⟩ => ⟨S1x1536, .f32⟩
  | .hbm, ⟨25, _⟩ => ⟨S8x1x1536, .f32⟩
  | .hbm, ⟨26, _⟩ => ⟨S128x1536, .bf16⟩
  | .hbm, ⟨27, _⟩ => ⟨S8x1x1536, .f32⟩
  | .local _ .vmem, ⟨0, _⟩ => ⟨S16x1536, .f32⟩
  | .local _ .vmem, ⟨1, _⟩ => ⟨S16x1536, .f32⟩
  | .local _ .vmem, ⟨2, _⟩ => ⟨S16x1536, .f32⟩
  | .local _ .vmem, ⟨3, _⟩ => ⟨S16x1536, .f32⟩
  | .local _ .vmem, ⟨4, _⟩ => ⟨S4x1536, .f32⟩
  | .local _ .vmem, ⟨5, _⟩ => ⟨S1x1536, .f32⟩
  | .local _ .vmem, ⟨6, _⟩ => ⟨S12x128x128, .bf16⟩
  | .local _ .vmem, ⟨7, _⟩ => ⟨S1x1536, .f32⟩
  | .local _ .vmem, ⟨8, _⟩ => ⟨S12x128x128, .bf16⟩
  | .local _ .vmem, ⟨9, _⟩ => ⟨S1x1536, .f32⟩
  | .local _ .vmem, ⟨10, _⟩ => ⟨S1x1536, .f32⟩
  | .local _ .vmem, ⟨11, _⟩ => ⟨S1x3x1536, .f32⟩
  | .local _ .vmem, ⟨12, _⟩ => ⟨S1x3x1536, .f32⟩
  | .local _ .vmem, ⟨13, _⟩ => ⟨S1x1x1536, .f32⟩
  | .local _ .vmem, ⟨14, _⟩ => ⟨S1x1x1536, .f32⟩
  | .local _ .vmem, ⟨15, _⟩ => ⟨S16x1536, .bf16⟩
  | .local _ .vmem, ⟨16, _⟩ => ⟨S16x1536, .bf16⟩
  | .local _ .vmem, ⟨17, _⟩ => ⟨S1x1x1536, .f32⟩
  | .local _ .vmem, ⟨18, _⟩ => ⟨S1x1x1536, .f32⟩
  | .local _ .vmem, ⟨19, _⟩ => ⟨S24x1536, .f32⟩
  | .local _ .vmem, ⟨20, _⟩ => ⟨S16x1536, .f32⟩
  | .local _ .vmem, ⟨21, _⟩ => ⟨S16x1536, .f32⟩
  | .local _ .vmem, ⟨22, _⟩ => ⟨S1x1536, .f32⟩
  | _, _ => ⟨S128x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 1], ![false, false]⟩

@[reducible] def k0_t1_loop : Scf.Loop 32 :=
  let c0_i32_225 : BitVec 32 := 0#32
  let c2_i32 : BitVec 32 := 2#32
  let v516 : BitVec 32 := Scalar.addi c0_i32_225 c2_i32
  let c1_i32 : BitVec 32 := 1#32
  ⟨c0_i32_225, v516, c1_i32⟩
def k0_mult1 (k0_t1 : Fin k0_t1_loop.trips) : BitVec 32 :=
  let c0_i32_225 : BitVec 32 := 0#32
  let c1_i32 : BitVec 32 := 1#32
  let arg19 : BitVec 32 := Scf.iv c0_i32_225 c1_i32 k0_t1
  let c8_i32 : BitVec 32 := 8#32
  let v542 : BitVec 32 := Scalar.muli arg19 c8_i32
  v542
def k0_off1 (k0_t1 : Fin k0_t1_loop.trips) : Fin 2 → Nat :=
  let c0_i32_225 : BitVec 32 := 0#32
  let c1_i32 : BitVec 32 := 1#32
  let arg19 : BitVec 32 := Scf.iv c0_i32_225 c1_i32 k0_t1
  let c8_i32 : BitVec 32 := 8#32
  let v542 : BitVec 32 := Scalar.muli arg19 c8_i32
  let v543 : BitVec 32 := v542
  let v544 : Index := Scalar.indexCast v543
  let c0_242 : Index := 0#32
  ![v544.toNat, 0]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S12x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S12x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x3x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S16x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== RglruSRefIdeal.lean ====
abbrev S128x3072 : Shape := ⟨2, ![128, 3072]⟩
abbrev S1x8x3x1536 : Shape := ⟨4, ![1, 8, 3, 1536]⟩
abbrev S1x8x1536 : Shape := ⟨3, ![1, 8, 1536]⟩
abbrev S1x4x1536 : Shape := ⟨3, ![1, 4, 1536]⟩
abbrev S1x1536 : Shape := ⟨2, ![1, 1536]⟩
abbrev S1x12x128x128 : Shape := ⟨4, ![1, 12, 128, 128]⟩
abbrev S128x1536 : Shape := ⟨2, ![128, 1536]⟩
abbrev S8x16x1536 : Shape := ⟨3, ![8, 16, 1536]⟩
abbrev S8x3x1536 : Shape := ⟨3, ![8, 3, 1536]⟩
abbrev S8x19x1536 : Shape := ⟨3, ![8, 19, 1536]⟩
abbrev S1536 : Shape := ⟨1, ![1536]⟩
abbrev S1x1x1536 : Shape := ⟨3, ![1, 1, 1536]⟩
abbrev S8x16x12x128 : Shape := ⟨4, ![8, 16, 12, 128]⟩
abbrev S12x128x128 : Shape := ⟨3, ![12, 128, 128]⟩
abbrev S12x128x8x16 : Shape := ⟨4, ![12, 128, 8, 16]⟩
abbrev S_ : Shape := ⟨0, ![]⟩
abbrev S8x1536 : Shape := ⟨2, ![8, 1536]⟩
abbrev S8x1x1536 : Shape := ⟨3, ![8, 1, 1536]⟩

abbrev nBuf : Space → Nat
  | .hbm => 246
  | .vmem => 0
  | .smem => 0
  | _ => 0

abbrev hbmTy0_0 (i : Nat) : BufTy := match i % 128 with
  | 0 => ⟨S128x3072, .f32⟩
  | 1 => ⟨S1x8x3x1536, .f32⟩
  | 2 => ⟨S1x8x1536, .f32⟩
  | 3 => ⟨S1x4x1536, .f32⟩
  | 4 => ⟨S1x1536, .f32⟩
  | 5 => ⟨S1x12x128x128, .f32⟩
  | 6 => ⟨S1x1536, .f32⟩
  | 7 => ⟨S1x12x128x128, .f32⟩
  | 8 => ⟨S1x1536, .f32⟩
  | 9 => ⟨S1x1536, .f32⟩
  | 10 => ⟨S128x1536, .f32⟩
  | 11 => ⟨S8x16x1536, .f32⟩
  | 12 => ⟨S8x3x1536, .f32⟩
  | 13 => ⟨S8x19x1536, .f32⟩
  | 14 => ⟨S1536, .f32⟩
  | 15 => ⟨S8x16x1536, .f32⟩
  | 16 => ⟨S1x1x1536, .f32⟩
  | 17 => ⟨S1536, .f32⟩
  | 18 => ⟨S1x1x1536, .f32⟩
  | 19 => ⟨S8x16x1536, .f32⟩
  | 20 => ⟨S8x16x1536, .f32⟩
  | 21 => ⟨S1x1x1536, .f32⟩
  | 22 => ⟨S8x16x1536, .f32⟩
  | 23 => ⟨S8x16x1536, .f32⟩
  | 24 => ⟨S8x16x1536, .f32⟩
  | 25 => ⟨S1x1x1536, .f32⟩
  | 26 => ⟨S1536, .f32⟩
  | 27 => ⟨S1x1x1536, .f32⟩
  | 28 => ⟨S8x16x1536, .f32⟩
  | 29 => ⟨S8x16x1536, .f32⟩
  | 30 => ⟨S8x16x1536, .f32⟩
  | 31 => ⟨S8x16x1536, .f32⟩
  | 32 => ⟨S1x1x1536, .f32⟩
  | 33 => ⟨S1536, .f32⟩
  | 34 => ⟨S1x1x1536, .f32⟩
  | 35 => ⟨S8x16x1536, .f32⟩
  | 36 => ⟨S8x16x1536, .f32⟩
  | 37 => ⟨S8x16x1536, .f32⟩
  | 38 => ⟨S8x16x1536, .f32⟩
  | 39 => ⟨S1x1x1536, .f32⟩
  | 40 => ⟨S1536, .f32⟩
  | 41 => ⟨S1x1x1536, .f32⟩
  | 42 => ⟨S8x16x1536, .f32⟩
  | 43 => ⟨S8x16x1536, .f32⟩
  | 44 => ⟨S8x16x1536, .f32⟩
  | 45 => ⟨S8x16x12x128, .f32⟩
  | 46 => ⟨S12x128x128, .f32⟩
  | 47 => ⟨S12x128x8x16, .f32⟩
  | 48 => ⟨S8x16x12x128, .f32⟩
  | 49 => ⟨S8x16x1536, .f32⟩
  | 50 => ⟨S1536, .f32⟩
  | 51 => ⟨S1x1x1536, .f32⟩
  | 52 => ⟨S8x16x1536, .f32⟩
  | 53 => ⟨S8x16x1536, .f32⟩
  | 54 => ⟨S8x16x1536, .f32⟩
  | 55 => ⟨S8x16x1536, .f32⟩
  | 56 => ⟨S_, .f32⟩
  | 57 => ⟨S8x16x1536, .f32⟩
  | 58 => ⟨S8x16x1536, .f32⟩
  | 59 => ⟨S_, .f32⟩
  | 60 => ⟨S8x16x1536, .f32⟩
  | 61 => ⟨S8x16x1536, .f32⟩
  | 62 => ⟨S12x128x128, .f32⟩
  | 63 => ⟨S12x128x8x16, .f32⟩
  | 64 => ⟨S8x16x12x128, .f32⟩
  | 65 => ⟨S8x16x1536, .f32⟩
  | 66 => ⟨S1536, .f32⟩
  | 67 => ⟨S1x1x1536, .f32⟩
  | 68 => ⟨S8x16x1536, .f32⟩
  | 69 => ⟨S8x16x1536, .f32⟩
  | 70 => ⟨S8x16x1536, .f32⟩
  | 71 => ⟨S8x16x1536, .f32⟩
  | 72 => ⟨S_, .f32⟩
  | 73 => ⟨S8x16x1536, .f32⟩
  | 74 => ⟨S8x16x1536, .f32⟩
  | 75 => ⟨S_, .f32⟩
  | 76 => ⟨S8x16x1536, .f32⟩
  | 77 => ⟨S8x16x1536, .f32⟩
  | 78 => ⟨S_, .f32⟩
  | 79 => ⟨S8x16x1536, .f32⟩
  | 80 => ⟨S8x16x1536, .f32⟩
  | 81 => ⟨S1536, .f32⟩
  | 82 => ⟨S1536, .f32⟩
  | 83 => ⟨S_, .f32⟩
  | 84 => ⟨S1536, .f32⟩
  | 85 => ⟨S1536, .f32⟩
  | 86 => ⟨S1536, .f32⟩
  | 87 => ⟨S1536, .f32⟩
  | 88 => ⟨S1536, .i1⟩
  | 89 => ⟨S1536, .f32⟩
  | 90 => ⟨S1536, .f32⟩
  | 91 => ⟨S1536, .f32⟩
  | 92 => ⟨S1536, .f32⟩
  | 93 => ⟨S1536, .f32⟩
  | 94 => ⟨S1536, .f32⟩
  | 95 => ⟨S1536, .f32⟩
  | 96 => ⟨S1536, .f32⟩
  | 97 => ⟨S1x1x1536, .f32⟩
  | 98 => ⟨S8x16x1536, .f32⟩
  | 99 => ⟨S8x16x1536, .f32⟩
  | 100 => ⟨S8x16x1536, .f32⟩
  | 101 => ⟨S_, .f32⟩
  | 102 => ⟨S8x16x1536, .f32⟩
  | 103 => ⟨S8x16x1536, .f32⟩
  | 104 => ⟨S8x16x1536, .f32⟩
  | 105 => ⟨S8x16x1536, .f32⟩
  | 106 => ⟨S8x16x1536, .f32⟩
  | 107 => ⟨S8x16x1536, .f32⟩
  | 108 => ⟨S8x16x1536, .f32⟩
  | 109 => ⟨S8x1536, .f32⟩
  | 110 => ⟨S8x1x1536, .f32⟩
  | 111 => ⟨S8x1536, .f32⟩
  | 112 => ⟨S8x1536, .f32⟩
  | 113 => ⟨S8x1x1536, .f32⟩
  | 114 => ⟨S8x1536, .f32⟩
  | 115 => ⟨S8x1536, .f32⟩
  | 116 => ⟨S8x1x1536, .f32⟩
  | 117 => ⟨S8x1536, .f32⟩
  | 118 => ⟨S8x1536, .f32⟩
  | 119 => ⟨S8x1x1536, .f32⟩
  | 120 => ⟨S8x1536, .f32⟩
  | 121 => ⟨S8x1536, .f32⟩
  | 122 => ⟨S8x1x1536, .f32⟩
  | 123 => ⟨S8x1536, .f32⟩
  | 124 => ⟨S8x1536, .f32⟩
  | 125 => ⟨S8x1x1536, .f32⟩
  | 126 => ⟨S8x1536, .f32⟩
  | 127 => ⟨S8x1536, .f32⟩
  | _ => ⟨S128x3072, .f32⟩

abbrev hbmTy0_1 (i : Nat) : BufTy := match i % 128 with
  | 0 => ⟨S8x1x1536, .f32⟩
  | 1 => ⟨S8x1536, .f32⟩
  | 2 => ⟨S8x1536, .f32⟩
  | 3 => ⟨S8x1x1536, .f32⟩
  | 4 => ⟨S8x1536, .f32⟩
  | 5 => ⟨S8x1536, .f32⟩
  | 6 => ⟨S8x1x1536, .f32⟩
  | 7 => ⟨S8x1536, .f32⟩
  | 8 => ⟨S8x1536, .f32⟩
  | 9 => ⟨S8x1x1536, .f32⟩
  | 10 => ⟨S8x1536, .f32⟩
  | 11 => ⟨S8x1536, .f32⟩
  | 12 => ⟨S8x1x1536, .f32⟩
  | 13 => ⟨S8x1536, .f32⟩
  | 14 => ⟨S8x1536, .f32⟩
  | 15 => ⟨S8x1x1536, .f32⟩
  | 16 => ⟨S8x1536, .f32⟩
  | 17 => ⟨S8x1536, .f32⟩
  | 18 => ⟨S8x1x1536, .f32⟩
  | 19 => ⟨S8x1536, .f32⟩
  | 20 => ⟨S8x1536, .f32⟩
  | 21 => ⟨S8x1x1536, .f32⟩
  | 22 => ⟨S8x1536, .f32⟩
  | 23 => ⟨S8x1536, .f32⟩
  | 24 => ⟨S8x1x1536, .f32⟩
  | 25 => ⟨S8x1536, .f32⟩
  | 26 => ⟨S8x1536, .f32⟩
  | 27 => ⟨S8x1x1536, .f32⟩
  | 28 => ⟨S8x1536, .f32⟩
  | 29 => ⟨S8x1536, .f32⟩
  | 30 => ⟨S8x1x1536, .f32⟩
  | 31 => ⟨S8x1536, .f32⟩
  | 32 => ⟨S8x1536, .f32⟩
  | 33 => ⟨S8x1x1536, .f32⟩
  | 34 => ⟨S8x1536, .f32⟩
  | 35 => ⟨S8x1536, .f32⟩
  | 36 => ⟨S8x1x1536, .f32⟩
  | 37 => ⟨S8x1536, .f32⟩
  | 38 => ⟨S8x1536, .f32⟩
  | 39 => ⟨S8x1x1536, .f32⟩
  | 40 => ⟨S8x1536, .f32⟩
  | 41 => ⟨S8x1536, .f32⟩
  | 42 => ⟨S8x1x1536, .f32⟩
  | 43 => ⟨S8x1536, .f32⟩
  | 44 => ⟨S8x1536, .f32⟩
  | 45 => ⟨S8x1x1536, .f32⟩
  | 46 => ⟨S8x1536, .f32⟩
  | 47 => ⟨S8x1536, .f32⟩
  | 48 => ⟨S8x1x1536, .f32⟩
  | 49 => ⟨S8x1536, .f32⟩
  | 50 => ⟨S8x1536, .f32⟩
  | 51 => ⟨S8x1x1536, .f32⟩
  | 52 => ⟨S8x1536, .f32⟩
  | 53 => ⟨S8x1536, .f32⟩
  | 54 => ⟨S8x1x1536, .f32⟩
  | 55 => ⟨S8x1536, .f32⟩
  | 56 => ⟨S8x1536, .f32⟩
  | 57 => ⟨S8x1x1536, .f32⟩
  | 58 => ⟨S8x1536, .f32⟩
  | 59 => ⟨S8x1536, .f32⟩
  | 60 => ⟨S8x1x1536, .f32⟩
  | 61 => ⟨S8x1536, .f32⟩
  | 62 => ⟨S8x1536, .f32⟩
  | 63 => ⟨S8x1x1536, .f32⟩
  | 64 => ⟨S8x1536, .f32⟩
  | 65 => ⟨S8x1536, .f32⟩
  | 66 => ⟨S8x1x1536, .f32⟩
  | 67 => ⟨S8x1536, .f32⟩
  | 68 => ⟨S8x1536, .f32⟩
  | 69 => ⟨S8x1x1536, .f32⟩
  | 70 => ⟨S8x1536, .f32⟩
  | 71 => ⟨S8x1536, .f32⟩
  | 72 => ⟨S8x1x1536, .f32⟩
  | 73 => ⟨S8x1536, .f32⟩
  | 74 => ⟨S8x1536, .f32⟩
  | 75 => ⟨S8x1x1536, .f32⟩
  | 76 => ⟨S8x1536, .f32⟩
  | 77 => ⟨S8x1536, .f32⟩
  | 78 => ⟨S8x1x1536, .f32⟩
  | 79 => ⟨S8x1x1536, .f32⟩
  | 80 => ⟨S8x1x1536, .f32⟩
  | 81 => ⟨S8x1x1536, .f32⟩
  | 82 => ⟨S8x1x1536, .f32⟩
  | 83 => ⟨S8x1x1536, .f32⟩
  | 84 => ⟨S8x1x1536, .f32⟩
  | 85 => ⟨S8x1x1536, .f32⟩
  | 86 => ⟨S8x1x1536, .f32⟩
  | 87 => ⟨S8x1x1536, .f32⟩
  | 88 => ⟨S8x1x1536, .f32⟩
  | 89 => ⟨S8x1x1536, .f32⟩
  | 90 => ⟨S8x1x1536, .f32⟩
  | 91 => ⟨S8x1x1536, .f32⟩
  | 92 => ⟨S8x1x1536, .f32⟩
  | 93 => ⟨S8x1x1536, .f32⟩
  | 94 => ⟨S8x16x1536, .f32⟩
  | 95 => ⟨S128x1536, .f32⟩
  | 96 => ⟨S8x16x1536, .f32⟩
  | 97 => ⟨S8x16x1536, .f32⟩
  | 98 => ⟨S8x16x1536, .f32⟩
  | 99 => ⟨S_, .f32⟩
  | 100 => ⟨S8x16x1536, .f32⟩
  | 101 => ⟨S8x16x1536, .f32⟩
  | 102 => ⟨S8x16x1536, .f32⟩
  | 103 => ⟨S_, .f32⟩
  | 104 => ⟨S8x16x1536, .f32⟩
  | 105 => ⟨S8x16x1536, .f32⟩
  | 106 => ⟨S8x16x1536, .f32⟩
  | 107 => ⟨S_, .f32⟩
  | 108 => ⟨S8x16x1536, .f32⟩
  | 109 => ⟨S8x16x1536, .f32⟩
  | 110 => ⟨S_, .f32⟩
  | 111 => ⟨S8x16x1536, .f32⟩
  | 112 => ⟨S8x16x1536, .f32⟩
  | 113 => ⟨S8x16x1536, .f32⟩
  | 114 => ⟨S8x16x1536, .f32⟩
  | 115 => ⟨S128x1536, .f32⟩
  | 116 => ⟨S128x1536, .bf16⟩
  | 117 => ⟨S8x1x1536, .f32⟩
  | _ => ⟨S128x3072, .f32⟩

abbrev hbmTy (i : Nat) : BufTy := match i / 128 with
  | 0 => hbmTy0_0 i
  | 1 => hbmTy0_1 i
  | _ => ⟨S128x3072, .f32⟩

abbrev bufTy : (tb : Table) → Fin (tcTables nBuf tb) → BufTy
  | .hbm, ⟨i, _⟩ => hbmTy i
  | _, _ => ⟨S128x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst : Ref sig .tc := ⟨.hbm, 56, rfl⟩
abbrev main_v46 : Ref sig .tc := ⟨.hbm, 57, rfl⟩
abbrev main_v47 : Ref sig .tc := ⟨.hbm, 58, rfl⟩
abbrev main_cst_0 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_1 : Ref sig .tc := ⟨.hbm, 72, rfl⟩
abbrev main_v60 : Ref sig .tc := ⟨.hbm, 73, rfl⟩
abbrev main_v61 : Ref sig .tc := ⟨.hbm, 74, rfl⟩
abbrev main_cst_2 : Ref sig .tc := ⟨.hbm, 75, rfl⟩
abbrev main_v62 : Ref sig .tc := ⟨.hbm, 76, rfl⟩
abbrev main_v63 : Ref sig .tc := ⟨.hbm, 77, rfl⟩
abbrev main_cst_3 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_call0_cst : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_v8 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_4 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_cst_5 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_cst_6 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_cst_7 : Ref sig .tc := ⟨.hbm, 235, rfl⟩
abbrev main_v204 : Ref sig .tc := ⟨.hbm, 236, rfl⟩
abbrev main_v205 : Ref sig .tc := ⟨.hbm, 237, rfl⟩
abbrev main_cst_8 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩

abbrev nD : Nat := 1
abbrev τ : Topo := Topo.v7x

variable {F : FTy → Type} [FloatOps F]
-- ==== Proof.Softmax.lean ====
module

public import Idealize.ShloMosaic.Lib.IdealHost
public import Idealize.ShloMosaic.Lib.Pointwise

@[expose] public section

/-! The weighted mean of an attention row over the extended reals: the weights are the exponentials of the scores less their
greatest. A kernel divides the weighted sum once, the reference divides every weight. -/

noncomputable section

namespace Cert.Softmax

open Idealize.ShloMosaic

/-- The literal of minus infinity. -/
theorem lit_bot : Ideal.ofBits .f32 0xFF800000#32 = ⊥ := by
  simp [Ideal.ofBits, Ideal.ieee]

/-- The literal of plus infinity. -/
theorem lit_top : Ideal.ofBits .f32 0x7F800000#32 = ⊤ := by
  simp [Ideal.ofBits, Ideal.ieee]

/-- The literal of zero. -/
theorem lit_zero : Ideal.ofBits .f32 0x00000000#32 = 0 := by
  simp [Ideal.ofBits, Ideal.ieee]

/-- Multiplying by a positive real goes through a sum. -/
theorem sum_mul_real {ι : Type*} (A : Finset ι) (f : ι → EReal) {c : ℝ} (hc : 0 ≤ c) :
    (∑ i ∈ A, f i) * (c : EReal) = ∑ i ∈ A, f i * (c : EReal) := by
  classical
  induction A using Finset.induction_on with
  | empty => simp
  | insert a A ha ih =>
    rw [Finset.sum_insert ha, Finset.sum_insert ha,
      EReal.right_distrib_of_nonneg_of_ne_top (by exact_mod_cast hc) (EReal.coe_ne_top c), ih]

/-- Dividing by a positive real is multiplying by its inverse. -/
theorem div_real (x : EReal) {l : ℝ} (hl : 0 < l) : Ideal.div x (l : EReal) = x * ((l⁻¹ : ℝ) : EReal) := by
  unfold Ideal.div
  rw [if_neg (by exact_mod_cast hl.ne'), EReal.coe_inv]

/-- One division of the weighted sum, or one of every weight. -/
theorem div_sum {n : Nat} (p v : Fin n → EReal) {l : ℝ} (hl : 0 < l) :
    Ideal.div (∑ i, p i * v i) (l : EReal) = ∑ i, v i * Ideal.div (p i) (l : EReal) := by
  rw [div_real _ hl, sum_mul_real _ _ (inv_pos.mpr hl).le]
  refine Finset.sum_congr rfl fun i _ => ?_
  rw [div_real _ hl, mul_comm (p i) (v i), mul_assoc]

/-- The greatest of scores that are not all minus infinity, and none infinite, is a real. -/
theorem max_real {n : Nat} (s : Fin n → EReal) (h : ∀ i, s i ≠ ⊤) (i : Fin n) (hi : s i ≠ ⊥) :
    ∃ r : ℝ, Finset.univ.fold max ⊥ s = (r : EReal) := by
  have h1 : Finset.univ.fold max ⊥ s ≠ ⊤ :=
    ((Finset.fold_max_lt ⊤).mpr ⟨bot_lt_top, fun x _ => lt_of_le_of_ne le_top (h x)⟩).ne
  have h2 : Finset.univ.fold max ⊥ s ≠ ⊥ := fun e =>
    hi (le_bot_iff.mp (e ▸ (Finset.le_fold_max (s i)).mpr (Or.inr ⟨i, Finset.mem_univ i, le_rfl⟩)))
  exact ⟨_, (EReal.coe_toReal h1 h2).symm⟩

/-- A masked key weighs nothing. -/
theorem exp_bot (M : ℝ) : Ideal.exp (⊥ - (M : EReal)) = 0 := by rw [EReal.bot_sub]; rfl

/-- A weight is a real that is not negative, and positive where the score is a real. -/
theorem weight_real (x : EReal) (h : x ≠ ⊤) (M : ℝ) :
    ∃ r : ℝ, Ideal.exp (x - (M : EReal)) = (r : EReal) ∧ 0 ≤ r ∧ (x ≠ ⊥ → 0 < r) := by
  induction x with
  | bot => exact ⟨0, by rw [exp_bot]; rfl, le_rfl, fun h => absurd rfl h⟩
  | top => exact absurd rfl h
  | coe x => exact ⟨Real.exp (x - M), by rw [← EReal.coe_sub]; rfl, (Real.exp_pos _).le, fun _ => Real.exp_pos _⟩

/-- The weights' sum is a positive real. -/
theorem total_real {n : Nat} (s : Fin n → EReal) (h : ∀ i, s i ≠ ⊤) (i : Fin n) (hi : s i ≠ ⊥) (M : ℝ) :
    ∃ l : ℝ, 0 < l ∧ ∑ j, Ideal.exp (s j - (M : EReal)) = (l : EReal) := by
  choose r hr h0 hp using fun j => weight_real (s j) (h j) M
  refine ⟨∑ j, r j, Finset.sum_pos' (fun j _ => h0 j) ⟨i, Finset.mem_univ i, hp i hi⟩, ?_⟩
  rw [Finset.sum_congr rfl fun j _ => hr j]
  exact (map_sum (⟨⟨Real.toEReal, EReal.coe_zero⟩, EReal.coe_add⟩ : ℝ →+ EReal) r Finset.univ).symm

/-- Two sums whose terms agree where their positions match, and vanish elsewhere. -/
theorem sum_match {n N : Nat} (off : ℤ) (f : Fin n → EReal) (g : Fin N → EReal)
    (hfg : ∀ (K : Fin n) (u : Fin N), (u.val : ℤ) = K.val + off → f K = g u)
    (hf : ∀ K, f K ≠ 0 → ∃ u : Fin N, (u.val : ℤ) = K.val + off)
    (hg : ∀ u, g u ≠ 0 → ∃ K : Fin n, (u.val : ℤ) = K.val + off) : ∑ K, f K = ∑ u, g u := by
  classical
  refine Finset.sum_bij_ne_zero (fun K _ h => (hf K h).choose) (fun _ _ _ => Finset.mem_univ _) ?_ ?_ ?_
  · intro K _ hK K' _ hK' e
    have h1 := (hf K hK).choose_spec
    have h2 := (hf K' hK').choose_spec
    rw [e] at h1
    exact Fin.ext (by omega)
  · intro u _ hu
    obtain ⟨K, hK⟩ := hg u hu
    have hK0 : f K ≠ 0 := by rw [hfg K u hK]; exact hu
    refine ⟨K, Finset.mem_univ _, hK0, ?_⟩
    have h1 := (hf K hK0).choose_spec
    exact Fin.ext (by omega)
  · intro K _ hK
    exact hfg K _ (hf K hK).choose_spec

/-- Likewise the greatest. -/
theorem max_match {n N : Nat} (off : ℤ) (f : Fin n → EReal) (g : Fin N → EReal)
    (hfg : ∀ (K : Fin n) (u : Fin N), (u.val : ℤ) = K.val + off → f K = g u)
    (hf : ∀ K, f K ≠ ⊥ → ∃ u : Fin N, (u.val : ℤ) = K.val + off)
    (hg : ∀ u, g u ≠ ⊥ → ∃ K : Fin n, (u.val : ℤ) = K.val + off) :
    Finset.univ.fold max ⊥ f = Finset.univ.fold max ⊥ g := by
  apply le_antisymm
  · refine (Finset.fold_max_le _).mpr ⟨bot_le, fun K _ => ?_⟩
    by_cases h : f K = ⊥
    · rw [h]; exact bot_le
    · obtain ⟨u, hu⟩ := hf K h
      exact (Finset.le_fold_max _).mpr (Or.inr ⟨u, Finset.mem_univ _, (hfg K u hu).le⟩)
  · refine (Finset.fold_max_le _).mpr ⟨bot_le, fun u _ => ?_⟩
    by_cases h : g u = ⊥
    · rw [h]; exact bot_le
    · obtain ⟨K, hK⟩ := hg u h
      exact (Finset.le_fold_max _).mpr (Or.inr ⟨K, Finset.mem_univ _, (hfg K u hK).ge⟩)

/-- An attention row over `n` keys, and one over `N` keys of which those that match are the `n` and the others are masked. -/
theorem attend_match {n N : Nat} (off : ℤ) (s v : Fin n → EReal) (S V : Fin N → EReal)
    (hs : ∀ (K : Fin n) (u : Fin N), (u.val : ℤ) = K.val + off → s K = S u)
    (hv : ∀ (K : Fin n) (u : Fin N), (u.val : ℤ) = K.val + off → v K = V u)
    (hK : ∀ K, s K ≠ ⊥ → ∃ u : Fin N, (u.val : ℤ) = K.val + off)
    (hu : ∀ u, S u ≠ ⊥ → ∃ K : Fin n, (u.val : ℤ) = K.val + off)
    (htop : ∀ u, S u ≠ ⊤) (u : Fin N) (hbot : S u ≠ ⊥) :
    Ideal.div (∑ K, Ideal.exp (s K - Finset.univ.fold max ⊥ s) * v K) (∑ K, Ideal.exp (s K - Finset.univ.fold max ⊥ s))
      = ∑ u, V u * Ideal.div (Ideal.exp (S u - Finset.univ.fold max ⊥ S)) (∑ u, Ideal.exp (S u - Finset.univ.fold max ⊥ S)) := by
  obtain ⟨M, hM⟩ := max_real S htop u hbot
  obtain ⟨l, hl, hL⟩ := total_real S htop u hbot M
  have h0 : ∀ x : EReal, Ideal.exp (x - (M : EReal)) ≠ 0 → x ≠ ⊥ := fun x h e => h (by rw [e, exp_bot])
  rw [max_match off s S hs hK hu, hM,
    sum_match off (fun K => Ideal.exp (s K - (M : EReal))) (fun u => Ideal.exp (S u - (M : EReal)))
      (fun K u h => by simp only [hs K u h]) (fun K h => hK K (h0 _ h)) (fun u h => hu u (h0 _ h)),
    sum_match off (fun K => Ideal.exp (s K - (M : EReal)) * v K) (fun u => Ideal.exp (S u - (M : EReal)) * V u)
      (fun K u h => by simp only [hs K u h, hv K u h]) (fun K h => hK K (h0 _ (left_ne_zero_of_mul h)))
      (fun u h => hu u (h0 _ (left_ne_zero_of_mul h))), hL]
  exact div_sum _ _ hl

/-- A sum of products of reals is a real. -/
theorem dot_real {n : Nat} (f g : Fin n → EReal) (hf : ∀ i, ∃ r : ℝ, f i = r) (hg : ∀ i, ∃ r : ℝ, g i = r) :
    ∃ r : ℝ, ∑ i, f i * g i = (r : EReal) := by
  choose a ha using hf
  choose b hb using hg
  refine ⟨∑ i, a i * b i, ?_⟩
  rw [Finset.sum_congr rfl fun i _ => show f i * g i = ((a i * b i : ℝ) : EReal) by rw [ha, hb, EReal.coe_mul]]
  exact (map_sum (⟨⟨Real.toEReal, EReal.coe_zero⟩, EReal.coe_add⟩ : ℝ →+ EReal) (fun i => a i * b i) Finset.univ).symm

/-- What the preconditions say of one number: it is a real. -/
theorem real_of_abs_lt {x : EReal} (h : max x (-x) < ⊤) : ∃ r : ℝ, x = r := by
  induction x with
  | bot => simp at h
  | top => simp at h
  | coe x => exact ⟨x, rfl⟩

/-- The comparison that a precondition makes: its number is a real. -/
theorem real_of_olt {x : EReal} (h : Ideal.cmp .olt (max x (-x)) (Ideal.ofBits .f32 0x7F800000#32) = 1#1) : ∃ r : ℝ, x = r := by
  rw [lit_top] at h
  refine real_of_abs_lt ?_
  by_contra hn
  simp only [Ideal.cmp, hn, decide_false] at h
  exact absurd h (by decide)

/-- A positive number's literal scales a real to a real. -/
theorem scale_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

end Cert.Softmax

end
-- ==== Proof.BandBias.lean ====
/-  The band attention's bias, which the host computes for 128 queries and 640 keys, at an element. -/
module

public import proofs.«01_k».proof.Proof.Gen.KernelIdeal.Frame.Runs
public import proofs.«01_k».proof.Proof.Softmax
public import Idealize.ShloMosaic.Lib.IdealHost
public import Idealize.ShloMosaic.Lib.Pointwise
public import Idealize.ShloMosaic.Lib.ValueIdx
public import Idealize.ShloMosaic.Lib.Pipeline.ValueKit

@[expose] public section

set_option maxRecDepth 16384

noncomputable section

namespace Cert.Softmax

open Idealize.ShloMosaic

/-- The gather of one column per start index: from a table `[E, N]` at start indices `[A, B, 1]`, the result `[E, A, B]`. -/
abbrev colDims (E N A B : Nat) (wf : GatherDims.WF ⟨2, ![E, N]⟩ ⟨3, ![A, B, 1]⟩ ⟨3, ![E, A, B]⟩ [0] [1] [] [1] [] 2 ![E, 1]) :
    GatherDims ⟨2, ![E, N]⟩ ⟨3, ![A, B, 1]⟩ ⟨3, ![E, A, B]⟩ where
  offsetDims := [0]
  collapsedSliceDims := [1]
  operandBatchingDims := []
  startIndicesBatchingDims := []
  startIndexMap := [1]
  indexVectorDim := 2
  sliceSizes := ![E, 1]
  wf := wf

/-- The start index of a result index. -/
abbrev colIdx {E A B : Nat} (y : (⟨3, ![E, A, B]⟩ : Shape).Idx) : (⟨3, ![A, B, 1]⟩ : Shape).Idx :=
  fun a => match a with | ⟨0, _⟩ => ⟨(y 1).val, (y 1).isLt⟩ | ⟨1, _⟩ => ⟨(y 2).val, (y 2).isLt⟩ | ⟨2, _⟩ => ⟨0, Nat.one_pos⟩

/-- The gather at an index: the column that the start index names, at the index's row. -/
theorem gather_col_at {E N A B w : Nat} {α : Type}
    (wf : GatherDims.WF ⟨2, ![E, N]⟩ ⟨3, ![A, B, 1]⟩ ⟨3, ![E, A, B]⟩ [0] [1] [] [1] [] 2 ![E, 1])
    (x : (⟨2, ![E, N]⟩ : Shape).Idx → α) (idx : IVec ⟨3, ![A, B, 1]⟩ w) (y : (⟨3, ![E, A, B]⟩ : Shape).Idx)
    (J : (⟨2, ![E, N]⟩ : Shape).Idx) (h0 : (J 0).val = (y 0).val) (h1 : (J 1).val = min (idx (colIdx y)).toInt.toNat (N - 1)) :
    Host.gather (colDims E N A B wf) x idx y = x J := by
  unfold Host.gather
  congr 1
  funext a
  refine Fin.ext ?_
  show (colDims E N A B wf).start y idx a + (colDims E N A B wf).batchCoord y a + (colDims E N A B wf).offCoord y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show (0 : Fin 2) ∉ ([1] : List (Fin 2)) by decide), h0]
    simp only [Nat.zero_add]
    rfl
  · rw [GatherDims.offCoord_eq_zero _ _ _ (fun h => ((GatherDims.mem_sKept _ _).mp h).1 (List.mem_singleton.mpr rfl)), h1]
    simp only [Nat.add_zero]
    unfold GatherDims.start
    rw [dif_pos (show (1 : Fin 2) ∈ (colDims E N A B wf).startIndexMap from List.mem_singleton.mpr rfl)]
    have hsi : (colDims E N A B wf).siIdx y ⟨List.idxOf (1 : Fin 2) (colDims E N A B wf).startIndexMap,
        List.idxOf_lt_length_iff.2 (List.mem_singleton.mpr rfl)⟩ = colIdx y := by
      funext b; refine Fin.ext ?_
      match b with
      | ⟨0, _⟩ => rfl
      | ⟨1, _⟩ => rfl
      | ⟨2, _⟩ => rfl
    rw [hsi]
    rfl

/-- The word that a distance looks the bias up by. -/
def word (x : BitVec 32) : BitVec 32 :=
  let y := IntOp.addi (IntOp.minsi 128#32 (IntOp.maxsi 4294967168#32 x)) 128#32
  if IntOp.cmpi .slt y 0#32 = 1#1 then IntOp.addi y 257#32 else y

/-- The bias's column of a distance. -/
def col (x : BitVec 32) : Fin 257 := ⟨min (word x).toInt.toNat 256, by omega⟩

theorem col_val (x : BitVec 32) :
    (col x).val = min (Scalar.select (IntOp.cmpi .slt (IntOp.addi (IntOp.minsi 128#32 (IntOp.maxsi 4294967168#32 x)) 128#32) 0#32)
      (IntOp.addi (IntOp.addi (IntOp.minsi 128#32 (IntOp.maxsi 4294967168#32 x)) 128#32) 257#32)
      (IntOp.addi (IntOp.minsi 128#32 (IntOp.maxsi 4294967168#32 x)) 128#32)).toInt.toNat (257 - 1) := by
  unfold col word Scalar.select
  rfl

end Cert.Softmax

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ)

def rows : IVec S128x1 32 := broadcastInDim S128x1 ![0] bcast_S128_S128x1_0 (iotaInDim S128 32 0)
def cols : IVec S1x640 32 := broadcastInDim S1x640 ![1] bcast_S640_S1x640_1 (iotaInDim S640 32 0)

/-- The distances. -/
def dist : IVec S128x640 32 :=
  subi (broadcastInDim S128x640 ![0, 1] bcast_S128x1_S128x640_0_1 (addi rows (broadcastInDim S128x1 ![] bcast_S_S128x1 (constantI S_ 32 512#32))))
    (broadcastInDim S128x640 ![0, 1] bcast_S1x640_S128x640_0_1 cols)

/-- The clipped distances, from zero up. -/
def clipped : IVec S128x640 32 :=
  addi (minsi (broadcastInDim S128x640 ![] bcast_S_S128x640 (constantI S_ 32 128#32)) (maxsi (broadcastInDim S128x640 ![] bcast_S_S128x640 (constantI S_ 32 4294967168#32)) dist))
    (broadcastInDim S128x640 ![] bcast_S_S128x640 (constantI S_ 32 128#32))

/-- The looked-up bias. -/
def looked (x1 : FVec Ideal S12x257 .f32) : FVec Ideal S12x128x640 .f32 :=
  Host.gather gather_S12x257_S128x640x1_S12x128x640_0_1_n_n_1_2_121 x1 (broadcastInDim S128x640x1 ![0, 1] bcast_S128x640_S128x640x1_0_1
    (select (cmpi .slt clipped (broadcastInDim S128x640 ![] bcast_S_S128x640 (constantI S_ 32 0#32))) (addi clipped (broadcastInDim S128x640 ![] bcast_S_S128x640 (constantI S_ 32 257#32))) clipped))

/-- The quotient of integers, rounded down. -/
def quot {s : Shape} (b : S_.BroadcastsInDim s (![] : Fin 0 → Fin s.rank)) (x : IVec s 32) : IVec s 32 :=
  select (andi (cmpi .ne (signi x) (broadcastInDim s ![] b (signi (constantI S_ 32 64#32)))) (cmpi .ne (Host.remsi x (broadcastInDim s ![] b (constantI S_ 32 64#32))) (broadcastInDim s ![] b (constantI S_ 32 0#32))))
    (subi (Host.divsi x (broadcastInDim s ![] b (constantI S_ 32 64#32))) (broadcastInDim s ![] b (constantI S_ 32 1#32)))
    (Host.divsi x (broadcastInDim s ![] b (constantI S_ 32 64#32)))

/-- How many chunks a key lies behind its query. -/
def gap : IVec S128x640 32 :=
  subi (broadcastInDim S128x640 ![0, 1] bcast_S128x1_S128x640_0_1 (addi (quot bcast_S_S128x1 rows) (broadcastInDim S128x1 ![] bcast_S_S128x1 (constantI S_ 32 8#32))))
    (broadcastInDim S128x640 ![0, 1] bcast_S1x640_S128x640_0_1 (quot bcast_S_S1x640 cols))

/-- Which keys lie in the band. -/
def band : IVec S128x640 1 :=
  andi (cmpi .sge gap (broadcastInDim S128x640 ![] bcast_S_S128x640 (constantI S_ 32 0#32))) (cmpi .sle gap (broadcastInDim S128x640 ![] bcast_S_S128x640 (constantI S_ 32 8#32)))

set_option maxHeartbeats 4000000 in
/-- The bias's array. -/
theorem bias_eq (c : Dev nD) : V m c main_v32
    = select (broadcastInDim S12x128x640 ![0, 1, 2] bcast_S1x128x640_S12x128x640_0_1_2 (broadcastInDim S1x128x640 ![1, 2] bcast_S128x640_S1x128x640_1_2 band))
        (looked (m ((c : Thread nD τ).loc main_arg1))) (broadcastInDim S12x128x640 ![] bcast_S_S12x128x640 (constant S_ .f32 0xFF800000#32)) := by
  show StableHlo.after (List.flatten [hostOps0, hostOps0_1, hostOps0_2, hostOps0_3, hostOps0_4, hostOps0_5, hostOps0_6, hostOps0_7]) (fun b => m (c, b)) (Proc.devRef .tc main_v32) = _
  simp only [hostOps0, hostOps0_1, hostOps0_2, hostOps0_3, hostOps0_4, hostOps0_5, hostOps0_6, hostOps0_7, List.flatten_cons, List.flatten_nil, List.append_nil, List.cons_append, List.nil_append]
  after_results_simp
  simp only [StableHlo.TRef.ofBuf, StableHlo.TRef.toBuf]
  rfl

theorem quot_rows : ∀ r : Fin 128, quot bcast_S_S128x1 rows (ix2 r (0 : Fin 1)) = BitVec.ofNat 32 (r.val / 64) := by decide +kernel
theorem quot_cols : ∀ K : Fin 640, quot bcast_S_S1x640 cols (ix2 (0 : Fin 1) K) = BitVec.ofNat 32 (K.val / 64) := by decide +kernel

/-- The band's bit of a gap. -/
def bit (g : BitVec 32) : BitVec 1 := IntOp.andi (IntOp.cmpi .sge g 0#32) (IntOp.cmpi .sle g 8#32)

theorem band_at (r : Fin 128) (K : Fin 640) :
    band (ix2 r K) = bit (IntOp.subi (IntOp.addi (BitVec.ofNat 32 (r.val / 64)) 8#32) (BitVec.ofNat 32 (K.val / 64))) := by
  have e : gap (ix2 r K) = IntOp.subi (IntOp.addi (BitVec.ofNat 32 (r.val / 64)) 8#32) (BitVec.ofNat 32 (K.val / 64)) := by
    rw [← quot_rows r, ← quot_cols K]
    unfold gap
    generalize quot bcast_S_S128x1 rows = a, quot bcast_S_S1x640 cols = b
    pointwise
  rw [← e]
  rfl

theorem clipped_at (r : Fin 128) (K : Fin 640) :
    clipped (ix2 r K) = IntOp.addi (IntOp.minsi 128#32 (IntOp.maxsi 4294967168#32 (IntOp.subi (IntOp.addi (BitVec.ofNat 32 r.val) 512#32) (BitVec.ofNat 32 K.val)))) 128#32 := by
  unfold clipped dist rows cols
  pointwise

/-- The start index of the gather. -/
theorem start_at (q : IVec S128x640 32) (h : Fin 12) (r : Fin 128) (K : Fin 640) :
    broadcastInDim S128x640x1 ![0, 1] bcast_S128x640_S128x640x1_0_1
        (select (cmpi .slt q (broadcastInDim S128x640 ![] bcast_S_S128x640 (constantI S_ 32 0#32))) (addi q (broadcastInDim S128x640 ![] bcast_S_S128x640 (constantI S_ 32 257#32))) q)
        (Cert.Softmax.colIdx (ix3 h r K))
      = Scalar.select (IntOp.cmpi .slt (q (ix2 r K)) 0#32) (IntOp.addi (q (ix2 r K)) 257#32) (q (ix2 r K)) := by
  have e : (Cert.Softmax.colIdx (ix3 h r K) : S128x640x1.Idx) = ix3 r K (0 : Fin 1) := by
    funext a
    match a with
    | ⟨0, _⟩ => rfl
    | ⟨1, _⟩ => rfl
    | ⟨2, _⟩ => rfl
  rw [e]
  pointwise

theorem looked_at (x1 : FVec Ideal S12x257 .f32) (h : Fin 12) (r : Fin 128) (K : Fin 640) :
    looked x1 (ix3 h r K) = x1 (ix2 h (Cert.Softmax.col (IntOp.subi (IntOp.addi (BitVec.ofNat 32 r.val) 512#32) (BitVec.ofNat 32 K.val)))) := by
  unfold looked
  refine Cert.Softmax.gather_col_at (E := 12) (N := 257) (A := 128) (B := 640) (gather_S12x257_S128x640x1_S12x128x640_0_1_n_n_1_2_121).wf _ _ _ _ rfl ?_
  rw [start_at, clipped_at]
  generalize IntOp.subi (IntOp.addi (BitVec.ofNat 32 r.val) 512#32) (BitVec.ofNat 32 K.val) = x
  exact Cert.Softmax.col_val x

/-- The bias at an element, on any band. -/
theorem pick_at (b : IVec S128x640 1) (z : FVec Ideal S12x128x640 .f32) (h : Fin 12) (r : Fin 128) (K : Fin 640) :
    select (broadcastInDim S12x128x640 ![0, 1, 2] bcast_S1x128x640_S12x128x640_0_1_2 (broadcastInDim S1x128x640 ![1, 2] bcast_S128x640_S1x128x640_1_2 b))
        z (broadcastInDim S12x128x640 ![] bcast_S_S12x128x640 (constant S_ .f32 0xFF800000#32)) (ix3 h r K) = (if b (ix2 r K) = 1#1 then z (ix3 h r K) else (⊥ : EReal)) := by
  have e : broadcastInDim S12x128x640 ![0, 1, 2] bcast_S1x128x640_S12x128x640_0_1_2 (broadcastInDim S1x128x640 ![1, 2] bcast_S128x640_S1x128x640_1_2 b) (ix3 h r K) = b (ix2 r K) := by
    pointwise
  rw [← e, ← Cert.Softmax.lit_bot]
  rfl

/-- The bias at an element. -/
theorem bias_at (c : Dev nD) (h : Fin 12) (r : Fin 128) (K : Fin 640) :
    V m c main_v32 (ix3 h r K)
      = if bit (IntOp.subi (IntOp.addi (BitVec.ofNat 32 (r.val / 64)) 8#32) (BitVec.ofNat 32 (K.val / 64))) = 1#1
        then m ((c : Thread nD τ).loc main_arg1) (ix2 h (Cert.Softmax.col (IntOp.subi (IntOp.addi (BitVec.ofNat 32 r.val) 512#32) (BitVec.ofNat 32 K.val)))) else (⊥ : EReal) := by
  rw [bias_eq, pick_at, band_at, looked_at]

end Cert.KernelIdeal.Hand

end
-- ==== Proof.BandPay.lean ====
/-  The band attention's payload: one trip's block of 128 queries over five tiles of 128 keys, at an element. -/
module

public import proofs.«01_k».proof.Proof.Gen.KernelIdeal.Skeleton
public import proofs.«01_k».proof.Proof.Softmax
public import Idealize.ShloMosaic.Lib.IdealHost
public import Idealize.ShloMosaic.Lib.Pointwise
public import Idealize.ShloMosaic.Lib.Pipeline.ValueKit
public import Idealize.ShloMosaic.Lib.Pipeline.Value

@[expose] public section

set_option maxRecDepth 16384

noncomputable section

namespace Cert.KernelIdeal.Hand

open Cert.KernelIdeal Cert.KernelIdeal.Gen Idealize.ShloMosaic

/-- The literal that scales a score. -/
abbrev scale : EReal := Ideal.ofBits .f32 0x3DB504F3#32

/-- A tile's score before the mask of the tile. -/
def tile (q k : Vec Ideal S128x128 .bf16) (b : Vec Ideal S1x128x128 .f32) (r κ : Fin 128) : EReal :=
  (∑ e : Fin 128, q (ix2 r e) * k (ix2 κ e)) * scale + b (ix3 (0 : Fin 1) r κ)

/-- A score, or minus infinity where the tile lies before the first frame. -/
def masked (w : BitVec 32) (x : EReal) : EReal := if Scalar.cmpi .sge w 0#32 = 1#1 then x else ⊥

theorem named_mask : (Named.named (F := Ideal) Cert.KernelIdeal.κ "mask" 0xF149F2CA#32 : Ideal .f32) = (⊥ : EReal) := rfl

theorem pay2_at (t : Fin k0_t1_loop.trips) (v4 v11 : Vec Ideal S128x128 .bf16) (v17 : Vec Ideal S1x128x128 .f32) (r κ : Fin 128) :
    k0_pay2 0#32 1#32 t v4 v11 v17 (ix2 r κ) = masked (Scalar.addi (Scalar.subi (Scf.iv 0#32 1#32 t) 4#32) 0#32) (tile v4 v11 v17 r κ) := by
  unfold masked tile
  generalize hw : Scalar.cmpi .sge (Scalar.addi (Scalar.subi (Scf.iv 0#32 1#32 t) 4#32) 0#32) 0#32 = w
  simp only [k0_pay2, hw, named_mask]
  pointwise
  rfl

theorem pay4_at (w : BitVec 32) (v4 v29 : Vec Ideal S128x128 .bf16) (v35 : Vec Ideal S1x128x128 .f32) (r κ : Fin 128) :
    k0_pay4 w (k0_pay3 v4 v29) v35 (ix2 r κ) = masked w (tile v4 v29 v35 r κ) := by
  unfold masked tile
  generalize hw : Scalar.cmpi .sge w 0#32 = w
  simp only [k0_pay4, k0_pay3, hw, named_mask]
  pointwise
  rfl

theorem pay5_at (n : BitVec 32) (v4 v47 : Vec Ideal S128x128 .bf16) (v53 : Vec Ideal S1x128x128 .f32) (r κ : Fin 128) :
    k0_pay5 n v4 v47 v53 (ix2 r κ) = masked (Scalar.addi (Scalar.subi n 4#32) 2#32) (tile v4 v47 v53 r κ) := by
  unfold masked tile
  generalize hw : Scalar.cmpi .sge (Scalar.addi (Scalar.subi n 4#32) 2#32) 0#32 = w
  simp only [k0_pay5, hw, named_mask]
  pointwise
  rfl

/-- A sum over the five tiles' keys. -/
theorem sum640 (f : Fin 640 → EReal) : ∑ K, f K = (∑ κ : Fin 128, f ⟨κ.val, by omega⟩) + (∑ κ : Fin 128, f ⟨128 + κ.val, by omega⟩) + (∑ κ : Fin 128, f ⟨256 + κ.val, by omega⟩)
    + (∑ κ : Fin 128, f ⟨384 + κ.val, by omega⟩) + ∑ κ : Fin 128, f ⟨512 + κ.val, by omega⟩ := by
  refine (Fin.sum_univ_add (a := 512) (b := 128) (f : Fin (512 + 128) → EReal)).trans (congrArg₂ (· + ·) ?_ rfl)
  refine (Fin.sum_univ_add (a := 384) (b := 128) (_ : Fin (384 + 128) → EReal)).trans (congrArg₂ (· + ·) ?_ rfl)
  refine (Fin.sum_univ_add (a := 256) (b := 128) (_ : Fin (256 + 128) → EReal)).trans (congrArg₂ (· + ·) ?_ rfl)
  exact Fin.sum_univ_add (a := 128) (b := 128) (_ : Fin (128 + 128) → EReal)

/-- Five tiles side by side, at an element. -/
theorem cat_at (v22 v40 v58 v76 v94 : FVec Ideal S128x128 .f32) (r : Fin 128) (s : Fin 640 → EReal)
    (h0 : ∀ κ : Fin 128, v22 (ix2 r κ) = s ⟨κ.val, by omega⟩) (h1 : ∀ κ : Fin 128, v40 (ix2 r κ) = s ⟨128 + κ.val, by omega⟩)
    (h2 : ∀ κ : Fin 128, v58 (ix2 r κ) = s ⟨256 + κ.val, by omega⟩) (h3 : ∀ κ : Fin 128, v76 (ix2 r κ) = s ⟨384 + κ.val, by omega⟩)
    (h4 : ∀ κ : Fin 128, v94 (ix2 r κ) = s ⟨512 + κ.val, by omega⟩) (J : Fin 640) :
    concatenate S128x640 1 [⟨S128x128, v22⟩, ⟨S128x128, v40⟩, ⟨S128x128, v58⟩, ⟨S128x128, v76⟩, ⟨S128x128, v94⟩]
      concatenates_S128x128_S128x128_S128x128_S128x128_S128x128_S128x640_d1 (ix2 r J) = s J := by
  rcases (by omega : J.val < 128 ∨ (128 ≤ J.val ∧ J.val < 256) ∨ (256 ≤ J.val ∧ J.val < 384) ∨ (384 ≤ J.val ∧ J.val < 512) ∨ 512 ≤ J.val) with hJ | hJ | hJ | hJ | hJ
  · refine (concatenate_apply_piece 1 _ _ (ix2 r J) 0 (by exact (by decide : 0 < 5)) S128x128 v22 rfl rfl 0 rfl (ix2 r ⟨J.val, hJ⟩) ?_ (Nat.zero_add _)).trans (h0 _)
    intro b hb; match b with | ⟨0, _⟩ => rfl | ⟨1, _⟩ => exact absurd rfl hb
  · refine (concatenate_apply_piece 1 _ _ (ix2 r J) 1 (by exact (by decide : 1 < 5)) S128x128 v40 rfl rfl 128 rfl (ix2 r ⟨J.val - 128, by omega⟩) ?_ (Nat.add_sub_of_le hJ.1)).trans ((h1 _).trans (congrArg s (Fin.ext (Nat.add_sub_of_le hJ.1))))
    intro b hb; match b with | ⟨0, _⟩ => rfl | ⟨1, _⟩ => exact absurd rfl hb
  · refine (concatenate_apply_piece 1 _ _ (ix2 r J) 2 (by exact (by decide : 2 < 5)) S128x128 v58 rfl rfl 256 rfl (ix2 r ⟨J.val - 256, by omega⟩) ?_ (Nat.add_sub_of_le hJ.1)).trans ((h2 _).trans (congrArg s (Fin.ext (Nat.add_sub_of_le hJ.1))))
    intro b hb; match b with | ⟨0, _⟩ => rfl | ⟨1, _⟩ => exact absurd rfl hb
  · refine (concatenate_apply_piece 1 _ _ (ix2 r J) 3 (by exact (by decide : 3 < 5)) S128x128 v76 rfl rfl 384 rfl (ix2 r ⟨J.val - 384, by omega⟩) ?_ (Nat.add_sub_of_le hJ.1)).trans ((h3 _).trans (congrArg s (Fin.ext (Nat.add_sub_of_le hJ.1))))
    intro b hb; match b with | ⟨0, _⟩ => rfl | ⟨1, _⟩ => exact absurd rfl hb
  · refine (concatenate_apply_piece 1 _ _ (ix2 r J) 4 (by exact (by decide : 4 < 5)) S128x128 v94 rfl rfl 512 rfl (ix2 r ⟨J.val - 512, by omega⟩) ?_ (Nat.add_sub_of_le hJ)).trans ((h4 _).trans (congrArg s (Fin.ext (Nat.add_sub_of_le hJ))))
    intro b hb; match b with | ⟨0, _⟩ => rfl | ⟨1, _⟩ => exact absurd rfl hb

section Row

variable (n w : BitVec 32) (v4 v65 v83 : Vec Ideal S128x128 .bf16) (v22 v40 v58 : FVec Ideal S128x128 .f32) (v71 v89 : Vec Ideal S1x128x128 .f32)
  (r : Fin 128) (s : Fin 640 → EReal)
  (h0 : ∀ κ : Fin 128, v22 (ix2 r κ) = s ⟨κ.val, by omega⟩)
  (h1 : ∀ κ : Fin 128, v40 (ix2 r κ) = s ⟨128 + κ.val, by omega⟩)
  (h2 : ∀ κ : Fin 128, v58 (ix2 r κ) = s ⟨256 + κ.val, by omega⟩)
  (h3 : ∀ κ : Fin 128, masked w (tile v4 v65 v71 r κ) = s ⟨384 + κ.val, by omega⟩)
  (h4 : ∀ κ : Fin 128, masked (Scalar.addi (Scalar.subi n 4#32) 4#32) (tile v4 v83 v89 r κ) = s ⟨512 + κ.val, by omega⟩)

include h0 h1 h2 h3 h4

/-- The row's weights. -/
theorem pay7_at (K : Fin 640) :
    k0_pay7 n v4 v22 v40 v58 w (k0_pay6 v4 v65) v71 v83 v89 (ix2 r K) = Ideal.exp (s K - Finset.univ.fold max ⊥ s) := by
  have key : ∀ (J : Fin 640), (concatenate S128x640 1 [⟨S128x128, v22⟩, ⟨S128x128, v40⟩, ⟨S128x128, v58⟩,
      ⟨S128x128, Scalar.select (Scalar.cmpi .sge w 0#32) (addf (k0_pay6 v4 v65) (shapeCast S128x128 v71 shapeCasts_S1x128x128_S128x128)) (broadcast S128x128 (⊥ : EReal))⟩,
      ⟨S128x128, Scalar.select (Scalar.cmpi .sge (Scalar.addi (Scalar.subi n 4#32) 4#32) 0#32) (addf (mulf (matmul (F := Ideal) (φ₁ := .bf16) (φ₂ := .bf16) dot_S128x128_S128x128_S128x128_1_1_0_0_n_n none v4 v83 (constant S128x128 .f32 0x00000000#32)) (broadcast S128x128 (Scalar.ofBits .f32 0x3DB504F3#32))) (shapeCast S128x128 v89 shapeCasts_S1x128x128_S128x128)) (broadcast S128x128 (⊥ : EReal))⟩]
      concatenates_S128x128_S128x128_S128x128_S128x128_S128x128_S128x640_d1 : FVec Ideal S128x640 .f32) (ix2 r J) = s J := by
    refine cat_at _ _ _ _ _ r s h0 h1 h2 (fun κ => Eq.trans ?_ (h3 κ)) fun κ => Eq.trans ?_ (h4 κ)
    · unfold masked tile
      generalize hw : Scalar.cmpi .sge w 0#32 = c
      simp only [k0_pay6]
      pointwise
      rfl
    · unfold masked tile
      generalize hw : Scalar.cmpi .sge (Scalar.addi (Scalar.subi n 4#32) 4#32) 0#32 = c
      pointwise
      rfl
  unfold k0_pay7
  simp only [named_mask]
  generalize (concatenate S128x640 1 [⟨S128x128, v22⟩, ⟨S128x128, v40⟩, ⟨S128x128, v58⟩,
      ⟨S128x128, Scalar.select (Scalar.cmpi .sge w 0#32) (addf (k0_pay6 v4 v65) (shapeCast S128x128 v71 shapeCasts_S1x128x128_S128x128)) (broadcast S128x128 (⊥ : EReal))⟩,
      ⟨S128x128, Scalar.select (Scalar.cmpi .sge (Scalar.addi (Scalar.subi n 4#32) 4#32) 0#32) (addf (mulf (matmul (F := Ideal) (φ₁ := .bf16) (φ₂ := .bf16) dot_S128x128_S128x128_S128x128_1_1_0_0_n_n none v4 v83 (constant S128x128 .f32 0x00000000#32)) (broadcast S128x128 (Scalar.ofBits .f32 0x3DB504F3#32))) (shapeCast S128x128 v89 shapeCasts_S1x128x128_S128x128)) (broadcast S128x128 (⊥ : EReal))⟩]
      concatenates_S128x128_S128x128_S128x128_S128x128_S128x128_S128x640_d1 : FVec Ideal S128x640 .f32) = v95 at key ⊢
  pointwise
  rw [Cert.Softmax.lit_bot, key]
  simp only [key]

/-- The block's value at a row and a column. -/
theorem pay1_at (v13 v31 v49 v67 v85 : Vec Ideal S128x128 .bf16) (d : Fin 128) (v : Fin 640 → EReal)
    (g0 : ∀ κ : Fin 128, v13 (ix2 κ d) = v ⟨κ.val, by omega⟩)
    (g1 : ∀ κ : Fin 128, v31 (ix2 κ d) = v ⟨128 + κ.val, by omega⟩)
    (g2 : ∀ κ : Fin 128, v49 (ix2 κ d) = v ⟨256 + κ.val, by omega⟩)
    (g3 : ∀ κ : Fin 128, v67 (ix2 κ d) = v ⟨384 + κ.val, by omega⟩)
    (g4 : ∀ κ : Fin 128, v85 (ix2 κ d) = v ⟨512 + κ.val, by omega⟩) :
    k0_pay1 v31 v49 v67 v85 (k0_pay8 n v4 v22 v40 v58 w (k0_pay6 v4 v65) v71 v83 v89) (k0_pay9 n v4 v22 v40 v58 w (k0_pay6 v4 v65) v71 v83 v89)
        (k0_pay10 n v4 v13 v22 v40 v58 w (k0_pay6 v4 v65) v71 v83 v89) (k0_pay11 n v4 v22 v40 v58 w (k0_pay6 v4 v65) v71 v83 v89) (ix2 r d)
      = Ideal.div (∑ K, Ideal.exp (s K - Finset.univ.fold max ⊥ s) * v K) (∑ K, Ideal.exp (s K - Finset.univ.fold max ⊥ s)) := by
  have key := pay7_at n w v4 v65 v83 v22 v40 v58 v71 v89 r s h0 h1 h2 h3 h4
  simp only [k0_pay1, k0_pay8, k0_pay9, k0_pay10, k0_pay11]
  generalize k0_pay7 n v4 v22 v40 v58 w (k0_pay6 v4 v65) v71 v83 v89 = p at key ⊢
  pointwise
  simp only [key, g0, g1, g2, g3, g4]
  refine congrArg (fun z => Ideal.div z _) ?_
  exact (sum640 (fun K => Ideal.exp (s K - Finset.univ.fold max ⊥ s) * v K)).symm

end Row

end Cert.KernelIdeal.Hand

end
-- ==== Proof.BandRef.lean ====
/-  The band attention as the reference states it, at an element: a row of the attention over all the frames, of which those outside
  the band are masked, and what the precondition says of its scores. -/
module

public import proofs.«01_k».proof.Pre_band_finite
public import proofs.«01_k».proof.Proof.Gen.Pre_band_finite
public import proofs.«01_k».proof.Proof.Gen.ReferenceIdeal.Run
public import proofs.«01_k».proof.Proof.Gen.ReferenceIdeal.Read
public import proofs.«01_k».proof.Proof.BandBias
public import proofs.«01_k».proof.Proof.BandPay

@[expose] public section

set_option maxRecDepth 16384

noncomputable section

namespace Cert.KernelIdeal.Hand

open Cert.KernelIdeal Cert.KernelIdeal.Gen Idealize.ShloMosaic Idealize.ShloMosaic.TcCoe Idealize.SL.Sem

/-- The reference's result as a function of its arguments. -/
def REF (x0 : FVec Ideal S32768x5632 .bf16) (x1 : FVec Ideal S12x257 .f32) : FVec Ideal S32768x1536 .bf16 :=
  Cert.ReferenceIdeal.Read.val_main_v58 (F := Ideal) x0 x1

/-- The chunk of a frame. -/
theorem ref_chunk (i : Cert.ReferenceIdeal.S8192.Idx) : Cert.ReferenceIdeal.Read.val_main_v11 (F := Ideal) i = BitVec.ofNat 32 ((i 0).val / 64) := by
  rw [Cert.ReferenceIdeal.Read.val_main_v11_apply, Cert.ReferenceIdeal.Read.val_main_v10_apply, Cert.ReferenceIdeal.Read.val_main_v9_apply, Cert.ReferenceIdeal.Read.val_main_v8_apply]

/-- The bit of the band. -/
theorem ref_bit (i : Cert.ReferenceIdeal.S8192x8192.Idx) :
    Cert.ReferenceIdeal.Read.val_main_v21 (F := Ideal) i = bit (IntOp.subi (BitVec.ofNat 32 ((i 0).val / 64)) (BitVec.ofNat 32 ((i 1).val / 64))) := by
  rw [Cert.ReferenceIdeal.Read.val_main_v21_apply, Cert.ReferenceIdeal.Read.val_main_v18_apply, Cert.ReferenceIdeal.Read.val_main_v20_apply, Cert.ReferenceIdeal.Read.val_main_v16_apply, Cert.ReferenceIdeal.Read.val_main_v14_apply, Cert.ReferenceIdeal.Read.val_main_v15_apply, Cert.ReferenceIdeal.Read.val_main_v12_apply, Cert.ReferenceIdeal.Read.val_main_v13_apply, ref_chunk, ref_chunk, Cert.ReferenceIdeal.Read.val_main_v17_apply, Cert.ReferenceIdeal.Read.val_main_v19_apply, Cert.ReferenceIdeal.Read.val_main_c_apply, Cert.ReferenceIdeal.Read.val_main_c_0_apply]
  rfl

/-- The word that the reference looks the bias up by. -/
theorem ref_word (i : Cert.ReferenceIdeal.S8192x8192.Idx) :
    Cert.ReferenceIdeal.Read.val_main_v34 (F := Ideal) i = Cert.Softmax.word (IntOp.subi (BitVec.ofNat 32 (i 0).val) (BitVec.ofNat 32 (i 1).val)) := by
  have e : Cert.ReferenceIdeal.Read.val_main_v26 (F := Ideal) i = IntOp.subi (BitVec.ofNat 32 (i 0).val) (BitVec.ofNat 32 (i 1).val) := by
    rw [Cert.ReferenceIdeal.Read.val_main_v26_apply, Cert.ReferenceIdeal.Read.val_main_v24_apply, Cert.ReferenceIdeal.Read.val_main_v25_apply, Cert.ReferenceIdeal.Read.val_main_v22_apply, Cert.ReferenceIdeal.Read.val_main_v23_apply, Cert.ReferenceIdeal.Read.val_main_v7_apply, Cert.ReferenceIdeal.Read.val_main_v7_apply]
  have e2 : Cert.ReferenceIdeal.Read.val_main_v29 (F := Ideal) i = IntOp.addi (IntOp.minsi 128#32 (IntOp.maxsi 4294967168#32 (IntOp.subi (BitVec.ofNat 32 (i 0).val) (BitVec.ofNat 32 (i 1).val)))) 128#32 := by
    rw [← e, Cert.ReferenceIdeal.Read.val_main_v29_apply, Cert.ReferenceIdeal.Read.val_main_v27_apply, Cert.ReferenceIdeal.Read.val_main_call0_v2_apply, Cert.ReferenceIdeal.Read.val_main_v28_apply, Cert.ReferenceIdeal.Read.val_main_call0_v4_apply, Cert.ReferenceIdeal.Read.val_main_call0_v1_apply]
    rfl
  unfold Cert.Softmax.word
  simp only []
  rw [← e2, Cert.ReferenceIdeal.Read.val_main_v34_apply, Cert.ReferenceIdeal.Read.val_main_v31_apply, Cert.ReferenceIdeal.Read.val_main_v33_apply, Cert.ReferenceIdeal.Read.val_main_v30_apply, Cert.ReferenceIdeal.Read.val_main_v32_apply]
  rfl

/-- The reference's bias. -/
theorem ref_bias (x1 : FVec Ideal S12x257 .f32) (i : Cert.ReferenceIdeal.S12x8192x8192.Idx) :
    Cert.ReferenceIdeal.Read.val_main_v36 (F := Ideal) x1 i
      = x1 (ix2 (⟨(i 0).val, (i 0).isLt⟩ : Fin 12) (Cert.Softmax.col (IntOp.subi (BitVec.ofNat 32 (i 1).val) (BitVec.ofNat 32 (i 2).val)))) := by
  unfold Cert.ReferenceIdeal.Read.val_main_v36
  refine Cert.Softmax.gather_col_at (E := 12) (N := 257) (A := 8192) (B := 8192) _ _ _ _ _ rfl ?_
  rw [Cert.ReferenceIdeal.Read.val_main_v35_apply, ref_word]
  rfl

/-- The score of a row with a frame of its sequence, at a head: masked outside the band. -/
def score (x0 : FVec Ideal S32768x5632 .bf16) (x1 : FVec Ideal S12x257 .f32) (R : Fin 32768) (h : Fin 12) (u : Fin 8192) : EReal :=
  if bit (IntOp.subi (BitVec.ofNat 32 (R.val % 8192 / 64)) (BitVec.ofNat 32 (u.val / 64))) = 1#1
  then (∑ e : Fin 128, x0 (ix2 R ⟨128 * h.val + e.val, by omega⟩) * x0 (ix2 ⟨8192 * (R.val / 8192) + u.val, by omega⟩ ⟨1536 + (128 * h.val + e.val), by omega⟩)) * scale
    + x1 (ix2 h (Cert.Softmax.col (IntOp.subi (BitVec.ofNat 32 (R.val % 8192)) (BitVec.ofNat 32 u.val))))
  else ⊥

theorem ref_dot (x0 : FVec Ideal S32768x5632 .bf16) (R : Fin 32768) (h : Fin 12) (u : Fin 8192)
    (j : Cert.ReferenceIdeal.S4x12x8192x8192.Idx) (h0 : (j 0).val = R.val / 8192) (h1 : (j 1).val = h.val) (h2 : (j 2).val = R.val % 8192) (h3 : (j 3).val = u.val) :
    Cert.ReferenceIdeal.Read.val_main_v37 (F := Ideal) x0 j
      = ∑ e : Fin 128, x0 (ix2 R ⟨128 * h.val + e.val, by omega⟩) * x0 (ix2 ⟨8192 * (R.val / 8192) + u.val, by omega⟩ ⟨1536 + (128 * h.val + e.val), by omega⟩) := by
  rw [Cert.ReferenceIdeal.Read.val_main_v37_apply]
  refine Finset.sum_congr rfl fun e _ => ?_
  rw [Cert.ReferenceIdeal.Read.val_main_v2_apply, Cert.ReferenceIdeal.Read.val_main_v1_apply, Cert.ReferenceIdeal.Read.val_main_v0_apply, Cert.ReferenceIdeal.Read.val_main_v4_apply, Cert.ReferenceIdeal.Read.val_main_v3_apply, Cert.ReferenceIdeal.Read.val_main_v0_apply]
  have hR := R.isLt; have hh := h.isLt; have hu := u.isLt; have he := e.isLt
  refine congrArg₂ (fun a b : EReal => a * b) (congrArg x0 ?_) (congrArg x0 ?_)
  · funext a
    match a with
    | ⟨0, _⟩ => exact Fin.ext (by simp only [ix2]; omega)
    | ⟨1, _⟩ => exact Fin.ext (by simp only [ix2]; omega)
  · funext a
    match a with
    | ⟨0, _⟩ => exact Fin.ext (by simp only [ix2]; omega)
    | ⟨1, _⟩ => exact Fin.ext (by simp only [ix2]; omega)

/-- The reference's scores. -/
theorem ref_score (x0 : FVec Ideal S32768x5632 .bf16) (x1 : FVec Ideal S12x257 .f32) (R : Fin 32768) (h : Fin 12) (u : Fin 8192)
    (j : Cert.ReferenceIdeal.S4x12x8192x8192.Idx) (h0 : (j 0).val = R.val / 8192) (h1 : (j 1).val = h.val) (h2 : (j 2).val = R.val % 8192) (h3 : (j 3).val = u.val) :
    Cert.ReferenceIdeal.Read.val_main_v43 (F := Ideal) x0 x1 j = score x0 x1 R h u := by
  have e1 : Cert.ReferenceIdeal.Read.val_main_call1_v1 (F := Ideal) j = bit (IntOp.subi (BitVec.ofNat 32 (R.val % 8192 / 64)) (BitVec.ofNat 32 (u.val / 64))) := by
    rw [Cert.ReferenceIdeal.Read.val_main_call1_v1_apply, ref_bit, ← h2, ← h3]
  have e2 : Cert.ReferenceIdeal.Read.val_main_v41 (F := Ideal) x1 j = x1 (ix2 h (Cert.Softmax.col (IntOp.subi (BitVec.ofNat 32 (R.val % 8192)) (BitVec.ofNat 32 u.val)))) := by
    rw [Cert.ReferenceIdeal.Read.val_main_v41_apply, Cert.ReferenceIdeal.Read.val_main_v40_apply, ref_bias, ← h2, ← h3]
    exact congrArg (fun a : Fin 12 => x1 (ix2 a _)) (Fin.ext h1)
  have e3 : Cert.ReferenceIdeal.Read.val_main_call1_v2 (F := Ideal) j = (⊥ : EReal) := by
    rw [Cert.ReferenceIdeal.Read.val_main_call1_v2_apply, Cert.ReferenceIdeal.Read.val_main_call1_v0_apply, Cert.ReferenceIdeal.Read.val_main_cst_6_apply]
    exact Cert.Softmax.lit_bot
  rw [Cert.ReferenceIdeal.Read.val_main_v43_apply, Cert.ReferenceIdeal.Read.val_main_v42_apply, Cert.ReferenceIdeal.Read.val_main_v39_apply, e1, e2, e3, ref_dot x0 R h u j h0 h1 h2 h3, Cert.ReferenceIdeal.Read.val_main_v38_apply, Cert.ReferenceIdeal.Read.val_main_cst_apply]
  rfl

/-- The greatest score of a row of the reference. -/
theorem ref_max (x0 : FVec Ideal S32768x5632 .bf16) (x1 : FVec Ideal S12x257 .f32) (i : Cert.ReferenceIdeal.S4x12x8192.Idx) (s : Fin 8192 → EReal)
    (hs : ∀ (κ : Fin 8192) (j : Cert.ReferenceIdeal.S4x12x8192x8192.Idx), (j 0).val = (i 0).val → (j 1).val = (i 1).val → (j 2).val = (i 2).val → (j 3).val = κ.val →
      Cert.ReferenceIdeal.Read.val_main_v43 (F := Ideal) x0 x1 j = s κ) :
    Cert.ReferenceIdeal.Read.val_main_v44 (F := Ideal) x0 x1 i = Finset.univ.fold max ⊥ s := by
  unfold Cert.ReferenceIdeal.Read.val_main_v44
  generalize Cert.ReferenceIdeal.Read.val_main_v43 (F := Ideal) x0 x1 = y at hs ⊢
  have h : Cert.ReferenceIdeal.S4x12x8192x8192.Reduces [3] Cert.ReferenceIdeal.S4x12x8192 := by decide
  refine (Host.reduce_eq_fold_single (max : EReal → EReal → EReal) y _ _ h _ i).trans ?_
  refine congrArg₂ (fun b f => Finset.univ.fold max b f) Cert.Softmax.lit_bot (funext fun κ => hs κ _ ?_ ?_ ?_ ?_)
  all_goals rfl

/-- The weight of a score. -/
def weight (x0 : FVec Ideal S32768x5632 .bf16) (x1 : FVec Ideal S12x257 .f32) (R : Fin 32768) (h : Fin 12) (u : Fin 8192) : EReal :=
  Ideal.exp (score x0 x1 R h u - Finset.univ.fold max ⊥ (score x0 x1 R h))

/-- The reference's weights before they are divided. -/
theorem ref_weight (x0 : FVec Ideal S32768x5632 .bf16) (x1 : FVec Ideal S12x257 .f32) (R : Fin 32768) (h : Fin 12) (u : Fin 8192)
    (j : Cert.ReferenceIdeal.S4x12x8192x8192.Idx) (h0 : (j 0).val = R.val / 8192) (h1 : (j 1).val = h.val) (h2 : (j 2).val = R.val % 8192) (h3 : (j 3).val = u.val) :
    Cert.ReferenceIdeal.Read.val_main_v50 (F := Ideal) x0 x1 j = weight x0 x1 R h u := by
  have e : Cert.ReferenceIdeal.Read.val_main_v46 (F := Ideal) x0 x1 (Cert.ReferenceIdeal.Read.idx_main_v47 (Cert.ReferenceIdeal.Read.idx_main_v48 j)) = Finset.univ.fold max ⊥ (score x0 x1 R h) := by
    rw [Cert.ReferenceIdeal.Read.val_main_v46_apply, Cert.ReferenceIdeal.Read.val_main_v45_apply, Cert.ReferenceIdeal.Read.val_main_cst_8_apply, ref_max x0 x1 _ (score x0 x1 R h) fun κ' j' e0 e1 e2 e3 => ref_score x0 x1 R h κ' j' (e0.trans h0) (e1.trans h1) (e2.trans h2) e3]
    refine Eq.trans (congrArg (fun b : EReal => max b _) Cert.Softmax.lit_bot) ?_
    exact max_eq_right bot_le
  rw [Cert.ReferenceIdeal.Read.val_main_v50_apply, Cert.ReferenceIdeal.Read.val_main_v49_apply, Cert.ReferenceIdeal.Read.val_main_v48_apply, Cert.ReferenceIdeal.Read.val_main_v47_apply, e, ref_score x0 x1 R h u j h0 h1 h2 h3]
  rfl

/-- Their sum. -/
theorem ref_total (x0 : FVec Ideal S32768x5632 .bf16) (x1 : FVec Ideal S12x257 .f32) (R : Fin 32768) (h : Fin 12)
    (j : Cert.ReferenceIdeal.S4x12x8192.Idx) (h0 : (j 0).val = R.val / 8192) (h1 : (j 1).val = h.val) (h2 : (j 2).val = R.val % 8192) :
    Cert.ReferenceIdeal.Read.val_main_v51 (F := Ideal) x0 x1 j = ∑ κ, weight x0 x1 R h κ := by
  rw [Cert.ReferenceIdeal.Read.val_main_v51_apply, Cert.ReferenceIdeal.Read.val_main_cst_9_apply, Finset.sum_congr rfl fun κ _ => ref_weight x0 x1 R h κ _ h0 h1 h2 rfl]
  exact (congrArg (fun z : EReal => z + _) Cert.Softmax.lit_zero).trans (zero_add _)

/-- The reference's result at an index. -/
theorem ref_at (x0 : FVec Ideal S32768x5632 .bf16) (x1 : FVec Ideal S12x257 .f32) (R : Fin 32768) (C : Fin 1536) (h : Fin 12) (h1 : h.val = C.val / 128) :
    REF x0 x1 (ix2 R C) = ∑ u : Fin 8192, x0 (ix2 ⟨8192 * (R.val / 8192) + u.val, by omega⟩ ⟨3072 + C.val, by omega⟩) * Ideal.div (weight x0 x1 R h u) (∑ u, weight x0 x1 R h u) := by
  have hR := R.isLt; have hC := C.isLt
  rw [REF, Cert.ReferenceIdeal.Read.val_main_v58_apply, Cert.ReferenceIdeal.Read.val_main_v57_apply, Cert.ReferenceIdeal.Read.val_main_v56_apply, Cert.ReferenceIdeal.Read.val_main_v55_apply]
  show (∑ κ : Fin 8192, _ : EReal) = _
  refine Finset.sum_congr rfl fun κ _ => ?_
  have hκ := κ.isLt
  rw [Cert.ReferenceIdeal.Read.val_main_v54_apply, Cert.ReferenceIdeal.Read.val_main_v53_apply, Cert.ReferenceIdeal.Read.val_main_v52_apply, Cert.ReferenceIdeal.Read.val_main_v6_apply, Cert.ReferenceIdeal.Read.val_main_v5_apply, Cert.ReferenceIdeal.Read.val_main_v0_apply]
  rw [ref_total x0 x1 R h _ (by simp only [ix2]; omega) (by simp only [ix2]; omega) (by simp only [ix2]; omega)]
  rw [ref_weight x0 x1 R h κ _ (by simp only [ix2]; omega) (by simp only [ix2]; omega) (by simp only [ix2]; omega) rfl]
  refine congrArg (fun z : EReal => z * Ideal.div (weight x0 x1 R h κ) (∑ κ, weight x0 x1 R h κ)) (congrArg x0 (funext fun a => ?_))
  match a with
  | ⟨0, _⟩ => exact Fin.ext (by simp only [ix2]; omega)
  | ⟨1, _⟩ => exact Fin.ext (by simp only [ix2]; omega)

/-- The scale is a real. -/
theorem scale_lit : ∃ r : ℝ, scale = r := by
  simp only [scale, Ideal.ofBits, Ideal.ieee]
  exact ⟨_, rfl⟩

/-- The precondition, of the queries and the keys. -/
theorem q_real (x0 : FVec Ideal S32768x5632 .bf16) (x1 : FVec Ideal S12x257 .f32) (h : (Cert.Pre_band_finite.fn (F := Ideal) x0 x1).1 = fun _ => 1#1)
    (R : Fin 32768) (C : Fin 5632) (hC : C.val < 3072) : ∃ r : ℝ, x0 (ix2 R C) = r := by
  have e := congrFun h (ix2 R ⟨C.val, hC⟩)
  unfold Cert.Pre_band_finite.fn at e
  obtain ⟨r, hr⟩ := Cert.Softmax.real_of_olt (x := x0 _) e
  refine ⟨r, (congrArg x0 (funext fun a => ?_)).trans hr⟩
  match a with
  | ⟨0, _⟩ => exact Fin.ext (Nat.zero_add R.val).symm
  | ⟨1, _⟩ => exact Fin.ext (Nat.zero_add C.val).symm

/-- The precondition, of the bias. -/
theorem b_real (x0 : FVec Ideal S32768x5632 .bf16) (x1 : FVec Ideal S12x257 .f32) (h : (Cert.Pre_band_finite.fn (F := Ideal) x0 x1).2 = fun _ => 1#1)
    (i : S12x257.Idx) : ∃ r : ℝ, x1 i = r := by
  have e := congrFun h i
  unfold Cert.Pre_band_finite.fn at e
  exact Cert.Softmax.real_of_olt (x := x1 i) e

/-- A score in the band is a real. -/
theorem score_real (x0 : FVec Ideal S32768x5632 .bf16) (x1 : FVec Ideal S12x257 .f32)
    (h : (Cert.Pre_band_finite.fn (F := Ideal) x0 x1).1 = (fun _ => 1#1) ∧ (Cert.Pre_band_finite.fn (F := Ideal) x0 x1).2 = fun _ => 1#1)
    (R : Fin 32768) (a : Fin 12) (u : Fin 8192) :
    ∃ r : ℝ, (∑ e : Fin 128, x0 (ix2 R ⟨128 * a.val + e.val, by omega⟩) * x0 (ix2 ⟨8192 * (R.val / 8192) + u.val, by omega⟩ ⟨1536 + (128 * a.val + e.val), by omega⟩)) * scale
      + x1 (ix2 a (Cert.Softmax.col (IntOp.subi (BitVec.ofNat 32 (R.val % 8192)) (BitVec.ofNat 32 u.val)))) = r := by
  obtain ⟨p, hp⟩ := Cert.Softmax.scale_real (Cert.Softmax.dot_real (fun e : Fin 128 => x0 (ix2 R ⟨128 * a.val + e.val, by omega⟩)) (fun e : Fin 128 => x0 (ix2 ⟨8192 * (R.val / 8192) + u.val, by omega⟩ ⟨1536 + (128 * a.val + e.val), by omega⟩))
    (fun _ => q_real x0 x1 h.1 _ _ (by simp only []; omega)) (fun _ => q_real x0 x1 h.1 _ _ (by simp only []; omega))) scale_lit
  obtain ⟨q, hq⟩ := b_real x0 x1 h.2 (ix2 a (Cert.Softmax.col (IntOp.subi (BitVec.ofNat 32 (R.val % 8192)) (BitVec.ofNat 32 u.val))))
  exact ⟨p + q, by rw [hp, hq, EReal.coe_add]⟩

end Cert.KernelIdeal.Hand

end
-- ==== Proof.BandLoop.lean ====
/-  The band attention's loop: each trip stores 128 rows of the output, and what the loop leaves at an element is one row of an
  attention over 640 keys, of which those before the first frame are masked. -/
module

public import proofs.«01_k».proof.Proof.Gen.KernelIdeal.Frame
public import proofs.«01_k».proof.Proof.BandPay
public import Idealize.ShloMosaic.Lib.Claim
public import Idealize.ShloMosaic.Lib.IdealHost
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe Idealize.SL.Sem

/-- The frame of a key of a query's window (the first frames, where the window begins before them). -/
def key (T : Fin 8192) (K : Fin 640) : Fin 8192 := ⟨128 * (T.val / 128 + K.val / 128 - 4) + K.val % 128, by omega⟩

/-- The score of a query with a key of its window. -/
def keyed (x0 x1 : Vec Ideal S8192x128 .bf16) (x3 : Vec Ideal S1x128x640 .f32) (T : Fin 8192) (K : Fin 640) : EReal :=
  if 4 ≤ T.val / 128 + K.val / 128
  then (∑ e : Fin 128, x0 (ix2 T e) * x1 (ix2 (key T K) e)) * scale + x3 (ix3 (0 : Fin 1) (⟨T.val % 128, Nat.mod_lt _ (by decide)⟩ : Fin 128) K)
  else ⊥

/-- The attention of a query over its window. -/
def att (x0 x1 x2 : Vec Ideal S8192x128 .bf16) (x3 : Vec Ideal S1x128x640 .f32) (T : Fin 8192) (D : Fin 128) : EReal :=
  Ideal.div (∑ K, Ideal.exp (keyed x0 x1 x3 T K - Finset.univ.fold max ⊥ (keyed x0 x1 x3 T)) * x2 (ix2 (key T K) D))
    (∑ K, Ideal.exp (keyed x0 x1 x3 T K - Finset.univ.fold max ⊥ (keyed x0 x1 x3 T)))

/-- The offset of a tile of keys. -/
theorem off2_eq : ∀ (k : Fin k0_t1_loop.trips) (j : Fin 5), k0_off2 k (BitVec.ofNat 32 j.val) = ![128 * (k.val + j.val - 4), 0] := by decide +kernel

/-- Which tiles of keys are masked. -/
theorem mask_eq : ∀ (k : Fin k0_t1_loop.trips) (j : Fin 5),
    (Scalar.cmpi .sge (Scalar.addi (Scalar.subi (Scf.iv 0#32 1#32 k) 4#32) (BitVec.ofNat 32 j.val)) 0#32 = 1#1) ↔ 4 ≤ k.val + j.val := by decide +kernel

/-- A load of 128 rows, at an element. -/
theorem ld_at (x : Vec Ideal S8192x128 .bf16) (off : Fin 2 → ℕ) (inb : ∀ a, off a + S128x128.size a ≤ S8192x128.size a) (r d : Fin 128) (R : Fin 8192)
    (o : ℕ) (ho : off = ![o, 0]) (hR : R.val = o + r.val) : View.ld x (Rect.unit (s := S8192x128) off S128x128.size inb) (ix2 r d) = x (ix2 R d) := by
  subst ho
  refine congrArg x (funext fun a => ?_)
  match a with
  | ⟨0, _⟩ => exact Fin.ext (by show o + 1 * r.val = R.val; omega)
  | ⟨1, _⟩ => exact Fin.ext (by show 0 + 1 * d.val = d.val; omega)

/-- A load of a tile of the bias, at an element. -/
theorem ldb_at (x : Vec Ideal S1x128x640 .f32) (o : ℕ) (inb : ∀ a, (![0, 0, o] : Fin 3 → ℕ) a + S1x128x128.size a ≤ S1x128x640.size a) (r κ : Fin 128) (K : Fin 640)
    (hK : K.val = o + κ.val) : View.ld x (Rect.unit (s := S1x128x640) ![0, 0, o] S1x128x128.size inb) (ix3 (0 : Fin 1) r κ) = x (ix3 (0 : Fin 1) r K) := by
  refine congrArg x (funext fun a => ?_)
  match a with
  | ⟨0, _⟩ => rfl
  | ⟨1, _⟩ => exact Fin.ext (by show 0 + 1 * r.val = r.val; omega)
  | ⟨2, _⟩ => exact Fin.ext (by show o + 1 * κ.val = K.val; omega)

/-- A tile's scores are those of the window. -/
theorem tile_at (x0 x1 : Vec Ideal S8192x128 .bf16) (x3 : Vec Ideal S1x128x640 .f32) (k : Fin k0_t1_loop.trips) (j : Fin 5) (T : Fin 8192) (K : Fin 640) (r κ : Fin 128)
    (hT : T.val = 128 * k.val + r.val) (hK : K.val = 128 * j.val + κ.val)
    (q v : Vec Ideal S128x128 .bf16) (b : Vec Ideal S1x128x128 .f32)
    (hq : ∀ e : Fin 128, q (ix2 r e) = x0 (ix2 T e)) (hv : ∀ e : Fin 128, v (ix2 κ e) = x1 (ix2 (key T K) e)) (hb : b (ix3 (0 : Fin 1) r κ) = x3 (ix3 (0 : Fin 1) r K)) :
    masked (Scalar.addi (Scalar.subi (Scf.iv 0#32 1#32 k) 4#32) (BitVec.ofNat 32 j.val)) (tile q v b r κ) = keyed x0 x1 x3 T K := by
  have hr := r.isLt; have hκ := κ.isLt
  have c1 : 4 ≤ T.val / 128 + K.val / 128 ↔ 4 ≤ k.val + j.val := by omega
  have c2 : (⟨T.val % 128, Nat.mod_lt _ (by decide)⟩ : Fin 128) = r := Fin.ext (by simp only []; omega)
  unfold masked keyed tile
  simp only [mask_eq, c1, c2, hq, hv, hb]

variable (c : Dev nD) (i : grid0.Coords) (arg2 : Memref sig .tc .vmem S8192x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S1x128x640 .f32) (harg5 : arg5.IsWhole) (arg6 : Memref sig .tc .vmem S8192x128 .bf16) (harg6 : arg6.IsWhole)
  (x0 x1 x2 : Vec Ideal S8192x128 .bf16) (x3 : Vec Ideal S1x128x640 .f32)

theorem run_eq : (kernelRun0_A (F := Ideal) c i arg2 harg2 arg3 harg3 arg4 harg4 arg5 harg5 arg6 harg6 x0 x1 x2 x3).1
    = pb_k0_t1 (F := Ideal) Variants.none c none i arg2 harg2 arg3 harg3 arg4 harg4 arg5 harg5 arg6 harg6 (harg2.unread x0) (harg3.unread x1) (harg4.unread x2) (harg5.unread x3) 64 := by
  unfold kernelRun0_A
  rfl

/-- The one piece a trip stores is the attention's there. -/
theorem trip_at (k : Fin k0_t1_loop.trips) (p : View.Piece (Elt Ideal) S8192x128 .bf16)
    (hp : p ∈ tripL_k0_t1 (F := Ideal) Variants.none c none i arg2 harg2 arg3 harg3 arg4 harg4 arg5 harg5 arg6 harg6 (harg2.unread x0) (harg3.unread x1) (harg4.unread x2) (harg5.unread x3) k)
    (x : p.1.shape.Idx) : p.2 x = att x0 x1 x2 x3 (p.1.emb x 0) (p.1.emb x 1) := by
  have hk : k.val < 64 := Nat.lt_of_lt_of_le k.isLt k0_t1_abs.2.1
  unfold tripL_k0_t1 trip_k0_t1 at hp
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14,
    View.readAt_eq_ld, harg2.read_unread, harg3.read_unread, harg4.read_unread, harg5.read_unread] at hp
  obtain rfl := List.mem_singleton.mp hp
  clear hp
  obtain ⟨r, d, rfl⟩ : ∃ r d : Fin 128, x = ix2 r d := ⟨x 0, x 1, funext fun a => match a with | ⟨0, _⟩ => rfl | ⟨1, _⟩ => rfl⟩
  have hr := r.isLt
  have e0 : (Rect.unit (s := S8192x128) (k0_off1 k) ![128, 128] (k0_off1_inb k)).emb (ix2 r d) 0 = (⟨128 * k.val + r.val, by omega⟩ : Fin 8192) := by
    refine Fin.ext ?_
    show k0_off1 k 0 + 1 * r.val = 128 * k.val + r.val
    rw [k0_off1_eq]
    show 128 * k.val + 1 * r.val = 128 * k.val + r.val
    omega
  have e1 : (Rect.unit (s := S8192x128) (k0_off1 k) ![128, 128] (k0_off1_inb k)).emb (ix2 r d) 1 = d := by
    refine Fin.ext ?_
    show k0_off1 k 1 + 1 * d.val = d.val
    rw [k0_off1_eq]
    show 0 + 1 * d.val = d.val
    omega
  show (k0_pay1 (F := Ideal) _ _ _ _ _ _ _ _ : S128x128.Idx → EReal) (ix2 r d) = att x0 x1 x2 x3 ((Rect.unit (s := S8192x128) (k0_off1 k) ![128, 128] (k0_off1_inb k)).emb (ix2 r d) 0) ((Rect.unit (s := S8192x128) (k0_off1 k) ![128, 128] (k0_off1_inb k)).emb (ix2 r d) 1)
  rw [e0, e1]
  generalize hTT : (⟨128 * k.val + r.val, by omega⟩ : Fin 8192) = T
  have hT : T.val = 128 * k.val + r.val := by rw [← hTT]
  have hq : ∀ e : Fin 128, View.ld x0 (Rect.unit (s := S8192x128) (k0_off1 k) ![128, 128] (k0_off1_inb k)) (ix2 r e) = x0 (ix2 T e) := fun e => ld_at x0 _ _ r e T _ (k0_off1_eq k) hT
  have hv : ∀ (X : Vec Ideal S8192x128 .bf16) (j : Fin 5) (K : Fin 640) (κ e : Fin 128), K.val = 128 * j.val + κ.val →
      View.ld X (Rect.unit (s := S8192x128) (k0_off2 k (BitVec.ofNat 32 j.val)) ![128, 128] (k0_off2_inb k j)) (ix2 κ e) = X (ix2 (key T K) e) := fun X j K κ e hK =>
    ld_at X _ _ κ e (key T K) _ (off2_eq k j) (by have hκ := κ.isLt; simp only [key]; omega)
  refine pay1_at (trip_k0_t1.sl.arg7 k) (trip_k0_t1.sl.v60 k) _ _ _ _ _ _ _ _ r (keyed x0 x1 x3 T) ?_ ?_ ?_ ?_ ?_ _ _ _ _ _ d (fun K => x2 (ix2 (key T K) d)) ?_ ?_ ?_ ?_ ?_
  · exact fun κ => (pay2_at k _ _ _ r κ).trans (tile_at x0 x1 x3 k 0 T _ r κ hT (by simp) _ _ _ hq (fun e => hv x1 0 _ κ e (by simp)) (ldb_at x3 0 _ r κ _ (by simp)))
  · exact fun κ => (pay4_at (trip_k0_t1.sl.v24 k) _ _ _ r κ).trans (tile_at x0 x1 x3 k 1 T _ r κ hT (by simp) _ _ _ hq (fun e => hv x1 1 _ κ e (by simp)) (ldb_at x3 128 _ r κ _ (by simp)))
  · exact fun κ => (pay5_at (trip_k0_t1.sl.arg7 k) _ _ _ r κ).trans (tile_at x0 x1 x3 k 2 T _ r κ hT (by simp) _ _ _ hq (fun e => hv x1 2 _ κ e (by simp)) (ldb_at x3 256 _ r κ _ (by simp)))
  · exact fun κ => tile_at x0 x1 x3 k 3 T _ r κ hT (by simp) _ _ _ hq (fun e => hv x1 3 _ κ e (by simp)) (ldb_at x3 384 _ r κ _ (by simp))
  · exact fun κ => tile_at x0 x1 x3 k 4 T _ r κ hT (by simp) _ _ _ hq (fun e => hv x1 4 _ κ e (by simp)) (ldb_at x3 512 _ r κ _ (by simp))
  · exact fun κ => hv x2 0 _ κ d (by simp)
  · exact fun κ => hv x2 1 _ κ d (by simp)
  · exact fun κ => hv x2 2 _ κ d (by simp)
  · exact fun κ => hv x2 3 _ κ d (by simp)
  · exact fun κ => hv x2 4 _ κ d (by simp)

/-- Every piece of the first trips is the attention's there. -/
theorem pieces_at (n : ℕ) (hn : n ≤ 64) : ∀ p ∈ pb_k0_t1 (F := Ideal) Variants.none c none i arg2 harg2 arg3 harg3 arg4 harg4 arg5 harg5 arg6 harg6 (harg2.unread x0) (harg3.unread x1) (harg4.unread x2) (harg5.unread x3) n,
    ∀ x : p.1.shape.Idx, p.2 x = att x0 x1 x2 x3 (p.1.emb x 0) (p.1.emb x 1) := by
  induction n with
  | zero => intro p hp; exact absurd hp List.not_mem_nil
  | succ n ih =>
    intro p hp
    have ht : k0_t1_loop.trips = 64 := by decide
    have e := pb_k0_t1_succ (F := Ideal) Variants.none c none i arg2 harg2 arg3 harg3 arg4 harg4 arg5 harg5 arg6 harg6 (harg2.unread x0) (harg3.unread x1) (harg4.unread x2) (harg5.unread x3) ⟨n, by omega⟩
    rw [e] at hp
    rcases List.mem_append.mp hp with h | h
    · exact trip_at c i arg2 harg2 arg3 harg3 arg4 harg4 arg5 harg5 arg6 harg6 x0 x1 x2 x3 _ p h
    · exact ih (by omega) p h

/-- What the loop leaves, at an element. -/
theorem out_at (y : S8192x128.Idx) :
    out0_A_4 (F := Ideal) c i arg2 harg2 arg3 harg3 arg4 harg4 arg5 harg5 arg6 harg6 x0 x1 x2 x3 y = att x0 x1 x2 x3 (y 0) (y 1) := by
  unfold out0_A_4
  refine View.read_writes_apply_of_pieces _ _ (fun y : S8192x128.Idx => att x0 x1 x2 x3 (y 0) (y 1)) _ ?_ y (cover0_A_4 c i arg2 harg2 arg3 harg3 arg4 harg4 arg5 harg5 arg6 harg6 x0 x1 x2 x3 y)
  rw [run_eq]
  exact pieces_at c i arg2 harg2 arg3 harg3 arg4 harg4 arg5 harg5 arg6 harg6 x0 x1 x2 x3 64 le_rfl

end Cert.KernelIdeal.Hand

end
-- ==== Proof.Band.lean ====
/-  The band attention: what every grid point stores is the reference's. A window's keys are the frames from 512 before the query's
  block on; those before the first frame are masked on one side and absent on the other, and those outside the band are masked on both. -/
module

public import proofs.«01_k».proof.Proof.Gen.KernelIdeal.Frame
public import proofs.«01_k».proof.Proof.BandRef
public import proofs.«01_k».proof.Proof.BandLoop
public import Idealize.ShloMosaic.Lib.Claim
public import Idealize.ShloMosaic.Lib.IdealHost
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ)

/-- Which gaps of chunks lie in the band. -/
theorem bit_iff : ∀ a b : Fin 128, (bit (IntOp.subi (BitVec.ofNat 32 a.val) (BitVec.ofNat 32 b.val)) = 1#1) ↔ (b.val ≤ a.val ∧ a.val ≤ b.val + 8) := by decide +kernel

/-- Two differences of words that agree as numbers. -/
theorem word_eq (a k b c d : ℕ) (h : a + k + d = c + b) :
    IntOp.subi (IntOp.addi (BitVec.ofNat 32 a) (BitVec.ofNat 32 k)) (BitVec.ofNat 32 b) = IntOp.subi (BitVec.ofNat 32 c) (BitVec.ofNat 32 d) := by
  refine BitVec.eq_of_toNat_eq ?_
  simp only [IntOp.subi, IntOp.addi, BitVec.toNat_sub, BitVec.toNat_add, BitVec.toNat_ofNat]
  omega

/-- The kernel's row is the reference's. -/
theorem row (x0 : FVec Ideal S32768x5632 .bf16) (x1 : FVec Ideal S12x257 .f32)
    (hx : (Cert.Pre_band_finite.fn (F := Ideal) x0 x1).1 = (fun _ => 1#1) ∧ (Cert.Pre_band_finite.fn (F := Ideal) x0 x1).2 = fun _ => 1#1)
    (s : Fin 4) (h : Fin 12) (q k v : Vec Ideal S8192x128 .bf16) (b : Vec Ideal S1x128x640 .f32)
    (hq : ∀ (T : Fin 8192) (e : Fin 128), q (ix2 T e) = x0 (ix2 ⟨8192 * s.val + T.val, by omega⟩ ⟨128 * h.val + e.val, by omega⟩))
    (hk : ∀ (T : Fin 8192) (e : Fin 128), k (ix2 T e) = x0 (ix2 ⟨8192 * s.val + T.val, by omega⟩ ⟨1536 + (128 * h.val + e.val), by omega⟩))
    (hv : ∀ (T : Fin 8192) (e : Fin 128), v (ix2 T e) = x0 (ix2 ⟨8192 * s.val + T.val, by omega⟩ ⟨3072 + (128 * h.val + e.val), by omega⟩))
    (hb : ∀ (r : Fin 128) (K : Fin 640), b (ix3 (0 : Fin 1) r K)
      = if bit (IntOp.subi (IntOp.addi (BitVec.ofNat 32 (r.val / 64)) 8#32) (BitVec.ofNat 32 (K.val / 64))) = 1#1
        then x1 (ix2 h (Cert.Softmax.col (IntOp.subi (IntOp.addi (BitVec.ofNat 32 r.val) 512#32) (BitVec.ofNat 32 K.val)))) else (⊥ : EReal))
    (T : Fin 8192) (D : Fin 128) (R : Fin 32768) (C : Fin 1536) (hR : R.val = 8192 * s.val + T.val) (hC : C.val = 128 * h.val + D.val) :
    att q k v b T D = REF x0 x1 (ix2 R C) := by
  have hT := T.isLt; have hD := D.isLt; have hs := s.isLt; have hh := h.isLt
  have hRm : R.val % 8192 = T.val := by omega
  have hRd : R.val / 8192 = s.val := by omega
  have hb1 : ∀ u : Fin 8192, (bit (IntOp.subi (BitVec.ofNat 32 (R.val % 8192 / 64)) (BitVec.ofNat 32 (u.val / 64))) = 1#1) ↔ (u.val / 64 ≤ T.val / 64 ∧ T.val / 64 ≤ u.val / 64 + 8) := fun u => by
    rw [hRm]
    exact bit_iff ⟨T.val / 64, by omega⟩ ⟨u.val / 64, by have := u.isLt; omega⟩
  rw [ref_at x0 x1 R C h (by omega)]
  unfold att
  refine Cert.Softmax.attend_match (128 * (T.val / 128 : ℕ) - 512 : ℤ) (keyed q k b T) (fun K => v (ix2 (key T K) D)) (score x0 x1 R h) _ (fun K u e => ?_) (fun K u e => ?_) (fun K hK => ?_) (fun u hu => ?_) (fun u hu => ?_) T ?_
  · have hK := K.isLt; have hu := u.isLt
    have hkey : key T K = u := Fin.ext (by simp only [key]; omega)
    unfold keyed score
    rw [if_pos (show 4 ≤ T.val / 128 + K.val / 128 by omega), hb, hkey]
    simp only []
    rw [word_eq (T.val % 128 / 64) 8 (K.val / 64) (R.val % 8192 / 64) (u.val / 64) (by omega), word_eq (T.val % 128) 512 K.val (R.val % 8192) u.val (by omega)]
    have ed : (∑ e : Fin 128, q (ix2 T e) * k (ix2 u e)) = ∑ e : Fin 128, x0 (ix2 R ⟨128 * h.val + e.val, by omega⟩) * x0 (ix2 ⟨8192 * (R.val / 8192) + u.val, by omega⟩ ⟨1536 + (128 * h.val + e.val), by omega⟩) := by
      refine Finset.sum_congr rfl fun e _ => ?_
      rw [hq, hk]
      refine congrArg₂ (fun a b : EReal => a * b) (congrArg (fun z : Fin 32768 => x0 (ix2 z _)) (Fin.ext hR.symm)) (congrArg (fun z : Fin 32768 => x0 (ix2 z _)) (Fin.ext (by simp only []; omega)))
    rw [ed]
    split
    · rfl
    · exact EReal.add_bot _
  · have hK := K.isLt; have hu := u.isLt
    have hkey : key T K = u := Fin.ext (by simp only [key]; omega)
    rw [hkey, hv]
    refine congrArg x0 (funext fun a => ?_)
    match a with
    | ⟨0, _⟩ => exact Fin.ext (by simp only [ix2]; omega)
    | ⟨1, _⟩ => exact Fin.ext (by simp only [ix2]; omega)
  · have hKl := K.isLt
    have h4 : 4 ≤ T.val / 128 + K.val / 128 := by
      by_contra hn
      exact hK (if_neg hn)
    exact ⟨key T K, by simp only [key]; omega⟩
  · have hul := u.isLt
    have hband := (hb1 u).mp (by
      by_contra hn
      exact hu (if_neg hn))
    exact ⟨⟨((u.val : ℤ) - (128 * (T.val / 128 : ℕ) - 512)).toNat, by omega⟩, by simp only []; omega⟩
  · unfold score at hu
    split at hu
    · obtain ⟨r, hr⟩ := score_real x0 x1 hx R h u
      rw [hr] at hu
      exact EReal.coe_ne_top r hu
    · exact bot_ne_top hu
  · intro e
    unfold score at e
    rw [if_pos ((hb1 T).mpr ⟨le_rfl, by omega⟩)] at e
    obtain ⟨r, hr⟩ := score_real x0 x1 hx R h T
    rw [hr] at e
    exact EReal.coe_ne_bot r e

/-- Each window's block index at a grid point. -/
theorem idx : ∀ t : Fin cfg0.N, win0_0.index t = ![t.val / 12, t.val % 12] ∧ win0_1.index t = ![t.val / 12, 12 + t.val % 12] ∧ win0_2.index t = ![t.val / 12, 24 + t.val % 12]
    ∧ win0_3.index t = ![t.val % 12, 0, 0] ∧ win0_4.index t = ![t.val / 12, t.val % 12] :=
  (by decide +kernel : ∀ t : Fin grid0.N, _)

/-- The block of the queries, at an element. -/
theorem blk0_at (c : Dev nD) (t : Fin cfg0.N) (T : Fin 8192) (e : Fin 128) (R : Fin 32768) (C : Fin 5632) (hR : R.val = 8192 * (t.val / 12) + T.val) (hC : C.val = 128 * (t.val % 12) + e.val) :
    iblk m c 0 t (ix2 T e) = m ((c : Thread nD τ).loc main_arg0) (ix2 R C) := by
  show V m c main_arg0 (((cfg0.win 0).blk t).view.emb (ix2 T e)) = _
  rw [V_main_arg0]
  exact congrArg (a₁ := (((cfg0.win 0).blk t).view.emb (ix2 T e))) (m ((c : Thread nD τ).loc main_arg0)) (by blk_ext [idx t])

/-- The block of the keys, at an element. -/
theorem blk1_at (c : Dev nD) (t : Fin cfg0.N) (T : Fin 8192) (e : Fin 128) (R : Fin 32768) (C : Fin 5632) (hR : R.val = 8192 * (t.val / 12) + T.val) (hC : C.val = 1536 + (128 * (t.val % 12) + e.val)) :
    iblk m c 1 t (ix2 T e) = m ((c : Thread nD τ).loc main_arg0) (ix2 R C) := by
  show V m c main_arg0 (((cfg0.win 1).blk t).view.emb (ix2 T e)) = _
  rw [V_main_arg0]
  exact congrArg (a₁ := (((cfg0.win 1).blk t).view.emb (ix2 T e))) (m ((c : Thread nD τ).loc main_arg0)) (by blk_ext [idx t])

/-- The block of the values, at an element. -/
theorem blk2_at (c : Dev nD) (t : Fin cfg0.N) (T : Fin 8192) (e : Fin 128) (R : Fin 32768) (C : Fin 5632) (hR : R.val = 8192 * (t.val / 12) + T.val) (hC : C.val = 3072 + (128 * (t.val % 12) + e.val)) :
    iblk m c 2 t (ix2 T e) = m ((c : Thread nD τ).loc main_arg0) (ix2 R C) := by
  show V m c main_arg0 (((cfg0.win 2).blk t).view.emb (ix2 T e)) = _
  rw [V_main_arg0]
  exact congrArg (a₁ := (((cfg0.win 2).blk t).view.emb (ix2 T e))) (m ((c : Thread nD τ).loc main_arg0)) (by blk_ext [idx t])

/-- The block of the bias, at an element. -/
theorem blk3_at (c : Dev nD) (t : Fin cfg0.N) (r : Fin 128) (K : Fin 640) (h : Fin 12) (hh : h.val = t.val % 12) :
    iblk m c 3 t (ix3 (0 : Fin 1) r K) = V m c main_v32 (ix3 h r K) := by
  show V m c main_v32 (((cfg0.win 3).blk t).view.emb (ix3 (0 : Fin 1) r K)) = _
  generalize V m c main_v32 = f
  exact congrArg (a₁ := (((cfg0.win 3).blk t).view.emb (ix3 (0 : Fin 1) r K))) f (by blk_ext [idx t])

/-- The block a point stores, element by element, is the reference's there. -/
theorem point (c : Dev nD)
    (h : (Cert.Pre_band_finite.fn (F := Ideal) (m ((c : Thread nD τ).loc main_arg0)) (m ((c : Thread nD τ).loc main_arg1))).1 = (fun _ => 1#1)
      ∧ (Cert.Pre_band_finite.fn (F := Ideal) (m ((c : Thread nD τ).loc main_arg0)) (m ((c : Thread nD τ).loc main_arg1))).2 = fun _ => 1#1)
    (t : Fin cfg0.N) (y : S8192x128.Idx) :
    outsAt0 m c t y = REF (m ((c : Thread nD τ).loc main_arg0)) (m ((c : Thread nD τ).loc main_arg1)) (((cfg0.win 4).blk t).view.emb y) := by
  have ht : t.val < 48 := t.isLt
  have h0 : (y 0).val < 8192 := (y 0).isLt
  have h1 : (y 1).val < 128 := (y 1).isLt
  have e : ((cfg0.win 4).blk t).view.emb y = ix2 (⟨8192 * (t.val / 12) + (y 0).val, by omega⟩ : Fin 32768) (⟨128 * (t.val % 12) + (y 1).val, by omega⟩ : Fin 1536) := by
    blk_ext [idx t]
  rw [e]
  unfold outsAt0
  rw [out_at]
  refine row _ _ h ⟨t.val / 12, by omega⟩ ⟨t.val % 12, by omega⟩ _ _ _ _ (fun T e => ?_) (fun T e => ?_) (fun T e => ?_) (fun r K => ?_) (y 0) (y 1) _ _ rfl rfl
  · exact blk0_at m c t T e _ _ rfl rfl
  · exact blk1_at m c t T e _ _ rfl rfl
  · exact blk2_at m c t T e _ _ rfl rfl
  · exact (blk3_at m c t r K ⟨t.val % 12, by omega⟩ rfl).trans (bias_at m c ⟨t.val % 12, by omega⟩ r K)

/-- The launch's result. -/
theorem final (c : Dev nD)
    (h : (Cert.Pre_band_finite.fn (F := Ideal) (m ((c : Thread nD τ).loc main_arg0)) (m ((c : Thread nD τ).loc main_arg1))).1 = (fun _ => 1#1)
      ∧ (Cert.Pre_band_finite.fn (F := Ideal) (m ((c : Thread nD τ).loc main_arg0)) (m ((c : Thread nD τ).loc main_arg1))).2 = fun _ => 1#1) :
    (dats m 0 c).arrAt 4 (cfgs 0).N = REF (m ((c : Thread nD τ).loc main_arg0)) (m ((c : Thread nD τ).loc main_arg1)) := by
  refine (dats m 0 c).arrAt_eq_of_covers 4 _ (by decide +kernel) fun t _ y => ?_
  blk_simp
  rw [after0_4]
  exact point m c h t y

end Cert.KernelIdeal.Hand

end
-- ==== Proof.InProj.lean ====
/-  The recurrent half of the input projection, over the prompt rows: the array that the launch leaves is the reference's.

  The grid walks the row blocks of 1024 rows and, inside one, the 6 column blocks. The first column block stores
  the rows, rounded, into a scratch that the others read; at `Ideal` a rounding changes nothing, so the scratch holds the rows
  themselves at every point (`scr`), and each stored block is the product of its rows with its columns (`point`). -/
module

public import proofs.«01_k».proof.Proof.Gen.InProjIdeal.Frame
public import proofs.«01_k».proof.Proof.Gen.InProjRefIdeal.Run
public import proofs.«01_k».proof.Proof.Gen.InProjRefIdeal.Read
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InProjIdeal.Hand

open Cert.InProjIdeal Cert.InProjIdeal.Gen Idealize.ShloMosaic Idealize.ShloMosaic.TcCoe Idealize.SL.Sem

variable (m : (ℓ : Loc nD τ sig) → Buf (Elt Ideal) ℓ)

/-- The reference's result as a function of its arguments. -/
def REF (x0 : FVec Ideal S4x8192x2048 .f32) (x1 : FVec Ideal S1x2048x8704 .f32) : FVec Ideal S32768x3072 .f32 :=
  Cert.InProjRefIdeal.Read.val_main_v3 (F := Ideal) x0 x1

/-- Each window's block index at a grid point. -/
theorem idx : ∀ t : Fin cfg0.N, win0_0.index t = ![t.val / 6, 0] ∧ win0_1.index t = ![0, t.val % 6] ∧ win0_2.index t = ![t.val / 6, t.val % 6] :=
  (by decide +kernel : ∀ t : Fin grid0.N, _)

/-- Rounding the rows changes nothing here. -/
theorem cast_rows (x : S1024x2048.Idx → EReal) : k0_pay1 (F := Ideal) x = x := by
  funext j
  pointwise [k0_pay1]

/-- After every point the scratch holds the rows of the point's row block. -/
theorem scr (c : Dev nD) : ∀ (n : ℕ) (h : n < cfg0.N), (outsAt0 m c n h).2 = (iblk m c 0 ⟨n, h⟩ : S1024x2048.Idx → EReal) := by
  intro n
  induction n with
  | zero =>
    intro h
    rw [outsAt0_A m c ⟨0, h⟩ rfl]
    frame_out
    exact cast_rows _
  | succ n ih =>
    intro h
    by_cases h0 : (n + 1) % 6 = 0
    · rw [outsAt0_A m c ⟨n + 1, h⟩ h0]
      frame_out
      exact cast_rows _
    · rw [outsAt0_B m c ⟨n + 1, h⟩ h0]
      show (outsAt0 m c n _).2 = _
      rw [ih]
      funext j
      blk_point [iblk, V, idx ⟨n, by omega⟩, idx ⟨n + 1, h⟩]

/-- The block a point stores, element by element, is the reference's there. -/
theorem point (c : Dev nD) (t : Fin cfg0.N) (y : S1024x512.Idx) :
    k0_pay2 (F := Ideal) (iblk m c 0 t : S1024x2048.Idx → EReal) (iblk m c 1 t) y
      = REF (m ((c : Thread nD τ).loc main_arg0)) (m ((c : Thread nD τ).loc main_arg1)) (((cfg0.win 2).blk t).view.emb y) := by
  rw [REF, Cert.InProjRefIdeal.Read.val_main_v3_apply, Cert.InProjRefIdeal.Read.val_main_v2_apply, Cert.InProjRefIdeal.Read.val_main_v1_apply]
  pointwise [k0_pay2]
  blk_point [iblk, V, idx t, Cert.InProjRefIdeal.Read.val_main_v0_apply]

/-- The launch's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  by_cases h0 : t.val % 6 = 0
  · rw [outsAt0_A m c t h0]
    frame_out
    rw [cast_rows]
    exact point m c t y
  · have hs := scr m c t.val t.isLt
    rw [outsAt0_B m c t h0] at hs ⊢
    replace hs : (outsAt0 m c (t.val - 1) _).2 = (iblk m c 0 t : S1024x2048.Idx → EReal) := hs
    frame_out
    rw [Idealize.ShloMosaic.read_unread_whole, hs]
    exact point m c t y

end Cert.InProjIdeal.Hand

end
-- ==== Proof.AttProj.lean ====
/-  The query, key, value and memory query columns of the input projection, over the prompt rows: the array that the launch leaves is the reference's.

  The grid walks the row blocks of 1024 rows and, inside one, the 11 column blocks. The first column block stores
  the rows, rounded, into a scratch that the others read; at `Ideal` a rounding changes nothing, so the scratch holds the rows
  themselves at every point (`scr`), and each stored block is the product of its rows with its columns (`point`). -/
module

public import proofs.«01_k».proof.Proof.Gen.AttProjIdeal.Frame
public import proofs.«01_k».proof.Proof.Gen.AttProjRefIdeal.Run
public import proofs.«01_k».proof.Proof.Gen.AttProjRefIdeal.Read
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AttProjIdeal.Hand

open Cert.AttProjIdeal Cert.AttProjIdeal.Gen Idealize.ShloMosaic Idealize.ShloMosaic.TcCoe Idealize.SL.Sem

variable (m : (ℓ : Loc nD τ sig) → Buf (Elt Ideal) ℓ)

/-- The reference's result as a function of its arguments. -/
def REF (x0 : FVec Ideal S4x8192x2048 .f32) (x1 : FVec Ideal S1x2048x8704 .f32) : FVec Ideal S32768x5632 .bf16 :=
  Cert.AttProjRefIdeal.Read.val_main_v4 (F := Ideal) x0 x1

/-- Each window's block index at a grid point. -/
theorem idx : ∀ t : Fin cfg0.N, win0_0.index t = ![t.val / 11, 0] ∧ win0_1.index t = ![0, t.val % 11] ∧ win0_2.index t = ![t.val / 11, t.val % 11] :=
  (by decide +kernel : ∀ t : Fin grid0.N, _)

/-- Rounding the rows changes nothing here. -/
theorem cast_rows (x : S1024x2048.Idx → EReal) : k0_pay1 (F := Ideal) x = x := by
  funext j
  pointwise [k0_pay1]

/-- After every point the scratch holds the rows of the point's row block. -/
theorem scr (c : Dev nD) : ∀ (n : ℕ) (h : n < cfg0.N), (outsAt0 m c n h).2 = (iblk m c 0 ⟨n, h⟩ : S1024x2048.Idx → EReal) := by
  intro n
  induction n with
  | zero =>
    intro h
    rw [outsAt0_A m c ⟨0, h⟩ rfl]
    frame_out
    exact cast_rows _
  | succ n ih =>
    intro h
    by_cases h0 : (n + 1) % 11 = 0
    · rw [outsAt0_A m c ⟨n + 1, h⟩ h0]
      frame_out
      exact cast_rows _
    · rw [outsAt0_B m c ⟨n + 1, h⟩ h0]
      show (outsAt0 m c n _).2 = _
      rw [ih]
      funext j
      blk_point [iblk, V, idx ⟨n, by omega⟩, idx ⟨n + 1, h⟩]

/-- The block a point stores, element by element, is the reference's there. -/
theorem point (c : Dev nD) (t : Fin cfg0.N) (y : S1024x512.Idx) :
    k0_pay2 (F := Ideal) (iblk m c 0 t : S1024x2048.Idx → EReal) (iblk m c 1 t) y
      = REF (m ((c : Thread nD τ).loc main_arg0)) (m ((c : Thread nD τ).loc main_arg1)) (((cfg0.win 2).blk t).view.emb y) := by
  rw [REF, Cert.AttProjRefIdeal.Read.val_main_v4_apply, Cert.AttProjRefIdeal.Read.val_main_v3_apply, Cert.AttProjRefIdeal.Read.val_main_v2_apply, Cert.AttProjRefIdeal.Read.val_main_v1_apply]
  pointwise [k0_pay2]
  blk_point [iblk, V, idx t, Cert.AttProjRefIdeal.Read.val_main_v0_apply]

/-- The launch's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  by_cases h0 : t.val % 11 = 0
  · rw [outsAt0_A m c t h0]
    frame_out
    rw [cast_rows]
    exact point m c t y
  · have hs := scr m c t.val t.isLt
    rw [outsAt0_B m c t h0] at hs ⊢
    replace hs : (outsAt0 m c (t.val - 1) _).2 = (iblk m c 0 t : S1024x2048.Idx → EReal) := hs
    frame_out
    rw [Idealize.ShloMosaic.read_unread_whole, hs]
    exact point m c t y

end Cert.AttProjIdeal.Hand

end
-- ==== Proof.GateProj.lean ====
/-  The merge gate: projection, bias and logistic, over the prompt rows: the array that the launch leaves is the reference's.

  The grid walks the row blocks of 1024 rows and, inside one, the 12 column blocks. The first column block stores
  the rows, rounded, into a scratch that the others read; at `Ideal` a rounding changes nothing, so the scratch holds the rows
  themselves at every point (`scr`), and each stored block is the product of its rows with its columns (`point`). -/
module

public import proofs.«01_k».proof.Proof.Gen.GateProjIdeal.Frame
public import proofs.«01_k».proof.Proof.Gen.GateProjRefIdeal.Run
public import proofs.«01_k».proof.Proof.Gen.GateProjRefIdeal.Read
public import Idealize.ShloMosaic.Lib.Claim
public import Idealize.ShloMosaic.Lib.IdealHost
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GateProjIdeal.Hand

open Cert.GateProjIdeal Cert.GateProjIdeal.Gen Idealize.ShloMosaic Idealize.ShloMosaic.TcCoe Idealize.SL.Sem

variable (m : (ℓ : Loc nD τ sig) → Buf (Elt Ideal) ℓ)

/-- The reference's result as a function of its arguments. -/
def REF (x0 : FVec Ideal S4x8192x2048 .f32) (x1 : FVec Ideal S1x2048x6144 .f32) (x2 : FVec Ideal S1x6144 .f32) : FVec Ideal S32768x6144 .bf16 :=
  Cert.GateProjRefIdeal.Read.val_main_v13 (F := Ideal) x0 x1 x2

/-- Each window's block index at a grid point. -/
theorem idx : ∀ t : Fin cfg0.N, win0_0.index t = ![t.val / 12, 0] ∧ win0_1.index t = ![0, t.val % 12] ∧ win0_2.index t = ![0, t.val % 12] ∧ win0_3.index t = ![t.val / 12, t.val % 12] :=
  (by decide +kernel : ∀ t : Fin grid0.N, _)

/-- Rounding the rows changes nothing here. -/
theorem cast_rows (x : S1024x2048.Idx → EReal) : k0_pay1 (F := Ideal) x = x := by
  funext j
  pointwise [k0_pay1]

/-- After every point the scratch holds the rows of the point's row block. -/
theorem scr (c : Dev nD) : ∀ (n : ℕ) (h : n < cfg0.N), (outsAt0 m c n h).2 = (iblk m c 0 ⟨n, h⟩ : S1024x2048.Idx → EReal) := by
  intro n
  induction n with
  | zero =>
    intro h
    rw [outsAt0_A m c ⟨0, h⟩ rfl]
    frame_out
    exact cast_rows _
  | succ n ih =>
    intro h
    by_cases h0 : (n + 1) % 12 = 0
    · rw [outsAt0_A m c ⟨n + 1, h⟩ h0]
      frame_out
      exact cast_rows _
    · rw [outsAt0_B m c ⟨n + 1, h⟩ h0]
      show (outsAt0 m c n _).2 = _
      rw [ih]
      funext j
      blk_point [iblk, V, idx ⟨n, by omega⟩, idx ⟨n + 1, h⟩]

/-- The block a point stores, element by element, is the reference's there. -/
theorem point (c : Dev nD) (t : Fin cfg0.N) (y : S1024x512.Idx) :
    k0_pay2 (F := Ideal) (iblk m c 0 t : S1024x2048.Idx → EReal) (iblk m c 1 t) (iblk m c 2 t) y
      = REF (m ((c : Thread nD τ).loc main_arg0)) (m ((c : Thread nD τ).loc main_arg1)) (m ((c : Thread nD τ).loc main_arg2)) (((cfg0.win 3).blk t).view.emb y) := by
  rw [REF, Cert.GateProjRefIdeal.Read.val_main_v13_apply, Cert.GateProjRefIdeal.Read.val_main_v12_apply, Cert.GateProjRefIdeal.Read.val_main_v11_apply, Cert.GateProjRefIdeal.Read.val_main_v10_apply, Cert.GateProjRefIdeal.Read.val_main_v9_apply, Cert.GateProjRefIdeal.Read.val_main_v8_apply, Cert.GateProjRefIdeal.Read.val_main_v7_apply, Cert.GateProjRefIdeal.Read.val_main_v6_apply, Cert.GateProjRefIdeal.Read.val_main_v5_apply, Cert.GateProjRefIdeal.Read.val_main_v4_apply, Cert.GateProjRefIdeal.Read.val_main_v3_apply, Cert.GateProjRefIdeal.Read.val_main_v2_apply, Cert.GateProjRefIdeal.Read.val_main_v1_apply, Cert.GateProjRefIdeal.Read.val_main_cst_apply, Cert.GateProjRefIdeal.Read.val_main_cst_0_apply]
  pointwise [k0_pay2]
  simp only [Ideal.logistic, Ideal.ofBits_one_f32]
  blk_point [iblk, V, idx t, Cert.GateProjRefIdeal.Read.val_main_v0_apply]

/-- The launch's result. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  by_cases h0 : t.val % 12 = 0
  · rw [outsAt0_A m c t h0]
    frame_out
    rw [cast_rows]
    exact point m c t y
  · have hs := scr m c t.val t.isLt
    rw [outsAt0_B m c t h0] at hs ⊢
    replace hs : (outsAt0 m c (t.val - 1) _).2 = (iblk m c 0 t : S1024x2048.Idx → EReal) := hs
    frame_out
    rw [Idealize.ShloMosaic.read_unread_whole, hs]
    exact point m c t y

end Cert.GateProjIdeal.Hand

end
-- ==== Proof.MemKv.lean ====
/-  The memory keys and values: the array that the launch leaves is the reference's.

  The grid walks the row blocks of 1024 rows and, inside one, the 4 column blocks. The first column block stores
  the rows, rounded, into a scratch that the others read; at `Ideal` a rounding changes nothing, so the scratch holds the rows
  themselves at every point (`scr`), and each stored block is the product of its rows with its columns (`point`). -/
module

public import proofs.«01_k».proof.Proof.Gen.MemKvIdeal.Frame
public import proofs.«01_k».proof.Proof.Gen.MemKvRefIdeal.Run
public import proofs.«01_k».proof.Proof.Gen.MemKvRefIdeal.Read
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MemKvIdeal.Hand

open Cert.MemKvIdeal Cert.MemKvIdeal.Gen Idealize.ShloMosaic Idealize.ShloMosaic.TcCoe Idealize.SL.Sem

variable (m : (ℓ : Loc nD τ sig) → Buf (Elt Ideal) ℓ)

/-- The reference's result as a function of its arguments. -/
def REF (x0 : FVec Ideal S4x256x2048 .f32) (x1 : FVec Ideal S1x2048x2048 .f32) : FVec Ideal S1024x2048 .f32 :=
  Cert.MemKvRefIdeal.Read.val_main_v2 (F := Ideal) x0 x1

/-- Each window's block index at a grid point. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- Rounding the rows changes nothing here. -/
theorem cast_rows (x : S1024x2048.Idx → EReal) : k0_pay1 (F := Ideal) x = x := by
  funext j
  pointwise [k0_pay1]

/-- After every point the scratch holds the rows of the point's row block. -/
theorem scr (c : Dev nD) : ∀ (n : ℕ) (h : n < cfg0.N), (outsAt0 m c n h).2 = (iblk m c 0 ⟨n, h⟩ : S1024x2048.Idx → EReal) := by
  intro n
  induction n with
  | zero =>
    intro h
    rw [outsAt0_A m c ⟨0, h⟩ rfl]
    frame_out
    exact cast_rows _
  | succ n ih =>
    intro h
    by_cases h0 : (n + 1) % 4 = 0
    · rw [outsAt0_A m c ⟨n + 1, h⟩ h0]
      frame_out
      exact cast_rows _
    · rw [outsAt0_B m c ⟨n + 1, h⟩ h0]
      show (outsAt0 m c n _).2 = _
      rw [ih]
      funext j
      blk_point [iblk, V, idx ⟨n, by omega⟩, idx ⟨n + 1, h⟩]

/-- The block a point stores, element by element, is the reference's there. -/
theorem point (c : Dev nD) (t : Fin cfg0.N) (y : S1024x512.Idx) :
    k0_pay2 (F := Ideal) (iblk m c 0 t : S1024x2048.Idx → EReal) (iblk m c 1 t) y
      = REF (m ((c : Thread nD τ).loc main_arg0)) (m ((c : Thread nD τ).loc main_arg1)) (((cfg0.win 2).blk t).view.emb y) := by
  rw [REF, Cert.MemKvRefIdeal.Read.val_main_v2_apply, Cert.MemKvRefIdeal.Read.val_main_v1_apply]
  pointwise [k0_pay2]
  blk_point [iblk, V, idx t, Cert.MemKvRefIdeal.Read.val_main_v0_apply]

/-- The launch's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  by_cases h0 : t.val % 4 = 0
  · rw [outsAt0_A m c t h0]
    frame_out
    rw [cast_rows]
    exact point m c t y
  · have hs := scr m c t.val t.isLt
    rw [outsAt0_B m c t h0] at hs ⊢
    replace hs : (outsAt0 m c (t.val - 1) _).2 = (iblk m c 0 t : S1024x2048.Idx → EReal) := hs
    frame_out
    rw [Idealize.ShloMosaic.read_unread_whole, hs]
    exact point m c t y

end Cert.MemKvIdeal.Hand

end
-- ==== Proof.KvTail.lean ====
/-  The keys and values of each prompt's last 512 frames: the array that the launch leaves is the reference's.

  The grid walks the row blocks of 1024 rows and, inside one, the 6 column blocks. The first column block stores
  the rows, rounded, into a scratch that the others read; at `Ideal` a rounding changes nothing, so the scratch holds the rows
  themselves at every point (`scr`), and each stored block is the product of its rows with its columns (`point`). -/
module

public import proofs.«01_k».proof.Proof.Gen.KvTailIdeal.Frame
public import proofs.«01_k».proof.Proof.Gen.KvTailRefIdeal.Run
public import proofs.«01_k».proof.Proof.Gen.KvTailRefIdeal.Read
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KvTailIdeal.Hand

open Cert.KvTailIdeal Cert.KvTailIdeal.Gen Idealize.ShloMosaic Idealize.ShloMosaic.TcCoe Idealize.SL.Sem

variable (m : (ℓ : Loc nD τ sig) → Buf (Elt Ideal) ℓ)

/-- The reference's result as a function of its arguments. -/
def REF (x0 : FVec Ideal S4x8192x2048 .f32) (x1 : FVec Ideal S1x2048x8704 .f32) : FVec Ideal S2048x3072 .f32 :=
  Cert.KvTailRefIdeal.Read.val_main_v3 (F := Ideal) x0 x1

/-- Each window's block index at a grid point. -/
theorem idx : ∀ t : Fin cfg0.N, win0_0.index t = ![t.val / 6, 0] ∧ win0_1.index t = ![0, t.val % 6] ∧ win0_2.index t = ![t.val / 6, t.val % 6] :=
  (by decide +kernel : ∀ t : Fin grid0.N, _)

/-- Rounding the rows changes nothing here. -/
theorem cast_rows (x : S1024x2048.Idx → EReal) : k0_pay1 (F := Ideal) x = x := by
  funext j
  pointwise [k0_pay1]

/-- After every point the scratch holds the rows of the point's row block. -/
theorem scr (c : Dev nD) : ∀ (n : ℕ) (h : n < cfg0.N), (outsAt0 m c n h).2 = (iblk m c 0 ⟨n, h⟩ : S1024x2048.Idx → EReal) := by
  intro n
  induction n with
  | zero =>
    intro h
    rw [outsAt0_A m c ⟨0, h⟩ rfl]
    frame_out
    exact cast_rows _
  | succ n ih =>
    intro h
    by_cases h0 : (n + 1) % 6 = 0
    · rw [outsAt0_A m c ⟨n + 1, h⟩ h0]
      frame_out
      exact cast_rows _
    · rw [outsAt0_B m c ⟨n + 1, h⟩ h0]
      show (outsAt0 m c n _).2 = _
      rw [ih]
      funext j
      blk_point [iblk, V, idx ⟨n, by omega⟩, idx ⟨n + 1, h⟩]

/-- The block a point stores, element by element, is the reference's there. -/
theorem point (c : Dev nD) (t : Fin cfg0.N) (y : S1024x512.Idx) :
    k0_pay2 (F := Ideal) (iblk m c 0 t : S1024x2048.Idx → EReal) (iblk m c 1 t) y
      = REF (m ((c : Thread nD τ).loc main_arg0)) (m ((c : Thread nD τ).loc main_arg1)) (((cfg0.win 2).blk t).view.emb y) := by
  rw [REF, Cert.KvTailRefIdeal.Read.val_main_v3_apply, Cert.KvTailRefIdeal.Read.val_main_v2_apply, Cert.KvTailRefIdeal.Read.val_main_v1_apply]
  pointwise [k0_pay2]
  blk_point [iblk, V, idx t, Cert.KvTailRefIdeal.Read.val_main_v0_apply]

/-- The launch's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  by_cases h0 : t.val % 6 = 0
  · rw [outsAt0_A m c t h0]
    frame_out
    rw [cast_rows]
    exact point m c t y
  · have hs := scr m c t.val t.isLt
    rw [outsAt0_B m c t h0] at hs ⊢
    replace hs : (outsAt0 m c (t.val - 1) _).2 = (iblk m c 0 t : S1024x2048.Idx → EReal) := hs
    frame_out
    rw [Idealize.ShloMosaic.read_unread_whole, hs]
    exact point m c t y

end Cert.KvTailIdeal.Hand

end
-- ==== Proof.KvNew.lean ====
/-  The keys and values of the sample frames: the array that the launch leaves is the reference's.

  The grid walks the row blocks of 128 rows and, inside one, the 6 column blocks. The first column block stores
  the rows, rounded, into a scratch that the others read; at `Ideal` a rounding changes nothing, so the scratch holds the rows
  themselves at every point (`scr`), and each stored block is the product of its rows with its columns (`point`). -/
module

public import proofs.«01_k».proof.Proof.Gen.KvNewIdeal.Frame
public import proofs.«01_k».proof.Proof.Gen.KvNewRefIdeal.Run
public import proofs.«01_k».proof.Proof.Gen.KvNewRefIdeal.Read
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KvNewIdeal.Hand

open Cert.KvNewIdeal Cert.KvNewIdeal.Gen Idealize.ShloMosaic Idealize.ShloMosaic.TcCoe Idealize.SL.Sem

variable (m : (ℓ : Loc nD τ sig) → Buf (Elt Ideal) ℓ)

/-- The reference's result as a function of its arguments. -/
def REF (x0 : FVec Ideal S8x16x2048 .f32) (x1 : FVec Ideal S1x2048x8704 .f32) : FVec Ideal S128x3072 .f32 :=
  Cert.KvNewRefIdeal.Read.val_main_v3 (F := Ideal) x0 x1

/-- Each window's block index at a grid point. -/
theorem idx : ∀ t : Fin cfg0.N, win0_0.index t = ![t.val / 6, 0] ∧ win0_1.index t = ![0, t.val % 6] ∧ win0_2.index t = ![t.val / 6, t.val % 6] :=
  (by decide +kernel : ∀ t : Fin grid0.N, _)

/-- Rounding the rows changes nothing here. -/
theorem cast_rows (x : S128x2048.Idx → EReal) : k0_pay1 (F := Ideal) x = x := by
  funext j
  pointwise [k0_pay1]

/-- After every point the scratch holds the rows of the point's row block. -/
theorem scr (c : Dev nD) : ∀ (n : ℕ) (h : n < cfg0.N), (outsAt0 m c n h).2 = (iblk m c 0 ⟨n, h⟩ : S128x2048.Idx → EReal) := by
  intro n
  induction n with
  | zero =>
    intro h
    rw [outsAt0_A m c ⟨0, h⟩ rfl]
    frame_out
    exact cast_rows _
  | succ n ih =>
    intro h
    by_cases h0 : (n + 1) % 6 = 0
    · rw [outsAt0_A m c ⟨n + 1, h⟩ h0]
      frame_out
      exact cast_rows _
    · rw [outsAt0_B m c ⟨n + 1, h⟩ h0]
      show (outsAt0 m c n _).2 = _
      rw [ih]
      funext j
      blk_point [iblk, V, idx ⟨n, by omega⟩, idx ⟨n + 1, h⟩]

/-- The block a point stores, element by element, is the reference's there. -/
theorem point (c : Dev nD) (t : Fin cfg0.N) (y : S128x512.Idx) :
    k0_pay2 (F := Ideal) (iblk m c 0 t : S128x2048.Idx → EReal) (iblk m c 1 t) y
      = REF (m ((c : Thread nD τ).loc main_arg0)) (m ((c : Thread nD τ).loc main_arg1)) (((cfg0.win 2).blk t).view.emb y) := by
  rw [REF, Cert.KvNewRefIdeal.Read.val_main_v3_apply, Cert.KvNewRefIdeal.Read.val_main_v2_apply, Cert.KvNewRefIdeal.Read.val_main_v1_apply]
  pointwise [k0_pay2]
  blk_point [iblk, V, idx t, Cert.KvNewRefIdeal.Read.val_main_v0_apply]

/-- The launch's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  by_cases h0 : t.val % 6 = 0
  · rw [outsAt0_A m c t h0]
    frame_out
    rw [cast_rows]
    exact point m c t y
  · have hs := scr m c t.val t.isLt
    rw [outsAt0_B m c t h0] at hs ⊢
    replace hs : (outsAt0 m c (t.val - 1) _).2 = (iblk m c 0 t : S128x2048.Idx → EReal) := hs
    frame_out
    rw [Idealize.ShloMosaic.read_unread_whole, hs]
    exact point m c t y

end Cert.KvNewIdeal.Hand

end
-- ==== Proof.InProjS.lean ====
/-  The recurrent half of the input projection, over the sample frames: the array that the launch leaves is the reference's.

  The grid walks the row blocks of 128 rows and, inside one, the 6 column blocks. The first column block stores
  the rows, rounded, into a scratch that the others read; at `Ideal` a rounding changes nothing, so the scratch holds the rows
  themselves at every point (`scr`), and each stored block is the product of its rows with its columns (`point`). -/
module

public import proofs.«01_k».proof.Proof.Gen.InProjSIdeal.Frame
public import proofs.«01_k».proof.Proof.Gen.InProjSRefIdeal.Run
public import proofs.«01_k».proof.Proof.Gen.InProjSRefIdeal.Read
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InProjSIdeal.Hand

open Cert.InProjSIdeal Cert.InProjSIdeal.Gen Idealize.ShloMosaic Idealize.ShloMosaic.TcCoe Idealize.SL.Sem

variable (m : (ℓ : Loc nD τ sig) → Buf (Elt Ideal) ℓ)

/-- The reference's result as a function of its arguments. -/
def REF (x0 : FVec Ideal S8x16x2048 .f32) (x1 : FVec Ideal S1x2048x8704 .f32) : FVec Ideal S128x3072 .f32 :=
  Cert.InProjSRefIdeal.Read.val_main_v3 (F := Ideal) x0 x1

/-- Each window's block index at a grid point. -/
theorem idx : ∀ t : Fin cfg0.N, win0_0.index t = ![t.val / 6, 0] ∧ win0_1.index t = ![0, t.val % 6] ∧ win0_2.index t = ![t.val / 6, t.val % 6] :=
  (by decide +kernel : ∀ t : Fin grid0.N, _)

/-- Rounding the rows changes nothing here. -/
theorem cast_rows (x : S128x2048.Idx → EReal) : k0_pay1 (F := Ideal) x = x := by
  funext j
  pointwise [k0_pay1]

/-- After every point the scratch holds the rows of the point's row block. -/
theorem scr (c : Dev nD) : ∀ (n : ℕ) (h : n < cfg0.N), (outsAt0 m c n h).2 = (iblk m c 0 ⟨n, h⟩ : S128x2048.Idx → EReal) := by
  intro n
  induction n with
  | zero =>
    intro h
    rw [outsAt0_A m c ⟨0, h⟩ rfl]
    frame_out
    exact cast_rows _
  | succ n ih =>
    intro h
    by_cases h0 : (n + 1) % 6 = 0
    · rw [outsAt0_A m c ⟨n + 1, h⟩ h0]
      frame_out
      exact cast_rows _
    · rw [outsAt0_B m c ⟨n + 1, h⟩ h0]
      show (outsAt0 m c n _).2 = _
      rw [ih]
      funext j
      blk_point [iblk, V, idx ⟨n, by omega⟩, idx ⟨n + 1, h⟩]

/-- The block a point stores, element by element, is the reference's there. -/
theorem point (c : Dev nD) (t : Fin cfg0.N) (y : S128x512.Idx) :
    k0_pay2 (F := Ideal) (iblk m c 0 t : S128x2048.Idx → EReal) (iblk m c 1 t) y
      = REF (m ((c : Thread nD τ).loc main_arg0)) (m ((c : Thread nD τ).loc main_arg1)) (((cfg0.win 2).blk t).view.emb y) := by
  rw [REF, Cert.InProjSRefIdeal.Read.val_main_v3_apply, Cert.InProjSRefIdeal.Read.val_main_v2_apply, Cert.InProjSRefIdeal.Read.val_main_v1_apply]
  pointwise [k0_pay2]
  blk_point [iblk, V, idx t, Cert.InProjSRefIdeal.Read.val_main_v0_apply]

/-- The launch's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  by_cases h0 : t.val % 6 = 0
  · rw [outsAt0_A m c t h0]
    frame_out
    rw [cast_rows]
    exact point m c t y
  · have hs := scr m c t.val t.isLt
    rw [outsAt0_B m c t h0] at hs ⊢
    replace hs : (outsAt0 m c (t.val - 1) _).2 = (iblk m c 0 t : S128x2048.Idx → EReal) := hs
    frame_out
    rw [Idealize.ShloMosaic.read_unread_whole, hs]
    exact point m c t y

end Cert.InProjSIdeal.Hand

end
-- ==== Proof.Merge.lean ====
/-  The three branches, each projected and multiplied by its gate, and summed: the array that the launch leaves is the
  reference's. Every grid point stores one block, from whole rows and whole columns. -/
module

public import proofs.«01_k».proof.Proof.Gen.MergeIdeal.Frame
public import proofs.«01_k».proof.Proof.Gen.MergeRefIdeal.Run
public import proofs.«01_k».proof.Proof.Gen.MergeRefIdeal.Read
public import Idealize.ShloMosaic.Lib.Claim
public import Idealize.ShloMosaic.Lib.IdealHost
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MergeIdeal.Hand

open Cert.MergeIdeal Cert.MergeIdeal.Gen Idealize.ShloMosaic Idealize.ShloMosaic.TcCoe Idealize.SL.Sem

variable (m : (ℓ : Loc nD τ sig) → Buf (Elt Ideal) ℓ)

/-- The reference's result as a function of its arguments. -/
def REF (x0 : FVec Ideal S32768x1536 .bf16) (x1 : FVec Ideal S32768x1536 .bf16) (x2 : FVec Ideal S32768x1024 .bf16) (x3 x4 : FVec Ideal S1x1536x2048 .f32) (x5 : FVec Ideal S1x1024x2048 .f32) (x6 : FVec Ideal S32768x6144 .bf16) : FVec Ideal S32768x2048 .bf16 :=
  Cert.MergeRefIdeal.Read.val_main_v22 (F := Ideal) x0 x1 x2 x3 x4 x5 x6

/-- Each window's block index at a grid point. -/
theorem idx : ∀ t : Fin cfg0.N, win0_0.index t = ![t.val / 4, 0] ∧ win0_1.index t = ![t.val / 4, 0] ∧ win0_2.index t = ![t.val / 4, 0] ∧ win0_3.index t = ![0, t.val % 4] ∧ win0_4.index t = ![0, t.val % 4] ∧ win0_5.index t = ![0, t.val % 4]
    ∧ win0_6.index t = ![t.val / 4, t.val % 4] ∧ win0_7.index t = ![t.val / 4, 4 + t.val % 4] ∧ win0_8.index t = ![t.val / 4, 8 + t.val % 4] ∧ win0_9.index t = ![t.val / 4, t.val % 4] :=
  (by decide +kernel : ∀ t : Fin grid0.N, _)

/-- The block a point stores, element by element, is the reference's there. -/
theorem point (c : Dev nD) (t : Fin cfg0.N) (y : S1024x512.Idx) :
    out0_9 (iblk m c 0 t) (iblk m c 1 t) (iblk m c 2 t) (iblk m c 3 t) (iblk m c 4 t) (iblk m c 5 t) (iblk m c 6 t) (iblk m c 7 t) (iblk m c 8 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y) := by
  frame_out
  rw [REF]
  simp only [Cert.MergeRefIdeal.Read.val_main_v22_apply, Cert.MergeRefIdeal.Read.val_main_v21_apply, Cert.MergeRefIdeal.Read.val_main_v20_apply, Cert.MergeRefIdeal.Read.val_main_v19_apply, Cert.MergeRefIdeal.Read.val_main_v18_apply, Cert.MergeRefIdeal.Read.val_main_v17_apply, Cert.MergeRefIdeal.Read.val_main_v16_apply, Cert.MergeRefIdeal.Read.val_main_v15_apply, Cert.MergeRefIdeal.Read.val_main_v14_apply, Cert.MergeRefIdeal.Read.val_main_v13_apply, Cert.MergeRefIdeal.Read.val_main_v12_apply, Cert.MergeRefIdeal.Read.val_main_v11_apply, Cert.MergeRefIdeal.Read.val_main_v10_apply, Cert.MergeRefIdeal.Read.val_main_v7_apply, Cert.MergeRefIdeal.Read.val_main_v4_apply]
  pointwise [k0_pay1]
  blk_point [iblk, V, idx t, Cert.MergeRefIdeal.Read.val_main_v0_apply, Cert.MergeRefIdeal.Read.val_main_v1_apply, Cert.MergeRefIdeal.Read.val_main_v2_apply, Cert.MergeRefIdeal.Read.val_main_v3_apply, Cert.MergeRefIdeal.Read.val_main_v5_apply, Cert.MergeRefIdeal.Read.val_main_v6_apply, Cert.MergeRefIdeal.Read.val_main_v8_apply, Cert.MergeRefIdeal.Read.val_main_v9_apply]

/-- The launch's result. -/
theorem final (c : Dev nD) : (dats m 0 c).arrAt 9 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  exact point m c t y

end Cert.MergeIdeal.Hand

end
-- ==== Proof.MemAttn.lean ====
/-  The attention over the memory: every grid point stores the attention of 1024 rows over the 256 keys of one head. The
  kernel divides the weighted sum of the values once, the reference divides every weight; over the reals the two agree. -/
module

public import proofs.«01_k».proof.Pre_mem_finite
public import proofs.«01_k».proof.Proof.Gen.Pre_mem_finite
public import proofs.«01_k».proof.Proof.Gen.MemAttnIdeal.Frame
public import proofs.«01_k».proof.Proof.Gen.MemAttnRefIdeal.Run
public import proofs.«01_k».proof.Proof.Gen.MemAttnRefIdeal.Read
public import proofs.«01_k».proof.Proof.Softmax
public import Idealize.ShloMosaic.Lib.Claim
public import Idealize.ShloMosaic.Lib.IdealHost
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MemAttnIdeal.Hand

open Cert.MemAttnIdeal Cert.MemAttnIdeal.Gen Idealize.ShloMosaic Idealize.ShloMosaic.TcCoe Idealize.SL.Sem

variable (m : (ℓ : Loc nD τ sig) → Buf (Elt Ideal) ℓ)

/-- The reference's result as a function of its arguments. -/
def REF (x0 : FVec Ideal S32768x5632 .bf16) (x1 : FVec Ideal S1024x2048 .f32) : FVec Ideal S32768x1024 .bf16 :=
  Cert.MemAttnRefIdeal.Read.val_main_v24 (F := Ideal) x0 x1

/-- The literal that scales a score. -/
abbrev scale : EReal := Ideal.ofBits .f32 0x3D800000#32

/-- The block's value at a row and a column, on any blocks. -/
theorem pay_at (q : Vec Ideal S1024x256 .bf16) (k v : Vec Ideal S256x256 .f32) (y : S1024x256.Idx) (s w : Fin 256 → EReal)
    (hs : ∀ κ : Fin 256, (∑ e : Fin 256, q (ix2 (y 0) e) * k (ix2 κ e)) * scale = s κ) (hw : ∀ κ : Fin 256, v (ix2 κ (y 1)) = w κ) :
    k0_pay1 q k v y
      = Ideal.div (∑ κ, Ideal.exp (s κ - Finset.univ.fold max ⊥ s) * w κ) (∑ κ, Ideal.exp (s κ - Finset.univ.fold max ⊥ s)) := by
  obtain rfl : _ = s := funext hs
  obtain rfl : _ = w := funext hw
  pointwise [k0_pay1]
  rw [Cert.Softmax.lit_bot]

/-- The greatest score of a row of the reference. -/
theorem ref_max (x0 : FVec Ideal S32768x5632 .bf16) (x1 : FVec Ideal S1024x2048 .f32) (i : Cert.MemAttnRefIdeal.S4x4x8192.Idx) (s : Fin 256 → EReal)
    (hs : ∀ (κ : Fin 256) (j : Cert.MemAttnRefIdeal.S4x4x8192x256.Idx), (j 0).val = (i 0).val → (j 1).val = (i 1).val → (j 2).val = (i 2).val → (j 3).val = κ.val →
      Cert.MemAttnRefIdeal.Read.val_main_v9 (F := Ideal) x0 x1 j = s κ) :
    Cert.MemAttnRefIdeal.Read.val_main_v10 (F := Ideal) x0 x1 i = Finset.univ.fold max ⊥ s := by
  unfold Cert.MemAttnRefIdeal.Read.val_main_v10
  generalize Cert.MemAttnRefIdeal.Read.val_main_v9 (F := Ideal) x0 x1 = y at hs ⊢
  have h : Cert.MemAttnRefIdeal.S4x4x8192x256.Reduces [3] Cert.MemAttnRefIdeal.S4x4x8192 := by decide
  refine (Host.reduce_eq_fold_single (max : EReal → EReal → EReal) y _ _ h _ i).trans ?_
  refine congrArg₂ (fun b f => Finset.univ.fold max b f) Cert.Softmax.lit_bot (funext fun κ => hs κ _ ?_ ?_ ?_ ?_)
  all_goals rfl

/-- The score of a row with a key of the memory, at a head. -/
def score (x0 : FVec Ideal S32768x5632 .bf16) (x1 : FVec Ideal S1024x2048 .f32) (R : Fin 32768) (h : Fin 4) (κ : Fin 256) : EReal :=
  (∑ e : Fin 256, x0 (ix2 R ⟨4608 + 256 * h.val + e.val, by omega⟩) * x1 (ix2 ⟨256 * (R.val / 8192) + κ.val, by omega⟩ ⟨256 * h.val + e.val, by omega⟩)) * scale

/-- The reference's scores. -/
theorem ref_score (x0 : FVec Ideal S32768x5632 .bf16) (x1 : FVec Ideal S1024x2048 .f32) (R : Fin 32768) (h : Fin 4) (κ : Fin 256)
    (i : Cert.MemAttnRefIdeal.S4x4x8192x256.Idx) (h0 : (i 0).val = R.val / 8192) (h1 : (i 1).val = h.val) (h2 : (i 2).val = R.val % 8192) (h3 : (i 3).val = κ.val) :
    Cert.MemAttnRefIdeal.Read.val_main_v9 (F := Ideal) x0 x1 i = score x0 x1 R h κ := by
  simp only [Cert.MemAttnRefIdeal.Read.val_main_v9_apply, Cert.MemAttnRefIdeal.Read.val_main_v8_apply, Cert.MemAttnRefIdeal.Read.val_main_cst_apply, Cert.MemAttnRefIdeal.Read.val_main_v7_apply, Cert.MemAttnRefIdeal.Read.val_main_v2_apply, Cert.MemAttnRefIdeal.Read.val_main_v1_apply, Cert.MemAttnRefIdeal.Read.val_main_v0_apply, Cert.MemAttnRefIdeal.Read.val_main_v4_apply, Cert.MemAttnRefIdeal.Read.val_main_v3_apply]
  refine congrArg (fun z : EReal => z * scale) (Finset.sum_congr rfl fun e _ => ?_)
  have hR := R.isLt; have hh := h.isLt; have hκ := κ.isLt; have he := e.isLt
  refine congrArg₂ (fun a b : EReal => a * b) (congrArg x0 ?_) (congrArg x1 ?_)
  · funext a
    match a with
    | ⟨0, _⟩ => exact Fin.ext (by simp only [ix2]; omega)
    | ⟨1, _⟩ => exact Fin.ext (by simp only [ix2]; omega)
  · funext a
    match a with
    | ⟨0, _⟩ => exact Fin.ext (by simp only [ix2]; omega)
    | ⟨1, _⟩ => exact Fin.ext (by simp only [ix2]; omega)

/-- The weight of a score. -/
def weight (x0 : FVec Ideal S32768x5632 .bf16) (x1 : FVec Ideal S1024x2048 .f32) (R : Fin 32768) (h : Fin 4) (κ : Fin 256) : EReal :=
  Ideal.exp (score x0 x1 R h κ - Finset.univ.fold max ⊥ (score x0 x1 R h))

/-- The reference's weights before they are divided. -/
theorem ref_weight (x0 : FVec Ideal S32768x5632 .bf16) (x1 : FVec Ideal S1024x2048 .f32) (R : Fin 32768) (h : Fin 4) (κ : Fin 256)
    (j : Cert.MemAttnRefIdeal.S4x4x8192x256.Idx) (h0 : (j 0).val = R.val / 8192) (h1 : (j 1).val = h.val) (h2 : (j 2).val = R.val % 8192) (h3 : (j 3).val = κ.val) :
    Cert.MemAttnRefIdeal.Read.val_main_v16 (F := Ideal) x0 x1 j = weight x0 x1 R h κ := by
  have e : Cert.MemAttnRefIdeal.Read.val_main_v12 (F := Ideal) x0 x1 (Cert.MemAttnRefIdeal.Read.idx_main_v13 (Cert.MemAttnRefIdeal.Read.idx_main_v14 j)) = Finset.univ.fold max ⊥ (score x0 x1 R h) := by
    rw [Cert.MemAttnRefIdeal.Read.val_main_v12_apply, Cert.MemAttnRefIdeal.Read.val_main_v11_apply, Cert.MemAttnRefIdeal.Read.val_main_cst_1_apply, ref_max x0 x1 _ (score x0 x1 R h) fun κ' j' e0 e1 e2 e3 => ref_score x0 x1 R h κ' j' (e0.trans h0) (e1.trans h1) (e2.trans h2) e3]
    refine Eq.trans (congrArg (fun b : EReal => max b _) Cert.Softmax.lit_bot) ?_
    exact max_eq_right bot_le
  rw [Cert.MemAttnRefIdeal.Read.val_main_v16_apply, Cert.MemAttnRefIdeal.Read.val_main_v15_apply, Cert.MemAttnRefIdeal.Read.val_main_v14_apply, Cert.MemAttnRefIdeal.Read.val_main_v13_apply, e, ref_score x0 x1 R h κ j h0 h1 h2 h3]
  rfl

/-- Their sum. -/
theorem ref_total (x0 : FVec Ideal S32768x5632 .bf16) (x1 : FVec Ideal S1024x2048 .f32) (R : Fin 32768) (h : Fin 4)
    (j : Cert.MemAttnRefIdeal.S4x4x8192.Idx) (h0 : (j 0).val = R.val / 8192) (h1 : (j 1).val = h.val) (h2 : (j 2).val = R.val % 8192) :
    Cert.MemAttnRefIdeal.Read.val_main_v17 (F := Ideal) x0 x1 j = ∑ κ, weight x0 x1 R h κ := by
  rw [Cert.MemAttnRefIdeal.Read.val_main_v17_apply, Cert.MemAttnRefIdeal.Read.val_main_cst_2_apply, Finset.sum_congr rfl fun κ _ => ref_weight x0 x1 R h κ _ h0 h1 h2 rfl]
  exact (congrArg (fun z : EReal => z + _) Cert.Softmax.lit_zero).trans (zero_add _)

/-- The reference's result at an index. -/
theorem ref_at (x0 : FVec Ideal S32768x5632 .bf16) (x1 : FVec Ideal S1024x2048 .f32) (R : Fin 32768) (C : Fin 1024) (h : Fin 4) (h1 : h.val = C.val / 256) :
    REF x0 x1 (ix2 R C) = ∑ κ : Fin 256, x1 (ix2 ⟨256 * (R.val / 8192) + κ.val, by omega⟩ ⟨1024 + C.val, by omega⟩) * Ideal.div (weight x0 x1 R h κ) (∑ κ, weight x0 x1 R h κ) := by
  have hR := R.isLt; have hC := C.isLt
  rw [REF, Cert.MemAttnRefIdeal.Read.val_main_v24_apply, Cert.MemAttnRefIdeal.Read.val_main_v23_apply, Cert.MemAttnRefIdeal.Read.val_main_v22_apply, Cert.MemAttnRefIdeal.Read.val_main_v21_apply]
  show (∑ κ : Fin 256, _ : EReal) = _
  refine Finset.sum_congr rfl fun κ _ => ?_
  have hκ := κ.isLt
  rw [Cert.MemAttnRefIdeal.Read.val_main_v20_apply, Cert.MemAttnRefIdeal.Read.val_main_v19_apply, Cert.MemAttnRefIdeal.Read.val_main_v18_apply, Cert.MemAttnRefIdeal.Read.val_main_v6_apply, Cert.MemAttnRefIdeal.Read.val_main_v5_apply]
  rw [ref_total x0 x1 R h _ (by simp only [ix2]; omega) (by simp only [ix2]; omega) (by simp only [ix2]; omega)]
  rw [ref_weight x0 x1 R h κ _ (by simp only [ix2]; omega) (by simp only [ix2]; omega) (by simp only [ix2]; omega) rfl]
  refine congrArg (fun z : EReal => z * Ideal.div (weight x0 x1 R h κ) (∑ κ, weight x0 x1 R h κ)) (congrArg x1 (funext fun a => ?_))
  match a with
  | ⟨0, _⟩ => exact Fin.ext (by simp only [ix2]; omega)
  | ⟨1, _⟩ => exact Fin.ext (by simp only [ix2]; omega)

/-- The scale is a real. -/
theorem scale_lit : ∃ r : ℝ, scale = r := by
  simp only [scale, Ideal.ofBits, Ideal.ieee]
  exact ⟨_, rfl⟩

/-- The precondition, of the queries. -/
theorem q_real (x0 : FVec Ideal S32768x5632 .bf16) (x1 : FVec Ideal S1024x2048 .f32) (h : (Cert.Pre_mem_finite.fn (F := Ideal) x0 x1).1 = fun _ => 1#1)
    (R : Fin 32768) (C : Fin 5632) (hC : 4608 ≤ C.val) : ∃ r : ℝ, x0 (ix2 R C) = r := by
  obtain ⟨r, hr⟩ := Cert.Softmax.real_of_olt (x := extractStridedSlice Cert.Pre_mem_finite.S32768x1024 ![0, 4608] x0 Cert.Pre_mem_finite.Facts.slices_S32768x5632_S32768x1024_0_4608 (ix2 R ⟨C.val - 4608, by omega⟩))
    (congrFun h (ix2 R ⟨C.val - 4608, by omega⟩))
  refine ⟨r, (congrArg x0 (funext fun a => ?_)).trans hr⟩
  match a with
  | ⟨0, _⟩ => exact Fin.ext (Nat.zero_add R.val).symm
  | ⟨1, _⟩ => exact Fin.ext (Nat.add_sub_of_le hC).symm

/-- The precondition, of the keys. -/
theorem k_real (x0 : FVec Ideal S32768x5632 .bf16) (x1 : FVec Ideal S1024x2048 .f32) (h : (Cert.Pre_mem_finite.fn (F := Ideal) x0 x1).2 = fun _ => 1#1)
    (R : Fin 1024) (C : Fin 2048) (hC : C.val < 1024) : ∃ r : ℝ, x1 (ix2 R C) = r := by
  have e := congrFun h (ix2 R ⟨C.val, hC⟩)
  unfold Cert.Pre_mem_finite.fn at e
  obtain ⟨r, hr⟩ := Cert.Softmax.real_of_olt (x := x1 _) e
  refine ⟨r, (congrArg x1 (funext fun a => ?_)).trans hr⟩
  match a with
  | ⟨0, _⟩ => exact Fin.ext (Nat.zero_add R.val).symm
  | ⟨1, _⟩ => exact Fin.ext (Nat.zero_add C.val).symm

/-- Every score is a real. -/
theorem score_real (x0 : FVec Ideal S32768x5632 .bf16) (x1 : FVec Ideal S1024x2048 .f32)
    (h : (Cert.Pre_mem_finite.fn (F := Ideal) x0 x1).1 = (fun _ => 1#1) ∧ (Cert.Pre_mem_finite.fn (F := Ideal) x0 x1).2 = fun _ => 1#1)
    (R : Fin 32768) (a : Fin 4) (κ : Fin 256) : ∃ r : ℝ, score x0 x1 R a κ = r :=
  Cert.Softmax.scale_real (Cert.Softmax.dot_real _ _ (fun _ => q_real x0 x1 h.1 _ _ (by simp only []; omega)) (fun _ => k_real x0 x1 h.2 _ _ (by simp only []; omega))) scale_lit

/-- The kernel's row is the reference's. -/
theorem row (x0 : FVec Ideal S32768x5632 .bf16) (x1 : FVec Ideal S1024x2048 .f32)
    (h : (Cert.Pre_mem_finite.fn (F := Ideal) x0 x1).1 = (fun _ => 1#1) ∧ (Cert.Pre_mem_finite.fn (F := Ideal) x0 x1).2 = fun _ => 1#1)
    (R : Fin 32768) (C : Fin 1024) (a : Fin 4) (ha : a.val = C.val / 256) (w : Fin 256 → EReal)
    (hw : ∀ κ : Fin 256, w κ = x1 (ix2 ⟨256 * (R.val / 8192) + κ.val, by omega⟩ ⟨1024 + C.val, by omega⟩)) :
    Ideal.div (∑ κ, Ideal.exp (score x0 x1 R a κ - Finset.univ.fold max ⊥ (score x0 x1 R a)) * w κ) (∑ κ, Ideal.exp (score x0 x1 R a κ - Finset.univ.fold max ⊥ (score x0 x1 R a)))
      = REF x0 x1 (ix2 R C) := by
  have hr := score_real x0 x1 h R a
  have ht : ∀ u, score x0 x1 R a u ≠ ⊤ := fun u e => by obtain ⟨r, hr⟩ := hr u; rw [hr] at e; exact EReal.coe_ne_top r e
  have hb : ∀ u, score x0 x1 R a u ≠ ⊥ := fun u e => by obtain ⟨r, hr⟩ := hr u; rw [hr] at e; exact EReal.coe_ne_bot r e
  rw [ref_at x0 x1 R C a ha]
  refine Cert.Softmax.attend_match 0 _ w _ _ (fun K u e => ?_) (fun K u e => ?_) (fun K _ => ⟨K, by omega⟩) (fun u _ => ⟨u, by omega⟩) ht 0 (hb 0)
  · rw [show K = u from Fin.ext (by omega)]
  · rw [show K = u from Fin.ext (by omega)]; exact hw u

/-- Each window's block index at a grid point. -/
theorem idx : ∀ t : Fin cfg0.N, win0_0.index t = ![8 * (t.val / 32) + t.val % 8, 18 + t.val / 8 % 4] ∧ win0_1.index t = ![t.val / 32, t.val / 8 % 4] ∧ win0_2.index t = ![t.val / 32, 4 + t.val / 8 % 4]
    ∧ win0_3.index t = ![8 * (t.val / 32) + t.val % 8, t.val / 8 % 4] :=
  (by decide +kernel : ∀ t : Fin grid0.N, _)

/-- The block a point stores, element by element, is the reference's there. -/
theorem point (c : Dev nD)
    (h : (Cert.Pre_mem_finite.fn (F := Ideal) (m ((c : Thread nD τ).loc main_arg0)) (m ((c : Thread nD τ).loc main_arg1))).1 = (fun _ => 1#1)
      ∧ (Cert.Pre_mem_finite.fn (F := Ideal) (m ((c : Thread nD τ).loc main_arg0)) (m ((c : Thread nD τ).loc main_arg1))).2 = fun _ => 1#1)
    (t : Fin cfg0.N) (y : S1024x256.Idx) :
    out0_3 (iblk m c 0 t) (iblk m c 1 t) (iblk m c 2 t) y
      = REF (m ((c : Thread nD τ).loc main_arg0)) (m ((c : Thread nD τ).loc main_arg1)) (((cfg0.win 3).blk t).view.emb y) := by
  have ht : t.val < 128 := t.isLt
  have h0 : (y 0).val < 1024 := (y 0).isLt
  have h1 : (y 1).val < 256 := (y 1).isLt
  frame_out
  have e : ((cfg0.win 3).blk t).view.emb y = ix2 (⟨1024 * (8 * (t.val / 32) + t.val % 8) + (y 0).val, by omega⟩ : Fin 32768) (⟨256 * (t.val / 8 % 4) + (y 1).val, by omega⟩ : Fin 1024) := by
    blk_ext [idx t]
  rw [e]
  refine (pay_at _ _ _ y (score (m ((c : Thread nD τ).loc main_arg0)) (m ((c : Thread nD τ).loc main_arg1)) ⟨1024 * (8 * (t.val / 32) + t.val % 8) + (y 0).val, by omega⟩ ⟨t.val / 8 % 4, by omega⟩)
    (fun κ => m ((c : Thread nD τ).loc main_arg1) (ix2 ⟨256 * (t.val / 32) + κ.val, by omega⟩ ⟨1024 + (256 * (t.val / 8 % 4) + (y 1).val), by omega⟩)) (fun κ => ?_) (fun κ => ?_)).trans
    (row _ _ h _ _ ⟨t.val / 8 % 4, by omega⟩ (by simp only []; omega) _ fun κ => ?_)
  · refine congrArg (fun z : EReal => z * scale) (Finset.sum_congr rfl fun e _ => ?_)
    refine congrArg₂ (fun a b : EReal => a * b) ?_ ?_
    · exact congrArg (a₁ := (((cfg0.win 0).blk t).view.emb (ix2 (y 0) e))) (m ((c : Thread nD τ).loc main_arg0)) (by blk_ext [idx t])
    · exact congrArg (a₁ := (((cfg0.win 1).blk t).view.emb (ix2 κ e))) (m ((c : Thread nD τ).loc main_arg1)) (by blk_ext [idx t])
  · exact congrArg (a₁ := (((cfg0.win 2).blk t).view.emb (ix2 κ (y 1)))) (m ((c : Thread nD τ).loc main_arg1)) (by blk_ext [idx t])
  · refine congrArg (m ((c : Thread nD τ).loc main_arg1)) (funext fun a => ?_)
    match a with
    | ⟨0, _⟩ => exact Fin.ext (by simp only [ix2]; omega)
    | ⟨1, _⟩ => rfl

/-- The launch's result. -/
theorem final (c : Dev nD)
    (h : (Cert.Pre_mem_finite.fn (F := Ideal) (m ((c : Thread nD τ).loc main_arg0)) (m ((c : Thread nD τ).loc main_arg1))).1 = (fun _ => 1#1)
      ∧ (Cert.Pre_mem_finite.fn (F := Ideal) (m ((c : Thread nD τ).loc main_arg0)) (m ((c : Thread nD τ).loc main_arg1))).2 = fun _ => 1#1) :
    (dats m 0 c).arrAt 3 (cfgs 0).N = REF (m ((c : Thread nD τ).loc main_arg0)) (m ((c : Thread nD τ).loc main_arg1)) := by
  refine (dats m 0 c).arrAt_eq_of_covers 3 _ (by decide +kernel) fun t _ y => ?_
  blk_simp
  rw [after0_3]
  exact point m c h t y

end Cert.MemAttnIdeal.Hand

end
-- ==== Proof.FfnUpIdealFrame.lean ====
/-  The frame of `FfnUpIdeal`: its launch, its body in the two cases of the word that its branch compares, what the output's
  buffer holds after each point, and that every run ends with the arguments as they were. Its index maps read four tables
  of words; where each of them is held is `PhiT0_eq`. -/
module

public import proofs.«01_k».proof.Proof.Gen.FfnUpIdeal.Launch
public import proofs.«01_k».proof.Proof.Gen.FfnUpIdeal.Skeleton
public import proofs.«01_k».proof.Proof.Gen.FfnUpIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.FfnUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl

def tbl : pre0.Contents (Elt F) := fun j => V m (0 : Dev nD) (pre0.ref j)

theorem V_pre (c : Dev nD) (j : Fin 4) : V m c (pre0.ref j) = tbl m j := by
  obtain rfl : c = 0 := Subsingleton.elim _ _; rfl

abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev tbM0_0 : Memref sig .tc .smem S289 .i32 := Memref.whole main_arg0
abbrev htbM0_0 : tbM0_0.IsWhole := Memref.isWhole_whole _
abbrev tbM0_1 : Memref sig .tc .smem S289 .i32 := Memref.whole main_arg1
abbrev htbM0_1 : tbM0_1.IsWhole := Memref.isWhole_whole _
abbrev tbM0_2 : Memref sig .tc .smem S289 .i32 := Memref.whole main_arg2
abbrev htbM0_2 : tbM0_2.IsWhole := Memref.isWhole_whole _
abbrev tbM0_3 : Memref sig .tc .smem S289 .i32 := Memref.whole main_arg3
abbrev htbM0_3 : tbM0_3.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 0).trans (((dats 0 c).arrAt_in 0 rfl _).trans ((hA c 0).trans (V_main_arg4 m c))),
      ((h c).1 1).trans (((dats 0 c).arrAt_in 1 rfl _).trans ((hA c 1).trans (V_main_arg5 m c))),
      ((h c).1 2).trans (((dats 0 c).arrAt_in 2 rfl _).trans ((hA c 2).trans (V_main_arg6 m c))),
      ((h c).1 3).trans (((dats 0 c).arrAt_in 3 rfl _).trans ((hA c 3).trans (V_main_arg7 m c))),
      ((h c).1 4).trans (((dats 0 c).arrAt_in 4 rfl _).trans ((hA c 4).trans (V_main_arg8 m c)))⟩) h

abbrev cond0_0 (i : grid0.Coords) (v3 : BitVec 32) : Prop := (Scalar.cmpi .ne (Scalar.extui (Scalar.cmpi .eq v3 1#32)) 0#32) = 1#1

abbrev VO0_5 : View sig .tc .vmem S512x1024 .bf16 := (Memref.whole cc0_stg5_0 : Memref sig .tc .vmem S512x1024 .bf16).view

abbrev ms0_0 (hO : Ok m) (t : Fin (cfgM m hO).N) : Memref sig .tc .vmem S512x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2048x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x1024 .bf16 := spec0_5.stage ((cfgM m hO).slots t 5)
abbrev hs0_5 (hO : Ok m) (t : Fin (cfgM m hO).N) : (ms0_5 m hO t).IsWhole := hstage0_5 (((cfgM m hO).slots t 5).cast nbuf0_5)

set_option maxHeartbeats 1000000 in

noncomputable def kernelRun0_A (c : Dev nD) (i : grid0.Coords) (arg6 : Memref sig .tc .vmem S512x2048 .f32) (harg6 : arg6.IsWhole) (arg7 : Memref sig .tc .vmem S1x2048x1024 .bf16) (harg7 : arg7.IsWhole) (arg8 : Memref sig .tc .vmem S1x1x1024 .f32) (harg8 : arg8.IsWhole) (arg9 : Memref sig .tc .vmem S1x2048x1024 .bf16) (harg9 : arg9.IsWhole) (arg10 : Memref sig .tc .vmem S1x1x1024 .f32) (harg10 : arg10.IsWhole) (arg11 : Memref sig .tc .vmem S512x1024 .bf16) (harg11 : arg11.IsWhole)
    (x0 : Vec F S512x2048 .f32) (x1 : Vec F S1x2048x1024 .bf16) (x2 : Vec F S1x1x1024 .f32) (x3 : Vec F S1x2048x1024 .bf16) (x4 : Vec F S1x1x1024 .f32) (xt0 : TbBuf0 (F := F) c tbM0_0) (xt1 : TbBuf0 (F := F) c tbM0_1) (xt2 : TbBuf0 (F := F) c tbM0_2) (xt3 : TbBuf0 (F := F) c tbM0_3) (hc0 : cond0_0 i (tbM0_3.view.readAt (Elt F) (Rect.unit (s := S289) (k0_off1 i) S1.size (k0_off1_inb i)).toLoadRect xt3 (Shape.Idx.first (numel1_S1.symm ▸ Nat.one_pos)))) :
    { L5 : List (View.Piece (Elt F) S512x1024 .bf16) //
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ (∃ d, owns (c : Thread nD τ) arg11 fullShare d) ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ (∃ f, arg11.view.loc (c : Thread nD τ) ↦[arg11.view.set]{fullShare} arg11.view.writes (Elt F) f L5) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_moe_ffn_up i tbM0_0 htbM0_0 tbM0_1 htbM0_1 tbM0_2 htbM0_2 tbM0_3 htbM0_3 arg6 harg6 arg7 harg7 arg8 harg8 arg9 harg9 arg10 harg10 arg11 harg11) K } := by
  refine ⟨?_, fun E K => ?run⟩
  case run =>
    simp only [cc0_moe_ffn_up_eq_skeleton]; unfold cc0_moe_ffn_up_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, HT2, HT3, Hk⟩
    obtain rfl := harg6.eq_unread hf0; obtain rfl := harg7.eq_unread hf1; obtain rfl := harg8.eq_unread hf2; obtain rfl := harg9.eq_unread hf3; obtain rfl := harg10.eq_unread hf4
    sl_exec (disch := first | sl_exact hc0)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H5]; · iexists _; iexact H5
    isplitl [HT0]; · iexact HT0
    isplitl [HT1]; · iexact HT1
    isplitl [HT2]; · iexact HT2
    iexact HT3

set_option maxHeartbeats 1000000 in

noncomputable def kernelRun0_B (c : Dev nD) (i : grid0.Coords) (arg6 : Memref sig .tc .vmem S512x2048 .f32) (harg6 : arg6.IsWhole) (arg7 : Memref sig .tc .vmem S1x2048x1024 .bf16) (harg7 : arg7.IsWhole) (arg8 : Memref sig .tc .vmem S1x1x1024 .f32) (harg8 : arg8.IsWhole) (arg9 : Memref sig .tc .vmem S1x2048x1024 .bf16) (harg9 : arg9.IsWhole) (arg10 : Memref sig .tc .vmem S1x1x1024 .f32) (harg10 : arg10.IsWhole) (arg11 : Memref sig .tc .vmem S512x1024 .bf16) (harg11 : arg11.IsWhole)
    (x0 : Vec F S512x2048 .f32) (x1 : Vec F S1x2048x1024 .bf16) (x2 : Vec F S1x1x1024 .f32) (x3 : Vec F S1x2048x1024 .bf16) (x4 : Vec F S1x1x1024 .f32) (xt0 : TbBuf0 (F := F) c tbM0_0) (xt1 : TbBuf0 (F := F) c tbM0_1) (xt2 : TbBuf0 (F := F) c tbM0_2) (xt3 : TbBuf0 (F := F) c tbM0_3) (hc0 : ¬cond0_0 i (tbM0_3.view.readAt (Elt F) (Rect.unit (s := S289) (k0_off1 i) S1.size (k0_off1_inb i)).toLoadRect xt3 (Shape.Idx.first (numel1_S1.symm ▸ Nat.one_pos)))) :
    { L5 : List (View.Piece (Elt F) S512x1024 .bf16) //
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ (∃ d, owns (c : Thread nD τ) arg11 fullShare d) ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ (∃ f, arg11.view.loc (c : Thread nD τ) ↦[arg11.view.set]{fullShare} arg11.view.writes (Elt F) f L5) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_moe_ffn_up i tbM0_0 htbM0_0 tbM0_1 htbM0_1 tbM0_2 htbM0_2 tbM0_3 htbM0_3 arg6 harg6 arg7 harg7 arg8 harg8 arg9 harg9 arg10 harg10 arg11 harg11) K } := by
  refine ⟨?_, fun E K => ?run⟩
  case run =>
    simp only [cc0_moe_ffn_up_eq_skeleton]; unfold cc0_moe_ffn_up_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, HT2, HT3, Hk⟩
    obtain rfl := harg6.eq_unread hf0; obtain rfl := harg7.eq_unread hf1; obtain rfl := harg8.eq_unread hf2; obtain rfl := harg9.eq_unread hf3; obtain rfl := harg10.eq_unread hf4
    sl_exec (disch := first | sl_exact hc0)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H5]; · iexists _; iexact H5
    isplitl [HT0]; · iexact HT0
    isplitl [HT1]; · iexact HT1
    isplitl [HT2]; · iexact HT2
    iexact HT3

theorem cover0_A_5 (c : Dev nD) (i : grid0.Coords) (arg6 : Memref sig .tc .vmem S512x2048 .f32) (harg6 : arg6.IsWhole) (arg7 : Memref sig .tc .vmem S1x2048x1024 .bf16) (harg7 : arg7.IsWhole) (arg8 : Memref sig .tc .vmem S1x1x1024 .f32) (harg8 : arg8.IsWhole) (arg9 : Memref sig .tc .vmem S1x2048x1024 .bf16) (harg9 : arg9.IsWhole) (arg10 : Memref sig .tc .vmem S1x1x1024 .f32) (harg10 : arg10.IsWhole) (arg11 : Memref sig .tc .vmem S512x1024 .bf16) (harg11 : arg11.IsWhole)
    (x0 : Vec F S512x2048 .f32) (x1 : Vec F S1x2048x1024 .bf16) (x2 : Vec F S1x1x1024 .f32) (x3 : Vec F S1x2048x1024 .bf16) (x4 : Vec F S1x1x1024 .f32) (xt0 : TbBuf0 (F := F) c tbM0_0) (xt1 : TbBuf0 (F := F) c tbM0_1) (xt2 : TbBuf0 (F := F) c tbM0_2) (xt3 : TbBuf0 (F := F) c tbM0_3) (hc0 : cond0_0 i (tbM0_3.view.readAt (Elt F) (Rect.unit (s := S289) (k0_off1 i) S1.size (k0_off1_inb i)).toLoadRect xt3 (Shape.Idx.first (numel1_S1.symm ▸ Nat.one_pos)))) (y : S512x1024.Idx) :
    ∃ pc ∈ (kernelRun0_A c i arg6 harg6 arg7 harg7 arg8 harg8 arg9 harg9 arg10 harg10 arg11 harg11 x0 x1 x2 x3 x4 xt0 xt1 xt2 xt3 hc0).1, y ∈ pc.1.set :=
  View.cover_of_tiledL (kernelRun0_A c i arg6 harg6 arg7 harg7 arg8 harg8 arg9 harg9 arg10 harg10 arg11 harg11 x0 x1 x2 x3 x4 xt0 xt1 xt2 xt3 hc0).1 S512x1024.size (by sl_kernel_rfl) y

def out0_A_5 (c : Dev nD) (i : grid0.Coords) (arg6 : Memref sig .tc .vmem S512x2048 .f32) (harg6 : arg6.IsWhole) (arg7 : Memref sig .tc .vmem S1x2048x1024 .bf16) (harg7 : arg7.IsWhole) (arg8 : Memref sig .tc .vmem S1x1x1024 .f32) (harg8 : arg8.IsWhole) (arg9 : Memref sig .tc .vmem S1x2048x1024 .bf16) (harg9 : arg9.IsWhole) (arg10 : Memref sig .tc .vmem S1x1x1024 .f32) (harg10 : arg10.IsWhole) (arg11 : Memref sig .tc .vmem S512x1024 .bf16) (harg11 : arg11.IsWhole)
    (x0 : Vec F S512x2048 .f32) (x1 : Vec F S1x2048x1024 .bf16) (x2 : Vec F S1x1x1024 .f32) (x3 : Vec F S1x2048x1024 .bf16) (x4 : Vec F S1x1x1024 .f32) (xt0 : TbBuf0 (F := F) c tbM0_0) (xt1 : TbBuf0 (F := F) c tbM0_1) (xt2 : TbBuf0 (F := F) c tbM0_2) (xt3 : TbBuf0 (F := F) c tbM0_3) (hc0 : cond0_0 i (tbM0_3.view.readAt (Elt F) (Rect.unit (s := S289) (k0_off1 i) S1.size (k0_off1_inb i)).toLoadRect xt3 (Shape.Idx.first (numel1_S1.symm ▸ Nat.one_pos)))) : Vec F S512x1024 .bf16 :=
  VO0_5.read (Elt F) (VO0_5.writes (Elt F) VO0_5.junk (kernelRun0_A c i arg6 harg6 arg7 harg7 arg8 harg8 arg9 harg9 arg10 harg10 arg11 harg11 x0 x1 x2 x3 x4 xt0 xt1 xt2 xt3 hc0).1)

theorem cover0_B_5 (c : Dev nD) (i : grid0.Coords) (arg6 : Memref sig .tc .vmem S512x2048 .f32) (harg6 : arg6.IsWhole) (arg7 : Memref sig .tc .vmem S1x2048x1024 .bf16) (harg7 : arg7.IsWhole) (arg8 : Memref sig .tc .vmem S1x1x1024 .f32) (harg8 : arg8.IsWhole) (arg9 : Memref sig .tc .vmem S1x2048x1024 .bf16) (harg9 : arg9.IsWhole) (arg10 : Memref sig .tc .vmem S1x1x1024 .f32) (harg10 : arg10.IsWhole) (arg11 : Memref sig .tc .vmem S512x1024 .bf16) (harg11 : arg11.IsWhole)
    (x0 : Vec F S512x2048 .f32) (x1 : Vec F S1x2048x1024 .bf16) (x2 : Vec F S1x1x1024 .f32) (x3 : Vec F S1x2048x1024 .bf16) (x4 : Vec F S1x1x1024 .f32) (xt0 : TbBuf0 (F := F) c tbM0_0) (xt1 : TbBuf0 (F := F) c tbM0_1) (xt2 : TbBuf0 (F := F) c tbM0_2) (xt3 : TbBuf0 (F := F) c tbM0_3) (hc0 : ¬cond0_0 i (tbM0_3.view.readAt (Elt F) (Rect.unit (s := S289) (k0_off1 i) S1.size (k0_off1_inb i)).toLoadRect xt3 (Shape.Idx.first (numel1_S1.symm ▸ Nat.one_pos)))) (y : S512x1024.Idx) :
    ∃ pc ∈ (kernelRun0_B c i arg6 harg6 arg7 harg7 arg8 harg8 arg9 harg9 arg10 harg10 arg11 harg11 x0 x1 x2 x3 x4 xt0 xt1 xt2 xt3 hc0).1, y ∈ pc.1.set :=
  View.cover_of_tiledL (kernelRun0_B c i arg6 harg6 arg7 harg7 arg8 harg8 arg9 harg9 arg10 harg10 arg11 harg11 x0 x1 x2 x3 x4 xt0 xt1 xt2 xt3 hc0).1 S512x1024.size (by sl_kernel_rfl) y

def out0_B_5 (c : Dev nD) (i : grid0.Coords) (arg6 : Memref sig .tc .vmem S512x2048 .f32) (harg6 : arg6.IsWhole) (arg7 : Memref sig .tc .vmem S1x2048x1024 .bf16) (harg7 : arg7.IsWhole) (arg8 : Memref sig .tc .vmem S1x1x1024 .f32) (harg8 : arg8.IsWhole) (arg9 : Memref sig .tc .vmem S1x2048x1024 .bf16) (harg9 : arg9.IsWhole) (arg10 : Memref sig .tc .vmem S1x1x1024 .f32) (harg10 : arg10.IsWhole) (arg11 : Memref sig .tc .vmem S512x1024 .bf16) (harg11 : arg11.IsWhole)
    (x0 : Vec F S512x2048 .f32) (x1 : Vec F S1x2048x1024 .bf16) (x2 : Vec F S1x1x1024 .f32) (x3 : Vec F S1x2048x1024 .bf16) (x4 : Vec F S1x1x1024 .f32) (xt0 : TbBuf0 (F := F) c tbM0_0) (xt1 : TbBuf0 (F := F) c tbM0_1) (xt2 : TbBuf0 (F := F) c tbM0_2) (xt3 : TbBuf0 (F := F) c tbM0_3) (hc0 : ¬cond0_0 i (tbM0_3.view.readAt (Elt F) (Rect.unit (s := S289) (k0_off1 i) S1.size (k0_off1_inb i)).toLoadRect xt3 (Shape.Idx.first (numel1_S1.symm ▸ Nat.one_pos)))) : Vec F S512x1024 .bf16 :=
  VO0_5.read (Elt F) (VO0_5.writes (Elt F) VO0_5.junk (kernelRun0_B c i arg6 harg6 arg7 harg7 arg8 harg8 arg9 harg9 arg10 harg10 arg11 harg11 x0 x1 x2 x3 x4 xt0 xt1 xt2 xt3 hc0).1)

def outsAt0 (hO : Ok m) (c : Dev nD) (t : Fin (cfgM m hO).N) : Vec F S512x1024 .bf16 :=
  if h0 : cond0_0 (grid0.coords t) (tbM0_3.view.readAt (Elt F) (Rect.unit (s := S289) (k0_off1 (grid0.coords t)) S1.size (k0_off1_inb (grid0.coords t))).toLoadRect (tbl m 3) (Shape.Idx.first (numel1_S1.symm ▸ Nat.one_pos))) then
    out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) (tbl m 2) (tbl m 3) h0
  else
    out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) (tbl m 2) (tbl m 3) h0

theorem outsAt0_A (hO : Ok m) (c : Dev nD) (t : Fin (cfgM m hO).N) (h0 : cond0_0 (grid0.coords t) (tbM0_3.view.readAt (Elt F) (Rect.unit (s := S289) (k0_off1 (grid0.coords t)) S1.size (k0_off1_inb (grid0.coords t))).toLoadRect (tbl m 3) (Shape.Idx.first (numel1_S1.symm ▸ Nat.one_pos)))) :
    outsAt0 m hO c t = out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) (tbl m 2) (tbl m 3) h0 := by
  unfold outsAt0; exact (dif_pos h0).trans rfl

theorem outsAt0_B (hO : Ok m) (c : Dev nD) (t : Fin (cfgM m hO).N) (h0 : ¬cond0_0 (grid0.coords t) (tbM0_3.view.readAt (Elt F) (Rect.unit (s := S289) (k0_off1 (grid0.coords t)) S1.size (k0_off1_inb (grid0.coords t))).toLoadRect (tbl m 3) (Shape.Idx.first (numel1_S1.symm ▸ Nat.one_pos)))) :
    outsAt0 m hO c t = out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) (tbl m 2) (tbl m 3) h0 := by
  unfold outsAt0; exact (dif_neg h0).trans rfl

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 800000 in

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq]
  by_cases h0 : cond0_0 (grid0.coords t) (tbM0_3.view.readAt (Elt F) (Rect.unit (s := S289) (k0_off1 (grid0.coords t)) S1.size (k0_off1_inb (grid0.coords t))).toLoadRect (tbl m 3) (Shape.Idx.first (numel1_S1.symm ▸ Nat.one_pos)))
  · rw [outsAt0_A m hO c t h0]
    unfold out0_A_5
    iintro ⟨⟨HΦ, ⟨HT0, HT1, HT2, HT3⟩⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ (iblk m hO c 0 t) (iblk m hO c 1 t) (iblk m hO c 2 t) (iblk m hO c 3 t) (iblk m hO c 4 t) (tbl m 0) (tbl m 1) (tbl m 2) (tbl m 3) h0).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    isplitl [HT2]; · iexact HT2
    isplitl [HT3]; · iexact HT3
    iintro ⟨H0, H1, H2, H3, H4, ⟨%e5, H5⟩, HT0, HT1, HT2, HT3⟩
    isplitl [HΦ HT0 HT1 HT2 HT3]
    · isplitl [HΦ]
      · iexact HΦ
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _ _ _ _ _)
  · rw [outsAt0_B m hO c t h0]
    unfold out0_B_5
    iintro ⟨⟨HΦ, ⟨HT0, HT1, HT2, HT3⟩⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (iblk m hO c 0 t) (iblk m hO c 1 t) (iblk m hO c 2 t) (iblk m hO c 3 t) (iblk m hO c 4 t) (tbl m 0) (tbl m 1) (tbl m 2) (tbl m 3) h0).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    isplitl [HT2]; · iexact HT2
    isplitl [HT3]; · iexact HT3
    iintro ⟨H0, H1, H2, H3, H4, ⟨%e5, H5⟩, HT0, HT1, HT2, HT3⟩
    isplitl [HΦ HT0 HT1 HT2 HT3]
    · isplitl [HΦ]
      · iexact HΦ
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl
set_option backward.isDefEq.respectTransparency.types false in

theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.FfnUpIdeal.Gen

end
-- ==== Proof.Routed.lean ====
/-  What the two expert products share.

  Their windows' index maps read tables of words, so that where a point writes is known only from the words. `arrAt_of_only`
  reads one element of the final array where one point alone writes it; `gather_slab_apply` reads the reference's gather of the
  experts' matrices, one matrix per block, at an index; `bit_…` and `word_…` read the preconditions' bits as bounds on the words. -/
module

public import Idealize.ShloMosaic.Lib.Pipeline.Value
public import Idealize.ShloMosaic.Lib.ValueIdx
public import Idealize.ShloMosaic.Lib.Pipeline.ValueKit

@[expose] public section

namespace Cert.Routed

open Idealize.ShloMosaic Idealize.ShloMosaic.TcCoe Idealize.ShloMosaic.Pipeline Idealize.SL Idealize.SL.RA Idealize.SL.Sem

section Once

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD} (dat : Dat τ Val Ix Name U Lvl cfg c)

/-- An element that one write-back alone covers ends at what that point wrote there. -/
theorem arrAt_of_only (w : Fin cfg.W) (t : Fin cfg.N) (hf : (cfg.win w).flush t = true)
    (y : ((cfg.win w).xblock (cfg.grid.coords t)).Idx)
    (only : ∀ t' : Fin cfg.N, (cfg.win w).flush t' = true → ((cfg.win w).blk t).view.emb y ∈ ((cfg.win w).blk t').view.set → t' = t) :
    dat.arrAt w cfg.N (((cfg.win w).blk t).view.emb y)
      = _root_.cast (congrArg Val ((cfg.win w).blk t).view.elt_eq.symm) (dat.flushed w t y) := by
  have key : ∀ n, t.val < n → n ≤ cfg.N → dat.arrAt w n (((cfg.win w).blk t).view.emb y)
      = _root_.cast (congrArg Val ((cfg.win w).blk t).view.elt_eq.symm) (dat.flushed w t y) := by
    intro n
    induction n with
    | zero => intro h; exact absurd h (Nat.not_lt_zero _)
    | succ n ih =>
      intro ht hn
      have hn' : n < cfg.N := hn
      rw [dat.arrAt_succ_apply, dif_pos hn']
      by_cases e : t.val = n
      · obtain rfl : t = ⟨n, hn'⟩ := Fin.ext e
        rw [if_pos hf]
        have h := congrFun (View.read_write_univ (v := ((cfg.win w).blk ⟨n, hn'⟩).view) (dat.arrAt w n) (dat.flushed w ⟨n, hn'⟩)) y
        rw [View.read_apply] at h
        rw [← h, cast_cast, cast_eq]
      · by_cases hfn : (cfg.win w).flush ⟨n, hn'⟩ = true
        · rw [if_pos hfn, View.write_of_not_mem _ _ _ (by
            rw [View.setOn_univ]
            intro hm
            exact e (congrArg Fin.val (only _ hfn hm)).symm)]
          exact ih (by omega) (by omega)
        · rw [if_neg hfn]
          exact ih (by omega) (by omega)
  exact key _ t.isLt le_rfl

end Once

section Gather
variable {α : Type}

/-- The gather of one slab per start index: from an operand `[E, A, B]` at start indices `[N, 1]`, the result `[N, A, B]`. -/
abbrev slabDims (E N A B : Nat) (wf : GatherDims.WF ⟨3, ![E, A, B]⟩ ⟨2, ![N, 1]⟩ ⟨3, ![N, A, B]⟩ [1, 2] [0] [] [0] [] 1 ![1, A, B]) :
    GatherDims ⟨3, ![E, A, B]⟩ ⟨2, ![N, 1]⟩ ⟨3, ![N, A, B]⟩ where
  offsetDims := [1, 2]
  collapsedSliceDims := [0]
  operandBatchingDims := []
  startIndicesBatchingDims := []
  startIndexMap := [0]
  indexVectorDim := 1
  sliceSizes := ![1, A, B]
  wf := wf

/-- The start index of a result index. -/
abbrev slabIdx {N A B : Nat} (y : (⟨3, ![N, A, B]⟩ : Shape).Idx) : (⟨2, ![N, 1]⟩ : Shape).Idx :=
  fun a => match a with | ⟨0, _⟩ => ⟨(y 0).val, (y 0).isLt⟩ | ⟨1, _⟩ => ⟨0, Nat.one_pos⟩

/-- The gather at an index: the slab that the start index names, at the index's other two coordinates. -/
theorem gather_slab_apply {E N A B w : Nat}
    (wf : GatherDims.WF ⟨3, ![E, A, B]⟩ ⟨2, ![N, 1]⟩ ⟨3, ![N, A, B]⟩ [1, 2] [0] [] [0] [] 1 ![1, A, B])
    (x : (⟨3, ![E, A, B]⟩ : Shape).Idx → α) (idx : IVec ⟨2, ![N, 1]⟩ w) (y : (⟨3, ![N, A, B]⟩ : Shape).Idx)
    (J : (⟨3, ![E, A, B]⟩ : Shape).Idx) (h0 : (J 0).val = min (idx (slabIdx y)).toInt.toNat (E - 1))
    (h1 : (J 1).val = (y 1).val) (h2 : (J 2).val = (y 2).val) :
    Host.gather (slabDims E N A B wf) x idx y = x J := by
  unfold Host.gather
  congr 1
  funext a
  refine Fin.ext ?_
  show (slabDims E N A B wf).start y idx a + (slabDims E N A B wf).batchCoord y a + (slabDims E N A B wf).offCoord y a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), h0]
    simp only [Nat.add_zero]
    unfold GatherDims.start
    rw [dif_pos (show (0 : Fin 3) ∈ (slabDims E N A B wf).startIndexMap from List.mem_singleton.mpr rfl)]
    have hsi : (slabDims E N A B wf).siIdx y ⟨List.idxOf (0 : Fin 3) (slabDims E N A B wf).startIndexMap,
        List.idxOf_lt_length_iff.2 (List.mem_singleton.mpr rfl)⟩ = slabIdx y := by
      funext b; refine Fin.ext ?_
      match b with
      | ⟨0, _⟩ => rfl
      | ⟨1, _⟩ => rfl
    rw [hsi]
    rfl
  · unfold GatherDims.start
    rw [dif_neg (show (1 : Fin 3) ∉ ([0] : List (Fin 3)) by decide), h1]
    simp only [Nat.zero_add]
    rfl
  · unfold GatherDims.start
    rw [dif_neg (show (2 : Fin 3) ∉ ([0] : List (Fin 3)) by decide), h2]
    simp only [Nat.zero_add]
    rfl

end Gather

section Words

theorem bit_and (a b : BitVec 1) : IntOp.andi a b = 1#1 ↔ a = 1#1 ∧ b = 1#1 := by revert a b; decide

theorem bit_of (p : Bool) : BitVec.ofBool p = 1#1 ↔ p = true := by cases p <;> decide

/-- A word at least 0 and less than `k`, as signed words, is a number less than `k`. -/
theorem word_lt (v : BitVec 32) (k : Nat) (hk : k < 2 ^ 31) (h0 : IntOp.cmpi .sge v 0#32 = 1#1)
    (h1 : IntOp.cmpi .slt v (BitVec.ofNat 32 k) = 1#1) : v.toNat < k ∧ v.toInt.toNat = v.toNat := by
  simp only [bit_of, IntOp.cmpi, BitVec.sle, BitVec.slt, decide_eq_true_eq, BitVec.toInt, BitVec.toNat_ofNat] at h0 h1 ⊢
  have := v.isLt
  split_ifs at * <;> omega

/-- What the precondition of the frames says of the words: each names an expert, a block read, a block written. -/
def InRange (be ib ob : IVec ⟨1, ![289]⟩ 32) : Prop :=
  ∀ y, ((be y).toNat < 32 ∧ (be y).toInt.toNat = (be y).toNat) ∧ (ib y).toNat < 289 ∧ (ob y).toNat < 290

/-- What the routing makes of them: a used block reads and writes its own rows, an unused one writes the last block. -/
def RoutedTo (ib ob ok : IVec ⟨1, ![289]⟩ 32) : Prop :=
  ∀ y, (ok y = 1#32 → (ib y).toNat = (y 0).val ∧ (ob y).toNat = (y 0).val) ∧ (ok y ≠ 1#32 → (ob y).toNat = 289)

theorem word_eq (v u : BitVec 32) : IntOp.cmpi .eq v u = 1#1 ↔ v = u := by
  simp only [bit_of, IntOp.cmpi, beq_iff_eq]

theorem pick_pos {α : Type} {c : BitVec 1} {a b : α} (h : c = 1#1) : Scalar.select c a b = a := if_pos h

theorem pick_neg {α : Type} {c : BitVec 1} {a b : α} (h : ¬c = 1#1) : Scalar.select c a b = b := if_neg h

end Words

end Cert.Routed

end
-- ==== Proof.FfnUpWords.lean ====
/-  The words of `FfnUp`: what its preconditions say of them, and that they keep its blocks inside the arrays. -/
module

public import proofs.«01_k».proof.Proof.FfnUpFrame
public import proofs.«01_k».proof.Proof.FfnUpIdealFrame
public import proofs.«01_k».proof.Proof.Gen.Pre_up_in_range
public import proofs.«01_k».proof.Proof.Gen.Pre_up_routed
public import proofs.«01_k».proof.Proof.Routed
public import Idealize.ShloMosaic.Lib.Pipeline.ValueKit
public import Idealize.ShloMosaic.Lib.Affine

@[expose] public section

set_option maxRecDepth 16384

noncomputable section

namespace Cert.FfnUpWords

open Idealize.ShloMosaic

theorem in_range {F : FTy → Type} [FloatOps F] (be ib ob ok : IVec Cert.Pre_up_in_range.S289 32) (x4 : FVec F Cert.Pre_up_in_range.S147968x2048 .f32) (x5 : FVec F Cert.Pre_up_in_range.S32x2048x2048 .bf16) (x6 : FVec F Cert.Pre_up_in_range.S32x1x2048 .f32) (x7 : FVec F Cert.Pre_up_in_range.S32x2048x2048 .bf16) (x8 : FVec F Cert.Pre_up_in_range.S32x1x2048 .f32)
    (h0 : (Cert.Pre_up_in_range.fn (F := F) be ib ob ok x4 x5 x6 x7 x8).1 = fun _ => 1#1) (h1 : (Cert.Pre_up_in_range.fn (F := F) be ib ob ok x4 x5 x6 x7 x8).2.1 = fun _ => 1#1) (h2 : (Cert.Pre_up_in_range.fn (F := F) be ib ob ok x4 x5 x6 x7 x8).2.2 = fun _ => 1#1) :
    Cert.Routed.InRange be ib ob := by
  intro y
  have e0 := congrFun h0 y
  have e1 := congrFun h1 y
  have e2 := congrFun h2 y
  simp only [Cert.Pre_up_in_range.fn, constantI, broadcastInDim, cmpi, andi, Cert.Routed.bit_and] at e0 e1 e2
  exact ⟨Cert.Routed.word_lt _ 32 (by decide) e0.1 e0.2, (Cert.Routed.word_lt _ 289 (by decide) e1.1 e1.2).1, (Cert.Routed.word_lt _ 290 (by decide) e2.1 e2.2).1⟩

theorem routed {F : FTy → Type} [FloatOps F] (be ib ob ok : IVec Cert.Pre_up_routed.S289 32) (x4 : FVec F Cert.Pre_up_routed.S147968x2048 .f32) (x5 : FVec F Cert.Pre_up_routed.S32x2048x2048 .bf16) (x6 : FVec F Cert.Pre_up_routed.S32x1x2048 .f32) (x7 : FVec F Cert.Pre_up_routed.S32x2048x2048 .bf16) (x8 : FVec F Cert.Pre_up_routed.S32x1x2048 .f32)
    (h0 : (Cert.Pre_up_routed.fn (F := F) be ib ob ok x4 x5 x6 x7 x8).1 = fun _ => 1#1) (h1 : (Cert.Pre_up_routed.fn (F := F) be ib ob ok x4 x5 x6 x7 x8).2.1 = fun _ => 1#1) (h2 : (Cert.Pre_up_routed.fn (F := F) be ib ob ok x4 x5 x6 x7 x8).2.2.1 = fun _ => 1#1) (h3 : (Cert.Pre_up_routed.fn (F := F) be ib ob ok x4 x5 x6 x7 x8).2.2.2 = fun _ => 1#1) :
    Cert.Routed.InRange be ib ob ∧ Cert.Routed.RoutedTo ib ob ok := by
  refine ⟨fun y => ?_, fun y => ?_⟩
  · have e0 := congrFun h0 y
    have e1 := congrFun h1 y
    have e2 := congrFun h2 y
    simp only [Cert.Pre_up_routed.fn, Cert.Pre_up_routed.fn_part1, Cert.Pre_up_routed.fn_where, constantI, broadcastInDim, cmpi, andi, Cert.Routed.bit_and] at e0 e1 e2
    exact ⟨Cert.Routed.word_lt _ 32 (by decide) e0.1 e0.2, (Cert.Routed.word_lt _ 289 (by decide) e1.1 e1.2).1, (Cert.Routed.word_lt _ 290 (by decide) e2.1 e2.2).1⟩
  · have e3 := congrFun h3 y
    simp only [Cert.Pre_up_routed.fn, Cert.Pre_up_routed.fn_part1, Cert.Pre_up_routed.fn_where, constantI, broadcastInDim, cmpi, andi, select, iotaInDim] at e3
    have hy : (y 0).val < 289 := (y 0).isLt
    refine ⟨fun hk => ?_, fun hk => ?_⟩
    · rw [Cert.Routed.pick_pos ((Cert.Routed.word_eq _ _).mpr hk), Cert.Routed.bit_and, Cert.Routed.word_eq, Cert.Routed.word_eq] at e3
      rw [e3.1, e3.2, BitVec.toNat_ofNat]
      omega
    · rw [Cert.Routed.pick_neg (fun hc => hk ((Cert.Routed.word_eq _ _).mp hc)), Cert.Routed.word_eq] at e3
      rw [e3]
      rfl

end Cert.FfnUpWords

namespace Cert.FfnUp.Hand

open Cert.FfnUp Cert.FfnUp.Gen Idealize.ShloMosaic Idealize.ShloMosaic.TcCoe Idealize.SL.Sem

section Words

variable {F : FTy → Type} [FloatOps F] (m : (ℓ : Loc nD τ sig) → Buf (Elt F) ℓ)

/-- The word that a grid point's block reads. -/
def at0 (i : grid0.Coords) : S289.Idx := fun a => match a with | ⟨0, _⟩ => ⟨(i 1).val, (i 1).isLt⟩

/-- A word read at a point's offset. -/
theorem word_at {α : Type} (x : S289.Idx → α) (i : grid0.Coords) (h : 0 < (Rect.unit (s := S289) (k0_off1 i) S1.size (k0_off1_inb i)).shape.numel) :
    x ((Rect.unit (s := S289) (k0_off1 i) S1.size (k0_off1_inb i)).emb (Shape.Idx.first h)) = x (at0 i) := by
  refine congrArg x (funext fun a => Fin.ext ?_)
  obtain rfl : a = 0 := Subsingleton.elim _ _
  rw [ValueKit.rect_emb_unit_val]
  have hz : ((Shape.Idx.first h : (Rect.unit (s := S289) (k0_off1 i) S1.size (k0_off1_inb i)).shape.Idx) 0).val = 0 := by
    have : ((Shape.Idx.first h : (Rect.unit (s := S289) (k0_off1 i) S1.size (k0_off1_inb i)).shape.Idx) 0).val < 1 := Fin.isLt _
    omega
  have hi : (i 1).val < 289 := (i 1).isLt
  show (BitVec.ofNat 32 (i 1).val).toNat + _ = (i 1).val
  rw [BitVec.toNat_ofNat]
  omega

theorem coord_at (i : grid0.Coords) : (BitVec.ofNat 32 (i 0).val).toNat = (i 0).val := by
  have hi : (i 0).val < 2 := (i 0).isLt
  rw [BitVec.toNat_ofNat]
  omega

theorem tr0 (i : grid0.Coords) : cc0_transform_0 k0_off1_inb numel1_S1 (tbl m) i = ![(tbl m 1 (at0 i)).toNat, 0] := by
  show ![(tbl m 1 ((Rect.unit (s := S289) (k0_off1 i) S1.size (k0_off1_inb i)).emb (Shape.Idx.first (numel1_S1.symm ▸ Nat.one_pos)))).toNat, 0] = _
  rw [word_at (tbl m 1 : S289.Idx → BitVec 32)]

theorem tr1 (i : grid0.Coords) : cc0_transform_1 k0_off1_inb numel1_S1 (tbl m) i = ![(tbl m 0 (at0 i)).toNat, 0, (i 0).val] := by
  show ![(tbl m 0 ((Rect.unit (s := S289) (k0_off1 i) S1.size (k0_off1_inb i)).emb (Shape.Idx.first (numel1_S1.symm ▸ Nat.one_pos)))).toNat, 0, (BitVec.ofNat 32 (i 0).val).toNat] = _
  rw [word_at (tbl m 0 : S289.Idx → BitVec 32), coord_at]

theorem tr2 (i : grid0.Coords) : cc0_transform_2 k0_off1_inb numel1_S1 (tbl m) i = ![(tbl m 0 (at0 i)).toNat, 0, (i 0).val] := by
  show ![(tbl m 0 ((Rect.unit (s := S289) (k0_off1 i) S1.size (k0_off1_inb i)).emb (Shape.Idx.first (numel1_S1.symm ▸ Nat.one_pos)))).toNat, 0, (BitVec.ofNat 32 (i 0).val).toNat] = _
  rw [word_at (tbl m 0 : S289.Idx → BitVec 32), coord_at]

theorem tr3 (i : grid0.Coords) : cc0_transform_3 k0_off1_inb numel1_S1 (tbl m) i = ![(tbl m 0 (at0 i)).toNat, 0, (i 0).val] := by
  show ![(tbl m 0 ((Rect.unit (s := S289) (k0_off1 i) S1.size (k0_off1_inb i)).emb (Shape.Idx.first (numel1_S1.symm ▸ Nat.one_pos)))).toNat, 0, (BitVec.ofNat 32 (i 0).val).toNat] = _
  rw [word_at (tbl m 0 : S289.Idx → BitVec 32), coord_at]

theorem tr4 (i : grid0.Coords) : cc0_transform_4 k0_off1_inb numel1_S1 (tbl m) i = ![(tbl m 0 (at0 i)).toNat, 0, (i 0).val] := by
  show ![(tbl m 0 ((Rect.unit (s := S289) (k0_off1 i) S1.size (k0_off1_inb i)).emb (Shape.Idx.first (numel1_S1.symm ▸ Nat.one_pos)))).toNat, 0, (BitVec.ofNat 32 (i 0).val).toNat] = _
  rw [word_at (tbl m 0 : S289.Idx → BitVec 32), coord_at]

theorem tr5 (i : grid0.Coords) : cc0_transform_5 k0_off1_inb numel1_S1 (tbl m) i = ![(tbl m 2 (at0 i)).toNat, (i 0).val] := by
  show ![(tbl m 2 ((Rect.unit (s := S289) (k0_off1 i) S1.size (k0_off1_inb i)).emb (Shape.Idx.first (numel1_S1.symm ▸ Nat.one_pos)))).toNat, (BitVec.ofNat 32 (i 0).val).toNat] = _
  rw [word_at (tbl m 2 : S289.Idx → BitVec 32), coord_at]

/-- Words in range keep every block inside its array. -/
theorem ok_of (h : Cert.Routed.InRange (tbl m 0) (tbl m 1) (tbl m 2)) : Ok m := by
  refine ⟨fun i => ?_, fun i => ?_, fun i => ?_, fun i => ?_, fun i => ?_, fun i => ?_⟩
  · obtain ⟨⟨hb, -⟩, hi, ho⟩ := h (at0 i)
    have hf : (i 0).val < 2 := (i 0).isLt
    rw [tr0 m i]
    refine ⟨fun a => ?_, .inr (Affine.block_words_dvd (of_decide_eq_true rfl) (by decide))⟩
    match a with
    | ⟨0, _⟩ => show ((tbl m 1 (at0 i)).toNat + 1) * 512 ≤ 147968; omega
    | ⟨1, _⟩ => show (0 + 1) * 2048 ≤ 2048; omega
  · obtain ⟨⟨hb, -⟩, hi, ho⟩ := h (at0 i)
    have hf : (i 0).val < 2 := (i 0).isLt
    rw [tr1 m i]
    refine ⟨fun a => ?_, .inr (Affine.block_words_dvd (of_decide_eq_true rfl) (by decide))⟩
    match a with
    | ⟨0, _⟩ => show ((tbl m 0 (at0 i)).toNat + 1) * 1 ≤ 32; omega
    | ⟨1, _⟩ => show (0 + 1) * 2048 ≤ 2048; omega
    | ⟨2, _⟩ => show ((i 0).val + 1) * 1024 ≤ 2048; omega
  · obtain ⟨⟨hb, -⟩, hi, ho⟩ := h (at0 i)
    have hf : (i 0).val < 2 := (i 0).isLt
    rw [tr2 m i]
    refine ⟨fun a => ?_, .inl rfl⟩
    match a with
    | ⟨0, _⟩ => show ((tbl m 0 (at0 i)).toNat + 1) * 1 ≤ 32; omega
    | ⟨1, _⟩ => show (0 + 1) * 1 ≤ 1; omega
    | ⟨2, _⟩ => show ((i 0).val + 1) * 1024 ≤ 2048; omega
  · obtain ⟨⟨hb, -⟩, hi, ho⟩ := h (at0 i)
    have hf : (i 0).val < 2 := (i 0).isLt
    rw [tr3 m i]
    refine ⟨fun a => ?_, .inr (Affine.block_words_dvd (of_decide_eq_true rfl) (by decide))⟩
    match a with
    | ⟨0, _⟩ => show ((tbl m 0 (at0 i)).toNat + 1) * 1 ≤ 32; omega
    | ⟨1, _⟩ => show (0 + 1) * 2048 ≤ 2048; omega
    | ⟨2, _⟩ => show ((i 0).val + 1) * 1024 ≤ 2048; omega
  · obtain ⟨⟨hb, -⟩, hi, ho⟩ := h (at0 i)
    have hf : (i 0).val < 2 := (i 0).isLt
    rw [tr4 m i]
    refine ⟨fun a => ?_, .inl rfl⟩
    match a with
    | ⟨0, _⟩ => show ((tbl m 0 (at0 i)).toNat + 1) * 1 ≤ 32; omega
    | ⟨1, _⟩ => show (0 + 1) * 1 ≤ 1; omega
    | ⟨2, _⟩ => show ((i 0).val + 1) * 1024 ≤ 2048; omega
  · obtain ⟨⟨hb, -⟩, hi, ho⟩ := h (at0 i)
    have hf : (i 0).val < 2 := (i 0).isLt
    rw [tr5 m i]
    refine ⟨fun a => ?_, .inr (Affine.block_words_dvd (of_decide_eq_true rfl) (by decide))⟩
    match a with
    | ⟨0, _⟩ => show ((tbl m 2 (at0 i)).toNat + 1) * 512 ≤ 148480; omega
    | ⟨1, _⟩ => show ((i 0).val + 1) * 1024 ≤ 2048; omega

end Words

end Cert.FfnUp.Hand

namespace Cert.FfnUpIdeal.Hand

open Cert.FfnUpIdeal Cert.FfnUpIdeal.Gen Idealize.ShloMosaic Idealize.ShloMosaic.TcCoe Idealize.SL.Sem

section Words

variable {F : FTy → Type} [FloatOps F] (m : (ℓ : Loc nD τ sig) → Buf (Elt F) ℓ)

/-- The word that a grid point's block reads. -/
def at0 (i : grid0.Coords) : S289.Idx := fun a => match a with | ⟨0, _⟩ => ⟨(i 1).val, (i 1).isLt⟩

/-- A word read at a point's offset. -/
theorem word_at {α : Type} (x : S289.Idx → α) (i : grid0.Coords) (h : 0 < (Rect.unit (s := S289) (k0_off1 i) S1.size (k0_off1_inb i)).shape.numel) :
    x ((Rect.unit (s := S289) (k0_off1 i) S1.size (k0_off1_inb i)).emb (Shape.Idx.first h)) = x (at0 i) := by
  refine congrArg x (funext fun a => Fin.ext ?_)
  obtain rfl : a = 0 := Subsingleton.elim _ _
  rw [ValueKit.rect_emb_unit_val]
  have hz : ((Shape.Idx.first h : (Rect.unit (s := S289) (k0_off1 i) S1.size (k0_off1_inb i)).shape.Idx) 0).val = 0 := by
    have : ((Shape.Idx.first h : (Rect.unit (s := S289) (k0_off1 i) S1.size (k0_off1_inb i)).shape.Idx) 0).val < 1 := Fin.isLt _
    omega
  have hi : (i 1).val < 289 := (i 1).isLt
  show (BitVec.ofNat 32 (i 1).val).toNat + _ = (i 1).val
  rw [BitVec.toNat_ofNat]
  omega

theorem coord_at (i : grid0.Coords) : (BitVec.ofNat 32 (i 0).val).toNat = (i 0).val := by
  have hi : (i 0).val < 2 := (i 0).isLt
  rw [BitVec.toNat_ofNat]
  omega

theorem tr0 (i : grid0.Coords) : cc0_transform_0 k0_off1_inb numel1_S1 (tbl m) i = ![(tbl m 1 (at0 i)).toNat, 0] := by
  show ![(tbl m 1 ((Rect.unit (s := S289) (k0_off1 i) S1.size (k0_off1_inb i)).emb (Shape.Idx.first (numel1_S1.symm ▸ Nat.one_pos)))).toNat, 0] = _
  rw [word_at (tbl m 1 : S289.Idx → BitVec 32)]

theorem tr1 (i : grid0.Coords) : cc0_transform_1 k0_off1_inb numel1_S1 (tbl m) i = ![(tbl m 0 (at0 i)).toNat, 0, (i 0).val] := by
  show ![(tbl m 0 ((Rect.unit (s := S289) (k0_off1 i) S1.size (k0_off1_inb i)).emb (Shape.Idx.first (numel1_S1.symm ▸ Nat.one_pos)))).toNat, 0, (BitVec.ofNat 32 (i 0).val).toNat] = _
  rw [word_at (tbl m 0 : S289.Idx → BitVec 32), coord_at]

theorem tr2 (i : grid0.Coords) : cc0_transform_2 k0_off1_inb numel1_S1 (tbl m) i = ![(tbl m 0 (at0 i)).toNat, 0, (i 0).val] := by
  show ![(tbl m 0 ((Rect.unit (s := S289) (k0_off1 i) S1.size (k0_off1_inb i)).emb (Shape.Idx.first (numel1_S1.symm ▸ Nat.one_pos)))).toNat, 0, (BitVec.ofNat 32 (i 0).val).toNat] = _
  rw [word_at (tbl m 0 : S289.Idx → BitVec 32), coord_at]

theorem tr3 (i : grid0.Coords) : cc0_transform_3 k0_off1_inb numel1_S1 (tbl m) i = ![(tbl m 0 (at0 i)).toNat, 0, (i 0).val] := by
  show ![(tbl m 0 ((Rect.unit (s := S289) (k0_off1 i) S1.size (k0_off1_inb i)).emb (Shape.Idx.first (numel1_S1.symm ▸ Nat.one_pos)))).toNat, 0, (BitVec.ofNat 32 (i 0).val).toNat] = _
  rw [word_at (tbl m 0 : S289.Idx → BitVec 32), coord_at]

theorem tr4 (i : grid0.Coords) : cc0_transform_4 k0_off1_inb numel1_S1 (tbl m) i = ![(tbl m 0 (at0 i)).toNat, 0, (i 0).val] := by
  show ![(tbl m 0 ((Rect.unit (s := S289) (k0_off1 i) S1.size (k0_off1_inb i)).emb (Shape.Idx.first (numel1_S1.symm ▸ Nat.one_pos)))).toNat, 0, (BitVec.ofNat 32 (i 0).val).toNat] = _
  rw [word_at (tbl m 0 : S289.Idx → BitVec 32), coord_at]

theorem tr5 (i : grid0.Coords) : cc0_transform_5 k0_off1_inb numel1_S1 (tbl m) i = ![(tbl m 2 (at0 i)).toNat, (i 0).val] := by
  show ![(tbl m 2 ((Rect.unit (s := S289) (k0_off1 i) S1.size (k0_off1_inb i)).emb (Shape.Idx.first (numel1_S1.symm ▸ Nat.one_pos)))).toNat, (BitVec.ofNat 32 (i 0).val).toNat] = _
  rw [word_at (tbl m 2 : S289.Idx → BitVec 32), coord_at]

/-- Words in range keep every block inside its array. -/
theorem ok_of (h : Cert.Routed.InRange (tbl m 0) (tbl m 1) (tbl m 2)) : Ok m := by
  refine ⟨fun i => ?_, fun i => ?_, fun i => ?_, fun i => ?_, fun i => ?_, fun i => ?_⟩
  · obtain ⟨⟨hb, -⟩, hi, ho⟩ := h (at0 i)
    have hf : (i 0).val < 2 := (i 0).isLt
    rw [tr0 m i]
    refine ⟨fun a => ?_, .inr (Affine.block_words_dvd (of_decide_eq_true rfl) (by decide))⟩
    match a with
    | ⟨0, _⟩ => show ((tbl m 1 (at0 i)).toNat + 1) * 512 ≤ 147968; omega
    | ⟨1, _⟩ => show (0 + 1) * 2048 ≤ 2048; omega
  · obtain ⟨⟨hb, -⟩, hi, ho⟩ := h (at0 i)
    have hf : (i 0).val < 2 := (i 0).isLt
    rw [tr1 m i]
    refine ⟨fun a => ?_, .inr (Affine.block_words_dvd (of_decide_eq_true rfl) (by decide))⟩
    match a with
    | ⟨0, _⟩ => show ((tbl m 0 (at0 i)).toNat + 1) * 1 ≤ 32; omega
    | ⟨1, _⟩ => show (0 + 1) * 2048 ≤ 2048; omega
    | ⟨2, _⟩ => show ((i 0).val + 1) * 1024 ≤ 2048; omega
  · obtain ⟨⟨hb, -⟩, hi, ho⟩ := h (at0 i)
    have hf : (i 0).val < 2 := (i 0).isLt
    rw [tr2 m i]
    refine ⟨fun a => ?_, .inl rfl⟩
    match a with
    | ⟨0, _⟩ => show ((tbl m 0 (at0 i)).toNat + 1) * 1 ≤ 32; omega
    | ⟨1, _⟩ => show (0 + 1) * 1 ≤ 1; omega
    | ⟨2, _⟩ => show ((i 0).val + 1) * 1024 ≤ 2048; omega
  · obtain ⟨⟨hb, -⟩, hi, ho⟩ := h (at0 i)
    have hf : (i 0).val < 2 := (i 0).isLt
    rw [tr3 m i]
    refine ⟨fun a => ?_, .inr (Affine.block_words_dvd (of_decide_eq_true rfl) (by decide))⟩
    match a with
    | ⟨0, _⟩ => show ((tbl m 0 (at0 i)).toNat + 1) * 1 ≤ 32; omega
    | ⟨1, _⟩ => show (0 + 1) * 2048 ≤ 2048; omega
    | ⟨2, _⟩ => show ((i 0).val + 1) * 1024 ≤ 2048; omega
  · obtain ⟨⟨hb, -⟩, hi, ho⟩ := h (at0 i)
    have hf : (i 0).val < 2 := (i 0).isLt
    rw [tr4 m i]
    refine ⟨fun a => ?_, .inl rfl⟩
    match a with
    | ⟨0, _⟩ => show ((tbl m 0 (at0 i)).toNat + 1) * 1 ≤ 32; omega
    | ⟨1, _⟩ => show (0 + 1) * 1 ≤ 1; omega
    | ⟨2, _⟩ => show ((i 0).val + 1) * 1024 ≤ 2048; omega
  · obtain ⟨⟨hb, -⟩, hi, ho⟩ := h (at0 i)
    have hf : (i 0).val < 2 := (i 0).isLt
    rw [tr5 m i]
    refine ⟨fun a => ?_, .inr (Affine.block_words_dvd (of_decide_eq_true rfl) (by decide))⟩
    match a with
    | ⟨0, _⟩ => show ((tbl m 2 (at0 i)).toNat + 1) * 512 ≤ 148480; omega
    | ⟨1, _⟩ => show ((i 0).val + 1) * 1024 ≤ 2048; omega

end Words

end Cert.FfnUpIdeal.Hand

end
-- ==== Proof.FfnUpClaim.lean ====
/-  The up product of the experts, gate and value together: on the rows of the blocks in use, the array that the launch leaves is
  the reference's.

  The grid walks two halves of the columns, and inside one 289 blocks of 512 rows. As in the down product, tables of words say
  which rows a block reads, which expert's matrices it takes, where it writes, and whether it is in use; under the precondition
  `up_routed` the point of a block in use is the only one that writes that block's rows in that half (`only_at`). There the
  stored rows are the clipped gate times its logistic, times the clipped value plus one (`point`), of the same two products that
  the reference forms from the matrices it gathers (`ref_g`, `ref_u`). -/
module

public import proofs.«01_k».proof.Defs
public import proofs.«01_k».proof.Proof.FfnUpWords
public import proofs.«01_k».proof.Proof.Gen.FfnUpRefIdeal.Run
public import proofs.«01_k».proof.Proof.Gen.FfnUpRefIdeal.Read
public import proofs.«01_k».proof.Proof.Gen.On_used_rows_FfnUpIdeal
public import Idealize.ShloMosaic.Lib.Claim
public import Idealize.ShloMosaic.Lib.IdealHost
public import Idealize.ShloMosaic.Lib.Pointwise
public import Idealize.ShloMosaic.Lib.KernelVsHost
public import Idealize.ShloMosaic.Lib.Pipeline.ReadBack

@[expose] public section

set_option maxRecDepth 16384

noncomputable section

namespace Cert.FfnUpIdeal.Hand

open Cert.FfnUpIdeal Cert.FfnUpIdeal.Gen Idealize.ShloMosaic Idealize.ShloMosaic.TcCoe Idealize.SL.Sem

variable (m : (ℓ : Loc nD τ sig) → Buf (Elt Ideal) ℓ)

/-- The reference's result as a function of the arguments it reads. -/
def REF (x0 : IVec S289 32) (x4 : FVec Ideal S147968x2048 .f32) (x5 : FVec Ideal S32x2048x2048 .bf16) (x6 : FVec Ideal S32x1x2048 .f32) (x7 : FVec Ideal S32x2048x2048 .bf16) (x8 : FVec Ideal S32x1x2048 .f32) : FVec Ideal S148480x2048 .bf16 :=
  Cert.FfnUpRefIdeal.Read.val_main_v30 (F := Ideal) x0 x4 x5 x6 x7 x8

/-- The reference's gate matrices, one per block, at an index: the matrix of the expert that the block's word names. -/
theorem ref_g (x0 : IVec S289 32) (x5 : FVec Ideal S32x2048x2048 .bf16) (i : (⟨3, ![289, 2048, 2048]⟩ : Shape).Idx) (b : S289.Idx) (J : S32x2048x2048.Idx)
    (hb : (b 0).val = (i 0).val) (hw : (x0 b).toNat < 32 ∧ (x0 b).toInt.toNat = (x0 b).toNat)
    (h0 : (J 0).val = (x0 b).toNat) (h1 : (J 1).val = (i 1).val) (h2 : (J 2).val = (i 2).val) :
    Cert.FfnUpRefIdeal.Read.val_main_v2 (F := Ideal) x0 x5 i = x5 J := by
  have hi : Cert.FfnUpRefIdeal.Read.idx_main_call0_v0 (Cert.Routed.slabIdx (N := 289) (A := 2048) (B := 2048) i) = b := by
    funext a
    obtain rfl : a = 0 := Subsingleton.elim _ _
    exact Fin.ext hb.symm
  refine (Cert.Routed.gather_slab_apply _ _ _ i J ?_ h1 h2).trans rfl
  rw [Cert.FfnUpRefIdeal.Read.val_main_call0_v0_apply, hi, h0, hw.2]
  omega

/-- The reference's gate biases, one per block, at an index. -/
theorem ref_gb (x0 : IVec S289 32) (x6 : FVec Ideal S32x1x2048 .f32) (i : (⟨3, ![289, 1, 2048]⟩ : Shape).Idx) (b : S289.Idx) (J : S32x1x2048.Idx)
    (hb : (b 0).val = (i 0).val) (hw : (x0 b).toNat < 32 ∧ (x0 b).toInt.toNat = (x0 b).toNat)
    (h0 : (J 0).val = (x0 b).toNat) (h1 : (J 1).val = (i 1).val) (h2 : (J 2).val = (i 2).val) :
    Cert.FfnUpRefIdeal.Read.val_main_v4 (F := Ideal) x0 x6 i = x6 J := by
  have hi : Cert.FfnUpRefIdeal.Read.idx_main_call1_v0 (Cert.Routed.slabIdx (N := 289) (A := 1) (B := 2048) i) = b := by
    funext a
    obtain rfl : a = 0 := Subsingleton.elim _ _
    exact Fin.ext hb.symm
  refine (Cert.Routed.gather_slab_apply _ _ _ i J ?_ h1 h2).trans rfl
  rw [Cert.FfnUpRefIdeal.Read.val_main_call1_v0_apply, hi, h0, hw.2]
  omega

/-- The reference's value matrices, one per block, at an index. -/
theorem ref_u (x0 : IVec S289 32) (x7 : FVec Ideal S32x2048x2048 .bf16) (i : (⟨3, ![289, 2048, 2048]⟩ : Shape).Idx) (b : S289.Idx) (J : S32x2048x2048.Idx)
    (hb : (b 0).val = (i 0).val) (hw : (x0 b).toNat < 32 ∧ (x0 b).toInt.toNat = (x0 b).toNat)
    (h0 : (J 0).val = (x0 b).toNat) (h1 : (J 1).val = (i 1).val) (h2 : (J 2).val = (i 2).val) :
    Cert.FfnUpRefIdeal.Read.val_main_v10 (F := Ideal) x0 x7 i = x7 J := by
  have hi : Cert.FfnUpRefIdeal.Read.idx_main_call2_v0 (Cert.Routed.slabIdx (N := 289) (A := 2048) (B := 2048) i) = b := by
    funext a
    obtain rfl : a = 0 := Subsingleton.elim _ _
    exact Fin.ext hb.symm
  refine (Cert.Routed.gather_slab_apply _ _ _ i J ?_ h1 h2).trans rfl
  rw [Cert.FfnUpRefIdeal.Read.val_main_call2_v0_apply, hi, h0, hw.2]
  omega

/-- The reference's value biases, one per block, at an index. -/
theorem ref_ub (x0 : IVec S289 32) (x8 : FVec Ideal S32x1x2048 .f32) (i : (⟨3, ![289, 1, 2048]⟩ : Shape).Idx) (b : S289.Idx) (J : S32x1x2048.Idx)
    (hb : (b 0).val = (i 0).val) (hw : (x0 b).toNat < 32 ∧ (x0 b).toInt.toNat = (x0 b).toNat)
    (h0 : (J 0).val = (x0 b).toNat) (h1 : (J 1).val = (i 1).val) (h2 : (J 2).val = (i 2).val) :
    Cert.FfnUpRefIdeal.Read.val_main_v12 (F := Ideal) x0 x8 i = x8 J := by
  have hi : Cert.FfnUpRefIdeal.Read.idx_main_call3_v0 (Cert.Routed.slabIdx (N := 289) (A := 1) (B := 2048) i) = b := by
    funext a
    obtain rfl : a = 0 := Subsingleton.elim _ _
    exact Fin.ext hb.symm
  refine (Cert.Routed.gather_slab_apply _ _ _ i J ?_ h1 h2).trans rfl
  rw [Cert.FfnUpRefIdeal.Read.val_main_call3_v0_apply, hi, h0, hw.2]
  omega

/-- The reference's gate projection at an index. -/
theorem gate_at (x0 : IVec S289 32) (x4 : FVec Ideal S147968x2048 .f32) (x5 : FVec Ideal S32x2048x2048 .bf16) (x6 : FVec Ideal S32x1x2048 .f32) (i : (⟨3, ![289, 512, 2048]⟩ : Shape).Idx) (b : S289.Idx)
    (A : Fin 2048 → S147968x2048.Idx) (J : Fin 2048 → S32x2048x2048.Idx) (K : S32x1x2048.Idx)
    (hb : (b 0).val = (i 0).val) (hw : (x0 b).toNat < 32 ∧ (x0 b).toInt.toNat = (x0 b).toNat)
    (a0 : ∀ k, (A k 0).val = (i 0).val * 512 + (i 1).val) (a1 : ∀ k, (A k 1).val = k.val)
    (j0 : ∀ k, (J k 0).val = (x0 b).toNat) (j1 : ∀ k, (J k 1).val = k.val) (j2 : ∀ k, (J k 2).val = (i 2).val)
    (k0 : (K 0).val = (x0 b).toNat) (k1 : (K 1).val = 0) (k2 : (K 2).val = (i 2).val) :
    Cert.FfnUpRefIdeal.Read.val_main_v6 (F := Ideal) x0 x4 x5 x6 i = (∑ k : Fin 2048, x4 (A k) * x5 (J k)) + x6 K := by
  have hi0 : (i 0).val < 289 := (i 0).isLt
  have hi1 : (i 1).val < 512 := (i 1).isLt
  have hs : ∀ k : Fin 2048, Cert.FfnUpRefIdeal.Read.val_main_v0 (F := Ideal) x4 (Cert.FfnUpRefIdeal.Read.lidx_main_v3 i k) * Cert.FfnUpRefIdeal.Read.val_main_v2 (F := Ideal) x0 x5 (Cert.FfnUpRefIdeal.Read.ridx_main_v3 i k) = x4 (A k) * x5 (J k) := by
    intro k
    have hk : k.val < 2048 := k.isLt
    have e1 : Cert.FfnUpRefIdeal.Read.idx_main_v0 (Cert.FfnUpRefIdeal.Read.lidx_main_v3 i k) = A k := by
      funext a
      apply Fin.ext
      match a with
      | ⟨0, _⟩ =>
        refine Eq.trans ?_ (a0 k).symm
        show (((i 0).val * 512 + (i 1).val) * 2048 + k.val) / 2048 = (i 0).val * 512 + (i 1).val
        omega
      | ⟨1, _⟩ =>
        refine Eq.trans ?_ (a1 k).symm
        show (((i 0).val * 512 + (i 1).val) * 2048 + k.val) % 2048 = k.val
        omega
    have e2 : Cert.FfnUpRefIdeal.Read.val_main_v2 (F := Ideal) x0 x5 (Cert.FfnUpRefIdeal.Read.ridx_main_v3 i k) = x5 (J k) := ref_g _ _ _ b _ hb hw (j0 k) (j1 k) (j2 k)
    rw [Cert.FfnUpRefIdeal.Read.val_main_v0_apply, e1, e2]
  rw [Cert.FfnUpRefIdeal.Read.val_main_v6_apply, Cert.FfnUpRefIdeal.Read.val_main_v3_apply, Cert.FfnUpRefIdeal.Read.val_main_v5_apply]
  have e3 : Cert.FfnUpRefIdeal.Read.val_main_v4 (F := Ideal) x0 x6 (Cert.FfnUpRefIdeal.Read.idx_main_v5 i) = x6 K := ref_gb _ _ _ b _ hb hw k0 k1 k2
  rw [e3, Finset.sum_congr rfl fun k _ => hs k]
  rfl

/-- The reference's value projection at an index. -/
theorem value_at (x0 : IVec S289 32) (x4 : FVec Ideal S147968x2048 .f32) (x7 : FVec Ideal S32x2048x2048 .bf16) (x8 : FVec Ideal S32x1x2048 .f32) (i : (⟨3, ![289, 512, 2048]⟩ : Shape).Idx) (b : S289.Idx)
    (A : Fin 2048 → S147968x2048.Idx) (J : Fin 2048 → S32x2048x2048.Idx) (K : S32x1x2048.Idx)
    (hb : (b 0).val = (i 0).val) (hw : (x0 b).toNat < 32 ∧ (x0 b).toInt.toNat = (x0 b).toNat)
    (a0 : ∀ k, (A k 0).val = (i 0).val * 512 + (i 1).val) (a1 : ∀ k, (A k 1).val = k.val)
    (j0 : ∀ k, (J k 0).val = (x0 b).toNat) (j1 : ∀ k, (J k 1).val = k.val) (j2 : ∀ k, (J k 2).val = (i 2).val)
    (k0 : (K 0).val = (x0 b).toNat) (k1 : (K 1).val = 0) (k2 : (K 2).val = (i 2).val) :
    Cert.FfnUpRefIdeal.Read.val_main_v14 (F := Ideal) x0 x4 x7 x8 i = (∑ k : Fin 2048, x4 (A k) * x7 (J k)) + x8 K := by
  have hi0 : (i 0).val < 289 := (i 0).isLt
  have hi1 : (i 1).val < 512 := (i 1).isLt
  have hs : ∀ k : Fin 2048, Cert.FfnUpRefIdeal.Read.val_main_v0 (F := Ideal) x4 (Cert.FfnUpRefIdeal.Read.lidx_main_v11 i k) * Cert.FfnUpRefIdeal.Read.val_main_v10 (F := Ideal) x0 x7 (Cert.FfnUpRefIdeal.Read.ridx_main_v11 i k) = x4 (A k) * x7 (J k) := by
    intro k
    have hk : k.val < 2048 := k.isLt
    have e1 : Cert.FfnUpRefIdeal.Read.idx_main_v0 (Cert.FfnUpRefIdeal.Read.lidx_main_v11 i k) = A k := by
      funext a
      apply Fin.ext
      match a with
      | ⟨0, _⟩ =>
        refine Eq.trans ?_ (a0 k).symm
        show (((i 0).val * 512 + (i 1).val) * 2048 + k.val) / 2048 = (i 0).val * 512 + (i 1).val
        omega
      | ⟨1, _⟩ =>
        refine Eq.trans ?_ (a1 k).symm
        show (((i 0).val * 512 + (i 1).val) * 2048 + k.val) % 2048 = k.val
        omega
    have e2 : Cert.FfnUpRefIdeal.Read.val_main_v10 (F := Ideal) x0 x7 (Cert.FfnUpRefIdeal.Read.ridx_main_v11 i k) = x7 (J k) := ref_u _ _ _ b _ hb hw (j0 k) (j1 k) (j2 k)
    rw [Cert.FfnUpRefIdeal.Read.val_main_v0_apply, e1, e2]
  rw [Cert.FfnUpRefIdeal.Read.val_main_v14_apply, Cert.FfnUpRefIdeal.Read.val_main_v11_apply, Cert.FfnUpRefIdeal.Read.val_main_v13_apply]
  have e3 : Cert.FfnUpRefIdeal.Read.val_main_v12 (F := Ideal) x0 x8 (Cert.FfnUpRefIdeal.Read.idx_main_v13 i) = x8 K := ref_ub _ _ _ b _ hb hw k0 k1 k2
  rw [e3, Finset.sum_congr rfl fun k _ => hs k]
  rfl

/-- Rows of blocks laid one after the other, read at a row. -/
theorem rows_at {α : Type} (y : Cert.On_used_rows_FfnUpIdeal.S289x512x2048.Idx → α) (h : Cert.On_used_rows_FfnUpIdeal.S289x512x2048.ShapeCasts Cert.On_used_rows_FfnUpIdeal.S147968x2048)
    (i : Cert.On_used_rows_FfnUpIdeal.S147968x2048.Idx) (J : Cert.On_used_rows_FfnUpIdeal.S289x512x2048.Idx)
    (h0 : (J 0).val = (i 0).val / 512) (h1 : (J 1).val = (i 0).val % 512) (h2 : (J 2).val = (i 1).val) : shapeCast Cert.On_used_rows_FfnUpIdeal.S147968x2048 y h i = y J :=
  shapeCast_apply y h i J (by
    rewrite [Shape.rowMajor_val_three, Shape.rowMajor_val_two]
    have i0 : (i 0).val < 147968 := (i 0).isLt
    have i1 : (i 1).val < 2048 := (i 1).isLt
    show ((J 0).val * 512 + (J 1).val) * 2048 + (J 2).val = (i 0).val * 2048 + (i 1).val
    rw [h0, h1, h2]
    omega)

/-- The words spread over the blocks' rows, read at a row. -/
theorem spread_at {α : Type} (y : S289.Idx → α) (h : S289.BroadcastsInDim Cert.On_used_rows_FfnUpIdeal.S289x1x1 ![0]) (h' : Cert.On_used_rows_FfnUpIdeal.S289x1x1.BroadcastsInDim Cert.On_used_rows_FfnUpIdeal.S289x512x2048 ![0, 1, 2])
    (J : Cert.On_used_rows_FfnUpIdeal.S289x512x2048.Idx) (b : S289.Idx) (hb : (b 0).val = (J 0).val) :
    broadcastInDim Cert.On_used_rows_FfnUpIdeal.S289x512x2048 ![0, 1, 2] h' (broadcastInDim Cert.On_used_rows_FfnUpIdeal.S289x1x1 ![0] h y) J = y b := by
  generalize hz : broadcastInDim Cert.On_used_rows_FfnUpIdeal.S289x1x1 ![0] h y = z
  rw [broadcastInDim_apply _ h' z J (fun a => match a with | ⟨0, _⟩ => ⟨(J 0).val, (J 0).isLt⟩ | ⟨1, _⟩ => ⟨0, Nat.one_pos⟩ | ⟨2, _⟩ => ⟨0, Nat.one_pos⟩)
    (fun a => match a with
      | ⟨0, _⟩ => by show (J 0).val = if (289 : Nat) = 1 then 0 else (J 0).val; rw [if_neg (by decide)]
      | ⟨1, _⟩ => by show 0 = if (1 : Nat) = 1 then 0 else (J 1).val; rw [if_pos rfl]
      | ⟨2, _⟩ => by show 0 = if (1 : Nat) = 1 then 0 else (J 2).val; rw [if_pos rfl]), ← hz]
  exact broadcastInDim_apply _ h y _ b (fun a => match a with
    | ⟨0, _⟩ => by show (b 0).val = if (289 : Nat) = 1 then 0 else (J 0).val; rw [if_neg (by decide), hb])

/-- The rows that are claimed: those of a block in use. -/
theorem used {F : FTy → Type} [FloatOps F] (x0 x1 x2 x3 : IVec S289 32) (x4 : FVec F S147968x2048 .f32) (x5 : FVec F S32x2048x2048 .bf16) (x6 : FVec F S32x1x2048 .f32) (x7 : FVec F S32x2048x2048 .bf16) (x8 : FVec F S32x1x2048 .f32)
    (i : S148480x2048.Idx) (h : Cert.On_used_rows_FfnUpIdeal.fn (F := F) x0 x1 x2 x3 x4 x5 x6 x7 x8 i = 1#1) :
    ∃ b : S289.Idx, (b 0).val = (i 0).val / 512 ∧ x3 b = 1#32 := by
  simp only [Cert.On_used_rows_FfnUpIdeal.fn, Cert.On_used_rows_FfnUpIdeal.fn_pad] at h
  have hi0 : (i 0).val < 148480 := (i 0).isLt
  have hi1 : (i 1).val < 2048 := (i 1).isLt
  by_cases hr : (i 0).val < 147968
  · rw [pad_apply_of_inside _ _ _ _ _ _ _ i (fun a => match a with | ⟨0, _⟩ => ⟨(i 0).val, hr⟩ | ⟨1, _⟩ => ⟨(i 1).val, hi1⟩)
      (fun a => match a with
        | ⟨0, _⟩ => by show (i 0).val = 0 + (i 0).val * (0 + 1); omega
        | ⟨1, _⟩ => by show (i 1).val = 0 + (i 1).val * (0 + 1); omega)] at h
    rw [rows_at _ _ _ (fun a => match a with | ⟨0, _⟩ => ⟨(i 0).val / 512, by show _ < 289; omega⟩ | ⟨1, _⟩ => ⟨(i 0).val % 512, by show _ < 512; omega⟩ | ⟨2, _⟩ => ⟨(i 1).val, hi1⟩) rfl rfl rfl,
      spread_at _ _ _ _ (fun a => match a with | ⟨0, _⟩ => ⟨(i 0).val / 512, by show _ < 289; omega⟩) rfl] at h
    refine ⟨fun a => match a with | ⟨0, _⟩ => ⟨(i 0).val / 512, by show _ < 289; omega⟩, rfl, ?_⟩
    simp only [cmpi, broadcastInDim, constantI] at h
    exact (Cert.Routed.word_eq _ _).mp h
  · rw [pad_apply_of_not_inside _ _ _ _ _ _ _ i ⟨0, by decide⟩ (by
      rintro ⟨-, -, h2⟩
      have h2' : ((i 0).val - 0) / (0 + 1) < 147968 := h2
      omega)] at h
    exact absurd h (by simp only [id, cmpi, broadcastInDim, constantI]; decide)

/-- A grid point's word is its block's. -/
theorem at_pt : ∀ t : Fin grid0.N, (at0 (grid0.coords t) 0).val = t.val % 289 := by decide +kernel

/-- A grid point's half of the columns. -/
theorem half : ∀ t : Fin grid0.N, (grid0.coords t 0).val = t.val / 289 := by decide +kernel

/-- Each window's block index at a grid point, from the words. -/
theorem idx (hO : Ok m) (t : Fin (cfgM m hO).N) :
    ((cfgM m hO).win 0).index t = ![(tbl m 1 (at0 (grid0.coords t))).toNat, 0]
    ∧ ((cfgM m hO).win 1).index t = ![(tbl m 0 (at0 (grid0.coords t))).toNat, 0, t.val / 289]
    ∧ ((cfgM m hO).win 2).index t = ![(tbl m 0 (at0 (grid0.coords t))).toNat, 0, t.val / 289]
    ∧ ((cfgM m hO).win 3).index t = ![(tbl m 0 (at0 (grid0.coords t))).toNat, 0, t.val / 289]
    ∧ ((cfgM m hO).win 4).index t = ![(tbl m 0 (at0 (grid0.coords t))).toNat, 0, t.val / 289]
    ∧ ((cfgM m hO).win 5).index t = ![(tbl m 2 (at0 (grid0.coords t))).toNat, t.val / 289] := by
  rw [← half t]
  exact ⟨tr0 m _, tr1 m _, tr2 m _, tr3 m _, tr4 m _, tr5 m _⟩

/-- A point of a block in use takes the branch. -/
theorem cond_at (t : Fin grid0.N) (h : tbl m 3 (at0 (grid0.coords t)) = 1#32) :
    cond0_0 (grid0.coords t) (tbM0_3.view.readAt (Elt Ideal) (Rect.unit (s := S289) (k0_off1 (grid0.coords t)) S1.size (k0_off1_inb (grid0.coords t))).toLoadRect (tbl m 3) (Shape.Idx.first (numel1_S1.symm ▸ Nat.one_pos))) := by
  have e : tbM0_3.view.readAt (Elt Ideal) (Rect.unit (s := S289) (k0_off1 (grid0.coords t)) S1.size (k0_off1_inb (grid0.coords t))).toLoadRect (tbl m 3) (Shape.Idx.first (numel1_S1.symm ▸ Nat.one_pos)) = 1#32 :=
    (word_at (tbl m 3 : S289.Idx → BitVec 32) (grid0.coords t) (numel1_S1.symm ▸ Nat.one_pos)).trans h
  rw [e]
  rfl

/-- The gated value of a gate `a` and a value `b`: the gate clipped above times its logistic, times the clipped value plus one. -/
def act (a b : Ideal .f32) : Ideal .f32 :=
  FloatOps.mulf (FloatOps.addf (FloatOps.minimumf (FloatOps.ofBits (F := Ideal) .f32 0x40E00000#32) (FloatOps.maximumf (FloatOps.ofBits (F := Ideal) .f32 0xC0E00000#32) b)) (FloatOps.ofBits (F := Ideal) .f32 0x3F800000#32))
    (FloatOps.mulf (FloatOps.minimumf a (FloatOps.ofBits (F := Ideal) .f32 0x40E00000#32)) (FloatOps.hostDivf (FloatOps.ofBits (F := Ideal) .f32 0x3F800000#32) (FloatOps.addf (FloatOps.ofBits (F := Ideal) .f32 0x3F800000#32) (FloatOps.hostUnary .exp (FloatOps.hostNegf (FloatOps.mulf (FloatOps.ofBits (F := Ideal) .f32 0x3FD9DB23#32) (FloatOps.minimumf a (FloatOps.ofBits (F := Ideal) .f32 0x40E00000#32))))))))

/-- The stored block at an index. -/
theorem pay_at (X : S512x2048.Idx → EReal) (G : S1x2048x1024.Idx → EReal) (g : S1x1x1024.Idx → EReal) (U : S1x2048x1024.Idx → EReal) (u : S1x1x1024.Idx → EReal) (y : S512x1024.Idx) :
    k0_pay2 (F := Ideal) X G g U u y = act ((∑ k : Fin 2048, X (ix2 (y 0) k) * G (ix3 0 k (y 1))) + g (ix3 0 0 (y 1))) ((∑ k : Fin 2048, X (ix2 (y 0) k) * U (ix3 0 k (y 1))) + u (ix3 0 0 (y 1))) := by
  pointwise [k0_pay2, act]
  all_goals simp only [Ideal.logistic, Ideal.ofBits_one_f32]

/-- The reference at an index, from its two projections. -/
theorem ref_at (x0 : IVec S289 32) (x4 : FVec Ideal S147968x2048 .f32) (x5 : FVec Ideal S32x2048x2048 .bf16) (x6 : FVec Ideal S32x1x2048 .f32) (x7 : FVec Ideal S32x2048x2048 .bf16) (x8 : FVec Ideal S32x1x2048 .f32) (J : (⟨2, ![147968, 2048]⟩ : Shape).Idx) :
    Cert.FfnUpRefIdeal.Read.val_main_v28 (F := Ideal) x0 x4 x5 x6 x7 x8 J
      = act (Cert.FfnUpRefIdeal.Read.val_main_v6 (F := Ideal) x0 x4 x5 x6 (Cert.FfnUpRefIdeal.Read.idx_main_v28 J)) (Cert.FfnUpRefIdeal.Read.val_main_v14 (F := Ideal) x0 x4 x7 x8 (Cert.FfnUpRefIdeal.Read.idx_main_v28 J)) := by
  rw [Cert.FfnUpRefIdeal.Read.val_main_v28_apply]
  generalize Cert.FfnUpRefIdeal.Read.idx_main_v28 J = i
  simp only [Cert.FfnUpRefIdeal.Read.val_main_v27_apply, Cert.FfnUpRefIdeal.Read.val_main_v17_apply, Cert.FfnUpRefIdeal.Read.val_main_v15_apply, Cert.FfnUpRefIdeal.Read.val_main_call4_v4_apply, Cert.FfnUpRefIdeal.Read.val_main_call4_v3_apply, Cert.FfnUpRefIdeal.Read.val_main_call4_v2_apply, Cert.FfnUpRefIdeal.Read.val_main_call4_v1_apply, Cert.FfnUpRefIdeal.Read.val_main_call4_v0_apply, Cert.FfnUpRefIdeal.Read.val_main_v16_apply, Cert.FfnUpRefIdeal.Read.val_main_v26_apply, Cert.FfnUpRefIdeal.Read.val_main_v25_apply, Cert.FfnUpRefIdeal.Read.val_main_v24_apply, Cert.FfnUpRefIdeal.Read.val_main_v23_apply, Cert.FfnUpRefIdeal.Read.val_main_v22_apply, Cert.FfnUpRefIdeal.Read.val_main_v21_apply, Cert.FfnUpRefIdeal.Read.val_main_v20_apply, Cert.FfnUpRefIdeal.Read.val_main_v19_apply, Cert.FfnUpRefIdeal.Read.val_main_v18_apply, Cert.FfnUpRefIdeal.Read.val_main_v8_apply, Cert.FfnUpRefIdeal.Read.val_main_v7_apply, Cert.FfnUpRefIdeal.Read.val_main_cst_apply, Cert.FfnUpRefIdeal.Read.val_main_cst_0_apply, Cert.FfnUpRefIdeal.Read.val_main_cst_1_apply, Cert.FfnUpRefIdeal.Read.val_main_cst_2_apply, Cert.FfnUpRefIdeal.Read.val_main_cst_3_apply, Cert.FfnUpRefIdeal.Read.val_main_cst_4_apply, Cert.FfnUpRefIdeal.Read.val_main_cst_5_apply]
  rfl

/-- A stored block is the reference's where what it is made of is. -/
theorem point_of (x0 : IVec S289 32) (x4 : FVec Ideal S147968x2048 .f32) (x5 : FVec Ideal S32x2048x2048 .bf16) (x6 : FVec Ideal S32x1x2048 .f32) (x7 : FVec Ideal S32x2048x2048 .bf16) (x8 : FVec Ideal S32x1x2048 .f32) (b : S289.Idx) (J : (⟨2, ![147968, 2048]⟩ : Shape).Idx) (y : S512x1024.Idx) (X : S512x2048.Idx → EReal) (G : S1x2048x1024.Idx → EReal) (g : S1x1x1024.Idx → EReal) (U : S1x2048x1024.Idx → EReal) (u : S1x1x1024.Idx → EReal)
    (A : Fin 2048 → S147968x2048.Idx) (W : Fin 2048 → S32x2048x2048.Idx) (K : S32x1x2048.Idx)
    (hb : (b 0).val = ((J 0).val * 2048 + (J 1).val) / 1048576) (hw : (x0 b).toNat < 32 ∧ (x0 b).toInt.toNat = (x0 b).toNat)
    (a0 : ∀ k, (A k 0).val = ((J 0).val * 2048 + (J 1).val) / 1048576 * 512 + ((J 0).val * 2048 + (J 1).val) / 2048 % 512) (a1 : ∀ k, (A k 1).val = k.val)
    (j0 : ∀ k, (W k 0).val = (x0 b).toNat) (j1 : ∀ k, (W k 1).val = k.val) (j2 : ∀ k, (W k 2).val = ((J 0).val * 2048 + (J 1).val) % 2048)
    (k0 : (K 0).val = (x0 b).toNat) (k1 : (K 1).val = 0) (k2 : (K 2).val = ((J 0).val * 2048 + (J 1).val) % 2048)
    (hX : ∀ k, X (ix2 (y 0) k) = x4 (A k)) (hG : ∀ k, G (ix3 0 k (y 1)) = x5 (W k)) (hg : g (ix3 0 0 (y 1)) = x6 K) (hU : ∀ k, U (ix3 0 k (y 1)) = x7 (W k)) (hu : u (ix3 0 0 (y 1)) = x8 K) :
    k0_pay2 (F := Ideal) X G g U u y = Cert.FfnUpRefIdeal.Read.val_main_v28 (F := Ideal) x0 x4 x5 x6 x7 x8 J := by
  rw [ref_at, pay_at, gate_at x0 x4 x5 x6 (Cert.FfnUpRefIdeal.Read.idx_main_v28 J) b A W K hb hw a0 a1 j0 j1 j2 k0 k1 k2, value_at x0 x4 x7 x8 (Cert.FfnUpRefIdeal.Read.idx_main_v28 J) b A W K hb hw a0 a1 j0 j1 j2 k0 k1 k2]
  simp only [hX, hG, hg, hU, hu]

/-- The block that a point stores is the reference's, where the block reads its own rows. -/
theorem point (hO : Ok m) (t : Fin (cfgM m hO).N) (y : S512x1024.Idx)
    (hw : (tbl m 0 (at0 (grid0.coords t))).toNat < 32 ∧ (tbl m 0 (at0 (grid0.coords t))).toInt.toNat = (tbl m 0 (at0 (grid0.coords t))).toNat)
    (hib : (tbl m 1 (at0 (grid0.coords t))).toNat = t.val % 289)
    (J : (⟨2, ![147968, 2048]⟩ : Shape).Idx) (J0 : (J 0).val = t.val % 289 * 512 + (y 0).val) (J1 : (J 1).val = t.val / 289 * 1024 + (y 1).val) :
    k0_pay2 (F := Ideal) (iblk m hO 0 0 t) (iblk m hO 0 1 t) (iblk m hO 0 2 t) (iblk m hO 0 3 t) (iblk m hO 0 4 t) y
      = Cert.FfnUpRefIdeal.Read.val_main_v28 (F := Ideal) (m (((0 : Dev nD) : Thread nD τ).loc main_arg0)) (m (((0 : Dev nD) : Thread nD τ).loc main_arg4)) (m (((0 : Dev nD) : Thread nD τ).loc main_arg5)) (m (((0 : Dev nD) : Thread nD τ).loc main_arg6)) (m (((0 : Dev nD) : Thread nD τ).loc main_arg7)) (m (((0 : Dev nD) : Thread nD τ).loc main_arg8)) J := by
  have ht : t.val < 578 := t.isLt
  have hy0 : (y 0).val < 512 := (y 0).isLt
  have hy1 : (y 1).val < 1024 := (y 1).isLt
  have hbe : (at0 (grid0.coords t) 0).val = t.val % 289 := at_pt t
  have hr : t.val % 289 * 512 + (y 0).val < 147968 := by omega
  have hc : t.val / 289 * 1024 + (y 1).val < 2048 := by omega
  have q0 : (at0 (grid0.coords t) 0).val = ((J 0).val * 2048 + (J 1).val) / 1048576 := by omega
  have q1 : t.val % 289 * 512 + (y 0).val = ((J 0).val * 2048 + (J 1).val) / 1048576 * 512 + ((J 0).val * 2048 + (J 1).val) / 2048 % 512 := by omega
  have q2 : t.val / 289 * 1024 + (y 1).val = ((J 0).val * 2048 + (J 1).val) % 2048 := by omega
  exact point_of (m (((0 : Dev nD) : Thread nD τ).loc main_arg0)) (m (((0 : Dev nD) : Thread nD τ).loc main_arg4)) (m (((0 : Dev nD) : Thread nD τ).loc main_arg5)) (m (((0 : Dev nD) : Thread nD τ).loc main_arg6)) (m (((0 : Dev nD) : Thread nD τ).loc main_arg7)) (m (((0 : Dev nD) : Thread nD τ).loc main_arg8)) (at0 (grid0.coords t)) J y (iblk m hO 0 0 t) (iblk m hO 0 1 t) (iblk m hO 0 2 t) (iblk m hO 0 3 t) (iblk m hO 0 4 t)
    (fun k => (fun a => match a with | ⟨0, _⟩ => ⟨t.val % 289 * 512 + (y 0).val, hr⟩ | ⟨1, _⟩ => ⟨k.val, k.isLt⟩)) (fun k => (fun a => match a with | ⟨0, _⟩ => ⟨(tbl m 0 (at0 (grid0.coords t))).toNat, hw.1⟩ | ⟨1, _⟩ => ⟨k.val, k.isLt⟩ | ⟨2, _⟩ => ⟨t.val / 289 * 1024 + (y 1).val, hc⟩)) (fun a => match a with | ⟨0, _⟩ => ⟨(tbl m 0 (at0 (grid0.coords t))).toNat, hw.1⟩ | ⟨1, _⟩ => ⟨0, Nat.one_pos⟩ | ⟨2, _⟩ => ⟨t.val / 289 * 1024 + (y 1).val, hc⟩) q0 hw (fun k => q1) (fun k => rfl) (fun k => rfl) (fun k => rfl) (fun k => q2) rfl rfl q2
    (fun k => congrArg (a₁ := (((cfgM m hO).win 0).blk t).view.emb (ix2 (y 0) k)) (m (((0 : Dev nD) : Thread nD τ).loc main_arg4)) (by blk_ext [idx m hO t]))
    (fun k => congrArg (a₁ := (((cfgM m hO).win 1).blk t).view.emb (ix3 0 k (y 1))) (m (((0 : Dev nD) : Thread nD τ).loc main_arg5)) (by blk_ext [idx m hO t]))
    (congrArg (a₁ := (((cfgM m hO).win 2).blk t).view.emb (ix3 0 0 (y 1))) (m (((0 : Dev nD) : Thread nD τ).loc main_arg6)) (by blk_ext [idx m hO t]))
    (fun k => congrArg (a₁ := (((cfgM m hO).win 3).blk t).view.emb (ix3 0 k (y 1))) (m (((0 : Dev nD) : Thread nD τ).loc main_arg7)) (by blk_ext [idx m hO t]))
    (congrArg (a₁ := (((cfgM m hO).win 4).blk t).view.emb (ix3 0 0 (y 1))) (m (((0 : Dev nD) : Thread nD τ).loc main_arg8)) (by blk_ext [idx m hO t]))

/-- The output's block of a block in use is written back at its point. -/
theorem flush_at (hO : Ok m) (hro : Cert.Routed.RoutedTo (tbl m 1) (tbl m 2) (tbl m 3)) (t : Fin (cfgM m hO).N) (hk : tbl m 3 (at0 (grid0.coords t)) = 1#32) :
    ((cfgM m hO).win 5).flush t = true := by
  have ht : t.val < 578 := t.isLt
  rw [Pipeline.Window.flush_out _ rfl]
  by_cases hl : t.val + 1 = 578
  · exact .inl hl
  · have hl' : t.val + 1 < 578 := by omega
    refine .inr ⟨hl', fun e => ?_⟩
    rw [(idx m hO t).2.2.2.2.2, (idx m hO ⟨t.val + 1, hl'⟩).2.2.2.2.2] at e
    have e0 : (tbl m 2 (at0 (grid0.coords (⟨t.val + 1, hl'⟩ : Fin grid0.N)))).toNat = (tbl m 2 (at0 (grid0.coords t))).toNat := congrFun e 0
    have e1 : (t.val + 1) / 289 = t.val / 289 := congrFun e 1
    rw [((hro _).1 hk).2, at_pt t] at e0
    by_cases hu : tbl m 3 (at0 (grid0.coords (⟨t.val + 1, hl'⟩ : Fin grid0.N))) = 1#32
    · rw [((hro _).1 hu).2, at_pt] at e0
      simp only at e0
      omega
    · rw [(hro _).2 hu] at e0
      omega

/-- No other point writes into it. -/
theorem only_at (hO : Ok m) (hro : Cert.Routed.RoutedTo (tbl m 1) (tbl m 2) (tbl m 3)) (t : Fin (cfgM m hO).N) (hk : tbl m 3 (at0 (grid0.coords t)) = 1#32) (y : S512x1024.Idx)
    (t' : Fin (cfgM m hO).N) (hm : (((cfgM m hO).win 5).blk t).view.emb y ∈ (((cfgM m hO).win 5).blk t').view.set) : t' = t := by
  have ht : t.val < 578 := t.isLt
  have ht' : t'.val < 578 := t'.isLt
  have hy : (y 0).val < 512 := (y 0).isLt
  have hy1 : (y 1).val < 1024 := (y 1).isLt
  have h := (Pipeline.Window.emb_mem_blk_iff ((cfgM m hO).win 5) t' ((((cfgM m hO).win 5).rect t).emb y)).mp hm
  have h1 : ((cfgM m hO).win 5).index t' (0 : Fin 2) * 512 ≤ ((cfgM m hO).win 5).index t (0 : Fin 2) * 512 + 1 * (y 0).val
      ∧ ((cfgM m hO).win 5).index t (0 : Fin 2) * 512 + 1 * (y 0).val < ((cfgM m hO).win 5).index t' (0 : Fin 2) * 512 + 512 := h (0 : Fin 2)
  have g1 : ((cfgM m hO).win 5).index t' (1 : Fin 2) * 1024 ≤ ((cfgM m hO).win 5).index t (1 : Fin 2) * 1024 + 1 * (y 1).val
      ∧ ((cfgM m hO).win 5).index t (1 : Fin 2) * 1024 + 1 * (y 1).val < ((cfgM m hO).win 5).index t' (1 : Fin 2) * 1024 + 1024 := h (1 : Fin 2)
  rw [congrFun (idx m hO t).2.2.2.2.2 (0 : Fin 2), congrFun (idx m hO t').2.2.2.2.2 (0 : Fin 2)] at h1
  rw [congrFun (idx m hO t).2.2.2.2.2 (1 : Fin 2), congrFun (idx m hO t').2.2.2.2.2 (1 : Fin 2)] at g1
  have h2 : (tbl m 2 (at0 (grid0.coords t'))).toNat * 512 ≤ (tbl m 2 (at0 (grid0.coords t))).toNat * 512 + 1 * (y 0).val
      ∧ (tbl m 2 (at0 (grid0.coords t))).toNat * 512 + 1 * (y 0).val < (tbl m 2 (at0 (grid0.coords t'))).toNat * 512 + 512 := h1
  have g2 : t'.val / 289 * 1024 ≤ t.val / 289 * 1024 + 1 * (y 1).val ∧ t.val / 289 * 1024 + 1 * (y 1).val < t'.val / 289 * 1024 + 1024 := g1
  rw [((hro _).1 hk).2, at_pt t] at h2
  apply Fin.ext
  by_cases hu : tbl m 3 (at0 (grid0.coords t')) = 1#32
  · rw [((hro _).1 hu).2, at_pt t'] at h2
    omega
  · rw [(hro _).2 hu] at h2
    omega

/-- What the point of a block in use writes back. -/
theorem stored (hO : Ok m) (t : Fin (cfgM m hO).N) (hk : tbl m 3 (at0 (grid0.coords t)) = 1#32) :
    (outsAt0 m hO 0 t : S512x1024.Idx → EReal) = k0_pay2 (F := Ideal) (iblk m hO 0 0 t) (iblk m hO 0 1 t) (iblk m hO 0 2 t) (iblk m hO 0 3 t) (iblk m hO 0 4 t) := by
  rw [outsAt0_A m hO 0 t (cond_at m t hk)]
  frame_out
  exact congr (congr (congr (congr (congrArg k0_pay2 ((hs0_0 m hO t).read_unread (iblk m hO 0 0 t))) ((hs0_1 m hO t).read_unread (iblk m hO 0 1 t))) ((hs0_2 m hO t).read_unread (iblk m hO 0 2 t))) ((hs0_3 m hO t).read_unread (iblk m hO 0 3 t))) ((hs0_4 m hO t).read_unread (iblk m hO 0 4 t))

/-- A row of a block in use ends at the reference's. -/
theorem final (hO : Ok m) (hin : Cert.Routed.InRange (tbl m 0) (tbl m 1) (tbl m 2)) (hro : Cert.Routed.RoutedTo (tbl m 1) (tbl m 2) (tbl m 3))
    (i : S148480x2048.Idx) (b : S289.Idx) (hb : (b 0).val = (i 0).val / 512) (hk : tbl m 3 b = 1#32) :
    (dats m hO 0 0).arrAt 5 (cfgM m hO).N i = REF (m (((0 : Dev nD) : Thread nD τ).loc main_arg0)) (m (((0 : Dev nD) : Thread nD τ).loc main_arg4)) (m (((0 : Dev nD) : Thread nD τ).loc main_arg5)) (m (((0 : Dev nD) : Thread nD τ).loc main_arg6)) (m (((0 : Dev nD) : Thread nD τ).loc main_arg7)) (m (((0 : Dev nD) : Thread nD τ).loc main_arg8)) i := by
  have hb0 : (b 0).val < 289 := (b 0).isLt
  have hi1 : (i 1).val < 2048 := (i 1).isLt
  obtain ⟨t, ht⟩ : ∃ t : Fin (cfgM m hO).N, t.val = (i 1).val / 1024 * 289 + (b 0).val := ⟨⟨(i 1).val / 1024 * 289 + (b 0).val, by show _ < 578; omega⟩, rfl⟩
  obtain rfl : at0 (grid0.coords t) = b := by
    funext a
    obtain rfl : a = 0 := Subsingleton.elim _ _
    exact Fin.ext ((at_pt t).trans (by omega))
  have hi := (hro _).1 hk
  rw [at_pt t] at hi hb hb0 ht
  have hr : (i 0).val < 147968 := by omega
  obtain ⟨y, hy⟩ : ∃ y : S512x1024.Idx, (y 0).val = (i 0).val % 512 ∧ (y 1).val = (i 1).val % 1024 :=
    ⟨fun a => match a with | ⟨0, _⟩ => ⟨(i 0).val % 512, Nat.mod_lt _ (by decide)⟩ | ⟨1, _⟩ => ⟨(i 1).val % 1024, Nat.mod_lt _ (by decide)⟩, rfl, rfl⟩
  have he : (((cfgM m hO).win 5).blk t).view.emb y = i := by
    blk_ext [idx m hO t]
  have hR : REF (m (((0 : Dev nD) : Thread nD τ).loc main_arg0)) (m (((0 : Dev nD) : Thread nD τ).loc main_arg4)) (m (((0 : Dev nD) : Thread nD τ).loc main_arg5)) (m (((0 : Dev nD) : Thread nD τ).loc main_arg6)) (m (((0 : Dev nD) : Thread nD τ).loc main_arg7)) (m (((0 : Dev nD) : Thread nD τ).loc main_arg8)) i
      = Cert.FfnUpRefIdeal.Read.val_main_v28 (F := Ideal) (m (((0 : Dev nD) : Thread nD τ).loc main_arg0)) (m (((0 : Dev nD) : Thread nD τ).loc main_arg4)) (m (((0 : Dev nD) : Thread nD τ).loc main_arg5)) (m (((0 : Dev nD) : Thread nD τ).loc main_arg6)) (m (((0 : Dev nD) : Thread nD τ).loc main_arg7)) (m (((0 : Dev nD) : Thread nD τ).loc main_arg8))
          (fun a => match a with | ⟨0, _⟩ => ⟨(i 0).val, hr⟩ | ⟨1, _⟩ => ⟨(i 1).val, hi1⟩) :=
    pad_apply_of_inside _ _ _ _ _ Cert.FfnUpRefIdeal.Gen.pads_S147968x2048_S148480x2048_05120_000 _ i _
      (fun a => match a with
        | ⟨0, _⟩ => by show (i 0).val = 0 + (i 0).val * (0 + 1); omega
        | ⟨1, _⟩ => by show (i 1).val = 0 + (i 1).val * (0 + 1); omega)
  rw [hR]
  refine (congrArg ((dats m hO 0 0).arrAt 5 (cfgM m hO).N) he.symm).trans ?_
  refine (Cert.Routed.arrAt_of_only (dats m hO 0 0) 5 t (flush_at m hO hro t hk) y (fun t' _ hm => only_at m hO hro t hk y t' hm)).trans ?_
  refine (congrFun ((after0_5 m hO 0 t).trans (stored m hO t hk)) y).trans ?_
  exact point m hO t y (hin _).1 hi.1 _ (by show (i 0).val = _; omega) (by show (i 1).val = _; omega)

end Cert.FfnUpIdeal.Hand

namespace Cert.FfnUpClaim

open Idealize.ShloMosaic Idealize.ShloMosaic.TcCoe Idealize.SL.Sem

/-- The kernel's frame at the machine's floats, where every word is in range. -/
theorem frame : Cert.quiescent_FfnUp := fun m ρ h =>
  Cert.FfnUp.Gen.frame m ρ (Cert.FfnUp.Hand.ok_of m (Cert.FfnUpWords.in_range _ _ _ _ _ _ _ _ _ (h 0).1 (h 0).2.1 (h 0).2.2))

/-- The kernel's frame over the extended reals, where every word is in range. -/
theorem frame_ideal : Cert.quiescent_FfnUpIdeal := fun m ρ h =>
  Cert.FfnUpIdeal.Gen.frame m ρ (Cert.FfnUpIdeal.Hand.ok_of m (Cert.FfnUpWords.in_range _ _ _ _ _ _ _ _ _ (h 0).1 (h 0).2.1 (h 0).2.2))

/-- What a routed launch's words say. -/
theorem words (m : (ℓ : Loc Cert.FfnUpIdeal.nD Cert.FfnUpIdeal.τ Cert.FfnUpIdeal.sig) → Buf (Elt Ideal) ℓ) (h : Cert.Pre_FfnUpIdeal_up_routed m) :
    Cert.Routed.InRange (Cert.FfnUpIdeal.Gen.tbl m 0) (Cert.FfnUpIdeal.Gen.tbl m 1) (Cert.FfnUpIdeal.Gen.tbl m 2)
    ∧ Cert.Routed.RoutedTo (Cert.FfnUpIdeal.Gen.tbl m 1) (Cert.FfnUpIdeal.Gen.tbl m 2) (Cert.FfnUpIdeal.Gen.tbl m 3) :=
  Cert.FfnUpWords.routed _ _ _ _ _ _ _ _ _ (h 0).1 (h 0).2.1 (h 0).2.2.1 (h 0).2.2.2

/-- The same frame under the value claim's precondition. -/
theorem frame_ideal_routed : Cert.quiescent_FfnUpIdeal_pre_up_routed := fun m ρ h =>
  Cert.FfnUpIdeal.Gen.frame m ρ (Cert.FfnUpIdeal.Hand.ok_of m (words m h).1)

/-- The reference runs, and leaves its arguments as they were; it has no semaphore. -/
theorem frame_ref : Cert.quiescent_FfnUpRefIdeal := fun m ρ _ =>
  (θ_run Cert.FfnUpRefIdeal.defs _ _).mono (fun r h => ⟨fun c => (h c).2, sem_eq_zero_of_no_sems (by decide) r.2⟩)
    (Cert.FfnUpRefIdeal.Value.run (F := Ideal) m ρ)

/-- The same under the value claim's precondition. -/
theorem frame_ref_routed : Cert.quiescent_FfnUpRefIdeal_pre_up_routed := fun m ρ _ =>
  (θ_run Cert.FfnUpRefIdeal.defs _ _).mono (fun r h => ⟨fun c => (h c).2, sem_eq_zero_of_no_sems (by decide) r.2⟩)
    (Cert.FfnUpRefIdeal.Value.run (F := Ideal) m ρ)

/-- On the rows of the blocks in use the kernel and its reference end with the same array over the extended reals. -/
theorem algebraic : Cert.algebraic_FfnUpIdeal_FfnUpRefIdeal_on_used_rows_FfnUpIdeal_pre_up_routed := by
  intro m ρ m' ρ' hpre hagree
  obtain ⟨hin, hro⟩ := words m hpre
  have hO := Cert.FfnUpIdeal.Hand.ok_of m hin
  refine ⟨fun c => Cert.FfnUpIdeal.Hand.REF (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5)) (m ((c.tc : Thread Cert.FfnUpIdeal.nD Cert.FfnUpIdeal.τ).loc Cert.FfnUpIdeal.main_arg6)) (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8)), ?_, ?_⟩
  · refine (θ_run Cert.FfnUpIdeal.defs _ _).mono (fun r h c => ⟨fun i hi => ?_, h.2 c⟩)
      (θ_run_and (Cert.FfnUpIdeal.Gen.run_main m ρ hO) (Cert.FfnUpIdeal.Gen.unchanged m ρ hO))
    obtain rfl : c = 0 := Subsingleton.elim _ _
    obtain ⟨b, hb, hk⟩ := Cert.FfnUpIdeal.Hand.used _ _ _ _ _ _ _ _ _ i hi
    exact (congrFun ((h.1 0).1 5) i).trans (Cert.FfnUpIdeal.Hand.final m hO hin hro i b hb hk)
  · refine (θ_run Cert.FfnUpRefIdeal.defs _ _).mono (fun r h c => ⟨fun i _ => ?_, (h c).2⟩)
      (Cert.FfnUpRefIdeal.Value.run (F := Ideal) m' ρ')
    refine (congrFun (((h c).1).trans (Cert.FfnUpRefIdeal.Read.val_main_v30_eq _ _ _ _ _ _)) i).trans ?_
    show _ = Cert.FfnUpRefIdeal.Read.val_main_v30 (F := Ideal) _ _ _ _ _ _ i
    rw [(hagree c).1, (hagree c).2.2.2.2.1, (hagree c).2.2.2.2.2.1, (hagree c).2.2.2.2.2.2.1, (hagree c).2.2.2.2.2.2.2.1, (hagree c).2.2.2.2.2.2.2.2]

end Cert.FfnUpClaim

end
-- ==== Proof.FfnDownIdealFrame.lean ====
/-  The frame of `FfnDownIdeal`: its launch, its body in the two cases of the word that its branch compares, what the output's
  buffer holds after each point, and that every run ends with the arguments as they were. Its index maps read four tables
  of words; where each of them is held is `PhiT0_eq`. -/
module

public import proofs.«01_k».proof.Proof.Gen.FfnDownIdeal.Launch
public import proofs.«01_k».proof.Proof.Gen.FfnDownIdeal.Skeleton
public import proofs.«01_k».proof.Proof.Gen.FfnDownIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.FfnDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

def tbl : pre0.Contents (Elt F) := fun j => V m (0 : Dev nD) (pre0.ref j)

theorem V_pre (c : Dev nD) (j : Fin 4) : V m c (pre0.ref j) = tbl m j := by
  obtain rfl : c = 0 := Subsingleton.elim _ _; rfl

abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev tbM0_0 : Memref sig .tc .smem S289 .i32 := Memref.whole main_arg0
abbrev htbM0_0 : tbM0_0.IsWhole := Memref.isWhole_whole _
abbrev tbM0_1 : Memref sig .tc .smem S289 .i32 := Memref.whole main_arg1
abbrev htbM0_1 : tbM0_1.IsWhole := Memref.isWhole_whole _
abbrev tbM0_2 : Memref sig .tc .smem S289 .i32 := Memref.whole main_arg2
abbrev htbM0_2 : tbM0_2.IsWhole := Memref.isWhole_whole _
abbrev tbM0_3 : Memref sig .tc .smem S289 .i32 := Memref.whole main_arg3
abbrev htbM0_3 : tbM0_3.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 0).trans (((dats 0 c).arrAt_in 0 rfl _).trans ((hA c 0).trans (V_main_arg4 m c))),
      ((h c).1 1).trans (((dats 0 c).arrAt_in 1 rfl _).trans ((hA c 1).trans (V_main_arg5 m c))),
      ((h c).1 2).trans (((dats 0 c).arrAt_in 2 rfl _).trans ((hA c 2).trans (V_main_arg6 m c)))⟩) h

abbrev cond0_0 (i : grid0.Coords) (v3 : BitVec 32) : Prop := (Scalar.cmpi .ne (Scalar.extui (Scalar.cmpi .eq v3 1#32)) 0#32) = 1#1

abbrev VO0_3 : View sig .tc .vmem S512x2048 .f32 := (Memref.whole cc0_stg3_0 : Memref sig .tc .vmem S512x2048 .f32).view

abbrev ms0_0 (hO : Ok m) (t : Fin (cfgM m hO).N) : Memref sig .tc .vmem S512x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x2048 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x2048 .f32 := spec0_3.stage ((cfgM m hO).slots t 3)
abbrev hs0_3 (hO : Ok m) (t : Fin (cfgM m hO).N) : (ms0_3 m hO t).IsWhole := hstage0_3 (((cfgM m hO).slots t 3).cast nbuf0_3)

set_option maxHeartbeats 1000000 in

noncomputable def kernelRun0_A (c : Dev nD) (i : grid0.Coords) (arg5 : Memref sig .tc .vmem S512x2048 .bf16) (harg5 : arg5.IsWhole) (arg6 : Memref sig .tc .vmem S1x2048x2048 .bf16) (harg6 : arg6.IsWhole) (arg7 : Memref sig .tc .vmem S1x1x2048 .f32) (harg7 : arg7.IsWhole) (arg8 : Memref sig .tc .vmem S512x2048 .f32) (harg8 : arg8.IsWhole)
    (x0 : Vec F S512x2048 .bf16) (x1 : Vec F S1x2048x2048 .bf16) (x2 : Vec F S1x1x2048 .f32) (xt0 : TbBuf0 (F := F) c tbM0_0) (xt1 : TbBuf0 (F := F) c tbM0_1) (xt2 : TbBuf0 (F := F) c tbM0_2) (xt3 : TbBuf0 (F := F) c tbM0_3) (hc0 : cond0_0 i (tbM0_3.view.readAt (Elt F) (Rect.unit (s := S289) (k0_off1 i) S1.size (k0_off1_inb i)).toLoadRect xt3 (Shape.Idx.first (numel1_S1.symm ▸ Nat.one_pos)))) :
    { L3 : List (View.Piece (Elt F) S512x2048 .f32) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d) ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ (∃ f, arg8.view.loc (c : Thread nD τ) ↦[arg8.view.set]{fullShare} arg8.view.writes (Elt F) f L3) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_moe_ffn_down i tbM0_0 htbM0_0 tbM0_1 htbM0_1 tbM0_2 htbM0_2 tbM0_3 htbM0_3 arg5 harg5 arg6 harg6 arg7 harg7 arg8 harg8) K } := by
  refine ⟨?_, fun E K => ?run⟩
  case run =>
    simp only [cc0_moe_ffn_down_eq_skeleton]; unfold cc0_moe_ffn_down_skel
    unfold owns
    iintro ⟨⟨%f0, %hf0, H0⟩, ⟨%f1, %hf1, H1⟩, ⟨%f2, %hf2, H2⟩, ⟨%d3, %f3, -, H3⟩, HT0, HT1, HT2, HT3, Hk⟩
    obtain rfl := harg5.eq_unread hf0; obtain rfl := harg6.eq_unread hf1; obtain rfl := harg7.eq_unread hf2
    sl_exec (disch := first | sl_exact hc0)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]; · iexists _; iexact H3
    isplitl [HT0]; · iexact HT0
    isplitl [HT1]; · iexact HT1
    isplitl [HT2]; · iexact HT2
    iexact HT3

set_option maxHeartbeats 1000000 in

noncomputable def kernelRun0_B (c : Dev nD) (i : grid0.Coords) (arg5 : Memref sig .tc .vmem S512x2048 .bf16) (harg5 : arg5.IsWhole) (arg6 : Memref sig .tc .vmem S1x2048x2048 .bf16) (harg6 : arg6.IsWhole) (arg7 : Memref sig .tc .vmem S1x1x2048 .f32) (harg7 : arg7.IsWhole) (arg8 : Memref sig .tc .vmem S512x2048 .f32) (harg8 : arg8.IsWhole)
    (x0 : Vec F S512x2048 .bf16) (x1 : Vec F S1x2048x2048 .bf16) (x2 : Vec F S1x1x2048 .f32) (xt0 : TbBuf0 (F := F) c tbM0_0) (xt1 : TbBuf0 (F := F) c tbM0_1) (xt2 : TbBuf0 (F := F) c tbM0_2) (xt3 : TbBuf0 (F := F) c tbM0_3) (hc0 : ¬cond0_0 i (tbM0_3.view.readAt (Elt F) (Rect.unit (s := S289) (k0_off1 i) S1.size (k0_off1_inb i)).toLoadRect xt3 (Shape.Idx.first (numel1_S1.symm ▸ Nat.one_pos)))) :
    { L3 : List (View.Piece (Elt F) S512x2048 .f32) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d) ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ (∃ f, arg8.view.loc (c : Thread nD τ) ↦[arg8.view.set]{fullShare} arg8.view.writes (Elt F) f L3) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_moe_ffn_down i tbM0_0 htbM0_0 tbM0_1 htbM0_1 tbM0_2 htbM0_2 tbM0_3 htbM0_3 arg5 harg5 arg6 harg6 arg7 harg7 arg8 harg8) K } := by
  refine ⟨?_, fun E K => ?run⟩
  case run =>
    simp only [cc0_moe_ffn_down_eq_skeleton]; unfold cc0_moe_ffn_down_skel
    unfold owns
    iintro ⟨⟨%f0, %hf0, H0⟩, ⟨%f1, %hf1, H1⟩, ⟨%f2, %hf2, H2⟩, ⟨%d3, %f3, -, H3⟩, HT0, HT1, HT2, HT3, Hk⟩
    obtain rfl := harg5.eq_unread hf0; obtain rfl := harg6.eq_unread hf1; obtain rfl := harg7.eq_unread hf2
    sl_exec (disch := first | sl_exact hc0)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]; · iexists _; iexact H3
    isplitl [HT0]; · iexact HT0
    isplitl [HT1]; · iexact HT1
    isplitl [HT2]; · iexact HT2
    iexact HT3

theorem cover0_A_3 (c : Dev nD) (i : grid0.Coords) (arg5 : Memref sig .tc .vmem S512x2048 .bf16) (harg5 : arg5.IsWhole) (arg6 : Memref sig .tc .vmem S1x2048x2048 .bf16) (harg6 : arg6.IsWhole) (arg7 : Memref sig .tc .vmem S1x1x2048 .f32) (harg7 : arg7.IsWhole) (arg8 : Memref sig .tc .vmem S512x2048 .f32) (harg8 : arg8.IsWhole)
    (x0 : Vec F S512x2048 .bf16) (x1 : Vec F S1x2048x2048 .bf16) (x2 : Vec F S1x1x2048 .f32) (xt0 : TbBuf0 (F := F) c tbM0_0) (xt1 : TbBuf0 (F := F) c tbM0_1) (xt2 : TbBuf0 (F := F) c tbM0_2) (xt3 : TbBuf0 (F := F) c tbM0_3) (hc0 : cond0_0 i (tbM0_3.view.readAt (Elt F) (Rect.unit (s := S289) (k0_off1 i) S1.size (k0_off1_inb i)).toLoadRect xt3 (Shape.Idx.first (numel1_S1.symm ▸ Nat.one_pos)))) (y : S512x2048.Idx) :
    ∃ pc ∈ (kernelRun0_A c i arg5 harg5 arg6 harg6 arg7 harg7 arg8 harg8 x0 x1 x2 xt0 xt1 xt2 xt3 hc0).1, y ∈ pc.1.set :=
  View.cover_of_tiledL (kernelRun0_A c i arg5 harg5 arg6 harg6 arg7 harg7 arg8 harg8 x0 x1 x2 xt0 xt1 xt2 xt3 hc0).1 S512x2048.size (by sl_kernel_rfl) y

def out0_A_3 (c : Dev nD) (i : grid0.Coords) (arg5 : Memref sig .tc .vmem S512x2048 .bf16) (harg5 : arg5.IsWhole) (arg6 : Memref sig .tc .vmem S1x2048x2048 .bf16) (harg6 : arg6.IsWhole) (arg7 : Memref sig .tc .vmem S1x1x2048 .f32) (harg7 : arg7.IsWhole) (arg8 : Memref sig .tc .vmem S512x2048 .f32) (harg8 : arg8.IsWhole)
    (x0 : Vec F S512x2048 .bf16) (x1 : Vec F S1x2048x2048 .bf16) (x2 : Vec F S1x1x2048 .f32) (xt0 : TbBuf0 (F := F) c tbM0_0) (xt1 : TbBuf0 (F := F) c tbM0_1) (xt2 : TbBuf0 (F := F) c tbM0_2) (xt3 : TbBuf0 (F := F) c tbM0_3) (hc0 : cond0_0 i (tbM0_3.view.readAt (Elt F) (Rect.unit (s := S289) (k0_off1 i) S1.size (k0_off1_inb i)).toLoadRect xt3 (Shape.Idx.first (numel1_S1.symm ▸ Nat.one_pos)))) : Vec F S512x2048 .f32 :=
  VO0_3.read (Elt F) (VO0_3.writes (Elt F) VO0_3.junk (kernelRun0_A c i arg5 harg5 arg6 harg6 arg7 harg7 arg8 harg8 x0 x1 x2 xt0 xt1 xt2 xt3 hc0).1)

theorem cover0_B_3 (c : Dev nD) (i : grid0.Coords) (arg5 : Memref sig .tc .vmem S512x2048 .bf16) (harg5 : arg5.IsWhole) (arg6 : Memref sig .tc .vmem S1x2048x2048 .bf16) (harg6 : arg6.IsWhole) (arg7 : Memref sig .tc .vmem S1x1x2048 .f32) (harg7 : arg7.IsWhole) (arg8 : Memref sig .tc .vmem S512x2048 .f32) (harg8 : arg8.IsWhole)
    (x0 : Vec F S512x2048 .bf16) (x1 : Vec F S1x2048x2048 .bf16) (x2 : Vec F S1x1x2048 .f32) (xt0 : TbBuf0 (F := F) c tbM0_0) (xt1 : TbBuf0 (F := F) c tbM0_1) (xt2 : TbBuf0 (F := F) c tbM0_2) (xt3 : TbBuf0 (F := F) c tbM0_3) (hc0 : ¬cond0_0 i (tbM0_3.view.readAt (Elt F) (Rect.unit (s := S289) (k0_off1 i) S1.size (k0_off1_inb i)).toLoadRect xt3 (Shape.Idx.first (numel1_S1.symm ▸ Nat.one_pos)))) (y : S512x2048.Idx) :
    ∃ pc ∈ (kernelRun0_B c i arg5 harg5 arg6 harg6 arg7 harg7 arg8 harg8 x0 x1 x2 xt0 xt1 xt2 xt3 hc0).1, y ∈ pc.1.set :=
  View.cover_of_tiledL (kernelRun0_B c i arg5 harg5 arg6 harg6 arg7 harg7 arg8 harg8 x0 x1 x2 xt0 xt1 xt2 xt3 hc0).1 S512x2048.size (by sl_kernel_rfl) y

def out0_B_3 (c : Dev nD) (i : grid0.Coords) (arg5 : Memref sig .tc .vmem S512x2048 .bf16) (harg5 : arg5.IsWhole) (arg6 : Memref sig .tc .vmem S1x2048x2048 .bf16) (harg6 : arg6.IsWhole) (arg7 : Memref sig .tc .vmem S1x1x2048 .f32) (harg7 : arg7.IsWhole) (arg8 : Memref sig .tc .vmem S512x2048 .f32) (harg8 : arg8.IsWhole)
    (x0 : Vec F S512x2048 .bf16) (x1 : Vec F S1x2048x2048 .bf16) (x2 : Vec F S1x1x2048 .f32) (xt0 : TbBuf0 (F := F) c tbM0_0) (xt1 : TbBuf0 (F := F) c tbM0_1) (xt2 : TbBuf0 (F := F) c tbM0_2) (xt3 : TbBuf0 (F := F) c tbM0_3) (hc0 : ¬cond0_0 i (tbM0_3.view.readAt (Elt F) (Rect.unit (s := S289) (k0_off1 i) S1.size (k0_off1_inb i)).toLoadRect xt3 (Shape.Idx.first (numel1_S1.symm ▸ Nat.one_pos)))) : Vec F S512x2048 .f32 :=
  VO0_3.read (Elt F) (VO0_3.writes (Elt F) VO0_3.junk (kernelRun0_B c i arg5 harg5 arg6 harg6 arg7 harg7 arg8 harg8 x0 x1 x2 xt0 xt1 xt2 xt3 hc0).1)

def outsAt0 (hO : Ok m) (c : Dev nD) (t : Fin (cfgM m hO).N) : Vec F S512x2048 .f32 :=
  if h0 : cond0_0 (grid0.coords t) (tbM0_3.view.readAt (Elt F) (Rect.unit (s := S289) (k0_off1 (grid0.coords t)) S1.size (k0_off1_inb (grid0.coords t))).toLoadRect (tbl m 3) (Shape.Idx.first (numel1_S1.symm ▸ Nat.one_pos))) then
    out0_A_3 c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1) (tbl m 2) (tbl m 3) h0
  else
    out0_B_3 c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1) (tbl m 2) (tbl m 3) h0

theorem outsAt0_A (hO : Ok m) (c : Dev nD) (t : Fin (cfgM m hO).N) (h0 : cond0_0 (grid0.coords t) (tbM0_3.view.readAt (Elt F) (Rect.unit (s := S289) (k0_off1 (grid0.coords t)) S1.size (k0_off1_inb (grid0.coords t))).toLoadRect (tbl m 3) (Shape.Idx.first (numel1_S1.symm ▸ Nat.one_pos)))) :
    outsAt0 m hO c t = out0_A_3 c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1) (tbl m 2) (tbl m 3) h0 := by
  unfold outsAt0; exact (dif_pos h0).trans rfl

theorem outsAt0_B (hO : Ok m) (c : Dev nD) (t : Fin (cfgM m hO).N) (h0 : ¬cond0_0 (grid0.coords t) (tbM0_3.view.readAt (Elt F) (Rect.unit (s := S289) (k0_off1 (grid0.coords t)) S1.size (k0_off1_inb (grid0.coords t))).toLoadRect (tbl m 3) (Shape.Idx.first (numel1_S1.symm ▸ Nat.one_pos)))) :
    outsAt0 m hO c t = out0_B_3 c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1) (tbl m 2) (tbl m 3) h0 := by
  unfold outsAt0; exact (dif_neg h0).trans rfl

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO c t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = (outsAt0 m hO c t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

set_option maxHeartbeats 800000 in

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  by_cases h0 : cond0_0 (grid0.coords t) (tbM0_3.view.readAt (Elt F) (Rect.unit (s := S289) (k0_off1 (grid0.coords t)) S1.size (k0_off1_inb (grid0.coords t))).toLoadRect (tbl m 3) (Shape.Idx.first (numel1_S1.symm ▸ Nat.one_pos)))
  · rw [outsAt0_A m hO c t h0]
    unfold out0_A_3
    iintro ⟨⟨HΦ, ⟨HT0, HT1, HT2, HT3⟩⟩, Ho, ⟨%d0, H0⟩, ⟨%d1, H1⟩, ⟨%d2, H2⟩, ⟨%d3, H3⟩⟩
    iapply ((kernelRun0_A c (grid0.coords t) _ _ _ _ _ _ _ _ (iblk m hO c 0 t) (iblk m hO c 1 t) (iblk m hO c 2 t) (tbl m 0) (tbl m 1) (tbl m 2) (tbl m 3) h0).2 Set.univ _)
    isplitl [H0]; · iexact H0
    isplitl [H1]; · iexact H1
    isplitl [H2]; · iexact H2
    isplitl [H3]; · iexists _; iexact H3
    isplitl [HT0]; · iexact HT0
    isplitl [HT1]; · iexact HT1
    isplitl [HT2]; · iexact HT2
    isplitl [HT3]; · iexact HT3
    iintro ⟨H0, H1, H2, ⟨%e3, H3⟩, HT0, HT1, HT2, HT3⟩
    isplitl [HΦ HT0 HT1 HT2 HT3]
    · isplitl [HΦ]
      · iexact HΦ
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _ _ _ _ _)
  · rw [outsAt0_B m hO c t h0]
    unfold out0_B_3
    iintro ⟨⟨HΦ, ⟨HT0, HT1, HT2, HT3⟩⟩, Ho, ⟨%d0, H0⟩, ⟨%d1, H1⟩, ⟨%d2, H2⟩, ⟨%d3, H3⟩⟩
    iapply ((kernelRun0_B c (grid0.coords t) _ _ _ _ _ _ _ _ (iblk m hO c 0 t) (iblk m hO c 1 t) (iblk m hO c 2 t) (tbl m 0) (tbl m 1) (tbl m 2) (tbl m 3) h0).2 Set.univ _)
    isplitl [H0]; · iexact H0
    isplitl [H1]; · iexact H1
    isplitl [H2]; · iexact H2
    isplitl [H3]; · iexists _; iexact H3
    isplitl [HT0]; · iexact HT0
    isplitl [HT1]; · iexact HT1
    isplitl [HT2]; · iexact HT2
    isplitl [HT3]; · iexact HT3
    iintro ⟨H0, H1, H2, ⟨%e3, H3⟩, HT0, HT1, HT2, HT3⟩
    isplitl [HΦ HT0 HT1 HT2 HT3]
    · isplitl [HΦ]
      · iexact HΦ
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl
set_option backward.isDefEq.respectTransparency.types false in

theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.FfnDownIdeal.Gen

end
-- ==== Proof.FfnDownWords.lean ====
/-  The words of `FfnDown`: what its preconditions say of them, and that they keep its blocks inside the arrays. -/
module

public import proofs.«01_k».proof.Proof.FfnDownFrame
public import proofs.«01_k».proof.Proof.FfnDownIdealFrame
public import proofs.«01_k».proof.Proof.Gen.Pre_down_in_range
public import proofs.«01_k».proof.Proof.Gen.Pre_down_routed
public import proofs.«01_k».proof.Proof.Routed
public import Idealize.ShloMosaic.Lib.Pipeline.ValueKit
public import Idealize.ShloMosaic.Lib.Affine

@[expose] public section

set_option maxRecDepth 16384

noncomputable section

namespace Cert.FfnDownWords

open Idealize.ShloMosaic

theorem in_range {F : FTy → Type} [FloatOps F] (be ib ob ok : IVec Cert.Pre_down_in_range.S289 32) (x4 : FVec F Cert.Pre_down_in_range.S148480x2048 .bf16) (x5 : FVec F Cert.Pre_down_in_range.S32x2048x2048 .bf16) (x6 : FVec F Cert.Pre_down_in_range.S32x1x2048 .f32)
    (h0 : (Cert.Pre_down_in_range.fn (F := F) be ib ob ok x4 x5 x6).1 = fun _ => 1#1) (h1 : (Cert.Pre_down_in_range.fn (F := F) be ib ob ok x4 x5 x6).2.1 = fun _ => 1#1) (h2 : (Cert.Pre_down_in_range.fn (F := F) be ib ob ok x4 x5 x6).2.2 = fun _ => 1#1) :
    Cert.Routed.InRange be ib ob := by
  intro y
  have e0 := congrFun h0 y
  have e1 := congrFun h1 y
  have e2 := congrFun h2 y
  simp only [Cert.Pre_down_in_range.fn, constantI, broadcastInDim, cmpi, andi, Cert.Routed.bit_and] at e0 e1 e2
  exact ⟨Cert.Routed.word_lt _ 32 (by decide) e0.1 e0.2, (Cert.Routed.word_lt _ 289 (by decide) e1.1 e1.2).1, (Cert.Routed.word_lt _ 290 (by decide) e2.1 e2.2).1⟩

theorem routed {F : FTy → Type} [FloatOps F] (be ib ob ok : IVec Cert.Pre_down_routed.S289 32) (x4 : FVec F Cert.Pre_down_routed.S148480x2048 .bf16) (x5 : FVec F Cert.Pre_down_routed.S32x2048x2048 .bf16) (x6 : FVec F Cert.Pre_down_routed.S32x1x2048 .f32)
    (h0 : (Cert.Pre_down_routed.fn (F := F) be ib ob ok x4 x5 x6).1 = fun _ => 1#1) (h1 : (Cert.Pre_down_routed.fn (F := F) be ib ob ok x4 x5 x6).2.1 = fun _ => 1#1) (h2 : (Cert.Pre_down_routed.fn (F := F) be ib ob ok x4 x5 x6).2.2.1 = fun _ => 1#1) (h3 : (Cert.Pre_down_routed.fn (F := F) be ib ob ok x4 x5 x6).2.2.2 = fun _ => 1#1) :
    Cert.Routed.InRange be ib ob ∧ Cert.Routed.RoutedTo ib ob ok := by
  refine ⟨fun y => ?_, fun y => ?_⟩
  · have e0 := congrFun h0 y
    have e1 := congrFun h1 y
    have e2 := congrFun h2 y
    simp only [Cert.Pre_down_routed.fn, Cert.Pre_down_routed.fn_part1, Cert.Pre_down_routed.fn_where, constantI, broadcastInDim, cmpi, andi, Cert.Routed.bit_and] at e0 e1 e2
    exact ⟨Cert.Routed.word_lt _ 32 (by decide) e0.1 e0.2, (Cert.Routed.word_lt _ 289 (by decide) e1.1 e1.2).1, (Cert.Routed.word_lt _ 290 (by decide) e2.1 e2.2).1⟩
  · have e3 := congrFun h3 y
    simp only [Cert.Pre_down_routed.fn, Cert.Pre_down_routed.fn_part1, Cert.Pre_down_routed.fn_where, constantI, broadcastInDim, cmpi, andi, select, iotaInDim] at e3
    have hy : (y 0).val < 289 := (y 0).isLt
    refine ⟨fun hk => ?_, fun hk => ?_⟩
    · rw [Cert.Routed.pick_pos ((Cert.Routed.word_eq _ _).mpr hk), Cert.Routed.bit_and, Cert.Routed.word_eq, Cert.Routed.word_eq] at e3
      rw [e3.1, e3.2, BitVec.toNat_ofNat]
      omega
    · rw [Cert.Routed.pick_neg (fun hc => hk ((Cert.Routed.word_eq _ _).mp hc)), Cert.Routed.word_eq] at e3
      rw [e3]
      rfl

end Cert.FfnDownWords

namespace Cert.FfnDown.Hand

open Cert.FfnDown Cert.FfnDown.Gen Idealize.ShloMosaic Idealize.ShloMosaic.TcCoe Idealize.SL.Sem

section Words

variable {F : FTy → Type} [FloatOps F] (m : (ℓ : Loc nD τ sig) → Buf (Elt F) ℓ)

/-- The word that a grid point's block reads. -/
def at0 (i : grid0.Coords) : S289.Idx := fun a => match a with | ⟨0, _⟩ => ⟨(i 0).val, (i 0).isLt⟩

/-- A word read at a point's offset. -/
theorem word_at {α : Type} (x : S289.Idx → α) (i : grid0.Coords) (h : 0 < (Rect.unit (s := S289) (k0_off1 i) S1.size (k0_off1_inb i)).shape.numel) :
    x ((Rect.unit (s := S289) (k0_off1 i) S1.size (k0_off1_inb i)).emb (Shape.Idx.first h)) = x (at0 i) := by
  refine congrArg x (funext fun a => Fin.ext ?_)
  obtain rfl : a = 0 := Subsingleton.elim _ _
  rw [ValueKit.rect_emb_unit_val]
  have hz : ((Shape.Idx.first h : (Rect.unit (s := S289) (k0_off1 i) S1.size (k0_off1_inb i)).shape.Idx) 0).val = 0 := by
    have : ((Shape.Idx.first h : (Rect.unit (s := S289) (k0_off1 i) S1.size (k0_off1_inb i)).shape.Idx) 0).val < 1 := Fin.isLt _
    omega
  have hi : (i 0).val < 289 := (i 0).isLt
  show (BitVec.ofNat 32 (i 0).val).toNat + _ = (i 0).val
  rw [BitVec.toNat_ofNat]
  omega

theorem tr0 (i : grid0.Coords) : cc0_transform_0 k0_off1_inb numel1_S1 (tbl m) i = ![(tbl m 1 (at0 i)).toNat, 0] := by
  show ![(tbl m 1 ((Rect.unit (s := S289) (k0_off1 i) S1.size (k0_off1_inb i)).emb (Shape.Idx.first (numel1_S1.symm ▸ Nat.one_pos)))).toNat, 0] = _
  rw [word_at (tbl m 1 : S289.Idx → BitVec 32)]

theorem tr1 (i : grid0.Coords) : cc0_transform_1 k0_off1_inb numel1_S1 (tbl m) i = ![(tbl m 0 (at0 i)).toNat, 0, 0] := by
  show ![(tbl m 0 ((Rect.unit (s := S289) (k0_off1 i) S1.size (k0_off1_inb i)).emb (Shape.Idx.first (numel1_S1.symm ▸ Nat.one_pos)))).toNat, 0, 0] = _
  rw [word_at (tbl m 0 : S289.Idx → BitVec 32)]

theorem tr2 (i : grid0.Coords) : cc0_transform_2 k0_off1_inb numel1_S1 (tbl m) i = ![(tbl m 0 (at0 i)).toNat, 0, 0] := by
  show ![(tbl m 0 ((Rect.unit (s := S289) (k0_off1 i) S1.size (k0_off1_inb i)).emb (Shape.Idx.first (numel1_S1.symm ▸ Nat.one_pos)))).toNat, 0, 0] = _
  rw [word_at (tbl m 0 : S289.Idx → BitVec 32)]

theorem tr3 (i : grid0.Coords) : cc0_transform_3 k0_off1_inb numel1_S1 (tbl m) i = ![(tbl m 2 (at0 i)).toNat, 0] := by
  show ![(tbl m 2 ((Rect.unit (s := S289) (k0_off1 i) S1.size (k0_off1_inb i)).emb (Shape.Idx.first (numel1_S1.symm ▸ Nat.one_pos)))).toNat, 0] = _
  rw [word_at (tbl m 2 : S289.Idx → BitVec 32)]

/-- Words in range keep every block inside its array. -/
theorem ok_of (h : Cert.Routed.InRange (tbl m 0) (tbl m 1) (tbl m 2)) : Ok m := by
  refine ⟨fun i => ?_, fun i => ?_, fun i => ?_, fun i => ?_⟩
  · obtain ⟨⟨hb, -⟩, hi, ho⟩ := h (at0 i)
    rw [tr0 m i]
    refine ⟨fun a => ?_, .inr (Affine.block_words_dvd (of_decide_eq_true rfl) (by decide))⟩
    match a with
    | ⟨0, _⟩ => show ((tbl m 1 (at0 i)).toNat + 1) * 512 ≤ 148480; omega
    | ⟨1, _⟩ => show (0 + 1) * 2048 ≤ 2048; omega
  · obtain ⟨⟨hb, -⟩, hi, ho⟩ := h (at0 i)
    rw [tr1 m i]
    refine ⟨fun a => ?_, .inr (Affine.block_words_dvd (of_decide_eq_true rfl) (by decide))⟩
    match a with
    | ⟨0, _⟩ => show ((tbl m 0 (at0 i)).toNat + 1) * 1 ≤ 32; omega
    | ⟨1, _⟩ => show (0 + 1) * 2048 ≤ 2048; omega
    | ⟨2, _⟩ => show (0 + 1) * 2048 ≤ 2048; omega
  · obtain ⟨⟨hb, -⟩, hi, ho⟩ := h (at0 i)
    rw [tr2 m i]
    refine ⟨fun a => ?_, .inl rfl⟩
    match a with
    | ⟨0, _⟩ => show ((tbl m 0 (at0 i)).toNat + 1) * 1 ≤ 32; omega
    | ⟨1, _⟩ => show (0 + 1) * 1 ≤ 1; omega
    | ⟨2, _⟩ => show (0 + 1) * 2048 ≤ 2048; omega
  · obtain ⟨⟨hb, -⟩, hi, ho⟩ := h (at0 i)
    rw [tr3 m i]
    refine ⟨fun a => ?_, .inl rfl⟩
    match a with
    | ⟨0, _⟩ => show ((tbl m 2 (at0 i)).toNat + 1) * 512 ≤ 148480; omega
    | ⟨1, _⟩ => show (0 + 1) * 2048 ≤ 2048; omega

end Words

end Cert.FfnDown.Hand

namespace Cert.FfnDownIdeal.Hand

open Cert.FfnDownIdeal Cert.FfnDownIdeal.Gen Idealize.ShloMosaic Idealize.ShloMosaic.TcCoe Idealize.SL.Sem

section Words

variable {F : FTy → Type} [FloatOps F] (m : (ℓ : Loc nD τ sig) → Buf (Elt F) ℓ)

/-- The word that a grid point's block reads. -/
def at0 (i : grid0.Coords) : S289.Idx := fun a => match a with | ⟨0, _⟩ => ⟨(i 0).val, (i 0).isLt⟩

/-- A word read at a point's offset. -/
theorem word_at {α : Type} (x : S289.Idx → α) (i : grid0.Coords) (h : 0 < (Rect.unit (s := S289) (k0_off1 i) S1.size (k0_off1_inb i)).shape.numel) :
    x ((Rect.unit (s := S289) (k0_off1 i) S1.size (k0_off1_inb i)).emb (Shape.Idx.first h)) = x (at0 i) := by
  refine congrArg x (funext fun a => Fin.ext ?_)
  obtain rfl : a = 0 := Subsingleton.elim _ _
  rw [ValueKit.rect_emb_unit_val]
  have hz : ((Shape.Idx.first h : (Rect.unit (s := S289) (k0_off1 i) S1.size (k0_off1_inb i)).shape.Idx) 0).val = 0 := by
    have : ((Shape.Idx.first h : (Rect.unit (s := S289) (k0_off1 i) S1.size (k0_off1_inb i)).shape.Idx) 0).val < 1 := Fin.isLt _
    omega
  have hi : (i 0).val < 289 := (i 0).isLt
  show (BitVec.ofNat 32 (i 0).val).toNat + _ = (i 0).val
  rw [BitVec.toNat_ofNat]
  omega

theorem tr0 (i : grid0.Coords) : cc0_transform_0 k0_off1_inb numel1_S1 (tbl m) i = ![(tbl m 1 (at0 i)).toNat, 0] := by
  show ![(tbl m 1 ((Rect.unit (s := S289) (k0_off1 i) S1.size (k0_off1_inb i)).emb (Shape.Idx.first (numel1_S1.symm ▸ Nat.one_pos)))).toNat, 0] = _
  rw [word_at (tbl m 1 : S289.Idx → BitVec 32)]

theorem tr1 (i : grid0.Coords) : cc0_transform_1 k0_off1_inb numel1_S1 (tbl m) i = ![(tbl m 0 (at0 i)).toNat, 0, 0] := by
  show ![(tbl m 0 ((Rect.unit (s := S289) (k0_off1 i) S1.size (k0_off1_inb i)).emb (Shape.Idx.first (numel1_S1.symm ▸ Nat.one_pos)))).toNat, 0, 0] = _
  rw [word_at (tbl m 0 : S289.Idx → BitVec 32)]

theorem tr2 (i : grid0.Coords) : cc0_transform_2 k0_off1_inb numel1_S1 (tbl m) i = ![(tbl m 0 (at0 i)).toNat, 0, 0] := by
  show ![(tbl m 0 ((Rect.unit (s := S289) (k0_off1 i) S1.size (k0_off1_inb i)).emb (Shape.Idx.first (numel1_S1.symm ▸ Nat.one_pos)))).toNat, 0, 0] = _
  rw [word_at (tbl m 0 : S289.Idx → BitVec 32)]

theorem tr3 (i : grid0.Coords) : cc0_transform_3 k0_off1_inb numel1_S1 (tbl m) i = ![(tbl m 2 (at0 i)).toNat, 0] := by
  show ![(tbl m 2 ((Rect.unit (s := S289) (k0_off1 i) S1.size (k0_off1_inb i)).emb (Shape.Idx.first (numel1_S1.symm ▸ Nat.one_pos)))).toNat, 0] = _
  rw [word_at (tbl m 2 : S289.Idx → BitVec 32)]

/-- Words in range keep every block inside its array. -/
theorem ok_of (h : Cert.Routed.InRange (tbl m 0) (tbl m 1) (tbl m 2)) : Ok m := by
  refine ⟨fun i => ?_, fun i => ?_, fun i => ?_, fun i => ?_⟩
  · obtain ⟨⟨hb, -⟩, hi, ho⟩ := h (at0 i)
    rw [tr0 m i]
    refine ⟨fun a => ?_, .inr (Affine.block_words_dvd (of_decide_eq_true rfl) (by decide))⟩
    match a with
    | ⟨0, _⟩ => show ((tbl m 1 (at0 i)).toNat + 1) * 512 ≤ 148480; omega
    | ⟨1, _⟩ => show (0 + 1) * 2048 ≤ 2048; omega
  · obtain ⟨⟨hb, -⟩, hi, ho⟩ := h (at0 i)
    rw [tr1 m i]
    refine ⟨fun a => ?_, .inr (Affine.block_words_dvd (of_decide_eq_true rfl) (by decide))⟩
    match a with
    | ⟨0, _⟩ => show ((tbl m 0 (at0 i)).toNat + 1) * 1 ≤ 32; omega
    | ⟨1, _⟩ => show (0 + 1) * 2048 ≤ 2048; omega
    | ⟨2, _⟩ => show (0 + 1) * 2048 ≤ 2048; omega
  · obtain ⟨⟨hb, -⟩, hi, ho⟩ := h (at0 i)
    rw [tr2 m i]
    refine ⟨fun a => ?_, .inl rfl⟩
    match a with
    | ⟨0, _⟩ => show ((tbl m 0 (at0 i)).toNat + 1) * 1 ≤ 32; omega
    | ⟨1, _⟩ => show (0 + 1) * 1 ≤ 1; omega
    | ⟨2, _⟩ => show (0 + 1) * 2048 ≤ 2048; omega
  · obtain ⟨⟨hb, -⟩, hi, ho⟩ := h (at0 i)
    rw [tr3 m i]
    refine ⟨fun a => ?_, .inl rfl⟩
    match a with
    | ⟨0, _⟩ => show ((tbl m 2 (at0 i)).toNat + 1) * 512 ≤ 148480; omega
    | ⟨1, _⟩ => show (0 + 1) * 2048 ≤ 2048; omega

end Words

end Cert.FfnDownIdeal.Hand

end
-- ==== Proof.FfnDownClaim.lean ====
/-  The down product of the experts: on the rows of the blocks in use, the array that the launch leaves is the reference's.

  The grid walks 289 blocks of 512 rows. Which rows of the input a block reads, which expert's matrix it takes and where it
  writes are words of three tables, and a fourth says whether the block is in use. The precondition `down_routed` says what
  the routing makes of them: a block in use reads and writes its own rows, the others all write the last 512 rows, which no
  claim reads. So of all points only the block's own writes its rows (`only`), and there the stored rows are the product of the
  block's rows with its expert's matrix, and the expert's bias (`point`); the reference gathers the same matrix by the same word
  (`ref_w`, `ref_b`). -/
module

public import proofs.«01_k».proof.Defs
public import proofs.«01_k».proof.Proof.FfnDownWords
public import proofs.«01_k».proof.Proof.Gen.FfnDownRefIdeal.Run
public import proofs.«01_k».proof.Proof.Gen.FfnDownRefIdeal.Read
public import proofs.«01_k».proof.Proof.Gen.On_used_rows_FfnDownIdeal
public import Idealize.ShloMosaic.Lib.Claim
public import Idealize.ShloMosaic.Lib.IdealHost
public import Idealize.ShloMosaic.Lib.Pointwise
public import Idealize.ShloMosaic.Lib.KernelVsHost
public import Idealize.ShloMosaic.Lib.Pipeline.ReadBack

@[expose] public section

set_option maxRecDepth 16384

noncomputable section

namespace Cert.FfnDownIdeal.Hand

open Cert.FfnDownIdeal Cert.FfnDownIdeal.Gen Idealize.ShloMosaic Idealize.ShloMosaic.TcCoe Idealize.SL.Sem

variable (m : (ℓ : Loc nD τ sig) → Buf (Elt Ideal) ℓ)

/-- The reference's result as a function of the arguments it reads. -/
def REF (x0 : IVec S289 32) (x4 : FVec Ideal S148480x2048 .bf16) (x5 : FVec Ideal S32x2048x2048 .bf16) (x6 : FVec Ideal S32x1x2048 .f32) : FVec Ideal S148480x2048 .f32 :=
  Cert.FfnDownRefIdeal.Read.val_main_v10 (F := Ideal) x0 x4 x5 x6

/-- The reference's matrices, one per block, at an index: the matrix of the expert that the block's word names. -/
theorem ref_w (x0 : IVec S289 32) (x5 : FVec Ideal S32x2048x2048 .bf16) (i : (⟨3, ![289, 2048, 2048]⟩ : Shape).Idx) (b : S289.Idx) (J : S32x2048x2048.Idx)
    (hb : (b 0).val = (i 0).val) (hw : (x0 b).toNat < 32 ∧ (x0 b).toInt.toNat = (x0 b).toNat)
    (h0 : (J 0).val = (x0 b).toNat) (h1 : (J 1).val = (i 1).val) (h2 : (J 2).val = (i 2).val) :
    Cert.FfnDownRefIdeal.Read.val_main_v4 (F := Ideal) x0 x5 i = x5 J := by
  have hi : Cert.FfnDownRefIdeal.Read.idx_main_call0_v0 (Cert.Routed.slabIdx (N := 289) (A := 2048) (B := 2048) i) = b := by
    funext a
    obtain rfl : a = 0 := Subsingleton.elim _ _
    exact Fin.ext hb.symm
  refine (Cert.Routed.gather_slab_apply _ _ _ i J ?_ h1 h2).trans rfl
  rw [Cert.FfnDownRefIdeal.Read.val_main_call0_v0_apply, hi, h0, hw.2]
  omega

/-- The reference's biases, one per block, at an index. -/
theorem ref_b (x0 : IVec S289 32) (x6 : FVec Ideal S32x1x2048 .f32) (i : (⟨3, ![289, 1, 2048]⟩ : Shape).Idx) (b : S289.Idx) (J : S32x1x2048.Idx)
    (hb : (b 0).val = (i 0).val) (hw : (x0 b).toNat < 32 ∧ (x0 b).toInt.toNat = (x0 b).toNat)
    (h0 : (J 0).val = (x0 b).toNat) (h1 : (J 1).val = (i 1).val) (h2 : (J 2).val = (i 2).val) :
    Cert.FfnDownRefIdeal.Read.val_main_v6 (F := Ideal) x0 x6 i = x6 J := by
  have hi : Cert.FfnDownRefIdeal.Read.idx_main_call1_v0 (Cert.Routed.slabIdx (N := 289) (A := 1) (B := 2048) i) = b := by
    funext a
    obtain rfl : a = 0 := Subsingleton.elim _ _
    exact Fin.ext hb.symm
  refine (Cert.Routed.gather_slab_apply _ _ _ i J ?_ h1 h2).trans rfl
  rw [Cert.FfnDownRefIdeal.Read.val_main_call1_v0_apply, hi, h0, hw.2]
  omega

/-- Rows of blocks laid one after the other, read at a row. -/
theorem rows_at {α : Type} (y : Cert.On_used_rows_FfnDownIdeal.S289x512x2048.Idx → α) (h : Cert.On_used_rows_FfnDownIdeal.S289x512x2048.ShapeCasts Cert.On_used_rows_FfnDownIdeal.S147968x2048)
    (i : Cert.On_used_rows_FfnDownIdeal.S147968x2048.Idx) (J : Cert.On_used_rows_FfnDownIdeal.S289x512x2048.Idx)
    (h0 : (J 0).val = (i 0).val / 512) (h1 : (J 1).val = (i 0).val % 512) (h2 : (J 2).val = (i 1).val) : shapeCast Cert.On_used_rows_FfnDownIdeal.S147968x2048 y h i = y J :=
  shapeCast_apply y h i J (by
    rewrite [Shape.rowMajor_val_three, Shape.rowMajor_val_two]
    have i0 : (i 0).val < 147968 := (i 0).isLt
    have i1 : (i 1).val < 2048 := (i 1).isLt
    show ((J 0).val * 512 + (J 1).val) * 2048 + (J 2).val = (i 0).val * 2048 + (i 1).val
    rw [h0, h1, h2]
    omega)

/-- The words spread over the blocks' rows, read at a row. -/
theorem spread_at {α : Type} (y : S289.Idx → α) (h : S289.BroadcastsInDim Cert.On_used_rows_FfnDownIdeal.S289x1x1 ![0]) (h' : Cert.On_used_rows_FfnDownIdeal.S289x1x1.BroadcastsInDim Cert.On_used_rows_FfnDownIdeal.S289x512x2048 ![0, 1, 2])
    (J : Cert.On_used_rows_FfnDownIdeal.S289x512x2048.Idx) (b : S289.Idx) (hb : (b 0).val = (J 0).val) :
    broadcastInDim Cert.On_used_rows_FfnDownIdeal.S289x512x2048 ![0, 1, 2] h' (broadcastInDim Cert.On_used_rows_FfnDownIdeal.S289x1x1 ![0] h y) J = y b := by
  generalize hz : broadcastInDim Cert.On_used_rows_FfnDownIdeal.S289x1x1 ![0] h y = z
  rw [broadcastInDim_apply _ h' z J (fun a => match a with | ⟨0, _⟩ => ⟨(J 0).val, (J 0).isLt⟩ | ⟨1, _⟩ => ⟨0, Nat.one_pos⟩ | ⟨2, _⟩ => ⟨0, Nat.one_pos⟩)
    (fun a => match a with
      | ⟨0, _⟩ => by show (J 0).val = if (289 : Nat) = 1 then 0 else (J 0).val; rw [if_neg (by decide)]
      | ⟨1, _⟩ => by show 0 = if (1 : Nat) = 1 then 0 else (J 1).val; rw [if_pos rfl]
      | ⟨2, _⟩ => by show 0 = if (1 : Nat) = 1 then 0 else (J 2).val; rw [if_pos rfl]), ← hz]
  exact broadcastInDim_apply _ h y _ b (fun a => match a with
    | ⟨0, _⟩ => by show (b 0).val = if (289 : Nat) = 1 then 0 else (J 0).val; rw [if_neg (by decide), hb])

/-- The rows that are claimed: those of a block in use. -/
theorem used {F : FTy → Type} [FloatOps F] (x0 x1 x2 x3 : IVec S289 32) (x4 : FVec F S148480x2048 .bf16) (x5 : FVec F S32x2048x2048 .bf16) (x6 : FVec F S32x1x2048 .f32)
    (i : S148480x2048.Idx) (h : Cert.On_used_rows_FfnDownIdeal.fn (F := F) x0 x1 x2 x3 x4 x5 x6 i = 1#1) :
    ∃ b : S289.Idx, (b 0).val = (i 0).val / 512 ∧ x3 b = 1#32 := by
  simp only [Cert.On_used_rows_FfnDownIdeal.fn, Cert.On_used_rows_FfnDownIdeal.fn_pad] at h
  have hi0 : (i 0).val < 148480 := (i 0).isLt
  have hi1 : (i 1).val < 2048 := (i 1).isLt
  by_cases hr : (i 0).val < 147968
  · rw [pad_apply_of_inside _ _ _ _ _ _ _ i (fun a => match a with | ⟨0, _⟩ => ⟨(i 0).val, hr⟩ | ⟨1, _⟩ => ⟨(i 1).val, hi1⟩)
      (fun a => match a with
        | ⟨0, _⟩ => by show (i 0).val = 0 + (i 0).val * (0 + 1); omega
        | ⟨1, _⟩ => by show (i 1).val = 0 + (i 1).val * (0 + 1); omega)] at h
    rw [rows_at _ _ _ (fun a => match a with | ⟨0, _⟩ => ⟨(i 0).val / 512, by show _ < 289; omega⟩ | ⟨1, _⟩ => ⟨(i 0).val % 512, by show _ < 512; omega⟩ | ⟨2, _⟩ => ⟨(i 1).val, hi1⟩) rfl rfl rfl,
      spread_at _ _ _ _ (fun a => match a with | ⟨0, _⟩ => ⟨(i 0).val / 512, by show _ < 289; omega⟩) rfl] at h
    refine ⟨fun a => match a with | ⟨0, _⟩ => ⟨(i 0).val / 512, by show _ < 289; omega⟩, rfl, ?_⟩
    simp only [cmpi, broadcastInDim, constantI] at h
    exact (Cert.Routed.word_eq _ _).mp h
  · rw [pad_apply_of_not_inside _ _ _ _ _ _ _ i ⟨0, by decide⟩ (by
      rintro ⟨-, -, h2⟩
      have h2' : ((i 0).val - 0) / (0 + 1) < 147968 := h2
      omega)] at h
    exact absurd h (by simp only [id, cmpi, broadcastInDim, constantI]; decide)

/-- A grid point's word is its number's. -/
theorem at_pt : ∀ t : Fin grid0.N, (at0 (grid0.coords t) 0).val = t.val := by decide +kernel

/-- Each window's block index at a grid point, from the words. -/
theorem idx (hO : Ok m) (t : Fin (cfgM m hO).N) :
    ((cfgM m hO).win 0).index t = ![(tbl m 1 (at0 (grid0.coords t))).toNat, 0]
    ∧ ((cfgM m hO).win 1).index t = ![(tbl m 0 (at0 (grid0.coords t))).toNat, 0, 0]
    ∧ ((cfgM m hO).win 2).index t = ![(tbl m 0 (at0 (grid0.coords t))).toNat, 0, 0]
    ∧ ((cfgM m hO).win 3).index t = ![(tbl m 2 (at0 (grid0.coords t))).toNat, 0] :=
  ⟨tr0 m _, tr1 m _, tr2 m _, tr3 m _⟩

/-- A point of a block in use takes the branch. -/
theorem cond_at (t : Fin grid0.N) (h : tbl m 3 (at0 (grid0.coords t)) = 1#32) :
    cond0_0 (grid0.coords t) (tbM0_3.view.readAt (Elt Ideal) (Rect.unit (s := S289) (k0_off1 (grid0.coords t)) S1.size (k0_off1_inb (grid0.coords t))).toLoadRect (tbl m 3) (Shape.Idx.first (numel1_S1.symm ▸ Nat.one_pos))) := by
  have e : tbM0_3.view.readAt (Elt Ideal) (Rect.unit (s := S289) (k0_off1 (grid0.coords t)) S1.size (k0_off1_inb (grid0.coords t))).toLoadRect (tbl m 3) (Shape.Idx.first (numel1_S1.symm ▸ Nat.one_pos)) = 1#32 :=
    (word_at (tbl m 3 : S289.Idx → BitVec 32) (grid0.coords t) (numel1_S1.symm ▸ Nat.one_pos)).trans h
  rw [e]
  rfl

/-- The block that a point of a block in use stores, element by element, is the reference's rows. -/
theorem point (hO : Ok m) (t : Fin (cfgM m hO).N) (y : S512x2048.Idx)
    (hw : (tbl m 0 (at0 (grid0.coords t))).toNat < 32 ∧ (tbl m 0 (at0 (grid0.coords t))).toInt.toNat = (tbl m 0 (at0 (grid0.coords t))).toNat)
    (hib : (tbl m 1 (at0 (grid0.coords t))).toNat = t.val)
    (J : (⟨2, ![147968, 2048]⟩ : Shape).Idx) (J0 : (J 0).val = t.val * 512 + (y 0).val) (J1 : (J 1).val = (y 1).val) :
    k0_pay2 (F := Ideal) (iblk m hO 0 0 t) (iblk m hO 0 1 t) (iblk m hO 0 2 t) y
      = Cert.FfnDownRefIdeal.Read.val_main_v9 (F := Ideal) (m (((0 : Dev nD) : Thread nD τ).loc main_arg0)) (m (((0 : Dev nD) : Thread nD τ).loc main_arg4)) (m (((0 : Dev nD) : Thread nD τ).loc main_arg5)) (m (((0 : Dev nD) : Thread nD τ).loc main_arg6)) J := by
  have ht : t.val < 289 := t.isLt
  have hy0 : (y 0).val < 512 := (y 0).isLt
  have hy1 : (y 1).val < 2048 := (y 1).isLt
  have hbe : (at0 (grid0.coords t) 0).val = t.val := at_pt t
  rw [Cert.FfnDownRefIdeal.Read.val_main_v9_apply, Cert.FfnDownRefIdeal.Read.val_main_v8_apply, Cert.FfnDownRefIdeal.Read.val_main_v5_apply, Cert.FfnDownRefIdeal.Read.val_main_v7_apply]
  have hb : Cert.FfnDownRefIdeal.Read.val_main_v6 (F := Ideal) (m (((0 : Dev nD) : Thread nD τ).loc main_arg0)) (m (((0 : Dev nD) : Thread nD τ).loc main_arg6)) (Cert.FfnDownRefIdeal.Read.idx_main_v7 (Cert.FfnDownRefIdeal.Read.idx_main_v9 J))
      = m (((0 : Dev nD) : Thread nD τ).loc main_arg6) (fun a => match a with | ⟨0, _⟩ => ⟨(tbl m 0 (at0 (grid0.coords t))).toNat, hw.1⟩ | ⟨1, _⟩ => ⟨0, Nat.one_pos⟩ | ⟨2, _⟩ => ⟨(y 1).val, hy1⟩) :=
    ref_b _ _ _ (at0 (grid0.coords t)) _ (by show _ = ((J 0).val * 2048 + (J 1).val) / 1048576; omega) hw rfl rfl (by show (y 1).val = ((J 0).val * 2048 + (J 1).val) % 2048; omega)
  rw [hb]
  have hs : ∀ k : Fin 2048, Cert.FfnDownRefIdeal.Read.val_main_v4 (F := Ideal) (m (((0 : Dev nD) : Thread nD τ).loc main_arg0)) (m (((0 : Dev nD) : Thread nD τ).loc main_arg5)) (Cert.FfnDownRefIdeal.Read.ridx_main_v5 (Cert.FfnDownRefIdeal.Read.idx_main_v9 J) k)
      = m (((0 : Dev nD) : Thread nD τ).loc main_arg5) (fun a => match a with | ⟨0, _⟩ => ⟨(tbl m 0 (at0 (grid0.coords t))).toNat, hw.1⟩ | ⟨1, _⟩ => ⟨k.val, k.isLt⟩ | ⟨2, _⟩ => ⟨(y 1).val, hy1⟩) := fun k =>
    ref_w _ _ _ (at0 (grid0.coords t)) _ (by show _ = ((J 0).val * 2048 + (J 1).val) / 1048576; omega) hw rfl rfl (by show (y 1).val = ((J 0).val * 2048 + (J 1).val) % 2048; omega)
  simp only [hs, Cert.FfnDownRefIdeal.Read.val_main_v2_apply, Cert.FfnDownRefIdeal.Read.val_main_v1_apply, Cert.FfnDownRefIdeal.Read.val_main_v0_apply]
  pointwise [k0_pay2]
  have hW : ∀ k : Fin 2048, V m 0 (Pipeline.arrRef spec0 1) ((((cfgM m hO).win 1).blk t).view.emb (ix3 0 k (y 1)))
      = m (((0 : Dev nD) : Thread nD τ).loc main_arg5) (fun a => match a with | ⟨0, _⟩ => ⟨(tbl m 0 (at0 (grid0.coords t))).toNat, hw.1⟩ | ⟨1, _⟩ => ⟨k.val, k.isLt⟩ | ⟨2, _⟩ => ⟨(y 1).val, hy1⟩) :=
    fun k => congrArg (m (((0 : Dev nD) : Thread nD τ).loc main_arg5)) (by blk_ext [idx m hO t])
  have hB : V m 0 (Pipeline.arrRef spec0 2) ((((cfgM m hO).win 2).blk t).view.emb (ix3 0 0 (y 1)))
      = m (((0 : Dev nD) : Thread nD τ).loc main_arg6) (fun a => match a with | ⟨0, _⟩ => ⟨(tbl m 0 (at0 (grid0.coords t))).toNat, hw.1⟩ | ⟨1, _⟩ => ⟨0, Nat.one_pos⟩ | ⟨2, _⟩ => ⟨(y 1).val, hy1⟩) :=
    congrArg (m (((0 : Dev nD) : Thread nD τ).loc main_arg6)) (by blk_ext [idx m hO t])
  blk_point [iblk, V, idx m hO t]
  · exact congrArg (fun z : EReal => (_ : EReal) * z) (hW _)
  · exact congrArg (fun z : EReal => (_ : EReal) + z) hB

/-- The output's row block of a block in use is written back at its point. -/
theorem flush_at (hO : Ok m) (hro : Cert.Routed.RoutedTo (tbl m 1) (tbl m 2) (tbl m 3)) (t : Fin (cfgM m hO).N) (hk : tbl m 3 (at0 (grid0.coords t)) = 1#32) :
    ((cfgM m hO).win 3).flush t = true := by
  have hN : (cfgM m hO).N = 289 := rfl
  rw [Pipeline.Window.flush_out _ rfl]
  by_cases hl : t.val + 1 = 289
  · exact .inl hl
  · refine .inr ⟨by have : t.val < 289 := t.isLt; show _ < 289; omega, fun e => ?_⟩
    rw [(idx m hO t).2.2.2, (idx m hO ⟨t.val + 1, by have : t.val < 289 := t.isLt; show _ < 289; omega⟩).2.2.2] at e
    have e0 : (tbl m 2 (at0 (grid0.coords (⟨t.val + 1, by have : t.val < 289 := t.isLt; show _ < 289; omega⟩ : Fin grid0.N)))).toNat = (tbl m 2 (at0 (grid0.coords t))).toNat := congrFun e 0
    rw [((hro _).1 hk).2, at_pt t] at e0
    have ht : t.val < 289 := t.isLt
    by_cases hu : tbl m 3 (at0 (grid0.coords (⟨t.val + 1, by have : t.val < 289 := t.isLt; show _ < 289; omega⟩ : Fin grid0.N))) = 1#32
    · rw [((hro _).1 hu).2, at_pt] at e0
      simp only at e0
      omega
    · rw [(hro _).2 hu] at e0
      omega

/-- No other point writes into it. -/
theorem only_at (hO : Ok m) (hro : Cert.Routed.RoutedTo (tbl m 1) (tbl m 2) (tbl m 3)) (t : Fin (cfgM m hO).N) (hk : tbl m 3 (at0 (grid0.coords t)) = 1#32) (y : S512x2048.Idx)
    (t' : Fin (cfgM m hO).N) (hm : (((cfgM m hO).win 3).blk t).view.emb y ∈ (((cfgM m hO).win 3).blk t').view.set) : t' = t := by
  have ht : t.val < 289 := t.isLt
  have ht' : t'.val < 289 := t'.isLt
  have h := ((Pipeline.Window.emb_mem_blk_iff ((cfgM m hO).win 3) t' ((((cfgM m hO).win 3).rect t).emb y)).mp hm) (0 : Fin 2)
  have h1 : ((cfgM m hO).win 3).index t' (0 : Fin 2) * 512 ≤ ((cfgM m hO).win 3).index t (0 : Fin 2) * 512 + 1 * (y 0).val
      ∧ ((cfgM m hO).win 3).index t (0 : Fin 2) * 512 + 1 * (y 0).val < ((cfgM m hO).win 3).index t' (0 : Fin 2) * 512 + 512 := h
  rw [congrFun (idx m hO t).2.2.2 (0 : Fin 2), congrFun (idx m hO t').2.2.2 (0 : Fin 2)] at h1
  have h2 : (tbl m 2 (at0 (grid0.coords t'))).toNat * 512 ≤ (tbl m 2 (at0 (grid0.coords t))).toNat * 512 + 1 * (y 0).val
      ∧ (tbl m 2 (at0 (grid0.coords t))).toNat * 512 + 1 * (y 0).val < (tbl m 2 (at0 (grid0.coords t'))).toNat * 512 + 512 := h1
  have hy : (y 0).val < 512 := (y 0).isLt
  rw [((hro _).1 hk).2, at_pt t] at h2
  apply Fin.ext
  by_cases hu : tbl m 3 (at0 (grid0.coords t')) = 1#32
  · rw [((hro _).1 hu).2, at_pt t'] at h2
    omega
  · rw [(hro _).2 hu] at h2
    omega

/-- What the point of a block in use writes back. -/
theorem stored (hO : Ok m) (t : Fin (cfgM m hO).N) (hk : tbl m 3 (at0 (grid0.coords t)) = 1#32) :
    (outsAt0 m hO 0 t : S512x2048.Idx → EReal) = k0_pay2 (F := Ideal) (iblk m hO 0 0 t) (iblk m hO 0 1 t) (iblk m hO 0 2 t) := by
  rw [outsAt0_A m hO 0 t (cond_at m t hk)]
  frame_out
  exact congr (congr (congrArg k0_pay2 ((hs0_0 m hO t).read_unread (iblk m hO 0 0 t))) ((hs0_1 m hO t).read_unread (iblk m hO 0 1 t))) ((hs0_2 m hO t).read_unread (iblk m hO 0 2 t))

/-- A row of a block in use ends at the reference's. -/
theorem final (hO : Ok m) (hin : Cert.Routed.InRange (tbl m 0) (tbl m 1) (tbl m 2)) (hro : Cert.Routed.RoutedTo (tbl m 1) (tbl m 2) (tbl m 3))
    (i : S148480x2048.Idx) (b : S289.Idx) (hb : (b 0).val = (i 0).val / 512) (hk : tbl m 3 b = 1#32) :
    (dats m hO 0 0).arrAt 3 (cfgM m hO).N i = REF (m (((0 : Dev nD) : Thread nD τ).loc main_arg0)) (m (((0 : Dev nD) : Thread nD τ).loc main_arg4)) (m (((0 : Dev nD) : Thread nD τ).loc main_arg5)) (m (((0 : Dev nD) : Thread nD τ).loc main_arg6)) i := by
  have hb0 : (b 0).val < 289 := (b 0).isLt
  have hi1 : (i 1).val < 2048 := (i 1).isLt
  obtain ⟨t, ht⟩ : ∃ t : Fin (cfgM m hO).N, t.val = (b 0).val := ⟨⟨(b 0).val, hb0⟩, rfl⟩
  obtain rfl : at0 (grid0.coords t) = b := by
    funext a
    obtain rfl : a = 0 := Subsingleton.elim _ _
    exact Fin.ext ((at_pt t).trans ht)
  have hi := (hro _).1 hk
  rw [at_pt t] at hi hb
  obtain ⟨y, hy⟩ : ∃ y : S512x2048.Idx, (y 0).val = (i 0).val % 512 ∧ (y 1).val = (i 1).val :=
    ⟨fun a => match a with | ⟨0, _⟩ => ⟨(i 0).val % 512, Nat.mod_lt _ (by decide)⟩ | ⟨1, _⟩ => ⟨(i 1).val, hi1⟩, rfl, rfl⟩
  have he : (((cfgM m hO).win 3).blk t).view.emb y = i := by
    blk_ext [idx m hO t]
  have hR : REF (m (((0 : Dev nD) : Thread nD τ).loc main_arg0)) (m (((0 : Dev nD) : Thread nD τ).loc main_arg4)) (m (((0 : Dev nD) : Thread nD τ).loc main_arg5)) (m (((0 : Dev nD) : Thread nD τ).loc main_arg6)) i
      = Cert.FfnDownRefIdeal.Read.val_main_v9 (F := Ideal) (m (((0 : Dev nD) : Thread nD τ).loc main_arg0)) (m (((0 : Dev nD) : Thread nD τ).loc main_arg4)) (m (((0 : Dev nD) : Thread nD τ).loc main_arg5)) (m (((0 : Dev nD) : Thread nD τ).loc main_arg6))
          (fun a => match a with | ⟨0, _⟩ => ⟨(i 0).val, by show _ < 147968; omega⟩ | ⟨1, _⟩ => ⟨(i 1).val, hi1⟩) :=
    pad_apply_of_inside _ _ _ _ _ Cert.FfnDownRefIdeal.Gen.pads_S147968x2048_S148480x2048_05120_000 _ i _
      (fun a => match a with
        | ⟨0, _⟩ => by show (i 0).val = 0 + (i 0).val * (0 + 1); omega
        | ⟨1, _⟩ => by show (i 1).val = 0 + (i 1).val * (0 + 1); omega)
  rw [hR]
  refine (congrArg ((dats m hO 0 0).arrAt 3 (cfgM m hO).N) he.symm).trans ?_
  refine (Cert.Routed.arrAt_of_only (dats m hO 0 0) 3 t (flush_at m hO hro t hk) y (fun t' _ hm => only_at m hO hro t hk y t' hm)).trans ?_
  refine (congrFun ((after0_3 m hO 0 t).trans (stored m hO t hk)) y).trans ?_
  exact point m hO t y (hin _).1 hi.1 _ (by show (i 0).val = _; omega) (by show (i 1).val = _; omega)

end Cert.FfnDownIdeal.Hand

namespace Cert.FfnDownClaim

open Idealize.ShloMosaic Idealize.ShloMosaic.TcCoe Idealize.SL.Sem

/-- The kernel's frame at the machine's floats, where every word is in range. -/
theorem frame : Cert.quiescent_FfnDown := fun m ρ h =>
  Cert.FfnDown.Gen.frame m ρ (Cert.FfnDown.Hand.ok_of m (Cert.FfnDownWords.in_range _ _ _ _ _ _ _ (h 0).1 (h 0).2.1 (h 0).2.2))

/-- The kernel's frame over the extended reals, where every word is in range. -/
theorem frame_ideal : Cert.quiescent_FfnDownIdeal := fun m ρ h =>
  Cert.FfnDownIdeal.Gen.frame m ρ (Cert.FfnDownIdeal.Hand.ok_of m (Cert.FfnDownWords.in_range _ _ _ _ _ _ _ (h 0).1 (h 0).2.1 (h 0).2.2))

/-- What a routed launch's words say. -/
theorem words (m : (ℓ : Loc Cert.FfnDownIdeal.nD Cert.FfnDownIdeal.τ Cert.FfnDownIdeal.sig) → Buf (Elt Ideal) ℓ) (h : Cert.Pre_FfnDownIdeal_down_routed m) :
    Cert.Routed.InRange (Cert.FfnDownIdeal.Gen.tbl m 0) (Cert.FfnDownIdeal.Gen.tbl m 1) (Cert.FfnDownIdeal.Gen.tbl m 2)
    ∧ Cert.Routed.RoutedTo (Cert.FfnDownIdeal.Gen.tbl m 1) (Cert.FfnDownIdeal.Gen.tbl m 2) (Cert.FfnDownIdeal.Gen.tbl m 3) :=
  Cert.FfnDownWords.routed _ _ _ _ _ _ _ (h 0).1 (h 0).2.1 (h 0).2.2.1 (h 0).2.2.2

/-- The same frame under the value claim's precondition. -/
theorem frame_ideal_routed : Cert.quiescent_FfnDownIdeal_pre_down_routed := fun m ρ h =>
  Cert.FfnDownIdeal.Gen.frame m ρ (Cert.FfnDownIdeal.Hand.ok_of m (words m h).1)

/-- The reference runs, and leaves its arguments as they were; it has no semaphore. -/
theorem frame_ref : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

/-- The same under the value claim's precondition. -/
theorem frame_ref_routed : Cert.quiescent_FfnDownRefIdeal_pre_down_routed := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

/-- On the rows of the blocks in use the kernel and its reference end with the same array over the extended reals. -/
theorem algebraic : Cert.algebraic_FfnDownIdeal_FfnDownRefIdeal_on_used_rows_FfnDownIdeal_pre_down_routed := by
  intro m ρ m' ρ' hpre hagree
  obtain ⟨hin, hro⟩ := words m hpre
  have hO := Cert.FfnDownIdeal.Hand.ok_of m hin
  refine ⟨fun c => Cert.FfnDownIdeal.Hand.REF (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg4)) (m ((c.tc : Thread Cert.FfnDownIdeal.nD Cert.FfnDownIdeal.τ).loc Cert.FfnDownIdeal.main_arg5)) (m ((c.tc : Thread Cert.FfnDownIdeal.nD Cert.FfnDownIdeal.τ).loc Cert.FfnDownIdeal.main_arg6)), ?_, ?_⟩
  · refine (θ_run Cert.FfnDownIdeal.defs _ _).mono (fun r h c => ⟨fun i hi => ?_, h.2 c⟩)
      (θ_run_and (Cert.FfnDownIdeal.Gen.run_main m ρ hO) (Cert.FfnDownIdeal.Gen.unchanged m ρ hO))
    obtain rfl : c = 0 := Subsingleton.elim _ _
    obtain ⟨b, hb, hk⟩ := Cert.FfnDownIdeal.Hand.used _ _ _ _ _ _ _ i hi
    exact (congrFun ((h.1 0).1 3) i).trans (Cert.FfnDownIdeal.Hand.final m hO hin hro i b hb hk)
  · refine (θ_run Cert.FfnDownRefIdeal.defs _ _).mono (fun r h c => ⟨fun i _ => ?_, (h c).2⟩)
      (Cert.FfnDownRefIdeal.Value.run (F := Ideal) m' ρ')
    refine (congrFun (((h c).1).trans (Cert.FfnDownRefIdeal.Read.val_main_v10_eq _ _ _ _)) i).trans ?_
    show _ = Cert.FfnDownRefIdeal.Read.val_main_v10 (F := Ideal) _ _ _ _ i
    rw [(hagree c).1, (hagree c).2.2.2.2.1, (hagree c).2.2.2.2.2.1, (hagree c).2.2.2.2.2.2]

end Cert.FfnDownClaim

end
-- ==== Proof.RglruMath.lean ====
/-  The mathematics of the gated recurrence: the two spellings of its gain agree, and composing steps in pairs, fours and eights
  gives the same states as taking them one by one. -/
module

public import Idealize.ShloMosaic.Lib.IdealHost
public import Idealize.ShloMosaic.Lib.Pointwise

@[expose] public section

noncomputable section

namespace Cert.Rglru

open Idealize.ShloMosaic

/-- The states of a linear recurrence, from the state before. -/
def states (a b : ℕ → EReal) (h : EReal) : ℕ → EReal
  | 0 => a 0 * h + b 0
  | n + 1 => a (n + 1) * states a b h n + b (n + 1)

/-- The decay of a step: a number between the infinities, not negative. -/
def Decay (x : EReal) : Prop := ∃ r : ℝ, 0 ≤ r ∧ x = r

theorem decay_add {x : EReal} (h : Decay x) (y z : EReal) : x * (y + z) = x * y + x * z := by
  obtain ⟨r, hr, rfl⟩ := h
  exact EReal.left_distrib_of_nonneg_of_ne_top (by exact_mod_cast hr) (EReal.coe_ne_top r) y z

theorem decay_mul {x y : EReal} (hx : Decay x) (hy : Decay y) : Decay (x * y) := by
  obtain ⟨r, hr, rfl⟩ := hx
  obtain ⟨s, hs, rfl⟩ := hy
  exact ⟨r * s, mul_nonneg hr hs, (EReal.coe_mul r s).symm⟩

/-- The exponential of a number below plus infinity is a decay. -/
theorem decay_exp {x : EReal} (h : x ≠ ⊤) : Decay (Ideal.exp x) := by
  induction x with
  | bot => exact ⟨0, le_rfl, rfl⟩
  | top => exact absurd rfl h
  | coe r => exact ⟨Real.exp r, (Real.exp_pos r).le, rfl⟩

/-- The two spellings of a step's gain, before the root. -/
theorem gain {x : EReal} (h : x ≠ ⊤) : (0 - Ideal.tanh x) * (Ideal.exp x * Ideal.exp x + 1) = -(Ideal.exp (2 * x) - 1) := by
  induction x with
  | bot =>
    have e : (2 : EReal) * ⊥ = ⊥ := EReal.coe_mul_bot_of_pos (by norm_num : (0 : ℝ) < 2)
    rw [e]
    show (0 - (-1 : EReal)) * (0 * 0 + 1) = -(0 - 1)
    simp
  | top => exact absurd rfl h
  | coe r =>
    have e : (2 : EReal) * (r : EReal) = ((2 * r : ℝ) : EReal) := by rw [EReal.coe_mul]; rfl
    rw [e]
    show (0 - (Real.tanh r : EReal)) * ((Real.exp r : EReal) * (Real.exp r : EReal) + 1) = -((Real.exp (2 * r) : EReal) - 1)
    rw [← EReal.coe_zero, ← EReal.coe_one, ← EReal.coe_sub, ← EReal.coe_mul, ← EReal.coe_add, ← EReal.coe_mul, ← EReal.coe_sub, ← EReal.coe_neg]
    congr 1
    have h2 : Real.exp (2 * r) = Real.exp r * Real.exp r := by rw [← Real.exp_add]; ring_nf
    have hp := Real.exp_pos r
    rw [h2, Real.tanh_eq_sinh_div_cosh, Real.sinh_eq, Real.cosh_eq, Real.exp_neg]
    field_simp
    ring

/-- One doubling: a step joined with the steps before it, where there are. -/
def joinA (d : Fin 8) (a : Fin 8 → EReal) (s : Fin 8) : EReal := if d ≤ s then a s * a (s - d) else a s
def joinB (d : Fin 8) (a b : Fin 8 → EReal) (s : Fin 8) : EReal := if d ≤ s then a s * b (s - d) + b s else b s

/-- A group of eight steps joined by three doublings, applied to the state before. -/
def group (a b : Fin 8 → EReal) (h : EReal) (s : Fin 8) : EReal :=
  joinA 4 (joinA 2 (joinA 1 a)) s * h + joinB 4 (joinA 2 (joinA 1 a)) (joinB 2 (joinA 1 a) (joinB 1 a b)) s

/-- The doublings give the states of the recurrence. -/
theorem group_eq (a b : Fin 8 → EReal) (h : EReal) (ha : ∀ s, Decay (a s)) (A B : ℕ → EReal)
    (hA : ∀ s : Fin 8, A s.val = a s) (hB : ∀ s : Fin 8, B s.val = b s) (s : Fin 8) : group a b h s = states A B h s.val := by
  have d := fun s => decay_add (ha s)
  have hA0 : A 0 = a 0 := hA 0
  have hA1 : A 1 = a 1 := hA 1
  have hA2 : A 2 = a 2 := hA 2
  have hA3 : A 3 = a 3 := hA 3
  have hA4 : A 4 = a 4 := hA 4
  have hA5 : A 5 = a 5 := hA 5
  have hA6 : A 6 = a 6 := hA 6
  have hA7 : A 7 = a 7 := hA 7
  have hB0 : B 0 = b 0 := hB 0
  have hB1 : B 1 = b 1 := hB 1
  have hB2 : B 2 = b 2 := hB 2
  have hB3 : B 3 = b 3 := hB 3
  have hB4 : B 4 = b 4 := hB 4
  have hB5 : B 5 = b 5 := hB 5
  have hB6 : B 6 = b 6 := hB 6
  have hB7 : B 7 = b 7 := hB 7
  fin_cases s <;>
    simp [group, joinA, joinB, states, d, mul_assoc, add_assoc, hA0, hA1, hA2, hA3, hA4, hA5, hA6, hA7, hB0, hB1, hB2, hB3, hB4, hB5, hB6, hB7]

/-- The states after eight steps are those of the steps that follow. -/
theorem states_add (a b : ℕ → EReal) (h : EReal) (n : ℕ) : states a b h (n + 8) = states (fun k => a (k + 8)) (fun k => b (k + 8)) (states a b h 7) n := by
  induction n with
  | zero => rfl
  | succ n ih =>
    show a (n + 8 + 1) * states a b h (n + 8) + b (n + 8 + 1) = a (n + 1 + 8) * _ + b (n + 1 + 8)
    rw [ih]

/-- The literals minus eight and two. -/
theorem lit_neg8 : Ideal.ofBits .f32 0xC1000000#32 = -8 := by
  simp [Ideal.ofBits, Ideal.ieee]
  have h : (8388608 : ℝ) * (2 ^ 20)⁻¹ = 8 := by norm_num
  show ((8388608 : ℝ) : EReal) * (((2 ^ 20 : ℝ)⁻¹ : ℝ) : EReal) = 8
  rw [← EReal.coe_mul, h]
  rfl

theorem lit_two : Ideal.ofBits .f32 0x40000000#32 = 2 := by
  simp [Ideal.ofBits, Ideal.ieee]
  have h : (8388608 : ℝ) * (2 ^ 22)⁻¹ = 2 := by norm_num
  show ((8388608 : ℝ) : EReal) * (((2 ^ 22 : ℝ)⁻¹ : ℝ) : EReal) = 2
  rw [← EReal.coe_mul, h]
  rfl

theorem logistic_nonneg (x : EReal) : 0 ≤ Ideal.logistic x := by
  induction x with
  | bot => simp
  | top => simp
  | coe r =>
    rw [Ideal.logistic_coe]
    exact_mod_cast inv_nonneg.mpr (add_pos one_pos (Real.exp_pos _)).le

theorem log1p_exp_nonneg (x : EReal) : 0 ≤ Ideal.log1p (Ideal.exp x) := by
  induction x with
  | bot =>
    show 0 ≤ Ideal.log (1 + 0)
    rw [add_zero, ← EReal.coe_one, Ideal.log_coe, if_neg (by norm_num), Real.log_one]
    exact le_refl _
  | top =>
    show 0 ≤ Ideal.log (1 + ⊤)
    rw [← EReal.coe_one, EReal.coe_add_top]
    exact le_top
  | coe r =>
    show 0 ≤ Ideal.log (1 + (Real.exp r : EReal))
    have hp := Real.exp_pos r
    rw [← EReal.coe_one, ← EReal.coe_add, Ideal.log_coe, if_neg (by linarith)]
    exact_mod_cast Real.log_nonneg (by linarith)

end Cert.Rglru

end
-- ==== Proof.RglruPay.lean ====
/-  The gated recurrence's payload: what the kernel computes of a frame, at an element. -/
module

public import proofs.«01_k».proof.Proof.Gen.RglruSIdeal.Skeleton
public import proofs.«01_k».proof.Proof.RglruMath
public import Idealize.ShloMosaic.Lib.IdealHost
public import Idealize.ShloMosaic.Lib.Pointwise
public import Idealize.ShloMosaic.Lib.Pipeline.ValueKit
public import Idealize.ShloMosaic.Lib.Pipeline.Value

@[expose] public section

set_option maxRecDepth 16384

noncomputable section

namespace Cert.RglruSIdeal.Hand

open Cert.RglruSIdeal Cert.RglruSIdeal.Gen Idealize.ShloMosaic

/-- The literal one. -/
abbrev one : EReal := Ideal.ofBits .f32 0x3F800000#32

/-- The softplus of minus the parameter, and the rate of a column: minus eight times it. -/
def splus (l : EReal) : EReal := max (-l) 0 + Ideal.log1p (Ideal.exp (-max (-l) (-(-l))))
def rate (l : EReal) : EReal := Ideal.ofBits .f32 0xC1000000#32 * splus l

/-- A frame of the columns with the three before the first. -/
def row (x0 : Vec Ideal S16x1536 .f32) (x9 : Vec Ideal S1x3x1536 .f32) (n : ℕ) (hn : n < 19) (D : Fin 1536) : EReal :=
  if h : n < 3 then x9 (ix3 (0 : Fin 1) (⟨n, h⟩ : Fin 3) D) else x0 (ix2 (⟨n - 3, by omega⟩ : Fin 16) D)

/-- The convolution over four frames. -/
def conv (x0 : Vec Ideal S16x1536 .f32) (x2 : Vec Ideal S4x1536 .f32) (x3 : Vec Ideal S1x1536 .f32) (x9 : Vec Ideal S1x3x1536 .f32) (s : Fin 16) (D : Fin 1536) : EReal :=
  x3 (ix2 (0 : Fin 1) D) + row x0 x9 s.val (by omega) D * x2 (ix2 (0 : Fin 4) D) + row x0 x9 (s.val + 1) (by omega) D * x2 (ix2 (1 : Fin 4) D)
    + row x0 x9 (s.val + 2) (by omega) D * x2 (ix2 (2 : Fin 4) D) + row x0 x9 (s.val + 3) (by omega) D * x2 (ix2 (3 : Fin 4) D)

/-- A block's product with its bias, through the sigmoid. -/
def gate (u : Fin 16 → Fin 1536 → EReal) (w : Vec Ideal S12x128x128 .bf16) (b : Vec Ideal S1x1536 .f32) (s : Fin 16) (D : Fin 1536) : EReal :=
  Ideal.logistic ((∑ e : Fin 128, u s ⟨128 * (D.val / 128) + e.val, by omega⟩ * w (ix3 (⟨D.val / 128, by omega⟩ : Fin 12) e (⟨D.val % 128, by omega⟩ : Fin 128)))
    + b (ix2 (0 : Fin 1) D))

/-- The decay and the gain of a step, from its two gates. -/
def decay (r l : EReal) : EReal := Ideal.exp (r * rate l)
def gain (r l g u : EReal) : EReal :=
  Ideal.sqrt ((0 - Ideal.tanh (r * rate l)) * (decay r l * decay r l + 1)) * (g * u)

theorem pay9_at (x : Vec Ideal S1x1536 .f32) (z : Fin 1) (D : Fin 1536) : k0_pay9 (F := Ideal) x (ix2 z D) = rate (x (ix2 z D)) := by
  unfold rate splus
  pointwise [k0_pay9]
  rw [if_neg (not_not.mpr rfl)]
  simp only [sub_eq_add_neg, zero_add]
  rfl

theorem conv_at (v7 v10 v17 v23 v29 : Vec Ideal S1x1536 .f32) (v9 v16 v22 v28 : Vec Ideal S16x1536 .f32) (s : Fin 16) (D : Fin 1536) :
    k0_pay7 (F := Ideal) (k0_pay5 v7 v9 v10 v16 v17 v22 v23) v28 (k0_pay6 v29) (ix2 s D)
      = v7 (ix2 (0 : Fin 1) D) + v9 (ix2 s D) * v10 (ix2 (0 : Fin 1) D) + v16 (ix2 s D) * v17 (ix2 (0 : Fin 1) D) + v22 (ix2 s D) * v23 (ix2 (0 : Fin 1) D)
        + v28 (ix2 s D) * v29 (ix2 (0 : Fin 1) D) := by
  pointwise [k0_pay7, k0_pay5, k0_pay6]

/-- The rate's gate of a block, before the exponential: the form of all twelve. -/
def logs (o : ℕ) (h1 : S16x1536.Slices ![0, o] S16x128) (h2 : S1x1536.Slices ![0, o] S1x128) (uc : FVec Ideal S16x1536 .f32) (sp : FVec Ideal S1x1536 .f32)
    (w : Vec Ideal S1x128x128 .bf16) (b : Vec Ideal S1x128 .f32) : FVec Ideal S16x128 .f32 :=
  mulf (logistic (addf (matmul dot_S16x128_S128x128_S16x128_1_0_0_1_n_n none (truncf .bf16 (extractStridedSlice S16x128 ![0, o] uc h1) bitsLt_bf16_f32)
      (shapeCast S128x128 w shapeCasts_S1x128x128_S128x128 : FVec Ideal S128x128 .bf16) (constant S16x128 .f32 0x00000000#32)) (broadcastTo S16x128 (shapeCast S1x128 b shapeCasts_S1x128_S1x128) broadcasts_S1x128_S16x128)))
    (broadcastTo S16x128 (extractStridedSlice S1x128 ![0, o] sp h2) broadcasts_S1x128_S16x128)

theorem logs_at (o : ℕ) (h1 : S16x1536.Slices ![0, o] S16x128) (h2 : S1x1536.Slices ![0, o] S1x128) (uc : FVec Ideal S16x1536 .f32) (sp : FVec Ideal S1x1536 .f32)
    (w : Vec Ideal S1x128x128 .bf16) (b : Vec Ideal S1x128 .f32) (s : Fin 16) (d : Fin 128) (D : Fin 1536) (hD : D.val = o + d.val) (U : Fin 128 → EReal)
    (hU : ∀ (e : Fin 128) (E : Fin 1536), E.val = o + e.val → uc (ix2 s E) = U e) :
    logs o h1 h2 uc sp w b (ix2 s d) = Ideal.logistic ((∑ e : Fin 128, U e * w (ix3 (0 : Fin 1) e d)) + b (ix2 (0 : Fin 1) d)) * sp (ix2 (0 : Fin 1) D) := by
  have e : (⟨o + d.val, by omega⟩ : Fin 1536) = D := Fin.ext hD.symm
  pointwise [logs]
  rw [e]
  refine congrArg (fun z => Ideal.logistic (z + b (ix2 (0 : Fin 1) d)) * sp (ix2 (0 : Fin 1) D)) (Finset.sum_congr rfl fun x _ => ?_)
  rw [hU x _ rfl]

/-- The decays of a block, as stored. -/
def blkA (la : FVec Ideal S16x128 .f32) : FVec Ideal S16x128 .f32 := shapeCast S16x128 (exp la) shapeCasts_S16x128_S16x128

/-- The gains of a block, as stored. -/
def blkB (o : ℕ) (h1 : S16x1536.Slices ![0, o] S16x128) (la : FVec Ideal S16x128 .f32) (uc : FVec Ideal S16x1536 .f32)
    (w : Vec Ideal S1x128x128 .bf16) (b : Vec Ideal S1x128 .f32) : FVec Ideal S16x128 .f32 :=
  shapeCast S16x128 (mulf (sqrt (mulf (subf (broadcast S16x128 (Scalar.ofBits .f32 0x00000000#32)) (tanh la)) (addf (mulf (exp la) (exp la)) (broadcast S16x128 (Scalar.ofBits .f32 0x3F800000#32)))))
    (mulf (logistic (addf (matmul dot_S16x128_S128x128_S16x128_1_0_0_1_n_n none (truncf .bf16 (extractStridedSlice S16x128 ![0, o] uc h1) bitsLt_bf16_f32)
      (shapeCast S128x128 w shapeCasts_S1x128x128_S128x128 : FVec Ideal S128x128 .bf16) (constant S16x128 .f32 0x00000000#32)) (broadcastTo S16x128 (shapeCast S1x128 b shapeCasts_S1x128_S1x128) broadcasts_S1x128_S16x128)))
      (extractStridedSlice S16x128 ![0, o] uc h1))) shapeCasts_S16x128_S16x128

theorem blkA_at (la : FVec Ideal S16x128 .f32) (s : Fin 16) (d : Fin 128) : blkA la (ix2 s d) = Ideal.exp (la (ix2 s d)) := by
  pointwise [blkA]

theorem blkB_at (o : ℕ) (h1 : S16x1536.Slices ![0, o] S16x128) (la : FVec Ideal S16x128 .f32) (uc : FVec Ideal S16x1536 .f32)
    (w : Vec Ideal S1x128x128 .bf16) (b : Vec Ideal S1x128 .f32) (s : Fin 16) (d : Fin 128) (D : Fin 1536) (hD : D.val = o + d.val) (U : Fin 128 → EReal)
    (hU : ∀ (e : Fin 128) (E : Fin 1536), E.val = o + e.val → uc (ix2 s E) = U e) :
    blkB o h1 la uc w b (ix2 s d) = Ideal.sqrt ((0 - Ideal.tanh (la (ix2 s d))) * (Ideal.exp (la (ix2 s d)) * Ideal.exp (la (ix2 s d)) + 1))
      * (Ideal.logistic ((∑ e : Fin 128, U e * w (ix3 (0 : Fin 1) e d)) + b (ix2 (0 : Fin 1) d)) * U d) := by
  have e : (⟨o + d.val, by omega⟩ : Fin 1536) = D := Fin.ext hD.symm
  pointwise [blkB]
  rw [e, hU d D hD]
  refine congrArg (fun z => Ideal.sqrt ((0 - Ideal.tanh (la (ix2 s d))) * (Ideal.exp (la (ix2 s d)) * Ideal.exp (la (ix2 s d)) + 1)) * (Ideal.logistic (z + b (ix2 (0 : Fin 1) d)) * U d)) (Finset.sum_congr rfl fun x _ => ?_)
  rw [hU x _ rfl]

/-- The gate of the output, at an element. -/
def gelu (x : EReal) : EReal :=
  x * (Ideal.ofBits .f32 0x3F000000#32 * (one + Ideal.tanh (Ideal.ofBits .f32 0x3F4C422A#32 * (x + Ideal.ofBits .f32 0x3D372713#32 * (x * (x * x))))))

theorem pay113_at (h z : Vec Ideal S16x1536 .f32) (s : Fin 16) (D : Fin 1536) : k0_pay113 (F := Ideal) h z (ix2 s D) = h (ix2 s D) * gelu (z (ix2 s D)) := by
  unfold gelu
  pointwise [k0_pay113]

/-- One doubling of eight rows: the rows rotated, and the rows it does not wrap joined. -/
def shift (d : ℕ) (v : FVec Ideal S8x1536 .f32) : FVec Ideal S8x1536 .f32 := dynamicRotate 0 (BitVec.ofNat 32 d) none v rotates_S8x1536_d0
def since (d : ℕ) (x y : FVec Ideal S8x1536 .f32) : FVec Ideal S8x1536 .f32 :=
  select (cmpi .sge (iota .tc S8x1536 32 [0] iota_S8x1536_d0_w32) (broadcast S8x1536 (BitVec.ofNat 32 d))) x y
def opA (d : ℕ) (a : FVec Ideal S8x1536 .f32) : FVec Ideal S8x1536 .f32 := since d (mulf a (shift d a)) a
def opB (d : ℕ) (a b : FVec Ideal S8x1536 .f32) : FVec Ideal S8x1536 .f32 := since d (addf (mulf a (shift d b)) b) b

theorem shift_at (d : Fin 8) (v : FVec Ideal S8x1536 .f32) (s : Fin 8) (D : Fin 1536) : shift d.val v (ix2 s D) = v (ix2 (s - d) D) := by
  refine congrArg v (funext fun a => ?_)
  match a with
  | ⟨0, _⟩ => exact (by decide +kernel : ∀ s d : Fin 8, (⟨(s.val + 8 - (BitVec.ofNat 32 d.val).toNat % 8) % 8, Nat.mod_lt _ (by decide)⟩ : Fin 8) = s - d) s d
  | ⟨1, _⟩ => rfl

theorem since_at (d : Fin 8) (x y : FVec Ideal S8x1536 .f32) (s : Fin 8) (D : Fin 1536) : since d.val x y (ix2 s D) = if d ≤ s then x (ix2 s D) else y (ix2 s D) := by
  have h : (IntOp.cmpi .sge (BitVec.ofNat 32 s.val) (BitVec.ofNat 32 d.val) = 1#1) = (d ≤ s) :=
    (by decide +kernel : ∀ s d : Fin 8, (IntOp.cmpi .sge (BitVec.ofNat 32 s.val) (BitVec.ofNat 32 d.val) = 1#1) = (d ≤ s)) s d
  pointwise [since]
  by_cases hd : d ≤ s
  · rw [if_pos hd, h.mpr hd]; rfl
  · have h0 := (by decide : ∀ w : BitVec 1, w ≠ 1#1 → w = 0#1) _ fun z => hd (h.mp z)
    rw [if_neg hd, h0]; rfl

theorem opA_at (d : Fin 8) (a : FVec Ideal S8x1536 .f32) (s : Fin 8) (D : Fin 1536) : opA d.val a (ix2 s D) = Cert.Rglru.joinA d (fun s => a (ix2 s D)) s := by
  unfold opA Cert.Rglru.joinA
  rw [since_at]
  exact if_congr Iff.rfl (congrArg (a (ix2 s D) * ·) (shift_at d a s D)) rfl

theorem opB_at (d : Fin 8) (a b : FVec Ideal S8x1536 .f32) (s : Fin 8) (D : Fin 1536) :
    opB d.val a b (ix2 s D) = Cert.Rglru.joinB d (fun s => a (ix2 s D)) (fun s => b (ix2 s D)) s := by
  unfold opB Cert.Rglru.joinB
  rw [since_at]
  exact if_congr Iff.rfl (congrArg (fun z => a (ix2 s D) * z + b (ix2 s D)) (shift_at d b s D)) rfl

/-- A group of eight steps, at an element. -/
theorem pay108_at (h : Vec Ideal S1x1536 .f32) (a b : Vec Ideal S8x1536 .f32) (s : Fin 8) (D : Fin 1536) :
    k0_pay108 (F := Ideal) h a b (ix2 s D) = Cert.Rglru.group (fun s => a (ix2 s D)) (fun s => b (ix2 s D)) (h (ix2 (0 : Fin 1) D)) s := by
  have e : k0_pay108 (F := Ideal) h a b = addf (mulf (opA 4 (opA 2 (opA 1 a))) (broadcastTo S8x1536 h broadcasts_S1x1536_S8x1536)) (opB 4 (opA 2 (opA 1 a)) (opB 2 (opA 1 a) (opB 1 a b))) := rfl
  have a1 : (fun s => opA 1 a (ix2 s D)) = Cert.Rglru.joinA 1 (fun s => a (ix2 s D)) := funext fun s => opA_at 1 a s D
  have a2 : (fun s => opA 2 (opA 1 a) (ix2 s D)) = Cert.Rglru.joinA 2 (Cert.Rglru.joinA 1 (fun s => a (ix2 s D))) := funext fun s => (opA_at 2 (opA 1 a) s D).trans (by rw [a1])
  have b1 : (fun s => opB 1 a b (ix2 s D)) = Cert.Rglru.joinB 1 (fun s => a (ix2 s D)) (fun s => b (ix2 s D)) := funext fun s => opB_at 1 a b s D
  have b2 : (fun s => opB 2 (opA 1 a) (opB 1 a b) (ix2 s D)) = Cert.Rglru.joinB 2 (Cert.Rglru.joinA 1 (fun s => a (ix2 s D))) (Cert.Rglru.joinB 1 (fun s => a (ix2 s D)) (fun s => b (ix2 s D))) :=
    funext fun s => (opB_at 2 (opA 1 a) (opB 1 a b) s D).trans (by rw [a1, b1])
  have a4 := (opA_at 4 (opA 2 (opA 1 a)) s D).trans (by rw [a2])
  have b4 := (opB_at 4 (opA 2 (opA 1 a)) (opB 2 (opA 1 a) (opB 1 a b)) s D).trans (by rw [a2, b2])
  rw [e]
  unfold Cert.Rglru.group
  refine congrArg₂ (· + ·) (congrArg₂ (· * ·) a4 ?_) b4
  pointwise

theorem pay109_at (h : Vec Ideal S1x1536 .f32) (a b : Vec Ideal S8x1536 .f32) (s : Fin 8) (D : Fin 1536) :
    k0_pay109 (F := Ideal) h a b (ix2 s D) = Cert.Rglru.group (fun s => a (ix2 s D)) (fun s => b (ix2 s D)) (h (ix2 (0 : Fin 1) D)) s := by
  rw [← pay108_at]
  pointwise [k0_pay109]

theorem pay110_at (h : Vec Ideal S1x1536 .f32) (a b : Vec Ideal S8x1536 .f32) (z : Fin 1) (D : Fin 1536) :
    k0_pay110 (F := Ideal) h a b (ix2 z D) = Cert.Rglru.group (fun s => a (ix2 s D)) (fun s => b (ix2 s D)) (h (ix2 (0 : Fin 1) D)) 7 := by
  rw [← pay108_at]
  obtain rfl : z = 0 := Subsingleton.elim _ _
  pointwise [k0_pay110]

end Cert.RglruSIdeal.Hand

end
-- ==== Proof.RglruRun.lean ====
/-  The gated recurrence's run: what the scratch buffers hold before the loop, what a trip of the loop stores, and what the
  point leaves in its two output windows, at an element. -/
module

public import proofs.«01_k».proof.Proof.Gen.RglruSIdeal.Frame
public import proofs.«01_k».proof.Proof.RglruPay
public import Idealize.ShloMosaic.Lib.Claim
public import Idealize.ShloMosaic.Lib.IdealHost
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.RglruSIdeal.Hand

open Cert.RglruSIdeal Cert.RglruSIdeal.Gen Idealize.ShloMosaic Idealize.ShloMosaic.TcCoe Idealize.SL.Sem

/-- A load of a rectangle, at an element. -/
theorem ld2 {n m p q : ℕ} {e : EltTy} (x : Vec Ideal ⟨2, ![n, m]⟩ e) (o o' : ℕ) (inb : ∀ a, (![o, o'] : Fin 2 → ℕ) a + (![p, q] : Fin 2 → ℕ) a ≤ (![n, m] : Fin 2 → ℕ) a)
    (r : Fin p) (d : Fin q) (R : Fin n) (D : Fin m) (hR : R.val = o + r.val) (hD : D.val = o' + d.val) :
    View.ld x (Rect.unit (s := ⟨2, ![n, m]⟩) ![o, o'] ![p, q] inb) (ix2 r d) = x (ix2 R D) := by
  refine congrArg x (funext fun a => ?_)
  match a with
  | ⟨0, _⟩ => exact Fin.ext (by show o + 1 * r.val = R.val; omega)
  | ⟨1, _⟩ => exact Fin.ext (by show o' + 1 * d.val = D.val; omega)

theorem ld3 {l n m k p q : ℕ} {e : EltTy} (x : Vec Ideal ⟨3, ![l, n, m]⟩ e) (o o' o'' : ℕ) (inb : ∀ a, (![o, o', o''] : Fin 3 → ℕ) a + (![k, p, q] : Fin 3 → ℕ) a ≤ (![l, n, m] : Fin 3 → ℕ) a)
    (z : Fin k) (r : Fin p) (d : Fin q) (Z : Fin l) (R : Fin n) (D : Fin m) (hZ : Z.val = o + z.val) (hR : R.val = o' + r.val) (hD : D.val = o'' + d.val) :
    View.ld x (Rect.unit (s := ⟨3, ![l, n, m]⟩) ![o, o', o''] ![k, p, q] inb) (ix3 z r d) = x (ix3 Z R D) := by
  refine congrArg x (funext fun a => ?_)
  match a with
  | ⟨0, _⟩ => exact Fin.ext (by show o + 1 * z.val = Z.val; omega)
  | ⟨1, _⟩ => exact Fin.ext (by show o' + 1 * r.val = R.val; omega)
  | ⟨2, _⟩ => exact Fin.ext (by show o'' + 1 * d.val = D.val; omega)

/-- The decays and gains of the point's frames. -/
def dec (x0 : Vec Ideal S16x1536 .f32) (x2 : Vec Ideal S4x1536 .f32) (x3 : Vec Ideal S1x1536 .f32) (x4 : Vec Ideal S12x128x128 .bf16) (x5 : Vec Ideal S1x1536 .f32) (x8 : Vec Ideal S1x1536 .f32) (x9 : Vec Ideal S1x3x1536 .f32)
    (s : Fin 16) (D : Fin 1536) : EReal := decay (gate (conv x0 x2 x3 x9) x4 x5 s D) (x8 (ix2 (0 : Fin 1) D))
def gai (x0 : Vec Ideal S16x1536 .f32) (x2 : Vec Ideal S4x1536 .f32) (x3 : Vec Ideal S1x1536 .f32) (x4 : Vec Ideal S12x128x128 .bf16) (x5 : Vec Ideal S1x1536 .f32) (x6 : Vec Ideal S12x128x128 .bf16) (x7 x8 : Vec Ideal S1x1536 .f32) (x9 : Vec Ideal S1x3x1536 .f32)
    (s : Fin 16) (D : Fin 1536) : EReal := gain (gate (conv x0 x2 x3 x9) x4 x5 s D) (x8 (ix2 (0 : Fin 1) D)) (gate (conv x0 x2 x3 x9) x6 x7 s D) (conv x0 x2 x3 x9 s D)

/-- A product of a block of columns: the block's columns are those of its number. -/
theorem gate_at (u : Fin 16 → Fin 1536 → EReal) (w : Vec Ideal S12x128x128 .bf16) (b : Vec Ideal S1x1536 .f32) (s : Fin 16) (D : Fin 1536) (n : Fin 12) (d : Fin 128)
    (hD : D.val = 128 * n.val + d.val) : gate u w b s D
      = Ideal.logistic ((∑ e : Fin 128, u s ⟨128 * n.val + e.val, by omega⟩ * w (ix3 n e d)) + b (ix2 (0 : Fin 1) D)) := by
  have e1 : (⟨D.val / 128, by omega⟩ : Fin 12) = n := Fin.ext (by show D.val / 128 = n.val; omega)
  have e2 : (⟨D.val % 128, by omega⟩ : Fin 128) = d := Fin.ext (by show D.val % 128 = d.val; omega)
  have e3 : D.val / 128 = n.val := congrArg Fin.val e1
  unfold gate
  simp only [e1, e2, e3]

variable (c : Dev nD) (i : grid0.Coords) (arg2 : Memref sig .tc .vmem S16x1536 .f32) (harg2 : arg2.IsWhole) (arg3 : Memref sig .tc .vmem S16x1536 .f32) (harg3 : arg3.IsWhole) (arg4 : Memref sig .tc .vmem S4x1536 .f32) (harg4 : arg4.IsWhole) (arg5 : Memref sig .tc .vmem S1x1536 .f32) (harg5 : arg5.IsWhole) (arg6 : Memref sig .tc .vmem S12x128x128 .bf16) (harg6 : arg6.IsWhole) (arg7 : Memref sig .tc .vmem S1x1536 .f32) (harg7 : arg7.IsWhole) (arg8 : Memref sig .tc .vmem S12x128x128 .bf16) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S16x1536 .bf16) (harg13 : arg13.IsWhole) (arg14 : Memref sig .tc .vmem S1x1x1536 .f32) (harg14 : arg14.IsWhole) (arg15 : Memref sig .tc .vmem S24x1536 .f32) (harg15 : arg15.IsWhole) (arg16 : Memref sig .tc .vmem S16x1536 .f32) (harg16 : arg16.IsWhole) (arg17 : Memref sig .tc .vmem S16x1536 .f32) (harg17 : arg17.IsWhole) (arg18 : Memref sig .tc .vmem S1x1536 .f32) (harg18 : arg18.IsWhole) (hc0 : cond0_0 i)
    (x0 : Vec Ideal S16x1536 .f32) (x1 : Vec Ideal S16x1536 .f32) (x2 : Vec Ideal S4x1536 .f32) (x3 : Vec Ideal S1x1536 .f32) (x4 : Vec Ideal S12x128x128 .bf16) (x5 : Vec Ideal S1x1536 .f32) (x6 : Vec Ideal S12x128x128 .bf16) (x7 : Vec Ideal S1x1536 .f32) (x8 : Vec Ideal S1x1536 .f32) (x9 : Vec Ideal S1x3x1536 .f32) (x10 : Vec Ideal S1x1x1536 .f32)

/-- The convolved frames that the scratch of the frames gives. -/
theorem ext_at (o : ℕ) (ho : 5 ≤ o ∧ o ≤ 8) (inb : ∀ a, (![o, 0] : Fin 2 → ℕ) a + S16x1536.size a ≤ S24x1536.size a) (s : Fin 16) (D : Fin 1536) (k : ℕ) (hk : k < 19) (hks : k + 5 = o + s.val) :
    arg15.view.readCov (kernelRun0_A.sl.HS0_3 c arg2 harg2 arg11 harg11 x0 x9) (Rect.unit (s := S24x1536) ![o, 0] S16x1536.size inb).toLoadRect (ix2 s D) = row x0 x9 k hk D := by
  unfold kernelRun0_A.sl.HS0_3
  simp only [View.readAt_eq_ld, harg2.read_unread, harg11.read_unread]
  have hs := s.isLt
  show arg15.view.read (Elt Ideal) (arg15.view.writes (Elt Ideal) arg15.view.junk _) ((Rect.unit (s := S24x1536) ![o, 0] S16x1536.size inb).emb (ix2 s D)) = _
  have e : (Rect.unit (s := S24x1536) ![o, 0] S16x1536.size inb).emb (ix2 s D) = ix2 (⟨o + s.val, by omega⟩ : Fin 24) D := by
    funext a
    match a with
    | ⟨0, _⟩ => exact Fin.ext (by show o + 1 * s.val = o + s.val; omega)
    | ⟨1, _⟩ => exact Fin.ext (by show 0 + 1 * D.val = D.val; omega)
  rw [e]
  unfold row
  by_cases h : k < 3
  · rw [dif_pos h]
    rw [View.read_writes_cons_miss_of_axis _ _ _ _ _ (0 : Fin 2) 8 16 rfl rfl rfl (Or.inl (by show o + s.val < 8; omega))]
    refine (View.read_writes_cons_hit_of_coords _ _ (Rect.unit (s := S24x1536) ![5, 0] S3x1536.size inb_S24x1536_S3x1536_5_0) _ _ (ix2 (⟨k, h⟩ : Fin 3) D) _ ?_).trans ?_
    · intro a
      match a with
      | ⟨0, _⟩ => show o + s.val = 5 + 1 * k; omega
      | ⟨1, _⟩ => show D.val = 0 + 1 * D.val; omega
    · pointwise [k0_pay2]
  · rw [dif_neg h]
    refine (View.read_writes_cons_hit_of_coords _ _ (Rect.unit (s := S24x1536) ![8, 0] S16x1536.size inb_S24x1536_S16x1536_8_0) _ _ (ix2 (⟨k - 3, by omega⟩ : Fin 16) D) _ ?_).trans ?_
    · intro a
      match a with
      | ⟨0, _⟩ => show o + s.val = 8 + 1 * (k - 3); omega
      | ⟨1, _⟩ => show D.val = 0 + 1 * D.val; omega
    · pointwise [k0_pay4]

theorem uc_at (s : Fin 16) (D : Fin 1536) : kernelRun0_A.sl.r_3 (F := Ideal) c arg2 harg2 arg4 harg4 arg5 harg5 arg11 harg11 arg15 x0 x2 x3 x9 (ix2 s D) = conv x0 x2 x3 x9 s D := by
  unfold kernelRun0_A.sl.r_3 kernelRun0_A.sl.r_1 kernelRun0_A.sl.r_2 kernelRun0_A.sl.v9 kernelRun0_A.sl.v16 kernelRun0_A.sl.v22 kernelRun0_A.sl.v28
  simp only [View.readAt_eq_ld, harg4.read_unread, harg5.read_unread]
  rw [conv_at]
  unfold conv
  exact congrArg₂ (· + ·) (congrArg₂ (· + ·) (congrArg₂ (· + ·) (congrArg₂ (· + ·) (ld2 x3 0 0 _ (0 : Fin 1) D (0 : Fin 1) D rfl (Nat.zero_add _).symm)
    (congrArg₂ (· * ·) (ext_at c arg2 harg2 arg11 harg11 arg15 x0 x9 5 (by omega) _ s D s.val (by omega) (by omega)) (ld2 x2 0 0 _ (0 : Fin 1) D (0 : Fin 4) D rfl (Nat.zero_add _).symm)))
    (congrArg₂ (· * ·) (ext_at c arg2 harg2 arg11 harg11 arg15 x0 x9 6 (by omega) _ s D (s.val + 1) (by omega) (by omega)) (ld2 x2 1 0 _ (0 : Fin 1) D (1 : Fin 4) D rfl (Nat.zero_add _).symm)))
    (congrArg₂ (· * ·) (ext_at c arg2 harg2 arg11 harg11 arg15 x0 x9 7 (by omega) _ s D (s.val + 2) (by omega) (by omega)) (ld2 x2 2 0 _ (0 : Fin 1) D (2 : Fin 4) D rfl (Nat.zero_add _).symm)))
    (congrArg₂ (· * ·) (ext_at c arg2 harg2 arg11 harg11 arg15 x0 x9 8 (by omega) _ s D (s.val + 3) (by omega) (by omega)) (ld2 x2 3 0 _ (0 : Fin 1) D (3 : Fin 4) D rfl (Nat.zero_add _).symm))

theorem sp_at (D : Fin 1536) : kernelRun0_A.sl.r_4 (F := Ideal) c arg10 harg10 x8 (ix2 (0 : Fin 1) D) = rate (x8 (ix2 (0 : Fin 1) D)) := by
  unfold kernelRun0_A.sl.r_4
  simp only [View.readAt_eq_ld, harg10.read_unread]
  rw [pay9_at]
  exact congrArg rate (ld2 x8 0 0 _ _ _ _ _ (by simp) (by simp))

/-- A piece of the decays is the decays there. -/
theorem pieceA (n : Fin 12) (o : ℕ) (ho : o = 128 * n.val) (h1 : S16x1536.Slices ![0, o] S16x128) (h2 : S1x1536.Slices ![0, o] S1x128) (inb : ∀ a, (![0, o] : Fin 2 → ℕ) a + S16x128.size a ≤ S16x1536.size a)
    (uc : FVec Ideal S16x1536 .f32) (sp : FVec Ideal S1x1536 .f32) (w : Vec Ideal S1x128x128 .bf16) (b : Vec Ideal S1x128 .f32)
    (huc : ∀ s D, uc (ix2 s D) = conv x0 x2 x3 x9 s D) (hsp : ∀ D, sp (ix2 (0 : Fin 1) D) = rate (x8 (ix2 (0 : Fin 1) D)))
    (hw : ∀ e d : Fin 128, w (ix3 (0 : Fin 1) e d) = x4 (ix3 n e d)) (hb : ∀ (d : Fin 128) (D : Fin 1536), D.val = o + d.val → b (ix2 (0 : Fin 1) d) = x5 (ix2 (0 : Fin 1) D))
    (p : View.Piece (Elt Ideal) S16x1536 .f32) (hp : p = ⟨Rect.unit (s := S16x1536) ![0, o] S16x128.size inb, blkA (logs o h1 h2 uc sp w b)⟩) (x : p.1.shape.Idx) :
    p.2 x = dec x0 x2 x3 x4 x5 x8 x9 (p.1.emb x 0) (p.1.emb x 1) := by
  subst hp
  obtain ⟨s, d, rfl⟩ : ∃ (s : Fin 16) (d : Fin 128), x = ix2 s d := ⟨x 0, x 1, funext fun a => match a with | ⟨0, _⟩ => rfl | ⟨1, _⟩ => rfl⟩
  have hn := n.isLt
  have hd := d.isLt
  have e0 : (Rect.unit (s := S16x1536) ![0, o] S16x128.size inb).emb (ix2 s d) 0 = s := Fin.ext (by show 0 + 1 * s.val = s.val; omega)
  have e1 : (Rect.unit (s := S16x1536) ![0, o] S16x128.size inb).emb (ix2 s d) 1 = (⟨o + d.val, by omega⟩ : Fin 1536) := Fin.ext (by show o + 1 * d.val = o + d.val; omega)
  show blkA (logs o h1 h2 uc sp w b) (ix2 s d) = dec x0 x2 x3 x4 x5 x8 x9 ((Rect.unit (s := S16x1536) ![0, o] S16x128.size inb).emb (ix2 s d) 0) ((Rect.unit (s := S16x1536) ![0, o] S16x128.size inb).emb (ix2 s d) 1)
  rw [e0, e1, blkA_at, logs_at o h1 h2 uc sp w b s d ⟨o + d.val, by omega⟩ rfl (fun e => conv x0 x2 x3 x9 s ⟨o + e.val, by omega⟩)
    (fun e E hE => (huc s E).trans (congrArg (conv x0 x2 x3 x9 s) (Fin.ext hE))), hsp, hb d ⟨o + d.val, by omega⟩ rfl]
  unfold dec decay
  rw [gate_at _ _ _ _ _ n d (by show o + d.val = _; omega)]
  simp only [hw, ho]

/-- A piece of the gains is the gains there. -/
theorem pieceB (n : Fin 12) (o : ℕ) (ho : o = 128 * n.val) (h1 : S16x1536.Slices ![0, o] S16x128) (h2 : S1x1536.Slices ![0, o] S1x128) (inb : ∀ a, (![0, o] : Fin 2 → ℕ) a + S16x128.size a ≤ S16x1536.size a)
    (uc : FVec Ideal S16x1536 .f32) (sp : FVec Ideal S1x1536 .f32) (w w' : Vec Ideal S1x128x128 .bf16) (b b' : Vec Ideal S1x128 .f32)
    (huc : ∀ s D, uc (ix2 s D) = conv x0 x2 x3 x9 s D) (hsp : ∀ D, sp (ix2 (0 : Fin 1) D) = rate (x8 (ix2 (0 : Fin 1) D)))
    (hw : ∀ e d : Fin 128, w (ix3 (0 : Fin 1) e d) = x4 (ix3 n e d)) (hb : ∀ (d : Fin 128) (D : Fin 1536), D.val = o + d.val → b (ix2 (0 : Fin 1) d) = x5 (ix2 (0 : Fin 1) D))
    (hw' : ∀ e d : Fin 128, w' (ix3 (0 : Fin 1) e d) = x6 (ix3 n e d)) (hb' : ∀ (d : Fin 128) (D : Fin 1536), D.val = o + d.val → b' (ix2 (0 : Fin 1) d) = x7 (ix2 (0 : Fin 1) D))
    (p : View.Piece (Elt Ideal) S16x1536 .f32) (hp : p = ⟨Rect.unit (s := S16x1536) ![0, o] S16x128.size inb, blkB o h1 (logs o h1 h2 uc sp w b) uc w' b'⟩) (x : p.1.shape.Idx) :
    p.2 x = gai x0 x2 x3 x4 x5 x6 x7 x8 x9 (p.1.emb x 0) (p.1.emb x 1) := by
  subst hp
  obtain ⟨s, d, rfl⟩ : ∃ (s : Fin 16) (d : Fin 128), x = ix2 s d := ⟨x 0, x 1, funext fun a => match a with | ⟨0, _⟩ => rfl | ⟨1, _⟩ => rfl⟩
  have hn := n.isLt
  have hd := d.isLt
  have e0 : (Rect.unit (s := S16x1536) ![0, o] S16x128.size inb).emb (ix2 s d) 0 = s := Fin.ext (by show 0 + 1 * s.val = s.val; omega)
  have e1 : (Rect.unit (s := S16x1536) ![0, o] S16x128.size inb).emb (ix2 s d) 1 = (⟨o + d.val, by omega⟩ : Fin 1536) := Fin.ext (by show o + 1 * d.val = o + d.val; omega)
  have hu := fun (e : Fin 128) (E : Fin 1536) (hE : E.val = o + e.val) => (huc s E).trans (congrArg (conv x0 x2 x3 x9 s) (Fin.ext hE : E = (⟨o + e.val, by omega⟩ : Fin 1536)))
  show blkB o h1 (logs o h1 h2 uc sp w b) uc w' b' (ix2 s d) = gai x0 x2 x3 x4 x5 x6 x7 x8 x9 ((Rect.unit (s := S16x1536) ![0, o] S16x128.size inb).emb (ix2 s d) 0) ((Rect.unit (s := S16x1536) ![0, o] S16x128.size inb).emb (ix2 s d) 1)
  rw [e0, e1, blkB_at o h1 _ uc w' b' s d ⟨o + d.val, by omega⟩ rfl (fun e => conv x0 x2 x3 x9 s ⟨o + e.val, by omega⟩) hu,
    logs_at o h1 h2 uc sp w b s d ⟨o + d.val, by omega⟩ rfl (fun e => conv x0 x2 x3 x9 s ⟨o + e.val, by omega⟩) hu, hsp, hb d ⟨o + d.val, by omega⟩ rfl, hb' d ⟨o + d.val, by omega⟩ rfl]
  unfold gai gain decay
  rw [gate_at _ _ _ _ _ n d (by show o + d.val = _; omega), gate_at _ _ _ _ _ n d (by show o + d.val = _; omega)]
  simp only [hw, hw', ho]

/-- The loads of a block's weights and biases. -/
theorem ldw (arg : Memref sig .tc .vmem S12x128x128 .bf16) (harg : arg.IsWhole) (x : Vec Ideal S12x128x128 .bf16) (n : Fin 12)
    (inb : ∀ a, (![n.val, 0, 0] : Fin 3 → ℕ) a + S1x128x128.size a ≤ S12x128x128.size a) (e d : Fin 128) :
    (View.readAt (Elt Ideal) arg.view (Rect.unit (s := S12x128x128) ![n.val, 0, 0] S1x128x128.size inb).toLoadRect (harg.unread x) : Vec Ideal S1x128x128 .bf16) (ix3 (0 : Fin 1) e d) = x (ix3 n e d) := by
  rw [View.readAt_eq_ld, harg.read_unread]
  exact ld3 x n.val 0 0 _ _ _ _ _ _ _ (by simp) (by simp) (by simp)

theorem ldb (arg : Memref sig .tc .vmem S1x1536 .f32) (harg : arg.IsWhole) (x : Vec Ideal S1x1536 .f32) (o : ℕ)
    (inb : ∀ a, (![0, o] : Fin 2 → ℕ) a + S1x128.size a ≤ S1x1536.size a) (d : Fin 128) (D : Fin 1536) (hD : D.val = o + d.val) :
    (View.readAt (Elt Ideal) arg.view (Rect.unit (s := S1x1536) ![0, o] S1x128.size inb).toLoadRect (harg.unread x) : Vec Ideal S1x128 .f32) (ix2 (0 : Fin 1) d) = x (ix2 (0 : Fin 1) D) := by
  rw [View.readAt_eq_ld, harg.read_unread]
  exact ld2 x 0 o _ _ _ _ _ rfl hD

/-- What the scratch of the decays is given. -/
theorem decays_at (p : View.Piece (Elt Ideal) S16x1536 .f32) (hp : p ∈ kernelRun0_A.sl.HS1_12 (F := Ideal) c arg2 harg2 arg4 harg4 arg5 harg5 arg6 harg6 arg7 harg7 arg10 harg10 arg11 harg11 arg15 x0 x2 x3 x4 x5 x8 x9) (x : p.1.shape.Idx) :
    p.2 x = dec x0 x2 x3 x4 x5 x8 x9 (p.1.emb x 0) (p.1.emb x 1) := by
  unfold kernelRun0_A.sl.HS1_12 at hp
  simp only [List.mem_cons, List.not_mem_nil, or_false] at hp
  rcases hp with h | h | h | h | h | h | h | h | h | h | h | h
  · exact pieceA x0 x2 x3 x4 x5 x8 x9 11 1408 rfl slices_S16x1536_o0_1408_S16x128 slices_S1x1536_o0_1408_S1x128 inb_S16x1536_S16x128_0_1408 _ _ _ _
      (uc_at c arg2 harg2 arg4 harg4 arg5 harg5 arg11 harg11 arg15 x0 x2 x3 x9) (sp_at c arg10 harg10 x8) (ldw arg6 harg6 x4 11 inb_S12x128x128_S1x128x128_11_0_0) (ldb arg7 harg7 x5 1408 inb_S1x1536_S1x128_0_1408) p h x
  · exact pieceA x0 x2 x3 x4 x5 x8 x9 10 1280 rfl slices_S16x1536_o0_1280_S16x128 slices_S1x1536_o0_1280_S1x128 inb_S16x1536_S16x128_0_1280 _ _ _ _
      (uc_at c arg2 harg2 arg4 harg4 arg5 harg5 arg11 harg11 arg15 x0 x2 x3 x9) (sp_at c arg10 harg10 x8) (ldw arg6 harg6 x4 10 inb_S12x128x128_S1x128x128_10_0_0) (ldb arg7 harg7 x5 1280 inb_S1x1536_S1x128_0_1280) p h x
  · exact pieceA x0 x2 x3 x4 x5 x8 x9 9 1152 rfl slices_S16x1536_o0_1152_S16x128 slices_S1x1536_o0_1152_S1x128 inb_S16x1536_S16x128_0_1152 _ _ _ _
      (uc_at c arg2 harg2 arg4 harg4 arg5 harg5 arg11 harg11 arg15 x0 x2 x3 x9) (sp_at c arg10 harg10 x8) (ldw arg6 harg6 x4 9 inb_S12x128x128_S1x128x128_9_0_0) (ldb arg7 harg7 x5 1152 inb_S1x1536_S1x128_0_1152) p h x
  · exact pieceA x0 x2 x3 x4 x5 x8 x9 8 1024 rfl slices_S16x1536_o0_1024_S16x128 slices_S1x1536_o0_1024_S1x128 inb_S16x1536_S16x128_0_1024 _ _ _ _
      (uc_at c arg2 harg2 arg4 harg4 arg5 harg5 arg11 harg11 arg15 x0 x2 x3 x9) (sp_at c arg10 harg10 x8) (ldw arg6 harg6 x4 8 inb_S12x128x128_S1x128x128_8_0_0) (ldb arg7 harg7 x5 1024 inb_S1x1536_S1x128_0_1024) p h x
  · exact pieceA x0 x2 x3 x4 x5 x8 x9 7 896 rfl slices_S16x1536_o0_896_S16x128 slices_S1x1536_o0_896_S1x128 inb_S16x1536_S16x128_0_896 _ _ _ _
      (uc_at c arg2 harg2 arg4 harg4 arg5 harg5 arg11 harg11 arg15 x0 x2 x3 x9) (sp_at c arg10 harg10 x8) (ldw arg6 harg6 x4 7 inb_S12x128x128_S1x128x128_7_0_0) (ldb arg7 harg7 x5 896 inb_S1x1536_S1x128_0_896) p h x
  · exact pieceA x0 x2 x3 x4 x5 x8 x9 6 768 rfl slices_S16x1536_o0_768_S16x128 slices_S1x1536_o0_768_S1x128 inb_S16x1536_S16x128_0_768 _ _ _ _
      (uc_at c arg2 harg2 arg4 harg4 arg5 harg5 arg11 harg11 arg15 x0 x2 x3 x9) (sp_at c arg10 harg10 x8) (ldw arg6 harg6 x4 6 inb_S12x128x128_S1x128x128_6_0_0) (ldb arg7 harg7 x5 768 inb_S1x1536_S1x128_0_768) p h x
  · exact pieceA x0 x2 x3 x4 x5 x8 x9 5 640 rfl slices_S16x1536_o0_640_S16x128 slices_S1x1536_o0_640_S1x128 inb_S16x1536_S16x128_0_640 _ _ _ _
      (uc_at c arg2 harg2 arg4 harg4 arg5 harg5 arg11 harg11 arg15 x0 x2 x3 x9) (sp_at c arg10 harg10 x8) (ldw arg6 harg6 x4 5 inb_S12x128x128_S1x128x128_5_0_0) (ldb arg7 harg7 x5 640 inb_S1x1536_S1x128_0_640) p h x
  · exact pieceA x0 x2 x3 x4 x5 x8 x9 4 512 rfl slices_S16x1536_o0_512_S16x128 slices_S1x1536_o0_512_S1x128 inb_S16x1536_S16x128_0_512 _ _ _ _
      (uc_at c arg2 harg2 arg4 harg4 arg5 harg5 arg11 harg11 arg15 x0 x2 x3 x9) (sp_at c arg10 harg10 x8) (ldw arg6 harg6 x4 4 inb_S12x128x128_S1x128x128_4_0_0) (ldb arg7 harg7 x5 512 inb_S1x1536_S1x128_0_512) p h x
  · exact pieceA x0 x2 x3 x4 x5 x8 x9 3 384 rfl slices_S16x1536_o0_384_S16x128 slices_S1x1536_o0_384_S1x128 inb_S16x1536_S16x128_0_384 _ _ _ _
      (uc_at c arg2 harg2 arg4 harg4 arg5 harg5 arg11 harg11 arg15 x0 x2 x3 x9) (sp_at c arg10 harg10 x8) (ldw arg6 harg6 x4 3 inb_S12x128x128_S1x128x128_3_0_0) (ldb arg7 harg7 x5 384 inb_S1x1536_S1x128_0_384) p h x
  · exact pieceA x0 x2 x3 x4 x5 x8 x9 2 256 rfl slices_S16x1536_o0_256_S16x128 slices_S1x1536_o0_256_S1x128 inb_S16x1536_S16x128_0_256 _ _ _ _
      (uc_at c arg2 harg2 arg4 harg4 arg5 harg5 arg11 harg11 arg15 x0 x2 x3 x9) (sp_at c arg10 harg10 x8) (ldw arg6 harg6 x4 2 inb_S12x128x128_S1x128x128_2_0_0) (ldb arg7 harg7 x5 256 inb_S1x1536_S1x128_0_256) p h x
  · exact pieceA x0 x2 x3 x4 x5 x8 x9 1 128 rfl slices_S16x1536_o0_128_S16x128 slices_S1x1536_o0_128_S1x128 inb_S16x1536_S16x128_0_128 _ _ _ _
      (uc_at c arg2 harg2 arg4 harg4 arg5 harg5 arg11 harg11 arg15 x0 x2 x3 x9) (sp_at c arg10 harg10 x8) (ldw arg6 harg6 x4 1 inb_S12x128x128_S1x128x128_1_0_0) (ldb arg7 harg7 x5 128 inb_S1x1536_S1x128_0_128) p h x
  · exact pieceA x0 x2 x3 x4 x5 x8 x9 0 0 rfl slices_S16x1536_o0_0_S16x128 slices_S1x1536_o0_0_S1x128 inb_S16x1536_S16x128_0_0 _ _ _ _
      (uc_at c arg2 harg2 arg4 harg4 arg5 harg5 arg11 harg11 arg15 x0 x2 x3 x9) (sp_at c arg10 harg10 x8) (ldw arg6 harg6 x4 0 inb_S12x128x128_S1x128x128_0_0_0) (ldb arg7 harg7 x5 0 inb_S1x1536_S1x128_0_0) p h x

/-- What the scratch of the gains is given. -/
theorem gains_at (p : View.Piece (Elt Ideal) S16x1536 .f32) (hp : p ∈ kernelRun0_A.sl.HS2_12 (F := Ideal) c arg2 harg2 arg4 harg4 arg5 harg5 arg6 harg6 arg7 harg7 arg8 harg8 arg9 harg9 arg10 harg10 arg11 harg11 arg15 x0 x2 x3 x4 x5 x6 x7 x8 x9) (x : p.1.shape.Idx) :
    p.2 x = gai x0 x2 x3 x4 x5 x6 x7 x8 x9 (p.1.emb x 0) (p.1.emb x 1) := by
  unfold kernelRun0_A.sl.HS2_12 at hp
  simp only [List.mem_cons, List.not_mem_nil, or_false] at hp
  rcases hp with h | h | h | h | h | h | h | h | h | h | h | h
  · exact pieceB x0 x2 x3 x4 x5 x6 x7 x8 x9 11 1408 rfl slices_S16x1536_o0_1408_S16x128 slices_S1x1536_o0_1408_S1x128 inb_S16x1536_S16x128_0_1408 _ _ _ _ _ _
      (uc_at c arg2 harg2 arg4 harg4 arg5 harg5 arg11 harg11 arg15 x0 x2 x3 x9) (sp_at c arg10 harg10 x8) (ldw arg6 harg6 x4 11 inb_S12x128x128_S1x128x128_11_0_0) (ldb arg7 harg7 x5 1408 inb_S1x1536_S1x128_0_1408) (ldw arg8 harg8 x6 11 inb_S12x128x128_S1x128x128_11_0_0) (ldb arg9 harg9 x7 1408 inb_S1x1536_S1x128_0_1408) p h x
  · exact pieceB x0 x2 x3 x4 x5 x6 x7 x8 x9 10 1280 rfl slices_S16x1536_o0_1280_S16x128 slices_S1x1536_o0_1280_S1x128 inb_S16x1536_S16x128_0_1280 _ _ _ _ _ _
      (uc_at c arg2 harg2 arg4 harg4 arg5 harg5 arg11 harg11 arg15 x0 x2 x3 x9) (sp_at c arg10 harg10 x8) (ldw arg6 harg6 x4 10 inb_S12x128x128_S1x128x128_10_0_0) (ldb arg7 harg7 x5 1280 inb_S1x1536_S1x128_0_1280) (ldw arg8 harg8 x6 10 inb_S12x128x128_S1x128x128_10_0_0) (ldb arg9 harg9 x7 1280 inb_S1x1536_S1x128_0_1280) p h x
  · exact pieceB x0 x2 x3 x4 x5 x6 x7 x8 x9 9 1152 rfl slices_S16x1536_o0_1152_S16x128 slices_S1x1536_o0_1152_S1x128 inb_S16x1536_S16x128_0_1152 _ _ _ _ _ _
      (uc_at c arg2 harg2 arg4 harg4 arg5 harg5 arg11 harg11 arg15 x0 x2 x3 x9) (sp_at c arg10 harg10 x8) (ldw arg6 harg6 x4 9 inb_S12x128x128_S1x128x128_9_0_0) (ldb arg7 harg7 x5 1152 inb_S1x1536_S1x128_0_1152) (ldw arg8 harg8 x6 9 inb_S12x128x128_S1x128x128_9_0_0) (ldb arg9 harg9 x7 1152 inb_S1x1536_S1x128_0_1152) p h x
  · exact pieceB x0 x2 x3 x4 x5 x6 x7 x8 x9 8 1024 rfl slices_S16x1536_o0_1024_S16x128 slices_S1x1536_o0_1024_S1x128 inb_S16x1536_S16x128_0_1024 _ _ _ _ _ _
      (uc_at c arg2 harg2 arg4 harg4 arg5 harg5 arg11 harg11 arg15 x0 x2 x3 x9) (sp_at c arg10 harg10 x8) (ldw arg6 harg6 x4 8 inb_S12x128x128_S1x128x128_8_0_0) (ldb arg7 harg7 x5 1024 inb_S1x1536_S1x128_0_1024) (ldw arg8 harg8 x6 8 inb_S12x128x128_S1x128x128_8_0_0) (ldb arg9 harg9 x7 1024 inb_S1x1536_S1x128_0_1024) p h x
  · exact pieceB x0 x2 x3 x4 x5 x6 x7 x8 x9 7 896 rfl slices_S16x1536_o0_896_S16x128 slices_S1x1536_o0_896_S1x128 inb_S16x1536_S16x128_0_896 _ _ _ _ _ _
      (uc_at c arg2 harg2 arg4 harg4 arg5 harg5 arg11 harg11 arg15 x0 x2 x3 x9) (sp_at c arg10 harg10 x8) (ldw arg6 harg6 x4 7 inb_S12x128x128_S1x128x128_7_0_0) (ldb arg7 harg7 x5 896 inb_S1x1536_S1x128_0_896) (ldw arg8 harg8 x6 7 inb_S12x128x128_S1x128x128_7_0_0) (ldb arg9 harg9 x7 896 inb_S1x1536_S1x128_0_896) p h x
  · exact pieceB x0 x2 x3 x4 x5 x6 x7 x8 x9 6 768 rfl slices_S16x1536_o0_768_S16x128 slices_S1x1536_o0_768_S1x128 inb_S16x1536_S16x128_0_768 _ _ _ _ _ _
      (uc_at c arg2 harg2 arg4 harg4 arg5 harg5 arg11 harg11 arg15 x0 x2 x3 x9) (sp_at c arg10 harg10 x8) (ldw arg6 harg6 x4 6 inb_S12x128x128_S1x128x128_6_0_0) (ldb arg7 harg7 x5 768 inb_S1x1536_S1x128_0_768) (ldw arg8 harg8 x6 6 inb_S12x128x128_S1x128x128_6_0_0) (ldb arg9 harg9 x7 768 inb_S1x1536_S1x128_0_768) p h x
  · exact pieceB x0 x2 x3 x4 x5 x6 x7 x8 x9 5 640 rfl slices_S16x1536_o0_640_S16x128 slices_S1x1536_o0_640_S1x128 inb_S16x1536_S16x128_0_640 _ _ _ _ _ _
      (uc_at c arg2 harg2 arg4 harg4 arg5 harg5 arg11 harg11 arg15 x0 x2 x3 x9) (sp_at c arg10 harg10 x8) (ldw arg6 harg6 x4 5 inb_S12x128x128_S1x128x128_5_0_0) (ldb arg7 harg7 x5 640 inb_S1x1536_S1x128_0_640) (ldw arg8 harg8 x6 5 inb_S12x128x128_S1x128x128_5_0_0) (ldb arg9 harg9 x7 640 inb_S1x1536_S1x128_0_640) p h x
  · exact pieceB x0 x2 x3 x4 x5 x6 x7 x8 x9 4 512 rfl slices_S16x1536_o0_512_S16x128 slices_S1x1536_o0_512_S1x128 inb_S16x1536_S16x128_0_512 _ _ _ _ _ _
      (uc_at c arg2 harg2 arg4 harg4 arg5 harg5 arg11 harg11 arg15 x0 x2 x3 x9) (sp_at c arg10 harg10 x8) (ldw arg6 harg6 x4 4 inb_S12x128x128_S1x128x128_4_0_0) (ldb arg7 harg7 x5 512 inb_S1x1536_S1x128_0_512) (ldw arg8 harg8 x6 4 inb_S12x128x128_S1x128x128_4_0_0) (ldb arg9 harg9 x7 512 inb_S1x1536_S1x128_0_512) p h x
  · exact pieceB x0 x2 x3 x4 x5 x6 x7 x8 x9 3 384 rfl slices_S16x1536_o0_384_S16x128 slices_S1x1536_o0_384_S1x128 inb_S16x1536_S16x128_0_384 _ _ _ _ _ _
      (uc_at c arg2 harg2 arg4 harg4 arg5 harg5 arg11 harg11 arg15 x0 x2 x3 x9) (sp_at c arg10 harg10 x8) (ldw arg6 harg6 x4 3 inb_S12x128x128_S1x128x128_3_0_0) (ldb arg7 harg7 x5 384 inb_S1x1536_S1x128_0_384) (ldw arg8 harg8 x6 3 inb_S12x128x128_S1x128x128_3_0_0) (ldb arg9 harg9 x7 384 inb_S1x1536_S1x128_0_384) p h x
  · exact pieceB x0 x2 x3 x4 x5 x6 x7 x8 x9 2 256 rfl slices_S16x1536_o0_256_S16x128 slices_S1x1536_o0_256_S1x128 inb_S16x1536_S16x128_0_256 _ _ _ _ _ _
      (uc_at c arg2 harg2 arg4 harg4 arg5 harg5 arg11 harg11 arg15 x0 x2 x3 x9) (sp_at c arg10 harg10 x8) (ldw arg6 harg6 x4 2 inb_S12x128x128_S1x128x128_2_0_0) (ldb arg7 harg7 x5 256 inb_S1x1536_S1x128_0_256) (ldw arg8 harg8 x6 2 inb_S12x128x128_S1x128x128_2_0_0) (ldb arg9 harg9 x7 256 inb_S1x1536_S1x128_0_256) p h x
  · exact pieceB x0 x2 x3 x4 x5 x6 x7 x8 x9 1 128 rfl slices_S16x1536_o0_128_S16x128 slices_S1x1536_o0_128_S1x128 inb_S16x1536_S16x128_0_128 _ _ _ _ _ _
      (uc_at c arg2 harg2 arg4 harg4 arg5 harg5 arg11 harg11 arg15 x0 x2 x3 x9) (sp_at c arg10 harg10 x8) (ldw arg6 harg6 x4 1 inb_S12x128x128_S1x128x128_1_0_0) (ldb arg7 harg7 x5 128 inb_S1x1536_S1x128_0_128) (ldw arg8 harg8 x6 1 inb_S12x128x128_S1x128x128_1_0_0) (ldb arg9 harg9 x7 128 inb_S1x1536_S1x128_0_128) p h x
  · exact pieceB x0 x2 x3 x4 x5 x6 x7 x8 x9 0 0 rfl slices_S16x1536_o0_0_S16x128 slices_S1x1536_o0_0_S1x128 inb_S16x1536_S16x128_0_0 _ _ _ _ _ _
      (uc_at c arg2 harg2 arg4 harg4 arg5 harg5 arg11 harg11 arg15 x0 x2 x3 x9) (sp_at c arg10 harg10 x8) (ldw arg6 harg6 x4 0 inb_S12x128x128_S1x128x128_0_0_0) (ldb arg7 harg7 x5 0 inb_S1x1536_S1x128_0_0) (ldw arg8 harg8 x6 0 inb_S12x128x128_S1x128x128_0_0_0) (ldb arg9 harg9 x7 0 inb_S1x1536_S1x128_0_0) p h x

end Cert.RglruSIdeal.Hand

end
-- ==== Proof.RglruLoop.lean ====
/-  The gated recurrence's loop: what its two trips leave in the scratch buffer and carry, and what the point leaves in its two
  output windows, at an element. -/
module

public import proofs.«01_k».proof.Proof.RglruRun

@[expose] public section

set_option maxRecDepth 16384

noncomputable section

namespace Cert.RglruSIdeal.Hand

open Cert.RglruSIdeal Cert.RglruSIdeal.Gen Idealize.ShloMosaic Idealize.ShloMosaic.TcCoe Idealize.SL.Sem

theorem off1_eq : ∀ k : Fin k0_t1_loop.trips, k0_off1 k = ![8 * k.val, 0] := by decide +kernel
theorem trips_eq : k0_t1_loop.trips = 2 := by decide +kernel

/-- The rows of a trip. -/
abbrev rows (k : Fin k0_t1_loop.trips) : Rect S16x1536 := Rect.unit (s := S16x1536) (k0_off1 k) S8x1536.size (k0_off1_inb k)

theorem row_lt (k : Fin k0_t1_loop.trips) (s : Fin 8) : 8 * k.val + s.val < 16 := by
  have h : k.val < 2 := trips_eq ▸ k.isLt
  omega

/-- A load of a trip's rows, at an element. -/
theorem rows_at (x : Vec Ideal S16x1536 .f32) (k : Fin k0_t1_loop.trips) (s : Fin 8) (D : Fin 1536) :
    View.ld x (rows k) (ix2 s D) = x (ix2 ⟨8 * k.val + s.val, row_lt k s⟩ D) := by
  refine congrArg x (funext fun a => ?_)
  match a with
  | ⟨0, _⟩ => exact Fin.ext (by show k0_off1 k 0 + 1 * s.val = 8 * k.val + s.val; rw [off1_eq]; show 8 * k.val + 1 * s.val = _; omega)
  | ⟨1, _⟩ => exact Fin.ext (by show k0_off1 k 1 + 1 * D.val = D.val; rw [off1_eq]; show 0 + 1 * D.val = _; omega)

/-- A store of a trip's rows, read back in those rows and in the others. -/
theorem store_hit (v : View sig .tc .vmem S16x1536 .f32) (f : v.ty.Contents (Elt Ideal)) (L : List (View.Piece (Elt Ideal) S16x1536 .f32)) (k : Fin k0_t1_loop.trips) (w : Vec Ideal S8x1536 .f32) (s : Fin 8) (R : Fin 16) (D : Fin 1536)
    (hR : R.val = 8 * k.val + s.val) : v.read (Elt Ideal) (v.writes (Elt Ideal) f (⟨rows k, w⟩ :: L)) (ix2 R D) = w (ix2 s D) := by
  refine View.read_writes_cons_hit_of_coords _ _ (rows k) _ _ (ix2 s D) _ fun a => ?_
  match a with
  | ⟨0, _⟩ => show R.val = k0_off1 k 0 + 1 * s.val; rw [off1_eq]; show R.val = 8 * k.val + 1 * s.val; omega
  | ⟨1, _⟩ => show D.val = k0_off1 k 1 + 1 * D.val; rw [off1_eq]; show D.val = 0 + 1 * D.val; omega

theorem store_miss (v : View sig .tc .vmem S16x1536 .f32) (f : v.ty.Contents (Elt Ideal)) (L : List (View.Piece (Elt Ideal) S16x1536 .f32)) (k : Fin k0_t1_loop.trips) (w : Vec Ideal S8x1536 .f32) (R : Fin 16) (D : Fin 1536)
    (hR : R.val < 8 * k.val ∨ 8 * k.val + 8 ≤ R.val) : v.read (Elt Ideal) (v.writes (Elt Ideal) f (⟨rows k, w⟩ :: L)) (ix2 R D) = v.read (Elt Ideal) (v.writes (Elt Ideal) f L) (ix2 R D) :=
  View.read_writes_cons_miss_of_axis _ _ _ _ _ (0 : Fin 2) (8 * k.val) 8 (by show k0_off1 k 0 = _; rw [off1_eq]; rfl) rfl rfl hR

/-- The two trips of the recurrence: the states of the frames, and the last of them. -/
theorem two_trips (v : View sig .tc .vmem S16x1536 .f32) (G : v.ty.Contents (Elt Ideal)) (A : Vec Ideal S16x1536 .f32) (init : Vec Ideal S1x1536 .f32)
    (S : ℕ → Vec Ideal S1x1536 .f32 × List (View.Piece (Elt Ideal) S16x1536 .f32)) (h0 : S 0 = (init, []))
    (hS : ∀ k : Fin k0_t1_loop.trips, S (k.val + 1) = (k0_pay110 (S k.val).1 (View.ld A (rows k)) (View.ld (v.read (Elt Ideal) (v.writes (Elt Ideal) G (S k.val).2)) (rows k)),
      ⟨rows k, k0_pay109 (S k.val).1 (View.ld A (rows k)) (View.ld (v.read (Elt Ideal) (v.writes (Elt Ideal) G (S k.val).2)) (rows k))⟩ :: (S k.val).2))
    (D : Fin 1536) (a b : ℕ → EReal) (ha : ∀ s : Fin 16, A (ix2 s D) = a s.val) (hb : ∀ s : Fin 16, v.read (Elt Ideal) G (ix2 s D) = b s.val)
    (hd : ∀ n, Cert.Rglru.Decay (a n)) :
    (∀ s : Fin 16, v.read (Elt Ideal) (v.writes (Elt Ideal) G (S 2).2) (ix2 s D) = Cert.Rglru.states a b (init (ix2 (0 : Fin 1) D)) s.val)
      ∧ (S 2).1 (ix2 (0 : Fin 1) D) = Cert.Rglru.states a b (init (ix2 (0 : Fin 1) D)) 15 := by
  have t0 : (0 : ℕ) < k0_t1_loop.trips := by rw [trips_eq]; omega
  have t1 : (1 : ℕ) < k0_t1_loop.trips := by rw [trips_eq]; omega
  have h1 : S 1 = _ := hS ⟨0, t0⟩
  have h2 : S 2 = _ := hS ⟨1, t1⟩
  have b0 : ∀ s : Fin 8, v.read (Elt Ideal) (v.writes (Elt Ideal) G (S 0).2) (ix2 ⟨8 * 0 + s.val, row_lt ⟨0, t0⟩ s⟩ D) = b s.val := fun s => by
    rw [h0]
    exact (hb _).trans (congrArg b (by show 8 * 0 + s.val = s.val; omega))
  have c1 : (S 1).1 (ix2 (0 : Fin 1) D) = Cert.Rglru.states a b (init (ix2 (0 : Fin 1) D)) 7 := by
    rw [h1]
    refine (pay110_at _ _ _ 0 D).trans ?_
    refine Eq.trans ?_ (Cert.Rglru.group_eq (fun s => a s.val) (fun s => b s.val) _ (fun s => hd _) a b (fun _ => rfl) (fun _ => rfl) 7)
    exact congrFun (congr (congr (congrArg Cert.Rglru.group (funext fun s : Fin 8 => (rows_at A ⟨0, t0⟩ s D).trans ((ha _).trans (congrArg a (by show 8 * 0 + s.val = s.val; omega)))))
      (funext fun s : Fin 8 => (rows_at _ ⟨0, t0⟩ s D).trans (b0 s))) (congrArg (fun p : Vec Ideal S1x1536 .f32 × List (View.Piece (Elt Ideal) S16x1536 .f32) => p.1 (ix2 (0 : Fin 1) D)) h0)) 7
  have r1 : ∀ s : Fin 8, ∀ R : Fin 16, R.val = s.val → v.read (Elt Ideal) (v.writes (Elt Ideal) G (S 1).2) (ix2 R D) = Cert.Rglru.states a b (init (ix2 (0 : Fin 1) D)) s.val := fun s R hR => by
    rw [h1]
    refine (store_hit v G _ ⟨0, t0⟩ _ s R D (by show R.val = 8 * 0 + s.val; omega)).trans ?_
    refine (pay109_at _ _ _ s D).trans ?_
    refine Eq.trans ?_ (Cert.Rglru.group_eq (fun s => a s.val) (fun s => b s.val) _ (fun s => hd _) a b (fun _ => rfl) (fun _ => rfl) s)
    exact congrFun (congr (congr (congrArg Cert.Rglru.group (funext fun s : Fin 8 => (rows_at A ⟨0, t0⟩ s D).trans ((ha _).trans (congrArg a (by show 8 * 0 + s.val = s.val; omega)))))
      (funext fun s : Fin 8 => (rows_at _ ⟨0, t0⟩ s D).trans (b0 s))) (congrArg (fun p : Vec Ideal S1x1536 .f32 × List (View.Piece (Elt Ideal) S16x1536 .f32) => p.1 (ix2 (0 : Fin 1) D)) h0)) s
  have b1 : ∀ s : Fin 8, v.read (Elt Ideal) (v.writes (Elt Ideal) G (S 1).2) (ix2 ⟨8 * 1 + s.val, row_lt ⟨1, t1⟩ s⟩ D) = b (s.val + 8) := fun s => by
    rw [h1]
    refine (store_miss v G _ ⟨0, t0⟩ _ _ D (Or.inr (by show 8 * 0 + 8 ≤ 8 * 1 + s.val; omega))).trans ?_
    rw [h0]
    exact (hb _).trans (congrArg b (by show 8 * 1 + s.val = s.val + 8; omega))
  have g1 : ∀ s : Fin 8, Cert.Rglru.group (fun s => View.ld A (rows ⟨1, t1⟩) (ix2 s D)) (fun s => View.ld (v.read (Elt Ideal) (v.writes (Elt Ideal) G (S 1).2)) (rows ⟨1, t1⟩) (ix2 s D)) ((S 1).1 (ix2 (0 : Fin 1) D)) s
      = Cert.Rglru.states a b (init (ix2 (0 : Fin 1) D)) (s.val + 8) := fun s => by
    rw [Cert.Rglru.states_add, c1]
    refine Eq.trans ?_ (Cert.Rglru.group_eq (fun s => a (s.val + 8)) (fun s => b (s.val + 8)) _ (fun s => hd _) (fun n => a (n + 8)) (fun n => b (n + 8)) (fun _ => rfl) (fun _ => rfl) s)
    exact congrFun (congrFun (congr (congrArg Cert.Rglru.group (funext fun s : Fin 8 => (rows_at A ⟨1, t1⟩ s D).trans ((ha _).trans (congrArg a (by show 8 * 1 + s.val = s.val + 8; omega)))))
      (funext fun s : Fin 8 => (rows_at _ ⟨1, t1⟩ s D).trans (b1 s))) _) s
  refine ⟨fun R => ?_, ?_⟩
  · rw [h2]
    by_cases hR : R.val < 8
    · refine (store_miss v G _ ⟨1, t1⟩ _ _ D (Or.inl (by show R.val < 8 * 1; omega))).trans ?_
      exact r1 ⟨R.val, hR⟩ R rfl
    · have hR' := R.isLt
      refine (store_hit v G _ ⟨1, t1⟩ _ ⟨R.val - 8, by omega⟩ R D (by show R.val = 8 * 1 + (R.val - 8); omega)).trans ?_
      refine (pay109_at _ _ _ _ D).trans ((g1 ⟨R.val - 8, by omega⟩).trans ?_)
      exact congrArg _ (by show R.val - 8 + 8 = R.val; omega)
  · rw [h2]
    exact (pay110_at _ _ _ 0 D).trans (g1 7)

/-- No rate is positive, so the exponent of a step whose gate is not negative is not infinite. -/
theorem log_ne_top (r l : EReal) (hr : 0 ≤ r) : r * rate l ≠ ⊤ := by
  have h : rate l ≤ 0 := by
    unfold rate
    rw [Cert.Rglru.lit_neg8]
    refine mul_nonpos_of_nonpos_of_nonneg ?_ (add_nonneg (le_max_right _ _) (Cert.Rglru.log1p_exp_nonneg _))
    rw [← neg_zero]
    exact EReal.neg_le_neg_iff.mpr (by norm_num)
  exact ((mul_nonpos_of_nonneg_of_nonpos hr h).trans_lt EReal.zero_lt_top).ne

variable (c : Dev nD) (i : grid0.Coords) (arg2 : Memref sig .tc .vmem S16x1536 .f32) (harg2 : arg2.IsWhole) (arg3 : Memref sig .tc .vmem S16x1536 .f32) (harg3 : arg3.IsWhole) (arg4 : Memref sig .tc .vmem S4x1536 .f32) (harg4 : arg4.IsWhole) (arg5 : Memref sig .tc .vmem S1x1536 .f32) (harg5 : arg5.IsWhole) (arg6 : Memref sig .tc .vmem S12x128x128 .bf16) (harg6 : arg6.IsWhole) (arg7 : Memref sig .tc .vmem S1x1536 .f32) (harg7 : arg7.IsWhole) (arg8 : Memref sig .tc .vmem S12x128x128 .bf16) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S16x1536 .bf16) (harg13 : arg13.IsWhole) (arg14 : Memref sig .tc .vmem S1x1x1536 .f32) (harg14 : arg14.IsWhole) (arg15 : Memref sig .tc .vmem S24x1536 .f32) (harg15 : arg15.IsWhole) (arg16 : Memref sig .tc .vmem S16x1536 .f32) (harg16 : arg16.IsWhole) (arg17 : Memref sig .tc .vmem S16x1536 .f32) (harg17 : arg17.IsWhole) (arg18 : Memref sig .tc .vmem S1x1536 .f32) (harg18 : arg18.IsWhole) (hc0 : cond0_0 i)
    (x0 : Vec Ideal S16x1536 .f32) (x1 : Vec Ideal S16x1536 .f32) (x2 : Vec Ideal S4x1536 .f32) (x3 : Vec Ideal S1x1536 .f32) (x4 : Vec Ideal S12x128x128 .bf16) (x5 : Vec Ideal S1x1536 .f32) (x6 : Vec Ideal S12x128x128 .bf16) (x7 : Vec Ideal S1x1536 .f32) (x8 : Vec Ideal S1x1536 .f32) (x9 : Vec Ideal S1x3x1536 .f32) (x10 : Vec Ideal S1x1x1536 .f32)

/-- The decays of the point's frames are numbers, not negative. -/
theorem dec_decay (s : Fin 16) (D : Fin 1536) : Cert.Rglru.Decay (dec x0 x2 x3 x4 x5 x8 x9 s D) :=
  Cert.Rglru.decay_exp (log_ne_top _ _ (Cert.Rglru.logistic_nonneg _))

theorem decays_read (s : Fin 16) (D : Fin 1536) : arg16.view.read (Elt Ideal) (arg16.view.writes (Elt Ideal) arg16.view.junk (kernelRun0_A.sl.HS1_12 (F := Ideal) c arg2 harg2 arg4 harg4 arg5 harg5 arg6 harg6 arg7 harg7 arg10 harg10 arg11 harg11 arg15 x0 x2 x3 x4 x5 x8 x9)) (ix2 s D) = dec x0 x2 x3 x4 x5 x8 x9 s D := by
  refine View.read_writes_apply_of_pieces _ _ (fun y : S16x1536.Idx => dec x0 x2 x3 x4 x5 x8 x9 (y 0) (y 1)) _
    (fun p hp x => decays_at c arg2 harg2 arg4 harg4 arg5 harg5 arg6 harg6 arg7 harg7 arg10 harg10 arg11 harg11 arg15 x0 x2 x3 x4 x5 x8 x9 p hp x) _ ?_
  exact View.cover_of_tiledL (s := S16x1536) _ ![16, 128] (by sl_kernel_rfl) _

theorem gains_read (s : Fin 16) (D : Fin 1536) : arg17.view.read (Elt Ideal) (arg17.view.writes (Elt Ideal) arg17.view.junk (kernelRun0_A.sl.HS2_12 (F := Ideal) c arg2 harg2 arg4 harg4 arg5 harg5 arg6 harg6 arg7 harg7 arg8 harg8 arg9 harg9 arg10 harg10 arg11 harg11 arg15 x0 x2 x3 x4 x5 x6 x7 x8 x9)) (ix2 s D) = gai x0 x2 x3 x4 x5 x6 x7 x8 x9 s D := by
  refine View.read_writes_apply_of_pieces _ _ (fun y : S16x1536.Idx => gai x0 x2 x3 x4 x5 x6 x7 x8 x9 (y 0) (y 1)) _
    (fun p hp x => gains_at c arg2 harg2 arg4 harg4 arg5 harg5 arg6 harg6 arg7 harg7 arg8 harg8 arg9 harg9 arg10 harg10 arg11 harg11 arg15 x0 x2 x3 x4 x5 x6 x7 x8 x9 p hp x) _ ?_
  exact View.cover_of_tiledL (s := S16x1536) _ ![16, 128] (by sl_kernel_rfl) _

/-- The state the loop starts from. -/
theorem start_at (D : Fin 1536) : kernelRun0_A.sl.v515 (F := Ideal) c arg12 harg12 arg18 x10 (ix2 (0 : Fin 1) D) = x10 (ix3 (0 : Fin 1) (0 : Fin 1) D) := by
  unfold kernelRun0_A.sl.v515 kernelRun0_A.sl.HS3_1
  show arg18.view.read (Elt Ideal) (arg18.view.writes (Elt Ideal) arg18.view.junk _) _ = _
  refine (View.read_writes_cons_hit_of_coords _ _ (Rect.unit (s := S1x1536) ![0, 0] S1x1536.size inb_S1x1536_S1x1536_0_0) _ _ (ix2 (0 : Fin 1) D) _ fun a => ?_).trans ?_
  · match a with
    | ⟨0, _⟩ => rfl
    | ⟨1, _⟩ => show 0 + 1 * D.val = 0 + 1 * D.val; rfl
  · rw [View.readAt_eq_ld, harg12.read_unread]
    pointwise [k0_pay3]

section
variable (v476 v493 v503 v504 v505 : FVec Ideal S16x128 .f32) (X : arg16.view.ty.Contents (Elt Ideal)) (k : Fin k0_t1_loop.trips) (acc : Vec Ideal S1x1536 .f32) (f : arg17.view.ty.Contents (Elt Ideal))

theorem tripR_eq : tripR_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v476 v493 v503 v504 v505 X k acc f
    = k0_pay110 acc (View.ld (arg16.view.read (Elt Ideal) X) (rows k)) (View.ld (arg17.view.read (Elt Ideal) f) (rows k)) := by
  unfold tripR_k0_t1 trip_k0_t1
  rfl

theorem tripL_eq : tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v476 v493 v503 v504 v505 X k acc f
    = [⟨rows k, k0_pay109 acc (View.ld (arg16.view.read (Elt Ideal) X) (rows k)) (View.ld (arg17.view.read (Elt Ideal) f) (rows k))⟩] := by
  unfold tripL_k0_t1 trip_k0_t1
  rfl
end

/-- The decays and gains of a channel, the frames beyond the last standing for nothing. -/
def decs (D : Fin 1536) (n : ℕ) : EReal := dec x0 x2 x3 x4 x5 x8 x9 ⟨n % 16, Nat.mod_lt _ (by omega)⟩ D
def gais (D : Fin 1536) (n : ℕ) : EReal := gai x0 x2 x3 x4 x5 x6 x7 x8 x9 ⟨n % 16, Nat.mod_lt _ (by omega)⟩ D

theorem loop_at (D : Fin 1536) :
    (∀ s : Fin 16, arg17.view.read (Elt Ideal) (arg17.view.writes (Elt Ideal) (arg17.view.writes (Elt Ideal) arg17.view.junk (kernelRun0_A.sl.HS2_12 (F := Ideal) c arg2 harg2 arg4 harg4 arg5 harg5 arg6 harg6 arg7 harg7 arg8 harg8 arg9 harg9 arg10 harg10 arg11 harg11 arg15 x0 x2 x3 x4 x5 x6 x7 x8 x9)) (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (kernelRun0_A.sl.r_47 (F := Ideal) c arg2 harg2 arg4 harg4 arg5 harg5 arg11 harg11 arg15 x0 x2 x3 x9) (kernelRun0_A.sl.r_48 (F := Ideal) c arg2 harg2 arg4 harg4 arg5 harg5 arg8 harg8 arg9 harg9 arg11 harg11 arg15 x0 x2 x3 x6 x7 x9) (kernelRun0_A.sl.r_49 (F := Ideal) c arg2 harg2 arg4 harg4 arg5 harg5 arg6 harg6 arg7 harg7 arg10 harg10 arg11 harg11 arg15 x0 x2 x3 x4 x5 x8 x9) (kernelRun0_A.sl.r_50 (F := Ideal) c arg2 harg2 arg4 harg4 arg5 harg5 arg6 harg6 arg7 harg7 arg10 harg10 arg11 harg11 arg15 x0 x2 x3 x4 x5 x8 x9) k0_pay106 (arg16.view.writes (Elt Ideal) arg16.view.junk (kernelRun0_A.sl.HS1_12 (F := Ideal) c arg2 harg2 arg4 harg4 arg5 harg5 arg6 harg6 arg7 harg7 arg10 harg10 arg11 harg11 arg15 x0 x2 x3 x4 x5 x8 x9)) (arg17.view.writes (Elt Ideal) arg17.view.junk (kernelRun0_A.sl.HS2_12 (F := Ideal) c arg2 harg2 arg4 harg4 arg5 harg5 arg6 harg6 arg7 harg7 arg8 harg8 arg9 harg9 arg10 harg10 arg11 harg11 arg15 x0 x2 x3 x4 x5 x6 x7 x8 x9)) (kernelRun0_A.sl.v515 (F := Ideal) c arg12 harg12 arg18 x10) 2).2) (ix2 s D)
        = Cert.Rglru.states (decs x0 x2 x3 x4 x5 x8 x9 D) (gais x0 x2 x3 x4 x5 x6 x7 x8 x9 D) (x10 (ix3 (0 : Fin 1) (0 : Fin 1) D)) s.val)
      ∧ (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (kernelRun0_A.sl.r_47 (F := Ideal) c arg2 harg2 arg4 harg4 arg5 harg5 arg11 harg11 arg15 x0 x2 x3 x9) (kernelRun0_A.sl.r_48 (F := Ideal) c arg2 harg2 arg4 harg4 arg5 harg5 arg8 harg8 arg9 harg9 arg11 harg11 arg15 x0 x2 x3 x6 x7 x9) (kernelRun0_A.sl.r_49 (F := Ideal) c arg2 harg2 arg4 harg4 arg5 harg5 arg6 harg6 arg7 harg7 arg10 harg10 arg11 harg11 arg15 x0 x2 x3 x4 x5 x8 x9) (kernelRun0_A.sl.r_50 (F := Ideal) c arg2 harg2 arg4 harg4 arg5 harg5 arg6 harg6 arg7 harg7 arg10 harg10 arg11 harg11 arg15 x0 x2 x3 x4 x5 x8 x9) k0_pay106 (arg16.view.writes (Elt Ideal) arg16.view.junk (kernelRun0_A.sl.HS1_12 (F := Ideal) c arg2 harg2 arg4 harg4 arg5 harg5 arg6 harg6 arg7 harg7 arg10 harg10 arg11 harg11 arg15 x0 x2 x3 x4 x5 x8 x9)) (arg17.view.writes (Elt Ideal) arg17.view.junk (kernelRun0_A.sl.HS2_12 (F := Ideal) c arg2 harg2 arg4 harg4 arg5 harg5 arg6 harg6 arg7 harg7 arg8 harg8 arg9 harg9 arg10 harg10 arg11 harg11 arg15 x0 x2 x3 x4 x5 x6 x7 x8 x9)) (kernelRun0_A.sl.v515 (F := Ideal) c arg12 harg12 arg18 x10) 2).1 (ix2 (0 : Fin 1) D)
        = Cert.Rglru.states (decs x0 x2 x3 x4 x5 x8 x9 D) (gais x0 x2 x3 x4 x5 x6 x7 x8 x9 D) (x10 (ix3 (0 : Fin 1) (0 : Fin 1) D)) 15 := by
  rw [← start_at c arg12 harg12 arg18 x10 D]
  refine two_trips arg17.view _ (arg16.view.read (Elt Ideal) (arg16.view.writes (Elt Ideal) arg16.view.junk (kernelRun0_A.sl.HS1_12 (F := Ideal) c arg2 harg2 arg4 harg4 arg5 harg5 arg6 harg6 arg7 harg7 arg10 harg10 arg11 harg11 arg15 x0 x2 x3 x4 x5 x8 x9))) _ (fun n => st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (kernelRun0_A.sl.r_47 (F := Ideal) c arg2 harg2 arg4 harg4 arg5 harg5 arg11 harg11 arg15 x0 x2 x3 x9) (kernelRun0_A.sl.r_48 (F := Ideal) c arg2 harg2 arg4 harg4 arg5 harg5 arg8 harg8 arg9 harg9 arg11 harg11 arg15 x0 x2 x3 x6 x7 x9) (kernelRun0_A.sl.r_49 (F := Ideal) c arg2 harg2 arg4 harg4 arg5 harg5 arg6 harg6 arg7 harg7 arg10 harg10 arg11 harg11 arg15 x0 x2 x3 x4 x5 x8 x9) (kernelRun0_A.sl.r_50 (F := Ideal) c arg2 harg2 arg4 harg4 arg5 harg5 arg6 harg6 arg7 harg7 arg10 harg10 arg11 harg11 arg15 x0 x2 x3 x4 x5 x8 x9) k0_pay106 (arg16.view.writes (Elt Ideal) arg16.view.junk (kernelRun0_A.sl.HS1_12 (F := Ideal) c arg2 harg2 arg4 harg4 arg5 harg5 arg6 harg6 arg7 harg7 arg10 harg10 arg11 harg11 arg15 x0 x2 x3 x4 x5 x8 x9)) (arg17.view.writes (Elt Ideal) arg17.view.junk (kernelRun0_A.sl.HS2_12 (F := Ideal) c arg2 harg2 arg4 harg4 arg5 harg5 arg6 harg6 arg7 harg7 arg8 harg8 arg9 harg9 arg10 harg10 arg11 harg11 arg15 x0 x2 x3 x4 x5 x6 x7 x8 x9)) (kernelRun0_A.sl.v515 (F := Ideal) c arg12 harg12 arg18 x10) n) rfl (fun k => ?_) D _ _ (fun s => ?_) (fun s => ?_) (fun n => dec_decay x0 x2 x3 x4 x5 x8 x9 _ D)
  · refine (st_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (kernelRun0_A.sl.r_47 (F := Ideal) c arg2 harg2 arg4 harg4 arg5 harg5 arg11 harg11 arg15 x0 x2 x3 x9) (kernelRun0_A.sl.r_48 (F := Ideal) c arg2 harg2 arg4 harg4 arg5 harg5 arg8 harg8 arg9 harg9 arg11 harg11 arg15 x0 x2 x3 x6 x7 x9) (kernelRun0_A.sl.r_49 (F := Ideal) c arg2 harg2 arg4 harg4 arg5 harg5 arg6 harg6 arg7 harg7 arg10 harg10 arg11 harg11 arg15 x0 x2 x3 x4 x5 x8 x9) (kernelRun0_A.sl.r_50 (F := Ideal) c arg2 harg2 arg4 harg4 arg5 harg5 arg6 harg6 arg7 harg7 arg10 harg10 arg11 harg11 arg15 x0 x2 x3 x4 x5 x8 x9) k0_pay106 (arg16.view.writes (Elt Ideal) arg16.view.junk (kernelRun0_A.sl.HS1_12 (F := Ideal) c arg2 harg2 arg4 harg4 arg5 harg5 arg6 harg6 arg7 harg7 arg10 harg10 arg11 harg11 arg15 x0 x2 x3 x4 x5 x8 x9)) (arg17.view.writes (Elt Ideal) arg17.view.junk (kernelRun0_A.sl.HS2_12 (F := Ideal) c arg2 harg2 arg4 harg4 arg5 harg5 arg6 harg6 arg7 harg7 arg8 harg8 arg9 harg9 arg10 harg10 arg11 harg11 arg15 x0 x2 x3 x4 x5 x6 x7 x8 x9)) (kernelRun0_A.sl.v515 (F := Ideal) c arg12 harg12 arg18 x10) k).trans ?_
    rw [tripR_eq, tripL_eq]
    rfl
  · refine (decays_read c arg2 harg2 arg4 harg4 arg5 harg5 arg6 harg6 arg7 harg7 arg10 harg10 arg11 harg11 arg15 arg16 x0 x2 x3 x4 x5 x8 x9 s D).trans ?_
    exact congrArg (fun t => dec x0 x2 x3 x4 x5 x8 x9 t D) (Fin.ext (Nat.mod_eq_of_lt s.isLt).symm)
  · refine (gains_read c arg2 harg2 arg4 harg4 arg5 harg5 arg6 harg6 arg7 harg7 arg8 harg8 arg9 harg9 arg10 harg10 arg11 harg11 arg15 arg17 x0 x2 x3 x4 x5 x6 x7 x8 x9 s D).trans ?_
    exact congrArg (fun t => gai x0 x2 x3 x4 x5 x6 x7 x8 x9 t D) (Fin.ext (Nat.mod_eq_of_lt s.isLt).symm)

/-- What the point leaves in its windows. -/
theorem frames_at (s : Fin 16) (D : Fin 1536) : VO0_11.read (Elt Ideal) (VO0_11.writes (Elt Ideal) VO0_11.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).1) (ix2 s D)
    = Cert.Rglru.states (decs x0 x2 x3 x4 x5 x8 x9 D) (gais x0 x2 x3 x4 x5 x6 x7 x8 x9 D) (x10 (ix3 (0 : Fin 1) (0 : Fin 1) D)) s.val * gelu (x1 (ix2 s D)) := by
  unfold kernelRun0_A
  dsimp only
  refine (View.read_writes_cons_hit_of_coords _ _ (Rect.unit (s := S16x1536) ![0, 0] S16x1536.size inb_S16x1536_S16x1536_0_0) _ _ (ix2 s D) _ fun a => ?_).trans ?_
  · match a with
    | ⟨0, _⟩ => show s.val = 0 + 1 * s.val; omega
    | ⟨1, _⟩ => show D.val = 0 + 1 * D.val; omega
  · unfold kernelRun0_A.sl.r_51
    refine (pay113_at _ _ s D).trans (congrArg₂ (fun p q : EReal => p * gelu q) ?_ ?_)
    · unfold kernelRun0_A.sl.v524
      rw [View.readAt_eq_ld, View.writes_append]
      exact (ld2 _ 0 0 _ s D s D (by omega) (by omega)).trans ((loop_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x2 x3 x4 x5 x6 x7 x8 x9 x10 D).1 s)
    · rw [View.readAt_eq_ld, harg3.read_unread]
      exact ld2 x1 0 0 _ s D s D (by omega) (by omega)

theorem last_at (D : Fin 1536) : VO0_12.read (Elt Ideal) (VO0_12.writes (Elt Ideal) VO0_12.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.1) (ix3 (0 : Fin 1) (0 : Fin 1) D)
    = Cert.Rglru.states (decs x0 x2 x3 x4 x5 x8 x9 D) (gais x0 x2 x3 x4 x5 x6 x7 x8 x9 D) (x10 (ix3 (0 : Fin 1) (0 : Fin 1) D)) 15 := by
  unfold kernelRun0_A
  dsimp only
  refine (View.read_writes_cons_hit_of_coords _ _ (Rect.unit (s := S1x1x1536) ![0, 0, 0] S1x1x1536.size inb_S1x1x1536_S1x1x1536_0_0_0) _ _ (ix3 (0 : Fin 1) (0 : Fin 1) D) _ fun a => ?_).trans ?_
  · match a with
    | ⟨0, _⟩ => rfl
    | ⟨1, _⟩ => rfl
    | ⟨2, _⟩ => show D.val = 0 + 1 * D.val; omega
  · refine Eq.trans ?_ (loop_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x2 x3 x4 x5 x6 x7 x8 x9 x10 D).2
    pointwise [k0_pay112]
    rfl

end Cert.RglruSIdeal.Hand

end
-- ==== Proof.RglruRef.lean ====
/-  The gated recurrence as the reference states it, at an element, in the terms of a sequence's block of frames. -/
module

public import proofs.«01_k».proof.Proof.Gen.RglruSRefIdeal.Run
public import proofs.«01_k».proof.Proof.Gen.RglruSRefIdeal.Read
public import proofs.«01_k».proof.Proof.RglruLoop

@[expose] public section

set_option maxRecDepth 16384

noncomputable section

namespace Cert.RglruSIdeal.Hand

open Cert.RglruSIdeal Cert.RglruSIdeal.Gen Idealize.ShloMosaic Idealize.ShloMosaic.TcCoe Idealize.SL.Sem
open Cert.RglruSRefIdeal.Read

/-- The blocks of a sequence: its frames' two halves, the frames before it, its state before it; and the weights of the layer. -/
def U (x0 : FVec Ideal S128x3072 .f32) (t : Fin 8) : FVec Ideal S16x1536 .f32 := fun j => x0 (ix2 (⟨16 * t.val + (j 0).val, by have h : (j 0).val < 16 := (j 0).isLt; omega⟩ : Fin 128) (⟨(j 1).val, by have h : (j 1).val < 1536 := (j 1).isLt; omega⟩ : Fin 3072))
def Z (x0 : FVec Ideal S128x3072 .f32) (t : Fin 8) : FVec Ideal S16x1536 .f32 := fun j => x0 (ix2 (⟨16 * t.val + (j 0).val, by have h : (j 0).val < 16 := (j 0).isLt; omega⟩ : Fin 128) (⟨1536 + (j 1).val, by have h : (j 1).val < 1536 := (j 1).isLt; omega⟩ : Fin 3072))
def C (x1 : FVec Ideal S1x8x3x1536 .f32) (t : Fin 8) : FVec Ideal S1x3x1536 .f32 := fun j => x1 (ix4 (0 : Fin 1) t (⟨(j 1).val, (j 1).isLt⟩ : Fin 3) (⟨(j 2).val, (j 2).isLt⟩ : Fin 1536))
def H (x2 : FVec Ideal S1x8x1536 .f32) (t : Fin 8) : FVec Ideal S1x1x1536 .f32 := fun j => x2 (ix3 (0 : Fin 1) t (⟨(j 2).val, (j 2).isLt⟩ : Fin 1536))
def W (x3 : FVec Ideal S1x4x1536 .f32) : FVec Ideal S4x1536 .f32 := fun j => x3 (ix3 (0 : Fin 1) (⟨(j 0).val, (j 0).isLt⟩ : Fin 4) (⟨(j 1).val, (j 1).isLt⟩ : Fin 1536))
def M (x5 : FVec Ideal S1x12x128x128 .f32) : FVec Ideal S12x128x128 .bf16 := fun j => x5 (ix4 (0 : Fin 1) (⟨(j 0).val, (j 0).isLt⟩ : Fin 12) (⟨(j 1).val, (j 1).isLt⟩ : Fin 128) (⟨(j 2).val, (j 2).isLt⟩ : Fin 128))

/-- What is unordered with itself is nothing. -/
theorem une_self (x a b : EReal) : Scalar.select (FloatOps.cmpf (F := Ideal) (φ := .f32) .une x x) a b = b := by
  pointwise
  exact if_neg (not_not.mpr rfl)

variable (x0 : FVec Ideal S128x3072 .f32) (x1 : FVec Ideal S1x8x3x1536 .f32) (x2 : FVec Ideal S1x8x1536 .f32) (x3 : FVec Ideal S1x4x1536 .f32) (x4 : FVec Ideal S1x1536 .f32) (x5 : FVec Ideal S1x12x128x128 .f32) (x6 : FVec Ideal S1x1536 .f32) (x7 : FVec Ideal S1x12x128x128 .f32) (x8 x9 : FVec Ideal S1x1536 .f32)

/-- The frames with the three before the first. -/
theorem ref_row (t : Fin 8) (n : ℕ) (hn : n < 19) (D : Fin 1536) (j : Cert.RglruSRefIdeal.S8x19x1536.Idx) (h0 : (j 0).val = t.val) (h1 : (j 1).val = n) (h2 : (j 2).val = D.val) :
    val_main_v3 (F := Ideal) x0 x1 j = row (U x0 t) (C x1 t) n hn D := by
  unfold val_main_v3 row
  have ht := t.isLt; have hD := D.isLt
  by_cases h : n < 3
  · rw [dif_pos h]
    refine (concatenate_apply_piece 1 _ _ j 0 (by exact (by decide : 0 < 2)) Cert.RglruSRefIdeal.S8x3x1536 (val_main_v2 (F := Ideal) x1) rfl rfl 0 rfl (ix3 t (⟨n, h⟩ : Fin 3) D) ?_ ?_).trans ?_
    · intro b hb
      match b with
      | ⟨0, _⟩ => exact h0.symm
      | ⟨1, _⟩ => exact absurd rfl hb
      | ⟨2, _⟩ => exact h2.symm
    · show 0 + n = (j 1).val
      omega
    · rw [val_main_v2_apply]
      refine congrArg x1 (funext fun a => ?_)
      match a with
      | ⟨0, _⟩ => first | exact Fin.ext (by simp only [ix3, ix4]; omega) | rfl
      | ⟨1, _⟩ => first | exact Fin.ext (by simp only [ix3, ix4]; omega) | rfl
      | ⟨2, _⟩ => first | exact Fin.ext (by simp only [ix3, ix4]; omega) | rfl
      | ⟨3, _⟩ => first | exact Fin.ext (by simp only [ix3, ix4]; omega) | rfl
  · rw [dif_neg h]
    refine (concatenate_apply_piece 1 _ _ j 1 (by exact (by decide : 1 < 2)) Cert.RglruSRefIdeal.S8x16x1536 (val_main_v1 (F := Ideal) x0) rfl rfl 3 rfl (ix3 t (⟨n - 3, by omega⟩ : Fin 16) D) ?_ ?_).trans ?_
    · intro b hb
      match b with
      | ⟨0, _⟩ => exact h0.symm
      | ⟨1, _⟩ => exact absurd rfl hb
      | ⟨2, _⟩ => exact h2.symm
    · show 3 + (n - 3) = (j 1).val
      omega
    · rw [val_main_v1_apply, val_main_v0_apply]
      refine congrArg x0 (funext fun a => ?_)
      match a with
      | ⟨0, _⟩ => first | exact Fin.ext (by simp only [ix3, ix2]; omega) | rfl
      | ⟨1, _⟩ => first | exact Fin.ext (by simp only [ix3, ix2]; omega) | rfl

theorem ref_tap0 (D : Fin 1536) (j : Cert.RglruSRefIdeal.S8x16x1536.Idx) (h2 : (j 2).val = D.val) : val_main_v9 (F := Ideal) x3 j = W x3 (ix2 (0 : Fin 4) D) := by
  rw [val_main_v9_apply, val_main_v8_apply, val_main_v7_apply, val_main_v6_apply]
  refine congrArg x3 (funext fun a => ?_)
  have hD := D.isLt
  match a with
  | ⟨0, _⟩ => first | exact Fin.ext (by simp only [ix3, ix2]; omega) | rfl
  | ⟨1, _⟩ => first | exact Fin.ext (by simp only [ix3, ix2]; omega) | rfl
  | ⟨2, _⟩ => first | exact Fin.ext (by simp only [ix3, ix2]; omega) | rfl

theorem ref_tap1 (D : Fin 1536) (j : Cert.RglruSRefIdeal.S8x16x1536.Idx) (h2 : (j 2).val = D.val) : val_main_v18 (F := Ideal) x3 j = W x3 (ix2 (1 : Fin 4) D) := by
  rw [val_main_v18_apply, val_main_v17_apply, val_main_v16_apply, val_main_v15_apply]
  refine congrArg x3 (funext fun a => ?_)
  have hD := D.isLt
  match a with
  | ⟨0, _⟩ => first | exact Fin.ext (by simp only [ix3, ix2]; omega) | rfl
  | ⟨1, _⟩ => first | exact Fin.ext (by simp only [ix3, ix2]; omega) | rfl
  | ⟨2, _⟩ => first | exact Fin.ext (by simp only [ix3, ix2]; omega) | rfl

theorem ref_tap2 (D : Fin 1536) (j : Cert.RglruSRefIdeal.S8x16x1536.Idx) (h2 : (j 2).val = D.val) : val_main_v25 (F := Ideal) x3 j = W x3 (ix2 (2 : Fin 4) D) := by
  rw [val_main_v25_apply, val_main_v24_apply, val_main_v23_apply, val_main_v22_apply]
  refine congrArg x3 (funext fun a => ?_)
  have hD := D.isLt
  match a with
  | ⟨0, _⟩ => first | exact Fin.ext (by simp only [ix3, ix2]; omega) | rfl
  | ⟨1, _⟩ => first | exact Fin.ext (by simp only [ix3, ix2]; omega) | rfl
  | ⟨2, _⟩ => first | exact Fin.ext (by simp only [ix3, ix2]; omega) | rfl

theorem ref_tap3 (D : Fin 1536) (j : Cert.RglruSRefIdeal.S8x16x1536.Idx) (h2 : (j 2).val = D.val) : val_main_v32 (F := Ideal) x3 j = W x3 (ix2 (3 : Fin 4) D) := by
  rw [val_main_v32_apply, val_main_v31_apply, val_main_v30_apply, val_main_v29_apply]
  refine congrArg x3 (funext fun a => ?_)
  have hD := D.isLt
  match a with
  | ⟨0, _⟩ => first | exact Fin.ext (by simp only [ix3, ix2]; omega) | rfl
  | ⟨1, _⟩ => first | exact Fin.ext (by simp only [ix3, ix2]; omega) | rfl
  | ⟨2, _⟩ => first | exact Fin.ext (by simp only [ix3, ix2]; omega) | rfl

theorem ref_cb (D : Fin 1536) (j : Cert.RglruSRefIdeal.S8x16x1536.Idx) (h2 : (j 2).val = D.val) : val_main_v12 (F := Ideal) x4 j = x4 (ix2 (0 : Fin 1) D) := by
  rw [val_main_v12_apply, val_main_v11_apply, val_main_v4_apply]
  refine congrArg x4 (funext fun a => ?_)
  have hD := D.isLt
  match a with
  | ⟨0, _⟩ => first | exact Fin.ext (by simp only [ix2]; omega) | rfl
  | ⟨1, _⟩ => first | exact Fin.ext (by simp only [ix2]; omega) | rfl

theorem ref_ba (D : Fin 1536) (j : Cert.RglruSRefIdeal.S8x16x1536.Idx) (h2 : (j 2).val = D.val) : val_main_v42 (F := Ideal) x6 j = x6 (ix2 (0 : Fin 1) D) := by
  rw [val_main_v42_apply, val_main_v41_apply, val_main_v40_apply]
  refine congrArg x6 (funext fun a => ?_)
  have hD := D.isLt
  match a with
  | ⟨0, _⟩ => first | exact Fin.ext (by simp only [ix2]; omega) | rfl
  | ⟨1, _⟩ => first | exact Fin.ext (by simp only [ix2]; omega) | rfl

theorem ref_bx (D : Fin 1536) (j : Cert.RglruSRefIdeal.S8x16x1536.Idx) (h2 : (j 2).val = D.val) : val_main_v56 (F := Ideal) x8 j = x8 (ix2 (0 : Fin 1) D) := by
  rw [val_main_v56_apply, val_main_v55_apply, val_main_v54_apply]
  refine congrArg x8 (funext fun a => ?_)
  have hD := D.isLt
  match a with
  | ⟨0, _⟩ => first | exact Fin.ext (by simp only [ix2]; omega) | rfl
  | ⟨1, _⟩ => first | exact Fin.ext (by simp only [ix2]; omega) | rfl

/-- The convolution. -/
theorem ref_conv (t : Fin 8) (s : Fin 16) (D : Fin 1536) (j : Cert.RglruSRefIdeal.S8x16x1536.Idx) (h0 : (j 0).val = t.val) (h1 : (j 1).val = s.val) (h2 : (j 2).val = D.val) :
    val_main_v34 (F := Ideal) x0 x1 x3 x4 j = conv (U x0 t) (W x3) x4 (C x1 t) s D := by
  have hs := s.isLt
  rw [val_main_v34_apply, val_main_v33_apply, val_main_v28_apply, val_main_v27_apply, val_main_v26_apply, val_main_v21_apply, val_main_v20_apply, val_main_v19_apply, val_main_v14_apply, val_main_v13_apply, val_main_v10_apply, val_main_v5_apply]
  rw [ref_cb x4 D j h2, ref_tap0 x3 D j h2, ref_tap1 x3 D j h2, ref_tap2 x3 D j h2, ref_tap3 x3 D j h2]
  rw [ref_row x0 x1 t s.val (by omega) D (idx_main_v5 j) (by simp only []; omega) (by simp only []; omega) (by simp only []; omega)]
  rw [ref_row x0 x1 t (s.val + 1) (by omega) D (idx_main_v14 j) (by simp only []; omega) (by simp only []; omega) (by simp only []; omega)]
  rw [ref_row x0 x1 t (s.val + 2) (by omega) D (idx_main_v21 j) (by simp only []; omega) (by simp only []; omega) (by simp only []; omega)]
  rw [ref_row x0 x1 t (s.val + 3) (by omega) D (idx_main_v28 j) (by simp only []; omega) (by simp only []; omega) (by simp only []; omega)]
  rfl

/-- The two gates. -/
theorem ref_r (t : Fin 8) (s : Fin 16) (D : Fin 1536) (j : Cert.RglruSRefIdeal.S8x16x1536.Idx) (h0 : (j 0).val = t.val) (h1 : (j 1).val = s.val) (h2 : (j 2).val = D.val) :
    val_main_v49 (F := Ideal) x0 x1 x3 x4 x5 x6 j = gate (conv (U x0 t) (W x3) x4 (C x1 t)) (M x5) x6 s D := by
  have ht := t.isLt; have hs := s.isLt; have hD := D.isLt
  have e : val_main_v39 (F := Ideal) x0 x1 x3 x4 x5 j = ∑ e : Fin 128, conv (U x0 t) (W x3) x4 (C x1 t) s ⟨128 * (D.val / 128) + e.val, by omega⟩ * M x5 (ix3 (⟨D.val / 128, by omega⟩ : Fin 12) e (⟨D.val % 128, by omega⟩ : Fin 128)) := by
    rw [val_main_v39_apply, val_main_v38_apply, val_main_v37_apply]
    refine Finset.sum_congr rfl fun e _ => ?_
    have he := e.isLt
    rw [mul_comm, val_main_v36_apply, val_main_v35_apply]
    rw [ref_conv x0 x1 x3 x4 t s ⟨128 * (D.val / 128) + e.val, by omega⟩ _ (by simp only []; omega) (by simp only []; omega) (by simp only []; omega)]
    refine congrArg (fun z : EReal => _ * z) (congrArg x5 (funext fun a => ?_))
    match a with
    | ⟨0, _⟩ => first | exact Fin.ext (by simp only [ix3, ix4]; omega) | rfl
    | ⟨1, _⟩ => first | exact Fin.ext (by simp only [ix3, ix4]; omega) | rfl
    | ⟨2, _⟩ => first | exact Fin.ext (by simp only [ix3, ix4]; omega) | rfl
    | ⟨3, _⟩ => first | exact Fin.ext (by simp only [ix3, ix4]; omega) | rfl
  rw [val_main_v49_apply, val_main_v48_apply, val_main_cst_0_apply, val_main_v47_apply, val_main_v46_apply, val_main_cst_apply, val_main_v45_apply, val_main_v44_apply, val_main_v43_apply, e, ref_ba x6 D j h2]
  show Ideal.div (Ideal.ofBits .f32 0x3F800000#32) (Ideal.ofBits .f32 0x3F800000#32 + Ideal.exp (-_)) = Ideal.div 1 (1 + Ideal.exp (-_))
  rw [Ideal.ofBits_one_f32]
  rfl

theorem ref_i (t : Fin 8) (s : Fin 16) (D : Fin 1536) (j : Cert.RglruSRefIdeal.S8x16x1536.Idx) (h0 : (j 0).val = t.val) (h1 : (j 1).val = s.val) (h2 : (j 2).val = D.val) :
    val_main_v63 (F := Ideal) x0 x1 x3 x4 x7 x8 j = gate (conv (U x0 t) (W x3) x4 (C x1 t)) (M x7) x8 s D := by
  have ht := t.isLt; have hs := s.isLt; have hD := D.isLt
  have e : val_main_v53 (F := Ideal) x0 x1 x3 x4 x7 j = ∑ e : Fin 128, conv (U x0 t) (W x3) x4 (C x1 t) s ⟨128 * (D.val / 128) + e.val, by omega⟩ * M x7 (ix3 (⟨D.val / 128, by omega⟩ : Fin 12) e (⟨D.val % 128, by omega⟩ : Fin 128)) := by
    rw [val_main_v53_apply, val_main_v52_apply, val_main_v51_apply]
    refine Finset.sum_congr rfl fun e _ => ?_
    have he := e.isLt
    rw [mul_comm, val_main_v50_apply, val_main_v35_apply]
    rw [ref_conv x0 x1 x3 x4 t s ⟨128 * (D.val / 128) + e.val, by omega⟩ _ (by simp only []; omega) (by simp only []; omega) (by simp only []; omega)]
    refine congrArg (fun z : EReal => _ * z) (congrArg x7 (funext fun a => ?_))
    match a with
    | ⟨0, _⟩ => first | exact Fin.ext (by simp only [ix3, ix4]; omega) | rfl
    | ⟨1, _⟩ => first | exact Fin.ext (by simp only [ix3, ix4]; omega) | rfl
    | ⟨2, _⟩ => first | exact Fin.ext (by simp only [ix3, ix4]; omega) | rfl
    | ⟨3, _⟩ => first | exact Fin.ext (by simp only [ix3, ix4]; omega) | rfl
  rw [val_main_v63_apply, val_main_v62_apply, val_main_cst_2_apply, val_main_v61_apply, val_main_v60_apply, val_main_cst_1_apply, val_main_v59_apply, val_main_v58_apply, val_main_v57_apply, e, ref_bx x8 D j h2]
  show Ideal.div (Ideal.ofBits .f32 0x3F800000#32) (Ideal.ofBits .f32 0x3F800000#32 + Ideal.exp (-_)) = Ideal.div 1 (1 + Ideal.exp (-_))
  rw [Ideal.ofBits_one_f32]
  rfl

/-- The rate's softplus. -/
theorem ref_splus (D : Fin 1536) (j : Cert.RglruSRefIdeal.S8x16x1536.Idx) (h2 : (j 2).val = D.val) : val_main_v70 (F := Ideal) x9 j = splus (x9 (ix2 (0 : Fin 1) D)) := by
  have e : ∀ i : Cert.RglruSRefIdeal.S1536.Idx, (i 0).val = D.val → val_main_v66 (F := Ideal) x9 i = x9 (ix2 (0 : Fin 1) D) := fun i hi => by
    rw [val_main_v66_apply]
    refine congrArg x9 (funext fun a => ?_)
    have hD := D.isLt
    match a with
    | ⟨0, _⟩ => first | exact Fin.ext (by simp only [ix2]; omega) | rfl
    | ⟨1, _⟩ => first | exact Fin.ext (by simp only [ix2]; omega) | rfl
  rw [val_main_v70_apply, val_main_v69_apply, val_main_v68_apply, val_main_call0_v4_apply]
  refine (une_self _ _ _).trans ?_
  rw [val_main_call0_v11_apply, val_main_call0_v10_apply, val_main_call0_v9_apply, val_main_call0_v8_apply, val_main_call0_v7_apply, val_main_call0_v3_apply, val_main_call0_v2_apply, val_main_call0_v1_apply, val_main_call0_v0_apply, val_main_v67_apply, e _ (by simp only []; omega)]
  simp only [val_main_call0_cst_apply]
  show max (-_) (Ideal.ofBits .f32 0x00000000#32) + Ideal.log1p (Ideal.exp (-max (-_ - Ideal.ofBits .f32 0x00000000#32) (-(-_ - Ideal.ofBits .f32 0x00000000#32)))) = _
  rw [Ideal.ofBits_zero_f32, sub_zero]
  rfl

/-- The exponent of a step, its decay and its gain. -/
theorem ref_log (t : Fin 8) (s : Fin 16) (D : Fin 1536) (j : Cert.RglruSRefIdeal.S8x16x1536.Idx) (h0 : (j 0).val = t.val) (h1 : (j 1).val = s.val) (h2 : (j 2).val = D.val) :
    val_main_v71 (F := Ideal) x0 x1 x3 x4 x5 x6 x9 j = gate (conv (U x0 t) (W x3) x4 (C x1 t)) (M x5) x6 s D * rate (x9 (ix2 (0 : Fin 1) D)) := by
  rw [val_main_v71_apply, val_main_v65_apply, val_main_v64_apply, val_main_cst_3_apply, ref_r x0 x1 x3 x4 x5 x6 t s D j h0 h1 h2, ref_splus x9 D j h2]
  unfold rate
  rw [mul_left_comm, ← mul_assoc]
  rfl

theorem ref_dec (t : Fin 8) (s : Fin 16) (D : Fin 1536) (j : Cert.RglruSRefIdeal.S8x16x1536.Idx) (h0 : (j 0).val = t.val) (h1 : (j 1).val = s.val) (h2 : (j 2).val = D.val) :
    val_main_v72 (F := Ideal) x0 x1 x3 x4 x5 x6 x9 j = dec (U x0 t) (W x3) x4 (M x5) x6 x9 (C x1 t) s D := by
  rw [val_main_v72_apply, ref_log x0 x1 x3 x4 x5 x6 x9 t s D j h0 h1 h2]
  rfl

theorem ref_gai (t : Fin 8) (s : Fin 16) (D : Fin 1536) (j : Cert.RglruSRefIdeal.S8x16x1536.Idx) (h0 : (j 0).val = t.val) (h1 : (j 1).val = s.val) (h2 : (j 2).val = D.val) :
    val_main_v79 (F := Ideal) x0 x1 x3 x4 x5 x6 x7 x8 x9 j = gai (U x0 t) (W x3) x4 (M x5) x6 (M x7) x8 x9 (C x1 t) s D := by
  rw [val_main_v79_apply, val_main_v78_apply, val_main_v77_apply, val_main_v76_apply, val_main_v75_apply, val_main_v74_apply, val_main_v73_apply, val_main_cst_4_apply, ref_log x0 x1 x3 x4 x5 x6 x9 t s D j h0 h1 h2, ref_i x0 x1 x3 x4 x7 x8 t s D j h0 h1 h2, ref_conv x0 x1 x3 x4 t s D j h0 h1 h2]
  unfold gai gain decay
  rw [Cert.Rglru.gain (log_ne_top (gate (conv (U x0 t) (W x3) x4 (C x1 t)) (M x5) x6 s D) (x9 (ix2 (0 : Fin 1) D)) (Cert.Rglru.logistic_nonneg _)), ← Cert.Rglru.lit_two]
  rfl

/-- The state before the first step. -/
theorem ref_h0 (t : Fin 8) (D : Fin 1536) (j : Cert.RglruSRefIdeal.S8x1536.Idx) (h0 : (j 0).val = t.val) (h1 : (j 1).val = D.val) : val_main_v80 (F := Ideal) x2 j = H x2 t (ix3 (0 : Fin 1) (0 : Fin 1) D) := by
  rw [val_main_v80_apply]
  refine congrArg x2 (funext fun a => ?_)
  have ht := t.isLt; have hD := D.isLt
  match a with
  | ⟨0, _⟩ => first | exact Fin.ext (by simp only [ix3]; omega) | rfl
  | ⟨1, _⟩ => first | exact Fin.ext (by simp only [ix3]; omega) | rfl
  | ⟨2, _⟩ => first | exact Fin.ext (by simp only [ix3]; omega) | rfl

/-- The states of the reference: after the frames, one by one. -/
abbrev ST (t : Fin 8) (D : Fin 1536) (n : ℕ) : EReal :=
  Cert.Rglru.states (decs (U x0 t) (W x3) x4 (M x5) x6 x9 (C x1 t) D) (gais (U x0 t) (W x3) x4 (M x5) x6 (M x7) x8 x9 (C x1 t) D) (H x2 t (ix3 (0 : Fin 1) (0 : Fin 1) D)) n

theorem ref_s0 (t : Fin 8) (D : Fin 1536) (j : Cert.RglruSRefIdeal.S8x1536.Idx) (h0 : (j 0).val = t.val) (h1 : (j 1).val = D.val) : val_main_v86 (F := Ideal) x0 x1 x2 x3 x4 x5 x6 x7 x8 x9 j = ST x0 x1 x2 x3 x4 x5 x6 x7 x8 x9 t D 0 := by
  have ht := t.isLt; have hD := D.isLt
  rw [val_main_v86_apply, val_main_v83_apply, val_main_v82_apply, val_main_v81_apply, val_main_v85_apply, val_main_v84_apply, ref_h0 x2 t D j h0 h1]
  rw [ref_dec x0 x1 x3 x4 x5 x6 x9 t 0 D _ (by simp only []; omega) (by simp only []; omega) (by simp only []; omega)]
  rw [ref_gai x0 x1 x3 x4 x5 x6 x7 x8 x9 t 0 D _ (by simp only []; omega) (by simp only []; omega) (by simp only []; omega)]
  rfl

theorem ref_s1 (t : Fin 8) (D : Fin 1536) (j : Cert.RglruSRefIdeal.S8x1536.Idx) (h0 : (j 0).val = t.val) (h1 : (j 1).val = D.val) : val_main_v92 (F := Ideal) x0 x1 x2 x3 x4 x5 x6 x7 x8 x9 j = ST x0 x1 x2 x3 x4 x5 x6 x7 x8 x9 t D 1 := by
  have ht := t.isLt; have hD := D.isLt
  rw [val_main_v92_apply, val_main_v89_apply, val_main_v88_apply, val_main_v87_apply, val_main_v91_apply, val_main_v90_apply, ref_s0 x0 x1 x2 x3 x4 x5 x6 x7 x8 x9 t D j h0 h1]
  rw [ref_dec x0 x1 x3 x4 x5 x6 x9 t 1 D _ (by simp only []; omega) (by simp only []; omega) (by simp only []; omega)]
  rw [ref_gai x0 x1 x3 x4 x5 x6 x7 x8 x9 t 1 D _ (by simp only []; omega) (by simp only []; omega) (by simp only []; omega)]
  rfl

theorem ref_s2 (t : Fin 8) (D : Fin 1536) (j : Cert.RglruSRefIdeal.S8x1536.Idx) (h0 : (j 0).val = t.val) (h1 : (j 1).val = D.val) : val_main_v98 (F := Ideal) x0 x1 x2 x3 x4 x5 x6 x7 x8 x9 j = ST x0 x1 x2 x3 x4 x5 x6 x7 x8 x9 t D 2 := by
  have ht := t.isLt; have hD := D.isLt
  rw [val_main_v98_apply, val_main_v95_apply, val_main_v94_apply, val_main_v93_apply, val_main_v97_apply, val_main_v96_apply, ref_s1 x0 x1 x2 x3 x4 x5 x6 x7 x8 x9 t D j h0 h1]
  rw [ref_dec x0 x1 x3 x4 x5 x6 x9 t 2 D _ (by simp only []; omega) (by simp only []; omega) (by simp only []; omega)]
  rw [ref_gai x0 x1 x3 x4 x5 x6 x7 x8 x9 t 2 D _ (by simp only []; omega) (by simp only []; omega) (by simp only []; omega)]
  rfl

theorem ref_s3 (t : Fin 8) (D : Fin 1536) (j : Cert.RglruSRefIdeal.S8x1536.Idx) (h0 : (j 0).val = t.val) (h1 : (j 1).val = D.val) : val_main_v104 (F := Ideal) x0 x1 x2 x3 x4 x5 x6 x7 x8 x9 j = ST x0 x1 x2 x3 x4 x5 x6 x7 x8 x9 t D 3 := by
  have ht := t.isLt; have hD := D.isLt
  rw [val_main_v104_apply, val_main_v101_apply, val_main_v100_apply, val_main_v99_apply, val_main_v103_apply, val_main_v102_apply, ref_s2 x0 x1 x2 x3 x4 x5 x6 x7 x8 x9 t D j h0 h1]
  rw [ref_dec x0 x1 x3 x4 x5 x6 x9 t 3 D _ (by simp only []; omega) (by simp only []; omega) (by simp only []; omega)]
  rw [ref_gai x0 x1 x3 x4 x5 x6 x7 x8 x9 t 3 D _ (by simp only []; omega) (by simp only []; omega) (by simp only []; omega)]
  rfl

theorem ref_s4 (t : Fin 8) (D : Fin 1536) (j : Cert.RglruSRefIdeal.S8x1536.Idx) (h0 : (j 0).val = t.val) (h1 : (j 1).val = D.val) : val_main_v110 (F := Ideal) x0 x1 x2 x3 x4 x5 x6 x7 x8 x9 j = ST x0 x1 x2 x3 x4 x5 x6 x7 x8 x9 t D 4 := by
  have ht := t.isLt; have hD := D.isLt
  rw [val_main_v110_apply, val_main_v107_apply, val_main_v106_apply, val_main_v105_apply, val_main_v109_apply, val_main_v108_apply, ref_s3 x0 x1 x2 x3 x4 x5 x6 x7 x8 x9 t D j h0 h1]
  rw [ref_dec x0 x1 x3 x4 x5 x6 x9 t 4 D _ (by simp only []; omega) (by simp only []; omega) (by simp only []; omega)]
  rw [ref_gai x0 x1 x3 x4 x5 x6 x7 x8 x9 t 4 D _ (by simp only []; omega) (by simp only []; omega) (by simp only []; omega)]
  rfl

theorem ref_s5 (t : Fin 8) (D : Fin 1536) (j : Cert.RglruSRefIdeal.S8x1536.Idx) (h0 : (j 0).val = t.val) (h1 : (j 1).val = D.val) : val_main_v116 (F := Ideal) x0 x1 x2 x3 x4 x5 x6 x7 x8 x9 j = ST x0 x1 x2 x3 x4 x5 x6 x7 x8 x9 t D 5 := by
  have ht := t.isLt; have hD := D.isLt
  rw [val_main_v116_apply, val_main_v113_apply, val_main_v112_apply, val_main_v111_apply, val_main_v115_apply, val_main_v114_apply, ref_s4 x0 x1 x2 x3 x4 x5 x6 x7 x8 x9 t D j h0 h1]
  rw [ref_dec x0 x1 x3 x4 x5 x6 x9 t 5 D _ (by simp only []; omega) (by simp only []; omega) (by simp only []; omega)]
  rw [ref_gai x0 x1 x3 x4 x5 x6 x7 x8 x9 t 5 D _ (by simp only []; omega) (by simp only []; omega) (by simp only []; omega)]
  rfl

theorem ref_s6 (t : Fin 8) (D : Fin 1536) (j : Cert.RglruSRefIdeal.S8x1536.Idx) (h0 : (j 0).val = t.val) (h1 : (j 1).val = D.val) : val_main_v122 (F := Ideal) x0 x1 x2 x3 x4 x5 x6 x7 x8 x9 j = ST x0 x1 x2 x3 x4 x5 x6 x7 x8 x9 t D 6 := by
  have ht := t.isLt; have hD := D.isLt
  rw [val_main_v122_apply, val_main_v119_apply, val_main_v118_apply, val_main_v117_apply, val_main_v121_apply, val_main_v120_apply, ref_s5 x0 x1 x2 x3 x4 x5 x6 x7 x8 x9 t D j h0 h1]
  rw [ref_dec x0 x1 x3 x4 x5 x6 x9 t 6 D _ (by simp only []; omega) (by simp only []; omega) (by simp only []; omega)]
  rw [ref_gai x0 x1 x3 x4 x5 x6 x7 x8 x9 t 6 D _ (by simp only []; omega) (by simp only []; omega) (by simp only []; omega)]
  rfl

theorem ref_s7 (t : Fin 8) (D : Fin 1536) (j : Cert.RglruSRefIdeal.S8x1536.Idx) (h0 : (j 0).val = t.val) (h1 : (j 1).val = D.val) : val_main_v128 (F := Ideal) x0 x1 x2 x3 x4 x5 x6 x7 x8 x9 j = ST x0 x1 x2 x3 x4 x5 x6 x7 x8 x9 t D 7 := by
  have ht := t.isLt; have hD := D.isLt
  rw [val_main_v128_apply, val_main_v125_apply, val_main_v124_apply, val_main_v123_apply, val_main_v127_apply, val_main_v126_apply, ref_s6 x0 x1 x2 x3 x4 x5 x6 x7 x8 x9 t D j h0 h1]
  rw [ref_dec x0 x1 x3 x4 x5 x6 x9 t 7 D _ (by simp only []; omega) (by simp only []; omega) (by simp only []; omega)]
  rw [ref_gai x0 x1 x3 x4 x5 x6 x7 x8 x9 t 7 D _ (by simp only []; omega) (by simp only []; omega) (by simp only []; omega)]
  rfl

theorem ref_s8 (t : Fin 8) (D : Fin 1536) (j : Cert.RglruSRefIdeal.S8x1536.Idx) (h0 : (j 0).val = t.val) (h1 : (j 1).val = D.val) : val_main_v134 (F := Ideal) x0 x1 x2 x3 x4 x5 x6 x7 x8 x9 j = ST x0 x1 x2 x3 x4 x5 x6 x7 x8 x9 t D 8 := by
  have ht := t.isLt; have hD := D.isLt
  rw [val_main_v134_apply, val_main_v131_apply, val_main_v130_apply, val_main_v129_apply, val_main_v133_apply, val_main_v132_apply, ref_s7 x0 x1 x2 x3 x4 x5 x6 x7 x8 x9 t D j h0 h1]
  rw [ref_dec x0 x1 x3 x4 x5 x6 x9 t 8 D _ (by simp only []; omega) (by simp only []; omega) (by simp only []; omega)]
  rw [ref_gai x0 x1 x3 x4 x5 x6 x7 x8 x9 t 8 D _ (by simp only []; omega) (by simp only []; omega) (by simp only []; omega)]
  rfl

theorem ref_s9 (t : Fin 8) (D : Fin 1536) (j : Cert.RglruSRefIdeal.S8x1536.Idx) (h0 : (j 0).val = t.val) (h1 : (j 1).val = D.val) : val_main_v140 (F := Ideal) x0 x1 x2 x3 x4 x5 x6 x7 x8 x9 j = ST x0 x1 x2 x3 x4 x5 x6 x7 x8 x9 t D 9 := by
  have ht := t.isLt; have hD := D.isLt
  rw [val_main_v140_apply, val_main_v137_apply, val_main_v136_apply, val_main_v135_apply, val_main_v139_apply, val_main_v138_apply, ref_s8 x0 x1 x2 x3 x4 x5 x6 x7 x8 x9 t D j h0 h1]
  rw [ref_dec x0 x1 x3 x4 x5 x6 x9 t 9 D _ (by simp only []; omega) (by simp only []; omega) (by simp only []; omega)]
  rw [ref_gai x0 x1 x3 x4 x5 x6 x7 x8 x9 t 9 D _ (by simp only []; omega) (by simp only []; omega) (by simp only []; omega)]
  rfl

theorem ref_s10 (t : Fin 8) (D : Fin 1536) (j : Cert.RglruSRefIdeal.S8x1536.Idx) (h0 : (j 0).val = t.val) (h1 : (j 1).val = D.val) : val_main_v146 (F := Ideal) x0 x1 x2 x3 x4 x5 x6 x7 x8 x9 j = ST x0 x1 x2 x3 x4 x5 x6 x7 x8 x9 t D 10 := by
  have ht := t.isLt; have hD := D.isLt
  rw [val_main_v146_apply, val_main_v143_apply, val_main_v142_apply, val_main_v141_apply, val_main_v145_apply, val_main_v144_apply, ref_s9 x0 x1 x2 x3 x4 x5 x6 x7 x8 x9 t D j h0 h1]
  rw [ref_dec x0 x1 x3 x4 x5 x6 x9 t 10 D _ (by simp only []; omega) (by simp only []; omega) (by simp only []; omega)]
  rw [ref_gai x0 x1 x3 x4 x5 x6 x7 x8 x9 t 10 D _ (by simp only []; omega) (by simp only []; omega) (by simp only []; omega)]
  rfl

theorem ref_s11 (t : Fin 8) (D : Fin 1536) (j : Cert.RglruSRefIdeal.S8x1536.Idx) (h0 : (j 0).val = t.val) (h1 : (j 1).val = D.val) : val_main_v152 (F := Ideal) x0 x1 x2 x3 x4 x5 x6 x7 x8 x9 j = ST x0 x1 x2 x3 x4 x5 x6 x7 x8 x9 t D 11 := by
  have ht := t.isLt; have hD := D.isLt
  rw [val_main_v152_apply, val_main_v149_apply, val_main_v148_apply, val_main_v147_apply, val_main_v151_apply, val_main_v150_apply, ref_s10 x0 x1 x2 x3 x4 x5 x6 x7 x8 x9 t D j h0 h1]
  rw [ref_dec x0 x1 x3 x4 x5 x6 x9 t 11 D _ (by simp only []; omega) (by simp only []; omega) (by simp only []; omega)]
  rw [ref_gai x0 x1 x3 x4 x5 x6 x7 x8 x9 t 11 D _ (by simp only []; omega) (by simp only []; omega) (by simp only []; omega)]
  rfl

theorem ref_s12 (t : Fin 8) (D : Fin 1536) (j : Cert.RglruSRefIdeal.S8x1536.Idx) (h0 : (j 0).val = t.val) (h1 : (j 1).val = D.val) : val_main_v158 (F := Ideal) x0 x1 x2 x3 x4 x5 x6 x7 x8 x9 j = ST x0 x1 x2 x3 x4 x5 x6 x7 x8 x9 t D 12 := by
  have ht := t.isLt; have hD := D.isLt
  rw [val_main_v158_apply, val_main_v155_apply, val_main_v154_apply, val_main_v153_apply, val_main_v157_apply, val_main_v156_apply, ref_s11 x0 x1 x2 x3 x4 x5 x6 x7 x8 x9 t D j h0 h1]
  rw [ref_dec x0 x1 x3 x4 x5 x6 x9 t 12 D _ (by simp only []; omega) (by simp only []; omega) (by simp only []; omega)]
  rw [ref_gai x0 x1 x3 x4 x5 x6 x7 x8 x9 t 12 D _ (by simp only []; omega) (by simp only []; omega) (by simp only []; omega)]
  rfl

theorem ref_s13 (t : Fin 8) (D : Fin 1536) (j : Cert.RglruSRefIdeal.S8x1536.Idx) (h0 : (j 0).val = t.val) (h1 : (j 1).val = D.val) : val_main_v164 (F := Ideal) x0 x1 x2 x3 x4 x5 x6 x7 x8 x9 j = ST x0 x1 x2 x3 x4 x5 x6 x7 x8 x9 t D 13 := by
  have ht := t.isLt; have hD := D.isLt
  rw [val_main_v164_apply, val_main_v161_apply, val_main_v160_apply, val_main_v159_apply, val_main_v163_apply, val_main_v162_apply, ref_s12 x0 x1 x2 x3 x4 x5 x6 x7 x8 x9 t D j h0 h1]
  rw [ref_dec x0 x1 x3 x4 x5 x6 x9 t 13 D _ (by simp only []; omega) (by simp only []; omega) (by simp only []; omega)]
  rw [ref_gai x0 x1 x3 x4 x5 x6 x7 x8 x9 t 13 D _ (by simp only []; omega) (by simp only []; omega) (by simp only []; omega)]
  rfl

theorem ref_s14 (t : Fin 8) (D : Fin 1536) (j : Cert.RglruSRefIdeal.S8x1536.Idx) (h0 : (j 0).val = t.val) (h1 : (j 1).val = D.val) : val_main_v170 (F := Ideal) x0 x1 x2 x3 x4 x5 x6 x7 x8 x9 j = ST x0 x1 x2 x3 x4 x5 x6 x7 x8 x9 t D 14 := by
  have ht := t.isLt; have hD := D.isLt
  rw [val_main_v170_apply, val_main_v167_apply, val_main_v166_apply, val_main_v165_apply, val_main_v169_apply, val_main_v168_apply, ref_s13 x0 x1 x2 x3 x4 x5 x6 x7 x8 x9 t D j h0 h1]
  rw [ref_dec x0 x1 x3 x4 x5 x6 x9 t 14 D _ (by simp only []; omega) (by simp only []; omega) (by simp only []; omega)]
  rw [ref_gai x0 x1 x3 x4 x5 x6 x7 x8 x9 t 14 D _ (by simp only []; omega) (by simp only []; omega) (by simp only []; omega)]
  rfl

theorem ref_s15 (t : Fin 8) (D : Fin 1536) (j : Cert.RglruSRefIdeal.S8x1536.Idx) (h0 : (j 0).val = t.val) (h1 : (j 1).val = D.val) : val_main_v176 (F := Ideal) x0 x1 x2 x3 x4 x5 x6 x7 x8 x9 j = ST x0 x1 x2 x3 x4 x5 x6 x7 x8 x9 t D 15 := by
  have ht := t.isLt; have hD := D.isLt
  rw [val_main_v176_apply, val_main_v173_apply, val_main_v172_apply, val_main_v171_apply, val_main_v175_apply, val_main_v174_apply, ref_s14 x0 x1 x2 x3 x4 x5 x6 x7 x8 x9 t D j h0 h1]
  rw [ref_dec x0 x1 x3 x4 x5 x6 x9 t 15 D _ (by simp only []; omega) (by simp only []; omega) (by simp only []; omega)]
  rw [ref_gai x0 x1 x3 x4 x5 x6 x7 x8 x9 t 15 D _ (by simp only []; omega) (by simp only []; omega) (by simp only []; omega)]
  rfl

set_option maxHeartbeats 2000000 in
theorem stack0 (y0 y1 y2 y3 y4 y5 y6 y7 y8 y9 y10 y11 y12 y13 y14 y15 : FVec Ideal Cert.RglruSRefIdeal.S8x1x1536 .f32) (hc : Shape.Concatenates [Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536] Cert.RglruSRefIdeal.S8x16x1536 1) (t : Fin 8) (D : Fin 1536) (j : Cert.RglruSRefIdeal.S8x16x1536.Idx) (h0 : (j 0).val = t.val) (h1 : (j 1).val = 0) (h2 : (j 2).val = D.val) :
    concatenate Cert.RglruSRefIdeal.S8x16x1536 1 [⟨Cert.RglruSRefIdeal.S8x1x1536, y0⟩, ⟨Cert.RglruSRefIdeal.S8x1x1536, y1⟩, ⟨Cert.RglruSRefIdeal.S8x1x1536, y2⟩, ⟨Cert.RglruSRefIdeal.S8x1x1536, y3⟩, ⟨Cert.RglruSRefIdeal.S8x1x1536, y4⟩, ⟨Cert.RglruSRefIdeal.S8x1x1536, y5⟩, ⟨Cert.RglruSRefIdeal.S8x1x1536, y6⟩, ⟨Cert.RglruSRefIdeal.S8x1x1536, y7⟩, ⟨Cert.RglruSRefIdeal.S8x1x1536, y8⟩, ⟨Cert.RglruSRefIdeal.S8x1x1536, y9⟩, ⟨Cert.RglruSRefIdeal.S8x1x1536, y10⟩, ⟨Cert.RglruSRefIdeal.S8x1x1536, y11⟩, ⟨Cert.RglruSRefIdeal.S8x1x1536, y12⟩, ⟨Cert.RglruSRefIdeal.S8x1x1536, y13⟩, ⟨Cert.RglruSRefIdeal.S8x1x1536, y14⟩, ⟨Cert.RglruSRefIdeal.S8x1x1536, y15⟩] hc j = y0 (ix3 t (0 : Fin 1) D) := by
  refine concatenate_apply_piece 1 _ _ j 0 (by exact (by decide : 0 < 16)) Cert.RglruSRefIdeal.S8x1x1536 y0 rfl rfl 0 rfl (ix3 t (0 : Fin 1) D) ?_ ?_
  · intro b hb
    match b with
    | ⟨0, _⟩ => exact h0.symm
    | ⟨1, _⟩ => exact absurd rfl hb
    | ⟨2, _⟩ => exact h2.symm
  · show 0 + 0 = (j 1).val
    omega

set_option maxHeartbeats 2000000 in
theorem stack1 (y0 y1 y2 y3 y4 y5 y6 y7 y8 y9 y10 y11 y12 y13 y14 y15 : FVec Ideal Cert.RglruSRefIdeal.S8x1x1536 .f32) (hc : Shape.Concatenates [Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536] Cert.RglruSRefIdeal.S8x16x1536 1) (t : Fin 8) (D : Fin 1536) (j : Cert.RglruSRefIdeal.S8x16x1536.Idx) (h0 : (j 0).val = t.val) (h1 : (j 1).val = 1) (h2 : (j 2).val = D.val) :
    concatenate Cert.RglruSRefIdeal.S8x16x1536 1 [⟨Cert.RglruSRefIdeal.S8x1x1536, y0⟩, ⟨Cert.RglruSRefIdeal.S8x1x1536, y1⟩, ⟨Cert.RglruSRefIdeal.S8x1x1536, y2⟩, ⟨Cert.RglruSRefIdeal.S8x1x1536, y3⟩, ⟨Cert.RglruSRefIdeal.S8x1x1536, y4⟩, ⟨Cert.RglruSRefIdeal.S8x1x1536, y5⟩, ⟨Cert.RglruSRefIdeal.S8x1x1536, y6⟩, ⟨Cert.RglruSRefIdeal.S8x1x1536, y7⟩, ⟨Cert.RglruSRefIdeal.S8x1x1536, y8⟩, ⟨Cert.RglruSRefIdeal.S8x1x1536, y9⟩, ⟨Cert.RglruSRefIdeal.S8x1x1536, y10⟩, ⟨Cert.RglruSRefIdeal.S8x1x1536, y11⟩, ⟨Cert.RglruSRefIdeal.S8x1x1536, y12⟩, ⟨Cert.RglruSRefIdeal.S8x1x1536, y13⟩, ⟨Cert.RglruSRefIdeal.S8x1x1536, y14⟩, ⟨Cert.RglruSRefIdeal.S8x1x1536, y15⟩] hc j = y1 (ix3 t (0 : Fin 1) D) := by
  refine concatenate_apply_piece 1 _ _ j 1 (by exact (by decide : 1 < 16)) Cert.RglruSRefIdeal.S8x1x1536 y1 rfl rfl 1 rfl (ix3 t (0 : Fin 1) D) ?_ ?_
  · intro b hb
    match b with
    | ⟨0, _⟩ => exact h0.symm
    | ⟨1, _⟩ => exact absurd rfl hb
    | ⟨2, _⟩ => exact h2.symm
  · show 1 + 0 = (j 1).val
    omega

set_option maxHeartbeats 2000000 in
theorem stack2 (y0 y1 y2 y3 y4 y5 y6 y7 y8 y9 y10 y11 y12 y13 y14 y15 : FVec Ideal Cert.RglruSRefIdeal.S8x1x1536 .f32) (hc : Shape.Concatenates [Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536] Cert.RglruSRefIdeal.S8x16x1536 1) (t : Fin 8) (D : Fin 1536) (j : Cert.RglruSRefIdeal.S8x16x1536.Idx) (h0 : (j 0).val = t.val) (h1 : (j 1).val = 2) (h2 : (j 2).val = D.val) :
    concatenate Cert.RglruSRefIdeal.S8x16x1536 1 [⟨Cert.RglruSRefIdeal.S8x1x1536, y0⟩, ⟨Cert.RglruSRefIdeal.S8x1x1536, y1⟩, ⟨Cert.RglruSRefIdeal.S8x1x1536, y2⟩, ⟨Cert.RglruSRefIdeal.S8x1x1536, y3⟩, ⟨Cert.RglruSRefIdeal.S8x1x1536, y4⟩, ⟨Cert.RglruSRefIdeal.S8x1x1536, y5⟩, ⟨Cert.RglruSRefIdeal.S8x1x1536, y6⟩, ⟨Cert.RglruSRefIdeal.S8x1x1536, y7⟩, ⟨Cert.RglruSRefIdeal.S8x1x1536, y8⟩, ⟨Cert.RglruSRefIdeal.S8x1x1536, y9⟩, ⟨Cert.RglruSRefIdeal.S8x1x1536, y10⟩, ⟨Cert.RglruSRefIdeal.S8x1x1536, y11⟩, ⟨Cert.RglruSRefIdeal.S8x1x1536, y12⟩, ⟨Cert.RglruSRefIdeal.S8x1x1536, y13⟩, ⟨Cert.RglruSRefIdeal.S8x1x1536, y14⟩, ⟨Cert.RglruSRefIdeal.S8x1x1536, y15⟩] hc j = y2 (ix3 t (0 : Fin 1) D) := by
  refine concatenate_apply_piece 1 _ _ j 2 (by exact (by decide : 2 < 16)) Cert.RglruSRefIdeal.S8x1x1536 y2 rfl rfl 2 rfl (ix3 t (0 : Fin 1) D) ?_ ?_
  · intro b hb
    match b with
    | ⟨0, _⟩ => exact h0.symm
    | ⟨1, _⟩ => exact absurd rfl hb
    | ⟨2, _⟩ => exact h2.symm
  · show 2 + 0 = (j 1).val
    omega

set_option maxHeartbeats 2000000 in
theorem stack3 (y0 y1 y2 y3 y4 y5 y6 y7 y8 y9 y10 y11 y12 y13 y14 y15 : FVec Ideal Cert.RglruSRefIdeal.S8x1x1536 .f32) (hc : Shape.Concatenates [Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536] Cert.RglruSRefIdeal.S8x16x1536 1) (t : Fin 8) (D : Fin 1536) (j : Cert.RglruSRefIdeal.S8x16x1536.Idx) (h0 : (j 0).val = t.val) (h1 : (j 1).val = 3) (h2 : (j 2).val = D.val) :
    concatenate Cert.RglruSRefIdeal.S8x16x1536 1 [⟨Cert.RglruSRefIdeal.S8x1x1536, y0⟩, ⟨Cert.RglruSRefIdeal.S8x1x1536, y1⟩, ⟨Cert.RglruSRefIdeal.S8x1x1536, y2⟩, ⟨Cert.RglruSRefIdeal.S8x1x1536, y3⟩, ⟨Cert.RglruSRefIdeal.S8x1x1536, y4⟩, ⟨Cert.RglruSRefIdeal.S8x1x1536, y5⟩, ⟨Cert.RglruSRefIdeal.S8x1x1536, y6⟩, ⟨Cert.RglruSRefIdeal.S8x1x1536, y7⟩, ⟨Cert.RglruSRefIdeal.S8x1x1536, y8⟩, ⟨Cert.RglruSRefIdeal.S8x1x1536, y9⟩, ⟨Cert.RglruSRefIdeal.S8x1x1536, y10⟩, ⟨Cert.RglruSRefIdeal.S8x1x1536, y11⟩, ⟨Cert.RglruSRefIdeal.S8x1x1536, y12⟩, ⟨Cert.RglruSRefIdeal.S8x1x1536, y13⟩, ⟨Cert.RglruSRefIdeal.S8x1x1536, y14⟩, ⟨Cert.RglruSRefIdeal.S8x1x1536, y15⟩] hc j = y3 (ix3 t (0 : Fin 1) D) := by
  refine concatenate_apply_piece 1 _ _ j 3 (by exact (by decide : 3 < 16)) Cert.RglruSRefIdeal.S8x1x1536 y3 rfl rfl 3 rfl (ix3 t (0 : Fin 1) D) ?_ ?_
  · intro b hb
    match b with
    | ⟨0, _⟩ => exact h0.symm
    | ⟨1, _⟩ => exact absurd rfl hb
    | ⟨2, _⟩ => exact h2.symm
  · show 3 + 0 = (j 1).val
    omega

set_option maxHeartbeats 2000000 in
theorem stack4 (y0 y1 y2 y3 y4 y5 y6 y7 y8 y9 y10 y11 y12 y13 y14 y15 : FVec Ideal Cert.RglruSRefIdeal.S8x1x1536 .f32) (hc : Shape.Concatenates [Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536] Cert.RglruSRefIdeal.S8x16x1536 1) (t : Fin 8) (D : Fin 1536) (j : Cert.RglruSRefIdeal.S8x16x1536.Idx) (h0 : (j 0).val = t.val) (h1 : (j 1).val = 4) (h2 : (j 2).val = D.val) :
    concatenate Cert.RglruSRefIdeal.S8x16x1536 1 [⟨Cert.RglruSRefIdeal.S8x1x1536, y0⟩, ⟨Cert.RglruSRefIdeal.S8x1x1536, y1⟩, ⟨Cert.RglruSRefIdeal.S8x1x1536, y2⟩, ⟨Cert.RglruSRefIdeal.S8x1x1536, y3⟩, ⟨Cert.RglruSRefIdeal.S8x1x1536, y4⟩, ⟨Cert.RglruSRefIdeal.S8x1x1536, y5⟩, ⟨Cert.RglruSRefIdeal.S8x1x1536, y6⟩, ⟨Cert.RglruSRefIdeal.S8x1x1536, y7⟩, ⟨Cert.RglruSRefIdeal.S8x1x1536, y8⟩, ⟨Cert.RglruSRefIdeal.S8x1x1536, y9⟩, ⟨Cert.RglruSRefIdeal.S8x1x1536, y10⟩, ⟨Cert.RglruSRefIdeal.S8x1x1536, y11⟩, ⟨Cert.RglruSRefIdeal.S8x1x1536, y12⟩, ⟨Cert.RglruSRefIdeal.S8x1x1536, y13⟩, ⟨Cert.RglruSRefIdeal.S8x1x1536, y14⟩, ⟨Cert.RglruSRefIdeal.S8x1x1536, y15⟩] hc j = y4 (ix3 t (0 : Fin 1) D) := by
  refine concatenate_apply_piece 1 _ _ j 4 (by exact (by decide : 4 < 16)) Cert.RglruSRefIdeal.S8x1x1536 y4 rfl rfl 4 rfl (ix3 t (0 : Fin 1) D) ?_ ?_
  · intro b hb
    match b with
    | ⟨0, _⟩ => exact h0.symm
    | ⟨1, _⟩ => exact absurd rfl hb
    | ⟨2, _⟩ => exact h2.symm
  · show 4 + 0 = (j 1).val
    omega

set_option maxHeartbeats 2000000 in
theorem stack5 (y0 y1 y2 y3 y4 y5 y6 y7 y8 y9 y10 y11 y12 y13 y14 y15 : FVec Ideal Cert.RglruSRefIdeal.S8x1x1536 .f32) (hc : Shape.Concatenates [Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536] Cert.RglruSRefIdeal.S8x16x1536 1) (t : Fin 8) (D : Fin 1536) (j : Cert.RglruSRefIdeal.S8x16x1536.Idx) (h0 : (j 0).val = t.val) (h1 : (j 1).val = 5) (h2 : (j 2).val = D.val) :
    concatenate Cert.RglruSRefIdeal.S8x16x1536 1 [⟨Cert.RglruSRefIdeal.S8x1x1536, y0⟩, ⟨Cert.RglruSRefIdeal.S8x1x1536, y1⟩, ⟨Cert.RglruSRefIdeal.S8x1x1536, y2⟩, ⟨Cert.RglruSRefIdeal.S8x1x1536, y3⟩, ⟨Cert.RglruSRefIdeal.S8x1x1536, y4⟩, ⟨Cert.RglruSRefIdeal.S8x1x1536, y5⟩, ⟨Cert.RglruSRefIdeal.S8x1x1536, y6⟩, ⟨Cert.RglruSRefIdeal.S8x1x1536, y7⟩, ⟨Cert.RglruSRefIdeal.S8x1x1536, y8⟩, ⟨Cert.RglruSRefIdeal.S8x1x1536, y9⟩, ⟨Cert.RglruSRefIdeal.S8x1x1536, y10⟩, ⟨Cert.RglruSRefIdeal.S8x1x1536, y11⟩, ⟨Cert.RglruSRefIdeal.S8x1x1536, y12⟩, ⟨Cert.RglruSRefIdeal.S8x1x1536, y13⟩, ⟨Cert.RglruSRefIdeal.S8x1x1536, y14⟩, ⟨Cert.RglruSRefIdeal.S8x1x1536, y15⟩] hc j = y5 (ix3 t (0 : Fin 1) D) := by
  refine concatenate_apply_piece 1 _ _ j 5 (by exact (by decide : 5 < 16)) Cert.RglruSRefIdeal.S8x1x1536 y5 rfl rfl 5 rfl (ix3 t (0 : Fin 1) D) ?_ ?_
  · intro b hb
    match b with
    | ⟨0, _⟩ => exact h0.symm
    | ⟨1, _⟩ => exact absurd rfl hb
    | ⟨2, _⟩ => exact h2.symm
  · show 5 + 0 = (j 1).val
    omega

set_option maxHeartbeats 2000000 in
theorem stack6 (y0 y1 y2 y3 y4 y5 y6 y7 y8 y9 y10 y11 y12 y13 y14 y15 : FVec Ideal Cert.RglruSRefIdeal.S8x1x1536 .f32) (hc : Shape.Concatenates [Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536] Cert.RglruSRefIdeal.S8x16x1536 1) (t : Fin 8) (D : Fin 1536) (j : Cert.RglruSRefIdeal.S8x16x1536.Idx) (h0 : (j 0).val = t.val) (h1 : (j 1).val = 6) (h2 : (j 2).val = D.val) :
    concatenate Cert.RglruSRefIdeal.S8x16x1536 1 [⟨Cert.RglruSRefIdeal.S8x1x1536, y0⟩, ⟨Cert.RglruSRefIdeal.S8x1x1536, y1⟩, ⟨Cert.RglruSRefIdeal.S8x1x1536, y2⟩, ⟨Cert.RglruSRefIdeal.S8x1x1536, y3⟩, ⟨Cert.RglruSRefIdeal.S8x1x1536, y4⟩, ⟨Cert.RglruSRefIdeal.S8x1x1536, y5⟩, ⟨Cert.RglruSRefIdeal.S8x1x1536, y6⟩, ⟨Cert.RglruSRefIdeal.S8x1x1536, y7⟩, ⟨Cert.RglruSRefIdeal.S8x1x1536, y8⟩, ⟨Cert.RglruSRefIdeal.S8x1x1536, y9⟩, ⟨Cert.RglruSRefIdeal.S8x1x1536, y10⟩, ⟨Cert.RglruSRefIdeal.S8x1x1536, y11⟩, ⟨Cert.RglruSRefIdeal.S8x1x1536, y12⟩, ⟨Cert.RglruSRefIdeal.S8x1x1536, y13⟩, ⟨Cert.RglruSRefIdeal.S8x1x1536, y14⟩, ⟨Cert.RglruSRefIdeal.S8x1x1536, y15⟩] hc j = y6 (ix3 t (0 : Fin 1) D) := by
  refine concatenate_apply_piece 1 _ _ j 6 (by exact (by decide : 6 < 16)) Cert.RglruSRefIdeal.S8x1x1536 y6 rfl rfl 6 rfl (ix3 t (0 : Fin 1) D) ?_ ?_
  · intro b hb
    match b with
    | ⟨0, _⟩ => exact h0.symm
    | ⟨1, _⟩ => exact absurd rfl hb
    | ⟨2, _⟩ => exact h2.symm
  · show 6 + 0 = (j 1).val
    omega

set_option maxHeartbeats 2000000 in
theorem stack7 (y0 y1 y2 y3 y4 y5 y6 y7 y8 y9 y10 y11 y12 y13 y14 y15 : FVec Ideal Cert.RglruSRefIdeal.S8x1x1536 .f32) (hc : Shape.Concatenates [Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536] Cert.RglruSRefIdeal.S8x16x1536 1) (t : Fin 8) (D : Fin 1536) (j : Cert.RglruSRefIdeal.S8x16x1536.Idx) (h0 : (j 0).val = t.val) (h1 : (j 1).val = 7) (h2 : (j 2).val = D.val) :
    concatenate Cert.RglruSRefIdeal.S8x16x1536 1 [⟨Cert.RglruSRefIdeal.S8x1x1536, y0⟩, ⟨Cert.RglruSRefIdeal.S8x1x1536, y1⟩, ⟨Cert.RglruSRefIdeal.S8x1x1536, y2⟩, ⟨Cert.RglruSRefIdeal.S8x1x1536, y3⟩, ⟨Cert.RglruSRefIdeal.S8x1x1536, y4⟩, ⟨Cert.RglruSRefIdeal.S8x1x1536, y5⟩, ⟨Cert.RglruSRefIdeal.S8x1x1536, y6⟩, ⟨Cert.RglruSRefIdeal.S8x1x1536, y7⟩, ⟨Cert.RglruSRefIdeal.S8x1x1536, y8⟩, ⟨Cert.RglruSRefIdeal.S8x1x1536, y9⟩, ⟨Cert.RglruSRefIdeal.S8x1x1536, y10⟩, ⟨Cert.RglruSRefIdeal.S8x1x1536, y11⟩, ⟨Cert.RglruSRefIdeal.S8x1x1536, y12⟩, ⟨Cert.RglruSRefIdeal.S8x1x1536, y13⟩, ⟨Cert.RglruSRefIdeal.S8x1x1536, y14⟩, ⟨Cert.RglruSRefIdeal.S8x1x1536, y15⟩] hc j = y7 (ix3 t (0 : Fin 1) D) := by
  refine concatenate_apply_piece 1 _ _ j 7 (by exact (by decide : 7 < 16)) Cert.RglruSRefIdeal.S8x1x1536 y7 rfl rfl 7 rfl (ix3 t (0 : Fin 1) D) ?_ ?_
  · intro b hb
    match b with
    | ⟨0, _⟩ => exact h0.symm
    | ⟨1, _⟩ => exact absurd rfl hb
    | ⟨2, _⟩ => exact h2.symm
  · show 7 + 0 = (j 1).val
    omega

set_option maxHeartbeats 2000000 in
theorem stack8 (y0 y1 y2 y3 y4 y5 y6 y7 y8 y9 y10 y11 y12 y13 y14 y15 : FVec Ideal Cert.RglruSRefIdeal.S8x1x1536 .f32) (hc : Shape.Concatenates [Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536] Cert.RglruSRefIdeal.S8x16x1536 1) (t : Fin 8) (D : Fin 1536) (j : Cert.RglruSRefIdeal.S8x16x1536.Idx) (h0 : (j 0).val = t.val) (h1 : (j 1).val = 8) (h2 : (j 2).val = D.val) :
    concatenate Cert.RglruSRefIdeal.S8x16x1536 1 [⟨Cert.RglruSRefIdeal.S8x1x1536, y0⟩, ⟨Cert.RglruSRefIdeal.S8x1x1536, y1⟩, ⟨Cert.RglruSRefIdeal.S8x1x1536, y2⟩, ⟨Cert.RglruSRefIdeal.S8x1x1536, y3⟩, ⟨Cert.RglruSRefIdeal.S8x1x1536, y4⟩, ⟨Cert.RglruSRefIdeal.S8x1x1536, y5⟩, ⟨Cert.RglruSRefIdeal.S8x1x1536, y6⟩, ⟨Cert.RglruSRefIdeal.S8x1x1536, y7⟩, ⟨Cert.RglruSRefIdeal.S8x1x1536, y8⟩, ⟨Cert.RglruSRefIdeal.S8x1x1536, y9⟩, ⟨Cert.RglruSRefIdeal.S8x1x1536, y10⟩, ⟨Cert.RglruSRefIdeal.S8x1x1536, y11⟩, ⟨Cert.RglruSRefIdeal.S8x1x1536, y12⟩, ⟨Cert.RglruSRefIdeal.S8x1x1536, y13⟩, ⟨Cert.RglruSRefIdeal.S8x1x1536, y14⟩, ⟨Cert.RglruSRefIdeal.S8x1x1536, y15⟩] hc j = y8 (ix3 t (0 : Fin 1) D) := by
  refine concatenate_apply_piece 1 _ _ j 8 (by exact (by decide : 8 < 16)) Cert.RglruSRefIdeal.S8x1x1536 y8 rfl rfl 8 rfl (ix3 t (0 : Fin 1) D) ?_ ?_
  · intro b hb
    match b with
    | ⟨0, _⟩ => exact h0.symm
    | ⟨1, _⟩ => exact absurd rfl hb
    | ⟨2, _⟩ => exact h2.symm
  · show 8 + 0 = (j 1).val
    omega

set_option maxHeartbeats 2000000 in
theorem stack9 (y0 y1 y2 y3 y4 y5 y6 y7 y8 y9 y10 y11 y12 y13 y14 y15 : FVec Ideal Cert.RglruSRefIdeal.S8x1x1536 .f32) (hc : Shape.Concatenates [Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536] Cert.RglruSRefIdeal.S8x16x1536 1) (t : Fin 8) (D : Fin 1536) (j : Cert.RglruSRefIdeal.S8x16x1536.Idx) (h0 : (j 0).val = t.val) (h1 : (j 1).val = 9) (h2 : (j 2).val = D.val) :
    concatenate Cert.RglruSRefIdeal.S8x16x1536 1 [⟨Cert.RglruSRefIdeal.S8x1x1536, y0⟩, ⟨Cert.RglruSRefIdeal.S8x1x1536, y1⟩, ⟨Cert.RglruSRefIdeal.S8x1x1536, y2⟩, ⟨Cert.RglruSRefIdeal.S8x1x1536, y3⟩, ⟨Cert.RglruSRefIdeal.S8x1x1536, y4⟩, ⟨Cert.RglruSRefIdeal.S8x1x1536, y5⟩, ⟨Cert.RglruSRefIdeal.S8x1x1536, y6⟩, ⟨Cert.RglruSRefIdeal.S8x1x1536, y7⟩, ⟨Cert.RglruSRefIdeal.S8x1x1536, y8⟩, ⟨Cert.RglruSRefIdeal.S8x1x1536, y9⟩, ⟨Cert.RglruSRefIdeal.S8x1x1536, y10⟩, ⟨Cert.RglruSRefIdeal.S8x1x1536, y11⟩, ⟨Cert.RglruSRefIdeal.S8x1x1536, y12⟩, ⟨Cert.RglruSRefIdeal.S8x1x1536, y13⟩, ⟨Cert.RglruSRefIdeal.S8x1x1536, y14⟩, ⟨Cert.RglruSRefIdeal.S8x1x1536, y15⟩] hc j = y9 (ix3 t (0 : Fin 1) D) := by
  refine concatenate_apply_piece 1 _ _ j 9 (by exact (by decide : 9 < 16)) Cert.RglruSRefIdeal.S8x1x1536 y9 rfl rfl 9 rfl (ix3 t (0 : Fin 1) D) ?_ ?_
  · intro b hb
    match b with
    | ⟨0, _⟩ => exact h0.symm
    | ⟨1, _⟩ => exact absurd rfl hb
    | ⟨2, _⟩ => exact h2.symm
  · show 9 + 0 = (j 1).val
    omega

set_option maxHeartbeats 2000000 in
theorem stack10 (y0 y1 y2 y3 y4 y5 y6 y7 y8 y9 y10 y11 y12 y13 y14 y15 : FVec Ideal Cert.RglruSRefIdeal.S8x1x1536 .f32) (hc : Shape.Concatenates [Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536] Cert.RglruSRefIdeal.S8x16x1536 1) (t : Fin 8) (D : Fin 1536) (j : Cert.RglruSRefIdeal.S8x16x1536.Idx) (h0 : (j 0).val = t.val) (h1 : (j 1).val = 10) (h2 : (j 2).val = D.val) :
    concatenate Cert.RglruSRefIdeal.S8x16x1536 1 [⟨Cert.RglruSRefIdeal.S8x1x1536, y0⟩, ⟨Cert.RglruSRefIdeal.S8x1x1536, y1⟩, ⟨Cert.RglruSRefIdeal.S8x1x1536, y2⟩, ⟨Cert.RglruSRefIdeal.S8x1x1536, y3⟩, ⟨Cert.RglruSRefIdeal.S8x1x1536, y4⟩, ⟨Cert.RglruSRefIdeal.S8x1x1536, y5⟩, ⟨Cert.RglruSRefIdeal.S8x1x1536, y6⟩, ⟨Cert.RglruSRefIdeal.S8x1x1536, y7⟩, ⟨Cert.RglruSRefIdeal.S8x1x1536, y8⟩, ⟨Cert.RglruSRefIdeal.S8x1x1536, y9⟩, ⟨Cert.RglruSRefIdeal.S8x1x1536, y10⟩, ⟨Cert.RglruSRefIdeal.S8x1x1536, y11⟩, ⟨Cert.RglruSRefIdeal.S8x1x1536, y12⟩, ⟨Cert.RglruSRefIdeal.S8x1x1536, y13⟩, ⟨Cert.RglruSRefIdeal.S8x1x1536, y14⟩, ⟨Cert.RglruSRefIdeal.S8x1x1536, y15⟩] hc j = y10 (ix3 t (0 : Fin 1) D) := by
  refine concatenate_apply_piece 1 _ _ j 10 (by exact (by decide : 10 < 16)) Cert.RglruSRefIdeal.S8x1x1536 y10 rfl rfl 10 rfl (ix3 t (0 : Fin 1) D) ?_ ?_
  · intro b hb
    match b with
    | ⟨0, _⟩ => exact h0.symm
    | ⟨1, _⟩ => exact absurd rfl hb
    | ⟨2, _⟩ => exact h2.symm
  · show 10 + 0 = (j 1).val
    omega

set_option maxHeartbeats 2000000 in
theorem stack11 (y0 y1 y2 y3 y4 y5 y6 y7 y8 y9 y10 y11 y12 y13 y14 y15 : FVec Ideal Cert.RglruSRefIdeal.S8x1x1536 .f32) (hc : Shape.Concatenates [Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536] Cert.RglruSRefIdeal.S8x16x1536 1) (t : Fin 8) (D : Fin 1536) (j : Cert.RglruSRefIdeal.S8x16x1536.Idx) (h0 : (j 0).val = t.val) (h1 : (j 1).val = 11) (h2 : (j 2).val = D.val) :
    concatenate Cert.RglruSRefIdeal.S8x16x1536 1 [⟨Cert.RglruSRefIdeal.S8x1x1536, y0⟩, ⟨Cert.RglruSRefIdeal.S8x1x1536, y1⟩, ⟨Cert.RglruSRefIdeal.S8x1x1536, y2⟩, ⟨Cert.RglruSRefIdeal.S8x1x1536, y3⟩, ⟨Cert.RglruSRefIdeal.S8x1x1536, y4⟩, ⟨Cert.RglruSRefIdeal.S8x1x1536, y5⟩, ⟨Cert.RglruSRefIdeal.S8x1x1536, y6⟩, ⟨Cert.RglruSRefIdeal.S8x1x1536, y7⟩, ⟨Cert.RglruSRefIdeal.S8x1x1536, y8⟩, ⟨Cert.RglruSRefIdeal.S8x1x1536, y9⟩, ⟨Cert.RglruSRefIdeal.S8x1x1536, y10⟩, ⟨Cert.RglruSRefIdeal.S8x1x1536, y11⟩, ⟨Cert.RglruSRefIdeal.S8x1x1536, y12⟩, ⟨Cert.RglruSRefIdeal.S8x1x1536, y13⟩, ⟨Cert.RglruSRefIdeal.S8x1x1536, y14⟩, ⟨Cert.RglruSRefIdeal.S8x1x1536, y15⟩] hc j = y11 (ix3 t (0 : Fin 1) D) := by
  refine concatenate_apply_piece 1 _ _ j 11 (by exact (by decide : 11 < 16)) Cert.RglruSRefIdeal.S8x1x1536 y11 rfl rfl 11 rfl (ix3 t (0 : Fin 1) D) ?_ ?_
  · intro b hb
    match b with
    | ⟨0, _⟩ => exact h0.symm
    | ⟨1, _⟩ => exact absurd rfl hb
    | ⟨2, _⟩ => exact h2.symm
  · show 11 + 0 = (j 1).val
    omega

set_option maxHeartbeats 2000000 in
theorem stack12 (y0 y1 y2 y3 y4 y5 y6 y7 y8 y9 y10 y11 y12 y13 y14 y15 : FVec Ideal Cert.RglruSRefIdeal.S8x1x1536 .f32) (hc : Shape.Concatenates [Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536] Cert.RglruSRefIdeal.S8x16x1536 1) (t : Fin 8) (D : Fin 1536) (j : Cert.RglruSRefIdeal.S8x16x1536.Idx) (h0 : (j 0).val = t.val) (h1 : (j 1).val = 12) (h2 : (j 2).val = D.val) :
    concatenate Cert.RglruSRefIdeal.S8x16x1536 1 [⟨Cert.RglruSRefIdeal.S8x1x1536, y0⟩, ⟨Cert.RglruSRefIdeal.S8x1x1536, y1⟩, ⟨Cert.RglruSRefIdeal.S8x1x1536, y2⟩, ⟨Cert.RglruSRefIdeal.S8x1x1536, y3⟩, ⟨Cert.RglruSRefIdeal.S8x1x1536, y4⟩, ⟨Cert.RglruSRefIdeal.S8x1x1536, y5⟩, ⟨Cert.RglruSRefIdeal.S8x1x1536, y6⟩, ⟨Cert.RglruSRefIdeal.S8x1x1536, y7⟩, ⟨Cert.RglruSRefIdeal.S8x1x1536, y8⟩, ⟨Cert.RglruSRefIdeal.S8x1x1536, y9⟩, ⟨Cert.RglruSRefIdeal.S8x1x1536, y10⟩, ⟨Cert.RglruSRefIdeal.S8x1x1536, y11⟩, ⟨Cert.RglruSRefIdeal.S8x1x1536, y12⟩, ⟨Cert.RglruSRefIdeal.S8x1x1536, y13⟩, ⟨Cert.RglruSRefIdeal.S8x1x1536, y14⟩, ⟨Cert.RglruSRefIdeal.S8x1x1536, y15⟩] hc j = y12 (ix3 t (0 : Fin 1) D) := by
  refine concatenate_apply_piece 1 _ _ j 12 (by exact (by decide : 12 < 16)) Cert.RglruSRefIdeal.S8x1x1536 y12 rfl rfl 12 rfl (ix3 t (0 : Fin 1) D) ?_ ?_
  · intro b hb
    match b with
    | ⟨0, _⟩ => exact h0.symm
    | ⟨1, _⟩ => exact absurd rfl hb
    | ⟨2, _⟩ => exact h2.symm
  · show 12 + 0 = (j 1).val
    omega

set_option maxHeartbeats 2000000 in
theorem stack13 (y0 y1 y2 y3 y4 y5 y6 y7 y8 y9 y10 y11 y12 y13 y14 y15 : FVec Ideal Cert.RglruSRefIdeal.S8x1x1536 .f32) (hc : Shape.Concatenates [Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536] Cert.RglruSRefIdeal.S8x16x1536 1) (t : Fin 8) (D : Fin 1536) (j : Cert.RglruSRefIdeal.S8x16x1536.Idx) (h0 : (j 0).val = t.val) (h1 : (j 1).val = 13) (h2 : (j 2).val = D.val) :
    concatenate Cert.RglruSRefIdeal.S8x16x1536 1 [⟨Cert.RglruSRefIdeal.S8x1x1536, y0⟩, ⟨Cert.RglruSRefIdeal.S8x1x1536, y1⟩, ⟨Cert.RglruSRefIdeal.S8x1x1536, y2⟩, ⟨Cert.RglruSRefIdeal.S8x1x1536, y3⟩, ⟨Cert.RglruSRefIdeal.S8x1x1536, y4⟩, ⟨Cert.RglruSRefIdeal.S8x1x1536, y5⟩, ⟨Cert.RglruSRefIdeal.S8x1x1536, y6⟩, ⟨Cert.RglruSRefIdeal.S8x1x1536, y7⟩, ⟨Cert.RglruSRefIdeal.S8x1x1536, y8⟩, ⟨Cert.RglruSRefIdeal.S8x1x1536, y9⟩, ⟨Cert.RglruSRefIdeal.S8x1x1536, y10⟩, ⟨Cert.RglruSRefIdeal.S8x1x1536, y11⟩, ⟨Cert.RglruSRefIdeal.S8x1x1536, y12⟩, ⟨Cert.RglruSRefIdeal.S8x1x1536, y13⟩, ⟨Cert.RglruSRefIdeal.S8x1x1536, y14⟩, ⟨Cert.RglruSRefIdeal.S8x1x1536, y15⟩] hc j = y13 (ix3 t (0 : Fin 1) D) := by
  refine concatenate_apply_piece 1 _ _ j 13 (by exact (by decide : 13 < 16)) Cert.RglruSRefIdeal.S8x1x1536 y13 rfl rfl 13 rfl (ix3 t (0 : Fin 1) D) ?_ ?_
  · intro b hb
    match b with
    | ⟨0, _⟩ => exact h0.symm
    | ⟨1, _⟩ => exact absurd rfl hb
    | ⟨2, _⟩ => exact h2.symm
  · show 13 + 0 = (j 1).val
    omega

set_option maxHeartbeats 2000000 in
theorem stack14 (y0 y1 y2 y3 y4 y5 y6 y7 y8 y9 y10 y11 y12 y13 y14 y15 : FVec Ideal Cert.RglruSRefIdeal.S8x1x1536 .f32) (hc : Shape.Concatenates [Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536] Cert.RglruSRefIdeal.S8x16x1536 1) (t : Fin 8) (D : Fin 1536) (j : Cert.RglruSRefIdeal.S8x16x1536.Idx) (h0 : (j 0).val = t.val) (h1 : (j 1).val = 14) (h2 : (j 2).val = D.val) :
    concatenate Cert.RglruSRefIdeal.S8x16x1536 1 [⟨Cert.RglruSRefIdeal.S8x1x1536, y0⟩, ⟨Cert.RglruSRefIdeal.S8x1x1536, y1⟩, ⟨Cert.RglruSRefIdeal.S8x1x1536, y2⟩, ⟨Cert.RglruSRefIdeal.S8x1x1536, y3⟩, ⟨Cert.RglruSRefIdeal.S8x1x1536, y4⟩, ⟨Cert.RglruSRefIdeal.S8x1x1536, y5⟩, ⟨Cert.RglruSRefIdeal.S8x1x1536, y6⟩, ⟨Cert.RglruSRefIdeal.S8x1x1536, y7⟩, ⟨Cert.RglruSRefIdeal.S8x1x1536, y8⟩, ⟨Cert.RglruSRefIdeal.S8x1x1536, y9⟩, ⟨Cert.RglruSRefIdeal.S8x1x1536, y10⟩, ⟨Cert.RglruSRefIdeal.S8x1x1536, y11⟩, ⟨Cert.RglruSRefIdeal.S8x1x1536, y12⟩, ⟨Cert.RglruSRefIdeal.S8x1x1536, y13⟩, ⟨Cert.RglruSRefIdeal.S8x1x1536, y14⟩, ⟨Cert.RglruSRefIdeal.S8x1x1536, y15⟩] hc j = y14 (ix3 t (0 : Fin 1) D) := by
  refine concatenate_apply_piece 1 _ _ j 14 (by exact (by decide : 14 < 16)) Cert.RglruSRefIdeal.S8x1x1536 y14 rfl rfl 14 rfl (ix3 t (0 : Fin 1) D) ?_ ?_
  · intro b hb
    match b with
    | ⟨0, _⟩ => exact h0.symm
    | ⟨1, _⟩ => exact absurd rfl hb
    | ⟨2, _⟩ => exact h2.symm
  · show 14 + 0 = (j 1).val
    omega

set_option maxHeartbeats 2000000 in
theorem stack15 (y0 y1 y2 y3 y4 y5 y6 y7 y8 y9 y10 y11 y12 y13 y14 y15 : FVec Ideal Cert.RglruSRefIdeal.S8x1x1536 .f32) (hc : Shape.Concatenates [Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536, Cert.RglruSRefIdeal.S8x1x1536] Cert.RglruSRefIdeal.S8x16x1536 1) (t : Fin 8) (D : Fin 1536) (j : Cert.RglruSRefIdeal.S8x16x1536.Idx) (h0 : (j 0).val = t.val) (h1 : (j 1).val = 15) (h2 : (j 2).val = D.val) :
    concatenate Cert.RglruSRefIdeal.S8x16x1536 1 [⟨Cert.RglruSRefIdeal.S8x1x1536, y0⟩, ⟨Cert.RglruSRefIdeal.S8x1x1536, y1⟩, ⟨Cert.RglruSRefIdeal.S8x1x1536, y2⟩, ⟨Cert.RglruSRefIdeal.S8x1x1536, y3⟩, ⟨Cert.RglruSRefIdeal.S8x1x1536, y4⟩, ⟨Cert.RglruSRefIdeal.S8x1x1536, y5⟩, ⟨Cert.RglruSRefIdeal.S8x1x1536, y6⟩, ⟨Cert.RglruSRefIdeal.S8x1x1536, y7⟩, ⟨Cert.RglruSRefIdeal.S8x1x1536, y8⟩, ⟨Cert.RglruSRefIdeal.S8x1x1536, y9⟩, ⟨Cert.RglruSRefIdeal.S8x1x1536, y10⟩, ⟨Cert.RglruSRefIdeal.S8x1x1536, y11⟩, ⟨Cert.RglruSRefIdeal.S8x1x1536, y12⟩, ⟨Cert.RglruSRefIdeal.S8x1x1536, y13⟩, ⟨Cert.RglruSRefIdeal.S8x1x1536, y14⟩, ⟨Cert.RglruSRefIdeal.S8x1x1536, y15⟩] hc j = y15 (ix3 t (0 : Fin 1) D) := by
  refine concatenate_apply_piece 1 _ _ j 15 (by exact (by decide : 15 < 16)) Cert.RglruSRefIdeal.S8x1x1536 y15 rfl rfl 15 rfl (ix3 t (0 : Fin 1) D) ?_ ?_
  · intro b hb
    match b with
    | ⟨0, _⟩ => exact h0.symm
    | ⟨1, _⟩ => exact absurd rfl hb
    | ⟨2, _⟩ => exact h2.symm
  · show 15 + 0 = (j 1).val
    omega

/-- The states stacked. -/
theorem ref_stack0 (t : Fin 8) (D : Fin 1536) (j : Cert.RglruSRefIdeal.S8x16x1536.Idx) (h0 : (j 0).val = t.val) (h1 : (j 1).val = 0) (h2 : (j 2).val = D.val) : val_main_v193 (F := Ideal) x0 x1 x2 x3 x4 x5 x6 x7 x8 x9 j = ST x0 x1 x2 x3 x4 x5 x6 x7 x8 x9 t D 0 := by
  unfold val_main_v193
  refine (stack0 _ _ _ _ _ _ _ _ _ _ _ _ _ _ _ _ _ t D j h0 h1 h2).trans ?_
  rw [val_main_v177_apply]
  exact ref_s0 x0 x1 x2 x3 x4 x5 x6 x7 x8 x9 t D _ rfl rfl

theorem ref_stack1 (t : Fin 8) (D : Fin 1536) (j : Cert.RglruSRefIdeal.S8x16x1536.Idx) (h0 : (j 0).val = t.val) (h1 : (j 1).val = 1) (h2 : (j 2).val = D.val) : val_main_v193 (F := Ideal) x0 x1 x2 x3 x4 x5 x6 x7 x8 x9 j = ST x0 x1 x2 x3 x4 x5 x6 x7 x8 x9 t D 1 := by
  unfold val_main_v193
  refine (stack1 _ _ _ _ _ _ _ _ _ _ _ _ _ _ _ _ _ t D j h0 h1 h2).trans ?_
  rw [val_main_v178_apply]
  exact ref_s1 x0 x1 x2 x3 x4 x5 x6 x7 x8 x9 t D _ rfl rfl

theorem ref_stack2 (t : Fin 8) (D : Fin 1536) (j : Cert.RglruSRefIdeal.S8x16x1536.Idx) (h0 : (j 0).val = t.val) (h1 : (j 1).val = 2) (h2 : (j 2).val = D.val) : val_main_v193 (F := Ideal) x0 x1 x2 x3 x4 x5 x6 x7 x8 x9 j = ST x0 x1 x2 x3 x4 x5 x6 x7 x8 x9 t D 2 := by
  unfold val_main_v193
  refine (stack2 _ _ _ _ _ _ _ _ _ _ _ _ _ _ _ _ _ t D j h0 h1 h2).trans ?_
  rw [val_main_v179_apply]
  exact ref_s2 x0 x1 x2 x3 x4 x5 x6 x7 x8 x9 t D _ rfl rfl

theorem ref_stack3 (t : Fin 8) (D : Fin 1536) (j : Cert.RglruSRefIdeal.S8x16x1536.Idx) (h0 : (j 0).val = t.val) (h1 : (j 1).val = 3) (h2 : (j 2).val = D.val) : val_main_v193 (F := Ideal) x0 x1 x2 x3 x4 x5 x6 x7 x8 x9 j = ST x0 x1 x2 x3 x4 x5 x6 x7 x8 x9 t D 3 := by
  unfold val_main_v193
  refine (stack3 _ _ _ _ _ _ _ _ _ _ _ _ _ _ _ _ _ t D j h0 h1 h2).trans ?_
  rw [val_main_v180_apply]
  exact ref_s3 x0 x1 x2 x3 x4 x5 x6 x7 x8 x9 t D _ rfl rfl

theorem ref_stack4 (t : Fin 8) (D : Fin 1536) (j : Cert.RglruSRefIdeal.S8x16x1536.Idx) (h0 : (j 0).val = t.val) (h1 : (j 1).val = 4) (h2 : (j 2).val = D.val) : val_main_v193 (F := Ideal) x0 x1 x2 x3 x4 x5 x6 x7 x8 x9 j = ST x0 x1 x2 x3 x4 x5 x6 x7 x8 x9 t D 4 := by
  unfold val_main_v193
  refine (stack4 _ _ _ _ _ _ _ _ _ _ _ _ _ _ _ _ _ t D j h0 h1 h2).trans ?_
  rw [val_main_v181_apply]
  exact ref_s4 x0 x1 x2 x3 x4 x5 x6 x7 x8 x9 t D _ rfl rfl

theorem ref_stack5 (t : Fin 8) (D : Fin 1536) (j : Cert.RglruSRefIdeal.S8x16x1536.Idx) (h0 : (j 0).val = t.val) (h1 : (j 1).val = 5) (h2 : (j 2).val = D.val) : val_main_v193 (F := Ideal) x0 x1 x2 x3 x4 x5 x6 x7 x8 x9 j = ST x0 x1 x2 x3 x4 x5 x6 x7 x8 x9 t D 5 := by
  unfold val_main_v193
  refine (stack5 _ _ _ _ _ _ _ _ _ _ _ _ _ _ _ _ _ t D j h0 h1 h2).trans ?_
  rw [val_main_v182_apply]
  exact ref_s5 x0 x1 x2 x3 x4 x5 x6 x7 x8 x9 t D _ rfl rfl

theorem ref_stack6 (t : Fin 8) (D : Fin 1536) (j : Cert.RglruSRefIdeal.S8x16x1536.Idx) (h0 : (j 0).val = t.val) (h1 : (j 1).val = 6) (h2 : (j 2).val = D.val) : val_main_v193 (F := Ideal) x0 x1 x2 x3 x4 x5 x6 x7 x8 x9 j = ST x0 x1 x2 x3 x4 x5 x6 x7 x8 x9 t D 6 := by
  unfold val_main_v193
  refine (stack6 _ _ _ _ _ _ _ _ _ _ _ _ _ _ _ _ _ t D j h0 h1 h2).trans ?_
  rw [val_main_v183_apply]
  exact ref_s6 x0 x1 x2 x3 x4 x5 x6 x7 x8 x9 t D _ rfl rfl

theorem ref_stack7 (t : Fin 8) (D : Fin 1536) (j : Cert.RglruSRefIdeal.S8x16x1536.Idx) (h0 : (j 0).val = t.val) (h1 : (j 1).val = 7) (h2 : (j 2).val = D.val) : val_main_v193 (F := Ideal) x0 x1 x2 x3 x4 x5 x6 x7 x8 x9 j = ST x0 x1 x2 x3 x4 x5 x6 x7 x8 x9 t D 7 := by
  unfold val_main_v193
  refine (stack7 _ _ _ _ _ _ _ _ _ _ _ _ _ _ _ _ _ t D j h0 h1 h2).trans ?_
  rw [val_main_v184_apply]
  exact ref_s7 x0 x1 x2 x3 x4 x5 x6 x7 x8 x9 t D _ rfl rfl

theorem ref_stack8 (t : Fin 8) (D : Fin 1536) (j : Cert.RglruSRefIdeal.S8x16x1536.Idx) (h0 : (j 0).val = t.val) (h1 : (j 1).val = 8) (h2 : (j 2).val = D.val) : val_main_v193 (F := Ideal) x0 x1 x2 x3 x4 x5 x6 x7 x8 x9 j = ST x0 x1 x2 x3 x4 x5 x6 x7 x8 x9 t D 8 := by
  unfold val_main_v193
  refine (stack8 _ _ _ _ _ _ _ _ _ _ _ _ _ _ _ _ _ t D j h0 h1 h2).trans ?_
  rw [val_main_v185_apply]
  exact ref_s8 x0 x1 x2 x3 x4 x5 x6 x7 x8 x9 t D _ rfl rfl

theorem ref_stack9 (t : Fin 8) (D : Fin 1536) (j : Cert.RglruSRefIdeal.S8x16x1536.Idx) (h0 : (j 0).val = t.val) (h1 : (j 1).val = 9) (h2 : (j 2).val = D.val) : val_main_v193 (F := Ideal) x0 x1 x2 x3 x4 x5 x6 x7 x8 x9 j = ST x0 x1 x2 x3 x4 x5 x6 x7 x8 x9 t D 9 := by
  unfold val_main_v193
  refine (stack9 _ _ _ _ _ _ _ _ _ _ _ _ _ _ _ _ _ t D j h0 h1 h2).trans ?_
  rw [val_main_v186_apply]
  exact ref_s9 x0 x1 x2 x3 x4 x5 x6 x7 x8 x9 t D _ rfl rfl

theorem ref_stack10 (t : Fin 8) (D : Fin 1536) (j : Cert.RglruSRefIdeal.S8x16x1536.Idx) (h0 : (j 0).val = t.val) (h1 : (j 1).val = 10) (h2 : (j 2).val = D.val) : val_main_v193 (F := Ideal) x0 x1 x2 x3 x4 x5 x6 x7 x8 x9 j = ST x0 x1 x2 x3 x4 x5 x6 x7 x8 x9 t D 10 := by
  unfold val_main_v193
  refine (stack10 _ _ _ _ _ _ _ _ _ _ _ _ _ _ _ _ _ t D j h0 h1 h2).trans ?_
  rw [val_main_v187_apply]
  exact ref_s10 x0 x1 x2 x3 x4 x5 x6 x7 x8 x9 t D _ rfl rfl

theorem ref_stack11 (t : Fin 8) (D : Fin 1536) (j : Cert.RglruSRefIdeal.S8x16x1536.Idx) (h0 : (j 0).val = t.val) (h1 : (j 1).val = 11) (h2 : (j 2).val = D.val) : val_main_v193 (F := Ideal) x0 x1 x2 x3 x4 x5 x6 x7 x8 x9 j = ST x0 x1 x2 x3 x4 x5 x6 x7 x8 x9 t D 11 := by
  unfold val_main_v193
  refine (stack11 _ _ _ _ _ _ _ _ _ _ _ _ _ _ _ _ _ t D j h0 h1 h2).trans ?_
  rw [val_main_v188_apply]
  exact ref_s11 x0 x1 x2 x3 x4 x5 x6 x7 x8 x9 t D _ rfl rfl

theorem ref_stack12 (t : Fin 8) (D : Fin 1536) (j : Cert.RglruSRefIdeal.S8x16x1536.Idx) (h0 : (j 0).val = t.val) (h1 : (j 1).val = 12) (h2 : (j 2).val = D.val) : val_main_v193 (F := Ideal) x0 x1 x2 x3 x4 x5 x6 x7 x8 x9 j = ST x0 x1 x2 x3 x4 x5 x6 x7 x8 x9 t D 12 := by
  unfold val_main_v193
  refine (stack12 _ _ _ _ _ _ _ _ _ _ _ _ _ _ _ _ _ t D j h0 h1 h2).trans ?_
  rw [val_main_v189_apply]
  exact ref_s12 x0 x1 x2 x3 x4 x5 x6 x7 x8 x9 t D _ rfl rfl

theorem ref_stack13 (t : Fin 8) (D : Fin 1536) (j : Cert.RglruSRefIdeal.S8x16x1536.Idx) (h0 : (j 0).val = t.val) (h1 : (j 1).val = 13) (h2 : (j 2).val = D.val) : val_main_v193 (F := Ideal) x0 x1 x2 x3 x4 x5 x6 x7 x8 x9 j = ST x0 x1 x2 x3 x4 x5 x6 x7 x8 x9 t D 13 := by
  unfold val_main_v193
  refine (stack13 _ _ _ _ _ _ _ _ _ _ _ _ _ _ _ _ _ t D j h0 h1 h2).trans ?_
  rw [val_main_v190_apply]
  exact ref_s13 x0 x1 x2 x3 x4 x5 x6 x7 x8 x9 t D _ rfl rfl

theorem ref_stack14 (t : Fin 8) (D : Fin 1536) (j : Cert.RglruSRefIdeal.S8x16x1536.Idx) (h0 : (j 0).val = t.val) (h1 : (j 1).val = 14) (h2 : (j 2).val = D.val) : val_main_v193 (F := Ideal) x0 x1 x2 x3 x4 x5 x6 x7 x8 x9 j = ST x0 x1 x2 x3 x4 x5 x6 x7 x8 x9 t D 14 := by
  unfold val_main_v193
  refine (stack14 _ _ _ _ _ _ _ _ _ _ _ _ _ _ _ _ _ t D j h0 h1 h2).trans ?_
  rw [val_main_v191_apply]
  exact ref_s14 x0 x1 x2 x3 x4 x5 x6 x7 x8 x9 t D _ rfl rfl

theorem ref_stack15 (t : Fin 8) (D : Fin 1536) (j : Cert.RglruSRefIdeal.S8x16x1536.Idx) (h0 : (j 0).val = t.val) (h1 : (j 1).val = 15) (h2 : (j 2).val = D.val) : val_main_v193 (F := Ideal) x0 x1 x2 x3 x4 x5 x6 x7 x8 x9 j = ST x0 x1 x2 x3 x4 x5 x6 x7 x8 x9 t D 15 := by
  unfold val_main_v193
  refine (stack15 _ _ _ _ _ _ _ _ _ _ _ _ _ _ _ _ _ t D j h0 h1 h2).trans ?_
  rw [val_main_v192_apply]
  exact ref_s15 x0 x1 x2 x3 x4 x5 x6 x7 x8 x9 t D _ rfl rfl

theorem ref_stack (t : Fin 8) (s : Fin 16) (D : Fin 1536) (j : Cert.RglruSRefIdeal.S8x16x1536.Idx) (h0 : (j 0).val = t.val) (h1 : (j 1).val = s.val) (h2 : (j 2).val = D.val) : val_main_v193 (F := Ideal) x0 x1 x2 x3 x4 x5 x6 x7 x8 x9 j = ST x0 x1 x2 x3 x4 x5 x6 x7 x8 x9 t D s.val := by
  obtain ⟨n, hn⟩ := s
  match n, hn, h1 with
  | 0, _, h1 => exact ref_stack0 x0 x1 x2 x3 x4 x5 x6 x7 x8 x9 t D j h0 h1 h2
  | 1, _, h1 => exact ref_stack1 x0 x1 x2 x3 x4 x5 x6 x7 x8 x9 t D j h0 h1 h2
  | 2, _, h1 => exact ref_stack2 x0 x1 x2 x3 x4 x5 x6 x7 x8 x9 t D j h0 h1 h2
  | 3, _, h1 => exact ref_stack3 x0 x1 x2 x3 x4 x5 x6 x7 x8 x9 t D j h0 h1 h2
  | 4, _, h1 => exact ref_stack4 x0 x1 x2 x3 x4 x5 x6 x7 x8 x9 t D j h0 h1 h2
  | 5, _, h1 => exact ref_stack5 x0 x1 x2 x3 x4 x5 x6 x7 x8 x9 t D j h0 h1 h2
  | 6, _, h1 => exact ref_stack6 x0 x1 x2 x3 x4 x5 x6 x7 x8 x9 t D j h0 h1 h2
  | 7, _, h1 => exact ref_stack7 x0 x1 x2 x3 x4 x5 x6 x7 x8 x9 t D j h0 h1 h2
  | 8, _, h1 => exact ref_stack8 x0 x1 x2 x3 x4 x5 x6 x7 x8 x9 t D j h0 h1 h2
  | 9, _, h1 => exact ref_stack9 x0 x1 x2 x3 x4 x5 x6 x7 x8 x9 t D j h0 h1 h2
  | 10, _, h1 => exact ref_stack10 x0 x1 x2 x3 x4 x5 x6 x7 x8 x9 t D j h0 h1 h2
  | 11, _, h1 => exact ref_stack11 x0 x1 x2 x3 x4 x5 x6 x7 x8 x9 t D j h0 h1 h2
  | 12, _, h1 => exact ref_stack12 x0 x1 x2 x3 x4 x5 x6 x7 x8 x9 t D j h0 h1 h2
  | 13, _, h1 => exact ref_stack13 x0 x1 x2 x3 x4 x5 x6 x7 x8 x9 t D j h0 h1 h2
  | 14, _, h1 => exact ref_stack14 x0 x1 x2 x3 x4 x5 x6 x7 x8 x9 t D j h0 h1 h2
  | 15, _, h1 => exact ref_stack15 x0 x1 x2 x3 x4 x5 x6 x7 x8 x9 t D j h0 h1 h2
  | n + 16, hn, _ => exact absurd hn (by omega)

/-- The gate of the output. -/
theorem ref_gelu (t : Fin 8) (s : Fin 16) (D : Fin 1536) (j : Cert.RglruSRefIdeal.S8x16x1536.Idx) (h0 : (j 0).val = t.val) (h1 : (j 1).val = s.val) (h2 : (j 2).val = D.val) : val_main_v208 (F := Ideal) x0 j = gelu (Z x0 t (ix2 s D)) := by
  have e : val_main_v195 (F := Ideal) x0 j = Z x0 t (ix2 s D) := by
    rw [val_main_v195_apply, val_main_v194_apply]
    refine congrArg x0 (funext fun a => ?_)
    have ht := t.isLt; have hs := s.isLt; have hD := D.isLt
    match a with
    | ⟨0, _⟩ => first | exact Fin.ext (by simp only [ix2]; omega) | rfl
    | ⟨1, _⟩ => first | exact Fin.ext (by simp only [ix2]; omega) | rfl
  rw [val_main_v208_apply, val_main_v207_apply, val_main_v206_apply, val_main_cst_8_apply, val_main_v205_apply, val_main_v204_apply, val_main_cst_7_apply, val_main_v203_apply, val_main_v202_apply, val_main_v201_apply, val_main_cst_6_apply, val_main_v200_apply, val_main_v199_apply, val_main_v198_apply, val_main_cst_5_apply, val_main_v197_apply, val_main_v196_apply, e]
  generalize Z x0 t (ix2 s D) = z
  unfold gelu
  rw [mul_comm z (z * z)]
  rfl

/-- The two results of the reference. -/
def REF : FVec Ideal S128x1536 .bf16 := val_main_v211 (F := Ideal) x0 x1 x2 x3 x4 x5 x6 x7 x8 x9
def LAST : FVec Ideal S8x1x1536 .f32 := val_main_v212 (F := Ideal) x0 x1 x2 x3 x4 x5 x6 x7 x8 x9

theorem ref_at (t : Fin 8) (s : Fin 16) (D : Fin 1536) (i : Cert.RglruSRefIdeal.S128x1536.Idx) (h0 : (i 0).val = 16 * t.val + s.val) (h1 : (i 1).val = D.val) :
    REF x0 x1 x2 x3 x4 x5 x6 x7 x8 x9 i = ST x0 x1 x2 x3 x4 x5 x6 x7 x8 x9 t D s.val * gelu (Z x0 t (ix2 s D)) := by
  have ht := t.isLt; have hs := s.isLt; have hD := D.isLt
  unfold REF
  rw [val_main_v211_apply, val_main_v210_apply, val_main_v209_apply]
  rw [ref_stack x0 x1 x2 x3 x4 x5 x6 x7 x8 x9 t s D _ (by simp only []; omega) (by simp only []; omega) (by simp only []; omega), ref_gelu x0 t s D _ (by simp only []; omega) (by simp only []; omega) (by simp only []; omega)]
  rfl

theorem last_ref_at (t : Fin 8) (D : Fin 1536) (i : Cert.RglruSRefIdeal.S8x1x1536.Idx) (h0 : (i 0).val = t.val) (h1 : (i 2).val = D.val) : LAST x0 x1 x2 x3 x4 x5 x6 x7 x8 x9 i = ST x0 x1 x2 x3 x4 x5 x6 x7 x8 x9 t D 15 := by
  unfold LAST
  rw [val_main_v212_apply]
  exact ref_s15 x0 x1 x2 x3 x4 x5 x6 x7 x8 x9 t D _ h0 h1

end Cert.RglruSIdeal.Hand

end
-- ==== Proof.RglruS.lean ====
/-  The recurrence of the sample: what the launch leaves in its two arrays, the gated states of every frame and the state of the
  last, is the reference's. Every grid point computes one of the sample's eight slots from the slot's rows and the state before. -/
module

public import proofs.«01_k».proof.Proof.Gen.RglruSIdeal.Frame
public import proofs.«01_k».proof.Proof.RglruRef
public import Idealize.ShloMosaic.Lib.Claim
public import Idealize.ShloMosaic.Lib.IdealHost
public import Idealize.ShloMosaic.Lib.Pointwise
public import Idealize.ShloMosaic.Lib.Pipeline.ValueKit
public import Idealize.ShloMosaic.Lib.Pipeline.ReadBack

@[expose] public section

set_option maxRecDepth 16384

noncomputable section

namespace Cert.RglruSIdeal.Hand

open Cert.RglruSIdeal Cert.RglruSIdeal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val, 0] ∧ win0_1.index t = ![t.val, 1] ∧ win0_2.index t = ![0, 0] ∧ win0_3.index t = ![0, 0] ∧ win0_4.index t = ![0, 0, 0] ∧ win0_5.index t = ![0, 0]
    ∧ win0_6.index t = ![0, 0, 0] ∧ win0_7.index t = ![0, 0] ∧ win0_8.index t = ![0, 0] ∧ win0_9.index t = ![t.val, 0, 0] ∧ win0_10.index t = ![t.val, 0, 0] ∧ win0_11.index t = ![t.val, 0] ∧ win0_12.index t = ![t.val, 0, 0] :=
  (by decide +kernel : ∀ t : Fin grid0.N, _)

/-- The slot of a grid point. -/
def slot (t : Fin cfg0.N) : Fin 8 := ⟨t.val, t.isLt⟩

set_option maxHeartbeats 4000000 in
/-- The frames before each slot. -/
theorem host0 (c : Dev nD) : V m c main_v0 = shapeCast S8x3x1536 (m ((c : Thread nD τ).loc main_arg1)) shapeCasts_S1x8x3x1536_S8x3x1536 := by
  show StableHlo.after hostOps0 (fun b => m (c, b)) (Proc.devRef .tc main_v0) = _
  simp only [hostOps0]
  after_results_simp
  rfl

set_option maxHeartbeats 4000000 in
/-- The taps. -/
theorem host2 (c : Dev nD) : V m c main_v2 = shapeCast S4x1536 (m ((c : Thread nD τ).loc main_arg3)) shapeCasts_S1x4x1536_S4x1536 := by
  show StableHlo.after hostOps0 (fun b => m (c, b)) (Proc.devRef .tc main_v2) = _
  simp only [hostOps0]
  after_results_simp
  rfl

set_option maxHeartbeats 4000000 in
/-- A gate's matrices. -/
theorem host5 (c : Dev nD) : V m c main_v5 = truncf (F := Ideal) (s := S12x128x128) (φ := .f32) .bf16 (shapeCast S12x128x128 (m ((c : Thread nD τ).loc main_arg5)) shapeCasts_S1x12x128x128_S12x128x128) bitsLt_bf16_f32 := by
  show StableHlo.after hostOps0 (fun b => m (c, b)) (Proc.devRef .tc main_v5) = _
  simp only [hostOps0]
  after_results_simp
  rfl

set_option maxHeartbeats 4000000 in
/-- A gate's matrices. -/
theorem host8 (c : Dev nD) : V m c main_v8 = truncf (F := Ideal) (s := S12x128x128) (φ := .f32) .bf16 (shapeCast S12x128x128 (m ((c : Thread nD τ).loc main_arg7)) shapeCasts_S1x12x128x128_S12x128x128) bitsLt_bf16_f32 := by
  show StableHlo.after hostOps0 (fun b => m (c, b)) (Proc.devRef .tc main_v8) = _
  simp only [hostOps0]
  after_results_simp
  rfl

set_option maxHeartbeats 4000000 in
/-- A row of the parameters. -/
theorem host11 (c : Dev nD) : V m c main_v11 = shapeCast S1x1536 (shapeCast S1536 (m ((c : Thread nD τ).loc main_arg4)) shapeCasts_S1x1536_S1536) shapeCasts_S1536_S1x1536 := by
  show StableHlo.after hostOps0 (fun b => m (c, b)) (Proc.devRef .tc main_v11) = _
  simp only [hostOps0]
  after_results_simp
  rfl

set_option maxHeartbeats 4000000 in
/-- A row of the parameters. -/
theorem host12 (c : Dev nD) : V m c main_v12 = shapeCast S1x1536 (shapeCast S1536 (m ((c : Thread nD τ).loc main_arg6)) shapeCasts_S1x1536_S1536) shapeCasts_S1536_S1x1536 := by
  show StableHlo.after hostOps0 (fun b => m (c, b)) (Proc.devRef .tc main_v12) = _
  simp only [hostOps0]
  after_results_simp
  rfl

set_option maxHeartbeats 4000000 in
/-- A row of the parameters. -/
theorem host13 (c : Dev nD) : V m c main_v13 = shapeCast S1x1536 (shapeCast S1536 (m ((c : Thread nD τ).loc main_arg8)) shapeCasts_S1x1536_S1536) shapeCasts_S1536_S1x1536 := by
  show StableHlo.after hostOps0 (fun b => m (c, b)) (Proc.devRef .tc main_v13) = _
  simp only [hostOps0]
  after_results_simp
  rfl

set_option maxHeartbeats 4000000 in
/-- A row of the parameters. -/
theorem host14 (c : Dev nD) : V m c main_v14 = shapeCast S1x1536 (shapeCast S1536 (m ((c : Thread nD τ).loc main_arg9)) shapeCasts_S1x1536_S1536) shapeCasts_S1536_S1x1536 := by
  show StableHlo.after hostOps0 (fun b => m (c, b)) (Proc.devRef .tc main_v14) = _
  simp only [hostOps0]
  after_results_simp
  rfl

set_option maxHeartbeats 4000000 in
/-- The states before. -/
theorem host15 (c : Dev nD) : V m c main_v15 = shapeCast S8x1x1536 (shapeCast S8x1536 (m ((c : Thread nD τ).loc main_arg2)) shapeCasts_S1x8x1536_S8x1536) shapeCasts_S8x1536_S8x1x1536 := by
  show StableHlo.after hostOps0 (fun b => m (c, b)) (Proc.devRef .tc main_v15) = _
  simp only [hostOps0]
  after_results_simp
  rfl

theorem blk0 (c : Dev nD) (t : Fin cfg0.N) : (iblk m c 0 t : Vec Ideal S16x1536 .f32) = U (m ((c : Thread nD τ).loc main_arg0)) (slot t) := by
  funext j
  show V m c main_arg0 (((cfg0.win 0).blk t).view.emb j) = _
  rw [V_main_arg0]
  unfold U slot
  exact congrArg (a₁ := (((cfg0.win 0).blk t).view.emb j)) (m ((c : Thread nD τ).loc main_arg0)) (by blk_ext [idx t])

theorem blk1 (c : Dev nD) (t : Fin cfg0.N) : (iblk m c 1 t : Vec Ideal S16x1536 .f32) = Z (m ((c : Thread nD τ).loc main_arg0)) (slot t) := by
  funext j
  show V m c main_arg0 (((cfg0.win 1).blk t).view.emb j) = _
  rw [V_main_arg0]
  unfold Z slot
  exact congrArg (a₁ := (((cfg0.win 1).blk t).view.emb j)) (m ((c : Thread nD τ).loc main_arg0)) (by blk_ext [idx t])

theorem host0_at (c : Dev nD) (t : Fin 8) (k : Fin 3) (D : Fin 1536) : V m c main_v0 (ix3 t k D) = (m ((c : Thread nD τ).loc main_arg1)) (ix4 (0 : Fin 1) t k D) := by
  refine (congrFun (host0 m c) _).trans ?_
  exact (shapeCast_apply _ _ (ix3 t k D) (ix4 (0 : Fin 1) t k D) (by rewrite [Shape.rowMajor_val_four, Shape.rowMajor_val_three]; show (((0) * 8 + t.val) * 3 + k.val) * 1536 + D.val = ((t.val) * 3 + k.val) * 1536 + D.val; omega))

theorem host2_at (c : Dev nD) (k : Fin 4) (D : Fin 1536) : V m c main_v2 (ix2 k D) = (m ((c : Thread nD τ).loc main_arg3)) (ix3 (0 : Fin 1) k D) := by
  refine (congrFun (host2 m c) _).trans ?_
  exact (shapeCast_apply _ _ (ix2 k D) (ix3 (0 : Fin 1) k D) (by rewrite [Shape.rowMajor_val_three, Shape.rowMajor_val_two]; show ((0) * 4 + k.val) * 1536 + D.val = (k.val) * 1536 + D.val; omega))

theorem host5_at (c : Dev nD) (e : Fin 12) (j k : Fin 128) : V m c main_v5 (ix3 e j k) = (m ((c : Thread nD τ).loc main_arg5)) (ix4 (0 : Fin 1) e j k) := by
  refine (congrFun (host5 m c) _).trans ?_
  show shapeCast S12x128x128 (m ((c : Thread nD τ).loc main_arg5)) shapeCasts_S1x12x128x128_S12x128x128 (ix3 e j k) = _
  exact (shapeCast_apply _ _ (ix3 e j k) (ix4 (0 : Fin 1) e j k) (by rewrite [Shape.rowMajor_val_four, Shape.rowMajor_val_three]; show (((0) * 12 + e.val) * 128 + j.val) * 128 + k.val = ((e.val) * 128 + j.val) * 128 + k.val; omega))

theorem host8_at (c : Dev nD) (e : Fin 12) (j k : Fin 128) : V m c main_v8 (ix3 e j k) = (m ((c : Thread nD τ).loc main_arg7)) (ix4 (0 : Fin 1) e j k) := by
  refine (congrFun (host8 m c) _).trans ?_
  show shapeCast S12x128x128 (m ((c : Thread nD τ).loc main_arg7)) shapeCasts_S1x12x128x128_S12x128x128 (ix3 e j k) = _
  exact (shapeCast_apply _ _ (ix3 e j k) (ix4 (0 : Fin 1) e j k) (by rewrite [Shape.rowMajor_val_four, Shape.rowMajor_val_three]; show (((0) * 12 + e.val) * 128 + j.val) * 128 + k.val = ((e.val) * 128 + j.val) * 128 + k.val; omega))

theorem host11_at (c : Dev nD) (z : Fin 1) (D : Fin 1536) : V m c main_v11 (ix2 z D) = (m ((c : Thread nD τ).loc main_arg4)) (ix2 z D) := by
  refine (congrFun (host11 m c) _).trans ?_
  rw [shapeCast_shapeCast]

theorem host12_at (c : Dev nD) (z : Fin 1) (D : Fin 1536) : V m c main_v12 (ix2 z D) = (m ((c : Thread nD τ).loc main_arg6)) (ix2 z D) := by
  refine (congrFun (host12 m c) _).trans ?_
  rw [shapeCast_shapeCast]

theorem host13_at (c : Dev nD) (z : Fin 1) (D : Fin 1536) : V m c main_v13 (ix2 z D) = (m ((c : Thread nD τ).loc main_arg8)) (ix2 z D) := by
  refine (congrFun (host13 m c) _).trans ?_
  rw [shapeCast_shapeCast]

theorem host14_at (c : Dev nD) (z : Fin 1) (D : Fin 1536) : V m c main_v14 (ix2 z D) = (m ((c : Thread nD τ).loc main_arg9)) (ix2 z D) := by
  refine (congrFun (host14 m c) _).trans ?_
  rw [shapeCast_shapeCast]

theorem host15_at (c : Dev nD) (t : Fin 8) (D : Fin 1536) : V m c main_v15 (ix3 t (0 : Fin 1) D) = (m ((c : Thread nD τ).loc main_arg2)) (ix3 (0 : Fin 1) t D) := by
  refine (congrFun (host15 m c) _).trans ?_
  refine (shapeCast_apply _ _ (ix3 t (0 : Fin 1) D) (ix2 t D) (by rewrite [Shape.rowMajor_val_two, Shape.rowMajor_val_three]; show (t.val) * 1536 + D.val = ((t.val) * 1 + 0) * 1536 + D.val; omega)).trans ?_
  exact (shapeCast_apply _ _ (ix2 t D) (ix3 (0 : Fin 1) t D) (by rewrite [Shape.rowMajor_val_three, Shape.rowMajor_val_two]; show ((0) * 8 + t.val) * 1536 + D.val = (t.val) * 1536 + D.val; omega))

theorem blk2 (c : Dev nD) (t : Fin cfg0.N) : (iblk m c 2 t : Vec Ideal S4x1536 .f32) = W (m ((c : Thread nD τ).loc main_arg3)) := by
  funext j
  have e : iblk m c 2 t j = V m c main_v2 (ix2 (⟨(j 0).val, (j 0).isLt⟩ : Fin 4) (⟨(j 1).val, (j 1).isLt⟩ : Fin 1536)) := by
    show V m c main_v2 (((cfg0.win 2).blk t).view.emb j) = _
    generalize V m c main_v2 = f
    exact congrArg (a₁ := (((cfg0.win 2).blk t).view.emb j)) f (by blk_ext [idx t])
  refine e.trans ((host2_at m c _ _).trans ?_)
  rfl

theorem blk3 (c : Dev nD) (t : Fin cfg0.N) : (iblk m c 3 t : Vec Ideal S1x1536 .f32) = (m ((c : Thread nD τ).loc main_arg4)) := by
  funext j
  have e : iblk m c 3 t j = V m c main_v11 (ix2 (⟨(j 0).val, (j 0).isLt⟩ : Fin 1) (⟨(j 1).val, (j 1).isLt⟩ : Fin 1536)) := by
    show V m c main_v11 (((cfg0.win 3).blk t).view.emb j) = _
    generalize V m c main_v11 = f
    exact congrArg (a₁ := (((cfg0.win 3).blk t).view.emb j)) f (by blk_ext [idx t])
  refine e.trans ((host11_at m c _ _).trans ?_)
  exact congrArg _ (by blk_ext)

theorem blk4 (c : Dev nD) (t : Fin cfg0.N) : (iblk m c 4 t : Vec Ideal S12x128x128 .bf16) = M (m ((c : Thread nD τ).loc main_arg5)) := by
  funext j
  have e : iblk m c 4 t j = V m c main_v5 (ix3 (⟨(j 0).val, (j 0).isLt⟩ : Fin 12) (⟨(j 1).val, (j 1).isLt⟩ : Fin 128) (⟨(j 2).val, (j 2).isLt⟩ : Fin 128)) := by
    show V m c main_v5 (((cfg0.win 4).blk t).view.emb j) = _
    generalize V m c main_v5 = f
    exact congrArg (a₁ := (((cfg0.win 4).blk t).view.emb j)) f (by blk_ext [idx t])
  refine e.trans ((host5_at m c _ _ _).trans ?_)
  rfl

theorem blk5 (c : Dev nD) (t : Fin cfg0.N) : (iblk m c 5 t : Vec Ideal S1x1536 .f32) = (m ((c : Thread nD τ).loc main_arg6)) := by
  funext j
  have e : iblk m c 5 t j = V m c main_v12 (ix2 (⟨(j 0).val, (j 0).isLt⟩ : Fin 1) (⟨(j 1).val, (j 1).isLt⟩ : Fin 1536)) := by
    show V m c main_v12 (((cfg0.win 5).blk t).view.emb j) = _
    generalize V m c main_v12 = f
    exact congrArg (a₁ := (((cfg0.win 5).blk t).view.emb j)) f (by blk_ext [idx t])
  refine e.trans ((host12_at m c _ _).trans ?_)
  exact congrArg _ (by blk_ext)

theorem blk6 (c : Dev nD) (t : Fin cfg0.N) : (iblk m c 6 t : Vec Ideal S12x128x128 .bf16) = M (m ((c : Thread nD τ).loc main_arg7)) := by
  funext j
  have e : iblk m c 6 t j = V m c main_v8 (ix3 (⟨(j 0).val, (j 0).isLt⟩ : Fin 12) (⟨(j 1).val, (j 1).isLt⟩ : Fin 128) (⟨(j 2).val, (j 2).isLt⟩ : Fin 128)) := by
    show V m c main_v8 (((cfg0.win 6).blk t).view.emb j) = _
    generalize V m c main_v8 = f
    exact congrArg (a₁ := (((cfg0.win 6).blk t).view.emb j)) f (by blk_ext [idx t])
  refine e.trans ((host8_at m c _ _ _).trans ?_)
  rfl

theorem blk7 (c : Dev nD) (t : Fin cfg0.N) : (iblk m c 7 t : Vec Ideal S1x1536 .f32) = (m ((c : Thread nD τ).loc main_arg8)) := by
  funext j
  have e : iblk m c 7 t j = V m c main_v13 (ix2 (⟨(j 0).val, (j 0).isLt⟩ : Fin 1) (⟨(j 1).val, (j 1).isLt⟩ : Fin 1536)) := by
    show V m c main_v13 (((cfg0.win 7).blk t).view.emb j) = _
    generalize V m c main_v13 = f
    exact congrArg (a₁ := (((cfg0.win 7).blk t).view.emb j)) f (by blk_ext [idx t])
  refine e.trans ((host13_at m c _ _).trans ?_)
  exact congrArg _ (by blk_ext)

theorem blk8 (c : Dev nD) (t : Fin cfg0.N) : (iblk m c 8 t : Vec Ideal S1x1536 .f32) = (m ((c : Thread nD τ).loc main_arg9)) := by
  funext j
  have e : iblk m c 8 t j = V m c main_v14 (ix2 (⟨(j 0).val, (j 0).isLt⟩ : Fin 1) (⟨(j 1).val, (j 1).isLt⟩ : Fin 1536)) := by
    show V m c main_v14 (((cfg0.win 8).blk t).view.emb j) = _
    generalize V m c main_v14 = f
    exact congrArg (a₁ := (((cfg0.win 8).blk t).view.emb j)) f (by blk_ext [idx t])
  refine e.trans ((host14_at m c _ _).trans ?_)
  exact congrArg _ (by blk_ext)

theorem blk9 (c : Dev nD) (t : Fin cfg0.N) : (iblk m c 9 t : Vec Ideal S1x3x1536 .f32) = C (m ((c : Thread nD τ).loc main_arg1)) (slot t) := by
  funext j
  have e : iblk m c 9 t j = V m c main_v0 (ix3 (⟨t.val, t.isLt⟩ : Fin 8) (⟨(j 1).val, (j 1).isLt⟩ : Fin 3) (⟨(j 2).val, (j 2).isLt⟩ : Fin 1536)) := by
    show V m c main_v0 (((cfg0.win 9).blk t).view.emb j) = _
    generalize V m c main_v0 = f
    exact congrArg (a₁ := (((cfg0.win 9).blk t).view.emb j)) f (by blk_ext [idx t])
  refine e.trans ((host0_at m c _ _ _).trans ?_)
  rfl

theorem blk10 (c : Dev nD) (t : Fin cfg0.N) : (iblk m c 10 t : Vec Ideal S1x1x1536 .f32) = H (m ((c : Thread nD τ).loc main_arg2)) (slot t) := by
  funext j
  have e : iblk m c 10 t j = V m c main_v15 (ix3 (⟨t.val, t.isLt⟩ : Fin 8) (0 : Fin 1) (⟨(j 2).val, (j 2).isLt⟩ : Fin 1536)) := by
    show V m c main_v15 (((cfg0.win 10).blk t).view.emb j) = _
    generalize V m c main_v15 = f
    exact congrArg (a₁ := (((cfg0.win 10).blk t).view.emb j)) f (by blk_ext [idx t])
  refine e.trans ((host15_at m c _ _).trans ?_)
  rfl

section
variable (c : Dev nD) (i : grid0.Coords) (arg2 : Memref sig .tc .vmem S16x1536 .f32) (harg2 : arg2.IsWhole) (arg3 : Memref sig .tc .vmem S16x1536 .f32) (harg3 : arg3.IsWhole) (arg4 : Memref sig .tc .vmem S4x1536 .f32) (harg4 : arg4.IsWhole) (arg5 : Memref sig .tc .vmem S1x1536 .f32) (harg5 : arg5.IsWhole) (arg6 : Memref sig .tc .vmem S12x128x128 .bf16) (harg6 : arg6.IsWhole) (arg7 : Memref sig .tc .vmem S1x1536 .f32) (harg7 : arg7.IsWhole) (arg8 : Memref sig .tc .vmem S12x128x128 .bf16) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S16x1536 .bf16) (harg13 : arg13.IsWhole) (arg14 : Memref sig .tc .vmem S1x1x1536 .f32) (harg14 : arg14.IsWhole) (arg15 : Memref sig .tc .vmem S24x1536 .f32) (harg15 : arg15.IsWhole) (arg16 : Memref sig .tc .vmem S16x1536 .f32) (harg16 : arg16.IsWhole) (arg17 : Memref sig .tc .vmem S16x1536 .f32) (harg17 : arg17.IsWhole) (arg18 : Memref sig .tc .vmem S1x1536 .f32) (harg18 : arg18.IsWhole) (hc0 : cond0_0 i)
    (x0 : Vec Ideal S16x1536 .f32) (x1 : Vec Ideal S16x1536 .f32) (x2 : Vec Ideal S4x1536 .f32) (x3 : Vec Ideal S1x1536 .f32) (x4 : Vec Ideal S12x128x128 .bf16) (x5 : Vec Ideal S1x1536 .f32) (x6 : Vec Ideal S12x128x128 .bf16) (x7 : Vec Ideal S1x1536 .f32) (x8 : Vec Ideal S1x1536 .f32) (x9 : Vec Ideal S1x3x1536 .f32) (x10 : Vec Ideal S1x1x1536 .f32)
/-- What a point leaves, at an element. -/
theorem out11_at (s : Fin 16) (D : Fin 1536) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 (ix2 s D) = Cert.Rglru.states (decs x0 x2 x3 x4 x5 x8 x9 D) (gais x0 x2 x3 x4 x5 x6 x7 x8 x9 D) (x10 (ix3 (0 : Fin 1) (0 : Fin 1) D)) s.val * gelu (x1 (ix2 s D)) := by
  unfold out0_A_11
  exact frames_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 s D

theorem out12_at (D : Fin 1536) : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 (ix3 (0 : Fin 1) (0 : Fin 1) D) = Cert.Rglru.states (decs x0 x2 x3 x4 x5 x8 x9 D) (gais x0 x2 x3 x4 x5 x6 x7 x8 x9 D) (x10 (ix3 (0 : Fin 1) (0 : Fin 1) D)) 15 := by
  unfold out0_A_12
  exact last_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 D

end

/-- What a point leaves in its frames, from the slot's rows. -/
theorem frames_eq (c : Dev nD) (t : Fin cfg0.N) (s : Fin 16) (D : Fin 1536) : (outsAt0 m c t).1 (ix2 s D) = ST (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (slot t) D s.val * gelu (Z (m ((c : Thread nD τ).loc main_arg0)) (slot t) (ix2 s D)) := by
  unfold outsAt0
  dsimp only
  rw [out11_at, blk0, blk1, blk2, blk3, blk4, blk5, blk6, blk7, blk8, blk9, blk10]

theorem last_eq (c : Dev nD) (t : Fin cfg0.N) (D : Fin 1536) : (outsAt0 m c t).2 (ix3 (0 : Fin 1) (0 : Fin 1) D) = ST (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (slot t) D 15 := by
  unfold outsAt0
  dsimp only
  rw [out12_at, blk0, blk2, blk3, blk4, blk5, blk6, blk7, blk8, blk9, blk10]

/-- The block of frames a point stores, element by element, is the reference's there. -/
theorem point_frames (c : Dev nD) (t : Fin cfg0.N) (y : S16x1536.Idx) : (outsAt0 m c t).1 y = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 11).blk t).view.emb y) := by
  have ey : y = ix2 (⟨(y 0).val, (y 0).isLt⟩ : Fin 16) (⟨(y 1).val, (y 1).isLt⟩ : Fin 1536) := by blk_ext
  refine (congrArg (outsAt0 m c t).1 ey).trans ((frames_eq m c t _ _).trans (ref_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (slot t) ⟨(y 0).val, (y 0).isLt⟩ ⟨(y 1).val, (y 1).isLt⟩ _ ?_ ?_).symm)
  · have h0 : (y 0).val < 16 := (y 0).isLt
    blk_simp [idx t]
    simp only [slot]
    omega
  · blk_simp [idx t]

/-- The state a point stores is the reference's there. -/
theorem point_last (c : Dev nD) (t : Fin cfg0.N) (y : S1x1x1536.Idx) : (outsAt0 m c t).2 y = LAST (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 12).blk t).view.emb y) := by
  have ey : y = ix3 (0 : Fin 1) (0 : Fin 1) (⟨(y 2).val, (y 2).isLt⟩ : Fin 1536) := by blk_ext
  refine (congrArg (outsAt0 m c t).2 ey).trans ((last_eq m c t _).trans (last_ref_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (slot t) ⟨(y 2).val, (y 2).isLt⟩ _ ?_ ?_).symm)
  · have h0 : (y 0).val < 1 := (y 0).isLt
    blk_simp [idx t]
    simp only [slot]
  · blk_simp [idx t]

/-- The launch's first result. -/
theorem final_frames (c : Dev nD) : (dats m 0 c).arrAt 11 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t _ y => ?_
  blk_simp
  rw [after0_11]
  exact point_frames m c t y

/-- The launch's second result. -/
theorem final_last (c : Dev nD) : (dats m 0 c).arrAt 12 (cfgs 0).N = LAST (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 12 _ (by decide +kernel) fun t _ y => ?_
  blk_simp
  rw [after0_12]
  exact point_last m c t y

end Cert.RglruSIdeal.Hand

end
-- ==== Proof.lean ====
/-  All the claims: of every kernel program its frame, at the machine's floats and over the extended reals, the frame of its
  reference, that the idealization changed nothing but the named constants, and that the two arrays are equal. The
  frames of the kernels are generated; what the arrays hold is proved in one module for each program. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Band
public import proofs.«01_k».proof.Proof.Gen.InProj.Frame
public import proofs.«01_k».proof.Proof.Gen.InProjIdeal.Frame
public import proofs.«01_k».proof.Proof.Gen.InProjRefIdeal.Run
public import proofs.«01_k».proof.Proof.InProj
public import proofs.«01_k».proof.Proof.Gen.AttProj.Frame
public import proofs.«01_k».proof.Proof.Gen.AttProjIdeal.Frame
public import proofs.«01_k».proof.Proof.Gen.AttProjRefIdeal.Run
public import proofs.«01_k».proof.Proof.AttProj
public import proofs.«01_k».proof.Proof.Gen.GateProj.Frame
public import proofs.«01_k».proof.Proof.Gen.GateProjIdeal.Frame
public import proofs.«01_k».proof.Proof.Gen.GateProjRefIdeal.Run
public import proofs.«01_k».proof.Proof.GateProj
public import proofs.«01_k».proof.Proof.Gen.MemKv.Frame
public import proofs.«01_k».proof.Proof.Gen.MemKvIdeal.Frame
public import proofs.«01_k».proof.Proof.Gen.MemKvRefIdeal.Run
public import proofs.«01_k».proof.Proof.MemKv
public import proofs.«01_k».proof.Proof.Gen.KvTail.Frame
public import proofs.«01_k».proof.Proof.Gen.KvTailIdeal.Frame
public import proofs.«01_k».proof.Proof.Gen.KvTailRefIdeal.Run
public import proofs.«01_k».proof.Proof.KvTail
public import proofs.«01_k».proof.Proof.Gen.KvNew.Frame
public import proofs.«01_k».proof.Proof.Gen.KvNewIdeal.Frame
public import proofs.«01_k».proof.Proof.Gen.KvNewRefIdeal.Run
public import proofs.«01_k».proof.Proof.KvNew
public import proofs.«01_k».proof.Proof.Gen.InProjS.Frame
public import proofs.«01_k».proof.Proof.Gen.InProjSIdeal.Frame
public import proofs.«01_k».proof.Proof.Gen.InProjSRefIdeal.Run
public import proofs.«01_k».proof.Proof.InProjS
public import proofs.«01_k».proof.Proof.Gen.Merge.Frame
public import proofs.«01_k».proof.Proof.Gen.MergeIdeal.Frame
public import proofs.«01_k».proof.Proof.Gen.MergeRefIdeal.Run
public import proofs.«01_k».proof.Proof.Merge
public import proofs.«01_k».proof.Proof.Gen.MemAttn.Frame
public import proofs.«01_k».proof.Proof.Gen.MemAttnIdeal.Frame
public import proofs.«01_k».proof.Proof.Gen.MemAttnRefIdeal.Run
public import proofs.«01_k».proof.Proof.MemAttn
public import proofs.«01_k».proof.Proof.Gen.CachedAttn.Frame
public import proofs.«01_k».proof.Proof.Gen.CachedAttnIdeal.Frame
public import proofs.«01_k».proof.Proof.Gen.CachedAttnRefIdeal.Run
public import proofs.«01_k».proof.Proof.Gen.OutLn.Frame
public import proofs.«01_k».proof.Proof.Gen.OutLnIdeal.Frame
public import proofs.«01_k».proof.Proof.Gen.OutLnRefIdeal.Run
public import proofs.«01_k».proof.Proof.FfnUpFrame
public import proofs.«01_k».proof.Proof.FfnUpIdealFrame
public import proofs.«01_k».proof.Proof.Gen.FfnUpRefIdeal.Run
public import proofs.«01_k».proof.Proof.FfnUpClaim
public import proofs.«01_k».proof.Proof.FfnDownFrame
public import proofs.«01_k».proof.Proof.FfnDownIdealFrame
public import proofs.«01_k».proof.Proof.Gen.FfnDownRefIdeal.Run
public import proofs.«01_k».proof.Proof.FfnDownClaim
public import proofs.«01_k».proof.Proof.Gen.RglruS.Frame
public import proofs.«01_k».proof.Proof.Gen.RglruSIdeal.Frame
public import proofs.«01_k».proof.Proof.Gen.RglruSRefIdeal.Run
public import proofs.«01_k».proof.Proof.RglruS
public import proofs.«01_k».proof.Proof.Gen.Pre_band_finite
public import proofs.«01_k».proof.Proof.Gen.Pre_mem_finite
public import proofs.«01_k».proof.Proof.Gen.Pre_up_in_range
public import proofs.«01_k».proof.Proof.Gen.Pre_up_routed
public import proofs.«01_k».proof.Proof.Gen.Pre_down_in_range
public import proofs.«01_k».proof.Proof.Gen.Pre_down_routed
public import proofs.«01_k».proof.Proof.Gen.On_used_rows_FfnUpIdeal
public import proofs.«01_k».proof.Proof.Gen.On_used_rows_FfnDownIdeal
public import Idealize.ShloMosaic.Lib.Claim

@[expose] public section

noncomputable section

namespace Cert.Proof

open Idealize.ShloMosaic Idealize.SL.Sem

/-- The reference `Reference` runs, and leaves its arguments as they were; it has no semaphore. -/
theorem frame_Reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

set_option maxRecDepth 16384 in
/-- `Kernel` and its reference end with the same array over the extended reals. -/
theorem algebraic_Kernel : Cert.algebraic_KernelIdeal_ReferenceIdeal_pre_band_finite := by
  pair_intro
  · run_from Cert.KernelIdeal.Gen.unchanged m g & Cert.KernelIdeal.Gen.run_main m g
  · run_from Cert.ReferenceIdeal.Value.run m' g'
    rw [Cert.ReferenceIdeal.Read.val_main_v58_eq, (hagree c).1, (hagree c).2]
    exact (Cert.KernelIdeal.Hand.final m c (hpre c)).symm

/-- The reference `InProjRef` runs, and leaves its arguments as they were; it has no semaphore. -/
theorem frame_InProjRef : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- `InProj` and its reference end with the same array over the extended reals. -/
theorem algebraic_InProj : Cert.algebraic_InProjIdeal_InProjRefIdeal := by
  pair_intro
  · run_from Cert.InProjIdeal.Gen.run_main m g
  · run_from Cert.InProjRefIdeal.Value.run m' g'
    exact (Cert.InProjIdeal.Hand.final m c).symm

/-- The reference `AttProjRef` runs, and leaves its arguments as they were; it has no semaphore. -/
theorem frame_AttProjRef : Cert.quiescent_AttProjRefIdeal := fun m ρ _ =>
  (θ_run Cert.AttProjRefIdeal.defs _ _).mono (fun r h => ⟨fun c => (h c).2, sem_eq_zero_of_no_sems (by decide) r.2⟩)
    (Cert.AttProjRefIdeal.Value.run (F := Ideal) m ρ)

/-- `AttProj` and its reference end with the same array over the extended reals. -/
theorem algebraic_AttProj : Cert.algebraic_AttProjIdeal_AttProjRefIdeal := by
  pair_intro
  · run_from Cert.AttProjIdeal.Gen.run_main m g
  · run_from Cert.AttProjRefIdeal.Value.run m' g'
    exact (Cert.AttProjIdeal.Hand.final m c).symm

/-- The reference `GateProjRef` runs, and leaves its arguments as they were; it has no semaphore. -/
theorem frame_GateProjRef : Cert.quiescent_GateProjRefIdeal := fun m ρ _ =>
  (θ_run Cert.GateProjRefIdeal.defs _ _).mono (fun r h => ⟨fun c => (h c).2, sem_eq_zero_of_no_sems (by decide) r.2⟩)
    (Cert.GateProjRefIdeal.Value.run (F := Ideal) m ρ)

/-- `GateProj` and its reference end with the same array over the extended reals. -/
theorem algebraic_GateProj : Cert.algebraic_GateProjIdeal_GateProjRefIdeal := by
  pair_intro
  · run_from Cert.GateProjIdeal.Gen.run_main m g
  · run_from Cert.GateProjRefIdeal.Value.run m' g'
    exact (Cert.GateProjIdeal.Hand.final m c).symm

/-- The reference `MemKvRef` runs, and leaves its arguments as they were; it has no semaphore. -/
theorem frame_MemKvRef : Cert.quiescent_MemKvRefIdeal := fun m ρ _ =>
  (θ_run Cert.MemKvRefIdeal.defs _ _).mono (fun r h => ⟨fun c => (h c).2, sem_eq_zero_of_no_sems (by decide) r.2⟩)
    (Cert.MemKvRefIdeal.Value.run (F := Ideal) m ρ)

/-- `MemKv` and its reference end with the same array over the extended reals. -/
theorem algebraic_MemKv : Cert.algebraic_MemKvIdeal_MemKvRefIdeal := by
  pair_intro
  · run_from Cert.MemKvIdeal.Gen.run_main m g
  · run_from Cert.MemKvRefIdeal.Value.run m' g'
    exact (Cert.MemKvIdeal.Hand.final m c).symm

/-- The reference `KvTailRef` runs, and leaves its arguments as they were; it has no semaphore. -/
theorem frame_KvTailRef : Cert.quiescent_KvTailRefIdeal := fun m ρ _ =>
  (θ_run Cert.KvTailRefIdeal.defs _ _).mono (fun r h => ⟨fun c => (h c).2, sem_eq_zero_of_no_sems (by decide) r.2⟩)
    (Cert.KvTailRefIdeal.Value.run (F := Ideal) m ρ)

/-- `KvTail` and its reference end with the same array over the extended reals. -/
theorem algebraic_KvTail : Cert.algebraic_KvTailIdeal_KvTailRefIdeal := by
  pair_intro
  · run_from Cert.KvTailIdeal.Gen.run_main m g
  · run_from Cert.KvTailRefIdeal.Value.run m' g'
    exact (Cert.KvTailIdeal.Hand.final m c).symm

/-- The reference `KvNewRef` runs, and leaves its arguments as they were; it has no semaphore. -/
theorem frame_KvNewRef : Cert.quiescent_KvNewRefIdeal := fun m ρ _ =>
  (θ_run Cert.KvNewRefIdeal.defs _ _).mono (fun r h => ⟨fun c => (h c).2, sem_eq_zero_of_no_sems (by decide) r.2⟩)
    (Cert.KvNewRefIdeal.Value.run (F := Ideal) m ρ)

/-- `KvNew` and its reference end with the same array over the extended reals. -/
theorem algebraic_KvNew : Cert.algebraic_KvNewIdeal_KvNewRefIdeal := by
  pair_intro
  · run_from Cert.KvNewIdeal.Gen.run_main m g
  · run_from Cert.KvNewRefIdeal.Value.run m' g'
    exact (Cert.KvNewIdeal.Hand.final m c).symm

/-- The reference `InProjSRef` runs, and leaves its arguments as they were; it has no semaphore. -/
theorem frame_InProjSRef : Cert.quiescent_InProjSRefIdeal := fun m ρ _ =>
  (θ_run Cert.InProjSRefIdeal.defs _ _).mono (fun r h => ⟨fun c => (h c).2, sem_eq_zero_of_no_sems (by decide) r.2⟩)
    (Cert.InProjSRefIdeal.Value.run (F := Ideal) m ρ)

/-- `InProjS` and its reference end with the same array over the extended reals. -/
theorem algebraic_InProjS : Cert.algebraic_InProjSIdeal_InProjSRefIdeal := by
  pair_intro
  · run_from Cert.InProjSIdeal.Gen.run_main m g
  · run_from Cert.InProjSRefIdeal.Value.run m' g'
    exact (Cert.InProjSIdeal.Hand.final m c).symm

/-- The reference `MergeRef` runs, and leaves its arguments as they were; it has no semaphore. -/
theorem frame_MergeRef : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- `Merge` and its reference end with the same array over the extended reals. -/
theorem algebraic_Merge : Cert.algebraic_MergeIdeal_MergeRefIdeal := by
  pair_intro
  · run_from Cert.MergeIdeal.Gen.run_main m g
  · run_from Cert.MergeRefIdeal.Value.run m' g'
    exact (Cert.MergeIdeal.Hand.final m c).symm

/-- The reference `MemAttnRef` runs, and leaves its arguments as they were; it has no semaphore. -/
theorem frame_MemAttnRef : Cert.quiescent_MemAttnRefIdeal := fun m ρ _ =>
  (θ_run Cert.MemAttnRefIdeal.defs _ _).mono (fun r h => ⟨fun c => (h c).2, sem_eq_zero_of_no_sems (by decide) r.2⟩)
    (Cert.MemAttnRefIdeal.Value.run (F := Ideal) m ρ)

/-- `MemAttn` and its reference end with the same array over the extended reals. -/
theorem algebraic_MemAttn : Cert.algebraic_MemAttnIdeal_MemAttnRefIdeal_pre_mem_finite := by
  pair_intro
  · run_from Cert.MemAttnIdeal.Gen.run_main m g
  · run_from Cert.MemAttnRefIdeal.Value.run m' g'
    exact (Cert.MemAttnIdeal.Hand.final m c (hpre c)).symm

/-- The reference `CachedAttnRef` runs, and leaves its arguments as they were; it has no semaphore. -/
theorem frame_CachedAttnRef : Cert.quiescent_CachedAttnRefIdeal := fun m ρ _ =>
  (θ_run Cert.CachedAttnRefIdeal.defs _ _).mono (fun r h => ⟨fun c => (h c).2, sem_eq_zero_of_no_sems (by decide) r.2⟩)
    (Cert.CachedAttnRefIdeal.Value.run (F := Ideal) m ρ)

/-- The reference `OutLnRef` runs, and leaves its arguments as they were; it has no semaphore. -/
theorem frame_OutLnRef : Cert.quiescent_OutLnRefIdeal := fun m ρ _ =>
  (θ_run Cert.OutLnRefIdeal.defs _ _).mono (fun r h => ⟨fun c => (h c).2.2, sem_eq_zero_of_no_sems (by decide) r.2⟩)
    (Cert.OutLnRefIdeal.Value.run (F := Ideal) m ρ)

/-- The reference `RglruSRef` runs, and leaves its arguments as they were; it has no semaphore. -/
theorem frame_RglruSRef : Cert.quiescent_RglruSRefIdeal := fun m ρ _ =>
  (θ_run Cert.RglruSRefIdeal.defs _ _).mono (fun r h => ⟨fun c => (h c).2.2, sem_eq_zero_of_no_sems (by decide) r.2⟩)
    (Cert.RglruSRefIdeal.Value.run (F := Ideal) m ρ)

set_option maxRecDepth 16384 in
/-- `RglruS` and its reference end with the same array over the extended reals. -/
theorem algebraic_RglruS : Cert.algebraic_RglruSIdeal_RglruSRefIdeal := by
  pair_intro
  · run_from Cert.RglruSIdeal.Gen.unchanged m g & Cert.RglruSIdeal.Gen.run_main m g
  · run_from Cert.RglruSRefIdeal.Value.run m' g'
    · rw [Cert.RglruSRefIdeal.Read.val_main_v211_eq]
      show Cert.RglruSRefIdeal.Read.val_main_v211 (F := Ideal) (m' ((c.tc : Thread Cert.RglruSRefIdeal.nD Cert.RglruSRefIdeal.τ).loc Cert.RglruSRefIdeal.main_arg0)) (m' ((c.tc : Thread Cert.RglruSRefIdeal.nD Cert.RglruSRefIdeal.τ).loc Cert.RglruSRefIdeal.main_arg1)) (m' ((c.tc : Thread Cert.RglruSRefIdeal.nD Cert.RglruSRefIdeal.τ).loc Cert.RglruSRefIdeal.main_arg2)) (m' ((c.tc : Thread Cert.RglruSRefIdeal.nD Cert.RglruSRefIdeal.τ).loc Cert.RglruSRefIdeal.main_arg3)) (m' ((c.tc : Thread Cert.RglruSRefIdeal.nD Cert.RglruSRefIdeal.τ).loc Cert.RglruSRefIdeal.main_arg4)) (m' ((c.tc : Thread Cert.RglruSRefIdeal.nD Cert.RglruSRefIdeal.τ).loc Cert.RglruSRefIdeal.main_arg5)) (m' ((c.tc : Thread Cert.RglruSRefIdeal.nD Cert.RglruSRefIdeal.τ).loc Cert.RglruSRefIdeal.main_arg6)) (m' ((c.tc : Thread Cert.RglruSRefIdeal.nD Cert.RglruSRefIdeal.τ).loc Cert.RglruSRefIdeal.main_arg7)) (m' ((c.tc : Thread Cert.RglruSRefIdeal.nD Cert.RglruSRefIdeal.τ).loc Cert.RglruSRefIdeal.main_arg8)) (m' ((c.tc : Thread Cert.RglruSRefIdeal.nD Cert.RglruSRefIdeal.τ).loc Cert.RglruSRefIdeal.main_arg9)) = _
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact (Cert.RglruSIdeal.Hand.final_frames m c).symm
    · rw [Cert.RglruSRefIdeal.Read.val_main_v212_eq]
      show Cert.RglruSRefIdeal.Read.val_main_v212 (F := Ideal) (m' ((c.tc : Thread Cert.RglruSRefIdeal.nD Cert.RglruSRefIdeal.τ).loc Cert.RglruSRefIdeal.main_arg0)) (m' ((c.tc : Thread Cert.RglruSRefIdeal.nD Cert.RglruSRefIdeal.τ).loc Cert.RglruSRefIdeal.main_arg1)) (m' ((c.tc : Thread Cert.RglruSRefIdeal.nD Cert.RglruSRefIdeal.τ).loc Cert.RglruSRefIdeal.main_arg2)) (m' ((c.tc : Thread Cert.RglruSRefIdeal.nD Cert.RglruSRefIdeal.τ).loc Cert.RglruSRefIdeal.main_arg3)) (m' ((c.tc : Thread Cert.RglruSRefIdeal.nD Cert.RglruSRefIdeal.τ).loc Cert.RglruSRefIdeal.main_arg4)) (m' ((c.tc : Thread Cert.RglruSRefIdeal.nD Cert.RglruSRefIdeal.τ).loc Cert.RglruSRefIdeal.main_arg5)) (m' ((c.tc : Thread Cert.RglruSRefIdeal.nD Cert.RglruSRefIdeal.τ).loc Cert.RglruSRefIdeal.main_arg6)) (m' ((c.tc : Thread Cert.RglruSRefIdeal.nD Cert.RglruSRefIdeal.τ).loc Cert.RglruSRefIdeal.main_arg7)) (m' ((c.tc : Thread Cert.RglruSRefIdeal.nD Cert.RglruSRefIdeal.τ).loc Cert.RglruSRefIdeal.main_arg8)) (m' ((c.tc : Thread Cert.RglruSRefIdeal.nD Cert.RglruSRefIdeal.τ).loc Cert.RglruSRefIdeal.main_arg9)) = _
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact (Cert.RglruSIdeal.Hand.final_last m c).symm

/-- Every claim. -/
theorem claim : Cert.Claim :=
  ⟨Cert.Kernel.Gen.facts,
    Cert.KernelIdeal.Gen.facts,
    Cert.ReferenceIdeal.Gen.facts,
    Cert.InProj.Gen.facts,
    Cert.InProjIdeal.Gen.facts,
    Cert.InProjRefIdeal.Gen.facts,
    Cert.AttProj.Gen.facts,
    Cert.AttProjIdeal.Gen.facts,
    Cert.AttProjRefIdeal.Gen.facts,
    Cert.GateProj.Gen.facts,
    Cert.GateProjIdeal.Gen.facts,
    Cert.GateProjRefIdeal.Gen.facts,
    Cert.MemKv.Gen.facts,
    Cert.MemKvIdeal.Gen.facts,
    Cert.MemKvRefIdeal.Gen.facts,
    Cert.KvTail.Gen.facts,
    Cert.KvTailIdeal.Gen.facts,
    Cert.KvTailRefIdeal.Gen.facts,
    Cert.KvNew.Gen.facts,
    Cert.KvNewIdeal.Gen.facts,
    Cert.KvNewRefIdeal.Gen.facts,
    Cert.InProjS.Gen.facts,
    Cert.InProjSIdeal.Gen.facts,
    Cert.InProjSRefIdeal.Gen.facts,
    Cert.Merge.Gen.facts,
    Cert.MergeIdeal.Gen.facts,
    Cert.MergeRefIdeal.Gen.facts,
    Cert.MemAttn.Gen.facts,
    Cert.MemAttnIdeal.Gen.facts,
    Cert.MemAttnRefIdeal.Gen.facts,
    Cert.CachedAttn.Gen.facts,
    Cert.CachedAttnIdeal.Gen.facts,
    Cert.CachedAttnRefIdeal.Gen.facts,
    Cert.OutLn.Gen.facts,
    Cert.OutLnIdeal.Gen.facts,
    Cert.OutLnRefIdeal.Gen.facts,
    Cert.FfnUp.Gen.facts,
    Cert.FfnUpIdeal.Gen.facts,
    Cert.FfnUpRefIdeal.Gen.facts,
    Cert.FfnDown.Gen.facts,
    Cert.FfnDownIdeal.Gen.facts,
    Cert.FfnDownRefIdeal.Gen.facts,
    Cert.RglruS.Gen.facts,
    Cert.RglruSIdeal.Gen.facts,
    Cert.RglruSRefIdeal.Gen.facts,
    Cert.Pre_band_finite.Gen.facts,
    Cert.Pre_mem_finite.Gen.facts,
    Cert.Pre_up_in_range.Gen.facts,
    Cert.Pre_up_routed.Gen.facts,
    Cert.Pre_down_in_range.Gen.facts,
    Cert.Pre_down_routed.Gen.facts,
    Cert.On_used_rows_FfnUpIdeal.Gen.facts,
    Cert.On_used_rows_FfnDownIdeal.Gen.facts,
    fun m ρ _ => Cert.Kernel.Gen.frame m ρ,
    fun m ρ _ => Cert.KernelIdeal.Gen.frame m ρ,
    fun m ρ _ => Cert.KernelIdeal.Gen.frame m ρ,
    frame_Reference,
    fun m ρ _ => frame_Reference m ρ trivial,
    fun m ρ _ => Cert.InProj.Gen.frame m ρ,
    fun m ρ _ => Cert.InProjIdeal.Gen.frame m ρ,
    frame_InProjRef,
    fun m ρ _ => Cert.AttProj.Gen.frame m ρ,
    fun m ρ _ => Cert.AttProjIdeal.Gen.frame m ρ,
    frame_AttProjRef,
    fun m ρ _ => Cert.GateProj.Gen.frame m ρ,
    fun m ρ _ => Cert.GateProjIdeal.Gen.frame m ρ,
    frame_GateProjRef,
    fun m ρ _ => Cert.MemKv.Gen.frame m ρ,
    fun m ρ _ => Cert.MemKvIdeal.Gen.frame m ρ,
    frame_MemKvRef,
    fun m ρ _ => Cert.KvTail.Gen.frame m ρ,
    fun m ρ _ => Cert.KvTailIdeal.Gen.frame m ρ,
    frame_KvTailRef,
    fun m ρ _ => Cert.KvNew.Gen.frame m ρ,
    fun m ρ _ => Cert.KvNewIdeal.Gen.frame m ρ,
    frame_KvNewRef,
    fun m ρ _ => Cert.InProjS.Gen.frame m ρ,
    fun m ρ _ => Cert.InProjSIdeal.Gen.frame m ρ,
    frame_InProjSRef,
    fun m ρ _ => Cert.Merge.Gen.frame m ρ,
    fun m ρ _ => Cert.MergeIdeal.Gen.frame m ρ,
    frame_MergeRef,
    fun m ρ _ => Cert.MemAttn.Gen.frame m ρ,
    fun m ρ _ => Cert.MemAttnIdeal.Gen.frame m ρ,
    fun m ρ _ => Cert.MemAttnIdeal.Gen.frame m ρ,
    frame_MemAttnRef,
    fun m ρ _ => frame_MemAttnRef m ρ trivial,
    fun m ρ _ => Cert.CachedAttn.Gen.frame m ρ,
    fun m ρ _ => Cert.CachedAttnIdeal.Gen.frame m ρ,
    frame_CachedAttnRef,
    fun m ρ _ => Cert.OutLn.Gen.frame m ρ,
    fun m ρ _ => Cert.OutLnIdeal.Gen.frame m ρ,
    frame_OutLnRef,
    Cert.FfnUpClaim.frame,
    Cert.FfnUpClaim.frame_ideal,
    Cert.FfnUpClaim.frame_ideal_routed,
    Cert.FfnUpClaim.frame_ref,
    Cert.FfnUpClaim.frame_ref_routed,
    Cert.FfnDownClaim.frame,
    Cert.FfnDownClaim.frame_ideal,
    Cert.FfnDownClaim.frame_ideal_routed,
    Cert.FfnDownClaim.frame_ref,
    Cert.FfnDownClaim.frame_ref_routed,
    fun m ρ _ => Cert.RglruS.Gen.frame m ρ,
    fun m ρ _ => Cert.RglruSIdeal.Gen.frame m ρ,
    frame_RglruSRef,
    IdealRules.named_const.statement Cert.KernelIdeal.κ "mask" .f32 0xF149F2CA#32 ⊥ rfl,
    algebraic_Kernel,
    trivial,
    algebraic_InProj,
    trivial,
    algebraic_AttProj,
    trivial,
    algebraic_GateProj,
    trivial,
    algebraic_MemKv,
    trivial,
    algebraic_KvTail,
    trivial,
    algebraic_KvNew,
    trivial,
    algebraic_InProjS,
    trivial,
    algebraic_Merge,
    trivial,
    algebraic_MemAttn,
    trivial,
    trivial,
    trivial,
    Cert.FfnUpClaim.algebraic,
    trivial,
    Cert.FfnDownClaim.algebraic,
    trivial,
    algebraic_RglruS⟩

end Cert.Proof

end
